-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelKV (m : (ℓ : Loc Cert.KernelKV.nD Cert.KernelKV.τ Cert.KernelKV.sig) → Buf (Elt Bits) ℓ) : Prop :=
  True

def Pre_KernelKVIdeal (m : (ℓ : Loc Cert.KernelKVIdeal.nD Cert.KernelKVIdeal.τ Cert.KernelKVIdeal.sig) → Buf (Elt Ideal) ℓ) : Prop :=
  True

def Pre_KernelKVIdeal_finite [hPre_finite : Cert.Pre_finite.Facts] (m : (ℓ : Loc Cert.KernelKVIdeal.nD Cert.KernelKVIdeal.τ Cert.KernelKVIdeal.sig) → Buf (Elt Ideal) ℓ) : Prop :=
  ∀ c : Dev Cert.KernelKVIdeal.nD,
    (Cert.Pre_finite.fn (F := Ideal) (m ((c.tc : Thread Cert.KernelKVIdeal.nD Cert.KernelKVIdeal.τ).loc Cert.KernelKVIdeal.main_arg0)) (m ((c.tc : Thread Cert.KernelKVIdeal.nD Cert.KernelKVIdeal.τ).loc Cert.KernelKVIdeal.main_arg1)) (m ((c.tc : Thread Cert.KernelKVIdeal.nD Cert.KernelKVIdeal.τ).loc Cert.KernelKVIdeal.main_arg2)) (m ((c.tc : Thread Cert.KernelKVIdeal.nD Cert.KernelKVIdeal.τ).loc Cert.KernelKVIdeal.main_arg3)) (m ((c.tc : Thread Cert.KernelKVIdeal.nD Cert.KernelKVIdeal.τ).loc Cert.KernelKVIdeal.main_arg4))).1 = (fun _ => 1#1)
    ∧ (Cert.Pre_finite.fn (F := Ideal) (m ((c.tc : Thread Cert.KernelKVIdeal.nD Cert.KernelKVIdeal.τ).loc Cert.KernelKVIdeal.main_arg0)) (m ((c.tc : Thread Cert.KernelKVIdeal.nD Cert.KernelKVIdeal.τ).loc Cert.KernelKVIdeal.main_arg1)) (m ((c.tc : Thread Cert.KernelKVIdeal.nD Cert.KernelKVIdeal.τ).loc Cert.KernelKVIdeal.main_arg2)) (m ((c.tc : Thread Cert.KernelKVIdeal.nD Cert.KernelKVIdeal.τ).loc Cert.KernelKVIdeal.main_arg3)) (m ((c.tc : Thread Cert.KernelKVIdeal.nD Cert.KernelKVIdeal.τ).loc Cert.KernelKVIdeal.main_arg4))).2.1 = (fun _ => 1#1)
    ∧ (Cert.Pre_finite.fn (F := Ideal) (m ((c.tc : Thread Cert.KernelKVIdeal.nD Cert.KernelKVIdeal.τ).loc Cert.KernelKVIdeal.main_arg0)) (m ((c.tc : Thread Cert.KernelKVIdeal.nD Cert.KernelKVIdeal.τ).loc Cert.KernelKVIdeal.main_arg1)) (m ((c.tc : Thread Cert.KernelKVIdeal.nD Cert.KernelKVIdeal.τ).loc Cert.KernelKVIdeal.main_arg2)) (m ((c.tc : Thread Cert.KernelKVIdeal.nD Cert.KernelKVIdeal.τ).loc Cert.KernelKVIdeal.main_arg3)) (m ((c.tc : Thread Cert.KernelKVIdeal.nD Cert.KernelKVIdeal.τ).loc Cert.KernelKVIdeal.main_arg4))).2.2.1 = (fun _ => 1#1)
    ∧ (Cert.Pre_finite.fn (F := Ideal) (m ((c.tc : Thread Cert.KernelKVIdeal.nD Cert.KernelKVIdeal.τ).loc Cert.KernelKVIdeal.main_arg0)) (m ((c.tc : Thread Cert.KernelKVIdeal.nD Cert.KernelKVIdeal.τ).loc Cert.KernelKVIdeal.main_arg1)) (m ((c.tc : Thread Cert.KernelKVIdeal.nD Cert.KernelKVIdeal.τ).loc Cert.KernelKVIdeal.main_arg2)) (m ((c.tc : Thread Cert.KernelKVIdeal.nD Cert.KernelKVIdeal.τ).loc Cert.KernelKVIdeal.main_arg3)) (m ((c.tc : Thread Cert.KernelKVIdeal.nD Cert.KernelKVIdeal.τ).loc Cert.KernelKVIdeal.main_arg4))).2.2.2.1 = (fun _ => 1#1)
    ∧ (Cert.Pre_finite.fn (F := Ideal) (m ((c.tc : Thread Cert.KernelKVIdeal.nD Cert.KernelKVIdeal.τ).loc Cert.KernelKVIdeal.main_arg0)) (m ((c.tc : Thread Cert.KernelKVIdeal.nD Cert.KernelKVIdeal.τ).loc Cert.KernelKVIdeal.main_arg1)) (m ((c.tc : Thread Cert.KernelKVIdeal.nD Cert.KernelKVIdeal.τ).loc Cert.KernelKVIdeal.main_arg2)) (m ((c.tc : Thread Cert.KernelKVIdeal.nD Cert.KernelKVIdeal.τ).loc Cert.KernelKVIdeal.main_arg3)) (m ((c.tc : Thread Cert.KernelKVIdeal.nD Cert.KernelKVIdeal.τ).loc Cert.KernelKVIdeal.main_arg4))).2.2.2.2 = (fun _ => 1#1)

def Pre_ReferenceKVIdeal (m : (ℓ : Loc Cert.ReferenceKVIdeal.nD Cert.ReferenceKVIdeal.τ Cert.ReferenceKVIdeal.sig) → Buf (Elt Ideal) ℓ) : Prop :=
  True

def Pre_ReferenceKVIdeal_finite [hPre_finite : Cert.Pre_finite.Facts] (m : (ℓ : Loc Cert.ReferenceKVIdeal.nD Cert.ReferenceKVIdeal.τ Cert.ReferenceKVIdeal.sig) → Buf (Elt Ideal) ℓ) : Prop :=
  ∀ c : Dev Cert.ReferenceKVIdeal.nD,
    (Cert.Pre_finite.fn (F := Ideal) (m ((c.tc : Thread Cert.ReferenceKVIdeal.nD Cert.ReferenceKVIdeal.τ).loc Cert.ReferenceKVIdeal.main_arg0)) (m ((c.tc : Thread Cert.ReferenceKVIdeal.nD Cert.ReferenceKVIdeal.τ).loc Cert.ReferenceKVIdeal.main_arg1)) (m ((c.tc : Thread Cert.ReferenceKVIdeal.nD Cert.ReferenceKVIdeal.τ).loc Cert.ReferenceKVIdeal.main_arg2)) (m ((c.tc : Thread Cert.ReferenceKVIdeal.nD Cert.ReferenceKVIdeal.τ).loc Cert.ReferenceKVIdeal.main_arg3)) (m ((c.tc : Thread Cert.ReferenceKVIdeal.nD Cert.ReferenceKVIdeal.τ).loc Cert.ReferenceKVIdeal.main_arg4))).1 = (fun _ => 1#1)
    ∧ (Cert.Pre_finite.fn (F := Ideal) (m ((c.tc : Thread Cert.ReferenceKVIdeal.nD Cert.ReferenceKVIdeal.τ).loc Cert.ReferenceKVIdeal.main_arg0)) (m ((c.tc : Thread Cert.ReferenceKVIdeal.nD Cert.ReferenceKVIdeal.τ).loc Cert.ReferenceKVIdeal.main_arg1)) (m ((c.tc : Thread Cert.ReferenceKVIdeal.nD Cert.ReferenceKVIdeal.τ).loc Cert.ReferenceKVIdeal.main_arg2)) (m ((c.tc : Thread Cert.ReferenceKVIdeal.nD Cert.ReferenceKVIdeal.τ).loc Cert.ReferenceKVIdeal.main_arg3)) (m ((c.tc : Thread Cert.ReferenceKVIdeal.nD Cert.ReferenceKVIdeal.τ).loc Cert.ReferenceKVIdeal.main_arg4))).2.1 = (fun _ => 1#1)
    ∧ (Cert.Pre_finite.fn (F := Ideal) (m ((c.tc : Thread Cert.ReferenceKVIdeal.nD Cert.ReferenceKVIdeal.τ).loc Cert.ReferenceKVIdeal.main_arg0)) (m ((c.tc : Thread Cert.ReferenceKVIdeal.nD Cert.ReferenceKVIdeal.τ).loc Cert.ReferenceKVIdeal.main_arg1)) (m ((c.tc : Thread Cert.ReferenceKVIdeal.nD Cert.ReferenceKVIdeal.τ).loc Cert.ReferenceKVIdeal.main_arg2)) (m ((c.tc : Thread Cert.ReferenceKVIdeal.nD Cert.ReferenceKVIdeal.τ).loc Cert.ReferenceKVIdeal.main_arg3)) (m ((c.tc : Thread Cert.ReferenceKVIdeal.nD Cert.ReferenceKVIdeal.τ).loc Cert.ReferenceKVIdeal.main_arg4))).2.2.1 = (fun _ => 1#1)
    ∧ (Cert.Pre_finite.fn (F := Ideal) (m ((c.tc : Thread Cert.ReferenceKVIdeal.nD Cert.ReferenceKVIdeal.τ).loc Cert.ReferenceKVIdeal.main_arg0)) (m ((c.tc : Thread Cert.ReferenceKVIdeal.nD Cert.ReferenceKVIdeal.τ).loc Cert.ReferenceKVIdeal.main_arg1)) (m ((c.tc : Thread Cert.ReferenceKVIdeal.nD Cert.ReferenceKVIdeal.τ).loc Cert.ReferenceKVIdeal.main_arg2)) (m ((c.tc : Thread Cert.ReferenceKVIdeal.nD Cert.ReferenceKVIdeal.τ).loc Cert.ReferenceKVIdeal.main_arg3)) (m ((c.tc : Thread Cert.ReferenceKVIdeal.nD Cert.ReferenceKVIdeal.τ).loc Cert.ReferenceKVIdeal.main_arg4))).2.2.2.1 = (fun _ => 1#1)
    ∧ (Cert.Pre_finite.fn (F := Ideal) (m ((c.tc : Thread Cert.ReferenceKVIdeal.nD Cert.ReferenceKVIdeal.τ).loc Cert.ReferenceKVIdeal.main_arg0)) (m ((c.tc : Thread Cert.ReferenceKVIdeal.nD Cert.ReferenceKVIdeal.τ).loc Cert.ReferenceKVIdeal.main_arg1)) (m ((c.tc : Thread Cert.ReferenceKVIdeal.nD Cert.ReferenceKVIdeal.τ).loc Cert.ReferenceKVIdeal.main_arg2)) (m ((c.tc : Thread Cert.ReferenceKVIdeal.nD Cert.ReferenceKVIdeal.τ).loc Cert.ReferenceKVIdeal.main_arg3)) (m ((c.tc : Thread Cert.ReferenceKVIdeal.nD Cert.ReferenceKVIdeal.τ).loc Cert.ReferenceKVIdeal.main_arg4))).2.2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_u [hPre_finite_u : Cert.Pre_finite_u.Facts] (m : (ℓ : Loc Cert.DactIdeal.nD Cert.DactIdeal.τ Cert.DactIdeal.sig) → Buf (Elt Ideal) ℓ) : Prop :=
  ∀ c : Dev Cert.DactIdeal.nD,
    (Cert.Pre_finite_u.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))) = (fun _ => 1#1)

def Pre_ReferenceDactIdeal (m : (ℓ : Loc Cert.ReferenceDactIdeal.nD Cert.ReferenceDactIdeal.τ Cert.ReferenceDactIdeal.sig) → Buf (Elt Ideal) ℓ) : Prop :=
  True

def Pre_ReferenceDactIdeal_finite_u [hPre_finite_u : Cert.Pre_finite_u.Facts] (m : (ℓ : Loc Cert.ReferenceDactIdeal.nD Cert.ReferenceDactIdeal.τ Cert.ReferenceDactIdeal.sig) → Buf (Elt Ideal) ℓ) : Prop :=
  ∀ c : Dev Cert.ReferenceDactIdeal.nD,
    (Cert.Pre_finite_u.fn (F := Ideal) (m ((c.tc : Thread Cert.ReferenceDactIdeal.nD Cert.ReferenceDactIdeal.τ).loc Cert.ReferenceDactIdeal.main_arg0)) (m ((c.tc : Thread Cert.ReferenceDactIdeal.nD Cert.ReferenceDactIdeal.τ).loc Cert.ReferenceDactIdeal.main_arg1)) (m ((c.tc : Thread Cert.ReferenceDactIdeal.nD Cert.ReferenceDactIdeal.τ).loc Cert.ReferenceDactIdeal.main_arg2))) = (fun _ => 1#1)

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_ReferenceDwdownIdeal (m : (ℓ : Loc Cert.ReferenceDwdownIdeal.nD Cert.ReferenceDwdownIdeal.τ Cert.ReferenceDwdownIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_ReferenceDwupIdeal (m : (ℓ : Loc Cert.ReferenceDwupIdeal.nD Cert.ReferenceDwupIdeal.τ Cert.ReferenceDwupIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_ReferenceDwSquareIdeal (m : (ℓ : Loc Cert.ReferenceDwSquareIdeal.nD Cert.ReferenceDwSquareIdeal.τ Cert.ReferenceDwSquareIdeal.sig) → Buf (Elt Ideal) ℓ) : Prop :=
  True

def Pre_DxSquare (m : (ℓ : Loc Cert.DxSquare.nD Cert.DxSquare.τ Cert.DxSquare.sig) → Buf (Elt Bits) ℓ) : Prop :=
  True

def Pre_DxSquareIdeal (m : (ℓ : Loc Cert.DxSquareIdeal.nD Cert.DxSquareIdeal.τ Cert.DxSquareIdeal.sig) → Buf (Elt Ideal) ℓ) : Prop :=
  True

def Pre_ReferenceDxSquareIdeal (m : (ℓ : Loc Cert.ReferenceDxSquareIdeal.nD Cert.ReferenceDxSquareIdeal.τ Cert.ReferenceDxSquareIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_DhIn (m : (ℓ : Loc Cert.DhIn.nD Cert.DhIn.τ Cert.DhIn.sig) → Buf (Elt Bits) ℓ) : Prop :=
  True

def Pre_DhInIdeal (m : (ℓ : Loc Cert.DhInIdeal.nD Cert.DhInIdeal.τ Cert.DhInIdeal.sig) → Buf (Elt Ideal) ℓ) : Prop :=
  True

def Pre_ReferenceDhInIdeal (m : (ℓ : Loc Cert.ReferenceDhInIdeal.nD Cert.ReferenceDhInIdeal.τ Cert.ReferenceDhInIdeal.sig) → Buf (Elt Ideal) ℓ) : Prop :=
  True

def Pre_DwConv (m : (ℓ : Loc Cert.DwConv.nD Cert.DwConv.τ Cert.DwConv.sig) → Buf (Elt Bits) ℓ) : Prop :=
  True

def Pre_DwConvIdeal (m : (ℓ : Loc Cert.DwConvIdeal.nD Cert.DwConvIdeal.τ Cert.DwConvIdeal.sig) → Buf (Elt Ideal) ℓ) : Prop :=
  True

def Pre_ReferenceDwConvIdeal (m : (ℓ : Loc Cert.ReferenceDwConvIdeal.nD Cert.ReferenceDwConvIdeal.τ Cert.ReferenceDwConvIdeal.sig) → Buf (Elt Ideal) ℓ) : Prop :=
  True

def Pre_DhConv (m : (ℓ : Loc Cert.DhConv.nD Cert.DhConv.τ Cert.DhConv.sig) → Buf (Elt Bits) ℓ) : Prop :=
  True

def Pre_DhConvIdeal (m : (ℓ : Loc Cert.DhConvIdeal.nD Cert.DhConvIdeal.τ Cert.DhConvIdeal.sig) → Buf (Elt Ideal) ℓ) : Prop :=
  True

def Pre_ReferenceDhConvIdeal (m : (ℓ : Loc Cert.ReferenceDhConvIdeal.nD Cert.ReferenceDhConvIdeal.τ Cert.ReferenceDhConvIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_Pw1 (m : (ℓ : Loc Cert.Pw1.nD Cert.Pw1.τ Cert.Pw1.sig) → Buf (Elt Bits) ℓ) : Prop :=
  True

def Pre_Pw1Ideal (m : (ℓ : Loc Cert.Pw1Ideal.nD Cert.Pw1Ideal.τ Cert.Pw1Ideal.sig) → Buf (Elt Ideal) ℓ) : Prop :=
  True

def Pre_ReferencePw1Ideal (m : (ℓ : Loc Cert.ReferencePw1Ideal.nD Cert.ReferencePw1Ideal.τ Cert.ReferencePw1Ideal.sig) → Buf (Elt Ideal) ℓ) : Prop :=
  True

def Pre_Pw2 (m : (ℓ : Loc Cert.Pw2.nD Cert.Pw2.τ Cert.Pw2.sig) → Buf (Elt Bits) ℓ) : Prop :=
  True

def Pre_Pw2Ideal (m : (ℓ : Loc Cert.Pw2Ideal.nD Cert.Pw2Ideal.τ Cert.Pw2Ideal.sig) → Buf (Elt Ideal) ℓ) : Prop :=
  True

def Pre_ReferencePw2Ideal (m : (ℓ : Loc Cert.ReferencePw2Ideal.nD Cert.ReferencePw2Ideal.τ Cert.ReferencePw2Ideal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_ReferenceAttnInIdeal (m : (ℓ : Loc Cert.ReferenceAttnInIdeal.nD Cert.ReferenceAttnInIdeal.τ Cert.ReferenceAttnInIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_ReferenceGateInIdeal (m : (ℓ : Loc Cert.ReferenceGateInIdeal.nD Cert.ReferenceGateInIdeal.τ Cert.ReferenceGateInIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_ReferenceAttnOutIdeal (m : (ℓ : Loc Cert.ReferenceAttnOutIdeal.nD Cert.ReferenceAttnOutIdeal.τ Cert.ReferenceAttnOutIdeal.sig) → Buf (Elt Ideal) ℓ) : Prop :=
  True

def Pre_NormPre (m : (ℓ : Loc Cert.NormPre.nD Cert.NormPre.τ Cert.NormPre.sig) → Buf (Elt Bits) ℓ) : Prop :=
  True

def Pre_NormPreIdeal (m : (ℓ : Loc Cert.NormPreIdeal.nD Cert.NormPreIdeal.τ Cert.NormPreIdeal.sig) → Buf (Elt Ideal) ℓ) : Prop :=
  True

def Pre_ReferenceNormPreIdeal (m : (ℓ : Loc Cert.ReferenceNormPreIdeal.nD Cert.ReferenceNormPreIdeal.τ Cert.ReferenceNormPreIdeal.sig) → Buf (Elt Ideal) ℓ) : Prop :=
  True

def Pre_NormPost (m : (ℓ : Loc Cert.NormPost.nD Cert.NormPost.τ Cert.NormPost.sig) → Buf (Elt Bits) ℓ) : Prop :=
  True

def Pre_NormPostIdeal (m : (ℓ : Loc Cert.NormPostIdeal.nD Cert.NormPostIdeal.τ Cert.NormPostIdeal.sig) → Buf (Elt Ideal) ℓ) : Prop :=
  True

def Pre_ReferenceNormPostIdeal (m : (ℓ : Loc Cert.ReferenceNormPostIdeal.nD Cert.ReferenceNormPostIdeal.τ Cert.ReferenceNormPostIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ReferenceResNormIdeal (m : (ℓ : Loc Cert.ReferenceResNormIdeal.nD Cert.ReferenceResNormIdeal.τ Cert.ReferenceResNormIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_ReferenceNormInIdeal (m : (ℓ : Loc Cert.ReferenceNormInIdeal.nD Cert.ReferenceNormInIdeal.τ Cert.ReferenceNormInIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelKV [hKernelKV : Cert.KernelKV.Facts] : Prop :=
  ∀ (m : (ℓ : Loc Cert.KernelKV.nD Cert.KernelKV.τ Cert.KernelKV.sig) → Buf (Elt Bits) ℓ) (g : Dev Cert.KernelKV.nD → PrngReg), Pre_KernelKV m →
    θ_run (Cert.KernelKV.defs (F := Bits)) (onTc (τ := Cert.KernelKV.τ) (Cert.KernelKV.main (F := Bits))) ⟨m, fun _ => 0, g⟩ (fun r => (∀ c : Dev Cert.KernelKV.nD,
      r.2.mem ((c.tc : Thread Cert.KernelKV.nD Cert.KernelKV.τ).loc Cert.KernelKV.main_arg0) = m ((c.tc : Thread Cert.KernelKV.nD Cert.KernelKV.τ).loc Cert.KernelKV.main_arg0)
      ∧ r.2.mem ((c.tc : Thread Cert.KernelKV.nD Cert.KernelKV.τ).loc Cert.KernelKV.main_arg1) = m ((c.tc : Thread Cert.KernelKV.nD Cert.KernelKV.τ).loc Cert.KernelKV.main_arg1)
      ∧ r.2.mem ((c.tc : Thread Cert.KernelKV.nD Cert.KernelKV.τ).loc Cert.KernelKV.main_arg2) = m ((c.tc : Thread Cert.KernelKV.nD Cert.KernelKV.τ).loc Cert.KernelKV.main_arg2)
      ∧ r.2.mem ((c.tc : Thread Cert.KernelKV.nD Cert.KernelKV.τ).loc Cert.KernelKV.main_arg3) = m ((c.tc : Thread Cert.KernelKV.nD Cert.KernelKV.τ).loc Cert.KernelKV.main_arg3)
      ∧ r.2.mem ((c.tc : Thread Cert.KernelKV.nD Cert.KernelKV.τ).loc Cert.KernelKV.main_arg4) = m ((c.tc : Thread Cert.KernelKV.nD Cert.KernelKV.τ).loc Cert.KernelKV.main_arg4))
      ∧ r.2.sem = fun _ => 0)

def quiescent_KernelKVIdeal [hKernelKVIdeal : Cert.KernelKVIdeal.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1)
      ∧ r.2.mem ((c.tc : Thread Cert.KernelKVIdeal.nD Cert.KernelKVIdeal.τ).loc Cert.KernelKVIdeal.main_arg2) = m ((c.tc : Thread Cert.KernelKVIdeal.nD Cert.KernelKVIdeal.τ).loc Cert.KernelKVIdeal.main_arg2)
      ∧ r.2.mem ((c.tc : Thread Cert.KernelKVIdeal.nD Cert.KernelKVIdeal.τ).loc Cert.KernelKVIdeal.main_arg3) = m ((c.tc : Thread Cert.KernelKVIdeal.nD Cert.KernelKVIdeal.τ).loc Cert.KernelKVIdeal.main_arg3)
      ∧ r.2.mem ((c.tc : Thread Cert.KernelKVIdeal.nD Cert.KernelKVIdeal.τ).loc Cert.KernelKVIdeal.main_arg4) = m ((c.tc : Thread Cert.KernelKVIdeal.nD Cert.KernelKVIdeal.τ).loc Cert.KernelKVIdeal.main_arg4))
      ∧ r.2.sem = fun _ => 0)

def quiescent_KernelKVIdeal_pre_finite [hKernelKVIdeal : Cert.KernelKVIdeal.Facts] [hPre_finite : Cert.Pre_finite.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal_finite m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1)
      ∧ r.2.mem ((c.tc : Thread Cert.KernelKVIdeal.nD Cert.KernelKVIdeal.τ).loc Cert.KernelKVIdeal.main_arg2) = m ((c.tc : Thread Cert.KernelKVIdeal.nD Cert.KernelKVIdeal.τ).loc Cert.KernelKVIdeal.main_arg2)
      ∧ r.2.mem ((c.tc : Thread Cert.KernelKVIdeal.nD Cert.KernelKVIdeal.τ).loc Cert.KernelKVIdeal.main_arg3) = m ((c.tc : Thread Cert.KernelKVIdeal.nD Cert.KernelKVIdeal.τ).loc Cert.KernelKVIdeal.main_arg3)
      ∧ r.2.mem ((c.tc : Thread Cert.KernelKVIdeal.nD Cert.KernelKVIdeal.τ).loc Cert.KernelKVIdeal.main_arg4) = m ((c.tc : Thread Cert.KernelKVIdeal.nD Cert.KernelKVIdeal.τ).loc Cert.KernelKVIdeal.main_arg4))
      ∧ r.2.sem = fun _ => 0)

def quiescent_ReferenceKVIdeal [hReferenceKVIdeal : Cert.ReferenceKVIdeal.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1)
      ∧ r.2.mem ((c.tc : Thread Cert.ReferenceKVIdeal.nD Cert.ReferenceKVIdeal.τ).loc Cert.ReferenceKVIdeal.main_arg2) = m ((c.tc : Thread Cert.ReferenceKVIdeal.nD Cert.ReferenceKVIdeal.τ).loc Cert.ReferenceKVIdeal.main_arg2)
      ∧ r.2.mem ((c.tc : Thread Cert.ReferenceKVIdeal.nD Cert.ReferenceKVIdeal.τ).loc Cert.ReferenceKVIdeal.main_arg3) = m ((c.tc : Thread Cert.ReferenceKVIdeal.nD Cert.ReferenceKVIdeal.τ).loc Cert.ReferenceKVIdeal.main_arg3)
      ∧ r.2.mem ((c.tc : Thread Cert.ReferenceKVIdeal.nD Cert.ReferenceKVIdeal.τ).loc Cert.ReferenceKVIdeal.main_arg4) = m ((c.tc : Thread Cert.ReferenceKVIdeal.nD Cert.ReferenceKVIdeal.τ).loc Cert.ReferenceKVIdeal.main_arg4))
      ∧ r.2.sem = fun _ => 0)

def quiescent_ReferenceKVIdeal_pre_finite [hReferenceKVIdeal : Cert.ReferenceKVIdeal.Facts] [hPre_finite : Cert.Pre_finite.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal_finite m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1)
      ∧ r.2.mem ((c.tc : Thread Cert.ReferenceKVIdeal.nD Cert.ReferenceKVIdeal.τ).loc Cert.ReferenceKVIdeal.main_arg2) = m ((c.tc : Thread Cert.ReferenceKVIdeal.nD Cert.ReferenceKVIdeal.τ).loc Cert.ReferenceKVIdeal.main_arg2)
      ∧ r.2.mem ((c.tc : Thread Cert.ReferenceKVIdeal.nD Cert.ReferenceKVIdeal.τ).loc Cert.ReferenceKVIdeal.main_arg3) = m ((c.tc : Thread Cert.ReferenceKVIdeal.nD Cert.ReferenceKVIdeal.τ).loc Cert.ReferenceKVIdeal.main_arg3)
      ∧ r.2.mem ((c.tc : Thread Cert.ReferenceKVIdeal.nD Cert.ReferenceKVIdeal.τ).loc Cert.ReferenceKVIdeal.main_arg4) = m ((c.tc : Thread Cert.ReferenceKVIdeal.nD Cert.ReferenceKVIdeal.τ).loc Cert.ReferenceKVIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactIdeal_pre_finite_u [hDactIdeal : Cert.DactIdeal.Facts] [hPre_finite_u : Cert.Pre_finite_u.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_u m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1)
      ∧ r.2.mem ((c.tc : Thread Cert.ReferenceDactIdeal.nD Cert.ReferenceDactIdeal.τ).loc Cert.ReferenceDactIdeal.main_arg2) = m ((c.tc : Thread Cert.ReferenceDactIdeal.nD Cert.ReferenceDactIdeal.τ).loc Cert.ReferenceDactIdeal.main_arg2))
      ∧ r.2.sem = fun _ => 0)

def quiescent_ReferenceDactIdeal_pre_finite_u [hReferenceDactIdeal : Cert.ReferenceDactIdeal.Facts] [hPre_finite_u : Cert.Pre_finite_u.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal_finite_u m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1)
      ∧ r.2.mem ((c.tc : Thread Cert.ReferenceDactIdeal.nD Cert.ReferenceDactIdeal.τ).loc Cert.ReferenceDactIdeal.main_arg2) = m ((c.tc : Thread Cert.ReferenceDactIdeal.nD Cert.ReferenceDactIdeal.τ).loc Cert.ReferenceDactIdeal.main_arg2))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1)
      ∧ r.2.mem ((c.tc : Thread Cert.Dwdown.nD Cert.Dwdown.τ).loc Cert.Dwdown.main_arg2) = m ((c.tc : Thread Cert.Dwdown.nD Cert.Dwdown.τ).loc Cert.Dwdown.main_arg2))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1)
      ∧ r.2.mem ((c.tc : Thread Cert.DwdownIdeal.nD Cert.DwdownIdeal.τ).loc Cert.DwdownIdeal.main_arg2) = m ((c.tc : Thread Cert.DwdownIdeal.nD Cert.DwdownIdeal.τ).loc Cert.DwdownIdeal.main_arg2))
      ∧ r.2.sem = fun _ => 0)

def quiescent_ReferenceDwdownIdeal [hReferenceDwdownIdeal : Cert.ReferenceDwdownIdeal.Facts] : Prop :=
  ∀ (m : (ℓ : Loc Cert.ReferenceDwdownIdeal.nD Cert.ReferenceDwdownIdeal.τ Cert.ReferenceDwdownIdeal.sig) → Buf (Elt Ideal) ℓ) (g : Dev Cert.ReferenceDwdownIdeal.nD → PrngReg), Pre_ReferenceDwdownIdeal m →
    θ_run (Cert.ReferenceDwdownIdeal.defs (F := Ideal)) (onTc (τ := Cert.ReferenceDwdownIdeal.τ) (Cert.ReferenceDwdownIdeal.main (F := Ideal))) ⟨m, fun _ => 0, g⟩ (fun r => (∀ c : Dev Cert.ReferenceDwdownIdeal.nD,
      r.2.mem ((c.tc : Thread Cert.ReferenceDwdownIdeal.nD Cert.ReferenceDwdownIdeal.τ).loc Cert.ReferenceDwdownIdeal.main_arg0) = m ((c.tc : Thread Cert.ReferenceDwdownIdeal.nD Cert.ReferenceDwdownIdeal.τ).loc Cert.ReferenceDwdownIdeal.main_arg0)
      ∧ r.2.mem ((c.tc : Thread Cert.ReferenceDwdownIdeal.nD Cert.ReferenceDwdownIdeal.τ).loc Cert.ReferenceDwdownIdeal.main_arg1) = m ((c.tc : Thread Cert.ReferenceDwdownIdeal.nD Cert.ReferenceDwdownIdeal.τ).loc Cert.ReferenceDwdownIdeal.main_arg1)
      ∧ r.2.mem ((c.tc : Thread Cert.ReferenceDwdownIdeal.nD Cert.ReferenceDwdownIdeal.τ).loc Cert.ReferenceDwdownIdeal.main_arg2) = m ((c.tc : Thread Cert.ReferenceDwdownIdeal.nD Cert.ReferenceDwdownIdeal.τ).loc Cert.ReferenceDwdownIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1)
      ∧ r.2.mem ((c.tc : Thread Cert.Dwup.nD Cert.Dwup.τ).loc Cert.Dwup.main_arg2) = m ((c.tc : Thread Cert.Dwup.nD Cert.Dwup.τ).loc Cert.Dwup.main_arg2))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
      ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2))
      ∧ r.2.sem = fun _ => 0)

def quiescent_ReferenceDwupIdeal [hReferenceDwupIdeal : Cert.ReferenceDwupIdeal.Facts] : Prop :=
  ∀ (m : (ℓ : Loc Cert.ReferenceDwupIdeal.nD Cert.ReferenceDwupIdeal.τ Cert.ReferenceDwupIdeal.sig) → Buf (Elt Ideal) ℓ) (g : Dev Cert.ReferenceDwupIdeal.nD → PrngReg), Pre_ReferenceDwupIdeal m →
    θ_run (Cert.ReferenceDwupIdeal.defs (F := Ideal)) (onTc (τ := Cert.ReferenceDwupIdeal.τ) (Cert.ReferenceDwupIdeal.main (F := Ideal))) ⟨m, fun _ => 0, g⟩ (fun r => (∀ c : Dev Cert.ReferenceDwupIdeal.nD,
      r.2.mem ((c.tc : Thread Cert.ReferenceDwupIdeal.nD Cert.ReferenceDwupIdeal.τ).loc Cert.ReferenceDwupIdeal.main_arg0) = m ((c.tc : Thread Cert.ReferenceDwupIdeal.nD Cert.ReferenceDwupIdeal.τ).loc Cert.ReferenceDwupIdeal.main_arg0)
      ∧ r.2.mem ((c.tc : Thread Cert.ReferenceDwupIdeal.nD Cert.ReferenceDwupIdeal.τ).loc Cert.ReferenceDwupIdeal.main_arg1) = m ((c.tc : Thread Cert.ReferenceDwupIdeal.nD Cert.ReferenceDwupIdeal.τ).loc Cert.ReferenceDwupIdeal.main_arg1)
      ∧ r.2.mem ((c.tc : Thread Cert.ReferenceDwupIdeal.nD Cert.ReferenceDwupIdeal.τ).loc Cert.ReferenceDwupIdeal.main_arg2) = m ((c.tc : Thread Cert.ReferenceDwupIdeal.nD Cert.ReferenceDwupIdeal.τ).loc Cert.ReferenceDwupIdeal.main_arg2))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1)
      ∧ r.2.mem ((c.tc : Thread Cert.DwSquare.nD Cert.DwSquare.τ).loc Cert.DwSquare.main_arg2) = m ((c.tc : Thread Cert.DwSquare.nD Cert.DwSquare.τ).loc Cert.DwSquare.main_arg2))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1)
      ∧ r.2.mem ((c.tc : Thread Cert.DwSquareIdeal.nD Cert.DwSquareIdeal.τ).loc Cert.DwSquareIdeal.main_arg2) = m ((c.tc : Thread Cert.DwSquareIdeal.nD Cert.DwSquareIdeal.τ).loc Cert.DwSquareIdeal.main_arg2))
      ∧ r.2.sem = fun _ => 0)

def quiescent_ReferenceDwSquareIdeal [hReferenceDwSquareIdeal : Cert.ReferenceDwSquareIdeal.Facts] : Prop :=
  ∀ (m : (ℓ : Loc Cert.ReferenceDwSquareIdeal.nD Cert.ReferenceDwSquareIdeal.τ Cert.ReferenceDwSquareIdeal.sig) → Buf (Elt Ideal) ℓ) (g : Dev Cert.ReferenceDwSquareIdeal.nD → PrngReg), Pre_ReferenceDwSquareIdeal m →
    θ_run (Cert.ReferenceDwSquareIdeal.defs (F := Ideal)) (onTc (τ := Cert.ReferenceDwSquareIdeal.τ) (Cert.ReferenceDwSquareIdeal.main (F := Ideal))) ⟨m, fun _ => 0, g⟩ (fun r => (∀ c : Dev Cert.ReferenceDwSquareIdeal.nD,
      r.2.mem ((c.tc : Thread Cert.ReferenceDwSquareIdeal.nD Cert.ReferenceDwSquareIdeal.τ).loc Cert.ReferenceDwSquareIdeal.main_arg0) = m ((c.tc : Thread Cert.ReferenceDwSquareIdeal.nD Cert.ReferenceDwSquareIdeal.τ).loc Cert.ReferenceDwSquareIdeal.main_arg0)
      ∧ r.2.mem ((c.tc : Thread Cert.ReferenceDwSquareIdeal.nD Cert.ReferenceDwSquareIdeal.τ).loc Cert.ReferenceDwSquareIdeal.main_arg1) = m ((c.tc : Thread Cert.ReferenceDwSquareIdeal.nD Cert.ReferenceDwSquareIdeal.τ).loc Cert.ReferenceDwSquareIdeal.main_arg1)
      ∧ r.2.mem ((c.tc : Thread Cert.ReferenceDwSquareIdeal.nD Cert.ReferenceDwSquareIdeal.τ).loc Cert.ReferenceDwSquareIdeal.main_arg2) = m ((c.tc : Thread Cert.ReferenceDwSquareIdeal.nD Cert.ReferenceDwSquareIdeal.τ).loc Cert.ReferenceDwSquareIdeal.main_arg2))
      ∧ r.2.sem = fun _ => 0)

def quiescent_DxSquare [hDxSquare : Cert.DxSquare.Facts] : Prop :=
  ∀ (m : (ℓ : Loc Cert.DxSquare.nD Cert.DxSquare.τ Cert.DxSquare.sig) → Buf (Elt Bits) ℓ) (g : Dev Cert.DxSquare.nD → PrngReg), Pre_DxSquare m →
    θ_run (Cert.DxSquare.defs (F := Bits)) (onTc (τ := Cert.DxSquare.τ) (Cert.DxSquare.main (F := Bits))) ⟨m, fun _ => 0, g⟩ (fun r => (∀ c : Dev Cert.DxSquare.nD,
      r.2.mem ((c.tc : Thread Cert.DxSquare.nD Cert.DxSquare.τ).loc Cert.DxSquare.main_arg0) = m ((c.tc : Thread Cert.DxSquare.nD Cert.DxSquare.τ).loc Cert.DxSquare.main_arg0)
      ∧ r.2.mem ((c.tc : Thread Cert.DxSquare.nD Cert.DxSquare.τ).loc Cert.DxSquare.main_arg1) = m ((c.tc : Thread Cert.DxSquare.nD Cert.DxSquare.τ).loc Cert.DxSquare.main_arg1)
      ∧ r.2.mem ((c.tc : Thread Cert.DxSquare.nD Cert.DxSquare.τ).loc Cert.DxSquare.main_arg2) = m ((c.tc : Thread Cert.DxSquare.nD Cert.DxSquare.τ).loc Cert.DxSquare.main_arg2))
      ∧ r.2.sem = fun _ => 0)

def quiescent_DxSquareIdeal [hDxSquareIdeal : Cert.DxSquareIdeal.Facts] : Prop :=
  ∀ (m : (ℓ : Loc Cert.DxSquareIdeal.nD Cert.DxSquareIdeal.τ Cert.DxSquareIdeal.sig) → Buf (Elt Ideal) ℓ) (g : Dev Cert.DxSquareIdeal.nD → PrngReg), Pre_DxSquareIdeal m →
    θ_run (Cert.DxSquareIdeal.defs (F := Ideal)) (onTc (τ := Cert.DxSquareIdeal.τ) (Cert.DxSquareIdeal.main (F := Ideal))) ⟨m, fun _ => 0, g⟩ (fun r => (∀ c : Dev Cert.DxSquareIdeal.nD,
      r.2.mem ((c.tc : Thread Cert.DxSquareIdeal.nD Cert.DxSquareIdeal.τ).loc Cert.DxSquareIdeal.main_arg0) = m ((c.tc : Thread Cert.DxSquareIdeal.nD Cert.DxSquareIdeal.τ).loc Cert.DxSquareIdeal.main_arg0)
      ∧ r.2.mem ((c.tc : Thread Cert.DxSquareIdeal.nD Cert.DxSquareIdeal.τ).loc Cert.DxSquareIdeal.main_arg1) = m ((c.tc : Thread Cert.DxSquareIdeal.nD Cert.DxSquareIdeal.τ).loc Cert.DxSquareIdeal.main_arg1)
      ∧ r.2.mem ((c.tc : Thread Cert.DxSquareIdeal.nD Cert.DxSquareIdeal.τ).loc Cert.DxSquareIdeal.main_arg2) = m ((c.tc : Thread Cert.DxSquareIdeal.nD Cert.DxSquareIdeal.τ).loc Cert.DxSquareIdeal.main_arg2))
      ∧ r.2.sem = fun _ => 0)

def quiescent_ReferenceDxSquareIdeal [hReferenceDxSquareIdeal : Cert.ReferenceDxSquareIdeal.Facts] : Prop :=
  ∀ (m : (ℓ : Loc Cert.ReferenceDxSquareIdeal.nD Cert.ReferenceDxSquareIdeal.τ Cert.ReferenceDxSquareIdeal.sig) → Buf (Elt Ideal) ℓ) (g : Dev Cert.ReferenceDxSquareIdeal.nD → PrngReg), Pre_ReferenceDxSquareIdeal m →
    θ_run (Cert.ReferenceDxSquareIdeal.defs (F := Ideal)) (onTc (τ := Cert.ReferenceDxSquareIdeal.τ) (Cert.ReferenceDxSquareIdeal.main (F := Ideal))) ⟨m, fun _ => 0, g⟩ (fun r => (∀ c : Dev Cert.ReferenceDxSquareIdeal.nD,
      r.2.mem ((c.tc : Thread Cert.ReferenceDxSquareIdeal.nD Cert.ReferenceDxSquareIdeal.τ).loc Cert.ReferenceDxSquareIdeal.main_arg0) = m ((c.tc : Thread Cert.ReferenceDxSquareIdeal.nD Cert.ReferenceDxSquareIdeal.τ).loc Cert.ReferenceDxSquareIdeal.main_arg0)
      ∧ r.2.mem ((c.tc : Thread Cert.ReferenceDxSquareIdeal.nD Cert.ReferenceDxSquareIdeal.τ).loc Cert.ReferenceDxSquareIdeal.main_arg1) = m ((c.tc : Thread Cert.ReferenceDxSquareIdeal.nD Cert.ReferenceDxSquareIdeal.τ).loc Cert.ReferenceDxSquareIdeal.main_arg1)
      ∧ r.2.mem ((c.tc : Thread Cert.ReferenceDxSquareIdeal.nD Cert.ReferenceDxSquareIdeal.τ).loc Cert.ReferenceDxSquareIdeal.main_arg2) = m ((c.tc : Thread Cert.ReferenceDxSquareIdeal.nD Cert.ReferenceDxSquareIdeal.τ).loc Cert.ReferenceDxSquareIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1)
      ∧ r.2.mem ((c.tc : Thread Cert.ReferenceDwInIdeal.nD Cert.ReferenceDwInIdeal.τ).loc Cert.ReferenceDwInIdeal.main_arg2) = m ((c.tc : Thread Cert.ReferenceDwInIdeal.nD Cert.ReferenceDwInIdeal.τ).loc Cert.ReferenceDwInIdeal.main_arg2))
      ∧ r.2.sem = fun _ => 0)

def quiescent_DhIn [hDhIn : Cert.DhIn.Facts] : Prop :=
  ∀ (m : (ℓ : Loc Cert.DhIn.nD Cert.DhIn.τ Cert.DhIn.sig) → Buf (Elt Bits) ℓ) (g : Dev Cert.DhIn.nD → PrngReg), Pre_DhIn m →
    θ_run (Cert.DhIn.defs (F := Bits)) (onTc (τ := Cert.DhIn.τ) (Cert.DhIn.main (F := Bits))) ⟨m, fun _ => 0, g⟩ (fun r => (∀ c : Dev Cert.DhIn.nD,
      r.2.mem ((c.tc : Thread Cert.DhIn.nD Cert.DhIn.τ).loc Cert.DhIn.main_arg0) = m ((c.tc : Thread Cert.DhIn.nD Cert.DhIn.τ).loc Cert.DhIn.main_arg0)
      ∧ r.2.mem ((c.tc : Thread Cert.DhIn.nD Cert.DhIn.τ).loc Cert.DhIn.main_arg1) = m ((c.tc : Thread Cert.DhIn.nD Cert.DhIn.τ).loc Cert.DhIn.main_arg1)
      ∧ r.2.mem ((c.tc : Thread Cert.DhIn.nD Cert.DhIn.τ).loc Cert.DhIn.main_arg2) = m ((c.tc : Thread Cert.DhIn.nD Cert.DhIn.τ).loc Cert.DhIn.main_arg2))
      ∧ r.2.sem = fun _ => 0)

def quiescent_DhInIdeal [hDhInIdeal : Cert.DhInIdeal.Facts] : Prop :=
  ∀ (m : (ℓ : Loc Cert.DhInIdeal.nD Cert.DhInIdeal.τ Cert.DhInIdeal.sig) → Buf (Elt Ideal) ℓ) (g : Dev Cert.DhInIdeal.nD → PrngReg), Pre_DhInIdeal m →
    θ_run (Cert.DhInIdeal.defs (F := Ideal)) (onTc (τ := Cert.DhInIdeal.τ) (Cert.DhInIdeal.main (F := Ideal))) ⟨m, fun _ => 0, g⟩ (fun r => (∀ c : Dev Cert.DhInIdeal.nD,
      r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
      ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1)
      ∧ r.2.mem ((c.tc : Thread Cert.DhInIdeal.nD Cert.DhInIdeal.τ).loc Cert.DhInIdeal.main_arg2) = m ((c.tc : Thread Cert.DhInIdeal.nD Cert.DhInIdeal.τ).loc Cert.DhInIdeal.main_arg2))
      ∧ r.2.sem = fun _ => 0)

def quiescent_ReferenceDhInIdeal [hReferenceDhInIdeal : Cert.ReferenceDhInIdeal.Facts] : Prop :=
  ∀ (m : (ℓ : Loc Cert.ReferenceDhInIdeal.nD Cert.ReferenceDhInIdeal.τ Cert.ReferenceDhInIdeal.sig) → Buf (Elt Ideal) ℓ) (g : Dev Cert.ReferenceDhInIdeal.nD → PrngReg), Pre_ReferenceDhInIdeal m →
    θ_run (Cert.ReferenceDhInIdeal.defs (F := Ideal)) (onTc (τ := Cert.ReferenceDhInIdeal.τ) (Cert.ReferenceDhInIdeal.main (F := Ideal))) ⟨m, fun _ => 0, g⟩ (fun r => (∀ c : Dev Cert.ReferenceDhInIdeal.nD,
      r.2.mem ((c.tc : Thread Cert.ReferenceDhInIdeal.nD Cert.ReferenceDhInIdeal.τ).loc Cert.ReferenceDhInIdeal.main_arg0) = m ((c.tc : Thread Cert.ReferenceDhInIdeal.nD Cert.ReferenceDhInIdeal.τ).loc Cert.ReferenceDhInIdeal.main_arg0)
      ∧ r.2.mem ((c.tc : Thread Cert.ReferenceDhInIdeal.nD Cert.ReferenceDhInIdeal.τ).loc Cert.ReferenceDhInIdeal.main_arg1) = m ((c.tc : Thread Cert.ReferenceDhInIdeal.nD Cert.ReferenceDhInIdeal.τ).loc Cert.ReferenceDhInIdeal.main_arg1)
      ∧ r.2.mem ((c.tc : Thread Cert.ReferenceDhInIdeal.nD Cert.ReferenceDhInIdeal.τ).loc Cert.ReferenceDhInIdeal.main_arg2) = m ((c.tc : Thread Cert.ReferenceDhInIdeal.nD Cert.ReferenceDhInIdeal.τ).loc Cert.ReferenceDhInIdeal.main_arg2))
      ∧ r.2.sem = fun _ => 0)

def quiescent_DwConv [hDwConv : Cert.DwConv.Facts] : Prop :=
  ∀ (m : (ℓ : Loc Cert.DwConv.nD Cert.DwConv.τ Cert.DwConv.sig) → Buf (Elt Bits) ℓ) (g : Dev Cert.DwConv.nD → PrngReg), Pre_DwConv m →
    θ_run (Cert.DwConv.defs (F := Bits)) (onTc (τ := Cert.DwConv.τ) (Cert.DwConv.main (F := Bits))) ⟨m, fun _ => 0, g⟩ (fun r => (∀ c : Dev Cert.DwConv.nD,
      r.2.mem ((c.tc : Thread Cert.DwConv.nD Cert.DwConv.τ).loc Cert.DwConv.main_arg0) = m ((c.tc : Thread Cert.DwConv.nD Cert.DwConv.τ).loc Cert.DwConv.main_arg0)
      ∧ r.2.mem ((c.tc : Thread Cert.DwConv.nD Cert.DwConv.τ).loc Cert.DwConv.main_arg1) = m ((c.tc : Thread Cert.DwConv.nD Cert.DwConv.τ).loc Cert.DwConv.main_arg1)
      ∧ r.2.mem ((c.tc : Thread Cert.DwConv.nD Cert.DwConv.τ).loc Cert.DwConv.main_arg2) = m ((c.tc : Thread Cert.DwConv.nD Cert.DwConv.τ).loc Cert.DwConv.main_arg2))
      ∧ r.2.sem = fun _ => 0)

def quiescent_DwConvIdeal [hDwConvIdeal : Cert.DwConvIdeal.Facts] : Prop :=
  ∀ (m : (ℓ : Loc Cert.DwConvIdeal.nD Cert.DwConvIdeal.τ Cert.DwConvIdeal.sig) → Buf (Elt Ideal) ℓ) (g : Dev Cert.DwConvIdeal.nD → PrngReg), Pre_DwConvIdeal m →
    θ_run (Cert.DwConvIdeal.defs (F := Ideal)) (onTc (τ := Cert.DwConvIdeal.τ) (Cert.DwConvIdeal.main (F := Ideal))) ⟨m, fun _ => 0, g⟩ (fun r => (∀ c : Dev Cert.DwConvIdeal.nD,
      r.2.mem ((c.tc : Thread Cert.DwConvIdeal.nD Cert.DwConvIdeal.τ).loc Cert.DwConvIdeal.main_arg0) = m ((c.tc : Thread Cert.DwConvIdeal.nD Cert.DwConvIdeal.τ).loc Cert.DwConvIdeal.main_arg0)
      ∧ r.2.mem ((c.tc : Thread Cert.DwConvIdeal.nD Cert.DwConvIdeal.τ).loc Cert.DwConvIdeal.main_arg1) = m ((c.tc : Thread Cert.DwConvIdeal.nD Cert.DwConvIdeal.τ).loc Cert.DwConvIdeal.main_arg1)
      ∧ r.2.mem ((c.tc : Thread Cert.DwConvIdeal.nD Cert.DwConvIdeal.τ).loc Cert.DwConvIdeal.main_arg2) = m ((c.tc : Thread Cert.DwConvIdeal.nD Cert.DwConvIdeal.τ).loc Cert.DwConvIdeal.main_arg2))
      ∧ r.2.sem = fun _ => 0)

def quiescent_ReferenceDwConvIdeal [hReferenceDwConvIdeal : Cert.ReferenceDwConvIdeal.Facts] : Prop :=
  ∀ (m : (ℓ : Loc Cert.ReferenceDwConvIdeal.nD Cert.ReferenceDwConvIdeal.τ Cert.ReferenceDwConvIdeal.sig) → Buf (Elt Ideal) ℓ) (g : Dev Cert.ReferenceDwConvIdeal.nD → PrngReg), Pre_ReferenceDwConvIdeal m →
    θ_run (Cert.ReferenceDwConvIdeal.defs (F := Ideal)) (onTc (τ := Cert.ReferenceDwConvIdeal.τ) (Cert.ReferenceDwConvIdeal.main (F := Ideal))) ⟨m, fun _ => 0, g⟩ (fun r => (∀ c : Dev Cert.ReferenceDwConvIdeal.nD,
      r.2.mem ((c.tc : Thread Cert.ReferenceDwConvIdeal.nD Cert.ReferenceDwConvIdeal.τ).loc Cert.ReferenceDwConvIdeal.main_arg0) = m ((c.tc : Thread Cert.ReferenceDwConvIdeal.nD Cert.ReferenceDwConvIdeal.τ).loc Cert.ReferenceDwConvIdeal.main_arg0)
      ∧ r.2.mem ((c.tc : Thread Cert.ReferenceDwConvIdeal.nD Cert.ReferenceDwConvIdeal.τ).loc Cert.ReferenceDwConvIdeal.main_arg1) = m ((c.tc : Thread Cert.ReferenceDwConvIdeal.nD Cert.ReferenceDwConvIdeal.τ).loc Cert.ReferenceDwConvIdeal.main_arg1)
      ∧ r.2.mem ((c.tc : Thread Cert.ReferenceDwConvIdeal.nD Cert.ReferenceDwConvIdeal.τ).loc Cert.ReferenceDwConvIdeal.main_arg2) = m ((c.tc : Thread Cert.ReferenceDwConvIdeal.nD Cert.ReferenceDwConvIdeal.τ).loc Cert.ReferenceDwConvIdeal.main_arg2))
      ∧ r.2.sem = fun _ => 0)

def quiescent_DhConv [hDhConv : Cert.DhConv.Facts] : Prop :=
  ∀ (m : (ℓ : Loc Cert.DhConv.nD Cert.DhConv.τ Cert.DhConv.sig) → Buf (Elt Bits) ℓ) (g : Dev Cert.DhConv.nD → PrngReg), Pre_DhConv m →
    θ_run (Cert.DhConv.defs (F := Bits)) (onTc (τ := Cert.DhConv.τ) (Cert.DhConv.main (F := Bits))) ⟨m, fun _ => 0, g⟩ (fun r => (∀ c : Dev Cert.DhConv.nD,
      r.2.mem ((c.tc : Thread Cert.DhConv.nD Cert.DhConv.τ).loc Cert.DhConv.main_arg0) = m ((c.tc : Thread Cert.DhConv.nD Cert.DhConv.τ).loc Cert.DhConv.main_arg0)
      ∧ r.2.mem ((c.tc : Thread Cert.DhConv.nD Cert.DhConv.τ).loc Cert.DhConv.main_arg1) = m ((c.tc : Thread Cert.DhConv.nD Cert.DhConv.τ).loc Cert.DhConv.main_arg1)
      ∧ r.2.mem ((c.tc : Thread Cert.DhConv.nD Cert.DhConv.τ).loc Cert.DhConv.main_arg2) = m ((c.tc : Thread Cert.DhConv.nD Cert.DhConv.τ).loc Cert.DhConv.main_arg2))
      ∧ r.2.sem = fun _ => 0)

def quiescent_DhConvIdeal [hDhConvIdeal : Cert.DhConvIdeal.Facts] : Prop :=
  ∀ (m : (ℓ : Loc Cert.DhConvIdeal.nD Cert.DhConvIdeal.τ Cert.DhConvIdeal.sig) → Buf (Elt Ideal) ℓ) (g : Dev Cert.DhConvIdeal.nD → PrngReg), Pre_DhConvIdeal m →
    θ_run (Cert.DhConvIdeal.defs (F := Ideal)) (onTc (τ := Cert.DhConvIdeal.τ) (Cert.DhConvIdeal.main (F := Ideal))) ⟨m, fun _ => 0, g⟩ (fun r => (∀ c : Dev Cert.DhConvIdeal.nD,
      r.2.mem ((c.tc : Thread Cert.DhConvIdeal.nD Cert.DhConvIdeal.τ).loc Cert.DhConvIdeal.main_arg0) = m ((c.tc : Thread Cert.DhConvIdeal.nD Cert.DhConvIdeal.τ).loc Cert.DhConvIdeal.main_arg0)
      ∧ r.2.mem ((c.tc : Thread Cert.DhConvIdeal.nD Cert.DhConvIdeal.τ).loc Cert.DhConvIdeal.main_arg1) = m ((c.tc : Thread Cert.DhConvIdeal.nD Cert.DhConvIdeal.τ).loc Cert.DhConvIdeal.main_arg1)
      ∧ r.2.mem ((c.tc : Thread Cert.DhConvIdeal.nD Cert.DhConvIdeal.τ).loc Cert.DhConvIdeal.main_arg2) = m ((c.tc : Thread Cert.DhConvIdeal.nD Cert.DhConvIdeal.τ).loc Cert.DhConvIdeal.main_arg2))
      ∧ r.2.sem = fun _ => 0)

def quiescent_ReferenceDhConvIdeal [hReferenceDhConvIdeal : Cert.ReferenceDhConvIdeal.Facts] : Prop :=
  ∀ (m : (ℓ : Loc Cert.ReferenceDhConvIdeal.nD Cert.ReferenceDhConvIdeal.τ Cert.ReferenceDhConvIdeal.sig) → Buf (Elt Ideal) ℓ) (g : Dev Cert.ReferenceDhConvIdeal.nD → PrngReg), Pre_ReferenceDhConvIdeal m →
    θ_run (Cert.ReferenceDhConvIdeal.defs (F := Ideal)) (onTc (τ := Cert.ReferenceDhConvIdeal.τ) (Cert.ReferenceDhConvIdeal.main (F := Ideal))) ⟨m, fun _ => 0, g⟩ (fun r => (∀ c : Dev Cert.ReferenceDhConvIdeal.nD,
      r.2.mem ((c.tc : Thread Cert.ReferenceDhConvIdeal.nD Cert.ReferenceDhConvIdeal.τ).loc Cert.ReferenceDhConvIdeal.main_arg0) = m ((c.tc : Thread Cert.ReferenceDhConvIdeal.nD Cert.ReferenceDhConvIdeal.τ).loc Cert.ReferenceDhConvIdeal.main_arg0)
      ∧ r.2.mem ((c.tc : Thread Cert.ReferenceDhConvIdeal.nD Cert.ReferenceDhConvIdeal.τ).loc Cert.ReferenceDhConvIdeal.main_arg1) = m ((c.tc : Thread Cert.ReferenceDhConvIdeal.nD Cert.ReferenceDhConvIdeal.τ).loc Cert.ReferenceDhConvIdeal.main_arg1)
      ∧ r.2.mem ((c.tc : Thread Cert.ReferenceDhConvIdeal.nD Cert.ReferenceDhConvIdeal.τ).loc Cert.ReferenceDhConvIdeal.main_arg2) = m ((c.tc : Thread Cert.ReferenceDhConvIdeal.nD Cert.ReferenceDhConvIdeal.τ).loc Cert.ReferenceDhConvIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_Pw1 [hPw1 : Cert.Pw1.Facts] : Prop :=
  ∀ (m : (ℓ : Loc Cert.Pw1.nD Cert.Pw1.τ Cert.Pw1.sig) → Buf (Elt Bits) ℓ) (g : Dev Cert.Pw1.nD → PrngReg), Pre_Pw1 m →
    θ_run (Cert.Pw1.defs (F := Bits)) (onTc (τ := Cert.Pw1.τ) (Cert.Pw1.main (F := Bits))) ⟨m, fun _ => 0, g⟩ (fun r => (∀ c : Dev Cert.Pw1.nD,
      r.2.mem ((c.tc : Thread Cert.Pw1.nD Cert.Pw1.τ).loc Cert.Pw1.main_arg0) = m ((c.tc : Thread Cert.Pw1.nD Cert.Pw1.τ).loc Cert.Pw1.main_arg0)
      ∧ r.2.mem ((c.tc : Thread Cert.Pw1.nD Cert.Pw1.τ).loc Cert.Pw1.main_arg1) = m ((c.tc : Thread Cert.Pw1.nD Cert.Pw1.τ).loc Cert.Pw1.main_arg1)
      ∧ r.2.mem ((c.tc : Thread Cert.Pw1.nD Cert.Pw1.τ).loc Cert.Pw1.main_arg2) = m ((c.tc : Thread Cert.Pw1.nD Cert.Pw1.τ).loc Cert.Pw1.main_arg2))
      ∧ r.2.sem = fun _ => 0)

def quiescent_Pw1Ideal [hPw1Ideal : Cert.Pw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
      ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2))
      ∧ r.2.sem = fun _ => 0)

def quiescent_ReferencePw1Ideal [hReferencePw1Ideal : Cert.ReferencePw1Ideal.Facts] : Prop :=
  ∀ (m : (ℓ : Loc Cert.ReferencePw1Ideal.nD Cert.ReferencePw1Ideal.τ Cert.ReferencePw1Ideal.sig) → Buf (Elt Ideal) ℓ) (g : Dev Cert.ReferencePw1Ideal.nD → PrngReg), Pre_ReferencePw1Ideal m →
    θ_run (Cert.ReferencePw1Ideal.defs (F := Ideal)) (onTc (τ := Cert.ReferencePw1Ideal.τ) (Cert.ReferencePw1Ideal.main (F := Ideal))) ⟨m, fun _ => 0, g⟩ (fun r => (∀ c : Dev Cert.ReferencePw1Ideal.nD,
      r.2.mem ((c.tc : Thread Cert.ReferencePw1Ideal.nD Cert.ReferencePw1Ideal.τ).loc Cert.ReferencePw1Ideal.main_arg0) = m ((c.tc : Thread Cert.ReferencePw1Ideal.nD Cert.ReferencePw1Ideal.τ).loc Cert.ReferencePw1Ideal.main_arg0)
      ∧ r.2.mem ((c.tc : Thread Cert.ReferencePw1Ideal.nD Cert.ReferencePw1Ideal.τ).loc Cert.ReferencePw1Ideal.main_arg1) = m ((c.tc : Thread Cert.ReferencePw1Ideal.nD Cert.ReferencePw1Ideal.τ).loc Cert.ReferencePw1Ideal.main_arg1)
      ∧ r.2.mem ((c.tc : Thread Cert.ReferencePw1Ideal.nD Cert.ReferencePw1Ideal.τ).loc Cert.ReferencePw1Ideal.main_arg2) = m ((c.tc : Thread Cert.ReferencePw1Ideal.nD Cert.ReferencePw1Ideal.τ).loc Cert.ReferencePw1Ideal.main_arg2))
      ∧ r.2.sem = fun _ => 0)

def quiescent_Pw2 [hPw2 : Cert.Pw2.Facts] : Prop :=
  ∀ (m : (ℓ : Loc Cert.Pw2.nD Cert.Pw2.τ Cert.Pw2.sig) → Buf (Elt Bits) ℓ) (g : Dev Cert.Pw2.nD → PrngReg), Pre_Pw2 m →
    θ_run (Cert.Pw2.defs (F := Bits)) (onTc (τ := Cert.Pw2.τ) (Cert.Pw2.main (F := Bits))) ⟨m, fun _ => 0, g⟩ (fun r => (∀ c : Dev Cert.Pw2.nD,
      r.2.mem ((c.tc : Thread Cert.Pw2.nD Cert.Pw2.τ).loc Cert.Pw2.main_arg0) = m ((c.tc : Thread Cert.Pw2.nD Cert.Pw2.τ).loc Cert.Pw2.main_arg0)
      ∧ r.2.mem ((c.tc : Thread Cert.Pw2.nD Cert.Pw2.τ).loc Cert.Pw2.main_arg1) = m ((c.tc : Thread Cert.Pw2.nD Cert.Pw2.τ).loc Cert.Pw2.main_arg1)
      ∧ r.2.mem ((c.tc : Thread Cert.Pw2.nD Cert.Pw2.τ).loc Cert.Pw2.main_arg2) = m ((c.tc : Thread Cert.Pw2.nD Cert.Pw2.τ).loc Cert.Pw2.main_arg2))
      ∧ r.2.sem = fun _ => 0)

def quiescent_Pw2Ideal [hPw2Ideal : Cert.Pw2Ideal.Facts] : Prop :=
  ∀ (m : (ℓ : Loc Cert.Pw2Ideal.nD Cert.Pw2Ideal.τ Cert.Pw2Ideal.sig) → Buf (Elt Ideal) ℓ) (g : Dev Cert.Pw2Ideal.nD → PrngReg), Pre_Pw2Ideal m →
    θ_run (Cert.Pw2Ideal.defs (F := Ideal)) (onTc (τ := Cert.Pw2Ideal.τ) (Cert.Pw2Ideal.main (F := Ideal))) ⟨m, fun _ => 0, g⟩ (fun r => (∀ c : Dev Cert.Pw2Ideal.nD,
      r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
      ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
      ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2))
      ∧ r.2.sem = fun _ => 0)

def quiescent_ReferencePw2Ideal [hReferencePw2Ideal : Cert.ReferencePw2Ideal.Facts] : Prop :=
  ∀ (m : (ℓ : Loc Cert.ReferencePw2Ideal.nD Cert.ReferencePw2Ideal.τ Cert.ReferencePw2Ideal.sig) → Buf (Elt Ideal) ℓ) (g : Dev Cert.ReferencePw2Ideal.nD → PrngReg), Pre_ReferencePw2Ideal m →
    θ_run (Cert.ReferencePw2Ideal.defs (F := Ideal)) (onTc (τ := Cert.ReferencePw2Ideal.τ) (Cert.ReferencePw2Ideal.main (F := Ideal))) ⟨m, fun _ => 0, g⟩ (fun r => (∀ c : Dev Cert.ReferencePw2Ideal.nD,
      r.2.mem ((c.tc : Thread Cert.ReferencePw2Ideal.nD Cert.ReferencePw2Ideal.τ).loc Cert.ReferencePw2Ideal.main_arg0) = m ((c.tc : Thread Cert.ReferencePw2Ideal.nD Cert.ReferencePw2Ideal.τ).loc Cert.ReferencePw2Ideal.main_arg0)
      ∧ r.2.mem ((c.tc : Thread Cert.ReferencePw2Ideal.nD Cert.ReferencePw2Ideal.τ).loc Cert.ReferencePw2Ideal.main_arg1) = m ((c.tc : Thread Cert.ReferencePw2Ideal.nD Cert.ReferencePw2Ideal.τ).loc Cert.ReferencePw2Ideal.main_arg1)
      ∧ r.2.mem ((c.tc : Thread Cert.ReferencePw2Ideal.nD Cert.ReferencePw2Ideal.τ).loc Cert.ReferencePw2Ideal.main_arg2) = m ((c.tc : Thread Cert.ReferencePw2Ideal.nD Cert.ReferencePw2Ideal.τ).loc Cert.ReferencePw2Ideal.main_arg2))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_ReferenceAttnInIdeal [hReferenceAttnInIdeal : Cert.ReferenceAttnInIdeal.Facts] : Prop :=
  ∀ (m : (ℓ : Loc Cert.ReferenceAttnInIdeal.nD Cert.ReferenceAttnInIdeal.τ Cert.ReferenceAttnInIdeal.sig) → Buf (Elt Ideal) ℓ) (g : Dev Cert.ReferenceAttnInIdeal.nD → PrngReg), Pre_ReferenceAttnInIdeal m →
    θ_run (Cert.ReferenceAttnInIdeal.defs (F := Ideal)) (onTc (τ := Cert.ReferenceAttnInIdeal.τ) (Cert.ReferenceAttnInIdeal.main (F := Ideal))) ⟨m, fun _ => 0, g⟩ (fun r => (∀ c : Dev Cert.ReferenceAttnInIdeal.nD,
      r.2.mem ((c.tc : Thread Cert.ReferenceAttnInIdeal.nD Cert.ReferenceAttnInIdeal.τ).loc Cert.ReferenceAttnInIdeal.main_arg0) = m ((c.tc : Thread Cert.ReferenceAttnInIdeal.nD Cert.ReferenceAttnInIdeal.τ).loc Cert.ReferenceAttnInIdeal.main_arg0)
      ∧ r.2.mem ((c.tc : Thread Cert.ReferenceAttnInIdeal.nD Cert.ReferenceAttnInIdeal.τ).loc Cert.ReferenceAttnInIdeal.main_arg1) = m ((c.tc : Thread Cert.ReferenceAttnInIdeal.nD Cert.ReferenceAttnInIdeal.τ).loc Cert.ReferenceAttnInIdeal.main_arg1))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ r.2.sem = fun _ => 0)

def quiescent_ReferenceGateInIdeal [hReferenceGateInIdeal : Cert.ReferenceGateInIdeal.Facts] : Prop :=
  ∀ (m : (ℓ : Loc Cert.ReferenceGateInIdeal.nD Cert.ReferenceGateInIdeal.τ Cert.ReferenceGateInIdeal.sig) → Buf (Elt Ideal) ℓ) (g : Dev Cert.ReferenceGateInIdeal.nD → PrngReg), Pre_ReferenceGateInIdeal m →
    θ_run (Cert.ReferenceGateInIdeal.defs (F := Ideal)) (onTc (τ := Cert.ReferenceGateInIdeal.τ) (Cert.ReferenceGateInIdeal.main (F := Ideal))) ⟨m, fun _ => 0, g⟩ (fun r => (∀ c : Dev Cert.ReferenceGateInIdeal.nD,
      r.2.mem ((c.tc : Thread Cert.ReferenceGateInIdeal.nD Cert.ReferenceGateInIdeal.τ).loc Cert.ReferenceGateInIdeal.main_arg0) = m ((c.tc : Thread Cert.ReferenceGateInIdeal.nD Cert.ReferenceGateInIdeal.τ).loc Cert.ReferenceGateInIdeal.main_arg0)
      ∧ r.2.mem ((c.tc : Thread Cert.ReferenceGateInIdeal.nD Cert.ReferenceGateInIdeal.τ).loc Cert.ReferenceGateInIdeal.main_arg1) = m ((c.tc : Thread Cert.ReferenceGateInIdeal.nD Cert.ReferenceGateInIdeal.τ).loc Cert.ReferenceGateInIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_ReferenceAttnOutIdeal [hReferenceAttnOutIdeal : Cert.ReferenceAttnOutIdeal.Facts] : Prop :=
  ∀ (m : (ℓ : Loc Cert.ReferenceAttnOutIdeal.nD Cert.ReferenceAttnOutIdeal.τ Cert.ReferenceAttnOutIdeal.sig) → Buf (Elt Ideal) ℓ) (g : Dev Cert.ReferenceAttnOutIdeal.nD → PrngReg), Pre_ReferenceAttnOutIdeal m →
    θ_run (Cert.ReferenceAttnOutIdeal.defs (F := Ideal)) (onTc (τ := Cert.ReferenceAttnOutIdeal.τ) (Cert.ReferenceAttnOutIdeal.main (F := Ideal))) ⟨m, fun _ => 0, g⟩ (fun r => (∀ c : Dev Cert.ReferenceAttnOutIdeal.nD,
      r.2.mem ((c.tc : Thread Cert.ReferenceAttnOutIdeal.nD Cert.ReferenceAttnOutIdeal.τ).loc Cert.ReferenceAttnOutIdeal.main_arg0) = m ((c.tc : Thread Cert.ReferenceAttnOutIdeal.nD Cert.ReferenceAttnOutIdeal.τ).loc Cert.ReferenceAttnOutIdeal.main_arg0)
      ∧ r.2.mem ((c.tc : Thread Cert.ReferenceAttnOutIdeal.nD Cert.ReferenceAttnOutIdeal.τ).loc Cert.ReferenceAttnOutIdeal.main_arg1) = m ((c.tc : Thread Cert.ReferenceAttnOutIdeal.nD Cert.ReferenceAttnOutIdeal.τ).loc Cert.ReferenceAttnOutIdeal.main_arg1))
      ∧ r.2.sem = fun _ => 0)

def quiescent_NormPre [hNormPre : Cert.NormPre.Facts] : Prop :=
  ∀ (m : (ℓ : Loc Cert.NormPre.nD Cert.NormPre.τ Cert.NormPre.sig) → Buf (Elt Bits) ℓ) (g : Dev Cert.NormPre.nD → PrngReg), Pre_NormPre m →
    θ_run (Cert.NormPre.defs (F := Bits)) (onTc (τ := Cert.NormPre.τ) (Cert.NormPre.main (F := Bits))) ⟨m, fun _ => 0, g⟩ (fun r => (∀ c : Dev Cert.NormPre.nD,
      r.2.mem ((c.tc : Thread Cert.NormPre.nD Cert.NormPre.τ).loc Cert.NormPre.main_arg0) = m ((c.tc : Thread Cert.NormPre.nD Cert.NormPre.τ).loc Cert.NormPre.main_arg0)
      ∧ r.2.mem ((c.tc : Thread Cert.NormPre.nD Cert.NormPre.τ).loc Cert.NormPre.main_arg1) = m ((c.tc : Thread Cert.NormPre.nD Cert.NormPre.τ).loc Cert.NormPre.main_arg1)
      ∧ r.2.mem ((c.tc : Thread Cert.NormPre.nD Cert.NormPre.τ).loc Cert.NormPre.main_arg2) = m ((c.tc : Thread Cert.NormPre.nD Cert.NormPre.τ).loc Cert.NormPre.main_arg2)
      ∧ r.2.mem ((c.tc : Thread Cert.NormPre.nD Cert.NormPre.τ).loc Cert.NormPre.main_arg3) = m ((c.tc : Thread Cert.NormPre.nD Cert.NormPre.τ).loc Cert.NormPre.main_arg3))
      ∧ r.2.sem = fun _ => 0)

def quiescent_NormPreIdeal [hNormPreIdeal : Cert.NormPreIdeal.Facts] : Prop :=
  ∀ (m : (ℓ : Loc Cert.NormPreIdeal.nD Cert.NormPreIdeal.τ Cert.NormPreIdeal.sig) → Buf (Elt Ideal) ℓ) (g : Dev Cert.NormPreIdeal.nD → PrngReg), Pre_NormPreIdeal m →
    θ_run (Cert.NormPreIdeal.defs (F := Ideal)) (onTc (τ := Cert.NormPreIdeal.τ) (Cert.NormPreIdeal.main (F := Ideal))) ⟨m, fun _ => 0, g⟩ (fun r => (∀ c : Dev Cert.NormPreIdeal.nD,
      r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
      ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1)
      ∧ r.2.mem ((c.tc : Thread Cert.NormPreIdeal.nD Cert.NormPreIdeal.τ).loc Cert.NormPreIdeal.main_arg2) = m ((c.tc : Thread Cert.NormPreIdeal.nD Cert.NormPreIdeal.τ).loc Cert.NormPreIdeal.main_arg2)
      ∧ r.2.mem ((c.tc : Thread Cert.NormPreIdeal.nD Cert.NormPreIdeal.τ).loc Cert.NormPreIdeal.main_arg3) = m ((c.tc : Thread Cert.NormPreIdeal.nD Cert.NormPreIdeal.τ).loc Cert.NormPreIdeal.main_arg3))
      ∧ r.2.sem = fun _ => 0)

def quiescent_ReferenceNormPreIdeal [hReferenceNormPreIdeal : Cert.ReferenceNormPreIdeal.Facts] : Prop :=
  ∀ (m : (ℓ : Loc Cert.ReferenceNormPreIdeal.nD Cert.ReferenceNormPreIdeal.τ Cert.ReferenceNormPreIdeal.sig) → Buf (Elt Ideal) ℓ) (g : Dev Cert.ReferenceNormPreIdeal.nD → PrngReg), Pre_ReferenceNormPreIdeal m →
    θ_run (Cert.ReferenceNormPreIdeal.defs (F := Ideal)) (onTc (τ := Cert.ReferenceNormPreIdeal.τ) (Cert.ReferenceNormPreIdeal.main (F := Ideal))) ⟨m, fun _ => 0, g⟩ (fun r => (∀ c : Dev Cert.ReferenceNormPreIdeal.nD,
      r.2.mem ((c.tc : Thread Cert.ReferenceNormPreIdeal.nD Cert.ReferenceNormPreIdeal.τ).loc Cert.ReferenceNormPreIdeal.main_arg0) = m ((c.tc : Thread Cert.ReferenceNormPreIdeal.nD Cert.ReferenceNormPreIdeal.τ).loc Cert.ReferenceNormPreIdeal.main_arg0)
      ∧ r.2.mem ((c.tc : Thread Cert.ReferenceNormPreIdeal.nD Cert.ReferenceNormPreIdeal.τ).loc Cert.ReferenceNormPreIdeal.main_arg1) = m ((c.tc : Thread Cert.ReferenceNormPreIdeal.nD Cert.ReferenceNormPreIdeal.τ).loc Cert.ReferenceNormPreIdeal.main_arg1)
      ∧ r.2.mem ((c.tc : Thread Cert.ReferenceNormPreIdeal.nD Cert.ReferenceNormPreIdeal.τ).loc Cert.ReferenceNormPreIdeal.main_arg2) = m ((c.tc : Thread Cert.ReferenceNormPreIdeal.nD Cert.ReferenceNormPreIdeal.τ).loc Cert.ReferenceNormPreIdeal.main_arg2)
      ∧ r.2.mem ((c.tc : Thread Cert.ReferenceNormPreIdeal.nD Cert.ReferenceNormPreIdeal.τ).loc Cert.ReferenceNormPreIdeal.main_arg3) = m ((c.tc : Thread Cert.ReferenceNormPreIdeal.nD Cert.ReferenceNormPreIdeal.τ).loc Cert.ReferenceNormPreIdeal.main_arg3))
      ∧ r.2.sem = fun _ => 0)

def quiescent_NormPost [hNormPost : Cert.NormPost.Facts] : Prop :=
  ∀ (m : (ℓ : Loc Cert.NormPost.nD Cert.NormPost.τ Cert.NormPost.sig) → Buf (Elt Bits) ℓ) (g : Dev Cert.NormPost.nD → PrngReg), Pre_NormPost m →
    θ_run (Cert.NormPost.defs (F := Bits)) (onTc (τ := Cert.NormPost.τ) (Cert.NormPost.main (F := Bits))) ⟨m, fun _ => 0, g⟩ (fun r => (∀ c : Dev Cert.NormPost.nD,
      r.2.mem ((c.tc : Thread Cert.NormPost.nD Cert.NormPost.τ).loc Cert.NormPost.main_arg0) = m ((c.tc : Thread Cert.NormPost.nD Cert.NormPost.τ).loc Cert.NormPost.main_arg0)
      ∧ r.2.mem ((c.tc : Thread Cert.NormPost.nD Cert.NormPost.τ).loc Cert.NormPost.main_arg1) = m ((c.tc : Thread Cert.NormPost.nD Cert.NormPost.τ).loc Cert.NormPost.main_arg1)
      ∧ r.2.mem ((c.tc : Thread Cert.NormPost.nD Cert.NormPost.τ).loc Cert.NormPost.main_arg2) = m ((c.tc : Thread Cert.NormPost.nD Cert.NormPost.τ).loc Cert.NormPost.main_arg2))
      ∧ r.2.sem = fun _ => 0)

def quiescent_NormPostIdeal [hNormPostIdeal : Cert.NormPostIdeal.Facts] : Prop :=
  ∀ (m : (ℓ : Loc Cert.NormPostIdeal.nD Cert.NormPostIdeal.τ Cert.NormPostIdeal.sig) → Buf (Elt Ideal) ℓ) (g : Dev Cert.NormPostIdeal.nD → PrngReg), Pre_NormPostIdeal m →
    θ_run (Cert.NormPostIdeal.defs (F := Ideal)) (onTc (τ := Cert.NormPostIdeal.τ) (Cert.NormPostIdeal.main (F := Ideal))) ⟨m, fun _ => 0, g⟩ (fun r => (∀ c : Dev Cert.NormPostIdeal.nD,
      r.2.mem ((c.tc : Thread Cert.NormPostIdeal.nD Cert.NormPostIdeal.τ).loc Cert.NormPostIdeal.main_arg0) = m ((c.tc : Thread Cert.NormPostIdeal.nD Cert.NormPostIdeal.τ).loc Cert.NormPostIdeal.main_arg0)
      ∧ r.2.mem ((c.tc : Thread Cert.NormPostIdeal.nD Cert.NormPostIdeal.τ).loc Cert.NormPostIdeal.main_arg1) = m ((c.tc : Thread Cert.NormPostIdeal.nD Cert.NormPostIdeal.τ).loc Cert.NormPostIdeal.main_arg1)
      ∧ r.2.mem ((c.tc : Thread Cert.NormPostIdeal.nD Cert.NormPostIdeal.τ).loc Cert.NormPostIdeal.main_arg2) = m ((c.tc : Thread Cert.NormPostIdeal.nD Cert.NormPostIdeal.τ).loc Cert.NormPostIdeal.main_arg2))
      ∧ r.2.sem = fun _ => 0)

def quiescent_ReferenceNormPostIdeal [hReferenceNormPostIdeal : Cert.ReferenceNormPostIdeal.Facts] : Prop :=
  ∀ (m : (ℓ : Loc Cert.ReferenceNormPostIdeal.nD Cert.ReferenceNormPostIdeal.τ Cert.ReferenceNormPostIdeal.sig) → Buf (Elt Ideal) ℓ) (g : Dev Cert.ReferenceNormPostIdeal.nD → PrngReg), Pre_ReferenceNormPostIdeal m →
    θ_run (Cert.ReferenceNormPostIdeal.defs (F := Ideal)) (onTc (τ := Cert.ReferenceNormPostIdeal.τ) (Cert.ReferenceNormPostIdeal.main (F := Ideal))) ⟨m, fun _ => 0, g⟩ (fun r => (∀ c : Dev Cert.ReferenceNormPostIdeal.nD,
      r.2.mem ((c.tc : Thread Cert.ReferenceNormPostIdeal.nD Cert.ReferenceNormPostIdeal.τ).loc Cert.ReferenceNormPostIdeal.main_arg0) = m ((c.tc : Thread Cert.ReferenceNormPostIdeal.nD Cert.ReferenceNormPostIdeal.τ).loc Cert.ReferenceNormPostIdeal.main_arg0)
      ∧ r.2.mem ((c.tc : Thread Cert.ReferenceNormPostIdeal.nD Cert.ReferenceNormPostIdeal.τ).loc Cert.ReferenceNormPostIdeal.main_arg1) = m ((c.tc : Thread Cert.ReferenceNormPostIdeal.nD Cert.ReferenceNormPostIdeal.τ).loc Cert.ReferenceNormPostIdeal.main_arg1)
      ∧ r.2.mem ((c.tc : Thread Cert.ReferenceNormPostIdeal.nD Cert.ReferenceNormPostIdeal.τ).loc Cert.ReferenceNormPostIdeal.main_arg2) = m ((c.tc : Thread Cert.ReferenceNormPostIdeal.nD Cert.ReferenceNormPostIdeal.τ).loc Cert.ReferenceNormPostIdeal.main_arg2))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_ReferenceResNormIdeal [hReferenceResNormIdeal : Cert.ReferenceResNormIdeal.Facts] : Prop :=
  ∀ (m : (ℓ : Loc Cert.ReferenceResNormIdeal.nD Cert.ReferenceResNormIdeal.τ Cert.ReferenceResNormIdeal.sig) → Buf (Elt Ideal) ℓ) (g : Dev Cert.ReferenceResNormIdeal.nD → PrngReg), Pre_ReferenceResNormIdeal m →
    θ_run (Cert.ReferenceResNormIdeal.defs (F := Ideal)) (onTc (τ := Cert.ReferenceResNormIdeal.τ) (Cert.ReferenceResNormIdeal.main (F := Ideal))) ⟨m, fun _ => 0, g⟩ (fun r => (∀ c : Dev Cert.ReferenceResNormIdeal.nD,
      r.2.mem ((c.tc : Thread Cert.ReferenceResNormIdeal.nD Cert.ReferenceResNormIdeal.τ).loc Cert.ReferenceResNormIdeal.main_arg0) = m ((c.tc : Thread Cert.ReferenceResNormIdeal.nD Cert.ReferenceResNormIdeal.τ).loc Cert.ReferenceResNormIdeal.main_arg0)
      ∧ r.2.mem ((c.tc : Thread Cert.ReferenceResNormIdeal.nD Cert.ReferenceResNormIdeal.τ).loc Cert.ReferenceResNormIdeal.main_arg1) = m ((c.tc : Thread Cert.ReferenceResNormIdeal.nD Cert.ReferenceResNormIdeal.τ).loc Cert.ReferenceResNormIdeal.main_arg1)
      ∧ r.2.mem ((c.tc : Thread Cert.ReferenceResNormIdeal.nD Cert.ReferenceResNormIdeal.τ).loc Cert.ReferenceResNormIdeal.main_arg2) = m ((c.tc : Thread Cert.ReferenceResNormIdeal.nD Cert.ReferenceResNormIdeal.τ).loc Cert.ReferenceResNormIdeal.main_arg2)
      ∧ r.2.mem ((c.tc : Thread Cert.ReferenceResNormIdeal.nD Cert.ReferenceResNormIdeal.τ).loc Cert.ReferenceResNormIdeal.main_arg3) = m ((c.tc : Thread Cert.ReferenceResNormIdeal.nD Cert.ReferenceResNormIdeal.τ).loc Cert.ReferenceResNormIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_ReferenceNormInIdeal [hReferenceNormInIdeal : Cert.ReferenceNormInIdeal.Facts] : Prop :=
  ∀ (m : (ℓ : Loc Cert.ReferenceNormInIdeal.nD Cert.ReferenceNormInIdeal.τ Cert.ReferenceNormInIdeal.sig) → Buf (Elt Ideal) ℓ) (g : Dev Cert.ReferenceNormInIdeal.nD → PrngReg), Pre_ReferenceNormInIdeal m →
    θ_run (Cert.ReferenceNormInIdeal.defs (F := Ideal)) (onTc (τ := Cert.ReferenceNormInIdeal.τ) (Cert.ReferenceNormInIdeal.main (F := Ideal))) ⟨m, fun _ => 0, g⟩ (fun r => (∀ c : Dev Cert.ReferenceNormInIdeal.nD,
      r.2.mem ((c.tc : Thread Cert.ReferenceNormInIdeal.nD Cert.ReferenceNormInIdeal.τ).loc Cert.ReferenceNormInIdeal.main_arg0) = m ((c.tc : Thread Cert.ReferenceNormInIdeal.nD Cert.ReferenceNormInIdeal.τ).loc Cert.ReferenceNormInIdeal.main_arg0)
      ∧ r.2.mem ((c.tc : Thread Cert.ReferenceNormInIdeal.nD Cert.ReferenceNormInIdeal.τ).loc Cert.ReferenceNormInIdeal.main_arg1) = m ((c.tc : Thread Cert.ReferenceNormInIdeal.nD Cert.ReferenceNormInIdeal.τ).loc Cert.ReferenceNormInIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0))
      ∧ r.2.sem = fun _ => 0)

def preserves_Kernel_KernelIdeal : Prop :=
  IdealRules.named_const.Statement Cert.KernelIdeal.κ "skip" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelKV_KernelKVIdeal : Prop :=
  IdealRules.named_const.Statement Cert.KernelKVIdeal.κ "skip" .f32 0xC2D00000#32 ⊥

def algebraic_KernelKVIdeal_ReferenceKVIdeal_pre_finite [hKernelKVIdeal : Cert.KernelKVIdeal.Facts] [hReferenceKVIdeal : Cert.ReferenceKVIdeal.Facts] [hPre_finite : Cert.Pre_finite.Facts] : Prop :=
  ∀ (m : (ℓ : Loc Cert.KernelKVIdeal.nD Cert.KernelKVIdeal.τ Cert.KernelKVIdeal.sig) → Buf (Elt Ideal) ℓ) (g : Dev Cert.KernelKVIdeal.nD → PrngReg)
    (m' : (ℓ : Loc Cert.ReferenceKVIdeal.nD Cert.ReferenceKVIdeal.τ Cert.ReferenceKVIdeal.sig) → Buf (Elt Ideal) ℓ) (g' : Dev Cert.ReferenceKVIdeal.nD → PrngReg), Pre_KernelKVIdeal_finite m →
    (∀ c : Dev Cert.KernelKVIdeal.nD,
      m' ((c.tc : Thread Cert.ReferenceKVIdeal.nD Cert.ReferenceKVIdeal.τ).loc Cert.ReferenceKVIdeal.main_arg0) = m ((c.tc : Thread Cert.KernelKVIdeal.nD Cert.KernelKVIdeal.τ).loc Cert.KernelKVIdeal.main_arg0)
      ∧ m' ((c.tc : Thread Cert.ReferenceKVIdeal.nD Cert.ReferenceKVIdeal.τ).loc Cert.ReferenceKVIdeal.main_arg1) = m ((c.tc : Thread Cert.KernelKVIdeal.nD Cert.KernelKVIdeal.τ).loc Cert.KernelKVIdeal.main_arg1)
      ∧ m' ((c.tc : Thread Cert.ReferenceKVIdeal.nD Cert.ReferenceKVIdeal.τ).loc Cert.ReferenceKVIdeal.main_arg2) = m ((c.tc : Thread Cert.KernelKVIdeal.nD Cert.KernelKVIdeal.τ).loc Cert.KernelKVIdeal.main_arg2)
      ∧ m' ((c.tc : Thread Cert.ReferenceKVIdeal.nD Cert.ReferenceKVIdeal.τ).loc Cert.ReferenceKVIdeal.main_arg3) = m ((c.tc : Thread Cert.KernelKVIdeal.nD Cert.KernelKVIdeal.τ).loc Cert.KernelKVIdeal.main_arg3)
      ∧ m' ((c.tc : Thread Cert.ReferenceKVIdeal.nD Cert.ReferenceKVIdeal.τ).loc Cert.ReferenceKVIdeal.main_arg4) = m ((c.tc : Thread Cert.KernelKVIdeal.nD Cert.KernelKVIdeal.τ).loc Cert.KernelKVIdeal.main_arg4)) →
    ∃ (v0 : (c : Dev Cert.KernelKVIdeal.nD) → Buf (Elt Ideal) ((c.tc : Thread Cert.KernelKVIdeal.nD Cert.KernelKVIdeal.τ).loc Cert.KernelKVIdeal.main_v114)) (v1 : (c : Dev Cert.KernelKVIdeal.nD) → Buf (Elt Ideal) ((c.tc : Thread Cert.KernelKVIdeal.nD Cert.KernelKVIdeal.τ).loc Cert.KernelKVIdeal.main_v117)) (v2 : (c : Dev Cert.KernelKVIdeal.nD) → Buf (Elt Ideal) ((c.tc : Thread Cert.KernelKVIdeal.nD Cert.KernelKVIdeal.τ).loc Cert.KernelKVIdeal.main_v118)),
      θ_run (Cert.KernelKVIdeal.defs (F := Ideal)) (onTc (τ := Cert.KernelKVIdeal.τ) (Cert.KernelKVIdeal.main (F := Ideal))) ⟨m, fun _ => 0, g⟩ (fun r => ∀ c : Dev Cert.KernelKVIdeal.nD,
          r.2.mem ((c.tc : Thread Cert.KernelKVIdeal.nD Cert.KernelKVIdeal.τ).loc Cert.KernelKVIdeal.main_v114) = v0 c
          ∧ r.2.mem ((c.tc : Thread Cert.KernelKVIdeal.nD Cert.KernelKVIdeal.τ).loc Cert.KernelKVIdeal.main_v117) = v1 c
          ∧ r.2.mem ((c.tc : Thread Cert.KernelKVIdeal.nD Cert.KernelKVIdeal.τ).loc Cert.KernelKVIdeal.main_v118) = v2 c
          ∧ r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
          ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1)
          ∧ r.2.mem ((c.tc : Thread Cert.KernelKVIdeal.nD Cert.KernelKVIdeal.τ).loc Cert.KernelKVIdeal.main_arg2) = m ((c.tc : Thread Cert.KernelKVIdeal.nD Cert.KernelKVIdeal.τ).loc Cert.KernelKVIdeal.main_arg2)
          ∧ r.2.mem ((c.tc : Thread Cert.KernelKVIdeal.nD Cert.KernelKVIdeal.τ).loc Cert.KernelKVIdeal.main_arg3) = m ((c.tc : Thread Cert.KernelKVIdeal.nD Cert.KernelKVIdeal.τ).loc Cert.KernelKVIdeal.main_arg3)
          ∧ r.2.mem ((c.tc : Thread Cert.KernelKVIdeal.nD Cert.KernelKVIdeal.τ).loc Cert.KernelKVIdeal.main_arg4) = m ((c.tc : Thread Cert.KernelKVIdeal.nD Cert.KernelKVIdeal.τ).loc Cert.KernelKVIdeal.main_arg4))
      ∧ θ_run (Cert.ReferenceKVIdeal.defs (F := Ideal)) (onTc (τ := Cert.ReferenceKVIdeal.τ) (Cert.ReferenceKVIdeal.main (F := Ideal))) ⟨m', fun _ => 0, g'⟩ (fun r => ∀ c : Dev Cert.ReferenceKVIdeal.nD,
          r.2.mem ((c.tc : Thread Cert.ReferenceKVIdeal.nD Cert.ReferenceKVIdeal.τ).loc Cert.ReferenceKVIdeal.main_v67) = v0 c
          ∧ r.2.mem ((c.tc : Thread Cert.ReferenceKVIdeal.nD Cert.ReferenceKVIdeal.τ).loc Cert.ReferenceKVIdeal.main_v64) = v1 c
          ∧ r.2.mem ((c.tc : Thread Cert.ReferenceKVIdeal.nD Cert.ReferenceKVIdeal.τ).loc Cert.ReferenceKVIdeal.main_v46) = v2 c
          ∧ r.2.mem ((c.tc : Thread Cert.ReferenceKVIdeal.nD Cert.ReferenceKVIdeal.τ).loc Cert.ReferenceKVIdeal.main_arg0) = m' ((c.tc : Thread Cert.ReferenceKVIdeal.nD Cert.ReferenceKVIdeal.τ).loc Cert.ReferenceKVIdeal.main_arg0)
          ∧ r.2.mem ((c.tc : Thread Cert.ReferenceKVIdeal.nD Cert.ReferenceKVIdeal.τ).loc Cert.ReferenceKVIdeal.main_arg1) = m' ((c.tc : Thread Cert.ReferenceKVIdeal.nD Cert.ReferenceKVIdeal.τ).loc Cert.ReferenceKVIdeal.main_arg1)
          ∧ r.2.mem ((c.tc : Thread Cert.ReferenceKVIdeal.nD Cert.ReferenceKVIdeal.τ).loc Cert.ReferenceKVIdeal.main_arg2) = m' ((c.tc : Thread Cert.ReferenceKVIdeal.nD Cert.ReferenceKVIdeal.τ).loc Cert.ReferenceKVIdeal.main_arg2)
          ∧ r.2.mem ((c.tc : Thread Cert.ReferenceKVIdeal.nD Cert.ReferenceKVIdeal.τ).loc Cert.ReferenceKVIdeal.main_arg3) = m' ((c.tc : Thread Cert.ReferenceKVIdeal.nD Cert.ReferenceKVIdeal.τ).loc Cert.ReferenceKVIdeal.main_arg3)
          ∧ r.2.mem ((c.tc : Thread Cert.ReferenceKVIdeal.nD Cert.ReferenceKVIdeal.τ).loc Cert.ReferenceKVIdeal.main_arg4) = m' ((c.tc : Thread Cert.ReferenceKVIdeal.nD Cert.ReferenceKVIdeal.τ).loc Cert.ReferenceKVIdeal.main_arg4))

def preserves_Dact_DactIdeal : Prop :=
  True

def algebraic_DactIdeal_ReferenceDactIdeal_pre_finite_u [hDactIdeal : Cert.DactIdeal.Facts] [hReferenceDactIdeal : Cert.ReferenceDactIdeal.Facts] [hPre_finite_u : Cert.Pre_finite_u.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_DactIdeal_finite_u m →
    (∀ c : Dev Cert.DactIdeal.nD,
      m' ((c.tc : Thread Cert.ReferenceDactIdeal.nD Cert.ReferenceDactIdeal.τ).loc Cert.ReferenceDactIdeal.main_arg0) = m ((c.tc : Thread Cert.DactIdeal.nD Cert.DactIdeal.τ).loc Cert.DactIdeal.main_arg0)
      ∧ m' ((c.tc : Thread Cert.ReferenceDactIdeal.nD Cert.ReferenceDactIdeal.τ).loc Cert.ReferenceDactIdeal.main_arg1) = m ((c.tc : Thread Cert.DactIdeal.nD Cert.DactIdeal.τ).loc Cert.DactIdeal.main_arg1)
      ∧ m' ((c.tc : Thread Cert.ReferenceDactIdeal.nD Cert.ReferenceDactIdeal.τ).loc Cert.ReferenceDactIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v7)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v7) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v11) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1)
          ∧ r.2.mem ((c.tc : Thread Cert.ReferenceDactIdeal.nD Cert.ReferenceDactIdeal.τ).loc Cert.ReferenceDactIdeal.main_arg2) = m' ((c.tc : Thread Cert.ReferenceDactIdeal.nD Cert.ReferenceDactIdeal.τ).loc Cert.ReferenceDactIdeal.main_arg2))

def preserves_Dwdown_DwdownIdeal : Prop :=
  True

def algebraic_DwdownIdeal_ReferenceDwdownIdeal [hDwdownIdeal : Cert.DwdownIdeal.Facts] [hReferenceDwdownIdeal : Cert.ReferenceDwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.ReferenceDwdownIdeal.nD Cert.ReferenceDwdownIdeal.τ Cert.ReferenceDwdownIdeal.sig) → Buf (Elt Ideal) ℓ) (g' : Dev Cert.ReferenceDwdownIdeal.nD → PrngReg), Pre_DwdownIdeal m →
    (∀ c : Dev Cert.DwdownIdeal.nD,
      m' ((c.tc : Thread Cert.ReferenceDwdownIdeal.nD Cert.ReferenceDwdownIdeal.τ).loc Cert.ReferenceDwdownIdeal.main_arg0) = m ((c.tc : Thread Cert.DwdownIdeal.nD Cert.DwdownIdeal.τ).loc Cert.DwdownIdeal.main_arg0)
      ∧ m' ((c.tc : Thread Cert.ReferenceDwdownIdeal.nD Cert.ReferenceDwdownIdeal.τ).loc Cert.ReferenceDwdownIdeal.main_arg1) = m ((c.tc : Thread Cert.DwdownIdeal.nD Cert.DwdownIdeal.τ).loc Cert.DwdownIdeal.main_arg1)
      ∧ m' ((c.tc : Thread Cert.ReferenceDwdownIdeal.nD Cert.ReferenceDwdownIdeal.τ).loc Cert.ReferenceDwdownIdeal.main_arg2) = m ((c.tc : Thread Cert.DwdownIdeal.nD Cert.DwdownIdeal.τ).loc Cert.DwdownIdeal.main_arg2)) →
    ∃ (v0 : (c : Dev Cert.DwdownIdeal.nD) → Buf (Elt Ideal) ((c.tc : Thread Cert.DwdownIdeal.nD Cert.DwdownIdeal.τ).loc Cert.DwdownIdeal.main_v5)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v5) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1)
          ∧ r.2.mem ((c.tc : Thread Cert.DwdownIdeal.nD Cert.DwdownIdeal.τ).loc Cert.DwdownIdeal.main_arg2) = m ((c.tc : Thread Cert.DwdownIdeal.nD Cert.DwdownIdeal.τ).loc Cert.DwdownIdeal.main_arg2))
      ∧ θ_run (Cert.ReferenceDwdownIdeal.defs (F := Ideal)) (onTc (τ := Cert.ReferenceDwdownIdeal.τ) (Cert.ReferenceDwdownIdeal.main (F := Ideal))) ⟨m', fun _ => 0, g'⟩ (fun r => ∀ c : Dev Cert.ReferenceDwdownIdeal.nD,
          r.2.mem ((c.tc : Thread Cert.ReferenceDwdownIdeal.nD Cert.ReferenceDwdownIdeal.τ).loc Cert.ReferenceDwdownIdeal.main_v4) = v0 c
          ∧ r.2.mem ((c.tc : Thread Cert.ReferenceDwdownIdeal.nD Cert.ReferenceDwdownIdeal.τ).loc Cert.ReferenceDwdownIdeal.main_arg0) = m' ((c.tc : Thread Cert.ReferenceDwdownIdeal.nD Cert.ReferenceDwdownIdeal.τ).loc Cert.ReferenceDwdownIdeal.main_arg0)
          ∧ r.2.mem ((c.tc : Thread Cert.ReferenceDwdownIdeal.nD Cert.ReferenceDwdownIdeal.τ).loc Cert.ReferenceDwdownIdeal.main_arg1) = m' ((c.tc : Thread Cert.ReferenceDwdownIdeal.nD Cert.ReferenceDwdownIdeal.τ).loc Cert.ReferenceDwdownIdeal.main_arg1)
          ∧ r.2.mem ((c.tc : Thread Cert.ReferenceDwdownIdeal.nD Cert.ReferenceDwdownIdeal.τ).loc Cert.ReferenceDwdownIdeal.main_arg2) = m' ((c.tc : Thread Cert.ReferenceDwdownIdeal.nD Cert.ReferenceDwdownIdeal.τ).loc Cert.ReferenceDwdownIdeal.main_arg2))

def preserves_Dh_DhIdeal : Prop :=
  True

def algebraic_DhIdeal_ReferenceDhIdeal [hDhIdeal : Cert.DhIdeal.Facts] [hReferenceDhIdeal : Cert.ReferenceDhIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_DhIdeal m →
    (∀ c : Dev Cert.DhIdeal.nD,
      m' ((c.tc : Thread Cert.ReferenceDhIdeal.nD Cert.ReferenceDhIdeal.τ).loc Cert.ReferenceDhIdeal.main_arg0) = m ((c.tc : Thread Cert.DhIdeal.nD Cert.DhIdeal.τ).loc Cert.DhIdeal.main_arg0)
      ∧ m' ((c.tc : Thread Cert.ReferenceDhIdeal.nD Cert.ReferenceDhIdeal.τ).loc Cert.ReferenceDhIdeal.main_arg1) = m ((c.tc : Thread Cert.DhIdeal.nD Cert.DhIdeal.τ).loc Cert.DhIdeal.main_arg1)
      ∧ m' ((c.tc : Thread Cert.ReferenceDhIdeal.nD Cert.ReferenceDhIdeal.τ).loc Cert.ReferenceDhIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v1) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def preserves_Dwup_DwupIdeal : Prop :=
  True

def algebraic_DwupIdeal_ReferenceDwupIdeal [hDwupIdeal : Cert.DwupIdeal.Facts] [hReferenceDwupIdeal : Cert.ReferenceDwupIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.ReferenceDwupIdeal.nD Cert.ReferenceDwupIdeal.τ Cert.ReferenceDwupIdeal.sig) → Buf (Elt Ideal) ℓ) (g' : Dev Cert.ReferenceDwupIdeal.nD → PrngReg), Pre_DwupIdeal m →
    (∀ c : Dev Cert.DwupIdeal.nD,
      m' ((c.tc : Thread Cert.ReferenceDwupIdeal.nD Cert.ReferenceDwupIdeal.τ).loc Cert.ReferenceDwupIdeal.main_arg0) = m ((c.tc : Thread Cert.DwupIdeal.nD Cert.DwupIdeal.τ).loc Cert.DwupIdeal.main_arg0)
      ∧ m' ((c.tc : Thread Cert.ReferenceDwupIdeal.nD Cert.ReferenceDwupIdeal.τ).loc Cert.ReferenceDwupIdeal.main_arg1) = m ((c.tc : Thread Cert.DwupIdeal.nD Cert.DwupIdeal.τ).loc Cert.DwupIdeal.main_arg1)
      ∧ m' ((c.tc : Thread Cert.ReferenceDwupIdeal.nD Cert.ReferenceDwupIdeal.τ).loc Cert.ReferenceDwupIdeal.main_arg2) = m ((c.tc : Thread Cert.DwupIdeal.nD Cert.DwupIdeal.τ).loc Cert.DwupIdeal.main_arg2)) →
    ∃ (v0 : (c : Dev Cert.DwupIdeal.nD) → Buf (Elt Ideal) ((c.tc : Thread Cert.DwupIdeal.nD Cert.DwupIdeal.τ).loc Cert.DwupIdeal.main_v2)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v2) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
          ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2))
      ∧ θ_run (Cert.ReferenceDwupIdeal.defs (F := Ideal)) (onTc (τ := Cert.ReferenceDwupIdeal.τ) (Cert.ReferenceDwupIdeal.main (F := Ideal))) ⟨m', fun _ => 0, g'⟩ (fun r => ∀ c : Dev Cert.ReferenceDwupIdeal.nD,
          r.2.mem ((c.tc : Thread Cert.ReferenceDwupIdeal.nD Cert.ReferenceDwupIdeal.τ).loc Cert.ReferenceDwupIdeal.main_v4) = v0 c
          ∧ r.2.mem ((c.tc : Thread Cert.ReferenceDwupIdeal.nD Cert.ReferenceDwupIdeal.τ).loc Cert.ReferenceDwupIdeal.main_arg0) = m' ((c.tc : Thread Cert.ReferenceDwupIdeal.nD Cert.ReferenceDwupIdeal.τ).loc Cert.ReferenceDwupIdeal.main_arg0)
          ∧ r.2.mem ((c.tc : Thread Cert.ReferenceDwupIdeal.nD Cert.ReferenceDwupIdeal.τ).loc Cert.ReferenceDwupIdeal.main_arg1) = m' ((c.tc : Thread Cert.ReferenceDwupIdeal.nD Cert.ReferenceDwupIdeal.τ).loc Cert.ReferenceDwupIdeal.main_arg1)
          ∧ r.2.mem ((c.tc : Thread Cert.ReferenceDwupIdeal.nD Cert.ReferenceDwupIdeal.τ).loc Cert.ReferenceDwupIdeal.main_arg2) = m' ((c.tc : Thread Cert.ReferenceDwupIdeal.nD Cert.ReferenceDwupIdeal.τ).loc Cert.ReferenceDwupIdeal.main_arg2))

def preserves_DwSquare_DwSquareIdeal : Prop :=
  True

def algebraic_DwSquareIdeal_ReferenceDwSquareIdeal [hDwSquareIdeal : Cert.DwSquareIdeal.Facts] [hReferenceDwSquareIdeal : Cert.ReferenceDwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.ReferenceDwSquareIdeal.nD Cert.ReferenceDwSquareIdeal.τ Cert.ReferenceDwSquareIdeal.sig) → Buf (Elt Ideal) ℓ) (g' : Dev Cert.ReferenceDwSquareIdeal.nD → PrngReg), Pre_DwSquareIdeal m →
    (∀ c : Dev Cert.DwSquareIdeal.nD,
      m' ((c.tc : Thread Cert.ReferenceDwSquareIdeal.nD Cert.ReferenceDwSquareIdeal.τ).loc Cert.ReferenceDwSquareIdeal.main_arg0) = m ((c.tc : Thread Cert.DwSquareIdeal.nD Cert.DwSquareIdeal.τ).loc Cert.DwSquareIdeal.main_arg0)
      ∧ m' ((c.tc : Thread Cert.ReferenceDwSquareIdeal.nD Cert.ReferenceDwSquareIdeal.τ).loc Cert.ReferenceDwSquareIdeal.main_arg1) = m ((c.tc : Thread Cert.DwSquareIdeal.nD Cert.DwSquareIdeal.τ).loc Cert.DwSquareIdeal.main_arg1)
      ∧ m' ((c.tc : Thread Cert.ReferenceDwSquareIdeal.nD Cert.ReferenceDwSquareIdeal.τ).loc Cert.ReferenceDwSquareIdeal.main_arg2) = m ((c.tc : Thread Cert.DwSquareIdeal.nD Cert.DwSquareIdeal.τ).loc Cert.DwSquareIdeal.main_arg2)) →
    ∃ (v0 : (c : Dev Cert.DwSquareIdeal.nD) → Buf (Elt Ideal) ((c.tc : Thread Cert.DwSquareIdeal.nD Cert.DwSquareIdeal.τ).loc Cert.DwSquareIdeal.main_v2)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v2) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1)
          ∧ r.2.mem ((c.tc : Thread Cert.DwSquareIdeal.nD Cert.DwSquareIdeal.τ).loc Cert.DwSquareIdeal.main_arg2) = m ((c.tc : Thread Cert.DwSquareIdeal.nD Cert.DwSquareIdeal.τ).loc Cert.DwSquareIdeal.main_arg2))
      ∧ θ_run (Cert.ReferenceDwSquareIdeal.defs (F := Ideal)) (onTc (τ := Cert.ReferenceDwSquareIdeal.τ) (Cert.ReferenceDwSquareIdeal.main (F := Ideal))) ⟨m', fun _ => 0, g'⟩ (fun r => ∀ c : Dev Cert.ReferenceDwSquareIdeal.nD,
          r.2.mem ((c.tc : Thread Cert.ReferenceDwSquareIdeal.nD Cert.ReferenceDwSquareIdeal.τ).loc Cert.ReferenceDwSquareIdeal.main_v2) = v0 c
          ∧ r.2.mem ((c.tc : Thread Cert.ReferenceDwSquareIdeal.nD Cert.ReferenceDwSquareIdeal.τ).loc Cert.ReferenceDwSquareIdeal.main_arg0) = m' ((c.tc : Thread Cert.ReferenceDwSquareIdeal.nD Cert.ReferenceDwSquareIdeal.τ).loc Cert.ReferenceDwSquareIdeal.main_arg0)
          ∧ r.2.mem ((c.tc : Thread Cert.ReferenceDwSquareIdeal.nD Cert.ReferenceDwSquareIdeal.τ).loc Cert.ReferenceDwSquareIdeal.main_arg1) = m' ((c.tc : Thread Cert.ReferenceDwSquareIdeal.nD Cert.ReferenceDwSquareIdeal.τ).loc Cert.ReferenceDwSquareIdeal.main_arg1)
          ∧ r.2.mem ((c.tc : Thread Cert.ReferenceDwSquareIdeal.nD Cert.ReferenceDwSquareIdeal.τ).loc Cert.ReferenceDwSquareIdeal.main_arg2) = m' ((c.tc : Thread Cert.ReferenceDwSquareIdeal.nD Cert.ReferenceDwSquareIdeal.τ).loc Cert.ReferenceDwSquareIdeal.main_arg2))

def preserves_DxSquare_DxSquareIdeal : Prop :=
  True

def algebraic_DxSquareIdeal_ReferenceDxSquareIdeal [hDxSquareIdeal : Cert.DxSquareIdeal.Facts] [hReferenceDxSquareIdeal : Cert.ReferenceDxSquareIdeal.Facts] : Prop :=
  ∀ (m : (ℓ : Loc Cert.DxSquareIdeal.nD Cert.DxSquareIdeal.τ Cert.DxSquareIdeal.sig) → Buf (Elt Ideal) ℓ) (g : Dev Cert.DxSquareIdeal.nD → PrngReg)
    (m' : (ℓ : Loc Cert.ReferenceDxSquareIdeal.nD Cert.ReferenceDxSquareIdeal.τ Cert.ReferenceDxSquareIdeal.sig) → Buf (Elt Ideal) ℓ) (g' : Dev Cert.ReferenceDxSquareIdeal.nD → PrngReg), Pre_DxSquareIdeal m →
    (∀ c : Dev Cert.DxSquareIdeal.nD,
      m' ((c.tc : Thread Cert.ReferenceDxSquareIdeal.nD Cert.ReferenceDxSquareIdeal.τ).loc Cert.ReferenceDxSquareIdeal.main_arg0) = m ((c.tc : Thread Cert.DxSquareIdeal.nD Cert.DxSquareIdeal.τ).loc Cert.DxSquareIdeal.main_arg0)
      ∧ m' ((c.tc : Thread Cert.ReferenceDxSquareIdeal.nD Cert.ReferenceDxSquareIdeal.τ).loc Cert.ReferenceDxSquareIdeal.main_arg1) = m ((c.tc : Thread Cert.DxSquareIdeal.nD Cert.DxSquareIdeal.τ).loc Cert.DxSquareIdeal.main_arg1)
      ∧ m' ((c.tc : Thread Cert.ReferenceDxSquareIdeal.nD Cert.ReferenceDxSquareIdeal.τ).loc Cert.ReferenceDxSquareIdeal.main_arg2) = m ((c.tc : Thread Cert.DxSquareIdeal.nD Cert.DxSquareIdeal.τ).loc Cert.DxSquareIdeal.main_arg2)) →
    ∃ (v0 : (c : Dev Cert.DxSquareIdeal.nD) → Buf (Elt Ideal) ((c.tc : Thread Cert.DxSquareIdeal.nD Cert.DxSquareIdeal.τ).loc Cert.DxSquareIdeal.main_v2)),
      θ_run (Cert.DxSquareIdeal.defs (F := Ideal)) (onTc (τ := Cert.DxSquareIdeal.τ) (Cert.DxSquareIdeal.main (F := Ideal))) ⟨m, fun _ => 0, g⟩ (fun r => ∀ c : Dev Cert.DxSquareIdeal.nD,
          r.2.mem ((c.tc : Thread Cert.DxSquareIdeal.nD Cert.DxSquareIdeal.τ).loc Cert.DxSquareIdeal.main_v2) = v0 c
          ∧ r.2.mem ((c.tc : Thread Cert.DxSquareIdeal.nD Cert.DxSquareIdeal.τ).loc Cert.DxSquareIdeal.main_arg0) = m ((c.tc : Thread Cert.DxSquareIdeal.nD Cert.DxSquareIdeal.τ).loc Cert.DxSquareIdeal.main_arg0)
          ∧ r.2.mem ((c.tc : Thread Cert.DxSquareIdeal.nD Cert.DxSquareIdeal.τ).loc Cert.DxSquareIdeal.main_arg1) = m ((c.tc : Thread Cert.DxSquareIdeal.nD Cert.DxSquareIdeal.τ).loc Cert.DxSquareIdeal.main_arg1)
          ∧ r.2.mem ((c.tc : Thread Cert.DxSquareIdeal.nD Cert.DxSquareIdeal.τ).loc Cert.DxSquareIdeal.main_arg2) = m ((c.tc : Thread Cert.DxSquareIdeal.nD Cert.DxSquareIdeal.τ).loc Cert.DxSquareIdeal.main_arg2))
      ∧ θ_run (Cert.ReferenceDxSquareIdeal.defs (F := Ideal)) (onTc (τ := Cert.ReferenceDxSquareIdeal.τ) (Cert.ReferenceDxSquareIdeal.main (F := Ideal))) ⟨m', fun _ => 0, g'⟩ (fun r => ∀ c : Dev Cert.ReferenceDxSquareIdeal.nD,
          r.2.mem ((c.tc : Thread Cert.ReferenceDxSquareIdeal.nD Cert.ReferenceDxSquareIdeal.τ).loc Cert.ReferenceDxSquareIdeal.main_v1) = v0 c
          ∧ r.2.mem ((c.tc : Thread Cert.ReferenceDxSquareIdeal.nD Cert.ReferenceDxSquareIdeal.τ).loc Cert.ReferenceDxSquareIdeal.main_arg0) = m' ((c.tc : Thread Cert.ReferenceDxSquareIdeal.nD Cert.ReferenceDxSquareIdeal.τ).loc Cert.ReferenceDxSquareIdeal.main_arg0)
          ∧ r.2.mem ((c.tc : Thread Cert.ReferenceDxSquareIdeal.nD Cert.ReferenceDxSquareIdeal.τ).loc Cert.ReferenceDxSquareIdeal.main_arg1) = m' ((c.tc : Thread Cert.ReferenceDxSquareIdeal.nD Cert.ReferenceDxSquareIdeal.τ).loc Cert.ReferenceDxSquareIdeal.main_arg1)
          ∧ r.2.mem ((c.tc : Thread Cert.ReferenceDxSquareIdeal.nD Cert.ReferenceDxSquareIdeal.τ).loc Cert.ReferenceDxSquareIdeal.main_arg2) = m' ((c.tc : Thread Cert.ReferenceDxSquareIdeal.nD Cert.ReferenceDxSquareIdeal.τ).loc Cert.ReferenceDxSquareIdeal.main_arg2))

def preserves_DwIn_DwInIdeal : Prop :=
  True

def algebraic_DwInIdeal_ReferenceDwInIdeal [hDwInIdeal : Cert.DwInIdeal.Facts] [hReferenceDwInIdeal : Cert.ReferenceDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_DwInIdeal m →
    (∀ c : Dev Cert.DwInIdeal.nD,
      m' ((c.tc : Thread Cert.ReferenceDwInIdeal.nD Cert.ReferenceDwInIdeal.τ).loc Cert.ReferenceDwInIdeal.main_arg0) = m ((c.tc : Thread Cert.DwInIdeal.nD Cert.DwInIdeal.τ).loc Cert.DwInIdeal.main_arg0)
      ∧ m' ((c.tc : Thread Cert.ReferenceDwInIdeal.nD Cert.ReferenceDwInIdeal.τ).loc Cert.ReferenceDwInIdeal.main_arg1) = m ((c.tc : Thread Cert.DwInIdeal.nD Cert.DwInIdeal.τ).loc Cert.DwInIdeal.main_arg1)
      ∧ m' ((c.tc : Thread Cert.ReferenceDwInIdeal.nD Cert.ReferenceDwInIdeal.τ).loc Cert.ReferenceDwInIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v6)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v6) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v4) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1)
          ∧ r.2.mem ((c.tc : Thread Cert.ReferenceDwInIdeal.nD Cert.ReferenceDwInIdeal.τ).loc Cert.ReferenceDwInIdeal.main_arg2) = m' ((c.tc : Thread Cert.ReferenceDwInIdeal.nD Cert.ReferenceDwInIdeal.τ).loc Cert.ReferenceDwInIdeal.main_arg2))

def preserves_DhIn_DhInIdeal : Prop :=
  True

def algebraic_DhInIdeal_ReferenceDhInIdeal [hDhInIdeal : Cert.DhInIdeal.Facts] [hReferenceDhInIdeal : Cert.ReferenceDhInIdeal.Facts] : Prop :=
  ∀ (m : (ℓ : Loc Cert.DhInIdeal.nD Cert.DhInIdeal.τ Cert.DhInIdeal.sig) → Buf (Elt Ideal) ℓ) (g : Dev Cert.DhInIdeal.nD → PrngReg)
    (m' : (ℓ : Loc Cert.ReferenceDhInIdeal.nD Cert.ReferenceDhInIdeal.τ Cert.ReferenceDhInIdeal.sig) → Buf (Elt Ideal) ℓ) (g' : Dev Cert.ReferenceDhInIdeal.nD → PrngReg), Pre_DhInIdeal m →
    (∀ c : Dev Cert.DhInIdeal.nD,
      m' ((c.tc : Thread Cert.ReferenceDhInIdeal.nD Cert.ReferenceDhInIdeal.τ).loc Cert.ReferenceDhInIdeal.main_arg0) = m ((c.tc : Thread Cert.DhInIdeal.nD Cert.DhInIdeal.τ).loc Cert.DhInIdeal.main_arg0)
      ∧ m' ((c.tc : Thread Cert.ReferenceDhInIdeal.nD Cert.ReferenceDhInIdeal.τ).loc Cert.ReferenceDhInIdeal.main_arg1) = m ((c.tc : Thread Cert.DhInIdeal.nD Cert.DhInIdeal.τ).loc Cert.DhInIdeal.main_arg1)
      ∧ m' ((c.tc : Thread Cert.ReferenceDhInIdeal.nD Cert.ReferenceDhInIdeal.τ).loc Cert.ReferenceDhInIdeal.main_arg2) = m ((c.tc : Thread Cert.DhInIdeal.nD Cert.DhInIdeal.τ).loc Cert.DhInIdeal.main_arg2)) →
    ∃ (v0 : (c : Dev Cert.DhInIdeal.nD) → Buf (Elt Ideal) ((c.tc : Thread Cert.DhInIdeal.nD Cert.DhInIdeal.τ).loc Cert.DhInIdeal.main_v4)),
      θ_run (Cert.DhInIdeal.defs (F := Ideal)) (onTc (τ := Cert.DhInIdeal.τ) (Cert.DhInIdeal.main (F := Ideal))) ⟨m, fun _ => 0, g⟩ (fun r => ∀ c : Dev Cert.DhInIdeal.nD,
          r.2.mem ((c.tc : Thread Cert.DhInIdeal.nD Cert.DhInIdeal.τ).loc Cert.DhInIdeal.main_v4) = v0 c
          ∧ r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
          ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1)
          ∧ r.2.mem ((c.tc : Thread Cert.DhInIdeal.nD Cert.DhInIdeal.τ).loc Cert.DhInIdeal.main_arg2) = m ((c.tc : Thread Cert.DhInIdeal.nD Cert.DhInIdeal.τ).loc Cert.DhInIdeal.main_arg2))
      ∧ θ_run (Cert.ReferenceDhInIdeal.defs (F := Ideal)) (onTc (τ := Cert.ReferenceDhInIdeal.τ) (Cert.ReferenceDhInIdeal.main (F := Ideal))) ⟨m', fun _ => 0, g'⟩ (fun r => ∀ c : Dev Cert.ReferenceDhInIdeal.nD,
          r.2.mem ((c.tc : Thread Cert.ReferenceDhInIdeal.nD Cert.ReferenceDhInIdeal.τ).loc Cert.ReferenceDhInIdeal.main_v1) = v0 c
          ∧ r.2.mem ((c.tc : Thread Cert.ReferenceDhInIdeal.nD Cert.ReferenceDhInIdeal.τ).loc Cert.ReferenceDhInIdeal.main_arg0) = m' ((c.tc : Thread Cert.ReferenceDhInIdeal.nD Cert.ReferenceDhInIdeal.τ).loc Cert.ReferenceDhInIdeal.main_arg0)
          ∧ r.2.mem ((c.tc : Thread Cert.ReferenceDhInIdeal.nD Cert.ReferenceDhInIdeal.τ).loc Cert.ReferenceDhInIdeal.main_arg1) = m' ((c.tc : Thread Cert.ReferenceDhInIdeal.nD Cert.ReferenceDhInIdeal.τ).loc Cert.ReferenceDhInIdeal.main_arg1)
          ∧ r.2.mem ((c.tc : Thread Cert.ReferenceDhInIdeal.nD Cert.ReferenceDhInIdeal.τ).loc Cert.ReferenceDhInIdeal.main_arg2) = m' ((c.tc : Thread Cert.ReferenceDhInIdeal.nD Cert.ReferenceDhInIdeal.τ).loc Cert.ReferenceDhInIdeal.main_arg2))

def preserves_DwConv_DwConvIdeal : Prop :=
  True

def algebraic_DwConvIdeal_ReferenceDwConvIdeal [hDwConvIdeal : Cert.DwConvIdeal.Facts] [hReferenceDwConvIdeal : Cert.ReferenceDwConvIdeal.Facts] : Prop :=
  ∀ (m : (ℓ : Loc Cert.DwConvIdeal.nD Cert.DwConvIdeal.τ Cert.DwConvIdeal.sig) → Buf (Elt Ideal) ℓ) (g : Dev Cert.DwConvIdeal.nD → PrngReg)
    (m' : (ℓ : Loc Cert.ReferenceDwConvIdeal.nD Cert.ReferenceDwConvIdeal.τ Cert.ReferenceDwConvIdeal.sig) → Buf (Elt Ideal) ℓ) (g' : Dev Cert.ReferenceDwConvIdeal.nD → PrngReg), Pre_DwConvIdeal m →
    (∀ c : Dev Cert.DwConvIdeal.nD,
      m' ((c.tc : Thread Cert.ReferenceDwConvIdeal.nD Cert.ReferenceDwConvIdeal.τ).loc Cert.ReferenceDwConvIdeal.main_arg0) = m ((c.tc : Thread Cert.DwConvIdeal.nD Cert.DwConvIdeal.τ).loc Cert.DwConvIdeal.main_arg0)
      ∧ m' ((c.tc : Thread Cert.ReferenceDwConvIdeal.nD Cert.ReferenceDwConvIdeal.τ).loc Cert.ReferenceDwConvIdeal.main_arg1) = m ((c.tc : Thread Cert.DwConvIdeal.nD Cert.DwConvIdeal.τ).loc Cert.DwConvIdeal.main_arg1)
      ∧ m' ((c.tc : Thread Cert.ReferenceDwConvIdeal.nD Cert.ReferenceDwConvIdeal.τ).loc Cert.ReferenceDwConvIdeal.main_arg2) = m ((c.tc : Thread Cert.DwConvIdeal.nD Cert.DwConvIdeal.τ).loc Cert.DwConvIdeal.main_arg2)) →
    ∃ (v0 : (c : Dev Cert.DwConvIdeal.nD) → Buf (Elt Ideal) ((c.tc : Thread Cert.DwConvIdeal.nD Cert.DwConvIdeal.τ).loc Cert.DwConvIdeal.main_v2)),
      θ_run (Cert.DwConvIdeal.defs (F := Ideal)) (onTc (τ := Cert.DwConvIdeal.τ) (Cert.DwConvIdeal.main (F := Ideal))) ⟨m, fun _ => 0, g⟩ (fun r => ∀ c : Dev Cert.DwConvIdeal.nD,
          r.2.mem ((c.tc : Thread Cert.DwConvIdeal.nD Cert.DwConvIdeal.τ).loc Cert.DwConvIdeal.main_v2) = v0 c
          ∧ r.2.mem ((c.tc : Thread Cert.DwConvIdeal.nD Cert.DwConvIdeal.τ).loc Cert.DwConvIdeal.main_arg0) = m ((c.tc : Thread Cert.DwConvIdeal.nD Cert.DwConvIdeal.τ).loc Cert.DwConvIdeal.main_arg0)
          ∧ r.2.mem ((c.tc : Thread Cert.DwConvIdeal.nD Cert.DwConvIdeal.τ).loc Cert.DwConvIdeal.main_arg1) = m ((c.tc : Thread Cert.DwConvIdeal.nD Cert.DwConvIdeal.τ).loc Cert.DwConvIdeal.main_arg1)
          ∧ r.2.mem ((c.tc : Thread Cert.DwConvIdeal.nD Cert.DwConvIdeal.τ).loc Cert.DwConvIdeal.main_arg2) = m ((c.tc : Thread Cert.DwConvIdeal.nD Cert.DwConvIdeal.τ).loc Cert.DwConvIdeal.main_arg2))
      ∧ θ_run (Cert.ReferenceDwConvIdeal.defs (F := Ideal)) (onTc (τ := Cert.ReferenceDwConvIdeal.τ) (Cert.ReferenceDwConvIdeal.main (F := Ideal))) ⟨m', fun _ => 0, g'⟩ (fun r => ∀ c : Dev Cert.ReferenceDwConvIdeal.nD,
          r.2.mem ((c.tc : Thread Cert.ReferenceDwConvIdeal.nD Cert.ReferenceDwConvIdeal.τ).loc Cert.ReferenceDwConvIdeal.main_v4) = v0 c
          ∧ r.2.mem ((c.tc : Thread Cert.ReferenceDwConvIdeal.nD Cert.ReferenceDwConvIdeal.τ).loc Cert.ReferenceDwConvIdeal.main_arg0) = m' ((c.tc : Thread Cert.ReferenceDwConvIdeal.nD Cert.ReferenceDwConvIdeal.τ).loc Cert.ReferenceDwConvIdeal.main_arg0)
          ∧ r.2.mem ((c.tc : Thread Cert.ReferenceDwConvIdeal.nD Cert.ReferenceDwConvIdeal.τ).loc Cert.ReferenceDwConvIdeal.main_arg1) = m' ((c.tc : Thread Cert.ReferenceDwConvIdeal.nD Cert.ReferenceDwConvIdeal.τ).loc Cert.ReferenceDwConvIdeal.main_arg1)
          ∧ r.2.mem ((c.tc : Thread Cert.ReferenceDwConvIdeal.nD Cert.ReferenceDwConvIdeal.τ).loc Cert.ReferenceDwConvIdeal.main_arg2) = m' ((c.tc : Thread Cert.ReferenceDwConvIdeal.nD Cert.ReferenceDwConvIdeal.τ).loc Cert.ReferenceDwConvIdeal.main_arg2))

def preserves_DhConv_DhConvIdeal : Prop :=
  True

def algebraic_DhConvIdeal_ReferenceDhConvIdeal [hDhConvIdeal : Cert.DhConvIdeal.Facts] [hReferenceDhConvIdeal : Cert.ReferenceDhConvIdeal.Facts] : Prop :=
  ∀ (m : (ℓ : Loc Cert.DhConvIdeal.nD Cert.DhConvIdeal.τ Cert.DhConvIdeal.sig) → Buf (Elt Ideal) ℓ) (g : Dev Cert.DhConvIdeal.nD → PrngReg)
    (m' : (ℓ : Loc Cert.ReferenceDhConvIdeal.nD Cert.ReferenceDhConvIdeal.τ Cert.ReferenceDhConvIdeal.sig) → Buf (Elt Ideal) ℓ) (g' : Dev Cert.ReferenceDhConvIdeal.nD → PrngReg), Pre_DhConvIdeal m →
    (∀ c : Dev Cert.DhConvIdeal.nD,
      m' ((c.tc : Thread Cert.ReferenceDhConvIdeal.nD Cert.ReferenceDhConvIdeal.τ).loc Cert.ReferenceDhConvIdeal.main_arg0) = m ((c.tc : Thread Cert.DhConvIdeal.nD Cert.DhConvIdeal.τ).loc Cert.DhConvIdeal.main_arg0)
      ∧ m' ((c.tc : Thread Cert.ReferenceDhConvIdeal.nD Cert.ReferenceDhConvIdeal.τ).loc Cert.ReferenceDhConvIdeal.main_arg1) = m ((c.tc : Thread Cert.DhConvIdeal.nD Cert.DhConvIdeal.τ).loc Cert.DhConvIdeal.main_arg1)
      ∧ m' ((c.tc : Thread Cert.ReferenceDhConvIdeal.nD Cert.ReferenceDhConvIdeal.τ).loc Cert.ReferenceDhConvIdeal.main_arg2) = m ((c.tc : Thread Cert.DhConvIdeal.nD Cert.DhConvIdeal.τ).loc Cert.DhConvIdeal.main_arg2)) →
    ∃ (v0 : (c : Dev Cert.DhConvIdeal.nD) → Buf (Elt Ideal) ((c.tc : Thread Cert.DhConvIdeal.nD Cert.DhConvIdeal.τ).loc Cert.DhConvIdeal.main_v2)),
      θ_run (Cert.DhConvIdeal.defs (F := Ideal)) (onTc (τ := Cert.DhConvIdeal.τ) (Cert.DhConvIdeal.main (F := Ideal))) ⟨m, fun _ => 0, g⟩ (fun r => ∀ c : Dev Cert.DhConvIdeal.nD,
          r.2.mem ((c.tc : Thread Cert.DhConvIdeal.nD Cert.DhConvIdeal.τ).loc Cert.DhConvIdeal.main_v2) = v0 c
          ∧ r.2.mem ((c.tc : Thread Cert.DhConvIdeal.nD Cert.DhConvIdeal.τ).loc Cert.DhConvIdeal.main_arg0) = m ((c.tc : Thread Cert.DhConvIdeal.nD Cert.DhConvIdeal.τ).loc Cert.DhConvIdeal.main_arg0)
          ∧ r.2.mem ((c.tc : Thread Cert.DhConvIdeal.nD Cert.DhConvIdeal.τ).loc Cert.DhConvIdeal.main_arg1) = m ((c.tc : Thread Cert.DhConvIdeal.nD Cert.DhConvIdeal.τ).loc Cert.DhConvIdeal.main_arg1)
          ∧ r.2.mem ((c.tc : Thread Cert.DhConvIdeal.nD Cert.DhConvIdeal.τ).loc Cert.DhConvIdeal.main_arg2) = m ((c.tc : Thread Cert.DhConvIdeal.nD Cert.DhConvIdeal.τ).loc Cert.DhConvIdeal.main_arg2))
      ∧ θ_run (Cert.ReferenceDhConvIdeal.defs (F := Ideal)) (onTc (τ := Cert.ReferenceDhConvIdeal.τ) (Cert.ReferenceDhConvIdeal.main (F := Ideal))) ⟨m', fun _ => 0, g'⟩ (fun r => ∀ c : Dev Cert.ReferenceDhConvIdeal.nD,
          r.2.mem ((c.tc : Thread Cert.ReferenceDhConvIdeal.nD Cert.ReferenceDhConvIdeal.τ).loc Cert.ReferenceDhConvIdeal.main_v1) = v0 c
          ∧ r.2.mem ((c.tc : Thread Cert.ReferenceDhConvIdeal.nD Cert.ReferenceDhConvIdeal.τ).loc Cert.ReferenceDhConvIdeal.main_arg0) = m' ((c.tc : Thread Cert.ReferenceDhConvIdeal.nD Cert.ReferenceDhConvIdeal.τ).loc Cert.ReferenceDhConvIdeal.main_arg0)
          ∧ r.2.mem ((c.tc : Thread Cert.ReferenceDhConvIdeal.nD Cert.ReferenceDhConvIdeal.τ).loc Cert.ReferenceDhConvIdeal.main_arg1) = m' ((c.tc : Thread Cert.ReferenceDhConvIdeal.nD Cert.ReferenceDhConvIdeal.τ).loc Cert.ReferenceDhConvIdeal.main_arg1)
          ∧ r.2.mem ((c.tc : Thread Cert.ReferenceDhConvIdeal.nD Cert.ReferenceDhConvIdeal.τ).loc Cert.ReferenceDhConvIdeal.main_arg2) = m' ((c.tc : Thread Cert.ReferenceDhConvIdeal.nD Cert.ReferenceDhConvIdeal.τ).loc Cert.ReferenceDhConvIdeal.main_arg2))

def preserves_Up_UpIdeal : Prop :=
  True

def algebraic_UpIdeal_ReferenceUpIdeal [hUpIdeal : Cert.UpIdeal.Facts] [hReferenceUpIdeal : Cert.ReferenceUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_UpIdeal m →
    (∀ c : Dev Cert.UpIdeal.nD,
      m' ((c.tc : Thread Cert.ReferenceUpIdeal.nD Cert.ReferenceUpIdeal.τ).loc Cert.ReferenceUpIdeal.main_arg0) = m ((c.tc : Thread Cert.UpIdeal.nD Cert.UpIdeal.τ).loc Cert.UpIdeal.main_arg0)
      ∧ m' ((c.tc : Thread Cert.ReferenceUpIdeal.nD Cert.ReferenceUpIdeal.τ).loc Cert.ReferenceUpIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_Down_DownIdeal : Prop :=
  True

def algebraic_DownIdeal_ReferenceDownIdeal [hDownIdeal : Cert.DownIdeal.Facts] [hReferenceDownIdeal : Cert.ReferenceDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_DownIdeal m →
    (∀ c : Dev Cert.DownIdeal.nD,
      m' ((c.tc : Thread Cert.ReferenceDownIdeal.nD Cert.ReferenceDownIdeal.τ).loc Cert.ReferenceDownIdeal.main_arg0) = m ((c.tc : Thread Cert.DownIdeal.nD Cert.DownIdeal.τ).loc Cert.DownIdeal.main_arg0)
      ∧ m' ((c.tc : Thread Cert.ReferenceDownIdeal.nD Cert.ReferenceDownIdeal.τ).loc Cert.ReferenceDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v0) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_Pw1_Pw1Ideal : Prop :=
  True

def algebraic_Pw1Ideal_ReferencePw1Ideal [hPw1Ideal : Cert.Pw1Ideal.Facts] [hReferencePw1Ideal : Cert.ReferencePw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg)
    (m' : (ℓ : Loc Cert.ReferencePw1Ideal.nD Cert.ReferencePw1Ideal.τ Cert.ReferencePw1Ideal.sig) → Buf (Elt Ideal) ℓ) (g' : Dev Cert.ReferencePw1Ideal.nD → PrngReg), Pre_Pw1Ideal m →
    (∀ c : Dev Cert.Pw1Ideal.nD,
      m' ((c.tc : Thread Cert.ReferencePw1Ideal.nD Cert.ReferencePw1Ideal.τ).loc Cert.ReferencePw1Ideal.main_arg0) = m ((c.tc : Thread Cert.Pw1Ideal.nD Cert.Pw1Ideal.τ).loc Cert.Pw1Ideal.main_arg0)
      ∧ m' ((c.tc : Thread Cert.ReferencePw1Ideal.nD Cert.ReferencePw1Ideal.τ).loc Cert.ReferencePw1Ideal.main_arg1) = m ((c.tc : Thread Cert.Pw1Ideal.nD Cert.Pw1Ideal.τ).loc Cert.Pw1Ideal.main_arg1)
      ∧ m' ((c.tc : Thread Cert.ReferencePw1Ideal.nD Cert.ReferencePw1Ideal.τ).loc Cert.ReferencePw1Ideal.main_arg2) = m ((c.tc : Thread Cert.Pw1Ideal.nD Cert.Pw1Ideal.τ).loc Cert.Pw1Ideal.main_arg2)) →
    ∃ (v0 : (c : Dev Cert.Pw1Ideal.nD) → Buf (Elt Ideal) ((c.tc : Thread Cert.Pw1Ideal.nD Cert.Pw1Ideal.τ).loc Cert.Pw1Ideal.main_v2)),
      θ_run (Cert.Pw1Ideal.defs (F := Ideal)) (onTc (τ := Cert.Pw1Ideal.τ) (Cert.Pw1Ideal.main (F := Ideal))) ⟨m, fun _ => 0, g⟩ (fun r => ∀ c : Dev Cert.Pw1Ideal.nD,
          r.2.mem ((c.tc : Thread Cert.Pw1Ideal.nD Cert.Pw1Ideal.τ).loc Cert.Pw1Ideal.main_v2) = v0 c
          ∧ r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
          ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
          ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2))
      ∧ θ_run (Cert.ReferencePw1Ideal.defs (F := Ideal)) (onTc (τ := Cert.ReferencePw1Ideal.τ) (Cert.ReferencePw1Ideal.main (F := Ideal))) ⟨m', fun _ => 0, g'⟩ (fun r => ∀ c : Dev Cert.ReferencePw1Ideal.nD,
          r.2.mem ((c.tc : Thread Cert.ReferencePw1Ideal.nD Cert.ReferencePw1Ideal.τ).loc Cert.ReferencePw1Ideal.main_v4) = v0 c
          ∧ r.2.mem ((c.tc : Thread Cert.ReferencePw1Ideal.nD Cert.ReferencePw1Ideal.τ).loc Cert.ReferencePw1Ideal.main_arg0) = m' ((c.tc : Thread Cert.ReferencePw1Ideal.nD Cert.ReferencePw1Ideal.τ).loc Cert.ReferencePw1Ideal.main_arg0)
          ∧ r.2.mem ((c.tc : Thread Cert.ReferencePw1Ideal.nD Cert.ReferencePw1Ideal.τ).loc Cert.ReferencePw1Ideal.main_arg1) = m' ((c.tc : Thread Cert.ReferencePw1Ideal.nD Cert.ReferencePw1Ideal.τ).loc Cert.ReferencePw1Ideal.main_arg1)
          ∧ r.2.mem ((c.tc : Thread Cert.ReferencePw1Ideal.nD Cert.ReferencePw1Ideal.τ).loc Cert.ReferencePw1Ideal.main_arg2) = m' ((c.tc : Thread Cert.ReferencePw1Ideal.nD Cert.ReferencePw1Ideal.τ).loc Cert.ReferencePw1Ideal.main_arg2))

def preserves_Pw2_Pw2Ideal : Prop :=
  True

def algebraic_Pw2Ideal_ReferencePw2Ideal [hPw2Ideal : Cert.Pw2Ideal.Facts] [hReferencePw2Ideal : Cert.ReferencePw2Ideal.Facts] : Prop :=
  ∀ (m : (ℓ : Loc Cert.Pw2Ideal.nD Cert.Pw2Ideal.τ Cert.Pw2Ideal.sig) → Buf (Elt Ideal) ℓ) (g : Dev Cert.Pw2Ideal.nD → PrngReg)
    (m' : (ℓ : Loc Cert.ReferencePw2Ideal.nD Cert.ReferencePw2Ideal.τ Cert.ReferencePw2Ideal.sig) → Buf (Elt Ideal) ℓ) (g' : Dev Cert.ReferencePw2Ideal.nD → PrngReg), Pre_Pw2Ideal m →
    (∀ c : Dev Cert.Pw2Ideal.nD,
      m' ((c.tc : Thread Cert.ReferencePw2Ideal.nD Cert.ReferencePw2Ideal.τ).loc Cert.ReferencePw2Ideal.main_arg0) = m ((c.tc : Thread Cert.Pw2Ideal.nD Cert.Pw2Ideal.τ).loc Cert.Pw2Ideal.main_arg0)
      ∧ m' ((c.tc : Thread Cert.ReferencePw2Ideal.nD Cert.ReferencePw2Ideal.τ).loc Cert.ReferencePw2Ideal.main_arg1) = m ((c.tc : Thread Cert.Pw2Ideal.nD Cert.Pw2Ideal.τ).loc Cert.Pw2Ideal.main_arg1)
      ∧ m' ((c.tc : Thread Cert.ReferencePw2Ideal.nD Cert.ReferencePw2Ideal.τ).loc Cert.ReferencePw2Ideal.main_arg2) = m ((c.tc : Thread Cert.Pw2Ideal.nD Cert.Pw2Ideal.τ).loc Cert.Pw2Ideal.main_arg2)) →
    ∃ (v0 : (c : Dev Cert.Pw2Ideal.nD) → Buf (Elt Ideal) ((c.tc : Thread Cert.Pw2Ideal.nD Cert.Pw2Ideal.τ).loc Cert.Pw2Ideal.main_v2)),
      θ_run (Cert.Pw2Ideal.defs (F := Ideal)) (onTc (τ := Cert.Pw2Ideal.τ) (Cert.Pw2Ideal.main (F := Ideal))) ⟨m, fun _ => 0, g⟩ (fun r => ∀ c : Dev Cert.Pw2Ideal.nD,
          r.2.mem ((c.tc : Thread Cert.Pw2Ideal.nD Cert.Pw2Ideal.τ).loc Cert.Pw2Ideal.main_v2) = v0 c
          ∧ r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
          ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
          ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2))
      ∧ θ_run (Cert.ReferencePw2Ideal.defs (F := Ideal)) (onTc (τ := Cert.ReferencePw2Ideal.τ) (Cert.ReferencePw2Ideal.main (F := Ideal))) ⟨m', fun _ => 0, g'⟩ (fun r => ∀ c : Dev Cert.ReferencePw2Ideal.nD,
          r.2.mem ((c.tc : Thread Cert.ReferencePw2Ideal.nD Cert.ReferencePw2Ideal.τ).loc Cert.ReferencePw2Ideal.main_v4) = v0 c
          ∧ r.2.mem ((c.tc : Thread Cert.ReferencePw2Ideal.nD Cert.ReferencePw2Ideal.τ).loc Cert.ReferencePw2Ideal.main_arg0) = m' ((c.tc : Thread Cert.ReferencePw2Ideal.nD Cert.ReferencePw2Ideal.τ).loc Cert.ReferencePw2Ideal.main_arg0)
          ∧ r.2.mem ((c.tc : Thread Cert.ReferencePw2Ideal.nD Cert.ReferencePw2Ideal.τ).loc Cert.ReferencePw2Ideal.main_arg1) = m' ((c.tc : Thread Cert.ReferencePw2Ideal.nD Cert.ReferencePw2Ideal.τ).loc Cert.ReferencePw2Ideal.main_arg1)
          ∧ r.2.mem ((c.tc : Thread Cert.ReferencePw2Ideal.nD Cert.ReferencePw2Ideal.τ).loc Cert.ReferencePw2Ideal.main_arg2) = m' ((c.tc : Thread Cert.ReferencePw2Ideal.nD Cert.ReferencePw2Ideal.τ).loc Cert.ReferencePw2Ideal.main_arg2))

def preserves_AttnIn_AttnInIdeal : Prop :=
  True

def algebraic_AttnInIdeal_ReferenceAttnInIdeal [hAttnInIdeal : Cert.AttnInIdeal.Facts] [hReferenceAttnInIdeal : Cert.ReferenceAttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.ReferenceAttnInIdeal.nD Cert.ReferenceAttnInIdeal.τ Cert.ReferenceAttnInIdeal.sig) → Buf (Elt Ideal) ℓ) (g' : Dev Cert.ReferenceAttnInIdeal.nD → PrngReg), Pre_AttnInIdeal m →
    (∀ c : Dev Cert.AttnInIdeal.nD,
      m' ((c.tc : Thread Cert.ReferenceAttnInIdeal.nD Cert.ReferenceAttnInIdeal.τ).loc Cert.ReferenceAttnInIdeal.main_arg0) = m ((c.tc : Thread Cert.AttnInIdeal.nD Cert.AttnInIdeal.τ).loc Cert.AttnInIdeal.main_arg0)
      ∧ m' ((c.tc : Thread Cert.ReferenceAttnInIdeal.nD Cert.ReferenceAttnInIdeal.τ).loc Cert.ReferenceAttnInIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v5)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v5) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.ReferenceAttnInIdeal.defs (F := Ideal)) (onTc (τ := Cert.ReferenceAttnInIdeal.τ) (Cert.ReferenceAttnInIdeal.main (F := Ideal))) ⟨m', fun _ => 0, g'⟩ (fun r => ∀ c : Dev Cert.ReferenceAttnInIdeal.nD,
          r.2.mem ((c.tc : Thread Cert.ReferenceAttnInIdeal.nD Cert.ReferenceAttnInIdeal.τ).loc Cert.ReferenceAttnInIdeal.main_v1) = v0 c
          ∧ r.2.mem ((c.tc : Thread Cert.ReferenceAttnInIdeal.nD Cert.ReferenceAttnInIdeal.τ).loc Cert.ReferenceAttnInIdeal.main_arg0) = m' ((c.tc : Thread Cert.ReferenceAttnInIdeal.nD Cert.ReferenceAttnInIdeal.τ).loc Cert.ReferenceAttnInIdeal.main_arg0)
          ∧ r.2.mem ((c.tc : Thread Cert.ReferenceAttnInIdeal.nD Cert.ReferenceAttnInIdeal.τ).loc Cert.ReferenceAttnInIdeal.main_arg1) = m' ((c.tc : Thread Cert.ReferenceAttnInIdeal.nD Cert.ReferenceAttnInIdeal.τ).loc Cert.ReferenceAttnInIdeal.main_arg1))

def preserves_GateIn_GateInIdeal : Prop :=
  True

def algebraic_GateInIdeal_ReferenceGateInIdeal [hGateInIdeal : Cert.GateInIdeal.Facts] [hReferenceGateInIdeal : Cert.ReferenceGateInIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.ReferenceGateInIdeal.nD Cert.ReferenceGateInIdeal.τ Cert.ReferenceGateInIdeal.sig) → Buf (Elt Ideal) ℓ) (g' : Dev Cert.ReferenceGateInIdeal.nD → PrngReg), Pre_GateInIdeal m →
    (∀ c : Dev Cert.GateInIdeal.nD,
      m' ((c.tc : Thread Cert.ReferenceGateInIdeal.nD Cert.ReferenceGateInIdeal.τ).loc Cert.ReferenceGateInIdeal.main_arg0) = m ((c.tc : Thread Cert.GateInIdeal.nD Cert.GateInIdeal.τ).loc Cert.GateInIdeal.main_arg0)
      ∧ m' ((c.tc : Thread Cert.ReferenceGateInIdeal.nD Cert.ReferenceGateInIdeal.τ).loc Cert.ReferenceGateInIdeal.main_arg1) = m ((c.tc : Thread Cert.GateInIdeal.nD Cert.GateInIdeal.τ).loc Cert.GateInIdeal.main_arg1)) →
    ∃ (v0 : (c : Dev Cert.GateInIdeal.nD) → Buf (Elt Ideal) ((c.tc : Thread Cert.GateInIdeal.nD Cert.GateInIdeal.τ).loc Cert.GateInIdeal.main_v5)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v5) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ θ_run (Cert.ReferenceGateInIdeal.defs (F := Ideal)) (onTc (τ := Cert.ReferenceGateInIdeal.τ) (Cert.ReferenceGateInIdeal.main (F := Ideal))) ⟨m', fun _ => 0, g'⟩ (fun r => ∀ c : Dev Cert.ReferenceGateInIdeal.nD,
          r.2.mem ((c.tc : Thread Cert.ReferenceGateInIdeal.nD Cert.ReferenceGateInIdeal.τ).loc Cert.ReferenceGateInIdeal.main_v1) = v0 c
          ∧ r.2.mem ((c.tc : Thread Cert.ReferenceGateInIdeal.nD Cert.ReferenceGateInIdeal.τ).loc Cert.ReferenceGateInIdeal.main_arg0) = m' ((c.tc : Thread Cert.ReferenceGateInIdeal.nD Cert.ReferenceGateInIdeal.τ).loc Cert.ReferenceGateInIdeal.main_arg0)
          ∧ r.2.mem ((c.tc : Thread Cert.ReferenceGateInIdeal.nD Cert.ReferenceGateInIdeal.τ).loc Cert.ReferenceGateInIdeal.main_arg1) = m' ((c.tc : Thread Cert.ReferenceGateInIdeal.nD Cert.ReferenceGateInIdeal.τ).loc Cert.ReferenceGateInIdeal.main_arg1))

def preserves_AttnOut_AttnOutIdeal : Prop :=
  True

def algebraic_AttnOutIdeal_ReferenceAttnOutIdeal [hAttnOutIdeal : Cert.AttnOutIdeal.Facts] [hReferenceAttnOutIdeal : Cert.ReferenceAttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.ReferenceAttnOutIdeal.nD Cert.ReferenceAttnOutIdeal.τ Cert.ReferenceAttnOutIdeal.sig) → Buf (Elt Ideal) ℓ) (g' : Dev Cert.ReferenceAttnOutIdeal.nD → PrngReg), Pre_AttnOutIdeal m →
    (∀ c : Dev Cert.AttnOutIdeal.nD,
      m' ((c.tc : Thread Cert.ReferenceAttnOutIdeal.nD Cert.ReferenceAttnOutIdeal.τ).loc Cert.ReferenceAttnOutIdeal.main_arg0) = m ((c.tc : Thread Cert.AttnOutIdeal.nD Cert.AttnOutIdeal.τ).loc Cert.AttnOutIdeal.main_arg0)
      ∧ m' ((c.tc : Thread Cert.ReferenceAttnOutIdeal.nD Cert.ReferenceAttnOutIdeal.τ).loc Cert.ReferenceAttnOutIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.ReferenceAttnOutIdeal.defs (F := Ideal)) (onTc (τ := Cert.ReferenceAttnOutIdeal.τ) (Cert.ReferenceAttnOutIdeal.main (F := Ideal))) ⟨m', fun _ => 0, g'⟩ (fun r => ∀ c : Dev Cert.ReferenceAttnOutIdeal.nD,
          r.2.mem ((c.tc : Thread Cert.ReferenceAttnOutIdeal.nD Cert.ReferenceAttnOutIdeal.τ).loc Cert.ReferenceAttnOutIdeal.main_v0) = v0 c
          ∧ r.2.mem ((c.tc : Thread Cert.ReferenceAttnOutIdeal.nD Cert.ReferenceAttnOutIdeal.τ).loc Cert.ReferenceAttnOutIdeal.main_arg0) = m' ((c.tc : Thread Cert.ReferenceAttnOutIdeal.nD Cert.ReferenceAttnOutIdeal.τ).loc Cert.ReferenceAttnOutIdeal.main_arg0)
          ∧ r.2.mem ((c.tc : Thread Cert.ReferenceAttnOutIdeal.nD Cert.ReferenceAttnOutIdeal.τ).loc Cert.ReferenceAttnOutIdeal.main_arg1) = m' ((c.tc : Thread Cert.ReferenceAttnOutIdeal.nD Cert.ReferenceAttnOutIdeal.τ).loc Cert.ReferenceAttnOutIdeal.main_arg1))

def preserves_NormPre_NormPreIdeal : Prop :=
  True

def algebraic_NormPreIdeal_ReferenceNormPreIdeal [hNormPreIdeal : Cert.NormPreIdeal.Facts] [hReferenceNormPreIdeal : Cert.ReferenceNormPreIdeal.Facts] : Prop :=
  ∀ (m : (ℓ : Loc Cert.NormPreIdeal.nD Cert.NormPreIdeal.τ Cert.NormPreIdeal.sig) → Buf (Elt Ideal) ℓ) (g : Dev Cert.NormPreIdeal.nD → PrngReg)
    (m' : (ℓ : Loc Cert.ReferenceNormPreIdeal.nD Cert.ReferenceNormPreIdeal.τ Cert.ReferenceNormPreIdeal.sig) → Buf (Elt Ideal) ℓ) (g' : Dev Cert.ReferenceNormPreIdeal.nD → PrngReg), Pre_NormPreIdeal m →
    (∀ c : Dev Cert.NormPreIdeal.nD,
      m' ((c.tc : Thread Cert.ReferenceNormPreIdeal.nD Cert.ReferenceNormPreIdeal.τ).loc Cert.ReferenceNormPreIdeal.main_arg0) = m ((c.tc : Thread Cert.NormPreIdeal.nD Cert.NormPreIdeal.τ).loc Cert.NormPreIdeal.main_arg0)
      ∧ m' ((c.tc : Thread Cert.ReferenceNormPreIdeal.nD Cert.ReferenceNormPreIdeal.τ).loc Cert.ReferenceNormPreIdeal.main_arg1) = m ((c.tc : Thread Cert.NormPreIdeal.nD Cert.NormPreIdeal.τ).loc Cert.NormPreIdeal.main_arg1)
      ∧ m' ((c.tc : Thread Cert.ReferenceNormPreIdeal.nD Cert.ReferenceNormPreIdeal.τ).loc Cert.ReferenceNormPreIdeal.main_arg2) = m ((c.tc : Thread Cert.NormPreIdeal.nD Cert.NormPreIdeal.τ).loc Cert.NormPreIdeal.main_arg2)
      ∧ m' ((c.tc : Thread Cert.ReferenceNormPreIdeal.nD Cert.ReferenceNormPreIdeal.τ).loc Cert.ReferenceNormPreIdeal.main_arg3) = m ((c.tc : Thread Cert.NormPreIdeal.nD Cert.NormPreIdeal.τ).loc Cert.NormPreIdeal.main_arg3)) →
    ∃ (v0 : (c : Dev Cert.NormPreIdeal.nD) → Buf (Elt Ideal) ((c.tc : Thread Cert.NormPreIdeal.nD Cert.NormPreIdeal.τ).loc Cert.NormPreIdeal.main_v0_0)) (v1 : (c : Dev Cert.NormPreIdeal.nD) → Buf (Elt Ideal) ((c.tc : Thread Cert.NormPreIdeal.nD Cert.NormPreIdeal.τ).loc Cert.NormPreIdeal.main_v0_1)),
      θ_run (Cert.NormPreIdeal.defs (F := Ideal)) (onTc (τ := Cert.NormPreIdeal.τ) (Cert.NormPreIdeal.main (F := Ideal))) ⟨m, fun _ => 0, g⟩ (fun r => ∀ c : Dev Cert.NormPreIdeal.nD,
          r.2.mem ((c.tc : Thread Cert.NormPreIdeal.nD Cert.NormPreIdeal.τ).loc Cert.NormPreIdeal.main_v0_0) = v0 c
          ∧ r.2.mem ((c.tc : Thread Cert.NormPreIdeal.nD Cert.NormPreIdeal.τ).loc Cert.NormPreIdeal.main_v0_1) = v1 c
          ∧ r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
          ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1)
          ∧ r.2.mem ((c.tc : Thread Cert.NormPreIdeal.nD Cert.NormPreIdeal.τ).loc Cert.NormPreIdeal.main_arg2) = m ((c.tc : Thread Cert.NormPreIdeal.nD Cert.NormPreIdeal.τ).loc Cert.NormPreIdeal.main_arg2)
          ∧ r.2.mem ((c.tc : Thread Cert.NormPreIdeal.nD Cert.NormPreIdeal.τ).loc Cert.NormPreIdeal.main_arg3) = m ((c.tc : Thread Cert.NormPreIdeal.nD Cert.NormPreIdeal.τ).loc Cert.NormPreIdeal.main_arg3))
      ∧ θ_run (Cert.ReferenceNormPreIdeal.defs (F := Ideal)) (onTc (τ := Cert.ReferenceNormPreIdeal.τ) (Cert.ReferenceNormPreIdeal.main (F := Ideal))) ⟨m', fun _ => 0, g'⟩ (fun r => ∀ c : Dev Cert.ReferenceNormPreIdeal.nD,
          r.2.mem ((c.tc : Thread Cert.ReferenceNormPreIdeal.nD Cert.ReferenceNormPreIdeal.τ).loc Cert.ReferenceNormPreIdeal.main_v38) = v0 c
          ∧ r.2.mem ((c.tc : Thread Cert.ReferenceNormPreIdeal.nD Cert.ReferenceNormPreIdeal.τ).loc Cert.ReferenceNormPreIdeal.main_v37) = v1 c
          ∧ r.2.mem ((c.tc : Thread Cert.ReferenceNormPreIdeal.nD Cert.ReferenceNormPreIdeal.τ).loc Cert.ReferenceNormPreIdeal.main_arg0) = m' ((c.tc : Thread Cert.ReferenceNormPreIdeal.nD Cert.ReferenceNormPreIdeal.τ).loc Cert.ReferenceNormPreIdeal.main_arg0)
          ∧ r.2.mem ((c.tc : Thread Cert.ReferenceNormPreIdeal.nD Cert.ReferenceNormPreIdeal.τ).loc Cert.ReferenceNormPreIdeal.main_arg1) = m' ((c.tc : Thread Cert.ReferenceNormPreIdeal.nD Cert.ReferenceNormPreIdeal.τ).loc Cert.ReferenceNormPreIdeal.main_arg1)
          ∧ r.2.mem ((c.tc : Thread Cert.ReferenceNormPreIdeal.nD Cert.ReferenceNormPreIdeal.τ).loc Cert.ReferenceNormPreIdeal.main_arg2) = m' ((c.tc : Thread Cert.ReferenceNormPreIdeal.nD Cert.ReferenceNormPreIdeal.τ).loc Cert.ReferenceNormPreIdeal.main_arg2)
          ∧ r.2.mem ((c.tc : Thread Cert.ReferenceNormPreIdeal.nD Cert.ReferenceNormPreIdeal.τ).loc Cert.ReferenceNormPreIdeal.main_arg3) = m' ((c.tc : Thread Cert.ReferenceNormPreIdeal.nD Cert.ReferenceNormPreIdeal.τ).loc Cert.ReferenceNormPreIdeal.main_arg3))

def preserves_NormPost_NormPostIdeal : Prop :=
  True

def algebraic_NormPostIdeal_ReferenceNormPostIdeal [hNormPostIdeal : Cert.NormPostIdeal.Facts] [hReferenceNormPostIdeal : Cert.ReferenceNormPostIdeal.Facts] : Prop :=
  ∀ (m : (ℓ : Loc Cert.NormPostIdeal.nD Cert.NormPostIdeal.τ Cert.NormPostIdeal.sig) → Buf (Elt Ideal) ℓ) (g : Dev Cert.NormPostIdeal.nD → PrngReg)
    (m' : (ℓ : Loc Cert.ReferenceNormPostIdeal.nD Cert.ReferenceNormPostIdeal.τ Cert.ReferenceNormPostIdeal.sig) → Buf (Elt Ideal) ℓ) (g' : Dev Cert.ReferenceNormPostIdeal.nD → PrngReg), Pre_NormPostIdeal m →
    (∀ c : Dev Cert.NormPostIdeal.nD,
      m' ((c.tc : Thread Cert.ReferenceNormPostIdeal.nD Cert.ReferenceNormPostIdeal.τ).loc Cert.ReferenceNormPostIdeal.main_arg0) = m ((c.tc : Thread Cert.NormPostIdeal.nD Cert.NormPostIdeal.τ).loc Cert.NormPostIdeal.main_arg0)
      ∧ m' ((c.tc : Thread Cert.ReferenceNormPostIdeal.nD Cert.ReferenceNormPostIdeal.τ).loc Cert.ReferenceNormPostIdeal.main_arg1) = m ((c.tc : Thread Cert.NormPostIdeal.nD Cert.NormPostIdeal.τ).loc Cert.NormPostIdeal.main_arg1)
      ∧ m' ((c.tc : Thread Cert.ReferenceNormPostIdeal.nD Cert.ReferenceNormPostIdeal.τ).loc Cert.ReferenceNormPostIdeal.main_arg2) = m ((c.tc : Thread Cert.NormPostIdeal.nD Cert.NormPostIdeal.τ).loc Cert.NormPostIdeal.main_arg2)) →
    ∃ (v0 : (c : Dev Cert.NormPostIdeal.nD) → Buf (Elt Ideal) ((c.tc : Thread Cert.NormPostIdeal.nD Cert.NormPostIdeal.τ).loc Cert.NormPostIdeal.main_v1)) (v1 : (c : Dev Cert.NormPostIdeal.nD) → Buf (Elt Ideal) ((c.tc : Thread Cert.NormPostIdeal.nD Cert.NormPostIdeal.τ).loc Cert.NormPostIdeal.main_v0_1)) (v2 : (c : Dev Cert.NormPostIdeal.nD) → Buf (Elt Ideal) ((c.tc : Thread Cert.NormPostIdeal.nD Cert.NormPostIdeal.τ).loc Cert.NormPostIdeal.main_v0_2)),
      θ_run (Cert.NormPostIdeal.defs (F := Ideal)) (onTc (τ := Cert.NormPostIdeal.τ) (Cert.NormPostIdeal.main (F := Ideal))) ⟨m, fun _ => 0, g⟩ (fun r => ∀ c : Dev Cert.NormPostIdeal.nD,
          r.2.mem ((c.tc : Thread Cert.NormPostIdeal.nD Cert.NormPostIdeal.τ).loc Cert.NormPostIdeal.main_v1) = v0 c
          ∧ r.2.mem ((c.tc : Thread Cert.NormPostIdeal.nD Cert.NormPostIdeal.τ).loc Cert.NormPostIdeal.main_v0_1) = v1 c
          ∧ r.2.mem ((c.tc : Thread Cert.NormPostIdeal.nD Cert.NormPostIdeal.τ).loc Cert.NormPostIdeal.main_v0_2) = v2 c
          ∧ r.2.mem ((c.tc : Thread Cert.NormPostIdeal.nD Cert.NormPostIdeal.τ).loc Cert.NormPostIdeal.main_arg0) = m ((c.tc : Thread Cert.NormPostIdeal.nD Cert.NormPostIdeal.τ).loc Cert.NormPostIdeal.main_arg0)
          ∧ r.2.mem ((c.tc : Thread Cert.NormPostIdeal.nD Cert.NormPostIdeal.τ).loc Cert.NormPostIdeal.main_arg1) = m ((c.tc : Thread Cert.NormPostIdeal.nD Cert.NormPostIdeal.τ).loc Cert.NormPostIdeal.main_arg1)
          ∧ r.2.mem ((c.tc : Thread Cert.NormPostIdeal.nD Cert.NormPostIdeal.τ).loc Cert.NormPostIdeal.main_arg2) = m ((c.tc : Thread Cert.NormPostIdeal.nD Cert.NormPostIdeal.τ).loc Cert.NormPostIdeal.main_arg2))
      ∧ θ_run (Cert.ReferenceNormPostIdeal.defs (F := Ideal)) (onTc (τ := Cert.ReferenceNormPostIdeal.τ) (Cert.ReferenceNormPostIdeal.main (F := Ideal))) ⟨m', fun _ => 0, g'⟩ (fun r => ∀ c : Dev Cert.ReferenceNormPostIdeal.nD,
          r.2.mem ((c.tc : Thread Cert.ReferenceNormPostIdeal.nD Cert.ReferenceNormPostIdeal.τ).loc Cert.ReferenceNormPostIdeal.main_v36) = v0 c
          ∧ r.2.mem ((c.tc : Thread Cert.ReferenceNormPostIdeal.nD Cert.ReferenceNormPostIdeal.τ).loc Cert.ReferenceNormPostIdeal.main_v37) = v1 c
          ∧ r.2.mem ((c.tc : Thread Cert.ReferenceNormPostIdeal.nD Cert.ReferenceNormPostIdeal.τ).loc Cert.ReferenceNormPostIdeal.main_v39) = v2 c
          ∧ r.2.mem ((c.tc : Thread Cert.ReferenceNormPostIdeal.nD Cert.ReferenceNormPostIdeal.τ).loc Cert.ReferenceNormPostIdeal.main_arg0) = m' ((c.tc : Thread Cert.ReferenceNormPostIdeal.nD Cert.ReferenceNormPostIdeal.τ).loc Cert.ReferenceNormPostIdeal.main_arg0)
          ∧ r.2.mem ((c.tc : Thread Cert.ReferenceNormPostIdeal.nD Cert.ReferenceNormPostIdeal.τ).loc Cert.ReferenceNormPostIdeal.main_arg1) = m' ((c.tc : Thread Cert.ReferenceNormPostIdeal.nD Cert.ReferenceNormPostIdeal.τ).loc Cert.ReferenceNormPostIdeal.main_arg1)
          ∧ r.2.mem ((c.tc : Thread Cert.ReferenceNormPostIdeal.nD Cert.ReferenceNormPostIdeal.τ).loc Cert.ReferenceNormPostIdeal.main_arg2) = m' ((c.tc : Thread Cert.ReferenceNormPostIdeal.nD Cert.ReferenceNormPostIdeal.τ).loc Cert.ReferenceNormPostIdeal.main_arg2))

def preserves_ResNorm_ResNormIdeal : Prop :=
  True

def algebraic_ResNormIdeal_ReferenceResNormIdeal [hResNormIdeal : Cert.ResNormIdeal.Facts] [hReferenceResNormIdeal : Cert.ReferenceResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ReferenceResNormIdeal.nD Cert.ReferenceResNormIdeal.τ Cert.ReferenceResNormIdeal.sig) → Buf (Elt Ideal) ℓ) (g' : Dev Cert.ReferenceResNormIdeal.nD → PrngReg), Pre_ResNormIdeal m →
    (∀ c : Dev Cert.ResNormIdeal.nD,
      m' ((c.tc : Thread Cert.ReferenceResNormIdeal.nD Cert.ReferenceResNormIdeal.τ).loc Cert.ReferenceResNormIdeal.main_arg0) = m ((c.tc : Thread Cert.ResNormIdeal.nD Cert.ResNormIdeal.τ).loc Cert.ResNormIdeal.main_arg0)
      ∧ m' ((c.tc : Thread Cert.ReferenceResNormIdeal.nD Cert.ReferenceResNormIdeal.τ).loc Cert.ReferenceResNormIdeal.main_arg1) = m ((c.tc : Thread Cert.ResNormIdeal.nD Cert.ResNormIdeal.τ).loc Cert.ResNormIdeal.main_arg1)
      ∧ m' ((c.tc : Thread Cert.ReferenceResNormIdeal.nD Cert.ReferenceResNormIdeal.τ).loc Cert.ReferenceResNormIdeal.main_arg2) = m ((c.tc : Thread Cert.ResNormIdeal.nD Cert.ResNormIdeal.τ).loc Cert.ResNormIdeal.main_arg2)
      ∧ m' ((c.tc : Thread Cert.ReferenceResNormIdeal.nD Cert.ReferenceResNormIdeal.τ).loc Cert.ReferenceResNormIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.ReferenceResNormIdeal.defs (F := Ideal)) (onTc (τ := Cert.ReferenceResNormIdeal.τ) (Cert.ReferenceResNormIdeal.main (F := Ideal))) ⟨m', fun _ => 0, g'⟩ (fun r => ∀ c : Dev Cert.ReferenceResNormIdeal.nD,
          r.2.mem ((c.tc : Thread Cert.ReferenceResNormIdeal.nD Cert.ReferenceResNormIdeal.τ).loc Cert.ReferenceResNormIdeal.main_v14) = v0 c
          ∧ r.2.mem ((c.tc : Thread Cert.ReferenceResNormIdeal.nD Cert.ReferenceResNormIdeal.τ).loc Cert.ReferenceResNormIdeal.main_v28) = v1 c
          ∧ r.2.mem ((c.tc : Thread Cert.ReferenceResNormIdeal.nD Cert.ReferenceResNormIdeal.τ).loc Cert.ReferenceResNormIdeal.main_arg0) = m' ((c.tc : Thread Cert.ReferenceResNormIdeal.nD Cert.ReferenceResNormIdeal.τ).loc Cert.ReferenceResNormIdeal.main_arg0)
          ∧ r.2.mem ((c.tc : Thread Cert.ReferenceResNormIdeal.nD Cert.ReferenceResNormIdeal.τ).loc Cert.ReferenceResNormIdeal.main_arg1) = m' ((c.tc : Thread Cert.ReferenceResNormIdeal.nD Cert.ReferenceResNormIdeal.τ).loc Cert.ReferenceResNormIdeal.main_arg1)
          ∧ r.2.mem ((c.tc : Thread Cert.ReferenceResNormIdeal.nD Cert.ReferenceResNormIdeal.τ).loc Cert.ReferenceResNormIdeal.main_arg2) = m' ((c.tc : Thread Cert.ReferenceResNormIdeal.nD Cert.ReferenceResNormIdeal.τ).loc Cert.ReferenceResNormIdeal.main_arg2)
          ∧ r.2.mem ((c.tc : Thread Cert.ReferenceResNormIdeal.nD Cert.ReferenceResNormIdeal.τ).loc Cert.ReferenceResNormIdeal.main_arg3) = m' ((c.tc : Thread Cert.ReferenceResNormIdeal.nD Cert.ReferenceResNormIdeal.τ).loc Cert.ReferenceResNormIdeal.main_arg3))

def preserves_NormIn_NormInIdeal : Prop :=
  True

def algebraic_NormInIdeal_ReferenceNormInIdeal [hNormInIdeal : Cert.NormInIdeal.Facts] [hReferenceNormInIdeal : Cert.ReferenceNormInIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.ReferenceNormInIdeal.nD Cert.ReferenceNormInIdeal.τ Cert.ReferenceNormInIdeal.sig) → Buf (Elt Ideal) ℓ) (g' : Dev Cert.ReferenceNormInIdeal.nD → PrngReg), Pre_NormInIdeal m →
    (∀ c : Dev Cert.NormInIdeal.nD,
      m' ((c.tc : Thread Cert.ReferenceNormInIdeal.nD Cert.ReferenceNormInIdeal.τ).loc Cert.ReferenceNormInIdeal.main_arg0) = m ((c.tc : Thread Cert.NormInIdeal.nD Cert.NormInIdeal.τ).loc Cert.NormInIdeal.main_arg0)
      ∧ m' ((c.tc : Thread Cert.ReferenceNormInIdeal.nD Cert.ReferenceNormInIdeal.τ).loc Cert.ReferenceNormInIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v1) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.ReferenceNormInIdeal.defs (F := Ideal)) (onTc (τ := Cert.ReferenceNormInIdeal.τ) (Cert.ReferenceNormInIdeal.main (F := Ideal))) ⟨m', fun _ => 0, g'⟩ (fun r => ∀ c : Dev Cert.ReferenceNormInIdeal.nD,
          r.2.mem ((c.tc : Thread Cert.ReferenceNormInIdeal.nD Cert.ReferenceNormInIdeal.τ).loc Cert.ReferenceNormInIdeal.main_v13) = v0 c
          ∧ r.2.mem ((c.tc : Thread Cert.ReferenceNormInIdeal.nD Cert.ReferenceNormInIdeal.τ).loc Cert.ReferenceNormInIdeal.main_arg0) = m' ((c.tc : Thread Cert.ReferenceNormInIdeal.nD Cert.ReferenceNormInIdeal.τ).loc Cert.ReferenceNormInIdeal.main_arg0)
          ∧ r.2.mem ((c.tc : Thread Cert.ReferenceNormInIdeal.nD Cert.ReferenceNormInIdeal.τ).loc Cert.ReferenceNormInIdeal.main_arg1) = m' ((c.tc : Thread Cert.ReferenceNormInIdeal.nD Cert.ReferenceNormInIdeal.τ).loc Cert.ReferenceNormInIdeal.main_arg1))

def preserves_Merge_MergeIdeal : Prop :=
  True

def algebraic_MergeIdeal_ReferenceMergeIdeal [hMergeIdeal : Cert.MergeIdeal.Facts] [hReferenceMergeIdeal : Cert.ReferenceMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_MergeIdeal m →
    (∀ c : Dev Cert.MergeIdeal.nD,
      m' ((c.tc : Thread Cert.ReferenceMergeIdeal.nD Cert.ReferenceMergeIdeal.τ).loc Cert.ReferenceMergeIdeal.main_arg0) = m ((c.tc : Thread Cert.MergeIdeal.nD Cert.MergeIdeal.τ).loc Cert.MergeIdeal.main_arg0)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v2) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0))

def Claim : Prop :=
  ∃ (hKernel : Cert.Kernel.Facts) (hKernelIdeal : Cert.KernelIdeal.Facts) (hReferenceIdeal : Cert.ReferenceIdeal.Facts) (hKernelKV : Cert.KernelKV.Facts) (hKernelKVIdeal : Cert.KernelKVIdeal.Facts) (hReferenceKVIdeal : Cert.ReferenceKVIdeal.Facts) (hDact : Cert.Dact.Facts) (hDactIdeal : Cert.DactIdeal.Facts) (hReferenceDactIdeal : Cert.ReferenceDactIdeal.Facts) (hDwdown : Cert.Dwdown.Facts) (hDwdownIdeal : Cert.DwdownIdeal.Facts) (hReferenceDwdownIdeal : Cert.ReferenceDwdownIdeal.Facts) (hDh : Cert.Dh.Facts) (hDhIdeal : Cert.DhIdeal.Facts) (hReferenceDhIdeal : Cert.ReferenceDhIdeal.Facts) (hDwup : Cert.Dwup.Facts) (hDwupIdeal : Cert.DwupIdeal.Facts) (hReferenceDwupIdeal : Cert.ReferenceDwupIdeal.Facts) (hDwSquare : Cert.DwSquare.Facts) (hDwSquareIdeal : Cert.DwSquareIdeal.Facts) (hReferenceDwSquareIdeal : Cert.ReferenceDwSquareIdeal.Facts) (hDxSquare : Cert.DxSquare.Facts) (hDxSquareIdeal : Cert.DxSquareIdeal.Facts) (hReferenceDxSquareIdeal : Cert.ReferenceDxSquareIdeal.Facts) (hDwIn : Cert.DwIn.Facts) (hDwInIdeal : Cert.DwInIdeal.Facts) (hReferenceDwInIdeal : Cert.ReferenceDwInIdeal.Facts) (hDhIn : Cert.DhIn.Facts) (hDhInIdeal : Cert.DhInIdeal.Facts) (hReferenceDhInIdeal : Cert.ReferenceDhInIdeal.Facts) (hDwConv : Cert.DwConv.Facts) (hDwConvIdeal : Cert.DwConvIdeal.Facts) (hReferenceDwConvIdeal : Cert.ReferenceDwConvIdeal.Facts) (hDhConv : Cert.DhConv.Facts) (hDhConvIdeal : Cert.DhConvIdeal.Facts) (hReferenceDhConvIdeal : Cert.ReferenceDhConvIdeal.Facts) (hUp : Cert.Up.Facts) (hUpIdeal : Cert.UpIdeal.Facts) (hReferenceUpIdeal : Cert.ReferenceUpIdeal.Facts) (hDown : Cert.Down.Facts) (hDownIdeal : Cert.DownIdeal.Facts) (hReferenceDownIdeal : Cert.ReferenceDownIdeal.Facts) (hPw1 : Cert.Pw1.Facts) (hPw1Ideal : Cert.Pw1Ideal.Facts) (hReferencePw1Ideal : Cert.ReferencePw1Ideal.Facts) (hPw2 : Cert.Pw2.Facts) (hPw2Ideal : Cert.Pw2Ideal.Facts) (hReferencePw2Ideal : Cert.ReferencePw2Ideal.Facts) (hAttnIn : Cert.AttnIn.Facts) (hAttnInIdeal : Cert.AttnInIdeal.Facts) (hReferenceAttnInIdeal : Cert.ReferenceAttnInIdeal.Facts) (hGateIn : Cert.GateIn.Facts) (hGateInIdeal : Cert.GateInIdeal.Facts) (hReferenceGateInIdeal : Cert.ReferenceGateInIdeal.Facts) (hAttnOut : Cert.AttnOut.Facts) (hAttnOutIdeal : Cert.AttnOutIdeal.Facts) (hReferenceAttnOutIdeal : Cert.ReferenceAttnOutIdeal.Facts) (hNormPre : Cert.NormPre.Facts) (hNormPreIdeal : Cert.NormPreIdeal.Facts) (hReferenceNormPreIdeal : Cert.ReferenceNormPreIdeal.Facts) (hNormPost : Cert.NormPost.Facts) (hNormPostIdeal : Cert.NormPostIdeal.Facts) (hReferenceNormPostIdeal : Cert.ReferenceNormPostIdeal.Facts) (hResNorm : Cert.ResNorm.Facts) (hResNormIdeal : Cert.ResNormIdeal.Facts) (hReferenceResNormIdeal : Cert.ReferenceResNormIdeal.Facts) (hNormIn : Cert.NormIn.Facts) (hNormInIdeal : Cert.NormInIdeal.Facts) (hReferenceNormInIdeal : Cert.ReferenceNormInIdeal.Facts) (hMerge : Cert.Merge.Facts) (hMergeIdeal : Cert.MergeIdeal.Facts) (hReferenceMergeIdeal : Cert.ReferenceMergeIdeal.Facts) (hPre_finite : Cert.Pre_finite.Facts) (hPre_finite_u : Cert.Pre_finite_u.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelKV (hKernelKV := hKernelKV)
    ∧ quiescent_KernelKVIdeal (hKernelKVIdeal := hKernelKVIdeal)
    ∧ quiescent_KernelKVIdeal_pre_finite (hKernelKVIdeal := hKernelKVIdeal) (hPre_finite := hPre_finite)
    ∧ quiescent_ReferenceKVIdeal (hReferenceKVIdeal := hReferenceKVIdeal)
    ∧ quiescent_ReferenceKVIdeal_pre_finite (hReferenceKVIdeal := hReferenceKVIdeal) (hPre_finite := hPre_finite)
    ∧ quiescent_Dact (hDact := hDact)
    ∧ quiescent_DactIdeal (hDactIdeal := hDactIdeal)
    ∧ quiescent_DactIdeal_pre_finite_u (hDactIdeal := hDactIdeal) (hPre_finite_u := hPre_finite_u)
    ∧ quiescent_ReferenceDactIdeal (hReferenceDactIdeal := hReferenceDactIdeal)
    ∧ quiescent_ReferenceDactIdeal_pre_finite_u (hReferenceDactIdeal := hReferenceDactIdeal) (hPre_finite_u := hPre_finite_u)
    ∧ quiescent_Dwdown (hDwdown := hDwdown)
    ∧ quiescent_DwdownIdeal (hDwdownIdeal := hDwdownIdeal)
    ∧ quiescent_ReferenceDwdownIdeal (hReferenceDwdownIdeal := hReferenceDwdownIdeal)
    ∧ quiescent_Dh (hDh := hDh)
    ∧ quiescent_DhIdeal (hDhIdeal := hDhIdeal)
    ∧ quiescent_ReferenceDhIdeal (hReferenceDhIdeal := hReferenceDhIdeal)
    ∧ quiescent_Dwup (hDwup := hDwup)
    ∧ quiescent_DwupIdeal (hDwupIdeal := hDwupIdeal)
    ∧ quiescent_ReferenceDwupIdeal (hReferenceDwupIdeal := hReferenceDwupIdeal)
    ∧ quiescent_DwSquare (hDwSquare := hDwSquare)
    ∧ quiescent_DwSquareIdeal (hDwSquareIdeal := hDwSquareIdeal)
    ∧ quiescent_ReferenceDwSquareIdeal (hReferenceDwSquareIdeal := hReferenceDwSquareIdeal)
    ∧ quiescent_DxSquare (hDxSquare := hDxSquare)
    ∧ quiescent_DxSquareIdeal (hDxSquareIdeal := hDxSquareIdeal)
    ∧ quiescent_ReferenceDxSquareIdeal (hReferenceDxSquareIdeal := hReferenceDxSquareIdeal)
    ∧ quiescent_DwIn (hDwIn := hDwIn)
    ∧ quiescent_DwInIdeal (hDwInIdeal := hDwInIdeal)
    ∧ quiescent_ReferenceDwInIdeal (hReferenceDwInIdeal := hReferenceDwInIdeal)
    ∧ quiescent_DhIn (hDhIn := hDhIn)
    ∧ quiescent_DhInIdeal (hDhInIdeal := hDhInIdeal)
    ∧ quiescent_ReferenceDhInIdeal (hReferenceDhInIdeal := hReferenceDhInIdeal)
    ∧ quiescent_DwConv (hDwConv := hDwConv)
    ∧ quiescent_DwConvIdeal (hDwConvIdeal := hDwConvIdeal)
    ∧ quiescent_ReferenceDwConvIdeal (hReferenceDwConvIdeal := hReferenceDwConvIdeal)
    ∧ quiescent_DhConv (hDhConv := hDhConv)
    ∧ quiescent_DhConvIdeal (hDhConvIdeal := hDhConvIdeal)
    ∧ quiescent_ReferenceDhConvIdeal (hReferenceDhConvIdeal := hReferenceDhConvIdeal)
    ∧ quiescent_Up (hUp := hUp)
    ∧ quiescent_UpIdeal (hUpIdeal := hUpIdeal)
    ∧ quiescent_ReferenceUpIdeal (hReferenceUpIdeal := hReferenceUpIdeal)
    ∧ quiescent_Down (hDown := hDown)
    ∧ quiescent_DownIdeal (hDownIdeal := hDownIdeal)
    ∧ quiescent_ReferenceDownIdeal (hReferenceDownIdeal := hReferenceDownIdeal)
    ∧ quiescent_Pw1 (hPw1 := hPw1)
    ∧ quiescent_Pw1Ideal (hPw1Ideal := hPw1Ideal)
    ∧ quiescent_ReferencePw1Ideal (hReferencePw1Ideal := hReferencePw1Ideal)
    ∧ quiescent_Pw2 (hPw2 := hPw2)
    ∧ quiescent_Pw2Ideal (hPw2Ideal := hPw2Ideal)
    ∧ quiescent_ReferencePw2Ideal (hReferencePw2Ideal := hReferencePw2Ideal)
    ∧ quiescent_AttnIn (hAttnIn := hAttnIn)
    ∧ quiescent_AttnInIdeal (hAttnInIdeal := hAttnInIdeal)
    ∧ quiescent_ReferenceAttnInIdeal (hReferenceAttnInIdeal := hReferenceAttnInIdeal)
    ∧ quiescent_GateIn (hGateIn := hGateIn)
    ∧ quiescent_GateInIdeal (hGateInIdeal := hGateInIdeal)
    ∧ quiescent_ReferenceGateInIdeal (hReferenceGateInIdeal := hReferenceGateInIdeal)
    ∧ quiescent_AttnOut (hAttnOut := hAttnOut)
    ∧ quiescent_AttnOutIdeal (hAttnOutIdeal := hAttnOutIdeal)
    ∧ quiescent_ReferenceAttnOutIdeal (hReferenceAttnOutIdeal := hReferenceAttnOutIdeal)
    ∧ quiescent_NormPre (hNormPre := hNormPre)
    ∧ quiescent_NormPreIdeal (hNormPreIdeal := hNormPreIdeal)
    ∧ quiescent_ReferenceNormPreIdeal (hReferenceNormPreIdeal := hReferenceNormPreIdeal)
    ∧ quiescent_NormPost (hNormPost := hNormPost)
    ∧ quiescent_NormPostIdeal (hNormPostIdeal := hNormPostIdeal)
    ∧ quiescent_ReferenceNormPostIdeal (hReferenceNormPostIdeal := hReferenceNormPostIdeal)
    ∧ quiescent_ResNorm (hResNorm := hResNorm)
    ∧ quiescent_ResNormIdeal (hResNormIdeal := hResNormIdeal)
    ∧ quiescent_ReferenceResNormIdeal (hReferenceResNormIdeal := hReferenceResNormIdeal)
    ∧ quiescent_NormIn (hNormIn := hNormIn)
    ∧ quiescent_NormInIdeal (hNormInIdeal := hNormInIdeal)
    ∧ quiescent_ReferenceNormInIdeal (hReferenceNormInIdeal := hReferenceNormInIdeal)
    ∧ quiescent_Merge (hMerge := hMerge)
    ∧ quiescent_MergeIdeal (hMergeIdeal := hMergeIdeal)
    ∧ quiescent_ReferenceMergeIdeal (hReferenceMergeIdeal := hReferenceMergeIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelKV_KernelKVIdeal
    ∧ algebraic_KernelKVIdeal_ReferenceKVIdeal_pre_finite (hKernelKVIdeal := hKernelKVIdeal) (hReferenceKVIdeal := hReferenceKVIdeal) (hPre_finite := hPre_finite)
    ∧ preserves_Dact_DactIdeal
    ∧ algebraic_DactIdeal_ReferenceDactIdeal_pre_finite_u (hDactIdeal := hDactIdeal) (hReferenceDactIdeal := hReferenceDactIdeal) (hPre_finite_u := hPre_finite_u)
    ∧ preserves_Dwdown_DwdownIdeal
    ∧ algebraic_DwdownIdeal_ReferenceDwdownIdeal (hDwdownIdeal := hDwdownIdeal) (hReferenceDwdownIdeal := hReferenceDwdownIdeal)
    ∧ preserves_Dh_DhIdeal
    ∧ algebraic_DhIdeal_ReferenceDhIdeal (hDhIdeal := hDhIdeal) (hReferenceDhIdeal := hReferenceDhIdeal)
    ∧ preserves_Dwup_DwupIdeal
    ∧ algebraic_DwupIdeal_ReferenceDwupIdeal (hDwupIdeal := hDwupIdeal) (hReferenceDwupIdeal := hReferenceDwupIdeal)
    ∧ preserves_DwSquare_DwSquareIdeal
    ∧ algebraic_DwSquareIdeal_ReferenceDwSquareIdeal (hDwSquareIdeal := hDwSquareIdeal) (hReferenceDwSquareIdeal := hReferenceDwSquareIdeal)
    ∧ preserves_DxSquare_DxSquareIdeal
    ∧ algebraic_DxSquareIdeal_ReferenceDxSquareIdeal (hDxSquareIdeal := hDxSquareIdeal) (hReferenceDxSquareIdeal := hReferenceDxSquareIdeal)
    ∧ preserves_DwIn_DwInIdeal
    ∧ algebraic_DwInIdeal_ReferenceDwInIdeal (hDwInIdeal := hDwInIdeal) (hReferenceDwInIdeal := hReferenceDwInIdeal)
    ∧ preserves_DhIn_DhInIdeal
    ∧ algebraic_DhInIdeal_ReferenceDhInIdeal (hDhInIdeal := hDhInIdeal) (hReferenceDhInIdeal := hReferenceDhInIdeal)
    ∧ preserves_DwConv_DwConvIdeal
    ∧ algebraic_DwConvIdeal_ReferenceDwConvIdeal (hDwConvIdeal := hDwConvIdeal) (hReferenceDwConvIdeal := hReferenceDwConvIdeal)
    ∧ preserves_DhConv_DhConvIdeal
    ∧ algebraic_DhConvIdeal_ReferenceDhConvIdeal (hDhConvIdeal := hDhConvIdeal) (hReferenceDhConvIdeal := hReferenceDhConvIdeal)
    ∧ preserves_Up_UpIdeal
    ∧ algebraic_UpIdeal_ReferenceUpIdeal (hUpIdeal := hUpIdeal) (hReferenceUpIdeal := hReferenceUpIdeal)
    ∧ preserves_Down_DownIdeal
    ∧ algebraic_DownIdeal_ReferenceDownIdeal (hDownIdeal := hDownIdeal) (hReferenceDownIdeal := hReferenceDownIdeal)
    ∧ preserves_Pw1_Pw1Ideal
    ∧ algebraic_Pw1Ideal_ReferencePw1Ideal (hPw1Ideal := hPw1Ideal) (hReferencePw1Ideal := hReferencePw1Ideal)
    ∧ preserves_Pw2_Pw2Ideal
    ∧ algebraic_Pw2Ideal_ReferencePw2Ideal (hPw2Ideal := hPw2Ideal) (hReferencePw2Ideal := hReferencePw2Ideal)
    ∧ preserves_AttnIn_AttnInIdeal
    ∧ algebraic_AttnInIdeal_ReferenceAttnInIdeal (hAttnInIdeal := hAttnInIdeal) (hReferenceAttnInIdeal := hReferenceAttnInIdeal)
    ∧ preserves_GateIn_GateInIdeal
    ∧ algebraic_GateInIdeal_ReferenceGateInIdeal (hGateInIdeal := hGateInIdeal) (hReferenceGateInIdeal := hReferenceGateInIdeal)
    ∧ preserves_AttnOut_AttnOutIdeal
    ∧ algebraic_AttnOutIdeal_ReferenceAttnOutIdeal (hAttnOutIdeal := hAttnOutIdeal) (hReferenceAttnOutIdeal := hReferenceAttnOutIdeal)
    ∧ preserves_NormPre_NormPreIdeal
    ∧ algebraic_NormPreIdeal_ReferenceNormPreIdeal (hNormPreIdeal := hNormPreIdeal) (hReferenceNormPreIdeal := hReferenceNormPreIdeal)
    ∧ preserves_NormPost_NormPostIdeal
    ∧ algebraic_NormPostIdeal_ReferenceNormPostIdeal (hNormPostIdeal := hNormPostIdeal) (hReferenceNormPostIdeal := hReferenceNormPostIdeal)
    ∧ preserves_ResNorm_ResNormIdeal
    ∧ algebraic_ResNormIdeal_ReferenceResNormIdeal (hResNormIdeal := hResNormIdeal) (hReferenceResNormIdeal := hReferenceResNormIdeal)
    ∧ preserves_NormIn_NormInIdeal
    ∧ algebraic_NormInIdeal_ReferenceNormInIdeal (hNormInIdeal := hNormInIdeal) (hReferenceNormInIdeal := hReferenceNormInIdeal)
    ∧ preserves_Merge_MergeIdeal
    ∧ algebraic_MergeIdeal_ReferenceMergeIdeal (hMergeIdeal := hMergeIdeal) (hReferenceMergeIdeal := hReferenceMergeIdeal)
-- ==== Pre_finite.lean ====
abbrev S16x8192x64 : Shape := ⟨3, ![16, 8192, 64]⟩
abbrev S16x8192 : Shape := ⟨2, ![16, 8192]⟩
abbrev S_ : Shape := ⟨0, ![]⟩

class Facts : Prop where
  bcast_S_S16x8192x64 : S_.BroadcastsInDim S16x8192x64 (![] : Fin 0 → Fin S16x8192x64.rank)
  bcast_S_S16x8192 : S_.BroadcastsInDim S16x8192 (![] : Fin 0 → Fin S16x8192.rank)

variable [Facts]

def fn {F : FTy → Type} [FloatOps F] (main_arg0 : FVec F S16x8192x64 .f32) (main_arg1 : FVec F S16x8192x64 .f32) (main_arg2 : FVec F S16x8192x64 .f32) (main_arg3 : FVec F S16x8192 .f32) (main_arg4 : FVec F S16x8192x64 .f32) : IVec S16x8192x64 1 × IVec S16x8192x64 1 × IVec S16x8192x64 1 × IVec S16x8192 1 × IVec S16x8192x64 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_v3 : FVec F S16x8192x64 .f32 := Host.absf main_arg1
  let main_cst_0 : FVec F S_ .f32 := constant S_ .f32 0x7F800000#32
  let main_v4 : FVec F S16x8192x64 .f32 := broadcastInDim S16x8192x64 ![] bcast_S_S16x8192x64 main_cst_0
  let main_v5 : IVec S16x8192x64 1 := cmpf .olt main_v3 main_v4
  let main_v6 : FVec F S16x8192x64 .f32 := Host.absf main_arg2
  let main_cst_1 : FVec F S_ .f32 := constant S_ .f32 0x7F800000#32
  let main_v7 : FVec F S16x8192x64 .f32 := broadcastInDim S16x8192x64 ![] bcast_S_S16x8192x64 main_cst_1
  let main_v8 : IVec S16x8192x64 1 := cmpf .olt main_v6 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_v12 : FVec F S16x8192x64 .f32 := Host.absf main_arg4
  let main_cst_3 : FVec F S_ .f32 := constant S_ .f32 0x7F800000#32
  let main_v13 : FVec F S16x8192x64 .f32 := broadcastInDim S16x8192x64 ![] bcast_S_S16x8192x64 main_cst_3
  let main_v14 : IVec S16x8192x64 1 := cmpf .olt main_v12 main_v13
  (main_v2, main_v5, main_v8, main_v11, main_v14)
-- ==== Pre_finite_u.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

class Facts : Prop where
  bcast_S_S8192x4096 : S_.BroadcastsInDim S8192x4096 (![] : Fin 0 → Fin S8192x4096.rank)

variable [Facts]

def fn {F : FTy → Type} [FloatOps F] (main_arg0 : FVec F S8192x4096 .f32) (main_arg1 : FVec F S4096x1024 .f32) (main_arg2 : FVec F S8192x1024 .f32) : IVec S8192x4096 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  main_v2
-- ==== Kernel.lean ====
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x3 : Shape := ⟨3, ![16, 8192, 3]⟩
abbrev S16x8192x55 : Shape := ⟨3, ![16, 8192, 55]⟩
abbrev S16x8192x128 : Shape := ⟨3, ![16, 8192, 128]⟩
abbrev S16x8192x60 : Shape := ⟨3, ![16, 8192, 60]⟩
abbrev S16x8192x61 : Shape := ⟨3, ![16, 8192, 61]⟩
abbrev S16 : Shape := ⟨1, ![16]⟩
abbrev S16x16 : Shape := ⟨2, ![16, 16]⟩
abbrev S2x512x128 : Shape := ⟨3, ![2, 512, 128]⟩
abbrev S2x8192x128 : Shape := ⟨3, ![2, 8192, 128]⟩
abbrev S1 : Shape := ⟨1, ![1]⟩
abbrev S1x1 : Shape := ⟨2, ![1, 1]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 149
  | .vmem => 11
  | .smem => 3
  | _ => 0

abbrev hbmTy0_0 (i : Nat) : BufTy := match i % 128 with
  | 0 => ⟨S16x8192x64, .f32⟩
  | 1 => ⟨S16x8192x64, .f32⟩
  | 2 => ⟨S16x8192x64, .f32⟩
  | 3 => ⟨S16x8192, .f32⟩
  | 4 => ⟨S16x8192x64, .f32⟩
  | 5 => ⟨S16x8192x8192, .f32⟩
  | 6 => ⟨S_, .f32⟩
  | 7 => ⟨S16x8192x8192, .f32⟩
  | 8 => ⟨S16x8192x8192, .f32⟩
  | 9 => ⟨S16x8192x1, .f32⟩
  | 10 => ⟨S16x1x8192, .f32⟩
  | 11 => ⟨S16x8192x8192, .f32⟩
  | 12 => ⟨S16x8192x8192, .f32⟩
  | 13 => ⟨S16x8192x8192, .f32⟩
  | 14 => ⟨S16x8192x8192, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S_, .f32⟩
  | 22 => ⟨S_, .f32⟩
  | 23 => ⟨S16x8192x8192, .i1⟩
  | 24 => ⟨S16x8192x8192, .f32⟩
  | 25 => ⟨S16x8192x8192, .f32⟩
  | 26 => ⟨S_, .f32⟩
  | 27 => ⟨S16x8192, .f32⟩
  | 28 => ⟨S16x8192x1, .f32⟩
  | 29 => ⟨S16x8192x8192, .f32⟩
  | 30 => ⟨S16x8192x8192, .f32⟩
  | 31 => ⟨S16x8192x8192, .f32⟩
  | 32 => ⟨S_, .f32⟩
  | 33 => ⟨S16x8192, .f32⟩
  | 34 => ⟨S16x8192x1, .f32⟩
  | 35 => ⟨S16x8192x1, .f32⟩
  | 36 => ⟨S16x8192x1, .f32⟩
  | 37 => ⟨S16x8192, .f32⟩
  | 38 => ⟨S16x8192x8192, .f32⟩
  | 39 => ⟨S16x8192x8192, .f32⟩
  | 40 => ⟨S16x8192x64, .f32⟩
  | 41 => ⟨S16x8192x64, .f32⟩
  | 42 => ⟨S_, .f32⟩
  | 43 => ⟨S16x8192, .f32⟩
  | 44 => ⟨S16x8192, .bf16⟩
  | 45 => ⟨S16x8192, .f32⟩
  | 46 => ⟨S16x8192, .f32⟩
  | 47 => ⟨S16x8192, .bf16⟩
  | 48 => ⟨S16x8192, .f32⟩
  | 49 => ⟨S16x8192, .f32⟩
  | 50 => ⟨S16x8192, .bf16⟩
  | 51 => ⟨S16x8192, .f32⟩
  | 52 => ⟨S16x8192, .bf16⟩
  | 53 => ⟨S16x8192, .f32⟩
  | 54 => ⟨S16x8192, .f32⟩
  | 55 => ⟨S16x8192, .bf16⟩
  | 56 => ⟨S16x8192, .f32⟩
  | 57 => ⟨S16x8192, .f32⟩
  | 58 => ⟨S16x8192, .bf16⟩
  | 59 => ⟨S16x8192, .f32⟩
  | 60 => ⟨S16x8192, .bf16⟩
  | 61 => ⟨S16x8192, .f32⟩
  | 62 => ⟨S16x8192, .f32⟩
  | 63 => ⟨S16x8192, .bf16⟩
  | 64 => ⟨S16x8192, .f32⟩
  | 65 => ⟨S16x8192, .f32⟩
  | 66 => ⟨S16x8192, .bf16⟩
  | 67 => ⟨S16x8192, .f32⟩
  | 68 => ⟨S16x8192x64, .bf16⟩
  | 69 => ⟨S16x8192x64, .f32⟩
  | 70 => ⟨S_, .f32⟩
  | 71 => ⟨S16x8192x64, .f32⟩
  | 72 => ⟨S16x8192x64, .f32⟩
  | 73 => ⟨S16x8192x64, .bf16⟩
  | 74 => ⟨S16x8192x64, .f32⟩
  | 75 => ⟨S16x8192x64, .bf16⟩
  | 76 => ⟨S16x8192x64, .f32⟩
  | 77 => ⟨S16x8192x1, .f32⟩
  | 78 => ⟨S16x8192x1, .f32⟩
  | 79 => ⟨S16x8192x1, .f32⟩
  | 80 => ⟨S_, .f32⟩
  | 81 => ⟨S16x8192x3, .f32⟩
  | 82 => ⟨S16x8192, .f32⟩
  | 83 => ⟨S16x8192x1, .f32⟩
  | 84 => ⟨S16x8192, .f32⟩
  | 85 => ⟨S16x8192x1, .f32⟩
  | 86 => ⟨S16x8192, .f32⟩
  | 87 => ⟨S16x8192x1, .f32⟩
  | 88 => ⟨S_, .f32⟩
  | 89 => ⟨S16x8192x55, .f32⟩
  | 90 => ⟨S16x8192x128, .f32⟩
  | 91 => ⟨S_, .f32⟩
  | 92 => ⟨S16x8192x3, .f32⟩
  | 93 => ⟨S16x8192, .f32⟩
  | 94 => ⟨S16x8192x1, .f32⟩
  | 95 => ⟨S16x8192, .f32⟩
  | 96 => ⟨S16x8192x1, .f32⟩
  | 97 => ⟨S16x8192, .f32⟩
  | 98 => ⟨S16x8192x1, .f32⟩
  | 99 => ⟨S_, .f32⟩
  | 100 => ⟨S16x8192x3, .f32⟩
  | 101 => ⟨S_, .f32⟩
  | 102 => ⟨S16x8192x55, .f32⟩
  | 103 => ⟨S16x8192x128, .f32⟩
  | 104 => ⟨S_, .f32⟩
  | 105 => ⟨S16x8192x3, .f32⟩
  | 106 => ⟨S16x8192x3, .f32⟩
  | 107 => ⟨S_, .f32⟩
  | 108 => ⟨S16x8192x1, .f32⟩
  | 109 => ⟨S_, .f32⟩
  | 110 => ⟨S16x8192x60, .f32⟩
  | 111 => ⟨S16x8192x128, .f32⟩
  | 112 => ⟨S16x8192x1, .f32⟩
  | 113 => ⟨S16x8192x1, .f32⟩
  | 114 => ⟨S16x8192x1, .f32⟩
  | 115 => ⟨S_, .f32⟩
  | 116 => ⟨S16x8192x61, .f32⟩
  | 117 => ⟨S16x8192x128, .f32⟩
  | 118 => ⟨S16x8192x64, .f32⟩
  | 119 => ⟨S_, .f32⟩
  | 120 => ⟨S16x8192, .f32⟩
  | 121 => ⟨S_, .f32⟩
  | 122 => ⟨S16, .f32⟩
  | 123 => ⟨S16x8192x64, .f32⟩
  | 124 => ⟨S_, .f32⟩
  | 125 => ⟨S16x8192, .f32⟩
  | 126 => ⟨S_, .f32⟩
  | 127 => ⟨S16, .f32⟩
  | _ => ⟨S16x8192x64, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S_, .f32⟩
  | 6 => ⟨S16, .f32⟩
  | 7 => ⟨S16, .f32⟩
  | 8 => ⟨S16x16, .f32⟩
  | 9 => ⟨S16x16, .f32⟩
  | 10 => ⟨S16x8192x128, .bf16⟩
  | 11 => ⟨S16x8192x128, .bf16⟩
  | 12 => ⟨S16x8192x128, .bf16⟩
  | 13 => ⟨S16x8192x128, .bf16⟩
  | 14 => ⟨S16x8192x128, .f32⟩
  | 15 => ⟨S16x8192x64, .f32⟩
  | 16 => ⟨S_, .f32⟩
  | 17 => ⟨S16x8192x64, .f32⟩
  | 18 => ⟨S16x8192x64, .f32⟩
  | 19 => ⟨S16x8192x1, .f32⟩
  | 20 => ⟨S16x8192, .f32⟩
  | _ => ⟨S16x8192x64, .f32⟩

abbrev hbmTy (i : Nat) : BufTy := match i / 128 with
  | 0 => hbmTy0_0 i
  | 1 => hbmTy0_1 i
  | _ => ⟨S16x8192x64, .f32⟩

abbrev bufTy : (tb : Table) → Fin (tcTables nBuf tb) → BufTy
  | .hbm, ⟨i, _⟩ => hbmTy i
  | .local _ .vmem, ⟨0, _⟩ => ⟨S2x512x128, .bf16⟩
  | .local _ .vmem, ⟨1, _⟩ => ⟨S2x512x128, .bf16⟩
  | .local _ .vmem, ⟨2, _⟩ => ⟨S2x8192x128, .bf16⟩
  | .local _ .vmem, ⟨3, _⟩ => ⟨S2x8192x128, .bf16⟩
  | .local _ .vmem, ⟨4, _⟩ => ⟨S2x512x128, .bf16⟩
  | .local _ .vmem, ⟨5, _⟩ => ⟨S2x512x128, .bf16⟩
  | .local _ .vmem, ⟨6, _⟩ => ⟨S2x8192x128, .bf16⟩
  | .local _ .vmem, ⟨7, _⟩ => ⟨S2x8192x128, .bf16⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .smem, ⟨0, _⟩ => ⟨S16, .f32⟩
  | .local _ .smem, ⟨1, _⟩ => ⟨S16x16, .f32⟩
  | .local _ .smem, ⟨2, _⟩ => ⟨S16x16, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_5 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_v73 : Ref sig .tc := ⟨.hbm, 89, rfl⟩
abbrev main_v74 : Ref sig .tc := ⟨.hbm, 90, rfl⟩
abbrev main_cst_7 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_8 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_13 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_14 : Ref sig .tc := ⟨.hbm, 119, rfl⟩
abbrev main_v96 : Ref sig .tc := ⟨.hbm, 120, rfl⟩
abbrev main_cst_15 : Ref sig .tc := ⟨.hbm, 121, rfl⟩
abbrev main_v97 : Ref sig .tc := ⟨.hbm, 122, rfl⟩
abbrev main_v98 : Ref sig .tc := ⟨.hbm, 123, rfl⟩
abbrev main_cst_16 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_18 : Ref sig .tc := ⟨.hbm, 130, rfl⟩
abbrev main_v103 : Ref sig .tc := ⟨.hbm, 131, rfl⟩
abbrev main_v104 : Ref sig .tc := ⟨.hbm, 132, rfl⟩
abbrev main_cst_19 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_20 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 16], ![false, false]⟩

def k0_off1 (i : grid0.Coords) : Fin 1 → Nat :=
  let c2_i32 : BitVec 32 := 2#32
  let arg0 : BitVec 32 := BitVec.ofNat 32 (i 0).val
  let v0 : BitVec 32 := Scalar.muli c2_i32 arg0
  let v5 : Index := Scalar.indexCast v0
  ![v5.toNat]
def k0_off2 (i : grid0.Coords) : Fin 2 → Nat :=
  let c2_i32 : BitVec 32 := 2#32
  let arg0 : BitVec 32 := BitVec.ofNat 32 (i 0).val
  let v0 : BitVec 32 := Scalar.muli c2_i32 arg0
  let v7 : Index := Scalar.indexCast v0
  let arg1 : BitVec 32 := BitVec.ofNat 32 (i 1).val
  let v8 : Index := Scalar.indexCast arg1
  ![v7.toNat, v8.toNat]
@[reducible] def k0_t1_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_3 : BitVec 32 := 1#32
  ⟨c0_i32, v15, c1_i32_3⟩
def k0_off3 (i : grid0.Coords) (k0_t1 : Fin (k0_t1_loop i).trips) : Fin 2 → Nat :=
  let c2_i32 : BitVec 32 := 2#32
  let arg0 : BitVec 32 := BitVec.ofNat 32 (i 0).val
  let v0 : BitVec 32 := Scalar.muli c2_i32 arg0
  let v96 : Index := Scalar.indexCast v0
  let c0_i32 : BitVec 32 := 0#32
  let c1_i32_3 : BitVec 32 := 1#32
  let arg11 : BitVec 32 := Scf.iv c0_i32 c1_i32_3 k0_t1
  let v97 : Index := Scalar.indexCast arg11
  ![v96.toNat, v97.toNat]
@[reducible] def k0_t2_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_4 : BitVec 32 := 1#32
  ⟨v15, v12, c1_i32_4⟩
def k0_off4 (i : grid0.Coords) (k0_t2 : Fin (k0_t2_loop i).trips) : Fin 2 → Nat :=
  let c2_i32 : BitVec 32 := 2#32
  let arg0 : BitVec 32 := BitVec.ofNat 32 (i 0).val
  let v0 : BitVec 32 := Scalar.muli c2_i32 arg0
  let v96 : Index := Scalar.indexCast v0
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_4 : BitVec 32 := 1#32
  let arg11 : BitVec 32 := Scf.iv v15 c1_i32_4 k0_t2
  let v97 : Index := Scalar.indexCast arg11
  ![v96.toNat, v97.toNat]
def k0_off5 (i : grid0.Coords) : Fin 1 → Nat :=
  let c2_i32 : BitVec 32 := 2#32
  let arg0 : BitVec 32 := BitVec.ofNat 32 (i 0).val
  let v0 : BitVec 32 := Scalar.muli c2_i32 arg0
  let c1_i32_5 : BitVec 32 := 1#32
  let v18 : BitVec 32 := Scalar.addi v0 c1_i32_5
  let v19 : Index := Scalar.indexCast v18
  ![v19.toNat]
def k0_off6 (i : grid0.Coords) : Fin 2 → Nat :=
  let c2_i32 : BitVec 32 := 2#32
  let arg0 : BitVec 32 := BitVec.ofNat 32 (i 0).val
  let v0 : BitVec 32 := Scalar.muli c2_i32 arg0
  let c1_i32_5 : BitVec 32 := 1#32
  let v18 : BitVec 32 := Scalar.addi v0 c1_i32_5
  let v21 : Index := Scalar.indexCast v18
  let arg1 : BitVec 32 := BitVec.ofNat 32 (i 1).val
  let v22 : Index := Scalar.indexCast arg1
  ![v21.toNat, v22.toNat]
@[reducible] def k0_t3_loop (i : grid0.Coords) : Scf.Loop 32 :=
  let c0_i32_6 : BitVec 32 := 0#32
  let arg1 : BitVec 32 := BitVec.ofNat 32 (i 1).val
  let v25 : BitVec 32 := Scalar.subi arg1 c0_i32_6
  let c1_i32_8 : BitVec 32 := 1#32
  let v27 : BitVec 32 := Scalar.divsi v25 c1_i32_8
  let v28 : BitVec 32 := Scalar.muli v27 c1_i32_8
  let v29 : BitVec 32 := Scalar.addi c0_i32_6 v28
  let c1_i32_9 : BitVec 32 := 1#32
  ⟨c0_i32_6, v29, c1_i32_9⟩
def k0_off7 (i : grid0.Coords) (k0_t3 : Fin (k0_t3_loop i).trips) : Fin 2 → Nat :=
  let c2_i32 : BitVec 32 := 2#32
  let arg0 : BitVec 32 := BitVec.ofNat 32 (i 0).val
  let v0 : BitVec 32 := Scalar.muli c2_i32 arg0
  let c1_i32_5 : BitVec 32 := 1#32
  let v18 : BitVec 32 := Scalar.addi v0 c1_i32_5
  let v96 : Index := Scalar.indexCast v18
  let c0_i32_6 : BitVec 32 := 0#32
  let c1_i32_9 : BitVec 32 := 1#32
  let arg11 : BitVec 32 := Scf.iv c0_i32_6 c1_i32_9 k0_t3
  let v97 : Index := Scalar.indexCast arg11
  ![v96.toNat, v97.toNat]
@[reducible] def k0_t4_loop (i : grid0.Coords) : Scf.Loop 32 :=
  let c0_i32_6 : BitVec 32 := 0#32
  let arg1 : BitVec 32 := BitVec.ofNat 32 (i 1).val
  let v25 : BitVec 32 := Scalar.subi arg1 c0_i32_6
  let c1_i32_8 : BitVec 32 := 1#32
  let v27 : BitVec 32 := Scalar.divsi v25 c1_i32_8
  let v28 : BitVec 32 := Scalar.muli v27 c1_i32_8
  let v29 : BitVec 32 := Scalar.addi c0_i32_6 v28
  let v26 : BitVec 32 := Scalar.addi c0_i32_6 v25
  let c1_i32_10 : BitVec 32 := 1#32
  ⟨v29, v26, c1_i32_10⟩
def k0_off8 (i : grid0.Coords) (k0_t4 : Fin (k0_t4_loop i).trips) : Fin 2 → Nat :=
  let c2_i32 : BitVec 32 := 2#32
  let arg0 : BitVec 32 := BitVec.ofNat 32 (i 0).val
  let v0 : BitVec 32 := Scalar.muli c2_i32 arg0
  let c1_i32_5 : BitVec 32 := 1#32
  let v18 : BitVec 32 := Scalar.addi v0 c1_i32_5
  let v96 : Index := Scalar.indexCast v18
  let c0_i32_6 : BitVec 32 := 0#32
  let arg1 : BitVec 32 := BitVec.ofNat 32 (i 1).val
  let v25 : BitVec 32 := Scalar.subi arg1 c0_i32_6
  let c1_i32_8 : BitVec 32 := 1#32
  let v27 : BitVec 32 := Scalar.divsi v25 c1_i32_8
  let v28 : BitVec 32 := Scalar.muli v27 c1_i32_8
  let v29 : BitVec 32 := Scalar.addi c0_i32_6 v28
  let c1_i32_10 : BitVec 32 := 1#32
  let arg11 : BitVec 32 := Scf.iv v29 c1_i32_10 k0_t4
  let v97 : Index := Scalar.indexCast arg11
  ![v96.toNat, v97.toNat]
@[reducible] def k0_t5_loop (i : grid0.Coords) (v17 : BitVec 32) (v31 : BitVec 32) : Scf.Loop 32 :=
  let v32 : BitVec 32 := Scalar.minsi v17 v31
  let arg1 : BitVec 32 := BitVec.ofNat 32 (i 1).val
  let v33 : BitVec 32 := Scalar.subi arg1 v32
  let c1_i32_12 : BitVec 32 := 1#32
  let v35 : BitVec 32 := Scalar.divsi v33 c1_i32_12
  let v36 : BitVec 32 := Scalar.muli v35 c1_i32_12
  let v37 : BitVec 32 := Scalar.addi v32 v36
  let c1_i32_13 : BitVec 32 := 1#32
  ⟨v32, v37, c1_i32_13⟩

def k0_mult1 (i : grid0.Coords) (v17 : BitVec 32) (v31 : BitVec 32) (k0_t5 : Fin (k0_t5_loop i v17 v31).trips) : BitVec 32 :=
  let v32 : BitVec 32 := Scalar.minsi v17 v31
  let c1_i32_13 : BitVec 32 := 1#32
  let arg11 : BitVec 32 := Scf.iv v32 c1_i32_13 k0_t5
  let c512_i32_60 : BitVec 32 := 512#32
  let v96 : BitVec 32 := Scalar.muli arg11 c512_i32_60
  v96
def k0_off9 (i : grid0.Coords) (v17 : BitVec 32) (v31 : BitVec 32) (k0_t5 : Fin (k0_t5_loop i v17 v31).trips) : Fin 3 → Nat :=
  let c0_61 : Index := 0#32
  let v32 : BitVec 32 := Scalar.minsi v17 v31
  let c1_i32_13 : BitVec 32 := 1#32
  let arg11 : BitVec 32 := Scf.iv v32 c1_i32_13 k0_t5
  let c512_i32_60 : BitVec 32 := 512#32
  let v96 : BitVec 32 := Scalar.muli arg11 c512_i32_60
  let v97 : BitVec 32 := v96
  let v98 : Index := Scalar.indexCast v97
  let c0_62 : Index := 0#32
  ![0, v98.toNat, 0]
def k0_off10 (i : grid0.Coords) (v17 : BitVec 32) (v31 : BitVec 32) (k0_t5 : Fin (k0_t5_loop i v17 v31).trips) : Fin 3 → Nat :=
  let c1_80 : Index := 1#32
  let v32 : BitVec 32 := Scalar.minsi v17 v31
  let c1_i32_13 : BitVec 32 := 1#32
  let arg11 : BitVec 32 := Scf.iv v32 c1_i32_13 k0_t5
  let c512_i32_60 : BitVec 32 := 512#32
  let v96 : BitVec 32 := Scalar.muli arg11 c512_i32_60
  let v97 : BitVec 32 := v96
  let v120 : Index := Scalar.indexCast v97
  let c0_81 : Index := 0#32
  ![1, v120.toNat, 0]
@[reducible] def k0_t6_loop (i : grid0.Coords) (v17 : BitVec 32) (v31 : BitVec 32) : Scf.Loop 32 :=
  let v32 : BitVec 32 := Scalar.minsi v17 v31
  let arg1 : BitVec 32 := BitVec.ofNat 32 (i 1).val
  let v33 : BitVec 32 := Scalar.subi arg1 v32
  let c1_i32_12 : BitVec 32 := 1#32
  let v35 : BitVec 32 := Scalar.divsi v33 c1_i32_12
  let v36 : BitVec 32 := Scalar.muli v35 c1_i32_12
  let v37 : BitVec 32 := Scalar.addi v32 v36
  let v34 : BitVec 32 := Scalar.addi v32 v33
  let c1_i32_14 : BitVec 32 := 1#32
  ⟨v37, v34, c1_i32_14⟩
def k0_mult2 (i : grid0.Coords) (v17 : BitVec 32) (v31 : BitVec 32) (k0_t6 : Fin (k0_t6_loop i v17 v31).trips) : BitVec 32 :=
  let v32 : BitVec 32 := Scalar.minsi v17 v31
  let arg1 : BitVec 32 := BitVec.ofNat 32 (i 1).val
  let v33 : BitVec 32 := Scalar.subi arg1 v32
  let c1_i32_12 : BitVec 32 := 1#32
  let v35 : BitVec 32 := Scalar.divsi v33 c1_i32_12
  let v36 : BitVec 32 := Scalar.muli v35 c1_i32_12
  let v37 : BitVec 32 := Scalar.addi v32 v36
  let c1_i32_14 : BitVec 32 := 1#32
  let arg11 : BitVec 32 := Scf.iv v37 c1_i32_14 k0_t6
  let c512_i32_60 : BitVec 32 := 512#32
  let v96 : BitVec 32 := Scalar.muli arg11 c512_i32_60
  v96
def k0_off11 (i : grid0.Coords) (v17 : BitVec 32) (v31 : BitVec 32) (k0_t6 : Fin (k0_t6_loop i v17 v31).trips) : Fin 3 → Nat :=
  let c0_61 : Index := 0#32
  let v32 : BitVec 32 := Scalar.minsi v17 v31
  let arg1 : BitVec 32 := BitVec.ofNat 32 (i 1).val
  let v33 : BitVec 32 := Scalar.subi arg1 v32
  let c1_i32_12 : BitVec 32 := 1#32
  let v35 : BitVec 32 := Scalar.divsi v33 c1_i32_12
  let v36 : BitVec 32 := Scalar.muli v35 c1_i32_12
  let v37 : BitVec 32 := Scalar.addi v32 v36
  let c1_i32_14 : BitVec 32 := 1#32
  let arg11 : BitVec 32 := Scf.iv v37 c1_i32_14 k0_t6
  let c512_i32_60 : BitVec 32 := 512#32
  let v96 : BitVec 32 := Scalar.muli arg11 c512_i32_60
  let v97 : BitVec 32 := v96
  let v98 : Index := Scalar.indexCast v97
  let c0_62 : Index := 0#32
  ![0, v98.toNat, 0]
def k0_off12 (i : grid0.Coords) (v17 : BitVec 32) (v31 : BitVec 32) (k0_t6 : Fin (k0_t6_loop i v17 v31).trips) : Fin 3 → Nat :=
  let c1_80 : Index := 1#32
  let v32 : BitVec 32 := Scalar.minsi v17 v31
  let arg1 : BitVec 32 := BitVec.ofNat 32 (i 1).val
  let v33 : BitVec 32 := Scalar.subi arg1 v32
  let c1_i32_12 : BitVec 32 := 1#32
  let v35 : BitVec 32 := Scalar.divsi v33 c1_i32_12
  let v36 : BitVec 32 := Scalar.muli v35 c1_i32_12
  let v37 : BitVec 32 := Scalar.addi v32 v36
  let c1_i32_14 : BitVec 32 := 1#32
  let arg11 : BitVec 32 := Scf.iv v37 c1_i32_14 k0_t6
  let c512_i32_60 : BitVec 32 := 512#32
  let v96 : BitVec 32 := Scalar.muli arg11 c512_i32_60
  let v97 : BitVec 32 := v96
  let v120 : Index := Scalar.indexCast v97
  let c0_81 : Index := 0#32
  ![1, v120.toNat, 0]

def k0_chk1 (i : grid0.Coords) (v17 : BitVec 32) (v31 : BitVec 32) : Prop :=
  ((k0_t5_loop i v17 v31).OK) ∧
  (∀ k0_t5 : Fin (k0_t5_loop i v17 v31).trips, 512 ∣ (k0_mult1 i v17 v31 k0_t5).toNat) ∧
  (∀ k0_t5 : Fin (k0_t5_loop i v17 v31).trips, ∀ a, (k0_off9 i v17 v31 k0_t5) a + S1x512x128.size a ≤ S2x8192x128.size a) ∧
  (∀ k0_t5 : Fin (k0_t5_loop i v17 v31).trips, ∀ a, (k0_off10 i v17 v31 k0_t5) a + S1x512x128.size a ≤ S2x8192x128.size a) ∧
  ((k0_t6_loop i v17 v31).OK) ∧
  (∀ k0_t6 : Fin (k0_t6_loop i v17 v31).trips, 512 ∣ (k0_mult2 i v17 v31 k0_t6).toNat) ∧
  (∀ k0_t6 : Fin (k0_t6_loop i v17 v31).trips, ∀ a, (k0_off11 i v17 v31 k0_t6) a + S1x512x128.size a ≤ S2x8192x128.size a) ∧
  (∀ k0_t6 : Fin (k0_t6_loop i v17 v31).trips, ∀ a, (k0_off12 i v17 v31 k0_t6) a + S1x512x128.size a ≤ S2x8192x128.size a)
theorem k0_t5_ok : ∀ (i : grid0.Coords) (v17 : BitVec 32) (v31 : BitVec 32) (k0_hw1 : k0_chk1 i v17 v31), (k0_t5_loop i v17 v31).OK := fun i v17 v31 k0_hw1 => k0_hw1.1
theorem k0_mult1_dvd : ∀ (i : grid0.Coords) (v17 : BitVec 32) (v31 : BitVec 32) (k0_hw1 : k0_chk1 i v17 v31) (k0_t5 : Fin (k0_t5_loop i v17 v31).trips), 512 ∣ (k0_mult1 i v17 v31 k0_t5).toNat := fun i v17 v31 k0_hw1 k0_t5 => k0_hw1.2.1 k0_t5
theorem k0_off9_inb : ∀ (i : grid0.Coords) (v17 : BitVec 32) (v31 : BitVec 32) (k0_hw1 : k0_chk1 i v17 v31) (k0_t5 : Fin (k0_t5_loop i v17 v31).trips), ∀ a, (k0_off9 i v17 v31 k0_t5) a + S1x512x128.size a ≤ S2x8192x128.size a := fun i v17 v31 k0_hw1 k0_t5 => k0_hw1.2.2.1 k0_t5
theorem k0_off10_inb : ∀ (i : grid0.Coords) (v17 : BitVec 32) (v31 : BitVec 32) (k0_hw1 : k0_chk1 i v17 v31) (k0_t5 : Fin (k0_t5_loop i v17 v31).trips), ∀ a, (k0_off10 i v17 v31 k0_t5) a + S1x512x128.size a ≤ S2x8192x128.size a := fun i v17 v31 k0_hw1 k0_t5 => k0_hw1.2.2.2.1 k0_t5
theorem k0_t6_ok : ∀ (i : grid0.Coords) (v17 : BitVec 32) (v31 : BitVec 32) (k0_hw1 : k0_chk1 i v17 v31), (k0_t6_loop i v17 v31).OK := fun i v17 v31 k0_hw1 => k0_hw1.2.2.2.2.1
theorem k0_mult2_dvd : ∀ (i : grid0.Coords) (v17 : BitVec 32) (v31 : BitVec 32) (k0_hw1 : k0_chk1 i v17 v31) (k0_t6 : Fin (k0_t6_loop i v17 v31).trips), 512 ∣ (k0_mult2 i v17 v31 k0_t6).toNat := fun i v17 v31 k0_hw1 k0_t6 => k0_hw1.2.2.2.2.2.1 k0_t6
theorem k0_off11_inb : ∀ (i : grid0.Coords) (v17 : BitVec 32) (v31 : BitVec 32) (k0_hw1 : k0_chk1 i v17 v31) (k0_t6 : Fin (k0_t6_loop i v17 v31).trips), ∀ a, (k0_off11 i v17 v31 k0_t6) a + S1x512x128.size a ≤ S2x8192x128.size a := fun i v17 v31 k0_hw1 k0_t6 => k0_hw1.2.2.2.2.2.2.1 k0_t6
theorem k0_off12_inb : ∀ (i : grid0.Coords) (v17 : BitVec 32) (v31 : BitVec 32) (k0_hw1 : k0_chk1 i v17 v31) (k0_t6 : Fin (k0_t6_loop i v17 v31).trips), ∀ a, (k0_off12 i v17 v31 k0_t6) a + S1x512x128.size a ≤ S2x8192x128.size a := fun i v17 v31 k0_hw1 k0_t6 => k0_hw1.2.2.2.2.2.2.2 k0_t6

def k0_mult3 (i : grid0.Coords) : BitVec 32 :=
  let arg1 : BitVec 32 := BitVec.ofNat 32 (i 1).val
  let c512_i32 : BitVec 32 := 512#32
  let v38 : BitVec 32 := Scalar.muli arg1 c512_i32
  v38
def k0_off13 (i : grid0.Coords) : Fin 3 → Nat :=
  let c0_15 : Index := 0#32
  let arg1 : BitVec 32 := BitVec.ofNat 32 (i 1).val
  let c512_i32 : BitVec 32 := 512#32
  let v38 : BitVec 32 := Scalar.muli arg1 c512_i32
  let v39 : BitVec 32 := v38
  let v40 : Index := Scalar.indexCast v39
  let c0_16 : Index := 0#32
  ![0, v40.toNat, 0]
def k0_off14 (i : grid0.Coords) : Fin 3 → Nat :=
  let c1 : Index := 1#32
  let arg1 : BitVec 32 := BitVec.ofNat 32 (i 1).val
  let c512_i32 : BitVec 32 := 512#32
  let v38 : BitVec 32 := Scalar.muli arg1 c512_i32
  let v39 : BitVec 32 := v38
  let v67 : Index := Scalar.indexCast v39
  let c0_35 : Index := 0#32
  ![1, v67.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "skip" => some ⊥
  | _ => none
-- ==== ReferenceIdeal.lean ====
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 94
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x8192, .f32⟩
  | .hbm, ⟨4, _⟩ => ⟨S16x8192x64, .f32⟩
  | .hbm, ⟨5, _⟩ => ⟨S16x8192x8192, .f32⟩
  | .hbm, ⟨6, _⟩ => ⟨S_, .f32⟩
  | .hbm, ⟨7, _⟩ => ⟨S16x8192x8192, .f32⟩
  | .hbm, ⟨8, _⟩ => ⟨S16x8192x8192, .f32⟩
  | .hbm, ⟨9, _⟩ => ⟨S16x8192x1, .f32⟩
  | .hbm, ⟨10, _⟩ => ⟨S16x1x8192, .f32⟩
  | .hbm, ⟨11, _⟩ => ⟨S16x8192x8192, .f32⟩
  | .hbm, ⟨12, _⟩ => ⟨S16x8192x8192, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x1, .f32⟩
  | .hbm, ⟨63, _⟩ => ⟨S_, .f32⟩
  | .hbm, ⟨64, _⟩ => ⟨S16x8192x1, .f32⟩
  | .hbm, ⟨65, _⟩ => ⟨S16x8192x1, .f32⟩
  | .hbm, ⟨66, _⟩ => ⟨S16x8192x64, .f32⟩
  | .hbm, ⟨67, _⟩ => ⟨S16x8192x8192, .f32⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S_, .f32⟩
  | .hbm, ⟨72, _⟩ => ⟨S16x8192, .f32⟩
  | .hbm, ⟨73, _⟩ => ⟨S16x8192x1, .f32⟩
  | .hbm, ⟨74, _⟩ => ⟨S16x8192x1, .f32⟩
  | .hbm, ⟨75, _⟩ => ⟨S16x8192x8192, .f32⟩
  | .hbm, ⟨76, _⟩ => ⟨S16x8192x8192, .f32⟩
  | .hbm, ⟨77, _⟩ => ⟨S_, .f32⟩
  | .hbm, ⟨78, _⟩ => ⟨S16x8192, .f32⟩
  | .hbm, ⟨79, _⟩ => ⟨S16x8192x8192, .f32⟩
  | .hbm, ⟨80, _⟩ => ⟨S16x8192x8192, .f32⟩
  | .hbm, ⟨81, _⟩ => ⟨S16x8192x8192, .f32⟩
  | .hbm, ⟨82, _⟩ => ⟨S_, .f32⟩
  | .hbm, ⟨83, _⟩ => ⟨S16x8192x8192, .f32⟩
  | .hbm, ⟨84, _⟩ => ⟨S16x8192x8192, .f32⟩
  | .hbm, ⟨85, _⟩ => ⟨S_, .f32⟩
  | .hbm, ⟨86, _⟩ => ⟨S16x8192, .f32⟩
  | .hbm, ⟨87, _⟩ => ⟨S16x8192x1, .f32⟩
  | .hbm, ⟨88, _⟩ => ⟨S_, .f32⟩
  | .hbm, ⟨89, _⟩ => ⟨S16x8192, .f32⟩
  | .hbm, ⟨90, _⟩ => ⟨S_, .f32⟩
  | .hbm, ⟨91, _⟩ => ⟨S16x8192x8192, .f32⟩
  | .hbm, ⟨92, _⟩ => ⟨S16x8192x8192, .f32⟩
  | .hbm, ⟨93, _⟩ => ⟨S16x8192x64, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call1_cst : Ref sig .tc := ⟨.hbm, 82, rfl⟩
abbrev main_call1_v0 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_cst_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== KernelKV.lean ====
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x3 : Shape := ⟨3, ![16, 8192, 3]⟩
abbrev S16x8192x55 : Shape := ⟨3, ![16, 8192, 55]⟩
abbrev S16x8192x128 : Shape := ⟨3, ![16, 8192, 128]⟩
abbrev S16x8192x60 : Shape := ⟨3, ![16, 8192, 60]⟩
abbrev S16x8192x61 : Shape := ⟨3, ![16, 8192, 61]⟩
abbrev S16 : Shape := ⟨1, ![16]⟩
abbrev S16x16 : Shape := ⟨2, ![16, 16]⟩
abbrev S2x8192x128 : Shape := ⟨3, ![2, 8192, 128]⟩
abbrev S2x512x128 : Shape := ⟨3, ![2, 512, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S256x512 : Shape := ⟨2, ![256, 512]⟩
abbrev S256x256 : Shape := ⟨2, ![256, 256]⟩
abbrev S1 : Shape := ⟨1, ![1]⟩
abbrev S1x1 : Shape := ⟨2, ![1, 1]⟩
abbrev S512x512 : Shape := ⟨2, ![512, 512]⟩

abbrev nBuf : Space → Nat
  | .hbm => 149
  | .vmem => 14
  | .smem => 3
  | _ => 0

abbrev hbmTy0_0 (i : Nat) : BufTy := match i % 128 with
  | 0 => ⟨S16x8192x64, .f32⟩
  | 1 => ⟨S16x8192x64, .f32⟩
  | 2 => ⟨S16x8192x64, .f32⟩
  | 3 => ⟨S16x8192, .f32⟩
  | 4 => ⟨S16x8192x64, .f32⟩
  | 5 => ⟨S16x8192x8192, .f32⟩
  | 6 => ⟨S_, .f32⟩
  | 7 => ⟨S16x8192x8192, .f32⟩
  | 8 => ⟨S16x8192x8192, .f32⟩
  | 9 => ⟨S16x8192x1, .f32⟩
  | 10 => ⟨S16x1x8192, .f32⟩
  | 11 => ⟨S16x8192x8192, .f32⟩
  | 12 => ⟨S16x8192x8192, .f32⟩
  | 13 => ⟨S16x8192x8192, .f32⟩
  | 14 => ⟨S16x8192x8192, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S_, .f32⟩
  | 22 => ⟨S_, .f32⟩
  | 23 => ⟨S16x8192x8192, .i1⟩
  | 24 => ⟨S16x8192x8192, .f32⟩
  | 25 => ⟨S16x8192x8192, .f32⟩
  | 26 => ⟨S_, .f32⟩
  | 27 => ⟨S16x8192, .f32⟩
  | 28 => ⟨S16x8192x1, .f32⟩
  | 29 => ⟨S16x8192x8192, .f32⟩
  | 30 => ⟨S16x8192x8192, .f32⟩
  | 31 => ⟨S16x8192x8192, .f32⟩
  | 32 => ⟨S_, .f32⟩
  | 33 => ⟨S16x8192, .f32⟩
  | 34 => ⟨S16x8192x1, .f32⟩
  | 35 => ⟨S16x8192x1, .f32⟩
  | 36 => ⟨S16x8192x1, .f32⟩
  | 37 => ⟨S16x8192, .f32⟩
  | 38 => ⟨S16x8192x8192, .f32⟩
  | 39 => ⟨S16x8192x8192, .f32⟩
  | 40 => ⟨S16x8192x64, .f32⟩
  | 41 => ⟨S16x8192x64, .f32⟩
  | 42 => ⟨S_, .f32⟩
  | 43 => ⟨S16x8192, .f32⟩
  | 44 => ⟨S16x8192, .bf16⟩
  | 45 => ⟨S16x8192, .f32⟩
  | 46 => ⟨S16x8192, .f32⟩
  | 47 => ⟨S16x8192, .bf16⟩
  | 48 => ⟨S16x8192, .f32⟩
  | 49 => ⟨S16x8192, .f32⟩
  | 50 => ⟨S16x8192, .bf16⟩
  | 51 => ⟨S16x8192, .f32⟩
  | 52 => ⟨S16x8192, .bf16⟩
  | 53 => ⟨S16x8192, .f32⟩
  | 54 => ⟨S16x8192, .f32⟩
  | 55 => ⟨S16x8192, .bf16⟩
  | 56 => ⟨S16x8192, .f32⟩
  | 57 => ⟨S16x8192, .f32⟩
  | 58 => ⟨S16x8192, .bf16⟩
  | 59 => ⟨S16x8192, .f32⟩
  | 60 => ⟨S16x8192, .bf16⟩
  | 61 => ⟨S16x8192, .f32⟩
  | 62 => ⟨S16x8192, .f32⟩
  | 63 => ⟨S16x8192, .bf16⟩
  | 64 => ⟨S16x8192, .f32⟩
  | 65 => ⟨S16x8192, .f32⟩
  | 66 => ⟨S16x8192, .bf16⟩
  | 67 => ⟨S16x8192, .f32⟩
  | 68 => ⟨S16x8192x64, .bf16⟩
  | 69 => ⟨S16x8192x64, .f32⟩
  | 70 => ⟨S_, .f32⟩
  | 71 => ⟨S16x8192x64, .f32⟩
  | 72 => ⟨S16x8192x64, .f32⟩
  | 73 => ⟨S16x8192x64, .bf16⟩
  | 74 => ⟨S16x8192x64, .f32⟩
  | 75 => ⟨S16x8192x64, .bf16⟩
  | 76 => ⟨S16x8192x64, .f32⟩
  | 77 => ⟨S16x8192x1, .f32⟩
  | 78 => ⟨S16x8192x1, .f32⟩
  | 79 => ⟨S16x8192x1, .f32⟩
  | 80 => ⟨S_, .f32⟩
  | 81 => ⟨S16x8192x3, .f32⟩
  | 82 => ⟨S16x8192, .f32⟩
  | 83 => ⟨S16x8192x1, .f32⟩
  | 84 => ⟨S16x8192, .f32⟩
  | 85 => ⟨S16x8192x1, .f32⟩
  | 86 => ⟨S16x8192, .f32⟩
  | 87 => ⟨S16x8192x1, .f32⟩
  | 88 => ⟨S_, .f32⟩
  | 89 => ⟨S16x8192x55, .f32⟩
  | 90 => ⟨S16x8192x128, .f32⟩
  | 91 => ⟨S_, .f32⟩
  | 92 => ⟨S16x8192x3, .f32⟩
  | 93 => ⟨S16x8192, .f32⟩
  | 94 => ⟨S16x8192x1, .f32⟩
  | 95 => ⟨S16x8192, .f32⟩
  | 96 => ⟨S16x8192x1, .f32⟩
  | 97 => ⟨S16x8192, .f32⟩
  | 98 => ⟨S16x8192x1, .f32⟩
  | 99 => ⟨S_, .f32⟩
  | 100 => ⟨S16x8192x3, .f32⟩
  | 101 => ⟨S_, .f32⟩
  | 102 => ⟨S16x8192x55, .f32⟩
  | 103 => ⟨S16x8192x128, .f32⟩
  | 104 => ⟨S_, .f32⟩
  | 105 => ⟨S16x8192x3, .f32⟩
  | 106 => ⟨S16x8192x3, .f32⟩
  | 107 => ⟨S_, .f32⟩
  | 108 => ⟨S16x8192x1, .f32⟩
  | 109 => ⟨S_, .f32⟩
  | 110 => ⟨S16x8192x60, .f32⟩
  | 111 => ⟨S16x8192x128, .f32⟩
  | 112 => ⟨S16x8192x1, .f32⟩
  | 113 => ⟨S16x8192x1, .f32⟩
  | 114 => ⟨S16x8192x1, .f32⟩
  | 115 => ⟨S_, .f32⟩
  | 116 => ⟨S16x8192x61, .f32⟩
  | 117 => ⟨S16x8192x128, .f32⟩
  | 118 => ⟨S16x8192x64, .f32⟩
  | 119 => ⟨S_, .f32⟩
  | 120 => ⟨S16x8192, .f32⟩
  | 121 => ⟨S_, .f32⟩
  | 122 => ⟨S16, .f32⟩
  | 123 => ⟨S16x8192x64, .f32⟩
  | 124 => ⟨S_, .f32⟩
  | 125 => ⟨S16x8192, .f32⟩
  | 126 => ⟨S_, .f32⟩
  | 127 => ⟨S16, .f32⟩
  | _ => ⟨S16x8192x64, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S_, .f32⟩
  | 6 => ⟨S16, .f32⟩
  | 7 => ⟨S16, .f32⟩
  | 8 => ⟨S16x16, .f32⟩
  | 9 => ⟨S16x16, .f32⟩
  | 10 => ⟨S16x8192x128, .bf16⟩
  | 11 => ⟨S16x8192x128, .bf16⟩
  | 12 => ⟨S16x8192x128, .bf16⟩
  | 13 => ⟨S16x8192x128, .bf16⟩
  | 14 => ⟨S16x8192x128, .f32⟩
  | 15 => ⟨S16x8192x128, .f32⟩
  | 16 => ⟨S16x8192x64, .f32⟩
  | 17 => ⟨S16x8192x1, .f32⟩
  | 18 => ⟨S16x8192, .f32⟩
  | 19 => ⟨S16x8192, .f32⟩
  | 20 => ⟨S16x8192x64, .f32⟩
  | _ => ⟨S16x8192x64, .f32⟩

abbrev hbmTy (i : Nat) : BufTy := match i / 128 with
  | 0 => hbmTy0_0 i
  | 1 => hbmTy0_1 i
  | _ => ⟨S16x8192x64, .f32⟩

abbrev bufTy : (tb : Table) → Fin (tcTables nBuf tb) → BufTy
  | .hbm, ⟨i, _⟩ => hbmTy i
  | .local _ .vmem, ⟨0, _⟩ => ⟨S2x8192x128, .bf16⟩
  | .local _ .vmem, ⟨1, _⟩ => ⟨S2x8192x128, .bf16⟩
  | .local _ .vmem, ⟨2, _⟩ => ⟨S2x512x128, .bf16⟩
  | .local _ .vmem, ⟨3, _⟩ => ⟨S2x512x128, .bf16⟩
  | .local _ .vmem, ⟨4, _⟩ => ⟨S2x8192x128, .bf16⟩
  | .local _ .vmem, ⟨5, _⟩ => ⟨S2x8192x128, .bf16⟩
  | .local _ .vmem, ⟨6, _⟩ => ⟨S2x512x128, .bf16⟩
  | .local _ .vmem, ⟨7, _⟩ => ⟨S2x512x128, .bf16⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .smem, ⟨0, _⟩ => ⟨S16, .f32⟩
  | .local _ .smem, ⟨1, _⟩ => ⟨S16x16, .f32⟩
  | .local _ .smem, ⟨2, _⟩ => ⟨S16x16, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_5 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_v73 : Ref sig .tc := ⟨.hbm, 89, rfl⟩
abbrev main_v74 : Ref sig .tc := ⟨.hbm, 90, rfl⟩
abbrev main_cst_7 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_8 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_13 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_14 : Ref sig .tc := ⟨.hbm, 119, rfl⟩
abbrev main_v96 : Ref sig .tc := ⟨.hbm, 120, rfl⟩
abbrev main_cst_15 : Ref sig .tc := ⟨.hbm, 121, rfl⟩
abbrev main_v97 : Ref sig .tc := ⟨.hbm, 122, rfl⟩
abbrev main_v98 : Ref sig .tc := ⟨.hbm, 123, rfl⟩
abbrev main_cst_16 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_18 : Ref sig .tc := ⟨.hbm, 130, rfl⟩
abbrev main_v103 : Ref sig .tc := ⟨.hbm, 131, rfl⟩
abbrev main_v104 : Ref sig .tc := ⟨.hbm, 132, rfl⟩
abbrev main_cst_19 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113_0 : Ref sig .tc := ⟨.hbm, 142, rfl⟩
abbrev main_v113_1 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_mult2 (i : grid0.Coords) : BitVec 32 :=
  let arg1 : BitVec 32 := BitVec.ofNat 32 (i 1).val
  let c512_i32 : BitVec 32 := 512#32
  let v9 : BitVec 32 := Scalar.muli arg1 c512_i32
  let v10 : BitVec 32 := v9
  let c0_i32 : BitVec 32 := 0#32
  let v11 : BitVec 32 := Scalar.addi v10 c0_i32
  v11
def k0_off1 (i : grid0.Coords) : Fin 3 → Nat :=
  let c0_6 : Index := 0#32
  let arg1 : BitVec 32 := BitVec.ofNat 32 (i 1).val
  let c512_i32 : BitVec 32 := 512#32
  let v9 : BitVec 32 := Scalar.muli arg1 c512_i32
  let v10 : BitVec 32 := v9
  let c0_i32 : BitVec 32 := 0#32
  let v11 : BitVec 32 := Scalar.addi v10 c0_i32
  let v12 : BitVec 32 := v11
  let v13 : Index := Scalar.indexCast v12
  let c0_7 : Index := 0#32
  ![0, v13.toNat, 0]
def k0_mult3 (i : grid0.Coords) : BitVec 32 :=
  let arg1 : BitVec 32 := BitVec.ofNat 32 (i 1).val
  let c512_i32 : BitVec 32 := 512#32
  let v9 : BitVec 32 := Scalar.muli arg1 c512_i32
  let v10 : BitVec 32 := v9
  let c256_i32 : BitVec 32 := 256#32
  let v48 : BitVec 32 := Scalar.addi v10 c256_i32
  v48
def k0_off2 (i : grid0.Coords) : Fin 3 → Nat :=
  let c0_33 : Index := 0#32
  let arg1 : BitVec 32 := BitVec.ofNat 32 (i 1).val
  let c512_i32 : BitVec 32 := 512#32
  let v9 : BitVec 32 := Scalar.muli arg1 c512_i32
  let v10 : BitVec 32 := v9
  let c256_i32 : BitVec 32 := 256#32
  let v48 : BitVec 32 := Scalar.addi v10 c256_i32
  let v49 : BitVec 32 := v48
  let v50 : Index := Scalar.indexCast v49
  let c0_34 : Index := 0#32
  ![0, v50.toNat, 0]
def k0_mult4 (i : grid0.Coords) : BitVec 32 :=
  let arg1 : BitVec 32 := BitVec.ofNat 32 (i 1).val
  let c512_i32 : BitVec 32 := 512#32
  let v9 : BitVec 32 := Scalar.muli arg1 c512_i32
  let v10 : BitVec 32 := v9
  let c0_i32_59 : BitVec 32 := 0#32
  let v85 : BitVec 32 := Scalar.addi v10 c0_i32_59
  v85
def k0_off3 (i : grid0.Coords) : Fin 3 → Nat :=
  let c1 : Index := 1#32
  let arg1 : BitVec 32 := BitVec.ofNat 32 (i 1).val
  let c512_i32 : BitVec 32 := 512#32
  let v9 : BitVec 32 := Scalar.muli arg1 c512_i32
  let v10 : BitVec 32 := v9
  let c0_i32_59 : BitVec 32 := 0#32
  let v85 : BitVec 32 := Scalar.addi v10 c0_i32_59
  let v86 : BitVec 32 := v85
  let v87 : Index := Scalar.indexCast v86
  let c0_60 : Index := 0#32
  ![1, v87.toNat, 0]
def k0_mult5 (i : grid0.Coords) : BitVec 32 :=
  let arg1 : BitVec 32 := BitVec.ofNat 32 (i 1).val
  let c512_i32 : BitVec 32 := 512#32
  let v9 : BitVec 32 := Scalar.muli arg1 c512_i32
  let v10 : BitVec 32 := v9
  let c256_i32_86 : BitVec 32 := 256#32
  let v122 : BitVec 32 := Scalar.addi v10 c256_i32_86
  v122
def k0_off4 (i : grid0.Coords) : Fin 3 → Nat :=
  let c1_87 : Index := 1#32
  let arg1 : BitVec 32 := BitVec.ofNat 32 (i 1).val
  let c512_i32 : BitVec 32 := 512#32
  let v9 : BitVec 32 := Scalar.muli arg1 c512_i32
  let v10 : BitVec 32 := v9
  let c256_i32_86 : BitVec 32 := 256#32
  let v122 : BitVec 32 := Scalar.addi v10 c256_i32_86
  let v123 : BitVec 32 := v122
  let v124 : Index := Scalar.indexCast v123
  let c0_88 : Index := 0#32
  ![1, v124.toNat, 0]
def k0_off5 (i : grid0.Coords) : Fin 1 → Nat :=
  let c2_i32 : BitVec 32 := 2#32
  let arg0 : BitVec 32 := BitVec.ofNat 32 (i 0).val
  let v0 : BitVec 32 := Scalar.muli c2_i32 arg0
  let v161 : Index := Scalar.indexCast v0
  ![v161.toNat]
def k0_off6 (i : grid0.Coords) : Fin 2 → Nat :=
  let c2_i32 : BitVec 32 := 2#32
  let arg0 : BitVec 32 := BitVec.ofNat 32 (i 0).val
  let v0 : BitVec 32 := Scalar.muli c2_i32 arg0
  let v163 : Index := Scalar.indexCast v0
  let arg1 : BitVec 32 := BitVec.ofNat 32 (i 1).val
  let v164 : Index := Scalar.indexCast arg1
  ![v163.toNat, v164.toNat]
@[reducible] def k0_t1_loop (i : grid0.Coords) : Scf.Loop 32 :=
  let arg1 : BitVec 32 := BitVec.ofNat 32 (i 1).val
  let c1_i32_115 : BitVec 32 := 1#32
  let v167 : BitVec 32 := Scalar.addi arg1 c1_i32_115
  let c16_i32 : BitVec 32 := 16#32
  let v168 : BitVec 32 := Scalar.subi c16_i32 v167
  let c1_i32_117 : BitVec 32 := 1#32
  let v170 : BitVec 32 := Scalar.divsi v168 c1_i32_117
  let v171 : BitVec 32 := Scalar.muli v170 c1_i32_117
  let v172 : BitVec 32 := Scalar.addi v167 v171
  let c1_i32_118 : BitVec 32 := 1#32
  ⟨v167, v172, c1_i32_118⟩
def k0_off7 (i : grid0.Coords) (k0_t1 : Fin (k0_t1_loop i).trips) : Fin 2 → Nat :=
  let c2_i32 : BitVec 32 := 2#32
  let arg0 : BitVec 32 := BitVec.ofNat 32 (i 0).val
  let v0 : BitVec 32 := Scalar.muli c2_i32 arg0
  let v201 : Index := Scalar.indexCast v0
  let arg1 : BitVec 32 := BitVec.ofNat 32 (i 1).val
  let c1_i32_115 : BitVec 32 := 1#32
  let v167 : BitVec 32 := Scalar.addi arg1 c1_i32_115
  let c1_i32_118 : BitVec 32 := 1#32
  let arg13 : BitVec 32 := Scf.iv v167 c1_i32_118 k0_t1
  let v202 : Index := Scalar.indexCast arg13
  ![v201.toNat, v202.toNat]
@[reducible] def k0_t2_loop (i : grid0.Coords) : Scf.Loop 32 :=
  let arg1 : BitVec 32 := BitVec.ofNat 32 (i 1).val
  let c1_i32_115 : BitVec 32 := 1#32
  let v167 : BitVec 32 := Scalar.addi arg1 c1_i32_115
  let c16_i32 : BitVec 32 := 16#32
  let v168 : BitVec 32 := Scalar.subi c16_i32 v167
  let c1_i32_117 : BitVec 32 := 1#32
  let v170 : BitVec 32 := Scalar.divsi v168 c1_i32_117
  let v171 : BitVec 32 := Scalar.muli v170 c1_i32_117
  let v172 : BitVec 32 := Scalar.addi v167 v171
  let v169 : BitVec 32 := Scalar.addi v167 v168
  let c1_i32_119 : BitVec 32 := 1#32
  ⟨v172, v169, c1_i32_119⟩
def k0_off8 (i : grid0.Coords) (k0_t2 : Fin (k0_t2_loop i).trips) : Fin 2 → Nat :=
  let c2_i32 : BitVec 32 := 2#32
  let arg0 : BitVec 32 := BitVec.ofNat 32 (i 0).val
  let v0 : BitVec 32 := Scalar.muli c2_i32 arg0
  let v201 : Index := Scalar.indexCast v0
  let arg1 : BitVec 32 := BitVec.ofNat 32 (i 1).val
  let c1_i32_115 : BitVec 32 := 1#32
  let v167 : BitVec 32 := Scalar.addi arg1 c1_i32_115
  let c16_i32 : BitVec 32 := 16#32
  let v168 : BitVec 32 := Scalar.subi c16_i32 v167
  let c1_i32_117 : BitVec 32 := 1#32
  let v170 : BitVec 32 := Scalar.divsi v168 c1_i32_117
  let v171 : BitVec 32 := Scalar.muli v170 c1_i32_117
  let v172 : BitVec 32 := Scalar.addi v167 v171
  let c1_i32_119 : BitVec 32 := 1#32
  let arg13 : BitVec 32 := Scf.iv v172 c1_i32_119 k0_t2
  let v202 : Index := Scalar.indexCast arg13
  ![v201.toNat, v202.toNat]
def k0_off9 (i : grid0.Coords) : Fin 1 → Nat :=
  let c2_i32 : BitVec 32 := 2#32
  let arg0 : BitVec 32 := BitVec.ofNat 32 (i 0).val
  let v0 : BitVec 32 := Scalar.muli c2_i32 arg0
  let c1_i32_120 : BitVec 32 := 1#32
  let v175 : BitVec 32 := Scalar.addi v0 c1_i32_120
  let v176 : Index := Scalar.indexCast v175
  ![v176.toNat]
def k0_off10 (i : grid0.Coords) : Fin 2 → Nat :=
  let c2_i32 : BitVec 32 := 2#32
  let arg0 : BitVec 32 := BitVec.ofNat 32 (i 0).val
  let v0 : BitVec 32 := Scalar.muli c2_i32 arg0
  let c1_i32_120 : BitVec 32 := 1#32
  let v175 : BitVec 32 := Scalar.addi v0 c1_i32_120
  let v178 : Index := Scalar.indexCast v175
  let arg1 : BitVec 32 := BitVec.ofNat 32 (i 1).val
  let v179 : Index := Scalar.indexCast arg1
  ![v178.toNat, v179.toNat]
@[reducible] def k0_t3_loop (i : grid0.Coords) : Scf.Loop 32 :=
  let arg1 : BitVec 32 := BitVec.ofNat 32 (i 1).val
  let c1_i32_121 : BitVec 32 := 1#32
  let v182 : BitVec 32 := Scalar.addi arg1 c1_i32_121
  let c16_i32_122 : BitVec 32 := 16#32
  let v183 : BitVec 32 := Scalar.subi c16_i32_122 v182
  let c1_i32_124 : BitVec 32 := 1#32
  let v185 : BitVec 32 := Scalar.divsi v183 c1_i32_124
  let v186 : BitVec 32 := Scalar.muli v185 c1_i32_124
  let v187 : BitVec 32 := Scalar.addi v182 v186
  let c1_i32_125 : BitVec 32 := 1#32
  ⟨v182, v187, c1_i32_125⟩
def k0_off11 (i : grid0.Coords) (k0_t3 : Fin (k0_t3_loop i).trips) : Fin 2 → Nat :=
  let c2_i32 : BitVec 32 := 2#32
  let arg0 : BitVec 32 := BitVec.ofNat 32 (i 0).val
  let v0 : BitVec 32 := Scalar.muli c2_i32 arg0
  let c1_i32_120 : BitVec 32 := 1#32
  let v175 : BitVec 32 := Scalar.addi v0 c1_i32_120
  let v201 : Index := Scalar.indexCast v175
  let arg1 : BitVec 32 := BitVec.ofNat 32 (i 1).val
  let c1_i32_121 : BitVec 32 := 1#32
  let v182 : BitVec 32 := Scalar.addi arg1 c1_i32_121
  let c1_i32_125 : BitVec 32 := 1#32
  let arg13 : BitVec 32 := Scf.iv v182 c1_i32_125 k0_t3
  let v202 : Index := Scalar.indexCast arg13
  ![v201.toNat, v202.toNat]
@[reducible] def k0_t4_loop (i : grid0.Coords) : Scf.Loop 32 :=
  let arg1 : BitVec 32 := BitVec.ofNat 32 (i 1).val
  let c1_i32_121 : BitVec 32 := 1#32
  let v182 : BitVec 32 := Scalar.addi arg1 c1_i32_121
  let c16_i32_122 : BitVec 32 := 16#32
  let v183 : BitVec 32 := Scalar.subi c16_i32_122 v182
  let c1_i32_124 : BitVec 32 := 1#32
  let v185 : BitVec 32 := Scalar.divsi v183 c1_i32_124
  let v186 : BitVec 32 := Scalar.muli v185 c1_i32_124
  let v187 : BitVec 32 := Scalar.addi v182 v186
  let v184 : BitVec 32 := Scalar.addi v182 v183
  let c1_i32_126 : BitVec 32 := 1#32
  ⟨v187, v184, c1_i32_126⟩
def k0_off12 (i : grid0.Coords) (k0_t4 : Fin (k0_t4_loop i).trips) : Fin 2 → Nat :=
  let c2_i32 : BitVec 32 := 2#32
  let arg0 : BitVec 32 := BitVec.ofNat 32 (i 0).val
  let v0 : BitVec 32 := Scalar.muli c2_i32 arg0
  let c1_i32_120 : BitVec 32 := 1#32
  let v175 : BitVec 32 := Scalar.addi v0 c1_i32_120
  let v201 : Index := Scalar.indexCast v175
  let arg1 : BitVec 32 := BitVec.ofNat 32 (i 1).val
  let c1_i32_121 : BitVec 32 := 1#32
  let v182 : BitVec 32 := Scalar.addi arg1 c1_i32_121
  let c16_i32_122 : BitVec 32 := 16#32
  let v183 : BitVec 32 := Scalar.subi c16_i32_122 v182
  let c1_i32_124 : BitVec 32 := 1#32
  let v185 : BitVec 32 := Scalar.divsi v183 c1_i32_124
  let v186 : BitVec 32 := Scalar.muli v185 c1_i32_124
  let v187 : BitVec 32 := Scalar.addi v182 v186
  let c1_i32_126 : BitVec 32 := 1#32
  let arg13 : BitVec 32 := Scf.iv v187 c1_i32_126 k0_t4
  let v202 : Index := Scalar.indexCast arg13
  ![v201.toNat, v202.toNat]
@[reducible] def k0_t5_loop (i : grid0.Coords) (v174 : BitVec 32) (v189 : BitVec 32) : Scf.Loop 32 :=
  let arg1 : BitVec 32 := BitVec.ofNat 32 (i 1).val
  let c1_i32 : BitVec 32 := 1#32
  let v159 : BitVec 32 := Scalar.addi arg1 c1_i32
  let c1_i32_114 : BitVec 32 := 1#32
  let v160 : BitVec 32 := Scalar.addi arg1 c1_i32_114
  let v190 : BitVec 32 := Scalar.maxsi v174 v189
  let v191 : BitVec 32 := Scalar.addi v160 v190
  let v192 : BitVec 32 := Scalar.subi v191 v159
  let c1_i32_128 : BitVec 32 := 1#32
  let v194 : BitVec 32 := Scalar.divsi v192 c1_i32_128
  let v195 : BitVec 32 := Scalar.muli v194 c1_i32_128
  let v196 : BitVec 32 := Scalar.addi v159 v195
  let c1_i32_129 : BitVec 32 := 1#32
  ⟨v159, v196, c1_i32_129⟩

def k0_mult6 (i : grid0.Coords) (v174 : BitVec 32) (v189 : BitVec 32) (k0_t5 : Fin (k0_t5_loop i v174 v189).trips) : BitVec 32 :=
  let arg1 : BitVec 32 := BitVec.ofNat 32 (i 1).val
  let c1_i32 : BitVec 32 := 1#32
  let v159 : BitVec 32 := Scalar.addi arg1 c1_i32
  let c1_i32_129 : BitVec 32 := 1#32
  let arg13 : BitVec 32 := Scf.iv v159 c1_i32_129 k0_t5
  let c512_i32_143 : BitVec 32 := 512#32
  let v201 : BitVec 32 := Scalar.muli arg13 c512_i32_143
  v201
def k0_mult7 (i : grid0.Coords) (v174 : BitVec 32) (v189 : BitVec 32) (k0_t5 : Fin (k0_t5_loop i v174 v189).trips) : BitVec 32 :=
  let arg1 : BitVec 32 := BitVec.ofNat 32 (i 1).val
  let c1_i32 : BitVec 32 := 1#32
  let v159 : BitVec 32 := Scalar.addi arg1 c1_i32
  let c1_i32_129 : BitVec 32 := 1#32
  let arg13 : BitVec 32 := Scf.iv v159 c1_i32_129 k0_t5
  let c512_i32_143 : BitVec 32 := 512#32
  let v201 : BitVec 32 := Scalar.muli arg13 c512_i32_143
  let v202 : BitVec 32 := v201
  let c0_i32_144 : BitVec 32 := 0#32
  let v203 : BitVec 32 := Scalar.addi v202 c0_i32_144
  v203
def k0_off13 (i : grid0.Coords) (v174 : BitVec 32) (v189 : BitVec 32) (k0_t5 : Fin (k0_t5_loop i v174 v189).trips) : Fin 3 → Nat :=
  let c0_145 : Index := 0#32
  let arg1 : BitVec 32 := BitVec.ofNat 32 (i 1).val
  let c1_i32 : BitVec 32 := 1#32
  let v159 : BitVec 32 := Scalar.addi arg1 c1_i32
  let c1_i32_129 : BitVec 32 := 1#32
  let arg13 : BitVec 32 := Scf.iv v159 c1_i32_129 k0_t5
  let c512_i32_143 : BitVec 32 := 512#32
  let v201 : BitVec 32 := Scalar.muli arg13 c512_i32_143
  let v202 : BitVec 32 := v201
  let c0_i32_144 : BitVec 32 := 0#32
  let v203 : BitVec 32 := Scalar.addi v202 c0_i32_144
  let v204 : BitVec 32 := v203
  let v205 : Index := Scalar.indexCast v204
  let c0_146 : Index := 0#32
  ![0, v205.toNat, 0]
def k0_mult8 (i : grid0.Coords) (v174 : BitVec 32) (v189 : BitVec 32) (k0_t5 : Fin (k0_t5_loop i v174 v189).trips) : BitVec 32 :=
  let arg1 : BitVec 32 := BitVec.ofNat 32 (i 1).val
  let c1_i32 : BitVec 32 := 1#32
  let v159 : BitVec 32 := Scalar.addi arg1 c1_i32
  let c1_i32_129 : BitVec 32 := 1#32
  let arg13 : BitVec 32 := Scf.iv v159 c1_i32_129 k0_t5
  let c512_i32_143 : BitVec 32 := 512#32
  let v201 : BitVec 32 := Scalar.muli arg13 c512_i32_143
  let v202 : BitVec 32 := v201
  let c0_i32_171 : BitVec 32 := 0#32
  let v235 : BitVec 32 := Scalar.addi v202 c0_i32_171
  v235
def k0_off14 (i : grid0.Coords) (v174 : BitVec 32) (v189 : BitVec 32) (k0_t5 : Fin (k0_t5_loop i v174 v189).trips) : Fin 3 → Nat :=
  let c1_172 : Index := 1#32
  let arg1 : BitVec 32 := BitVec.ofNat 32 (i 1).val
  let c1_i32 : BitVec 32 := 1#32
  let v159 : BitVec 32 := Scalar.addi arg1 c1_i32
  let c1_i32_129 : BitVec 32 := 1#32
  let arg13 : BitVec 32 := Scf.iv v159 c1_i32_129 k0_t5
  let c512_i32_143 : BitVec 32 := 512#32
  let v201 : BitVec 32 := Scalar.muli arg13 c512_i32_143
  let v202 : BitVec 32 := v201
  let c0_i32_171 : BitVec 32 := 0#32
  let v235 : BitVec 32 := Scalar.addi v202 c0_i32_171
  let v236 : BitVec 32 := v235
  let v237 : Index := Scalar.indexCast v236
  let c0_173 : Index := 0#32
  ![1, v237.toNat, 0]
@[reducible] def k0_t6_loop (i : grid0.Coords) (v174 : BitVec 32) (v189 : BitVec 32) : Scf.Loop 32 :=
  let arg1 : BitVec 32 := BitVec.ofNat 32 (i 1).val
  let c1_i32 : BitVec 32 := 1#32
  let v159 : BitVec 32 := Scalar.addi arg1 c1_i32
  let c1_i32_114 : BitVec 32 := 1#32
  let v160 : BitVec 32 := Scalar.addi arg1 c1_i32_114
  let v190 : BitVec 32 := Scalar.maxsi v174 v189
  let v191 : BitVec 32 := Scalar.addi v160 v190
  let v192 : BitVec 32 := Scalar.subi v191 v159
  let c1_i32_128 : BitVec 32 := 1#32
  let v194 : BitVec 32 := Scalar.divsi v192 c1_i32_128
  let v195 : BitVec 32 := Scalar.muli v194 c1_i32_128
  let v196 : BitVec 32 := Scalar.addi v159 v195
  let v193 : BitVec 32 := Scalar.addi v159 v192
  let c1_i32_130 : BitVec 32 := 1#32
  ⟨v196, v193, c1_i32_130⟩
def k0_mult9 (i : grid0.Coords) (v174 : BitVec 32) (v189 : BitVec 32) (k0_t6 : Fin (k0_t6_loop i v174 v189).trips) : BitVec 32 :=
  let arg1 : BitVec 32 := BitVec.ofNat 32 (i 1).val
  let c1_i32 : BitVec 32 := 1#32
  let v159 : BitVec 32 := Scalar.addi arg1 c1_i32
  let c1_i32_114 : BitVec 32 := 1#32
  let v160 : BitVec 32 := Scalar.addi arg1 c1_i32_114
  let v190 : BitVec 32 := Scalar.maxsi v174 v189
  let v191 : BitVec 32 := Scalar.addi v160 v190
  let v192 : BitVec 32 := Scalar.subi v191 v159
  let c1_i32_128 : BitVec 32 := 1#32
  let v194 : BitVec 32 := Scalar.divsi v192 c1_i32_128
  let v195 : BitVec 32 := Scalar.muli v194 c1_i32_128
  let v196 : BitVec 32 := Scalar.addi v159 v195
  let c1_i32_130 : BitVec 32 := 1#32
  let arg13 : BitVec 32 := Scf.iv v196 c1_i32_130 k0_t6
  let c512_i32_143 : BitVec 32 := 512#32
  let v201 : BitVec 32 := Scalar.muli arg13 c512_i32_143
  v201
def k0_mult10 (i : grid0.Coords) (v174 : BitVec 32) (v189 : BitVec 32) (k0_t6 : Fin (k0_t6_loop i v174 v189).trips) : BitVec 32 :=
  let arg1 : BitVec 32 := BitVec.ofNat 32 (i 1).val
  let c1_i32 : BitVec 32 := 1#32
  let v159 : BitVec 32 := Scalar.addi arg1 c1_i32
  let c1_i32_114 : BitVec 32 := 1#32
  let v160 : BitVec 32 := Scalar.addi arg1 c1_i32_114
  let v190 : BitVec 32 := Scalar.maxsi v174 v189
  let v191 : BitVec 32 := Scalar.addi v160 v190
  let v192 : BitVec 32 := Scalar.subi v191 v159
  let c1_i32_128 : BitVec 32 := 1#32
  let v194 : BitVec 32 := Scalar.divsi v192 c1_i32_128
  let v195 : BitVec 32 := Scalar.muli v194 c1_i32_128
  let v196 : BitVec 32 := Scalar.addi v159 v195
  let c1_i32_130 : BitVec 32 := 1#32
  let arg13 : BitVec 32 := Scf.iv v196 c1_i32_130 k0_t6
  let c512_i32_143 : BitVec 32 := 512#32
  let v201 : BitVec 32 := Scalar.muli arg13 c512_i32_143
  let v202 : BitVec 32 := v201
  let c0_i32_144 : BitVec 32 := 0#32
  let v203 : BitVec 32 := Scalar.addi v202 c0_i32_144
  v203
def k0_off15 (i : grid0.Coords) (v174 : BitVec 32) (v189 : BitVec 32) (k0_t6 : Fin (k0_t6_loop i v174 v189).trips) : Fin 3 → Nat :=
  let c0_145 : Index := 0#32
  let arg1 : BitVec 32 := BitVec.ofNat 32 (i 1).val
  let c1_i32 : BitVec 32 := 1#32
  let v159 : BitVec 32 := Scalar.addi arg1 c1_i32
  let c1_i32_114 : BitVec 32 := 1#32
  let v160 : BitVec 32 := Scalar.addi arg1 c1_i32_114
  let v190 : BitVec 32 := Scalar.maxsi v174 v189
  let v191 : BitVec 32 := Scalar.addi v160 v190
  let v192 : BitVec 32 := Scalar.subi v191 v159
  let c1_i32_128 : BitVec 32 := 1#32
  let v194 : BitVec 32 := Scalar.divsi v192 c1_i32_128
  let v195 : BitVec 32 := Scalar.muli v194 c1_i32_128
  let v196 : BitVec 32 := Scalar.addi v159 v195
  let c1_i32_130 : BitVec 32 := 1#32
  let arg13 : BitVec 32 := Scf.iv v196 c1_i32_130 k0_t6
  let c512_i32_143 : BitVec 32 := 512#32
  let v201 : BitVec 32 := Scalar.muli arg13 c512_i32_143
  let v202 : BitVec 32 := v201
  let c0_i32_144 : BitVec 32 := 0#32
  let v203 : BitVec 32 := Scalar.addi v202 c0_i32_144
  let v204 : BitVec 32 := v203
  let v205 : Index := Scalar.indexCast v204
  let c0_146 : Index := 0#32
  ![0, v205.toNat, 0]
def k0_mult11 (i : grid0.Coords) (v174 : BitVec 32) (v189 : BitVec 32) (k0_t6 : Fin (k0_t6_loop i v174 v189).trips) : BitVec 32 :=
  let arg1 : BitVec 32 := BitVec.ofNat 32 (i 1).val
  let c1_i32 : BitVec 32 := 1#32
  let v159 : BitVec 32 := Scalar.addi arg1 c1_i32
  let c1_i32_114 : BitVec 32 := 1#32
  let v160 : BitVec 32 := Scalar.addi arg1 c1_i32_114
  let v190 : BitVec 32 := Scalar.maxsi v174 v189
  let v191 : BitVec 32 := Scalar.addi v160 v190
  let v192 : BitVec 32 := Scalar.subi v191 v159
  let c1_i32_128 : BitVec 32 := 1#32
  let v194 : BitVec 32 := Scalar.divsi v192 c1_i32_128
  let v195 : BitVec 32 := Scalar.muli v194 c1_i32_128
  let v196 : BitVec 32 := Scalar.addi v159 v195
  let c1_i32_130 : BitVec 32 := 1#32
  let arg13 : BitVec 32 := Scf.iv v196 c1_i32_130 k0_t6
  let c512_i32_143 : BitVec 32 := 512#32
  let v201 : BitVec 32 := Scalar.muli arg13 c512_i32_143
  let v202 : BitVec 32 := v201
  let c0_i32_171 : BitVec 32 := 0#32
  let v235 : BitVec 32 := Scalar.addi v202 c0_i32_171
  v235
def k0_off16 (i : grid0.Coords) (v174 : BitVec 32) (v189 : BitVec 32) (k0_t6 : Fin (k0_t6_loop i v174 v189).trips) : Fin 3 → Nat :=
  let c1_172 : Index := 1#32
  let arg1 : BitVec 32 := BitVec.ofNat 32 (i 1).val
  let c1_i32 : BitVec 32 := 1#32
  let v159 : BitVec 32 := Scalar.addi arg1 c1_i32
  let c1_i32_114 : BitVec 32 := 1#32
  let v160 : BitVec 32 := Scalar.addi arg1 c1_i32_114
  let v190 : BitVec 32 := Scalar.maxsi v174 v189
  let v191 : BitVec 32 := Scalar.addi v160 v190
  let v192 : BitVec 32 := Scalar.subi v191 v159
  let c1_i32_128 : BitVec 32 := 1#32
  let v194 : BitVec 32 := Scalar.divsi v192 c1_i32_128
  let v195 : BitVec 32 := Scalar.muli v194 c1_i32_128
  let v196 : BitVec 32 := Scalar.addi v159 v195
  let c1_i32_130 : BitVec 32 := 1#32
  let arg13 : BitVec 32 := Scf.iv v196 c1_i32_130 k0_t6
  let c512_i32_143 : BitVec 32 := 512#32
  let v201 : BitVec 32 := Scalar.muli arg13 c512_i32_143
  let v202 : BitVec 32 := v201
  let c0_i32_171 : BitVec 32 := 0#32
  let v235 : BitVec 32 := Scalar.addi v202 c0_i32_171
  let v236 : BitVec 32 := v235
  let v237 : Index := Scalar.indexCast v236
  let c0_173 : Index := 0#32
  ![1, v237.toNat, 0]

def k0_chk1 (i : grid0.Coords) (v174 : BitVec 32) (v189 : BitVec 32) : Prop :=
  ((k0_t5_loop i v174 v189).OK) ∧
  (∀ k0_t5 : Fin (k0_t5_loop i v174 v189).trips, 512 ∣ (k0_mult6 i v174 v189 k0_t5).toNat) ∧
  (∀ k0_t5 : Fin (k0_t5_loop i v174 v189).trips, 256 ∣ (k0_mult7 i v174 v189 k0_t5).toNat) ∧
  (∀ k0_t5 : Fin (k0_t5_loop i v174 v189).trips, ∀ a, (k0_off13 i v174 v189 k0_t5) a + S1x512x128.size a ≤ S2x8192x128.size a) ∧
  (∀ k0_t5 : Fin (k0_t5_loop i v174 v189).trips, 256 ∣ (k0_mult8 i v174 v189 k0_t5).toNat) ∧
  (∀ k0_t5 : Fin (k0_t5_loop i v174 v189).trips, ∀ a, (k0_off14 i v174 v189 k0_t5) a + S1x512x128.size a ≤ S2x8192x128.size a) ∧
  ((k0_t6_loop i v174 v189).OK) ∧
  (∀ k0_t6 : Fin (k0_t6_loop i v174 v189).trips, 512 ∣ (k0_mult9 i v174 v189 k0_t6).toNat) ∧
  (∀ k0_t6 : Fin (k0_t6_loop i v174 v189).trips, 256 ∣ (k0_mult10 i v174 v189 k0_t6).toNat) ∧
  (∀ k0_t6 : Fin (k0_t6_loop i v174 v189).trips, ∀ a, (k0_off15 i v174 v189 k0_t6) a + S1x512x128.size a ≤ S2x8192x128.size a) ∧
  (∀ k0_t6 : Fin (k0_t6_loop i v174 v189).trips, 256 ∣ (k0_mult11 i v174 v189 k0_t6).toNat) ∧
  (∀ k0_t6 : Fin (k0_t6_loop i v174 v189).trips, ∀ a, (k0_off16 i v174 v189 k0_t6) a + S1x512x128.size a ≤ S2x8192x128.size a)
theorem k0_t5_ok : ∀ (i : grid0.Coords) (v174 : BitVec 32) (v189 : BitVec 32) (k0_hw1 : k0_chk1 i v174 v189), (k0_t5_loop i v174 v189).OK := fun i v174 v189 k0_hw1 => k0_hw1.1
theorem k0_mult6_dvd : ∀ (i : grid0.Coords) (v174 : BitVec 32) (v189 : BitVec 32) (k0_hw1 : k0_chk1 i v174 v189) (k0_t5 : Fin (k0_t5_loop i v174 v189).trips), 512 ∣ (k0_mult6 i v174 v189 k0_t5).toNat := fun i v174 v189 k0_hw1 k0_t5 => k0_hw1.2.1 k0_t5
theorem k0_mult7_dvd : ∀ (i : grid0.Coords) (v174 : BitVec 32) (v189 : BitVec 32) (k0_hw1 : k0_chk1 i v174 v189) (k0_t5 : Fin (k0_t5_loop i v174 v189).trips), 256 ∣ (k0_mult7 i v174 v189 k0_t5).toNat := fun i v174 v189 k0_hw1 k0_t5 => k0_hw1.2.2.1 k0_t5
theorem k0_off13_inb : ∀ (i : grid0.Coords) (v174 : BitVec 32) (v189 : BitVec 32) (k0_hw1 : k0_chk1 i v174 v189) (k0_t5 : Fin (k0_t5_loop i v174 v189).trips), ∀ a, (k0_off13 i v174 v189 k0_t5) a + S1x512x128.size a ≤ S2x8192x128.size a := fun i v174 v189 k0_hw1 k0_t5 => k0_hw1.2.2.2.1 k0_t5
theorem k0_mult8_dvd : ∀ (i : grid0.Coords) (v174 : BitVec 32) (v189 : BitVec 32) (k0_hw1 : k0_chk1 i v174 v189) (k0_t5 : Fin (k0_t5_loop i v174 v189).trips), 256 ∣ (k0_mult8 i v174 v189 k0_t5).toNat := fun i v174 v189 k0_hw1 k0_t5 => k0_hw1.2.2.2.2.1 k0_t5
theorem k0_off14_inb : ∀ (i : grid0.Coords) (v174 : BitVec 32) (v189 : BitVec 32) (k0_hw1 : k0_chk1 i v174 v189) (k0_t5 : Fin (k0_t5_loop i v174 v189).trips), ∀ a, (k0_off14 i v174 v189 k0_t5) a + S1x512x128.size a ≤ S2x8192x128.size a := fun i v174 v189 k0_hw1 k0_t5 => k0_hw1.2.2.2.2.2.1 k0_t5
theorem k0_t6_ok : ∀ (i : grid0.Coords) (v174 : BitVec 32) (v189 : BitVec 32) (k0_hw1 : k0_chk1 i v174 v189), (k0_t6_loop i v174 v189).OK := fun i v174 v189 k0_hw1 => k0_hw1.2.2.2.2.2.2.1
theorem k0_mult9_dvd : ∀ (i : grid0.Coords) (v174 : BitVec 32) (v189 : BitVec 32) (k0_hw1 : k0_chk1 i v174 v189) (k0_t6 : Fin (k0_t6_loop i v174 v189).trips), 512 ∣ (k0_mult9 i v174 v189 k0_t6).toNat := fun i v174 v189 k0_hw1 k0_t6 => k0_hw1.2.2.2.2.2.2.2.1 k0_t6
theorem k0_mult10_dvd : ∀ (i : grid0.Coords) (v174 : BitVec 32) (v189 : BitVec 32) (k0_hw1 : k0_chk1 i v174 v189) (k0_t6 : Fin (k0_t6_loop i v174 v189).trips), 256 ∣ (k0_mult10 i v174 v189 k0_t6).toNat := fun i v174 v189 k0_hw1 k0_t6 => k0_hw1.2.2.2.2.2.2.2.2.1 k0_t6
theorem k0_off15_inb : ∀ (i : grid0.Coords) (v174 : BitVec 32) (v189 : BitVec 32) (k0_hw1 : k0_chk1 i v174 v189) (k0_t6 : Fin (k0_t6_loop i v174 v189).trips), ∀ a, (k0_off15 i v174 v189 k0_t6) a + S1x512x128.size a ≤ S2x8192x128.size a := fun i v174 v189 k0_hw1 k0_t6 => k0_hw1.2.2.2.2.2.2.2.2.2.1 k0_t6
theorem k0_mult11_dvd : ∀ (i : grid0.Coords) (v174 : BitVec 32) (v189 : BitVec 32) (k0_hw1 : k0_chk1 i v174 v189) (k0_t6 : Fin (k0_t6_loop i v174 v189).trips), 256 ∣ (k0_mult11 i v174 v189 k0_t6).toNat := fun i v174 v189 k0_hw1 k0_t6 => k0_hw1.2.2.2.2.2.2.2.2.2.2.1 k0_t6
theorem k0_off16_inb : ∀ (i : grid0.Coords) (v174 : BitVec 32) (v189 : BitVec 32) (k0_hw1 : k0_chk1 i v174 v189) (k0_t6 : Fin (k0_t6_loop i v174 v189).trips), ∀ a, (k0_off16 i v174 v189 k0_t6) a + S1x512x128.size a ≤ S2x8192x128.size a := fun i v174 v189 k0_hw1 k0_t6 => k0_hw1.2.2.2.2.2.2.2.2.2.2.2 k0_t6

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelKVIdeal.lean ====
variable {F : FTy → Type} [FloatOps F] [Named F]
def κ : String → Option EReal := fun
  | "skip" => some ⊥
  | _ => none
-- ==== ReferenceKVIdeal.lean ====
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 97
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x8192, .f32⟩
  | .hbm, ⟨4, _⟩ => ⟨S16x8192x64, .f32⟩
  | .hbm, ⟨5, _⟩ => ⟨S16x8192x8192, .f32⟩
  | .hbm, ⟨6, _⟩ => ⟨S_, .f32⟩
  | .hbm, ⟨7, _⟩ => ⟨S16x8192x8192, .f32⟩
  | .hbm, ⟨8, _⟩ => ⟨S16x8192x8192, .f32⟩
  | .hbm, ⟨9, _⟩ => ⟨S16x8192x1, .f32⟩
  | .hbm, ⟨10, _⟩ => ⟨S16x1x8192, .f32⟩
  | .hbm, ⟨11, _⟩ => ⟨S16x8192x8192, .f32⟩
  | .hbm, ⟨12, _⟩ => ⟨S16x8192x8192, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x1, .f32⟩
  | .hbm, ⟨63, _⟩ => ⟨S_, .f32⟩
  | .hbm, ⟨64, _⟩ => ⟨S16x8192x1, .f32⟩
  | .hbm, ⟨65, _⟩ => ⟨S16x8192x1, .f32⟩
  | .hbm, ⟨66, _⟩ => ⟨S16x8192x64, .f32⟩
  | .hbm, ⟨67, _⟩ => ⟨S16x64x8192, .f32⟩
  | .hbm, ⟨68, _⟩ => ⟨S16x8192x64, .f32⟩
  | .hbm, ⟨69, _⟩ => ⟨S16x8192x8192, .f32⟩
  | .hbm, ⟨70, _⟩ => ⟨S16x8192x8192, .f32⟩
  | .hbm, ⟨71, _⟩ => ⟨S16x8192x8192, .f32⟩
  | .hbm, ⟨72, _⟩ => ⟨S16x8192x8192, .f32⟩
  | .hbm, ⟨73, _⟩ => ⟨S_, .f32⟩
  | .hbm, ⟨74, _⟩ => ⟨S16x8192, .f32⟩
  | .hbm, ⟨75, _⟩ => ⟨S16x8192x1, .f32⟩
  | .hbm, ⟨76, _⟩ => ⟨S16x8192x1, .f32⟩
  | .hbm, ⟨77, _⟩ => ⟨S16x8192x8192, .f32⟩
  | .hbm, ⟨78, _⟩ => ⟨S16x8192x8192, .f32⟩
  | .hbm, ⟨79, _⟩ => ⟨S_, .f32⟩
  | .hbm, ⟨80, _⟩ => ⟨S16x8192, .f32⟩
  | .hbm, ⟨81, _⟩ => ⟨S16x8192x8192, .f32⟩
  | .hbm, ⟨82, _⟩ => ⟨S16x8192x8192, .f32⟩
  | .hbm, ⟨83, _⟩ => ⟨S16x8192x8192, .f32⟩
  | .hbm, ⟨84, _⟩ => ⟨S_, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x1x8192, .f32⟩
  | .hbm, ⟨90, _⟩ => ⟨S16x1x8192, .f32⟩
  | .hbm, ⟨91, _⟩ => ⟨S_, .f32⟩
  | .hbm, ⟨92, _⟩ => ⟨S16x8192, .f32⟩
  | .hbm, ⟨93, _⟩ => ⟨S_, .f32⟩
  | .hbm, ⟨94, _⟩ => ⟨S16x8192x8192, .f32⟩
  | .hbm, ⟨95, _⟩ => ⟨S16x8192x8192, .f32⟩
  | .hbm, ⟨96, _⟩ => ⟨S16x8192x64, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Dact.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S2048x1024 : Shape := ⟨2, ![2048, 1024]⟩
abbrev S1024x1024 : Shape := ⟨2, ![1024, 1024]⟩
abbrev S256x1024 : Shape := ⟨2, ![256, 1024]⟩
abbrev S2048x256 : Shape := ⟨2, ![2048, 256]⟩

abbrev nBuf : Space → Nat
  | .hbm => 12
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .bf16⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .bf16⟩
  | .hbm, ⟨11, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDactIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Dwdown.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S2048x1024 : Shape := ⟨2, ![2048, 1024]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 10
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwdownIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S1024x4096, .f32⟩
  | .hbm, ⟨9, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Dh.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S256x4096 : Shape := ⟨2, ![256, 4096]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S1024x4096, .bf16⟩
  | .hbm, ⟨5, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dwup.lean ====
abbrev S8192x1024 : Shape := ⟨2, ![8192, 1024]⟩
abbrev S1024x4096 : Shape := ⟨2, ![1024, 4096]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwupIdeal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwSquare.lean ====
abbrev S8192x1024 : Shape := ⟨2, ![8192, 1024]⟩
abbrev S1024x1024 : Shape := ⟨2, ![1024, 1024]⟩
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwSquareIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DxSquare.lean ====
abbrev S8192x1024 : Shape := ⟨2, ![8192, 1024]⟩
abbrev S1024x1024 : Shape := ⟨2, ![1024, 1024]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxSquareIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwIn.lean ====
abbrev S8192x1024 : Shape := ⟨2, ![8192, 1024]⟩
abbrev S1024x3088 : Shape := ⟨2, ![1024, 3088]⟩
abbrev S8192x3088 : Shape := ⟨2, ![8192, 3088]⟩
abbrev S_ : Shape := ⟨0, ![]⟩
abbrev S8192x3200 : Shape := ⟨2, ![8192, 3200]⟩
abbrev S1024x3200 : Shape := ⟨2, ![1024, 3200]⟩
abbrev S2048x1024 : Shape := ⟨2, ![2048, 1024]⟩
abbrev S2048x640 : Shape := ⟨2, ![2048, 640]⟩
abbrev S1024x640 : Shape := ⟨2, ![1024, 640]⟩
abbrev S1024x4x772 : Shape := ⟨3, ![1024, 4, 772]⟩
abbrev S4x1024x772 : Shape := ⟨3, ![4, 1024, 772]⟩

abbrev nBuf : Space → Nat
  | .hbm => 12
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3088, .f32⟩
  | .hbm, ⟨2, _⟩ => ⟨S8192x3088, .f32⟩
  | .hbm, ⟨3, _⟩ => ⟨S8192x1024, .bf16⟩
  | .hbm, ⟨4, _⟩ => ⟨S8192x3088, .bf16⟩
  | .hbm, ⟨5, _⟩ => ⟨S_, .i32⟩
  | .hbm, ⟨6, _⟩ => ⟨S_, .bf16⟩
  | .hbm, ⟨7, _⟩ => ⟨S8192x3200, .bf16⟩
  | .hbm, ⟨8, _⟩ => ⟨S1024x3200, .f32⟩
  | .hbm, ⟨9, _⟩ => ⟨S1024x3088, .f32⟩
  | .hbm, ⟨10, _⟩ => ⟨S1024x4x772, .f32⟩
  | .hbm, ⟨11, _⟩ => ⟨S4x1024x772, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwInIdeal.lean ====
abbrev S8192x1024 : Shape := ⟨2, ![8192, 1024]⟩
abbrev S1024x3088 : Shape := ⟨2, ![1024, 3088]⟩
abbrev S8192x3088 : Shape := ⟨2, ![8192, 3088]⟩
abbrev S3088x1024 : Shape := ⟨2, ![3088, 1024]⟩
abbrev S1024x4x772 : Shape := ⟨3, ![1024, 4, 772]⟩
abbrev S4x1024x772 : Shape := ⟨3, ![4, 1024, 772]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3088, .f32⟩
  | .hbm, ⟨2, _⟩ => ⟨S8192x3088, .f32⟩
  | .hbm, ⟨3, _⟩ => ⟨S8192x3088, .f32⟩
  | .hbm, ⟨4, _⟩ => ⟨S3088x1024, .f32⟩
  | .hbm, ⟨5, _⟩ => ⟨S1024x3088, .f32⟩
  | .hbm, ⟨6, _⟩ => ⟨S1024x4x772, .f32⟩
  | .hbm, ⟨7, _⟩ => ⟨S4x1024x772, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhIn.lean ====
abbrev S8192x1024 : Shape := ⟨2, ![8192, 1024]⟩
abbrev S1024x3088 : Shape := ⟨2, ![1024, 3088]⟩
abbrev S8192x3088 : Shape := ⟨2, ![8192, 3088]⟩
abbrev S_ : Shape := ⟨0, ![]⟩
abbrev S8192x3200 : Shape := ⟨2, ![8192, 3200]⟩
abbrev S1024x3200 : Shape := ⟨2, ![1024, 3200]⟩
abbrev S1024x1024 : Shape := ⟨2, ![1024, 1024]⟩
abbrev S256x3200 : Shape := ⟨2, ![256, 3200]⟩
abbrev S1024x256 : Shape := ⟨2, ![1024, 256]⟩

abbrev nBuf : Space → Nat
  | .hbm => 12
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x3088, .f32⟩
  | .hbm, ⟨2, _⟩ => ⟨S8192x3088, .f32⟩
  | .hbm, ⟨3, _⟩ => ⟨S8192x3088, .bf16⟩
  | .hbm, ⟨4, _⟩ => ⟨S_, .i32⟩
  | .hbm, ⟨5, _⟩ => ⟨S_, .bf16⟩
  | .hbm, ⟨6, _⟩ => ⟨S8192x3200, .bf16⟩
  | .hbm, ⟨7, _⟩ => ⟨S1024x3088, .bf16⟩
  | .hbm, ⟨8, _⟩ => ⟨S_, .i32⟩
  | .hbm, ⟨9, _⟩ => ⟨S_, .bf16⟩
  | .hbm, ⟨10, _⟩ => ⟨S1024x3200, .bf16⟩
  | .hbm, ⟨11, _⟩ => ⟨S8192x1024, .f32⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhInIdeal.lean ====
abbrev S8192x1024 : Shape := ⟨2, ![8192, 1024]⟩
abbrev S1024x3088 : Shape := ⟨2, ![1024, 3088]⟩
abbrev S8192x3088 : Shape := ⟨2, ![8192, 3088]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3088, .f32⟩
  | .hbm, ⟨2, _⟩ => ⟨S8192x3088, .f32⟩
  | .hbm, ⟨3, _⟩ => ⟨S8192x3088, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwConv.lean ====
abbrev S8192x1024 : Shape := ⟨2, ![8192, 1024]⟩
abbrev S1024x2048 : Shape := ⟨2, ![1024, 2048]⟩
abbrev S8192x2048 : Shape := ⟨2, ![8192, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwConvIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhConv.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S256x2048 : Shape := ⟨2, ![256, 2048]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | .hbm, ⟨4, _⟩ => ⟨S1024x2048, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhConvIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩
abbrev S1024x256 : Shape := ⟨2, ![1024, 256]⟩
abbrev S2048x256 : Shape := ⟨2, ![2048, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .hbm, ⟨5, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x4096, .bf16⟩
  | .hbm, ⟨3, _⟩ => ⟨S4096x1024, .bf16⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Pw1.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S2048x1024 : Shape := ⟨2, ![2048, 1024]⟩
abbrev S1024x1024 : Shape := ⟨2, ![1024, 1024]⟩
abbrev S1x1024 : Shape := ⟨2, ![1, 1024]⟩
abbrev S1024x256 : Shape := ⟨2, ![1024, 256]⟩
abbrev S2048x256 : Shape := ⟨2, ![2048, 256]⟩
abbrev S1x256 : Shape := ⟨2, ![1, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S8192x1024, .bf16⟩
  | .hbm, ⟨4, _⟩ => ⟨S1024x2048, .bf16⟩
  | .hbm, ⟨5, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferencePw1Ideal.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S2048 : Shape := ⟨1, ![2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Pw2.lean ====
abbrev S8192x1024 : Shape := ⟨2, ![8192, 1024]⟩
abbrev S1024x1024 : Shape := ⟨2, ![1024, 1024]⟩
abbrev S1x1024 : Shape := ⟨2, ![1, 1024]⟩
abbrev S2048x1024 : Shape := ⟨2, ![2048, 1024]⟩
abbrev S1024x256 : Shape := ⟨2, ![1024, 256]⟩
abbrev S2048x256 : Shape := ⟨2, ![2048, 256]⟩
abbrev S1x256 : Shape := ⟨2, ![1, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferencePw2Ideal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnIn.lean ====
abbrev S8192x1024 : Shape := ⟨2, ![8192, 1024]⟩
abbrev S1024x3088 : Shape := ⟨2, ![1024, 3088]⟩
abbrev S_ : Shape := ⟨0, ![]⟩
abbrev S1024x3200 : Shape := ⟨2, ![1024, 3200]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩
abbrev S1024x256 : Shape := ⟨2, ![1024, 256]⟩
abbrev S2048x256 : Shape := ⟨2, ![2048, 256]⟩

abbrev nBuf : Space → Nat
  | .hbm => 10
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3088, .f32⟩
  | .hbm, ⟨2, _⟩ => ⟨S1024x3088, .bf16⟩
  | .hbm, ⟨3, _⟩ => ⟨S_, .i32⟩
  | .hbm, ⟨4, _⟩ => ⟨S_, .bf16⟩
  | .hbm, ⟨5, _⟩ => ⟨S1024x3200, .bf16⟩
  | .hbm, ⟨6, _⟩ => ⟨S8192x1024, .bf16⟩
  | .hbm, ⟨7, _⟩ => ⟨S1024x3072, .bf16⟩
  | .hbm, ⟨8, _⟩ => ⟨S8192x3072, .bf16⟩
  | .hbm, ⟨9, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAttnInIdeal.lean ====
abbrev S8192x1024 : Shape := ⟨2, ![8192, 1024]⟩
abbrev S1024x3088 : Shape := ⟨2, ![1024, 3088]⟩
abbrev S8192x3088 : Shape := ⟨2, ![8192, 3088]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3088, .f32⟩
  | .hbm, ⟨2, _⟩ => ⟨S8192x3088, .f32⟩
  | .hbm, ⟨3, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateIn.lean ====
abbrev S8192x1024 : Shape := ⟨2, ![8192, 1024]⟩
abbrev S1024x3088 : Shape := ⟨2, ![1024, 3088]⟩
abbrev S_ : Shape := ⟨0, ![]⟩
abbrev S1024x3200 : Shape := ⟨2, ![1024, 3200]⟩
abbrev S1024x128 : Shape := ⟨2, ![1024, 128]⟩
abbrev S8192x128 : Shape := ⟨2, ![8192, 128]⟩
abbrev S1024x1024 : Shape := ⟨2, ![1024, 1024]⟩
abbrev S8192x16 : Shape := ⟨2, ![8192, 16]⟩

abbrev nBuf : Space → Nat
  | .hbm => 10
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x3088, .f32⟩
  | .hbm, ⟨2, _⟩ => ⟨S1024x3088, .bf16⟩
  | .hbm, ⟨3, _⟩ => ⟨S_, .i32⟩
  | .hbm, ⟨4, _⟩ => ⟨S_, .bf16⟩
  | .hbm, ⟨5, _⟩ => ⟨S1024x3200, .bf16⟩
  | .hbm, ⟨6, _⟩ => ⟨S8192x1024, .bf16⟩
  | .hbm, ⟨7, _⟩ => ⟨S1024x128, .bf16⟩
  | .hbm, ⟨8, _⟩ => ⟨S8192x128, .f32⟩
  | .hbm, ⟨9, _⟩ => ⟨S8192x16, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateInIdeal.lean ====
abbrev S8192x1024 : Shape := ⟨2, ![8192, 1024]⟩
abbrev S1024x3088 : Shape := ⟨2, ![1024, 3088]⟩
abbrev S8192x3088 : Shape := ⟨2, ![8192, 3088]⟩
abbrev S8192x16 : Shape := ⟨2, ![8192, 16]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3088, .f32⟩
  | .hbm, ⟨2, _⟩ => ⟨S8192x3088, .f32⟩
  | .hbm, ⟨3, _⟩ => ⟨S8192x16, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAttnOutIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormPre.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormPreIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== NormPost.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1x1024, .f32⟩
  | .hbm, ⟨5, _⟩ => ⟨S1x1024, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormPostIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== ResNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceResNormIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== NormIn.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormInIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Merge.lean ====
abbrev S16x8192x128 : Shape := ⟨3, ![16, 8192, 128]⟩
abbrev S8192x1024 : Shape := ⟨2, ![8192, 1024]⟩
abbrev S2x2048x128 : Shape := ⟨3, ![2, 2048, 128]⟩
abbrev S2048x128 : Shape := ⟨2, ![2048, 128]⟩
abbrev S1x2048x128 : Shape := ⟨3, ![1, 2048, 128]⟩

abbrev nBuf : Space → Nat
  | .hbm => 3
  | .vmem => 4
  | .smem => 0
  | _ => 0

abbrev bufTy : (tb : Table) → Fin (tcTables nBuf tb) → BufTy
  | .hbm, ⟨0, _⟩ => ⟨S16x8192x128, .f32⟩
  | .hbm, ⟨1, _⟩ => ⟨S8192x1024, .bf16⟩
  | .hbm, ⟨2, _⟩ => ⟨S8192x1024, .f32⟩
  | .local _ .vmem, ⟨0, _⟩ => ⟨S2x2048x128, .f32⟩
  | .local _ .vmem, ⟨1, _⟩ => ⟨S2x2048x128, .f32⟩
  | .local _ .vmem, ⟨2, _⟩ => ⟨S2048x128, .bf16⟩
  | .local _ .vmem, ⟨3, _⟩ => ⟨S2048x128, .bf16⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceMergeIdeal.lean ====
abbrev S16x8192x128 : Shape := ⟨3, ![16, 8192, 128]⟩
abbrev S16x8192x64 : Shape := ⟨3, ![16, 8192, 64]⟩
abbrev S8192x16x64 : Shape := ⟨3, ![8192, 16, 64]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x8192x128, .f32⟩
  | .hbm, ⟨1, _⟩ => ⟨S16x8192x64, .f32⟩
  | .hbm, ⟨2, _⟩ => ⟨S8192x16x64, .f32⟩
  | .hbm, ⟨3, _⟩ => ⟨S8192x1024, .f32⟩
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.KernelIdeal.Chk.lean ====
/- The bounds of the sweep over key blocks: the first live block is a count of trips of a loop over
   the key blocks before the query block, so it lies between 0 and the query block's number, and the
   sweep from it stays inside the arrays. -/
module

public import proofs.«01_k».proof.Proof.Gen.KernelIdeal.Frame
public import proofs.«01_k».proof.Proof.Gen.KernelIdeal.Loops

@[expose] public section

namespace Cert.KernelIdeal.Dq

open Idealize.ShloMosaic Idealize.SL.Sem Cert.KernelIdeal.Gen

/-- A word whose signed reading is a number from 0 to `n`. -/
def Upto (v : BitVec 32) (n : ℕ) : Prop := ∃ e : ℕ, Affine.IsInt v (e : ℤ) ∧ e ≤ n

theorem Upto.zero (n : ℕ) : Upto 0#32 n := ⟨0, Affine.ofNat _ (by omega), Nat.zero_le _⟩

theorem Upto.mono {v : BitVec 32} {a b : ℕ} (h : Upto v a) (hab : a ≤ b) : Upto v b :=
  let ⟨e, he, hb⟩ := h; ⟨e, he, hb.trans hab⟩

/-- Adding a bit to a count raises it by at most one. -/
theorem Upto.add_bit {v : BitVec 32} {n : ℕ} (h : Upto v n) (hn : n < 1000) (c : BitVec 1) :
    Upto (Scalar.addi v (Scalar.select c 1#32 0#32)) (n + 1) := by
  obtain ⟨e, he, hb⟩ := h
  have h1 : Affine.IsInt 1#32 (1) := Affine.ofNat _ (by omega)
  have h0 : Affine.IsInt 0#32 (0) := Affine.ofNat _ (by omega)
  rcases (by decide : ∀ c : BitVec 1, c = 1#1 ∨ c = 0#1) c with rfl | rfl
  · exact ⟨e + 1, Affine.addi he h1 (by push_cast; omega), by omega⟩
  · exact ⟨e, Affine.addi he h0 (by omega), by omega⟩

/-- The smaller of two such words. -/
theorem Upto.min {v w : BitVec 32} {n : ℕ} (hv : Upto v n) (hw : Upto w n) : Upto (Scalar.minsi v w) n := by
  unfold Scalar.minsi IntOp.minsi
  split
  · exact hv
  · exact hw

/-- Where the sweep starts at a count of at most the query block's number, it stays inside the arrays. -/
theorem chk {i : grid0.Coords} {v17 v31 : BitVec 32} (h17 : Upto v17 (i 1).val) (h31 : Upto v31 (i 1).val) :
    k0_chk1 i v17 v31 := by
  obtain ⟨e, h_v32, hle⟩ := h17.min h31
  have r_i1 : (i 1).val < 16 := (i 1).isLt
  have h_arg1 : Affine.IsInt (BitVec.ofNat 32 (i 1).val) (((i 1).val : Int)) := Affine.ofNat _ (by omega)
  have h_one : Affine.IsInt 1#32 (1) := Affine.ofNat _ (by omega)
  have h_zero : Affine.IsInt 0#32 (0) := Affine.ofNat _ (by omega)
  have h_512 : Affine.IsInt 512#32 (512) := Affine.ofNat _ (by omega)
  have h_v33 : Affine.IsInt _ (((i 1).val : Int) - e) := Affine.subi h_arg1 h_v32 (by omega)
  have h_v35 : Affine.IsInt _ (((i 1).val : Int) - e) := Affine.divsi h_v33 h_one (by omega)
  have h_v36 : Affine.IsInt _ (((i 1).val : Int) - e) := Affine.muli h_v35 h_one (by omega)
  have h_v37 : Affine.IsInt _ (((i 1).val : Int)) := Affine.addi h_v32 h_v36 (by omega)
  have h_v34 : Affine.IsInt _ (((i 1).val : Int)) := Affine.addi h_v32 h_v33 (by omega)
  have ok5 : (k0_t5_loop i v17 v31).OK := Affine.ok h_v32 h_v37 h_one (by omega)
  have tr5 : (k0_t5_loop i v17 v31).trips ≤ (i 1).val - e := Affine.trips_le h_v32 h_v37 h_one _ (by omega)
  have ok6 : (k0_t6_loop i v17 v31).OK := Affine.ok h_v37 h_v34 h_one (by omega)
  have tr6 : (k0_t6_loop i v17 v31).trips ≤ 0 := Affine.trips_le h_v37 h_v34 h_one _ (by omega)
  have none6 : Fin (k0_t6_loop i v17 v31).trips → False := fun k => by have := k.isLt; omega
  have h_iv (k : Fin (k0_t5_loop i v17 v31).trips) : Affine.IsInt _ ((e : Int) + k.val) :=
    Affine.iv h_v32 h_one k.val (by have := k.isLt; omega)
  have h_row (k : Fin (k0_t5_loop i v17 v31).trips) : Affine.IsInt _ (((e : Int) + k.val) * 512) :=
    Affine.muli (h_iv k) h_512 (by have := k.isLt; omega)
  have lt (k : Fin (k0_t5_loop i v17 v31).trips) : (e : Int) + k.val < 16 := by have := k.isLt; omega
  refine ⟨ok5, fun k => ?_, fun k => ?_, fun k => ?_, ok6, fun k => (none6 k).elim, fun k => (none6 k).elim, fun k => (none6 k).elim⟩
  · exact Affine.dvd_of (h_row k) 512 (by constructor <;> omega)
  · refine Affine.inb_cons (x := 0#32) h_zero (by decide) <| Affine.inb_cons (h_row k) ?_ <| Affine.inb_cons (x := 0#32) h_zero (by decide) <| Affine.inb_nil
    have := lt k; constructor <;> omega
  · refine Affine.inb_cons (x := 1#32) h_one (by decide) <| Affine.inb_cons (h_row k) ?_ <| Affine.inb_cons (x := 0#32) h_zero (by decide) <| Affine.inb_nil
    have := lt k; constructor <;> omega

end Cert.KernelIdeal.Dq
-- ==== Proof.KernelIdeal.Count.lean ====
/- What the four counting loops carry out: after `k` trips a number from 0 to `k`, whatever the tables
   hold, so the count is at most the query block's number. -/
module

public import proofs.«01_k».proof.Proof.KernelIdeal.Chk

@[expose] public section

noncomputable section

namespace Cert.KernelIdeal.Dq

open Idealize.ShloMosaic Idealize.ShloMosaic.TcCoe Idealize.ShloMosaic.Tactic
open Idealize.SL.Sem Cert.KernelIdeal.Gen

variable {F : FTy → Type} [FloatOps F] [Named F]
variable (𝒱 : Variants) (c : Dev nD) (bd : Option 𝒱.V) (i : grid0.Coords)
  (arg2 : Memref sig .tc .smem S16 .f32) (harg2 : arg2.IsWhole) (arg3 : Memref sig .tc .smem S16x16 .f32) (harg3 : arg3.IsWhole)
  (arg4 : Memref sig .tc .smem S16x16 .f32) (harg4 : arg4.IsWhole) (arg5 : Memref sig .tc .vmem S2x512x128 .bf16) (harg5 : arg5.IsWhole)
  (arg6 : Memref sig .tc .vmem S2x8192x128 .bf16) (harg6 : arg6.IsWhole) (arg7 : Memref sig .tc .vmem S2x512x128 .bf16) (harg7 : arg7.IsWhole)
  (arg8 : Memref sig .tc .vmem S2x8192x128 .bf16) (harg8 : arg8.IsWhole) (arg9 : Memref sig .tc .vmem S2x512x128 .f32) (harg9 : arg9.IsWhole)
  (arg10 : Memref sig .tc .vmem S2x512x128 .f32) (harg10 : arg10.IsWhole)
  (v w : Elt F .f32) (X : BufTy.Contents (Elt F) arg4.view.ty)

/-- Trips that each add a bit to the count, `n` of them from a count of at most `a`. -/
theorem upto_of_steps {st : ℕ → BitVec 32} {a : ℕ} (n : ℕ) (h0 : Upto (st 0) a) (ha : a + n < 1000)
    (hs : ∀ k, k < n → ∃ b, st (k + 1) = Scalar.addi (st k) (Scalar.select b 1#32 0#32)) : Upto (st n) (a + n) := by
  induction n with
  | zero => exact h0
  | succ n ih =>
      obtain ⟨b, hb⟩ := hs n (Nat.lt_succ_self n)
      rw [hb, ← Nat.add_assoc]
      exact (ih (by omega) fun k hk => hs k (by omega)).add_bit (by omega) b

/-- The counting loops make at most the query block's number of trips, -/
theorem trips1_le : (k0_t1_loop i).trips ≤ (i 1).val := by
  have r_i1 : (i 1).val < 16 := (i 1).isLt
  have h_zero : Affine.IsInt 0#32 (0) := Affine.ofNat _ (by omega)
  have h_one : Affine.IsInt 1#32 (1) := Affine.ofNat _ (by omega)
  have h_arg1 : Affine.IsInt (BitVec.ofNat 32 (i 1).val) (((i 1).val : Int)) := Affine.ofNat _ (by omega)
  have h_v11 : Affine.IsInt _ (((i 1).val : Int)) := Affine.subi h_arg1 h_zero (by omega)
  have h_v13 : Affine.IsInt _ (((i 1).val : Int)) := Affine.divsi h_v11 h_one (by omega)
  have h_v14 : Affine.IsInt _ (((i 1).val : Int)) := Affine.muli h_v13 h_one (by omega)
  have h_v15 : Affine.IsInt _ (((i 1).val : Int)) := Affine.addi h_zero h_v14 (by omega)
  exact Affine.trips_le h_zero h_v15 h_one _ (by omega)

/-- and their remainder loops none. -/
theorem trips2 : (k0_t2_loop i).trips = 0 := Nat.le_zero.mp (k0_t2_abs i).2.1
theorem trips4 : (k0_t4_loop i).trips = 0 := Nat.le_zero.mp (k0_t4_abs i).2.1

/-- A trip of the first head's counting loop adds a bit to the count. -/
theorem count1 (init : BitVec 32) (k : Fin (k0_t1_loop i).trips) :
    ∃ b, st_k0_t1 (F := F) 𝒱 c bd i arg2 harg2 arg3 harg3 arg4 harg4 arg5 harg5 arg6 harg6 arg7 harg7 arg8 harg8 arg9 harg9 arg10 harg10 v w X init (k.val + 1)
      = Scalar.addi (st_k0_t1 (F := F) 𝒱 c bd i arg2 harg2 arg3 harg3 arg4 harg4 arg5 harg5 arg6 harg6 arg7 harg7 arg8 harg8 arg9 harg9 arg10 harg10 v w X init k.val) (Scalar.select b 1#32 0#32) := by
  rw [st_k0_t1_succ]; unfold tripR_k0_t1 trip_k0_t1; dsimp only; sl_unfold_words
  exact ⟨_, rfl⟩

/-- A trip of the second head's counting loop adds a bit to the count. -/
theorem count3 (init : BitVec 32) (k : Fin (k0_t3_loop i).trips) :
    ∃ b, st_k0_t3 (F := F) 𝒱 c bd i arg2 harg2 arg3 harg3 arg4 harg4 arg5 harg5 arg6 harg6 arg7 harg7 arg8 harg8 arg9 harg9 arg10 harg10 v w X init (k.val + 1)
      = Scalar.addi (st_k0_t3 (F := F) 𝒱 c bd i arg2 harg2 arg3 harg3 arg4 harg4 arg5 harg5 arg6 harg6 arg7 harg7 arg8 harg8 arg9 harg9 arg10 harg10 v w X init k.val) (Scalar.select b 1#32 0#32) := by
  rw [st_k0_t3_succ]; unfold tripR_k0_t3 trip_k0_t3; dsimp only; sl_unfold_words
  exact ⟨_, rfl⟩

/-- The first head's count of dead blocks is at most the query block's number. -/
theorem upto17 : Upto (st_k0_t2 (F := F) 𝒱 c bd i arg2 harg2 arg3 harg3 arg4 harg4 arg5 harg5 arg6 harg6 arg7 harg7 arg8 harg8 arg9 harg9 arg10 harg10 v w X (st_k0_t1 (F := F) 𝒱 c bd i arg2 harg2 arg3 harg3 arg4 harg4 arg5 harg5 arg6 harg6 arg7 harg7 arg8 harg8 arg9 harg9 arg10 harg10 v w X 0#32 (k0_t1_loop i).trips) (k0_t2_loop i).trips) (i 1).val := by
  rw [trips2, st_k0_t2_zero]
  have h := trips1_le i
  have r_i1 : (i 1).val < 16 := (i 1).isLt
  exact (upto_of_steps (st := st_k0_t1 (F := F) 𝒱 c bd i arg2 harg2 arg3 harg3 arg4 harg4 arg5 harg5 arg6 harg6 arg7 harg7 arg8 harg8 arg9 harg9 arg10 harg10 v w X 0#32) (a := 0) (k0_t1_loop i).trips (Upto.zero 0) (by omega) fun k hk => count1 𝒱 c bd i arg2 harg2 arg3 harg3 arg4 harg4 arg5 harg5 arg6 harg6 arg7 harg7 arg8 harg8 arg9 harg9 arg10 harg10 v w X 0#32 ⟨k, hk⟩).mono (by omega)

/-- The second head's count of dead blocks is at most the query block's number. -/
theorem upto31 : Upto (st_k0_t4 (F := F) 𝒱 c bd i arg2 harg2 arg3 harg3 arg4 harg4 arg5 harg5 arg6 harg6 arg7 harg7 arg8 harg8 arg9 harg9 arg10 harg10 v w X (st_k0_t3 (F := F) 𝒱 c bd i arg2 harg2 arg3 harg3 arg4 harg4 arg5 harg5 arg6 harg6 arg7 harg7 arg8 harg8 arg9 harg9 arg10 harg10 v w X 0#32 (k0_t3_loop i).trips) (k0_t4_loop i).trips) (i 1).val := by
  rw [trips4, st_k0_t4_zero]
  have h : (k0_t3_loop i).trips ≤ (i 1).val := trips1_le i
  have r_i1 : (i 1).val < 16 := (i 1).isLt
  exact (upto_of_steps (st := st_k0_t3 (F := F) 𝒱 c bd i arg2 harg2 arg3 harg3 arg4 harg4 arg5 harg5 arg6 harg6 arg7 harg7 arg8 harg8 arg9 harg9 arg10 harg10 v w X 0#32) (a := 0) (k0_t3_loop i).trips (Upto.zero 0) (by omega) fun k hk => count3 𝒱 c bd i arg2 harg2 arg3 harg3 arg4 harg4 arg5 harg5 arg6 harg6 arg7 harg7 arg8 harg8 arg9 harg9 arg10 harg10 v w X 0#32 ⟨k, hk⟩).mono (by omega)

end Cert.KernelIdeal.Dq
-- ==== Proof.Types.lean ====
/- The arrays of reals of the two formats. -/
module

public import Idealize.ShloMosaic.Lib.Pointwise

@[expose] public section

namespace Cert

open Idealize.ShloMosaic

abbrev BF16 (S : Shape) := Vec Ideal S .bf16
abbrev F32 (S : Shape) := Vec Ideal S .f32

end Cert
-- ==== Proof.KernelIdeal.Run.lean ====
/- The whole body of the query-gradient kernel run once, at any grid point, on any staging memrefs: the
   pieces it writes into its output block are what the run finds. The side condition the body assumes of the
   first live block is the bound on the two counts. -/
module

public import proofs.«01_k».proof.Proof.KernelIdeal.Count
public import proofs.«01_k».proof.Proof.Gen.KernelIdeal.Skeleton
public import proofs.«01_k».proof.Proof.Gen.KernelIdeal.Points

@[expose] public section

set_option maxRecDepth 16384

noncomputable section

namespace Cert.KernelIdeal.Dq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The view of the output block's staging buffer that its contents are read through. -/
abbrev outView : View sig .tc .vmem S2x512x128 .f32 := (Memref.whole cc0_stg7_0 : Memref sig .tc .vmem S2x512x128 .f32).view

/-- The staging memref of each window at point `t`, and that it is a whole buffer. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S16x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8192x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x8192x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x512x128 .f32 := win0_7.stage (cfg0.slots t 7)
abbrev hs0_7 (t : Fin cfg0.N) : (ms0_7 t).IsWhole := hstage0_7 ((cfg0.slots t 7).cast nbuf0_7)

/-- The accumulator of the kernel's own. -/
abbrev accM : Memref sig .tc .vmem S2x512x128 .f32 := Memref.whole cc0_scratch0

/-- What the body is handed beside its windows: the accumulator at some contents, and the generator register. -/
theorem phi_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

set_option maxHeartbeats 1000000 in
/-- The body on whole memrefs, its inputs at `x0 … x6`, the output block and the accumulator at anything, runs to its
    end with the inputs as they were and the output block overwritten by the pieces given. -/
def bodyRun (c : Dev nD) (i : grid0.Coords) (arg2 : Memref sig .tc .smem S16 .f32) (harg2 : arg2.IsWhole) (arg3 : Memref sig .tc .smem S16x16 .f32) (harg3 : arg3.IsWhole) (arg4 : Memref sig .tc .smem S16x16 .f32) (harg4 : arg4.IsWhole) (arg5 : Memref sig .tc .vmem S2x512x128 .bf16) (harg5 : arg5.IsWhole) (arg6 : Memref sig .tc .vmem S2x8192x128 .bf16) (harg6 : arg6.IsWhole) (arg7 : Memref sig .tc .vmem S2x512x128 .bf16) (harg7 : arg7.IsWhole) (arg8 : Memref sig .tc .vmem S2x8192x128 .bf16) (harg8 : arg8.IsWhole) (arg9 : Memref sig .tc .vmem S2x512x128 .f32) (harg9 : arg9.IsWhole) (arg10 : Memref sig .tc .vmem S2x512x128 .f32) (harg10 : arg10.IsWhole)
    (x0 : Vec F S16 .f32) (x1 : Vec F S16x16 .f32) (x2 : Vec F S16x16 .f32) (x3 : Vec F S2x512x128 .bf16) (x4 : Vec F S2x8192x128 .bf16) (x5 : Vec F S2x512x128 .bf16) (x6 : Vec F S2x8192x128 .bf16) :
    { L7 : List (View.Piece (Elt F) S2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0_flash_dq i arg2 harg2 arg3 harg3 arg4 harg4 arg5 harg5 arg6 harg6 arg7 harg7 arg8 harg8 arg9 harg9 arg10 harg10) K } := by
  refine ⟨?_, fun E K => ?run⟩
  case run =>
    simp only [cc0_flash_dq_eq_skeleton]; unfold cc0_flash_dq_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := exact chk (upto17 ..) (upto31 ..))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _, _; isplitr; swap; · iexact HS0
    ipureintro; rfl

end Cert.KernelIdeal.Dq
-- ==== Proof.KernelIdeal.Frame.lean ====
/- The frame of the query-gradient program: every point leaves its input blocks as they were and its output
   block as the run leaves it, so the program runs to its end with its arguments as they were and every
   semaphore counter at zero. -/
module

public import proofs.«01_k».proof.Proof.KernelIdeal.Run
public import Idealize.ShloMosaic.Lib.Claim

@[expose] public section

noncomputable section

namespace Cert.KernelIdeal.Dq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section run

variable (c : Dev nD) (i : grid0.Coords) (arg2 : Memref sig .tc .smem S16 .f32) (harg2 : arg2.IsWhole)
  (arg3 : Memref sig .tc .smem S16x16 .f32) (harg3 : arg3.IsWhole) (arg4 : Memref sig .tc .smem S16x16 .f32) (harg4 : arg4.IsWhole)
  (arg5 : Memref sig .tc .vmem S2x512x128 .bf16) (harg5 : arg5.IsWhole)
  (arg6 : Memref sig .tc .vmem S2x8192x128 .bf16) (harg6 : arg6.IsWhole)
  (arg7 : Memref sig .tc .vmem S2x512x128 .bf16) (harg7 : arg7.IsWhole)
  (arg8 : Memref sig .tc .vmem S2x8192x128 .bf16) (harg8 : arg8.IsWhole)
  (arg9 : Memref sig .tc .vmem S2x512x128 .f32) (harg9 : arg9.IsWhole)
  (arg10 : Memref sig .tc .vmem S2x512x128 .f32) (harg10 : arg10.IsWhole)
  (x0 : Vec F S16 .f32) (x1 x2 : Vec F S16x16 .f32) (x3 : Vec F S2x512x128 .bf16) (x4 : Vec F S2x8192x128 .bf16) (x5 : Vec F S2x512x128 .bf16) (x6 : Vec F S2x8192x128 .bf16)

/-- The pieces the run writes cover the output block. -/
theorem outCover (y : S2x512x128.Idx) :
    ∃ pc ∈ (bodyRun c i arg2 harg2 arg3 harg3 arg4 harg4 arg5 harg5 arg6 harg6 arg7 harg7 arg8 harg8 arg9 harg9 arg10 harg10 x0 x1 x2 x3 x4 x5 x6).1, y ∈ pc.1.set :=
  View.cover_of_tiledL _ S2x512x128.size (by sl_kernel_rfl) y

/-- The output block as the run leaves it, as a function of the point and the input blocks. -/
def outBlock : Vec F S2x512x128 .f32 :=
  outView.read (Elt F) (outView.writes (Elt F) outView.junk (bodyRun c i arg2 harg2 arg3 harg3 arg4 harg4 arg5 harg5 arg6 harg6 arg7 harg7 arg8 harg8 arg9 harg9 arg10 harg10 x0 x1 x2 x3 x4 x5 x6).1)

end run

/-- The output block after point `t`. -/
def outAt (c : Dev nD) (t : Fin cfg0.N) : Vec F S2x512x128 .f32 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accM (Memref.isWhole_whole _) (iblk m c 0 t) (iblk m c 1 t) (iblk m c 2 t) (iblk m c 3 t) (iblk m c 4 t) (iblk m c 5 t) (iblk m c 6 t)

/-- The proof data of the pipeline on core `c`: the arrays as the region finds them, after point `t` each input block as fetched and the output block as the run leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outAt m c t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outAt m c t) := by dsimp only [dats]

/-- What each input window holds before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point: the run applied to the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, phi_eq]
  unfold outAt
  unfold outBlock
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (outCover c _ _ _ _ _ _ _ _ _ _ _ _ _ _ _ _ _ _ _ _ _ _ _ _ _ _)

/-- The body the pipeline calls at `t` is the kernel at `t`'s coordinates and staging memrefs. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to its end, its arrays end as the proof data say, and every counter ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  frame_of m ρ (dats m) (A_eq m) (run_main m ρ)

/-- The frame: the argument arrays end as they were and every counter ends at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (unchanged m ρ) ((θ_run defs _ _).mono (fun _ h => h.2) (run_main_quiescent m ρ))

end Cert.KernelIdeal.Dq
-- ==== Proof.KernelIdeal.Pay.lean ====
/- What one step of the sweep over the keys adds, over the extended reals: at query row `r` and lane `l`, the sum
   over the 512 keys of a block of exp(logit) · (dp − δ) · key; on the diagonal block only over the keys at or
   before the row. -/
module

public import proofs.«01_k».proof.Proof.Types
public import proofs.«01_k».proof.Proof.Gen.KernelIdeal.Skeleton
public import Idealize.ShloMosaic.Lib.Pointwise

@[expose] public section

noncomputable section

namespace Cert.KernelIdeal.Dq

open Idealize.ShloMosaic Idealize.SL.Sem Cert.KernelIdeal.Gen

/-- The weight of key `j` for query row `r`: exp of the product of their augmented rows, times the product of
    the augmented rows of the output's gradient and of the value. -/
def wt (q k o v : BF16 S1x512x128) (r j : Fin 512) : EReal :=
  Ideal.exp (∑ l : Fin 128, q (ix3 0 r l) * k (ix3 0 j l)) * (∑ l : Fin 128, o (ix3 0 r l) * v (ix3 0 j l))

/-- The weight on the diagonal block: nothing for the keys after the row. -/
def wtd (q k o v : BF16 S1x512x128) (r j : Fin 512) : EReal :=
  if j.val ≤ r.val then wt q k o v r j else 0

/-- Choosing by a comparison of two positions below 512 is choosing by their order. -/
theorem select_sge (r j : Fin 512) (x : EReal) :
    Scalar.select (α := EReal) (IntOp.cmpi .sge (BitVec.ofNat 32 r.val) (BitVec.ofNat 32 j.val)) x 0 = if j.val ≤ r.val then x else 0 := by
  have h : IntOp.cmpi .sge (BitVec.ofNat 32 r.val) (BitVec.ofNat 32 j.val) = if j.val ≤ r.val then 1#1 else 0#1 := by
    have hr := r.isLt
    have hj := j.isLt
    have e : ∀ n : ℕ, n < 512 → (BitVec.ofNat 32 n).toInt = n := fun n hn => by
      rw [BitVec.toInt_eq_toNat_of_lt (by simp; omega)]; simp; omega
    simp only [IntOp.cmpi, BitVec.sle, e _ hr, e _ hj]
    by_cases hh : j.val ≤ r.val <;> simp [hh]
  rw [h]
  by_cases hh : j.val ≤ r.val <;> simp [hh, Scalar.select]

theorem wtd_mul (q k o v : BF16 S1x512x128) (r j : Fin 512) (x : EReal) :
    wtd q k o v r j * x = if j.val ≤ r.val then wt q k o v r j * x else 0 := by
  unfold wtd
  by_cases hh : j.val ≤ r.val <;> simp [hh]

theorem pay2_apply (k q o v : BF16 S1x512x128) (a : F32 S1x512x128) (r : Fin 512) (l : Fin 128) :
    k0_pay2 k q o v a (ix3 0 r l) = a (ix3 0 r l) + ∑ j : Fin 512, wt q k o v r j * k (ix3 0 j l) := by
  pointwise [k0_pay2]
  rfl

theorem pay15_apply (k q o v : BF16 S1x512x128) (a : F32 S1x512x128) (r : Fin 512) (l : Fin 128) :
    k0_pay15 (k0_pay3 k) (k0_pay4 k q) o v a (ix3 0 r l) = a (ix3 0 r l) + ∑ j : Fin 512, wt q k o v r j * k (ix3 0 j l) := by
  pointwise [k0_pay15, k0_pay3, k0_pay4]
  rfl

theorem pay17_apply (k q o v : BF16 S1x512x128) (a : F32 S1x512x128) (r : Fin 512) (l : Fin 128) :
    k0_pay17 k q o v a (ix3 0 r l) = a (ix3 0 r l) + ∑ j : Fin 512, wtd q k o v r j * k (ix3 0 j l) := by
  pointwise [k0_pay17]
  simp only [select_sge, wtd_mul]
  rfl

theorem pay1_apply (k q o v : BF16 S1x512x128) (a : F32 S1x512x128) (r : Fin 512) (l : Fin 128) :
    k0_pay1 (k0_pay18 k) q o v a (ix3 0 r l) = a (ix3 0 r l) + ∑ j : Fin 512, wtd q k o v r j * k (ix3 0 j l) := by
  pointwise [k0_pay1, k0_pay18]
  simp only [select_sge, wtd_mul]
  rfl

/-- The steps of the sweep with the entries of their blocks given. -/
theorem pay2_of {k q o v : BF16 S1x512x128} {a : F32 S1x512x128} (r : Fin 512) (l : Fin 128) (K V : Fin 512 → Fin 128 → EReal) (Q O : Fin 128 → EReal) {A : EReal}
    (hk : ∀ j l, k (ix3 0 j l) = K j l) (hq : ∀ l, q (ix3 0 r l) = Q l) (ho : ∀ l, o (ix3 0 r l) = O l) (hv : ∀ j l, v (ix3 0 j l) = V j l) (ha : a (ix3 0 r l) = A) :
    k0_pay2 k q o v a (ix3 0 r l) = A + ∑ j : Fin 512, Ideal.exp (∑ l', Q l' * K j l') * (∑ l', O l' * V j l') * K j l := by
  rw [pay2_apply]; simp only [wt, hk, hq, ho, hv, ha]

theorem pay15_of {k q o v : BF16 S1x512x128} {a : F32 S1x512x128} (r : Fin 512) (l : Fin 128) (K V : Fin 512 → Fin 128 → EReal) (Q O : Fin 128 → EReal) {A : EReal}
    (hk : ∀ j l, k (ix3 0 j l) = K j l) (hq : ∀ l, q (ix3 0 r l) = Q l) (ho : ∀ l, o (ix3 0 r l) = O l) (hv : ∀ j l, v (ix3 0 j l) = V j l) (ha : a (ix3 0 r l) = A) :
    k0_pay15 (shapeCast S512x128 k shapeCasts_S1x512x128_S512x128)
      (exp (matmul (φ₁ := .bf16) (φ₂ := .bf16) dot_S512x128_S512x128_S512x512_1_1_0_0_n_n none (shapeCast S512x128 q shapeCasts_S1x512x128_S512x128 : FVec Ideal S512x128 .bf16) (shapeCast S512x128 k shapeCasts_S1x512x128_S512x128 : FVec Ideal S512x128 .bf16)
        (constant S512x512 .f32 0x00000000#32))) o v a (ix3 0 r l) = A + ∑ j : Fin 512, Ideal.exp (∑ l', Q l' * K j l') * (∑ l', O l' * V j l') * K j l := by
  refine (pay15_apply k q o v a r l).trans ?_
  simp only [wt, hk, hq, ho, hv, ha]

theorem pay17_of {k q o v : BF16 S1x512x128} {a : F32 S1x512x128} (r : Fin 512) (l : Fin 128) (K V : Fin 512 → Fin 128 → EReal) (Q O : Fin 128 → EReal) {A : EReal}
    (hk : ∀ j l, k (ix3 0 j l) = K j l) (hq : ∀ l, q (ix3 0 r l) = Q l) (ho : ∀ l, o (ix3 0 r l) = O l) (hv : ∀ j l, v (ix3 0 j l) = V j l) (ha : a (ix3 0 r l) = A) :
    k0_pay17 k q o v a (ix3 0 r l) = A + ∑ j : Fin 512, if j.val ≤ r.val then Ideal.exp (∑ l', Q l' * K j l') * (∑ l', O l' * V j l') * K j l else 0 := by
  rw [pay17_apply]; simp only [wtd_mul, wt, hk, hq, ho, hv, ha]

theorem pay1_of {k q o v : BF16 S1x512x128} {a : F32 S1x512x128} (r : Fin 512) (l : Fin 128) (K V : Fin 512 → Fin 128 → EReal) (Q O : Fin 128 → EReal) {A : EReal}
    (hk : ∀ j l, k (ix3 0 j l) = K j l) (hq : ∀ l, q (ix3 0 r l) = Q l) (ho : ∀ l, o (ix3 0 r l) = O l) (hv : ∀ j l, v (ix3 0 j l) = V j l) (ha : a (ix3 0 r l) = A) :
    k0_pay1 (k0_pay18 k) q o v a (ix3 0 r l) = A + ∑ j : Fin 512, if j.val ≤ r.val then Ideal.exp (∑ l', Q l' * K j l') * (∑ l', O l' * V j l') * K j l else 0 := by
  rw [pay1_apply]; simp only [wtd_mul, wt, hk, hq, ho, hv, ha]

end Cert.KernelIdeal.Dq
-- ==== Proof.KernelIdeal.Body.lean ====
/- What one block of the output is: the sweep over the key blocks before the query block adds, for each head and
   row, the contributions of their keys, and the diagonal block those of the keys at or before the row. -/
module

public import proofs.«01_k».proof.Proof.Types
public import proofs.«01_k».proof.Proof.KernelIdeal.Frame
public import proofs.«01_k».proof.Proof.KernelIdeal.Pay
public import Idealize.ShloMosaic.Lib.WritesUnit
public import Idealize.ShloMosaic.Lib.VecWindow

@[expose] public section

noncomputable section

namespace Cert.KernelIdeal.Dq

open Idealize.ShloMosaic Idealize.ShloMosaic.TcCoe Idealize.ShloMosaic.Tactic
open Cert.KernelIdeal.Gen

variable (𝒱 : Variants) (c : Dev nD) (bd : Option 𝒱.V) (i : grid0.Coords)
  (arg2 : Memref sig .tc .smem S16 .f32) (harg2 : arg2.IsWhole) (arg3 : Memref sig .tc .smem S16x16 .f32) (harg3 : arg3.IsWhole)
  (arg4 : Memref sig .tc .smem S16x16 .f32) (harg4 : arg4.IsWhole) (arg5 : Memref sig .tc .vmem S2x512x128 .bf16) (harg5 : arg5.IsWhole)
  (arg6 : Memref sig .tc .vmem S2x8192x128 .bf16) (harg6 : arg6.IsWhole) (arg7 : Memref sig .tc .vmem S2x512x128 .bf16) (harg7 : arg7.IsWhole)
  (arg8 : Memref sig .tc .vmem S2x8192x128 .bf16) (harg8 : arg8.IsWhole) (arg9 : Memref sig .tc .vmem S2x512x128 .f32) (harg9 : arg9.IsWhole)
  (arg10 : Memref sig .tc .vmem S2x512x128 .f32) (harg10 : arg10.IsWhole)
  (v w : Elt Ideal .f32) (X : BufTy.Contents (Elt Ideal) arg4.view.ty)

/-- A trip of the counting loops adds nothing: no real lies below the threshold −∞. -/
theorem zero1 (k : ℕ) (hk : k ≤ (k0_t1_loop i).trips) :
    st_k0_t1 𝒱 c bd i arg2 harg2 arg3 harg3 arg4 harg4 arg5 harg5 arg6 harg6 arg7 harg7 arg8 harg8 arg9 harg9 arg10 harg10 v w X 0#32 k = 0#32 := by
  induction k with
  | zero => rfl
  | succ k ih =>
    have h := st_k0_t1_succ 𝒱 c bd i arg2 harg2 arg3 harg3 arg4 harg4 arg5 harg5 arg6 harg6 arg7 harg7 arg8 harg8 arg9 harg9 arg10 harg10 v w X 0#32 ⟨k, hk⟩
    rw [h, ih (by omega)]
    unfold tripR_k0_t1 trip_k0_t1; dsimp only; sl_unfold_words
    have hb : ∀ x : EReal, Scalar.cmpf (F := Ideal) (φ := .f32) CmpFPredicate.olt x (Named.named κ "skip" 3268411392#32) = 0#1 := fun x => by
      show BitVec.ofBool (decide (x < ⊥)) = 0#1
      simp
    erw [hb]
    rfl

theorem zero3 (k : ℕ) (hk : k ≤ (k0_t3_loop i).trips) :
    st_k0_t3 𝒱 c bd i arg2 harg2 arg3 harg3 arg4 harg4 arg5 harg5 arg6 harg6 arg7 harg7 arg8 harg8 arg9 harg9 arg10 harg10 v w X 0#32 k = 0#32 := by
  induction k with
  | zero => rfl
  | succ k ih =>
    have h := st_k0_t3_succ (F := Ideal) 𝒱 c bd i arg2 harg2 arg3 harg3 arg4 harg4 arg5 harg5 arg6 harg6 arg7 harg7 arg8 harg8 arg9 harg9 arg10 harg10 v w X 0#32 ⟨k, hk⟩
    rw [h, ih (by omega)]
    unfold tripR_k0_t3 trip_k0_t3; dsimp only; sl_unfold_words
    have hb : ∀ x : EReal, Scalar.cmpf (F := Ideal) (φ := .f32) CmpFPredicate.olt x (Named.named κ "skip" 3268411392#32) = 0#1 := fun x => by
      show BitVec.ofBool (decide (x < ⊥)) = 0#1
      simp
    erw [hb]
    rfl

/-- One key's contribution to a row and lane of a head. -/
def gk (x3 x5 : BF16 S2x512x128) (x4 x6 : BF16 S2x8192x128) (e : Fin 2) (r : Fin 512) (l : Fin 128) (s : Fin 8192) : EReal :=
  Ideal.exp (∑ l' : Fin 128, x3 (ix3 e r l') * x4 (ix3 e s l')) * (∑ l' : Fin 128, x5 (ix3 e r l') * x6 (ix3 e s l')) * x4 (ix3 e s l)

/-- Key `j` of block `n`. -/
def key (n : ℕ) (j : Fin 512) : Fin 8192 := ⟨(n * 512 + j.val) % 8192, Nat.mod_lt _ (by decide)⟩

/-- A slab of a two-head block, entry by entry. -/
theorem slab {e' : EltTy} {sp : Space} (v : View sig .tc sp S2x512x128 e') (f : v.ty.Contents (Elt Ideal)) (e : Fin 2) (z : ℕ) (hz : z = e.val)
    (inb : ∀ a, (![z, 0, 0] : Fin 3 → ℕ) a + (![1, 512, 128] : Fin 3 → ℕ) a ≤ S2x512x128.size a) (r : Fin 512) (l : Fin 128) :
    v.readAt (Elt Ideal) (Rect.unit (s := S2x512x128) ![z, 0, 0] ![1, 512, 128] inb).toLoadRect f (ix3 0 r l) = v.read (Elt Ideal) f (ix3 e r l) := by
  subst hz
  rw [View.readAt_unit v f inb rfl inb]
  refine congrArg (v.read (Elt Ideal) f) (funext fun a => Fin.ext ?_)
  match a with
  | ⟨0, _⟩ => show e.val + 1 * 0 = e.val; omega
  | ⟨1, _⟩ => show 0 + 1 * r.val = r.val; omega
  | ⟨2, _⟩ => show 0 + 1 * l.val = l.val; omega

/-- A block of 512 keys of a head, entry by entry. -/
theorem slabK {e' : EltTy} {sp : Space} (v : View sig .tc sp S2x8192x128 e') (f : v.ty.Contents (Elt Ideal)) (e : Fin 2) (n : ℕ) (hn : n < 16) (off : Fin 3 → ℕ) (hoff : off = ![e.val, n * 512, 0])
    (inb : ∀ a, off a + (![1, 512, 128] : Fin 3 → ℕ) a ≤ S2x8192x128.size a) (r : Fin 512) (l : Fin 128) :
    v.readAt (Elt Ideal) (Rect.unit (s := S2x8192x128) off ![1, 512, 128] inb).toLoadRect f (ix3 0 r l) = v.read (Elt Ideal) f (ix3 e (key n r) l) := by
  subst hoff
  rw [View.readAt_unit v f inb rfl inb]
  refine congrArg (v.read (Elt Ideal) f) (funext fun a => Fin.ext ?_)
  match a with
  | ⟨0, _⟩ => show e.val + 1 * 0 = e.val; omega
  | ⟨1, _⟩ => show n * 512 + 1 * r.val = (n * 512 + r.val) % 8192; have := r.isLt; omega
  | ⟨2, _⟩ => show 0 + 1 * l.val = l.val; omega

set_option pp.deepTerms false
set_option pp.maxSteps 20000
/-- One trip of the sweep adds, at every entry of the accumulator, the contributions of its block's keys. -/
theorem trip5 (arg1 v32 v37 : BitVec 32) (hw : k0_chk1 i 0#32 0#32) (x3 x5 : BF16 S2x512x128) (x4 x6 : BF16 S2x8192x128)
    (k : Fin (k0_t5_loop i 0#32 0#32).trips) (hk : k.val < 16) (f : BufTy.Contents (Elt Ideal) arg10.view.ty) (e : Fin 2) (r : Fin 512) (l : Fin 128) :
    arg10.view.read (Elt Ideal) (arg10.view.writes (Elt Ideal) f (tripL_k0_t5 (F := Ideal) 𝒱 c bd i arg2 harg2 arg3 harg3 arg4 harg4 arg5 harg5 arg6 harg6 arg7 harg7 arg8 harg8 arg9 harg9 arg10 harg10 arg1 0#32 0#32 hw v32 v37 (harg5.unread x3) (harg6.unread x4) (harg7.unread x5) (harg8.unread x6) k f)) (ix3 e r l)
      = arg10.view.read (Elt Ideal) f (ix3 e r l) + ∑ j : Fin 512, gk x3 x5 x4 x6 e r l (key k.val j) := by
  have hoff : BitVec.toNat (Scalar.indexCast (Scalar.muli (Scf.iv (Scalar.minsi 0#32 0#32) 1#32 k.val) 512#32)) = k.val * 512 := by
    show BitVec.toNat ((0#32 + BitVec.ofNat 32 k.val * 1#32) * 512#32) = _
    simp only [BitVec.toNat_mul, BitVec.toNat_add, BitVec.toNat_ofNat]
    omega
  unfold tripL_k0_t5 trip_k0_t5
  sl_unfold_words
  dsimp only
  rcases (by decide : ∀ e : Fin 2, e = 0 ∨ e = 1) e with rfl | rfl
  · refine (View.read_writes_cons_unit_of_not_mem (v := arg10.view) (off' := ![1,0,0]) (heq := rfl) (a := 0) (ha := Or.inl (by show (0 : ℕ) < 1; decide)) ..).trans ?_
    refine (View.read_writes_cons_unit_of_mem (v := arg10.view) (off' := ![0,0,0]) (x := ix3 0 r l) (heq := rfl) (hx := fun a => ?_) ..).trans ?_
    · match a with
      | ⟨0, _⟩ => rfl
      | ⟨1, _⟩ => exact (Nat.zero_add _).symm
      | ⟨2, _⟩ => exact (Nat.zero_add _).symm
    refine pay2_of r l (fun j l => x4 (ix3 0 (key k.val j) l)) (fun j l => x6 (ix3 0 (key k.val j) l)) (fun l => x3 (ix3 0 r l)) (fun l => x5 (ix3 0 r l)) ?_ ?_ ?_ ?_ ?_
    · intro j l
      exact (slabK _ _ 0 k.val hk _ (by rw [hoff]; rfl) _ j l).trans (congrFun (harg6.read_unread _) _)
    · intro l
      exact (slab _ _ 0 0 rfl _ r l).trans (congrFun (harg5.read_unread _) _)
    · intro l
      exact (slab _ _ 0 0 rfl _ r l).trans (congrFun (harg7.read_unread _) _)
    · intro j l
      exact (slabK _ _ 0 k.val hk _ (by rw [hoff]; rfl) _ j l).trans (congrFun (harg8.read_unread _) _)
    · exact slab _ _ 0 0 rfl _ r l
  · refine (View.read_writes_cons_unit_of_mem (v := arg10.view) (off' := ![1,0,0]) (x := ix3 0 r l) (heq := rfl) (hx := fun a => ?_) ..).trans ?_
    · match a with
      | ⟨0, _⟩ => rfl
      | ⟨1, _⟩ => exact (Nat.zero_add _).symm
      | ⟨2, _⟩ => exact (Nat.zero_add _).symm
    refine pay15_of r l (fun j l => x4 (ix3 1 (key k.val j) l)) (fun j l => x6 (ix3 1 (key k.val j) l)) (fun l => x3 (ix3 1 r l)) (fun l => x5 (ix3 1 r l)) ?_ ?_ ?_ ?_ ?_
    · intro j l
      exact (slabK _ _ 1 k.val hk _ (by rw [hoff]; rfl) _ j l).trans (congrFun (harg6.read_unread _) _)
    · intro l
      exact (slab _ _ 1 1 rfl _ r l).trans (congrFun (harg5.read_unread _) _)
    · intro l
      exact (slab _ _ 1 1 rfl _ r l).trans (congrFun (harg7.read_unread _) _)
    · intro j l
      exact (slabK _ _ 1 k.val hk _ (by rw [hoff]; rfl) _ j l).trans (congrFun (harg8.read_unread _) _)
    · exact slab _ _ 1 1 rfl _ r l

/-- The sweep over the first `n` key blocks. -/
theorem sweep (arg1 v32 v37 : BitVec 32) (hw : k0_chk1 i 0#32 0#32) (x3 x5 : BF16 S2x512x128) (x4 x6 : BF16 S2x8192x128)
    (G : BufTy.Contents (Elt Ideal) arg10.view.ty) (e : Fin 2) (r : Fin 512) (l : Fin 128) (n : ℕ) (hn : n ≤ (k0_t5_loop i 0#32 0#32).trips) (h16 : n ≤ 16) :
    arg10.view.read (Elt Ideal) (arg10.view.writes (Elt Ideal) G (pb_k0_t5 (F := Ideal) 𝒱 c bd i arg2 harg2 arg3 harg3 arg4 harg4 arg5 harg5 arg6 harg6 arg7 harg7 arg8 harg8 arg9 harg9 arg10 harg10 arg1 0#32 0#32 hw v32 v37 (harg5.unread x3) (harg6.unread x4) (harg7.unread x5) (harg8.unread x6) G n)) (ix3 e r l)
      = arg10.view.read (Elt Ideal) G (ix3 e r l) + ∑ m ∈ Finset.range n, ∑ j : Fin 512, gk x3 x5 x4 x6 e r l (key m j) := by
  induction n with
  | zero => rw [Finset.sum_range_zero, add_zero]; rfl
  | succ n ih =>
    have h := pb_k0_t5_succ (F := Ideal) 𝒱 c bd i arg2 harg2 arg3 harg3 arg4 harg4 arg5 harg5 arg6 harg6 arg7 harg7 arg8 harg8 arg9 harg9 arg10 harg10 arg1 0#32 0#32 hw v32 v37 (harg5.unread x3) (harg6.unread x4) (harg7.unread x5) (harg8.unread x6) G ⟨n, hn⟩
    rw [h, View.writes_append, trip5 𝒱 c bd i arg2 harg2 arg3 harg3 arg4 harg4 arg5 harg5 arg6 harg6 arg7 harg7 arg8 harg8 arg9 harg9 arg10 harg10 arg1 v32 v37 hw x3 x5 x4 x6 ⟨n, hn⟩ (by show n < 16; omega), ih (by omega) (by omega), Finset.sum_range_succ, add_assoc]

end Cert.KernelIdeal.Dq
-- ==== Proof.KernelIdeal.Block.lean ====
/- One output block, entry by entry: of each head and row, the sum of the contributions of the keys of the blocks
   before the query block and of the diagonal block's keys at or before the row. -/
module

public import proofs.«01_k».proof.Proof.Types
public import proofs.«01_k».proof.Proof.KernelIdeal.Body
public import Idealize.ShloMosaic.Lib.Pipeline.ReadBack

@[expose] public section

noncomputable section

namespace Cert.KernelIdeal.Dq

open Idealize.ShloMosaic Idealize.ShloMosaic.TcCoe Idealize.ShloMosaic.Tactic
open Cert.KernelIdeal.Gen

variable (c : Dev nD) (i : grid0.Coords)
  (arg2 : Memref sig .tc .smem S16 .f32) (harg2 : arg2.IsWhole) (arg3 : Memref sig .tc .smem S16x16 .f32) (harg3 : arg3.IsWhole)
  (arg4 : Memref sig .tc .smem S16x16 .f32) (harg4 : arg4.IsWhole) (arg5 : Memref sig .tc .vmem S2x512x128 .bf16) (harg5 : arg5.IsWhole)
  (arg6 : Memref sig .tc .vmem S2x8192x128 .bf16) (harg6 : arg6.IsWhole) (arg7 : Memref sig .tc .vmem S2x512x128 .bf16) (harg7 : arg7.IsWhole)
  (arg8 : Memref sig .tc .vmem S2x8192x128 .bf16) (harg8 : arg8.IsWhole) (arg9 : Memref sig .tc .vmem S2x512x128 .f32) (harg9 : arg9.IsWhole)
  (arg10 : Memref sig .tc .vmem S2x512x128 .f32) (harg10 : arg10.IsWhole)
  (x0 : F32 S16) (x1 x2 : F32 S16x16) (x3 : BF16 S2x512x128) (x4 : BF16 S2x8192x128) (x5 : BF16 S2x512x128) (x6 : BF16 S2x8192x128)

/-- What is written back is the accumulator, whose two slabs were stored last. -/
theorem two_slabs {sp : Space} (v : View sig .tc sp S2x512x128 .f32) (inb : ∀ a, (![0, 0, 0] : Fin 3 → ℕ) a + (![2, 512, 128] : Fin 3 → ℕ) a ≤ S2x512x128.size a)
    (inb1 : ∀ a, (![1, 0, 0] : Fin 3 → ℕ) a + (![1, 512, 128] : Fin 3 → ℕ) a ≤ S2x512x128.size a) (inb0 : ∀ a, (![0, 0, 0] : Fin 3 → ℕ) a + (![1, 512, 128] : Fin 3 → ℕ) a ≤ S2x512x128.size a)
    (w1 w0 : F32 S1x512x128) (L : List (View.Piece (Elt Ideal) S2x512x128 .f32)) (e : Fin 2) (r : Fin 512) (l : Fin 128) :
    View.canon [⟨Rect.unit (s := S2x512x128) ![0, 0, 0] ![2, 512, 128] inb, v.readCov (⟨Rect.unit (s := S2x512x128) ![1, 0, 0] ![1, 512, 128] inb1, w1⟩ :: ⟨Rect.unit (s := S2x512x128) ![0, 0, 0] ![1, 512, 128] inb0, w0⟩ :: L) (Rect.unit (s := S2x512x128) ![0, 0, 0] ![2, 512, 128] inb).toLoadRect⟩] (ix3 e r l)
      = if e = 0 then w0 (ix3 0 r l) else w1 (ix3 0 r l) := by
  have h0 : (![0, 0, 0] : Fin 3 → ℕ) = fun _ => 0 := by funext a; fin_cases a <;> rfl
  refine (congrFun (View.canon_unit_zero (S := S2x512x128) h0 inb _) _).trans ?_
  refine (congrFun (View.readAt_full v _ inb) _).trans ?_
  rcases (by decide : ∀ e : Fin 2, e = 0 ∨ e = 1) e with rfl | rfl
  · refine (View.read_writes_cons_unit_of_not_mem (v := v) (off' := ![1,0,0]) (heq := rfl) (a := 0) (ha := Or.inl (by show (0 : ℕ) < 1; decide)) ..).trans ?_
    refine (View.read_writes_cons_unit_of_mem (v := v) (off' := ![0,0,0]) (x := ix3 0 r l) (heq := rfl) (hx := fun a => ?_) ..).trans rfl
    match a with
    | ⟨0, _⟩ => rfl
    | ⟨1, _⟩ => exact (Nat.zero_add _).symm
    | ⟨2, _⟩ => exact (Nat.zero_add _).symm
  · refine (View.read_writes_cons_unit_of_mem (v := v) (off' := ![1,0,0]) (x := ix3 0 r l) (heq := rfl) (hx := fun a => ?_) ..).trans rfl
    match a with
    | ⟨0, _⟩ => rfl
    | ⟨1, _⟩ => exact (Nat.zero_add _).symm
    | ⟨2, _⟩ => exact (Nat.zero_add _).symm

/-- With nothing skipped the sweep makes as many trips as there are key blocks before the query block, -/
theorem trips5 : (k0_t5_loop i 0#32 0#32).trips = (i 1).val := by
  have r_i1 : (i 1).val < 16 := (i 1).isLt
  have h_zero : Affine.IsInt 0#32 (0) := Affine.ofNat _ (by omega)
  have h_one : Affine.IsInt 1#32 (1) := Affine.ofNat _ (by omega)
  have h_arg1 : Affine.IsInt (BitVec.ofNat 32 (i 1).val) (((i 1).val : Int)) := Affine.ofNat _ (by omega)
  have h_v33 : Affine.IsInt _ (((i 1).val : Int)) := Affine.subi h_arg1 h_zero (by omega)
  have h_v35 : Affine.IsInt _ (((i 1).val : Int)) := Affine.divsi h_v33 h_one (by omega)
  have h_v36 : Affine.IsInt _ (((i 1).val : Int)) := Affine.muli h_v35 h_one (by omega)
  have h_v37 : Affine.IsInt _ (((i 1).val : Int)) := Affine.addi h_zero h_v36 (by omega)
  exact Affine.trips_eq h_zero h_v37 h_one _ (by omega)

/-- and its remainder none. -/
theorem trips6 : (k0_t6_loop i 0#32 0#32).trips = 0 := by
  have r_i1 : (i 1).val < 16 := (i 1).isLt
  have h_zero : Affine.IsInt 0#32 (0) := Affine.ofNat _ (by omega)
  have h_one : Affine.IsInt 1#32 (1) := Affine.ofNat _ (by omega)
  have h_arg1 : Affine.IsInt (BitVec.ofNat 32 (i 1).val) (((i 1).val : Int)) := Affine.ofNat _ (by omega)
  have h_v33 : Affine.IsInt _ (((i 1).val : Int)) := Affine.subi h_arg1 h_zero (by omega)
  have h_v35 : Affine.IsInt _ (((i 1).val : Int)) := Affine.divsi h_v33 h_one (by omega)
  have h_v36 : Affine.IsInt _ (((i 1).val : Int)) := Affine.muli h_v35 h_one (by omega)
  have h_v37 : Affine.IsInt _ (((i 1).val : Int)) := Affine.addi h_zero h_v36 (by omega)
  have h_v34 : Affine.IsInt _ (((i 1).val : Int)) := Affine.addi h_zero h_v33 (by omega)
  exact Affine.trips_eq h_v37 h_v34 h_one _ (by omega)

theorem pay8_apply (y : S2x512x128.Idx) : k0_pay8 (F := Ideal) y = 0 := by
  idx_vars y
  pointwise [k0_pay8]

theorem after_none {sp : Space} (v : View sig .tc sp S2x512x128 .f32) (L6 L5 L0 : List (View.Piece (Elt Ideal) S2x512x128 .f32)) (h : L6 = []) :
    v.read (Elt Ideal) (v.writes (Elt Ideal) v.junk (L6 ++ (L5 ++ L0))) = v.read (Elt Ideal) (v.writes (Elt Ideal) (v.writes (Elt Ideal) v.junk L0) L5) := by
  subst h
  rw [List.nil_append, View.writes_append]

/-- The accumulator after the sweep, read slab by slab: of each head and row, the contributions of the keys of
    the blocks before the query block. -/
theorem swept {v17 v31 : BitVec 32} (h17 : v17 = 0#32) (h31 : v31 = 0#32) (arg1 arg1' v32 v37 v32' v37' : BitVec 32) (hw hw' : k0_chk1 i v17 v31) (G6 : BufTy.Contents (Elt Ideal) arg10.view.ty)
    (inb : ∀ a, (![0, 0, 0] : Fin 3 → ℕ) a + (![2, 512, 128] : Fin 3 → ℕ) a ≤ S2x512x128.size a) (e : Fin 2) (z : ℕ) (hz : z = e.val)
    (inbz : ∀ a, (![z, 0, 0] : Fin 3 → ℕ) a + (![1, 512, 128] : Fin 3 → ℕ) a ≤ S2x512x128.size a) (r : Fin 512) (l : Fin 128) :
    arg10.view.readCov
      (pb_k0_t6 (F := Ideal) Variants.none c none i arg2 harg2 arg3 harg3 arg4 harg4 arg5 harg5 arg6 harg6 arg7 harg7 arg8 harg8 arg9 harg9 arg10 harg10 arg1 v17 v31 hw v32 v37 (harg5.unread x3) (harg6.unread x4) (harg7.unread x5) (harg8.unread x6) G6 (k0_t6_loop i v17 v31).trips
        ++ (pb_k0_t5 (F := Ideal) Variants.none c none i arg2 harg2 arg3 harg3 arg4 harg4 arg5 harg5 arg6 harg6 arg7 harg7 arg8 harg8 arg9 harg9 arg10 harg10 arg1' v17 v31 hw' v32' v37' (harg5.unread x3) (harg6.unread x4) (harg7.unread x5) (harg8.unread x6)
            (arg10.view.writes (Elt Ideal) arg10.view.junk [⟨Rect.unit (s := S2x512x128) ![0, 0, 0] ![2, 512, 128] inb, k0_pay8 (F := Ideal)⟩]) (k0_t5_loop i v17 v31).trips
          ++ [⟨Rect.unit (s := S2x512x128) ![0, 0, 0] ![2, 512, 128] inb, k0_pay8 (F := Ideal)⟩]))
      (Rect.unit (s := S2x512x128) ![z, 0, 0] ![1, 512, 128] inbz).toLoadRect (ix3 0 r l)
      = ∑ m ∈ Finset.range (i 1).val, ∑ j : Fin 512, gk x3 x5 x4 x6 e r l (key m j) := by
  subst h17; subst h31
  have r_i1 : (i 1).val < 16 := (i 1).isLt
  refine (slab arg10.view _ e z hz inbz r l).trans ?_
  rw [trips6, trips5]
  refine (congrFun (after_none arg10.view _ _ _ rfl) _).trans ?_
  refine (sweep Variants.none c none i arg2 harg2 arg3 harg3 arg4 harg4 arg5 harg5 arg6 harg6 arg7 harg7 arg8 harg8 arg9 harg9 arg10 harg10 arg1' v32' v37' hw' x3 x5 x4 x6 _ e r l (i 1).val (le_of_eq (trips5 i).symm) (by omega)).trans ?_
  have h : arg10.view.read (Elt Ideal) (arg10.view.writes (Elt Ideal) arg10.view.junk [⟨Rect.unit (s := S2x512x128) ![0, 0, 0] ![2, 512, 128] inb, k0_pay8 (F := Ideal)⟩]) (ix3 e r l) = 0 := by
    refine (View.read_writes_cons_unit_of_mem (v := arg10.view) (off' := ![0,0,0]) (x := ix3 e r l) (heq := rfl) (hx := fun a => ?_) ..).trans (pay8_apply _)
    match a with
    | ⟨0, _⟩ => exact (Nat.zero_add _).symm
    | ⟨1, _⟩ => exact (Nat.zero_add _).symm
    | ⟨2, _⟩ => exact (Nat.zero_add _).symm
  rw [h, zero_add]

/-- Neither head skips a block. -/
theorem zero17 (v w : Elt Ideal .f32) (X : BufTy.Contents (Elt Ideal) arg4.view.ty) :
    st_k0_t2 (F := Ideal) Variants.none c none i arg2 harg2 arg3 harg3 arg4 harg4 arg5 harg5 arg6 harg6 arg7 harg7 arg8 harg8 arg9 harg9 arg10 harg10 v w X (st_k0_t1 (F := Ideal) Variants.none c none i arg2 harg2 arg3 harg3 arg4 harg4 arg5 harg5 arg6 harg6 arg7 harg7 arg8 harg8 arg9 harg9 arg10 harg10 v w X 0#32 (k0_t1_loop i).trips) (k0_t2_loop i).trips = 0#32 := by
  rw [trips2, st_k0_t2_zero]
  exact zero1 Variants.none c none i arg2 harg2 arg3 harg3 arg4 harg4 arg5 harg5 arg6 harg6 arg7 harg7 arg8 harg8 arg9 harg9 arg10 harg10 v w X _ le_rfl

theorem zero31 (v w : Elt Ideal .f32) (X : BufTy.Contents (Elt Ideal) arg4.view.ty) :
    st_k0_t4 (F := Ideal) Variants.none c none i arg2 harg2 arg3 harg3 arg4 harg4 arg5 harg5 arg6 harg6 arg7 harg7 arg8 harg8 arg9 harg9 arg10 harg10 v w X (st_k0_t3 (F := Ideal) Variants.none c none i arg2 harg2 arg3 harg3 arg4 harg4 arg5 harg5 arg6 harg6 arg7 harg7 arg8 harg8 arg9 harg9 arg10 harg10 v w X 0#32 (k0_t3_loop i).trips) (k0_t4_loop i).trips = 0#32 := by
  rw [trips4, st_k0_t4_zero]
  exact zero3 Variants.none c none i arg2 harg2 arg3 harg3 arg4 harg4 arg5 harg5 arg6 harg6 arg7 harg7 arg8 harg8 arg9 harg9 arg10 harg10 v w X _ le_rfl

/-- The output block the run leaves. -/
theorem block_apply (e : Fin 2) (r : Fin 512) (l : Fin 128) :
    outBlock c i arg2 harg2 arg3 harg3 arg4 harg4 arg5 harg5 arg6 harg6 arg7 harg7 arg8 harg8 arg9 harg9 arg10 harg10 x0 x1 x2 x3 x4 x5 x6 (ix3 e r l)
      = (∑ m ∈ Finset.range (i 1).val, ∑ j : Fin 512, gk x3 x5 x4 x6 e r l (key m j))
        + ∑ j : Fin 512, if j.val ≤ r.val then gk x3 x5 x4 x6 e r l (key (i 1).val j) else 0 := by
  unfold outBlock bodyRun
  sl_unfold_words
  dsimp only
  rw [View.read_writes_junk_eq_canon]
  have r_i1 : (i 1).val < 16 := (i 1).isLt
  have hoff : BitVec.toNat (Scalar.indexCast (Scalar.muli (BitVec.ofNat 32 (i 1).val) 512#32)) = (i 1).val * 512 := by
    show BitVec.toNat (BitVec.ofNat 32 (i 1).val * 512#32) = _
    simp only [BitVec.toNat_mul, BitVec.toNat_ofNat]
    omega
  refine (two_slabs ..).trans ?_
  rcases (by decide : ∀ e : Fin 2, e = 0 ∨ e = 1) e with rfl | rfl
  · refine (if_pos rfl).trans ?_
    refine pay17_of r l (fun j l => x4 (ix3 0 (key (i 1).val j) l)) (fun j l => x6 (ix3 0 (key (i 1).val j) l)) (fun l => x3 (ix3 0 r l)) (fun l => x5 (ix3 0 r l)) ?_ ?_ ?_ ?_ ?_
    · intro j l
      exact (slabK _ _ 0 (i 1).val r_i1 _ (by rw [hoff]; rfl) _ j l).trans (congrFun (harg6.read_unread _) _)
    · intro l
      exact (slab _ _ 0 0 rfl _ r l).trans (congrFun (harg5.read_unread _) _)
    · intro l
      exact (slab _ _ 0 0 rfl _ r l).trans (congrFun (harg7.read_unread _) _)
    · intro j l
      exact (slabK _ _ 0 (i 1).val r_i1 _ (by rw [hoff]; rfl) _ j l).trans (congrFun (harg8.read_unread _) _)
    · exact swept c i arg2 harg2 arg3 harg3 arg4 harg4 arg5 harg5 arg6 harg6 arg7 harg7 arg8 harg8 arg9 harg9 arg10 harg10 x3 x4 x5 x6 (zero17 ..) (zero31 ..) _ _ _ _ _ _ _ _ _ _ 0 0 rfl _ r l
  · refine (if_neg (by decide)).trans ?_
    refine pay1_of r l (fun j l => x4 (ix3 1 (key (i 1).val j) l)) (fun j l => x6 (ix3 1 (key (i 1).val j) l)) (fun l => x3 (ix3 1 r l)) (fun l => x5 (ix3 1 r l)) ?_ ?_ ?_ ?_ ?_
    · intro j l
      exact (slabK _ _ 1 (i 1).val r_i1 _ (by rw [hoff]; rfl) _ j l).trans (congrFun (harg6.read_unread _) _)
    · intro l
      exact (slab _ _ 1 1 rfl _ r l).trans (congrFun (harg5.read_unread _) _)
    · intro l
      exact (slab _ _ 1 1 rfl _ r l).trans (congrFun (harg7.read_unread _) _)
    · intro j l
      exact (slabK _ _ 1 (i 1).val r_i1 _ (by rw [hoff]; rfl) _ j l).trans (congrFun (harg8.read_unread _) _)
    · refine (congrFun (View.readCov_skip arg10.view _ _ _ _ (by decide)) _).trans ?_
      exact swept c i arg2 harg2 arg3 harg3 arg4 harg4 arg5 harg5 arg6 harg6 arg7 harg7 arg8 harg8 arg9 harg9 arg10 harg10 x3 x4 x5 x6 (zero17 ..) (zero31 ..) _ _ _ _ _ _ _ _ _ _ 1 1 rfl _ r l
end Cert.KernelIdeal.Dq
-- ==== Proof.Sums.lean ====
/- A sum over the keys at or before a row, taken block by block of 512: the blocks before the row's whole, the
   row's own block only up to the row. -/
module

public import Mathlib.Data.EReal.Basic
public import Mathlib.Algebra.BigOperators.Fin
public import Mathlib.Algebra.BigOperators.Intervals

@[expose] public section

namespace Cert.Sums

/-- The first `n` blocks of 512 are the first `512 n` terms. -/
theorem blocks {M : Type} [AddCommMonoid M] (F : ℕ → M) (n : ℕ) :
    ∑ m ∈ Finset.range n, ∑ j : Fin 512, F (m * 512 + j.val) = ∑ s ∈ Finset.range (n * 512), F s := by
  induction n with
  | zero => simp
  | succ n ih =>
    rw [Finset.sum_range_succ, ih, Nat.succ_mul, Finset.sum_range_add, Finset.sum_range (n := 512)]

/-- A sum up to a row, split at the row's block. -/
theorem causal {M : Type} [AddCommMonoid M] (F : ℕ → M) {i r : ℕ} (hi : i < 16) (hr : r < 512) :
    (∑ m ∈ Finset.range i, ∑ j : Fin 512, F (m * 512 + j.val)) + ∑ j : Fin 512, (if j.val ≤ r then F (i * 512 + j.val) else 0)
      = ∑ s : Fin 8192, if s.val ≤ i * 512 + r then F s.val else 0 := by
  rw [blocks, ← Finset.sum_range (n := 512) fun j => if j ≤ r then F (i * 512 + j) else 0,
    ← Finset.sum_range (n := 8192) fun s => if s ≤ i * 512 + r then F s else 0,
    show (8192 : ℕ) = (i * 512 + 512) + (8192 - (i * 512 + 512)) by omega, Finset.sum_range_add, Finset.sum_range_add]
  have h1 : ∑ s ∈ Finset.range (i * 512), (if s ≤ i * 512 + r then F s else 0) = ∑ s ∈ Finset.range (i * 512), F s :=
    Finset.sum_congr rfl fun s hs => if_pos (by have := Finset.mem_range.mp hs; omega)
  have h2 : ∑ s ∈ Finset.range 512, (if i * 512 + s ≤ i * 512 + r then F (i * 512 + s) else 0) = ∑ s ∈ Finset.range 512, (if s ≤ r then F (i * 512 + s) else 0) :=
    Finset.sum_congr rfl fun s _ => by simp only [Nat.add_le_add_iff_left]
  have h3 : ∑ s ∈ Finset.range (8192 - (i * 512 + 512)), (if i * 512 + 512 + s ≤ i * 512 + r then F (i * 512 + 512 + s) else 0) = 0 :=
    Finset.sum_eq_zero fun s _ => if_neg (by omega)
  rw [h1, h2, h3, add_zero]

end Cert.Sums
-- ==== Proof.KernelIdeal.Array.lean ====
/- The array the kernel leaves, entry by entry, from the four packed arrays it reads. -/
module

public import proofs.«01_k».proof.Proof.Types
public import proofs.«01_k».proof.Proof.KernelIdeal.Block
public import proofs.«01_k».proof.Proof.Sums
public import Idealize.ShloMosaic.Lib.Pipeline.Value

@[expose] public section

set_option maxRecDepth 16384

noncomputable section

namespace Cert.KernelIdeal.Dq

open Idealize.ShloMosaic Idealize.ShloMosaic.TcCoe Idealize.ShloMosaic.Tactic
open Cert.KernelIdeal.Gen

variable (m : (ℓ : Loc nD τ sig) → Buf (Elt Ideal) ℓ) (ρ : Dev nD → PrngReg)

/-- The contributions of the keys at or before a row, of packed queries `q`, keys `k`, gradients `o` and values `v`. -/
def dqa (q k o v : BF16 S16x8192x128) (h : Fin 16) (t : Fin 8192) (l : Fin 128) : EReal :=
  ∑ s : Fin 8192, if s.val ≤ t.val then
    Ideal.exp (∑ l' : Fin 128, q (ix3 h t l') * k (ix3 h s l')) * (∑ l' : Fin 128, o (ix3 h t l') * v (ix3 h s l')) * k (ix3 h s l) else 0

/-- The packed arrays as the region finds them, -/
abbrev packQ (c : Dev nD) : BF16 S16x8192x128 := V m c main_v109
abbrev packK (c : Dev nD) : BF16 S16x8192x128 := V m c main_v110
abbrev packO (c : Dev nD) : BF16 S16x8192x128 := V m c main_v111
abbrev packV (c : Dev nD) : BF16 S16x8192x128 := V m c main_v112

/-- and what the array of results ends at. -/
def result (c : Dev nD) : F32 S16x8192x128 := fun y => dqa (packQ m c) (packK m c) (packO m c) (packV m c) (y 0) (y 1) (y 2)

/-- Where each window's block lies. -/
theorem at3 (t : Fin cfg0.N) : win0_3.index t 0 = t.val / 16 ∧ win0_3.index t 1 = t.val % 16 ∧ win0_3.index t 2 = 0 := by
  revert t; decide +kernel
theorem at4 (t : Fin cfg0.N) : win0_4.index t 0 = t.val / 16 ∧ win0_4.index t 1 = 0 ∧ win0_4.index t 2 = 0 := by
  revert t; decide +kernel
theorem at5 (t : Fin cfg0.N) : win0_5.index t 0 = t.val / 16 ∧ win0_5.index t 1 = t.val % 16 ∧ win0_5.index t 2 = 0 := by
  revert t; decide +kernel
theorem at6 (t : Fin cfg0.N) : win0_6.index t 0 = t.val / 16 ∧ win0_6.index t 1 = 0 ∧ win0_6.index t 2 = 0 := by
  revert t; decide +kernel
theorem at7 (t : Fin cfg0.N) : win0_7.index t 0 = t.val / 16 ∧ win0_7.index t 1 = t.val % 16 ∧ win0_7.index t 2 = 0 := by
  revert t; decide +kernel
theorem coord1 (t : Fin cfg0.N) : (grid0.coords t 1).val = t.val % 16 := by
  revert t; decide +kernel

/-- Head `e` of the block's two, and row `r` of its 512. -/
def hd (t : Fin cfg0.N) (e : Fin 2) : Fin 16 := ⟨t.val / 16 * 2 + e.val, by have h : t.val < 128 := lt_of_lt_of_eq t.isLt N_0; omega⟩
def row (t : Fin cfg0.N) (r : Fin 512) : Fin 8192 := ⟨t.val % 16 * 512 + r.val, by omega⟩

theorem blk3 (c : Dev nD) (t : Fin cfg0.N) (e : Fin 2) (r : Fin 512) (l : Fin 128) :
    (iblk m c 3 t : BF16 S2x512x128) (ix3 e r l) = packQ m c (ix3 (hd t e) (row t r) l) := by
  unfold iblk
  rw [View.read_apply]
  show V m c main_v109 _ = V m c main_v109 _
  congr 1
  funext a
  apply Fin.ext
  match a with
  | ⟨0, _⟩ => show win0_3.index t 0 * 2 + 1 * e.val = t.val / 16 * 2 + e.val; rw [(at3 t).1]; omega
  | ⟨1, _⟩ => show win0_3.index t 1 * 512 + 1 * r.val = t.val % 16 * 512 + r.val; rw [(at3 t).2.1]; omega
  | ⟨2, _⟩ => show win0_3.index t 2 * 128 + 1 * l.val = l.val; rw [(at3 t).2.2]; omega

theorem blk5 (c : Dev nD) (t : Fin cfg0.N) (e : Fin 2) (r : Fin 512) (l : Fin 128) :
    (iblk m c 5 t : BF16 S2x512x128) (ix3 e r l) = packO m c (ix3 (hd t e) (row t r) l) := by
  unfold iblk
  rw [View.read_apply]
  show V m c main_v111 _ = V m c main_v111 _
  congr 1
  funext a
  apply Fin.ext
  match a with
  | ⟨0, _⟩ => show win0_5.index t 0 * 2 + 1 * e.val = t.val / 16 * 2 + e.val; rw [(at5 t).1]; omega
  | ⟨1, _⟩ => show win0_5.index t 1 * 512 + 1 * r.val = t.val % 16 * 512 + r.val; rw [(at5 t).2.1]; omega
  | ⟨2, _⟩ => show win0_5.index t 2 * 128 + 1 * l.val = l.val; rw [(at5 t).2.2]; omega

theorem blk4 (c : Dev nD) (t : Fin cfg0.N) (e : Fin 2) (s : Fin 8192) (l : Fin 128) :
    (iblk m c 4 t : BF16 S2x8192x128) (ix3 e s l) = packK m c (ix3 (hd t e) s l) := by
  unfold iblk
  rw [View.read_apply]
  show V m c main_v110 _ = V m c main_v110 _
  congr 1
  funext a
  apply Fin.ext
  match a with
  | ⟨0, _⟩ => show win0_4.index t 0 * 2 + 1 * e.val = t.val / 16 * 2 + e.val; rw [(at4 t).1]; omega
  | ⟨1, _⟩ => show win0_4.index t 1 * 8192 + 1 * s.val = s.val; rw [(at4 t).2.1]; omega
  | ⟨2, _⟩ => show win0_4.index t 2 * 128 + 1 * l.val = l.val; rw [(at4 t).2.2]; omega

theorem blk6 (c : Dev nD) (t : Fin cfg0.N) (e : Fin 2) (s : Fin 8192) (l : Fin 128) :
    (iblk m c 6 t : BF16 S2x8192x128) (ix3 e s l) = packV m c (ix3 (hd t e) s l) := by
  unfold iblk
  rw [View.read_apply]
  show V m c main_v112 _ = V m c main_v112 _
  congr 1
  funext a
  apply Fin.ext
  match a with
  | ⟨0, _⟩ => show win0_6.index t 0 * 2 + 1 * e.val = t.val / 16 * 2 + e.val; rw [(at6 t).1]; omega
  | ⟨1, _⟩ => show win0_6.index t 1 * 8192 + 1 * s.val = s.val; rw [(at6 t).2.1]; omega
  | ⟨2, _⟩ => show win0_6.index t 2 * 128 + 1 * l.val = l.val; rw [(at6 t).2.2]; omega

/-- Each point's block is the block of the result there. -/
theorem outAt_apply (c : Dev nD) (t : Fin cfg0.N) (e : Fin 2) (r : Fin 512) (l : Fin 128) :
    outAt m c t (ix3 e r l) = dqa (packQ m c) (packK m c) (packO m c) (packV m c) (hd t e) (row t r) l := by
  unfold outAt
  rw [block_apply]
  have hi : (grid0.coords t 1).val < 16 := by rw [coord1]; omega
  refine (Sums.causal (fun n => gk (iblk m c 3 t) (iblk m c 5 t) (iblk m c 4 t) (iblk m c 6 t) e r l ⟨n % 8192, Nat.mod_lt _ (by decide)⟩) hi r.isLt).trans ?_
  unfold dqa
  refine Finset.sum_congr rfl fun s _ => ?_
  rw [coord1]
  have hs : (⟨s.val % 8192, Nat.mod_lt _ (by decide)⟩ : Fin 8192) = s := Fin.ext (Nat.mod_eq_of_lt s.isLt)
  rw [hs]
  unfold gk
  simp only [blk3, blk4, blk5, blk6]
  rfl

theorem emb7 (c : Dev nD) (t : Fin cfg0.N) (e : Fin 2) (r : Fin 512) (l : Fin 128) :
    ((cfg0.win 7).blk t).view.emb (ix3 e r l) = (ix3 (hd t e) (row t r) l : S16x8192x128.Idx) := by
  funext a
  apply Fin.ext
  match a with
  | ⟨0, _⟩ => show win0_7.index t 0 * 2 + 1 * e.val = t.val / 16 * 2 + e.val; rw [(at7 t).1]; omega
  | ⟨1, _⟩ => show win0_7.index t 1 * 512 + 1 * r.val = t.val % 16 * 512 + r.val; rw [(at7 t).2.1]; omega
  | ⟨2, _⟩ => show win0_7.index t 2 * 128 + 1 * l.val = l.val; rw [(at7 t).2.2]; omega

theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  have key : ∀ y : S2x512x128.Idx, outAt m c t y = result m c (((cfg0.win 7).blk t).view.emb y) := fun y => by
    have hy : y = ix3 (y 0) (y 1) (y 2) := by
      funext a
      match a with
      | ⟨0, _⟩ => rfl
      | ⟨1, _⟩ => rfl
      | ⟨2, _⟩ => rfl
    rw [hy]
    refine (outAt_apply m c t (y 0) (y 1) (y 2)).trans ?_
    exact (congrArg (result m c) (emb7 c t (y 0) (y 1) (y 2))).symm
  exact funext key

/-- The array ends at the result. -/
theorem final (c : Dev nD) : (dats m 0 c).arrAt 7 cfg0.N = result m c :=
  (dats m 0 c).arrAt_eq_of_cover 7 (result m c) (fun t _ => flushed_eq m c t) fun y => by
    have h0 : (y 0 : Nat) < 16 := (y 0).isLt
    have h1 : (y 1 : Nat) < 8192 := (y 1).isLt
    have h2 : (y 2 : Nat) < 128 := (y 2).isLt
    have hN : cfg0.N = 128 := N_0
    refine ⟨⟨(y 0 : Nat) / 2 * 16 + (y 1 : Nat) / 512, by omega⟩, ?_, ?_⟩
    · exact flush0_7 _
    · generalize ht : (⟨(y 0 : Nat) / 2 * 16 + (y 1 : Nat) / 512, by omega⟩ : Fin cfg0.N) = t
      have hv : t.val = (y 0 : Nat) / 2 * 16 + (y 1 : Nat) / 512 := by rw [← ht]
      show y ∈ ((View.whole main_v113).slice (win0_7.rect t)).set
      rw [View.set_slice_whole, Rect.mem_set_unit]
      intro a
      match a with
      | ⟨0, _⟩ => show win0_7.index t 0 * 2 ≤ (y 0 : Nat) ∧ (y 0 : Nat) < win0_7.index t 0 * 2 + 2; rw [(at7 t).1]; omega
      | ⟨1, _⟩ => show win0_7.index t 1 * 512 ≤ (y 1 : Nat) ∧ (y 1 : Nat) < win0_7.index t 1 * 512 + 512; rw [(at7 t).2.1]; omega
      | ⟨2, _⟩ => show win0_7.index t 2 * 128 ≤ (y 2 : Nat) ∧ (y 2 : Nat) < win0_7.index t 2 * 128 + 128; rw [(at7 t).2.2]; omega

end Cert.KernelIdeal.Dq
-- ==== Proof.KernelIdeal.Lanes.lean ====
/- The 128 lanes of a packed row: 64 lanes of data, ten lanes of scalars, the rest zero. -/
module

public import proofs.«01_k».proof.Proof.Types
public import proofs.«01_k».proof.Proof.KernelIdeal.Array
public import Idealize.ShloMosaic.Lib.Pointwise

@[expose] public section

noncomputable section

namespace Cert.KernelIdeal.Dq

open Idealize.ShloMosaic Idealize.ShloMosaic.TcCoe Idealize.ShloMosaic.Tactic
open Cert.KernelIdeal.Gen

/-- A packed row with data `a` and scalars `b`. -/
def lane (a : Fin 64 → EReal) (b : Fin 10 → EReal) (l : Fin 128) : EReal :=
  if h : l.val < 64 then a ⟨l.val, h⟩ else if h' : l.val < 74 then b ⟨l.val - 64, by omega⟩ else 0

theorem lane_data (a : Fin 64 → EReal) (b : Fin 10 → EReal) (l : Fin 64) : lane a b ⟨l.val, by omega⟩ = a l := by
  simp [lane]

theorem lane_scalar (a : Fin 64 → EReal) (b : Fin 10 → EReal) : lane a b ⟨64, by decide⟩ = b 0 := by
  simp [lane]

/-- The product of two packed rows is that of their data and that of their scalars. -/
theorem lane_dot (a a' : Fin 64 → EReal) (b b' : Fin 10 → EReal) :
    ∑ l : Fin 128, lane a b l * lane a' b' l = ∑ j : Fin 64, a j * a' j + ∑ j : Fin 10, b j * b' j := by
  have e : ∑ l : Fin 128, lane a b l * lane a' b' l = ∑ l : Fin (64 + (10 + 54)), lane a b l * lane a' b' l := rfl
  rw [e, Fin.sum_univ_add, Fin.sum_univ_add]
  have h1 : ∀ j : Fin 64, lane a b (Fin.castAdd (10 + 54) j) = a j ∧ lane a' b' (Fin.castAdd (10 + 54) j) = a' j := fun j => by
    simp [lane]
  have h2 : ∀ j : Fin 10, lane a b (Fin.natAdd 64 (Fin.castAdd 54 j)) = b j ∧ lane a' b' (Fin.natAdd 64 (Fin.castAdd 54 j)) = b' j := fun j => by
    have := j.isLt
    simp [lane, show 64 + j.val < 74 by omega]
  have h3 : ∀ j : Fin 54, lane a b (Fin.natAdd 64 (Fin.natAdd 10 j)) = 0 := fun j => by
    simp [lane, show ¬ 64 + (10 + j.val) < 64 by omega, show ¬ 64 + (10 + j.val) < 74 by omega]
  simp only [h1, h2, h3, zero_mul, Finset.sum_const_zero, add_zero]

/-- A lane is of data, one of the ten scalars, or behind them. -/
theorem lane_cases {P : Fin 128 → Prop} (l : Fin 128) (hd : ∀ j : Fin 64, P ⟨j.val, by omega⟩)
    (h0 : P ⟨64, by decide⟩) (h1 : P ⟨65, by decide⟩) (h2 : P ⟨66, by decide⟩) (h3 : P ⟨67, by decide⟩) (h4 : P ⟨68, by decide⟩)
    (h5 : P ⟨69, by decide⟩) (h6 : P ⟨70, by decide⟩) (h7 : P ⟨71, by decide⟩) (h8 : P ⟨72, by decide⟩) (h9 : P ⟨73, by decide⟩)
    (hz : ∀ j : Fin 54, P ⟨74 + j.val, by omega⟩) : P l := by
  rcases l with ⟨n, hn⟩
  by_cases a : n < 64
  · exact hd ⟨n, a⟩
  by_cases b : n < 74
  · obtain ⟨k, rfl⟩ := Nat.exists_eq_add_of_le (Nat.le_of_not_lt a)
    have hk : k < 10 := by omega
    interval_cases k <;> assumption
  · have := hz ⟨n - 74, by omega⟩
    simpa [show 74 + (n - 74) = n by omega] using this

variable (h : Fin 16) (t : Fin 8192)

/-- A packed row of the queries, -/
theorem catQ_of (x0 : F32 S16x8192x64) (x1 x2 x3 : F32 S16x8192x1) (x4 : F32 S16x8192x3) (x5 x6 x7 : F32 S16x8192x1) (x8 : F32 S16x8192x55)
    (a : Fin 64 → EReal) (b1 b2 b3 b4 b5 b6 b7 : EReal) (h0 : ∀ j, x0 (ix3 h t j) = a j) (h1 : x1 (ix3 h t 0) = b1) (h2 : x2 (ix3 h t 0) = b2) (h3 : x3 (ix3 h t 0) = b3) (h4 : ∀ j, x4 (ix3 h t j) = b4) (h5 : x5 (ix3 h t 0) = b5) (h6 : x6 (ix3 h t 0) = b6) (h7 : x7 (ix3 h t 0) = b7)
    (h8 : ∀ j, x8 (ix3 h t j) = 0) (l : Fin 128) :
    (truncf (s := S16x8192x128) (φ := .f32) .bf16 (concatenate S16x8192x128 2 [⟨S16x8192x64, x0⟩, ⟨S16x8192x1, x1⟩, ⟨S16x8192x1, x2⟩, ⟨S16x8192x1, x3⟩, ⟨S16x8192x3, x4⟩, ⟨S16x8192x1, x5⟩, ⟨S16x8192x1, x6⟩, ⟨S16x8192x1, x7⟩, ⟨S16x8192x55, x8⟩]
      concatenates_S16x8192x64_S16x8192x1_S16x8192x1_S16x8192x1_S16x8192x3_S16x8192x1_S16x8192x1_S16x8192x1_S16x8192x55_S16x8192x128_d2 : FVec Ideal S16x8192x128 .f32)
      bitsLt_bf16_f32 : FVec Ideal S16x8192x128 .bf16) (ix3 h t l) = lane a ![b1, b2, b3, b4, b4, b4, b5, b6, b7, 0] l := by
  pointwise
  induction l using lane_cases
  all_goals first
    | (simp [lane, h0, h1, h2, h3, h4, h5, h6, h7, h8]; done)
    | (simp only [lane, h0, h1, h2, h3, h4, h5, h6, h7, h8]; split_ifs <;> first | rfl | omega)

/-- of the keys, -/
theorem catK_of (x0 : F32 S16x8192x64) (x1 : F32 S16x8192x3) (x2 x3 x4 : F32 S16x8192x1) (x5 : F32 S16x8192x3) (x6 : F32 S16x8192x55)
    (a : Fin 64 → EReal) (b1 b2 b3 b4 b5 : EReal) (h0 : ∀ j, x0 (ix3 h t j) = a j) (h1 : ∀ j, x1 (ix3 h t j) = b1) (h2 : x2 (ix3 h t 0) = b2) (h3 : x3 (ix3 h t 0) = b3) (h4 : x4 (ix3 h t 0) = b4) (h5 : ∀ j, x5 (ix3 h t j) = b5)
    (h6 : ∀ j, x6 (ix3 h t j) = 0) (l : Fin 128) :
    (truncf (s := S16x8192x128) (φ := .f32) .bf16 (concatenate S16x8192x128 2 [⟨S16x8192x64, x0⟩, ⟨S16x8192x3, x1⟩, ⟨S16x8192x1, x2⟩, ⟨S16x8192x1, x3⟩, ⟨S16x8192x1, x4⟩, ⟨S16x8192x3, x5⟩, ⟨S16x8192x55, x6⟩]
      concatenates_S16x8192x64_S16x8192x3_S16x8192x1_S16x8192x1_S16x8192x1_S16x8192x3_S16x8192x55_S16x8192x128_d2 : FVec Ideal S16x8192x128 .f32)
      bitsLt_bf16_f32 : FVec Ideal S16x8192x128 .bf16) (ix3 h t l) = lane a ![b1, b1, b1, b2, b3, b4, b5, b5, b5, 0] l := by
  pointwise
  induction l using lane_cases
  all_goals first
    | (simp [lane, h0, h1, h2, h3, h4, h5, h6]; done)
    | (simp only [lane, h0, h1, h2, h3, h4, h5, h6]; split_ifs <;> first | rfl | omega)

/-- of the gradients, -/
theorem catO_of (x0 : F32 S16x8192x64) (x1 x2 x3 : F32 S16x8192x1) (x4 : F32 S16x8192x61)
    (a : Fin 64 → EReal) (b1 b2 b3 : EReal) (h0 : ∀ j, x0 (ix3 h t j) = a j) (h1 : x1 (ix3 h t 0) = b1) (h2 : x2 (ix3 h t 0) = b2) (h3 : x3 (ix3 h t 0) = b3)
    (h4 : ∀ j, x4 (ix3 h t j) = 0) (l : Fin 128) :
    (truncf (s := S16x8192x128) (φ := .f32) .bf16 (concatenate S16x8192x128 2 [⟨S16x8192x64, x0⟩, ⟨S16x8192x1, x1⟩, ⟨S16x8192x1, x2⟩, ⟨S16x8192x1, x3⟩, ⟨S16x8192x61, x4⟩]
      concatenates_S16x8192x64_S16x8192x1_S16x8192x1_S16x8192x1_S16x8192x61_S16x8192x128_d2 : FVec Ideal S16x8192x128 .f32)
      bitsLt_bf16_f32 : FVec Ideal S16x8192x128 .bf16) (ix3 h t l) = lane a ![b1, b2, b3, 0, 0, 0, 0, 0, 0, 0] l := by
  pointwise
  induction l using lane_cases
  all_goals first
    | (simp [lane, h0, h1, h2, h3, h4]; done)
    | (simp only [lane, h0, h1, h2, h3, h4]; split_ifs <;> first | rfl | omega)

/-- and of the values. -/
theorem catV_of (x0 : F32 S16x8192x64) (x1 : F32 S16x8192x3) (x2 : F32 S16x8192x1) (x3 : F32 S16x8192x60)
    (a : Fin 64 → EReal) (b1 b2 : EReal) (h0 : ∀ j, x0 (ix3 h t j) = a j) (h1 : ∀ j, x1 (ix3 h t j) = b1) (h2 : x2 (ix3 h t 0) = b2)
    (h3 : ∀ j, x3 (ix3 h t j) = 0) (l : Fin 128) :
    (truncf (s := S16x8192x128) (φ := .f32) .bf16 (concatenate S16x8192x128 2 [⟨S16x8192x64, x0⟩, ⟨S16x8192x3, x1⟩, ⟨S16x8192x1, x2⟩, ⟨S16x8192x60, x3⟩]
      concatenates_S16x8192x64_S16x8192x3_S16x8192x1_S16x8192x60_S16x8192x128_d2 : FVec Ideal S16x8192x128 .f32)
      bitsLt_bf16_f32 : FVec Ideal S16x8192x128 .bf16) (ix3 h t l) = lane a ![b1, b1, b1, b2, 0, 0, 0, 0, 0, 0] l := by
  pointwise
  induction l using lane_cases
  all_goals first
    | (simp [lane, h0, h1, h2, h3]; done)
    | (simp only [lane, h0, h1, h2, h3]; split_ifs <;> first | rfl | omega)

end Cert.KernelIdeal.Dq
-- ==== Proof.Attention.lean ====
/- Causal attention with a forgetting term, its saved values, and the two spellings of its backward pass over the reals. -/
module

public import Idealize.ShloMosaic.Lib.Pointwise
public import Mathlib.Analysis.SpecialFunctions.Log.Basic

@[expose] public section

noncomputable section

namespace Cert.Attn

open Idealize.ShloMosaic

variable {N d : ℕ}

section defs
variable (c : EReal) (q k v o : Fin N → Fin d → EReal) (f : Fin N → EReal) (t s : Fin N)

/-- The score of query `t` for key `s`, -/
def logit : EReal := (∑ x, q t x * k s x) * c + (f t - f s)
/-- minus infinity behind the query, -/
def masked : EReal := if s.val ≤ t.val then logit c q k f t s else ⊥
/-- the greatest of a query's scores, -/
def top : EReal := Finset.univ.fold max ⊥ fun s => masked c q k f t s
/-- the exponentials, -/
def ex : EReal := Ideal.exp (masked c q k f t s - top c q k f t)
/-- their sum, -/
def z : EReal := ∑ s, ex c q k f t s
/-- its logarithm, -/
def lse : EReal := top c q k f t + Ideal.log (z c q k f t)
/-- the gradient of a weight, -/
def dp : EReal := ∑ x, o t x * v s x
/-- and the product of the gradient with the forward result. -/
def delta : EReal := ∑ x, o t x * ∑ s, Ideal.div (ex c q k f t s) (z c q k f t) * v s x

/-- The gradient of a score as the softmax's derivative gives it, -/
def ds : EReal := if s.val ≤ t.val then
  (Ideal.div (dp v o t s) (z c q k f t) + -(∑ s', dp v o t s' * Ideal.div 1 (z c q k f t * z c q k f t) * ex c q k f t s')) * ex c q k f t s else 0

/-- and from the saved logarithm and product. -/
def ds' : EReal := if s.val ≤ t.val then
  Ideal.exp (logit c q k f t s - lse c q k f t) * (dp v o t s - delta c q k v o f t) else 0
end defs

/-- Two numbers as the programs write them. -/
theorem ofBits_eighth : Ideal.ofBits .f32 0x3E000000#32 = ((1 / 8 : ℝ) : EReal) := by
  simp [Ideal.ofBits, Ideal.ieee, -EReal.coe_mul]; norm_num

theorem ofBits_ninf : Ideal.ofBits .f32 0xFF800000#32 = ⊥ := by simp [Ideal.ofBits, Ideal.ieee]

/-- Choosing by a comparison of two positions is choosing by their order. -/
theorem select_sle {N : ℕ} (hN : N ≤ 2 ^ 31) (s t : Fin N) (x y : EReal) :
    Scalar.select (α := EReal) (IntOp.cmpi .sle (BitVec.ofNat 32 s.val) (BitVec.ofNat 32 t.val)) x y = if s.val ≤ t.val then x else y := by
  have h : IntOp.cmpi .sle (BitVec.ofNat 32 s.val) (BitVec.ofNat 32 t.val) = if s.val ≤ t.val then 1#1 else 0#1 := by
    have hs := s.isLt
    have ht := t.isLt
    have e : ∀ n : ℕ, n < N → (BitVec.ofNat 32 n).toInt = n := fun n hn => by
      rw [BitVec.toInt_eq_toNat_of_lt (by simp; omega)]; simp; omega
    simp only [IntOp.cmpi, BitVec.sle, e _ hs, e _ ht]
    by_cases hh : s.val ≤ t.val <;> simp [hh]
  rw [h]
  by_cases hh : s.val ≤ t.val <;> simp [hh, Scalar.select]

theorem coe_sum {ι : Type} (u : Finset ι) (g : ι → ℝ) : ((∑ i ∈ u, g i : ℝ) : EReal) = ∑ i ∈ u, (g i : EReal) := by
  classical
  induction u using Finset.induction_on with
  | empty => simp
  | insert a u ha ih => rw [Finset.sum_insert ha, Finset.sum_insert ha, EReal.coe_add, ih]

/-- The greatest of numbers that are real or minus infinity, one of them real, is real. -/
theorem fold_max_real {ι : Type} [Fintype ι] (g : ι → EReal) (h : ∀ i, g i ≠ ⊤) (i : ι) (hi : g i ≠ ⊥) :
    ∃ r : ℝ, Finset.univ.fold max ⊥ g = r := by
  have e : Finset.univ.fold max ⊥ g = Finset.univ.sup g := rfl
  have a : Finset.univ.sup g ≠ ⊤ := ((Finset.sup_lt_iff (bot_lt_top)).mpr fun j _ => (h j).lt_top).ne
  have b : Finset.univ.sup g ≠ ⊥ := fun hb => hi (le_bot_iff.mp (hb ▸ Finset.le_sup (Finset.mem_univ i)))
  exact ⟨_, e.trans (EReal.coe_toReal a b).symm⟩

section reals
variable (c : ℝ) (q k v o : Fin N → Fin d → ℝ) (f : Fin N → ℝ) (t s : Fin N)

def logitR : ℝ := (∑ x, q t x * k s x) * c + (f t - f s)
def dpR : ℝ := ∑ x, o t x * v s x

theorem logit_real : logit c (fun t x => q t x) (fun t x => k t x) (fun t => f t) t s = logitR c q k f t s := by
  simp only [logit, logitR, EReal.coe_add, EReal.coe_sub, EReal.coe_mul, coe_sum]

theorem dp_real : dp (fun t x => (v t x : EReal)) (fun t x => (o t x : EReal)) t s = dpR v o t s := by
  simp only [dp, dpR, EReal.coe_mul, coe_sum]

theorem top_real : ∃ T : ℝ, top c (fun t x => q t x) (fun t x => k t x) (fun t => f t) t = T := by
  refine fold_max_real _ (fun s => ?_) t ?_
  · unfold masked
    split_ifs
    · rw [logit_real]; exact EReal.coe_ne_top _
    · exact bot_ne_top
  · rw [masked, if_pos le_rfl, logit_real]; exact EReal.coe_ne_bot _

def exR (T : ℝ) : ℝ := if s.val ≤ t.val then Real.exp (logitR c q k f t s - T) else 0

theorem ex_real (T : ℝ) (hT : top c (fun t x => q t x) (fun t x => k t x) (fun t => f t) t = T) :
    ex c (fun t x => q t x) (fun t x => k t x) (fun t => f t) t s = exR c q k f t s T := by
  rw [ex, hT, masked, exR]
  split_ifs
  · rw [logit_real, ← EReal.coe_sub, Ideal.exp_coe]
  · simp

def zR (T : ℝ) : ℝ := ∑ s, exR c q k f t s T

theorem zR_pos (T : ℝ) : 0 < zR c q k f t T := by
  refine Finset.sum_pos' (fun s _ => ?_) ⟨t, Finset.mem_univ t, ?_⟩
  · unfold exR; split_ifs <;> positivity
  · rw [exR, if_pos le_rfl]; positivity

theorem z_real (T : ℝ) (hT : top c (fun t x => q t x) (fun t x => k t x) (fun t => f t) t = T) :
    z c (fun t x => q t x) (fun t x => k t x) (fun t => f t) t = zR c q k f t T := by
  simp only [z, zR, coe_sum, ex_real c q k f t _ T hT]

theorem lse_real (T : ℝ) (hT : top c (fun t x => q t x) (fun t x => k t x) (fun t => f t) t = T) :
    lse c (fun t x => q t x) (fun t x => k t x) (fun t => f t) t = (T + Real.log (zR c q k f t T) : ℝ) := by
  rw [lse, z_real c q k f t T hT, hT, Ideal.log_coe, if_neg (zR_pos c q k f t T).not_ge, EReal.coe_add]

def deltaR (T : ℝ) : ℝ := ∑ x, o t x * ∑ s, exR c q k f t s T * (1 / zR c q k f t T) * v s x

theorem delta_real (T : ℝ) (hT : top c (fun t x => q t x) (fun t x => k t x) (fun t => f t) t = T) :
    delta c (fun t x => q t x) (fun t x => k t x) (fun t x => v t x) (fun t x => o t x) (fun t => f t) t = deltaR c q k v o f t T := by
  simp only [delta, deltaR, z_real c q k f t T hT, ex_real c q k f t _ T hT, Ideal.div_coe (zR_pos c q k f t T).ne', EReal.coe_mul, coe_sum]

/-- Both gradients of a score, as a real number. -/
def dsR (T : ℝ) : ℝ := exR c q k f t s T * (1 / zR c q k f t T) * (dpR v o t s - deltaR c q k v o f t T)

theorem deltaR_eq (T : ℝ) : deltaR c q k v o f t T = ∑ s, exR c q k f t s T * (1 / zR c q k f t T) * dpR v o t s := by
  simp only [deltaR, dpR, Finset.mul_sum]
  rw [Finset.sum_comm]
  exact Finset.sum_congr rfl fun s _ => Finset.sum_congr rfl fun x _ => by ring

theorem ds_real (T : ℝ) (hT : top c (fun t x => q t x) (fun t x => k t x) (fun t => f t) t = T) :
    ds c (fun t x => q t x) (fun t x => k t x) (fun t x => v t x) (fun t x => o t x) (fun t => f t) t s = dsR c q k v o f t s T := by
  have hz := (zR_pos c q k f t T).ne'
  rw [ds, dsR, deltaR_eq]
  split_ifs with hs
  · rw [z_real c q k f t T hT, ← EReal.coe_mul, Ideal.div_coe hz, Ideal.div_coe (mul_ne_zero hz hz)]
    simp only [dp_real, ex_real c q k f t _ T hT, ← EReal.coe_mul, one_mul, ← coe_sum, ← EReal.coe_neg, ← EReal.coe_add]
    congr 1
    have e : ∑ s', dpR v o t s' * (1 / (zR c q k f t T * zR c q k f t T)) * exR c q k f t s' T =
        (∑ s', exR c q k f t s' T * (1 / zR c q k f t T) * dpR v o t s') * (1 / zR c q k f t T) := by
      rw [Finset.sum_mul]
      exact Finset.sum_congr rfl fun s' _ => by field_simp
    rw [e]; ring
  · rw [exR, if_neg hs]; simp

theorem ds'_real (T : ℝ) (hT : top c (fun t x => q t x) (fun t x => k t x) (fun t => f t) t = T) :
    ds' c (fun t x => q t x) (fun t x => k t x) (fun t x => v t x) (fun t x => o t x) (fun t => f t) t s = dsR c q k v o f t s T := by
  have hz := zR_pos c q k f t T
  rw [ds', dsR]
  split_ifs with hs
  · rw [logit_real, lse_real c q k f t T hT, delta_real c q k v o f t T hT, dp_real, ← EReal.coe_sub, ← EReal.coe_sub, Ideal.exp_coe, ← EReal.coe_mul]
    congr 2
    rw [exR, if_pos hs, ← sub_sub, Real.exp_sub, Real.exp_log hz]; ring
  · rw [exR, if_neg hs]; simp

/-- What the packed scalars of a query and a key add to the product of their data. -/
theorem scalars_score (a b l : ℝ) :
    ∑ j : Fin 10, (![(a : EReal), a - a, a - a - (a - a), 1, 1, 1, -l, -(l - l), -(l - l - (l - l)), 0] : Fin 10 → EReal) j *
      (![1, 1, 1, -(b : EReal), -(b - b), -(b - b - (b - b)), 1, 1, 1, 0] : Fin 10 → EReal) j = ((a - b - l : ℝ) : EReal) := by
  simp only [Fin.sum_univ_succ, ← EReal.coe_sub, ← EReal.coe_neg]
  simp
  norm_cast
  ring_nf

/-- What those of a gradient and a value add. -/
theorem scalars_dp (e : ℝ) :
    ∑ j : Fin 10, (![(e : EReal), e - e, e - e - (e - e), 0, 0, 0, 0, 0, 0, 0] : Fin 10 → EReal) j *
      (![-1, -1, -1, 1, 0, 0, 0, 0, 0, 0] : Fin 10 → EReal) j = ((-e : ℝ) : EReal) := by
  simp only [Fin.sum_univ_succ, ← EReal.coe_sub, ← EReal.coe_neg]
  simp
end reals

end Cert.Attn
-- ==== Proof.KernelIdeal.Tail.lean ====
/- What the host lines after the region make of the kernel's array. -/
module

public import proofs.«01_k».proof.Proof.KernelIdeal.Host

@[expose] public section

noncomputable section

namespace Cert.KernelIdeal.Dq

open Idealize.ShloMosaic Idealize.ShloMosaic.TcCoe Idealize.ShloMosaic.Tactic
open Cert.KernelIdeal.Gen

abbrev e128 (x : Vec Ideal S16x8192x128 .f32) (h : Fin 16) (t : Fin 8192) (l : Fin 128) : EReal := x (ix3 h t l)

/-- The scaled data lanes, and the lane behind them. -/
theorem tail_data (U : Valuation τ sig (Elt Ideal)) (h : Fin 16) (t : Fin 8192) (x : Fin 64) :
    e3 (StableHlo.after (List.flatten [hostOps1]) U (Proc.devRef .tc main_v116)) h t x =
      e128 (U (Proc.devRef .tc main_v113)) h t ⟨x.val, by omega⟩ * eighth := by
  simp only [hostOps1, List.flatten_cons, List.flatten_nil, List.append_nil, e3, e128]
  after_reads_at

theorem tail_scalar (U : Valuation τ sig (Elt Ideal)) (h : Fin 16) (t : Fin 8192) :
    e2 (StableHlo.after (List.flatten [hostOps1]) U (Proc.devRef .tc main_v118)) h t =
      e128 (U (Proc.devRef .tc main_v113)) h t ⟨64, by decide⟩ := by
  simp only [hostOps1, List.flatten_cons, List.flatten_nil, List.append_nil, e2, e128]
  after_reads_simp
  refine (reshape_at _ h t).trans ?_
  pointwise

variable (m : (ℓ : Loc nD τ sig) → Buf (Elt Ideal) ℓ) (ρ : Dev nD → PrngReg)

/-- The arrays as the region leaves them. -/
abbrev left (c : Dev nD) : Valuation τ sig (Elt Ideal) :=
  Pipeline.withArrays spec0 c (V0 m c) fun w => (dats m 0 c).arrAt w cfg0.N

theorem left_result (c : Dev nD) : left m c (Proc.devRef .tc main_v113) = result m c :=
  (Pipeline.withArrays_arr spec0 (by decide) c (V0 m c) (fun w => (dats m 0 c).arrAt w cfg0.N) 7).trans (final m c)

/-- The two results the program ends with. -/
def dq (c : Dev nD) : Vec Ideal S16x8192x64 .f32 := fun y => result m c (ix3 (y 0) (y 1) ⟨(y 2).val, Nat.lt_trans (y 2).isLt (by decide)⟩) * eighth
def df (c : Dev nD) : Vec Ideal S16x8192 .f32 := fun y => result m c (ix3 (y 0) (y 1) ⟨64, by decide⟩)

theorem dq_eq (c : Dev nD) : Pipeline.afterTail₀ cfgs (dats m) 0 (V0 m) [hostOps1] c main_v116 = dq m c := by
  refine funext fun (y : S16x8192x64.Idx) => ?_
  rw [ValueIdx.eq_ix3 y]
  refine (tail_data (left m c) _ _ _).trans ?_
  rw [left_result]
  rfl

theorem df_eq (c : Dev nD) : Pipeline.afterTail₀ cfgs (dats m) 0 (V0 m) [hostOps1] c main_v118 = df m c := by
  refine funext fun (y : S16x8192.Idx) => ?_
  rw [ValueIdx.eq_ix2 y]
  refine (tail_scalar (left m c) _ _).trans ?_
  rw [left_result]
  rfl

/-- The program's run: both results, and the arguments as they were. -/
theorem run : θ_run defs (onTc (τ := τ) (main)) ⟨m, fun _ => 0, ρ⟩ (fun r => ∀ c : Dev nD,
      r.2.mem (c.tc.loc main_v116) = dq m c
      ∧ r.2.mem (c.tc.loc main_v118) = df m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun _ h c =>
    ⟨((h.2 c).2 main_v116 (Pipeline.mem_restRefs_of main_v116 (by decide) (by decide))).trans (dq_eq m c),
      ((h.2 c).2 main_v118 (Pipeline.mem_restRefs_of main_v118 (by decide) (by decide))).trans (df_eq m c), h.1 c⟩)
    (θ_run_and (unchanged m ρ) (run_main m ρ))

end Cert.KernelIdeal.Dq
-- ==== Proof.KernelIdeal.Result.lean ====
/- The kernel's array over real arguments. -/
module

public import proofs.«01_k».proof.Proof.KernelIdeal.Host

@[expose] public section

set_option maxRecDepth 16384

noncomputable section

namespace Cert.KernelIdeal.Dq

open Idealize.ShloMosaic Idealize.ShloMosaic.TcCoe Idealize.ShloMosaic.Tactic
open Cert.KernelIdeal.Gen

variable (m : (ℓ : Loc nD τ sig) → Buf (Elt Ideal) ℓ) (c : Dev nD)
  (q k v o : Fin 16 → Fin 8192 → Fin 64 → ℝ) (f : Fin 16 → Fin 8192 → ℝ)

/-- The five arguments are these real arrays. -/
structure Reals : Prop where
  hq : ∀ h, e3 (m (c, Proc.devRef .tc main_arg0)) h = fun t x => (q h t x : EReal)
  hk : ∀ h, e3 (m (c, Proc.devRef .tc main_arg1)) h = fun t x => (k h t x : EReal)
  hv : ∀ h, e3 (m (c, Proc.devRef .tc main_arg2)) h = fun t x => (v h t x : EReal)
  hf : ∀ h, e2 (m (c, Proc.devRef .tc main_arg3)) h = fun t => (f h t : EReal)
  ho : ∀ h, e3 (m (c, Proc.devRef .tc main_arg4)) h = fun t x => (o h t x : EReal)

variable {m c q k v o f} (R : Reals m c q k v o f) (h : Fin 16) (t s : Fin 8192) (l : Fin 128)
include R

theorem scores (s : Fin 8192) : (StableHlo.after opsS (fun b => m (c, b)) (Proc.devRef .tc main_v15) : Vec Ideal S16x8192x8192 .f32) (ix3 h t s) =
    Attn.masked eighth (fun t x => q h t x) (fun t x => k h t x) (fun t => f h t) t s := by
  rw [scores_at, R.hq, R.hk, R.hf]

abbrev before : Valuation τ sig (Elt Ideal) := StableHlo.after opsA (StableHlo.after opsS fun b => m (c, b))

theorem lse_val : e2 (before (m := m) (c := c) (Proc.devRef .tc main_v25)) h t =
    Attn.lse eighth (fun t x => q h t x) (fun t x => k h t x) (fun t => f h t) t :=
  lse_at _ h t _ _ _ _ (scores R h t)

omit R in
theorem scores_args (r : Ref sig .tc) (hr : r = main_arg2 ∨ r = main_arg4) :
    StableHlo.after opsS (fun b => m (c, b)) (Proc.devRef .tc r) = m (c, Proc.devRef .tc r) := by
  simp only [opsS, hostOps0, hostOps0_1, List.cons_append, List.nil_append]
  rcases hr with rfl | rfl <;> after_reads_simp

theorem delta_val : e2 (before (m := m) (c := c) (Proc.devRef .tc main_v30)) h t =
    Attn.delta eighth (fun t x => q h t x) (fun t x => k h t x) (fun t x => v h t x) (fun t x => o h t x) (fun t => f h t) t :=
  delta_at _ h t _ _ _ _ _ _ (scores R h t)
    (fun s x => by rw [scores_args _ (.inl rfl)]; exact congrFun (congrFun (R.hv h) s) x)
    (fun x => by rw [scores_args _ (.inr rfl)]; exact congrFun (congrFun (R.ho h) t) x)

theorem before_q (x : Fin 64) : e3 (before (m := m) (c := c) (Proc.devRef .tc main_arg0)) h t x = q h t x := by
  rw [before, args_at _ _ (by simp)]; exact congrFun (congrFun (R.hq h) t) x
theorem before_k (x : Fin 64) : e3 (before (m := m) (c := c) (Proc.devRef .tc main_arg1)) h t x = k h t x := by
  rw [before, args_at _ _ (by simp)]; exact congrFun (congrFun (R.hk h) t) x
theorem before_v (x : Fin 64) : e3 (before (m := m) (c := c) (Proc.devRef .tc main_arg2)) h t x = v h t x := by
  rw [before, args_at _ _ (by simp)]; exact congrFun (congrFun (R.hv h) t) x
theorem before_o (x : Fin 64) : e3 (before (m := m) (c := c) (Proc.devRef .tc main_arg4)) h t x = o h t x := by
  rw [before, args_at _ _ (by simp)]; exact congrFun (congrFun (R.ho h) t) x
theorem before_f : e2 (before (m := m) (c := c) (Proc.devRef .tc main_arg3)) h t = f h t := by
  rw [before, args_at _ _ (by simp)]; exact congrFun (R.hf h) t

/-- The rows of the packed arrays, -/
theorem packQ_lane : packQ m c (ix3 h t l) = lane (fun x => q h t x * eighth)
    (let e := Attn.lse eighth (fun t x => q h t x) (fun t x => k h t x) (fun t => f h t) t
     ![(f h t : EReal), f h t - f h t, f h t - f h t - (f h t - f h t), 1, 1, 1, -e, -(e - e), -(e - e - (e - e)), 0]) l := by
  refine (congrFun (V_parts m c main_v109) _).trans ((packQ_at _ h t l).trans ?_)
  simp only [before_q R, before_f R, lse_val R]

theorem packK_lane : packK m c (ix3 h t l) = lane (fun x => k h t x)
    ![1, 1, 1, -(f h t : EReal), -(f h t - f h t), -(f h t - f h t - (f h t - f h t)), 1, 1, 1, 0] l := by
  refine (congrFun (V_parts m c main_v110) _).trans ((packK_at _ h t l).trans ?_)
  simp only [before_k R, before_f R]

theorem packO_lane : packO m c (ix3 h t l) = lane (fun x => o h t x)
    (let e := Attn.delta eighth (fun t x => q h t x) (fun t x => k h t x) (fun t x => v h t x) (fun t x => o h t x) (fun t => f h t) t
     ![e, e - e, e - e - (e - e), 0, 0, 0, 0, 0, 0, 0]) l := by
  refine (congrFun (V_parts m c main_v111) _).trans ((packO_at _ h t l).trans ?_)
  simp only [before_o R, delta_val R]

theorem packV_lane : packV m c (ix3 h t l) = lane (fun x => v h t x) ![-1, -1, -1, 1, 0, 0, 0, 0, 0, 0] l := by
  refine (congrFun (V_parts m c main_v112) _).trans ((packV_at _ h t l).trans ?_)
  simp only [before_v R]

/-- The product of a packed query and a packed key is the score less the logarithm of the sum, -/
theorem score_packed : ∑ l, packQ m c (ix3 h t l) * packK m c (ix3 h s l) =
    Attn.logit eighth (fun t x => q h t x) (fun t x => k h t x) (fun t => f h t) t s
      - Attn.lse eighth (fun t x => q h t x) (fun t x => k h t x) (fun t => f h t) t := by
  obtain ⟨T, hT⟩ := Attn.top_real (1 / 8) (q h) (k h) (f h) t
  simp only [packQ_lane R, packK_lane R]
  rw [lane_dot]
  simp only [Attn.ofBits_eighth, eighth]
  rw [Attn.lse_real _ _ _ _ _ T hT, Attn.scalars_score, Attn.logit_real]
  simp only [← EReal.coe_mul, ← Attn.coe_sum, ← EReal.coe_add, ← EReal.coe_sub, Attn.logitR, Finset.sum_mul]
  congr 1
  have e : ∑ x, q h t x * (1 / 8) * k h s x = ∑ x, q h t x * k h s x * (1 / 8) := Finset.sum_congr rfl fun x _ => by ring
  rw [e]; ring

/-- that of a packed gradient and a packed value the gradient of the weight less the saved product, -/
theorem dp_packed : ∑ l, packO m c (ix3 h t l) * packV m c (ix3 h s l) =
    Attn.dp (fun t x => v h t x) (fun t x => o h t x) t s -
      Attn.delta eighth (fun t x => q h t x) (fun t x => k h t x) (fun t x => v h t x) (fun t x => o h t x) (fun t => f h t) t := by
  obtain ⟨T, hT⟩ := Attn.top_real (1 / 8) (q h) (k h) (f h) t
  simp only [packO_lane R, packV_lane R]
  rw [lane_dot]
  simp only [Attn.ofBits_eighth, eighth]
  rw [Attn.delta_real _ _ _ _ _ _ _ T hT, Attn.scalars_dp, Attn.dp_real]
  simp only [← EReal.coe_mul, ← Attn.coe_sum, ← EReal.coe_add, ← EReal.coe_sub, Attn.dpR]
  congr 1

/-- and a lane of the result the sum of the scores' gradients over that lane of the packed keys. -/
theorem result_eq : result m c (ix3 h t l) = ∑ s, Attn.ds' eighth (fun t x => q h t x) (fun t x => k h t x) (fun t x => v h t x) (fun t x => o h t x) (fun t => f h t) t s *
    packK m c (ix3 h s l) := by
  show dqa (packQ m c) (packK m c) (packO m c) (packV m c) h t l = _
  unfold dqa
  refine Finset.sum_congr rfl fun s _ => ?_
  rw [score_packed R, dp_packed R, Attn.ds']
  split_ifs <;> simp

/-- In the lanes of data that is the sum over the keys, -/
theorem result_data (x : Fin 64) : result m c (ix3 h t ⟨x.val, by omega⟩) =
    ∑ s, Attn.ds' eighth (fun t x => q h t x) (fun t x => k h t x) (fun t x => v h t x) (fun t x => o h t x) (fun t => f h t) t s * k h s x := by
  rw [result_eq R]
  refine Finset.sum_congr rfl fun s _ => ?_
  rw [packK_lane R, lane_data]

/-- and in the lane behind them the sum itself. -/
theorem result_scalar : result m c (ix3 h t ⟨64, by decide⟩) =
    ∑ s, Attn.ds' eighth (fun t x => q h t x) (fun t x => k h t x) (fun t x => v h t x) (fun t x => o h t x) (fun t => f h t) t s := by
  rw [result_eq R]
  refine Finset.sum_congr rfl fun s _ => ?_
  rw [packK_lane R, lane_scalar]
  simp

end Cert.KernelIdeal.Dq
-- ==== Proof.ReferenceIdeal.Entries.lean ====
/- The reference's results, entry by entry. -/
module

public import proofs.«01_k».proof.Proof.Gen.ReferenceIdeal.Read
public import proofs.«01_k».proof.Proof.Attention
public import Idealize.ShloMosaic.Lib.StableHlo.ReadAt

@[expose] public section

noncomputable section

namespace Cert.ReferenceIdeal.Dq

open Idealize.ShloMosaic Idealize.ShloMosaic.TcCoe Idealize.ShloMosaic.Tactic
open Cert.ReferenceIdeal.Gen Cert.ReferenceIdeal.Read

/-- One eighth, as the program writes it. -/
abbrev eighth : EReal := Ideal.ofBits .f32 0x3E000000#32

/-- A row of a matrix per head, and of a vector per head. -/
abbrev a3 (x : FVec Ideal S16x8192x64 .f32) (h : Fin 16) (t : Fin 8192) (j : Fin 64) : EReal := x (ix3 h t j)
abbrev a2 (x : FVec Ideal S16x8192 .f32) (h : Fin 16) (t : Fin 8192) : EReal := x (ix2 h t)

theorem reshape_at (x : FVec Ideal S16x8192 .f32) (h : Fin 16) (t : Fin 8192) :
    (shapeCast S16x8192x1 x shapeCasts_S16x8192_S16x8192x1 : FVec Ideal S16x8192x1 .f32) (ix3 h t 0) = x (ix2 h t) := by
  clean_types
  pointwise

theorem max_vec (x : FVec Ideal S16x8192x8192 .f32) (h : Fin 16) (t : Fin 8192) :
    (Host.reduce FloatOps.maximumf x (constant S_ .f32 0xFF800000#32) reducesTo_S16x8192x8192_S16x8192_d2 h_S_ : FVec Ideal S16x8192 .f32) (ix2 h t) =
      (Finset.univ.fold max (Ideal.ofBits .f32 0xFF800000#32) fun s : Fin 8192 => x (ix3 h t s)) := by
  pointwise

theorem sum_vec (x : FVec Ideal S16x8192x8192 .f32) (h : Fin 16) (t : Fin 8192) :
    (Host.reduceAdd x (constant S_ .f32 0x00000000#32) reducesTo_S16x8192x8192_S16x8192_d2 h_S_ : FVec Ideal S16x8192 .f32) (ix2 h t) =
      (∑ s : Fin 8192, x (ix3 h t s) : EReal) := by
  pointwise

theorem sum1_vec (x : FVec Ideal S16x8192x1 .f32) (h : Fin 16) (t : Fin 8192) :
    (Host.reduceAdd x (constant S_ .f32 0x00000000#32) reducesTo_S16x8192x1_S16x8192_d2 h_S_ : FVec Ideal S16x8192 .f32) (ix2 h t) = x (ix3 h t 0) := by
  pointwise
  simp

variable (x0 x1 x2 x4 : FVec Ideal S16x8192x64 .f32) (x3 : FVec Ideal S16x8192 .f32) (h : Fin 16) (t s : Fin 8192)

/-- The masked scores, -/
theorem masked_at : (val_main_v15_0 (F := Ideal) x0 x1 x3 (ix3 h t s) : EReal) = Attn.masked eighth (a3 x0 h) (a3 x1 h) (a2 x3 h) t s := by
  pointwise [val_main_v15_0, val_main_v15_1, val_main_v8, val_main_v2, val_main_v0, val_main_v1, val_main_cst, val_main_v7, val_main_v5, val_main_v6, val_main_v3, val_main_v4,
    val_main_v14, val_main_v13, val_main_v12, val_main_v11, val_main_v10, val_main_v9, val_main_call0_v2, val_main_call0_v0, val_main_cst_0]
  have b : (id (constant S_ .f32 0xFF800000#32 : FVec Ideal S_ .f32) ix0 : EReal) = ⊥ := Attn.ofBits_ninf
  rw [b, Attn.masked]
  exact Attn.select_sle (by norm_num) s t _ _

theorem fold_at : (val_main_v16 (F := Ideal) x0 x1 x3 (ix2 h t) : EReal) = Attn.top eighth (a3 x0 h) (a3 x1 h) (a2 x3 h) t := by
  have e : (fun s : Fin 8192 => (val_main_v15_0 (F := Ideal) x0 x1 x3 (ix3 h t s) : EReal)) = Attn.masked eighth (a3 x0 h) (a3 x1 h) (a2 x3 h) t :=
    funext fun s => masked_at x0 x1 x3 h t s
  rw [val_main_v16, val_main_cst_1, max_vec, Attn.ofBits_ninf, e]
  rfl

theorem floor_at : (val_main_v22 (F := Ideal) (ix2 h t) : EReal) = ⊥ := by
  pointwise [val_main_v22, val_main_cst_3]
  exact Attn.ofBits_ninf

theorem max_at (x y : FVec Ideal S16x8192 .f32) : (maximumf x y (ix2 h t) : EReal) = max (x (ix2 h t)) (y (ix2 h t)) := by
  pointwise

/-- their maximum, -/
theorem top_at : (val_main_v23 (F := Ideal) x0 x1 x3 (ix2 h t) : EReal) = Attn.top eighth (a3 x0 h) (a3 x1 h) (a2 x3 h) t := by
  rw [val_main_v23, max_at, fold_at, floor_at]
  exact max_eq_right bot_le

/-- the exponentials, -/
theorem ex_at : (val_main_v36 (F := Ideal) x0 x1 x3 (ix3 h t s) : EReal) = Attn.ex eighth (a3 x0 h) (a3 x1 h) (a2 x3 h) t s := by
  have e : (val_main_v34 (F := Ideal) x0 x1 x3 (ix3 h t s) : EReal) = Attn.top eighth (a3 x0 h) (a3 x1 h) (a2 x3 h) t := by
    pointwise [val_main_v34, val_main_v33]
    exact top_at x0 x1 x3 h t
  rw [Attn.ex, ← masked_at, ← e]
  rfl

/-- their sum, -/
theorem z_at : (val_main_v38 (F := Ideal) x0 x1 x3 (ix3 h t 0) : EReal) = Attn.z eighth (a3 x0 h) (a3 x1 h) (a2 x3 h) t := by
  pointwise [val_main_v38]
  refine (sum_vec _ h t).trans ?_
  simp only [ex_at, Attn.z]

/-- the gradient of a weight, -/
theorem dp_at : (val_main_v45 (F := Ideal) x2 x4 (ix3 h t s) : EReal) = Attn.dp (a3 x2 h) (a3 x4 h) t s := by
  pointwise [val_main_v45]
  rfl

/-- the sum through which every weight's gradient passes, -/
theorem back_at : (val_main_v49 (F := Ideal) x0 x1 x2 x3 x4 (ix2 h t) : EReal) = ∑ s', Attn.dp (a3 x2 h) (a3 x4 h) t s' *
      Ideal.div 1 (Attn.z eighth (a3 x0 h) (a3 x1 h) (a2 x3 h) t * Attn.z eighth (a3 x0 h) (a3 x1 h) (a2 x3 h) t) * Attn.ex eighth (a3 x0 h) (a3 x1 h) (a2 x3 h) t s' := by
  have e : ∀ s, (val_main_v46 (F := Ideal) x0 x1 x3 (ix3 h t s) : EReal) =
      Ideal.div 1 (Attn.z eighth (a3 x0 h) (a3 x1 h) (a2 x3 h) t * Attn.z eighth (a3 x0 h) (a3 x1 h) (a2 x3 h) t) := fun s => by
    pointwise [val_main_v46, val_main_v43, val_main_v42, val_main_cst_10, val_main_v41]
    rw [← z_at]
  refine (sum_vec _ h t).trans (Finset.sum_congr rfl fun s _ => ?_)
  rw [← dp_at, ← ex_at, ← e s]
  rfl

/-- the gradient of a score, -/
theorem ds_at : (val_main_v58 (F := Ideal) x0 x1 x2 x3 x4 (ix3 h t s) : EReal) = Attn.ds eighth (a3 x0 h) (a3 x1 h) (a3 x2 h) (a3 x4 h) (a2 x3 h) t s := by
  have b : (val_main_v54 (F := Ideal) x0 x1 x2 x3 x4 (ix2 h t) : EReal) = -(val_main_v49 (F := Ideal) x0 x1 x2 x3 x4 (ix2 h t) : EReal) :=
    (sum1_vec _ h t).trans (congrArg (fun x : EReal => -x) (reshape_at _ h t))
  pointwise [val_main_v58, val_main_v15_1, val_main_v14, val_main_v13, val_main_v12, val_main_v11, val_main_v10, val_main_v9, val_main_v57, val_main_v56, val_main_v55, val_main_v53,
    val_main_v52, val_main_call1_v0, val_main_call1_cst]
  rw [Attn.ds, ← back_at, ← b, ← ex_at, ← z_at, ← dp_at]
  exact Attn.select_sle (by norm_num) s t _ _

/-- and the two results. -/
theorem dq_at (x : Fin 64) : (val_main_v64 (F := Ideal) x0 x1 x2 x3 x4 (ix3 h t x) : EReal) =
    ∑ s, Attn.ds eighth (a3 x0 h) (a3 x1 h) (a3 x2 h) (a3 x4 h) (a2 x3 h) t s * eighth * a3 x1 h s x := by
  pointwise [val_main_v64, val_main_v63, val_main_v62, val_main_cst_15]
  simp only [ds_at]

theorem df_at : (val_main_v61 (F := Ideal) x0 x1 x2 x3 x4 (ix2 h t) : EReal) =
    ∑ s, Attn.ds eighth (a3 x0 h) (a3 x1 h) (a3 x2 h) (a3 x4 h) (a2 x3 h) t s := by
  refine (sum1_vec _ h t).trans ((reshape_at _ h t).trans ((sum_vec _ h t).trans ?_))
  simp only [ds_at]

end Cert.ReferenceIdeal.Dq
-- ==== Proof.Equation.lean ====
/- The kernel's two results are the reference's. -/
module

public import proofs.«01_k».proof.Proof.Gen.Pre_finite
public import proofs.«01_k».proof.Proof.KernelIdeal.Tail
public import proofs.«01_k».proof.Proof.KernelIdeal.Result
public import proofs.«01_k».proof.Proof.ReferenceIdeal.Entries
public import proofs.«01_k».proof.Defs

@[expose] public section

set_option maxRecDepth 16384

noncomputable section

namespace Cert.Equation

open Idealize.ShloMosaic Idealize.ShloMosaic.TcCoe Idealize.ShloMosaic.Tactic
open Cert.KernelIdeal.Dq

/-- A number below infinity in absolute value is real. -/
theorem real_of_lt (x : EReal) (h : Ideal.cmp .olt (max x (-x)) (Ideal.ofBits .f32 0x7F800000#32) = 1#1) : x = (x.toReal : EReal) := by
  have e : Ideal.ofBits .f32 0x7F800000#32 = ⊤ := by simp [Ideal.ofBits, Ideal.ieee]
  rw [e] at h
  induction x using EReal.rec <;> simp_all [Ideal.cmp]

theorem real3 (x : FVec Ideal Pre_finite.S16x8192x64 .f32) (b : Pre_finite.S_.BroadcastsInDim Pre_finite.S16x8192x64 (![] : Fin 0 → Fin Pre_finite.S16x8192x64.rank))
    (h : cmpf .olt (Host.absf x) (broadcastInDim Pre_finite.S16x8192x64 ![] b (constant Pre_finite.S_ .f32 0x7F800000#32 : FVec Ideal Pre_finite.S_ .f32)) = fun _ => 1#1)
    (i : Pre_finite.S16x8192x64.Idx) : x i = ((EReal.toReal (x i) : ℝ) : EReal) :=
  real_of_lt _ (congrFun h i)

theorem real2 (x : FVec Ideal Pre_finite.S16x8192 .f32) (b : Pre_finite.S_.BroadcastsInDim Pre_finite.S16x8192 (![] : Fin 0 → Fin Pre_finite.S16x8192.rank))
    (h : cmpf .olt (Host.absf x) (broadcastInDim Pre_finite.S16x8192 ![] b (constant Pre_finite.S_ .f32 0x7F800000#32 : FVec Ideal Pre_finite.S_ .f32)) = fun _ => 1#1)
    (i : Pre_finite.S16x8192.Idx) : x i = ((EReal.toReal (x i) : ℝ) : EReal) :=
  real_of_lt _ (congrFun h i)

variable (m : (ℓ : Loc KernelIdeal.nD KernelIdeal.τ KernelIdeal.sig) → Buf (Elt Ideal) ℓ) (c : Dev KernelIdeal.nD)

/-- Under the precondition the arguments are real arrays. -/
theorem reals (hm : Pre_KernelIdeal_finite m) : ∃ q k v o f, Reals m c q k v o f := by
  obtain ⟨h0, h1, h2, h3, h4⟩ := hm c
  exact ⟨_, _, _, _, _, fun h => funext fun t => funext fun x => real3 _ _ h0 (ix3 h t x), fun h => funext fun t => funext fun x => real3 _ _ h1 (ix3 h t x),
    fun h => funext fun t => funext fun x => real3 _ _ h2 (ix3 h t x), fun h => funext fun t => real2 _ _ h3 (ix2 h t),
    fun h => funext fun t => funext fun x => real3 _ _ h4 (ix3 h t x)⟩

variable {m c} {q k v o : Fin 16 → Fin 8192 → Fin 64 → ℝ} {f : Fin 16 → Fin 8192 → ℝ} (R : Reals m c q k v o f) (h : Fin 16) (t : Fin 8192)
include R

open ReferenceIdeal.Read (val_main_v64 val_main_v61)

theorem dq_entry (x : Fin 64) : (result m c (ix3 h t ⟨x.val, by omega⟩) * eighth : EReal) =
    val_main_v64 (m (c, Proc.devRef .tc KernelIdeal.main_arg0)) (m (c, Proc.devRef .tc KernelIdeal.main_arg1))
      (m (c, Proc.devRef .tc KernelIdeal.main_arg2)) (m (c, Proc.devRef .tc KernelIdeal.main_arg3)) (m (c, Proc.devRef .tc KernelIdeal.main_arg4)) (ix3 h t x) := by
  obtain ⟨T, hT⟩ := Attn.top_real (1 / 8) (q h) (k h) (f h) t
  have eq : ReferenceIdeal.Dq.a3 (m (c, Proc.devRef .tc KernelIdeal.main_arg0)) h = fun t x => (q h t x : EReal) := R.hq h
  have ek : ReferenceIdeal.Dq.a3 (m (c, Proc.devRef .tc KernelIdeal.main_arg1)) h = fun t x => (k h t x : EReal) := R.hk h
  have ev : ReferenceIdeal.Dq.a3 (m (c, Proc.devRef .tc KernelIdeal.main_arg2)) h = fun t x => (v h t x : EReal) := R.hv h
  have eo : ReferenceIdeal.Dq.a3 (m (c, Proc.devRef .tc KernelIdeal.main_arg4)) h = fun t x => (o h t x : EReal) := R.ho h
  have ef : ReferenceIdeal.Dq.a2 (m (c, Proc.devRef .tc KernelIdeal.main_arg3)) h = fun t => (f h t : EReal) := R.hf h
  rw [ReferenceIdeal.Dq.dq_at, eq, ek, ev, eo, ef, result_data R]
  simp only [Attn.ofBits_eighth, eighth, ReferenceIdeal.Dq.eighth, Attn.ds_real _ _ _ _ _ _ _ _ T hT, Attn.ds'_real _ _ _ _ _ _ _ _ T hT, ← EReal.coe_mul, ← Attn.coe_sum, Finset.sum_mul]
  congr 1
  exact Finset.sum_congr rfl fun s _ => by ring

theorem df_entry : (result m c (ix3 h t ⟨64, by decide⟩) : EReal) =
    val_main_v61 (m (c, Proc.devRef .tc KernelIdeal.main_arg0)) (m (c, Proc.devRef .tc KernelIdeal.main_arg1))
      (m (c, Proc.devRef .tc KernelIdeal.main_arg2)) (m (c, Proc.devRef .tc KernelIdeal.main_arg3)) (m (c, Proc.devRef .tc KernelIdeal.main_arg4)) (ix2 h t) := by
  obtain ⟨T, hT⟩ := Attn.top_real (1 / 8) (q h) (k h) (f h) t
  have eq : ReferenceIdeal.Dq.a3 (m (c, Proc.devRef .tc KernelIdeal.main_arg0)) h = fun t x => (q h t x : EReal) := R.hq h
  have ek : ReferenceIdeal.Dq.a3 (m (c, Proc.devRef .tc KernelIdeal.main_arg1)) h = fun t x => (k h t x : EReal) := R.hk h
  have ev : ReferenceIdeal.Dq.a3 (m (c, Proc.devRef .tc KernelIdeal.main_arg2)) h = fun t x => (v h t x : EReal) := R.hv h
  have eo : ReferenceIdeal.Dq.a3 (m (c, Proc.devRef .tc KernelIdeal.main_arg4)) h = fun t x => (o h t x : EReal) := R.ho h
  have ef : ReferenceIdeal.Dq.a2 (m (c, Proc.devRef .tc KernelIdeal.main_arg3)) h = fun t => (f h t : EReal) := R.hf h
  rw [ReferenceIdeal.Dq.df_at, eq, ek, ev, eo, ef, result_scalar R]
  simp only [Attn.ofBits_eighth, eighth, ReferenceIdeal.Dq.eighth, Attn.ds_real _ _ _ _ _ _ _ _ T hT, Attn.ds'_real _ _ _ _ _ _ _ _ T hT]

/-- The gradient of the queries, -/
theorem dq_ref : dq m c = val_main_v64 (m (c, Proc.devRef .tc KernelIdeal.main_arg0)) (m (c, Proc.devRef .tc KernelIdeal.main_arg1))
    (m (c, Proc.devRef .tc KernelIdeal.main_arg2)) (m (c, Proc.devRef .tc KernelIdeal.main_arg3)) (m (c, Proc.devRef .tc KernelIdeal.main_arg4)) := by
  refine funext fun (y : KernelIdeal.S16x8192x64.Idx) => ?_
  rw [ValueIdx.eq_ix3 y]
  exact dq_entry R _ _ _

/-- and that of the forgetting term on the query's side. -/
theorem df_ref : df m c = val_main_v61 (m (c, Proc.devRef .tc KernelIdeal.main_arg0)) (m (c, Proc.devRef .tc KernelIdeal.main_arg1))
    (m (c, Proc.devRef .tc KernelIdeal.main_arg2)) (m (c, Proc.devRef .tc KernelIdeal.main_arg3)) (m (c, Proc.devRef .tc KernelIdeal.main_arg4)) := by
  refine funext fun (y : KernelIdeal.S16x8192.Idx) => ?_
  rw [ValueIdx.eq_ix2 y]
  exact df_entry R _ _

end Cert.Equation
-- ==== Proof.KernelKVIdeal.Chk.lean ====
/- The bounds of the sweep over query blocks: each head's count of live blocks lies between 0 and the number
   of query blocks after the key block, so the sweep over the larger count stays inside the arrays. -/
module

public import proofs.«01_k».proof.Proof.Gen.KernelKVIdeal.Frame
public import proofs.«01_k».proof.Proof.Gen.KernelKVIdeal.Loops
public import proofs.«01_k».proof.Proof.KernelIdeal.Chk

@[expose] public section

namespace Cert.KernelKVIdeal.Dkv

open Idealize.ShloMosaic Idealize.SL.Sem Cert.KernelKVIdeal.Gen
open Cert.KernelIdeal.Dq (Upto)

/-- The larger of two such words. -/
theorem upto_max {v w : BitVec 32} {n : ℕ} (hv : Upto v n) (hw : Upto w n) : Upto (Scalar.maxsi v w) n := by
  unfold Scalar.maxsi IntOp.maxsi
  split
  · exact hv
  · exact hw

/-- Where each count is at most the number of query blocks after the key block, the sweep stays inside the arrays. -/
theorem chk {i : grid0.Coords} {v174 v189 : BitVec 32} (h174 : Upto v174 (15 - (i 1).val)) (h189 : Upto v189 (15 - (i 1).val)) :
    k0_chk1 i v174 v189 := by
  obtain ⟨e, h_v190, hle⟩ := upto_max h174 h189
  have r_i1 : (i 1).val < 16 := (i 1).isLt
  have h_arg1 : Affine.IsInt (BitVec.ofNat 32 (i 1).val) (((i 1).val : Int)) := Affine.ofNat _ (by omega)
  have h_one : Affine.IsInt 1#32 (1) := Affine.ofNat _ (by omega)
  have h_zero : Affine.IsInt 0#32 (0) := Affine.ofNat _ (by omega)
  have h_512 : Affine.IsInt 512#32 (512) := Affine.ofNat _ (by omega)
  have h_v159 : Affine.IsInt _ (((i 1).val : Int) + 1) := Affine.addi h_arg1 h_one (by omega)
  have h_v191 : Affine.IsInt _ (((i 1).val : Int) + 1 + e) := Affine.addi h_v159 h_v190 (by omega)
  have h_v192 : Affine.IsInt _ ((e : Int)) := Affine.subi h_v191 h_v159 (by omega)
  have h_v194 : Affine.IsInt _ ((e : Int)) := Affine.divsi h_v192 h_one (by omega)
  have h_v195 : Affine.IsInt _ ((e : Int)) := Affine.muli h_v194 h_one (by omega)
  have h_v196 : Affine.IsInt _ (((i 1).val : Int) + 1 + e) := Affine.addi h_v159 h_v195 (by omega)
  have h_v193 : Affine.IsInt _ (((i 1).val : Int) + 1 + e) := Affine.addi h_v159 h_v192 (by omega)
  have ok5 : (k0_t5_loop i v174 v189).OK := Affine.ok h_v159 h_v196 h_one (by omega)
  have tr5 : (k0_t5_loop i v174 v189).trips ≤ e := Affine.trips_le h_v159 h_v196 h_one _ (by omega)
  have ok6 : (k0_t6_loop i v174 v189).OK := Affine.ok h_v196 h_v193 h_one (by omega)
  have tr6 : (k0_t6_loop i v174 v189).trips ≤ 0 := Affine.trips_le h_v196 h_v193 h_one _ (by omega)
  have none6 : Fin (k0_t6_loop i v174 v189).trips → False := fun k => by have := k.isLt; omega
  have h_iv (k : Fin (k0_t5_loop i v174 v189).trips) : Affine.IsInt _ (((i 1).val : Int) + 1 + k.val) :=
    Affine.iv h_v159 h_one k.val (by have := k.isLt; omega)
  have h_row (k : Fin (k0_t5_loop i v174 v189).trips) : Affine.IsInt _ ((((i 1).val : Int) + 1 + k.val) * 512) :=
    Affine.muli (h_iv k) h_512 (by have := k.isLt; omega)
  have h_at (k : Fin (k0_t5_loop i v174 v189).trips) : Affine.IsInt _ ((((i 1).val : Int) + 1 + k.val) * 512) :=
    Affine.addi (h_row k) h_zero (by have := k.isLt; omega)
  have lt (k : Fin (k0_t5_loop i v174 v189).trips) : ((i 1).val : Int) + 1 + k.val < 16 := by have := k.isLt; omega
  refine ⟨ok5, fun k => ?_, fun k => ?_, fun k => ?_, fun k => ?_, fun k => ?_, ok6, fun k => (none6 k).elim, fun k => (none6 k).elim, fun k => (none6 k).elim,
    fun k => (none6 k).elim, fun k => (none6 k).elim⟩
  · exact Affine.dvd_of (h_row k) 512 (by constructor <;> omega)
  · exact Affine.dvd_of (h_at k) 256 (by constructor <;> omega)
  · refine Affine.inb_cons (x := 0#32) h_zero (by decide) <| Affine.inb_cons (h_at k) ?_ <| Affine.inb_cons (x := 0#32) h_zero (by decide) <| Affine.inb_nil
    have := lt k; constructor <;> omega
  · exact Affine.dvd_of (h_at k) 256 (by constructor <;> omega)
  · refine Affine.inb_cons (x := 1#32) h_one (by decide) <| Affine.inb_cons (h_at k) ?_ <| Affine.inb_cons (x := 0#32) h_zero (by decide) <| Affine.inb_nil
    have := lt k; constructor <;> omega

end Cert.KernelKVIdeal.Dkv
-- ==== Proof.KernelKVIdeal.Count.lean ====
/- What the four counting loops carry out: after `k` trips a number from 0 to `k`, whatever the tables
   hold, so the count is at most the number of query blocks after the key block. -/
module

public import proofs.«01_k».proof.Proof.KernelKVIdeal.Chk
public import proofs.«01_k».proof.Proof.KernelIdeal.Count

@[expose] public section

noncomputable section

namespace Cert.KernelKVIdeal.Dkv

open Idealize.ShloMosaic Idealize.ShloMosaic.TcCoe Idealize.ShloMosaic.Tactic
open Idealize.SL.Sem Cert.KernelKVIdeal.Gen
open Cert.KernelIdeal.Dq (Upto upto_of_steps)

variable {F : FTy → Type} [FloatOps F] [Named F]
variable (𝒱 : Variants) (c : Dev nD) (bd : Option 𝒱.V) (i : grid0.Coords)
  (arg2 : Memref sig .tc .smem S16 .f32) (harg2 : arg2.IsWhole) (arg3 : Memref sig .tc .smem S16x16 .f32) (harg3 : arg3.IsWhole)
  (arg4 : Memref sig .tc .smem S16x16 .f32) (harg4 : arg4.IsWhole) (arg5 : Memref sig .tc .vmem S2x8192x128 .bf16) (harg5 : arg5.IsWhole)
  (arg6 : Memref sig .tc .vmem S2x512x128 .bf16) (harg6 : arg6.IsWhole) (arg7 : Memref sig .tc .vmem S2x8192x128 .bf16) (harg7 : arg7.IsWhole)
  (arg8 : Memref sig .tc .vmem S2x512x128 .bf16) (harg8 : arg8.IsWhole) (arg9 : Memref sig .tc .vmem S2x512x128 .f32) (harg9 : arg9.IsWhole)
  (arg10 : Memref sig .tc .vmem S2x512x128 .f32) (harg10 : arg10.IsWhole) (arg11 : Memref sig .tc .vmem S2x512x128 .f32) (harg11 : arg11.IsWhole)
  (arg12 : Memref sig .tc .vmem S2x512x128 .f32) (harg12 : arg12.IsWhole)

/-- Trips that each add a bit to the count, `n` of them from a count of at most `a`. -/
theorem upto_of_steps' {st : ℕ → BitVec 32} {a : ℕ} (n : ℕ) (h0 : Upto (st 0) a) (ha : a + n < 1000)
    (hs : ∀ k, k < n → ∃ b, st (k + 1) = Scalar.addi (st k) (Scalar.select b 0#32 1#32)) : Upto (st n) (a + n) :=
  upto_of_steps n h0 ha fun k hk => by
    obtain ⟨b, hb⟩ := hs k hk
    refine ⟨~~~b, hb.trans ?_⟩
    rw [(by decide : ∀ b : BitVec 1, Scalar.select b 0#32 1#32 = Scalar.select (~~~b) 1#32 0#32) b]

/-- The counting loops make at most as many trips as there are query blocks after the key block, -/
theorem trips1_le : (k0_t1_loop i).trips ≤ 15 - (i 1).val := by
  have r_i1 : (i 1).val < 16 := (i 1).isLt
  have h_one : Affine.IsInt 1#32 (1) := Affine.ofNat _ (by omega)
  have h_16 : Affine.IsInt 16#32 (16) := Affine.ofNat _ (by omega)
  have h_arg1 : Affine.IsInt (BitVec.ofNat 32 (i 1).val) (((i 1).val : Int)) := Affine.ofNat _ (by omega)
  have h_v167 : Affine.IsInt _ (((i 1).val : Int) + 1) := Affine.addi h_arg1 h_one (by omega)
  have h_v168 : Affine.IsInt _ (15 - ((i 1).val : Int)) := Affine.subi h_16 h_v167 (by omega)
  have h_v170 : Affine.IsInt _ (15 - ((i 1).val : Int)) := Affine.divsi h_v168 h_one (by omega)
  have h_v171 : Affine.IsInt _ (15 - ((i 1).val : Int)) := Affine.muli h_v170 h_one (by omega)
  have h_v172 : Affine.IsInt _ (16) := Affine.addi h_v167 h_v171 (by omega)
  exact Affine.trips_le h_v167 h_v172 h_one _ (by omega)

/-- and their remainder loops none. -/
theorem trips2 : (k0_t2_loop i).trips = 0 := Nat.le_zero.mp (k0_t2_abs i).2.1
theorem trips4 : (k0_t4_loop i).trips = 0 := Nat.le_zero.mp (k0_t4_abs i).2.1

/-- A trip of the first head's counting loop adds a bit to the count. -/
theorem count1 (arg1 v0 v159 v160 : BitVec 32) (v162 v165 : Elt F .f32) (X_arg3 : BufTy.Contents (Elt F) arg3.view.ty) (init : BitVec 32) (k : Fin (k0_t1_loop i).trips) :
    ∃ b, st_k0_t1 (F := F) 𝒱 c bd i arg2 harg2 arg3 harg3 arg4 harg4 arg5 harg5 arg6 harg6 arg7 harg7 arg8 harg8 arg9 harg9 arg10 harg10 arg11 harg11 arg12 harg12 arg1 v0 v159 v160 v162 v165 X_arg3 init (k.val + 1)
      = Scalar.addi (st_k0_t1 (F := F) 𝒱 c bd i arg2 harg2 arg3 harg3 arg4 harg4 arg5 harg5 arg6 harg6 arg7 harg7 arg8 harg8 arg9 harg9 arg10 harg10 arg11 harg11 arg12 harg12 arg1 v0 v159 v160 v162 v165 X_arg3 init k.val) (Scalar.select b 0#32 1#32) := by
  rw [st_k0_t1_succ]; unfold tripR_k0_t1 trip_k0_t1; dsimp only; sl_unfold_words
  exact ⟨_, rfl⟩

/-- A trip of the second head's counting loop adds a bit to the count. -/
theorem count3 (arg1 v0 v159 v160 : BitVec 32) (v162 v177 v180 : Elt F .f32) (X_arg3 : BufTy.Contents (Elt F) arg3.view.ty) (init : BitVec 32) (k : Fin (k0_t3_loop i).trips) :
    ∃ b, st_k0_t3 (F := F) 𝒱 c bd i arg2 harg2 arg3 harg3 arg4 harg4 arg5 harg5 arg6 harg6 arg7 harg7 arg8 harg8 arg9 harg9 arg10 harg10 arg11 harg11 arg12 harg12 arg1 v0 v159 v160 v162 v177 v180 X_arg3 init (k.val + 1)
      = Scalar.addi (st_k0_t3 (F := F) 𝒱 c bd i arg2 harg2 arg3 harg3 arg4 harg4 arg5 harg5 arg6 harg6 arg7 harg7 arg8 harg8 arg9 harg9 arg10 harg10 arg11 harg11 arg12 harg12 arg1 v0 v159 v160 v162 v177 v180 X_arg3 init k.val) (Scalar.select b 0#32 1#32) := by
  rw [st_k0_t3_succ]; unfold tripR_k0_t3 trip_k0_t3; dsimp only; sl_unfold_words
  exact ⟨_, rfl⟩

/-- The first head's count of live blocks is at most the number of query blocks after the key block. -/
theorem upto174 (arg1 v0 v159 v160 : BitVec 32) (v162 v165 : Elt F .f32) (X_arg3 : BufTy.Contents (Elt F) arg3.view.ty)  : Upto (st_k0_t2 (F := F) 𝒱 c bd i arg2 harg2 arg3 harg3 arg4 harg4 arg5 harg5 arg6 harg6 arg7 harg7 arg8 harg8 arg9 harg9 arg10 harg10 arg11 harg11 arg12 harg12 arg1 v0 v159 v160 v162 v165 X_arg3 (st_k0_t1 (F := F) 𝒱 c bd i arg2 harg2 arg3 harg3 arg4 harg4 arg5 harg5 arg6 harg6 arg7 harg7 arg8 harg8 arg9 harg9 arg10 harg10 arg11 harg11 arg12 harg12 arg1 v0 v159 v160 v162 v165 X_arg3 0#32 (k0_t1_loop i).trips) (k0_t2_loop i).trips) (15 - (i 1).val) := by
  rw [trips2, st_k0_t2_zero]
  have h : (k0_t1_loop i).trips ≤ 15 - (i 1).val := trips1_le i
  have r_i1 : (i 1).val < 16 := (i 1).isLt
  exact (upto_of_steps' (st := st_k0_t1 (F := F) 𝒱 c bd i arg2 harg2 arg3 harg3 arg4 harg4 arg5 harg5 arg6 harg6 arg7 harg7 arg8 harg8 arg9 harg9 arg10 harg10 arg11 harg11 arg12 harg12 arg1 v0 v159 v160 v162 v165 X_arg3 0#32) (a := 0) (k0_t1_loop i).trips (Upto.zero 0) (by omega) fun k hk => count1 𝒱 c bd i arg2 harg2 arg3 harg3 arg4 harg4 arg5 harg5 arg6 harg6 arg7 harg7 arg8 harg8 arg9 harg9 arg10 harg10 arg11 harg11 arg12 harg12 arg1 v0 v159 v160 v162 v165 X_arg3 0#32 ⟨k, hk⟩).mono (by omega)

/-- The second head's count of live blocks is at most the number of query blocks after the key block. -/
theorem upto189 (arg1 v0 v159 v160 : BitVec 32) (v162 v177 v180 : Elt F .f32) (X_arg3 : BufTy.Contents (Elt F) arg3.view.ty)  : Upto (st_k0_t4 (F := F) 𝒱 c bd i arg2 harg2 arg3 harg3 arg4 harg4 arg5 harg5 arg6 harg6 arg7 harg7 arg8 harg8 arg9 harg9 arg10 harg10 arg11 harg11 arg12 harg12 arg1 v0 v159 v160 v162 v177 v180 X_arg3 (st_k0_t3 (F := F) 𝒱 c bd i arg2 harg2 arg3 harg3 arg4 harg4 arg5 harg5 arg6 harg6 arg7 harg7 arg8 harg8 arg9 harg9 arg10 harg10 arg11 harg11 arg12 harg12 arg1 v0 v159 v160 v162 v177 v180 X_arg3 0#32 (k0_t3_loop i).trips) (k0_t4_loop i).trips) (15 - (i 1).val) := by
  rw [trips4, st_k0_t4_zero]
  have h : (k0_t3_loop i).trips ≤ 15 - (i 1).val := trips1_le i
  have r_i1 : (i 1).val < 16 := (i 1).isLt
  exact (upto_of_steps' (st := st_k0_t3 (F := F) 𝒱 c bd i arg2 harg2 arg3 harg3 arg4 harg4 arg5 harg5 arg6 harg6 arg7 harg7 arg8 harg8 arg9 harg9 arg10 harg10 arg11 harg11 arg12 harg12 arg1 v0 v159 v160 v162 v177 v180 X_arg3 0#32) (a := 0) (k0_t3_loop i).trips (Upto.zero 0) (by omega) fun k hk => count3 𝒱 c bd i arg2 harg2 arg3 harg3 arg4 harg4 arg5 harg5 arg6 harg6 arg7 harg7 arg8 harg8 arg9 harg9 arg10 harg10 arg11 harg11 arg12 harg12 arg1 v0 v159 v160 v162 v177 v180 X_arg3 0#32 ⟨k, hk⟩).mono (by omega)

end Cert.KernelKVIdeal.Dkv
-- ==== Proof.KernelKVIdeal.Run.lean ====
/- The whole body of the key-and-value-gradient kernel run once, at any grid point, on any staging memrefs: the
   pieces it writes into its two output blocks are what the run finds. The side condition the body assumes of the
   sweep is the bound on the two counts. -/
module

public import proofs.«01_k».proof.Proof.KernelKVIdeal.Count
public import proofs.«01_k».proof.Proof.Gen.KernelKVIdeal.Skeleton
public import proofs.«01_k».proof.Proof.Gen.KernelKVIdeal.Points

@[expose] public section

set_option maxRecDepth 16384

noncomputable section

namespace Cert.KernelKVIdeal.Dkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelKVIdeal.Gen

variable {F : FTy → Type} [FloatOps F] [Named F]

local notation "𝕄" => MT nD τ sig Unit (Elt F) ℕ (UR sig nD τ) ℕ

/-- The view of each output block's staging buffer that its contents are read through. -/
abbrev dkView : View sig .tc .vmem S2x512x128 .f32 := (Memref.whole cc0_stg7_0 : Memref sig .tc .vmem S2x512x128 .f32).view
abbrev dvView : View sig .tc .vmem S2x512x128 .f32 := (Memref.whole cc0_stg8_0 : Memref sig .tc .vmem S2x512x128 .f32).view

/-- The staging memref of each window at point `t`, and that it is a whole buffer. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S16x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x8192x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x8192x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x512x128 .f32 := win0_8.stage (cfg0.slots t 8)
abbrev hs0_8 (t : Fin cfg0.N) : (ms0_8 t).IsWhole := hstage0_8 ((cfg0.slots t 8).cast nbuf0_8)

/-- The two accumulators of the kernel's own. -/
abbrev dkM : Memref sig .tc .vmem S2x512x128 .f32 := Memref.whole cc0_scratch0
abbrev dvM : Memref sig .tc .vmem S2x512x128 .f32 := Memref.whole cc0_scratch1

/-- What the body is handed beside its windows: the accumulators at some contents, and the generator register. -/
theorem phi_eq (c : Dev nD) :
    (Pipeline.ΦA spec0 c : sProp 𝕄)
      = iprop(iprop((∃ d, owns (c : Thread nD τ) dkM fullShare d) ∗ (∃ d, owns (c : Thread nD τ) dvM fullShare d)) ∗ (∃ r, prngReg c r)) := by
  unfold Pipeline.ΦA; rw [scopedRest0_eq]; simp only [dkM, dvM, owns_whole]; try rfl

set_option maxHeartbeats 2000000 in
/-- The body on whole memrefs, its inputs at `x0 … x6`, the output blocks and the accumulators at anything, runs to its
    end with the inputs as they were and each output block overwritten by the pieces given. -/
def bodyRun (c : Dev nD) (i : grid0.Coords) (arg2 : Memref sig .tc .smem S16 .f32) (harg2 : arg2.IsWhole) (arg3 : Memref sig .tc .smem S16x16 .f32) (harg3 : arg3.IsWhole) (arg4 : Memref sig .tc .smem S16x16 .f32) (harg4 : arg4.IsWhole) (arg5 : Memref sig .tc .vmem S2x8192x128 .bf16) (harg5 : arg5.IsWhole) (arg6 : Memref sig .tc .vmem S2x512x128 .bf16) (harg6 : arg6.IsWhole) (arg7 : Memref sig .tc .vmem S2x8192x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x128 .f32) (harg11 : arg11.IsWhole) (arg12 : Memref sig .tc .vmem S2x512x128 .f32) (harg12 : arg12.IsWhole)
    (x0 : Vec F S16 .f32) (x1 : Vec F S16x16 .f32) (x2 : Vec F S16x16 .f32) (x3 : Vec F S2x8192x128 .bf16) (x4 : Vec F S2x512x128 .bf16) (x5 : Vec F S2x8192x128 .bf16) (x6 : Vec F S2x512x128 .bf16) :
    { L : List (View.Piece (Elt F) S2x512x128 .f32) × List (View.Piece (Elt F) S2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L.1) ∗ (∃ f, arg10.view.loc (c : Thread nD τ) ↦[arg10.view.set]{fullShare} arg10.view.writes (Elt F) f L.2) ∗ (∃ d, owns (c : Thread nD τ) arg11 fullShare d) ∗ (∃ d, owns (c : Thread nD τ) arg12 fullShare d)) -∗ K ⟨⟩))
          ⊢ wp frame (wpE (defs₀ (F := F)) Variants.none c none) E (cc0_flash_dkv i arg2 harg2 arg3 harg3 arg4 harg4 arg5 harg5 arg6 harg6 arg7 harg7 arg8 harg8 arg9 harg9 arg10 harg10 arg11 harg11 arg12 harg12) K } := by
  refine ⟨⟨?_, ?_⟩, fun E K => ?run⟩
  case run =>
    simp only [cc0_flash_dkv_eq_skeleton]; unfold cc0_flash_dkv_skel
    simp only [k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := exact chk (upto174 ..) (upto189 ..))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]
    · iexists _, _; isplitr; swap; · iexact HS0
      ipureintro; rfl
    iexists _, _; isplitr; swap; · iexact HS1
    ipureintro; rfl

end Cert.KernelKVIdeal.Dkv
-- ==== Proof.KernelKVIdeal.Frame.lean ====
/- The frame of the key-and-value-gradient program: every point leaves its input blocks as they were and its output
   blocks as the run leaves them, so the program runs to its end with its arguments as they were and every
   semaphore counter at zero. -/
module

public import proofs.«01_k».proof.Proof.KernelKVIdeal.Run
public import Idealize.ShloMosaic.Lib.Claim

@[expose] public section

noncomputable section

namespace Cert.KernelKVIdeal.Dkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelKVIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section run

variable (c : Dev nD) (i : grid0.Coords) (arg2 : Memref sig .tc .smem S16 .f32) (harg2 : arg2.IsWhole)
  (arg3 : Memref sig .tc .smem S16x16 .f32) (harg3 : arg3.IsWhole) (arg4 : Memref sig .tc .smem S16x16 .f32) (harg4 : arg4.IsWhole)
  (arg5 : Memref sig .tc .vmem S2x8192x128 .bf16) (harg5 : arg5.IsWhole)
  (arg6 : Memref sig .tc .vmem S2x512x128 .bf16) (harg6 : arg6.IsWhole)
  (arg7 : Memref sig .tc .vmem S2x8192x128 .bf16) (harg7 : arg7.IsWhole)
  (arg8 : Memref sig .tc .vmem S2x512x128 .bf16) (harg8 : arg8.IsWhole)
  (arg9 : Memref sig .tc .vmem S2x512x128 .f32) (harg9 : arg9.IsWhole)
  (arg10 : Memref sig .tc .vmem S2x512x128 .f32) (harg10 : arg10.IsWhole)
  (arg11 : Memref sig .tc .vmem S2x512x128 .f32) (harg11 : arg11.IsWhole)
  (arg12 : Memref sig .tc .vmem S2x512x128 .f32) (harg12 : arg12.IsWhole)
  (x0 : Vec F S16 .f32) (x1 x2 : Vec F S16x16 .f32) (x3 : Vec F S2x8192x128 .bf16) (x4 : Vec F S2x512x128 .bf16) (x5 : Vec F S2x8192x128 .bf16) (x6 : Vec F S2x512x128 .bf16)

/-- The pieces the run writes cover each output block. -/
theorem dkCover (y : S2x512x128.Idx) :
    ∃ pc ∈ (bodyRun c i arg2 harg2 arg3 harg3 arg4 harg4 arg5 harg5 arg6 harg6 arg7 harg7 arg8 harg8 arg9 harg9 arg10 harg10 arg11 harg11 arg12 harg12 x0 x1 x2 x3 x4 x5 x6).1.1, y ∈ pc.1.set :=
  View.cover_of_tiledL _ S2x512x128.size (by sl_kernel_rfl) y

theorem dvCover (y : S2x512x128.Idx) :
    ∃ pc ∈ (bodyRun c i arg2 harg2 arg3 harg3 arg4 harg4 arg5 harg5 arg6 harg6 arg7 harg7 arg8 harg8 arg9 harg9 arg10 harg10 arg11 harg11 arg12 harg12 x0 x1 x2 x3 x4 x5 x6).1.2, y ∈ pc.1.set :=
  View.cover_of_tiledL _ S2x512x128.size (by sl_kernel_rfl) y

/-- Each output block as the run leaves it, as a function of the point and the input blocks. -/
def dkBlock : Vec F S2x512x128 .f32 :=
  dkView.read (Elt F) (dkView.writes (Elt F) dkView.junk (bodyRun c i arg2 harg2 arg3 harg3 arg4 harg4 arg5 harg5 arg6 harg6 arg7 harg7 arg8 harg8 arg9 harg9 arg10 harg10 arg11 harg11 arg12 harg12 x0 x1 x2 x3 x4 x5 x6).1.1)

def dvBlock : Vec F S2x512x128 .f32 :=
  dvView.read (Elt F) (dvView.writes (Elt F) dvView.junk (bodyRun c i arg2 harg2 arg3 harg3 arg4 harg4 arg5 harg5 arg6 harg6 arg7 harg7 arg8 harg8 arg9 harg9 arg10 harg10 arg11 harg11 arg12 harg12 x0 x1 x2 x3 x4 x5 x6).1.2)

end run

/-- Each output block after point `t`. -/
def dkAt (c : Dev nD) (t : Fin cfg0.N) : Vec F S2x512x128 .f32 :=
  dkBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) dkM (Memref.isWhole_whole _) dvM (Memref.isWhole_whole _) (iblk m c 0 t) (iblk m c 1 t) (iblk m c 2 t) (iblk m c 3 t) (iblk m c 4 t) (iblk m c 5 t) (iblk m c 6 t)

def dvAt (c : Dev nD) (t : Fin cfg0.N) : Vec F S2x512x128 .f32 :=
  dvBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) dkM (Memref.isWhole_whole _) dvM (Memref.isWhole_whole _) (iblk m c 0 t) (iblk m c 1 t) (iblk m c 2 t) (iblk m c 3 t) (iblk m c 4 t) (iblk m c 5 t) (iblk m c 6 t)

/-- The proof data of the pipeline on core `c`: the arrays as the region finds them, after point `t` each input block as fetched and the output blocks as the run leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dkAt m c t
    | ⟨8, _⟩ => dvAt m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dkAt m c t := by dsimp only [dats]
theorem after0_8 (c : Dev nD) (t : Fin cfg0.N) : (dats m 0 c).after 8 t = dvAt m c t := by dsimp only [dats]

/-- What each input window holds before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- The body at any point: the run applied to the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, phi_eq]
  unfold dkAt dvAt
  unfold dkBlock dvBlock
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, ⟨%e7, H7⟩, ⟨%e8, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (dkCover c _ _ _ _ _ _ _ _ _ _ _ _ _ _ _ _ _ _ _ _ _ _ _ _ _ _ _ _ _ _ )
  unfold owns; iexists _; isplitr
  swap; · iexact H8
  ipureintro; exact View.read_writes_of_cover _ _ _ _ _ (dvCover c _ _ _ _ _ _ _ _ _ _ _ _ _ _ _ _ _ _ _ _ _ _ _ _ _ _ _ _ _ _ )

/-- The body the pipeline calls at `t` is the kernel at `t`'s coordinates and staging memrefs. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to its end, its arrays end as the proof data say, and every counter ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  frame_of m ρ (dats m) (A_eq m) (run_main m ρ)

/-- The frame: the argument arrays end as they were and every counter ends at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (unchanged m ρ) ((θ_run defs _ _).mono (fun _ h => h.2) (run_main_quiescent m ρ))

end Cert.KernelKVIdeal.Dkv
-- ==== Proof.KernelKVIdeal.Pay.lean ====
/- What one step of the sweep over the queries adds, over the extended reals: at key row `r` and lane `l`, to the
   gradient of the values the sum over the queries of exp(logit) · gradient of the output, and to the gradient of the
   keys the sum of exp(logit) · (dp − δ) · query; on the diagonal block only over the queries at or after the row. -/
module

public import proofs.«01_k».proof.Proof.Types
public import proofs.«01_k».proof.Proof.Gen.KernelKVIdeal.Skeleton
public import Idealize.ShloMosaic.Lib.Pointwise

@[expose] public section

noncomputable section

namespace Cert.KernelKVIdeal.Dkv

open Idealize.ShloMosaic Idealize.SL.Sem Cert.KernelKVIdeal.Gen

/-- Choosing by a comparison of two positions below 512 is choosing by their order. -/
theorem select_sge {n m : ℕ} (hn : n ≤ 512) (hm : m ≤ 512) (j : Fin n) (r : Fin m) (x : EReal) :
    Scalar.select (α := EReal) (IntOp.cmpi .sge (BitVec.ofNat 32 j.val) (BitVec.ofNat 32 r.val)) x 0 = if r.val ≤ j.val then x else 0 := by
  have h : IntOp.cmpi .sge (BitVec.ofNat 32 j.val) (BitVec.ofNat 32 r.val) = if r.val ≤ j.val then 1#1 else 0#1 := by
    have hj : j.val < 512 := j.isLt.trans_le hn
    have hr : r.val < 512 := r.isLt.trans_le hm
    have e : ∀ n : ℕ, n < 512 → (BitVec.ofNat 32 n).toInt = n := fun n hn => by
      rw [BitVec.toInt_eq_toNat_of_lt (by simp; omega)]; simp; omega
    simp only [IntOp.cmpi, BitVec.sle, e _ hr, e _ hj]
    by_cases hh : r.val ≤ j.val <;> simp [hh]
  rw [h]
  by_cases hh : r.val ≤ j.val <;> simp [hh, Scalar.select]

/-- Factors of a term chosen by a condition may be chosen with it. -/
theorem ite_mul' (p : Prop) [Decidable p] (x y : EReal) : (if p then x else 0) * y = if p then x * y else 0 := by
  by_cases h : p <;> simp [h]

/-- The logits of queries and keys, exponentiated, and the products of the output's gradient with the values. -/
abbrev sq512 (x : BF16 S1x512x128) : FVec Ideal S512x128 .bf16 := shapeCast S512x128 x shapeCasts_S1x512x128_S512x128
abbrev sq256 (x : BF16 S1x256x128) : FVec Ideal S256x128 .bf16 := shapeCast S256x128 x shapeCasts_S1x256x128_S256x128

/-- Keys by queries, 512 by 512: products of rows, -/
abbrev rows512x512 (k q : BF16 S1x512x128) : FVec Ideal S512x512 .f32 :=
  matmul (φ₁ := .bf16) (φ₂ := .bf16) dot_S512x128_S512x128_S512x512_1_1_0_0_n_n none (sq512 k) (sq512 q) (constant S512x512 .f32 0x00000000#32)

/-- their exponentials, -/
abbrev exps512x512 (k q : BF16 S1x512x128) : FVec Ideal S512x512 .f32 :=
  exp (rows512x512 k q)

/-- and the product of weights with rows, added to an accumulator. -/
abbrev acc512x512 (a : F32 S1x512x128) (w : FVec Ideal S512x512 .f32) (x : BF16 S1x512x128) : FVec Ideal S1x512x128 .f32 :=
  shapeCast S1x512x128 (addf (shapeCast S512x128 a shapeCasts_S1x512x128_S512x128 : FVec Ideal S512x128 .f32)
    (matmul (φ₁ := .bf16) (φ₂ := .bf16) dot_S512x512_S512x128_S512x128_1_0_0_1_n_n none (truncf .bf16 w bitsLt_bf16_f32) (sq512 x) (constant S512x128 .f32 0x00000000#32))) shapeCasts_S512x128_S1x512x128

section

variable (r : Fin 512) (l : Fin 128) {q o : BF16 S1x512x128} {k v : BF16 S1x512x128} {a : F32 S1x512x128}
  (Q O : Fin 512 → Fin 128 → EReal) (K V : Fin 128 → EReal) {A : EReal}
  (hq : ∀ j l, q (ix3 0 j l) = Q j l) (ho : ∀ j l, o (ix3 0 j l) = O j l) (hk : ∀ l, k (ix3 0 r l) = K l) (hv : ∀ l, v (ix3 0 r l) = V l) (ha : a (ix3 0 r l) = A)

include hq ho hk ha

/-- A step of the values' gradient, -/
theorem dv512x512 : acc512x512 a (exps512x512 k q) o (ix3 0 r l) = A + ∑ j : Fin 512, Ideal.exp (∑ l', K l' * Q j l') * O j l := by
  pointwise [acc512x512, exps512x512, rows512x512, sq256, sq512]
  simp only [hq, ho, hk, ha]

include hv

/-- and of the keys'. -/
theorem dk512x512 : acc512x512 a (mulf (exps512x512 k q) (rows512x512 v o)) q (ix3 0 r l) = A + ∑ j : Fin 512, Ideal.exp (∑ l', K l' * Q j l') * (∑ l', V l' * O j l') * Q j l := by
  pointwise [acc512x512, exps512x512, rows512x512, sq256, sq512]
  simp only [hq, ho, hk, hv, ha]

end

/-- Keys by queries, 256 by 512: products of rows, -/
abbrev rows256x512 (k : BF16 S1x256x128) (q : BF16 S1x512x128) : FVec Ideal S256x512 .f32 :=
  matmul (φ₁ := .bf16) (φ₂ := .bf16) dot_S256x128_S512x128_S256x512_1_1_0_0_n_n none (sq256 k) (sq512 q) (constant S256x512 .f32 0x00000000#32)

/-- their exponentials, nothing for the queries before the key, -/
abbrev exps256x512 (k : BF16 S1x256x128) (q : BF16 S1x512x128) : FVec Ideal S256x512 .f32 :=
  select (cmpi .sge (iota .tc S256x512 32 [1] iota_S256x512_d1_w32) (iota .tc S256x512 32 [0] iota_S256x512_d0_w32)) (exp (rows256x512 k q)) (broadcast S256x512 (Scalar.ofBits .f32 0x00000000#32))

/-- and the product of weights with rows, added to an accumulator. -/
abbrev acc256x512 (a : F32 S1x256x128) (w : FVec Ideal S256x512 .f32) (x : BF16 S1x512x128) : FVec Ideal S1x256x128 .f32 :=
  shapeCast S1x256x128 (addf (shapeCast S256x128 a shapeCasts_S1x256x128_S256x128 : FVec Ideal S256x128 .f32)
    (matmul (φ₁ := .bf16) (φ₂ := .bf16) dot_S256x512_S512x128_S256x128_1_0_0_1_n_n none (truncf .bf16 w bitsLt_bf16_f32) (sq512 x) (constant S256x128 .f32 0x00000000#32))) shapeCasts_S256x128_S1x256x128

section

variable (r : Fin 256) (l : Fin 128) {q o : BF16 S1x512x128} {k v : BF16 S1x256x128} {a : F32 S1x256x128}
  (Q O : Fin 512 → Fin 128 → EReal) (K V : Fin 128 → EReal) {A : EReal}
  (hq : ∀ j l, q (ix3 0 j l) = Q j l) (ho : ∀ j l, o (ix3 0 j l) = O j l) (hk : ∀ l, k (ix3 0 r l) = K l) (hv : ∀ l, v (ix3 0 r l) = V l) (ha : a (ix3 0 r l) = A)

include hq ho hk ha

/-- A step of the values' gradient, -/
theorem dv256x512 : acc256x512 a (exps256x512 k q) o (ix3 0 r l) = A + ∑ j : Fin 512, if r.val ≤ j.val then Ideal.exp (∑ l', K l' * Q j l') * O j l else 0 := by
  pointwise [acc256x512, exps256x512, rows256x512, sq256, sq512]
  simp only [select_sge (by decide : 512 ≤ 512) (by decide : 256 ≤ 512), ite_mul']
  simp only [hq, ho, hk, ha]

include hv

/-- and of the keys'. -/
theorem dk256x512 : acc256x512 a (mulf (exps256x512 k q) (rows256x512 v o)) q (ix3 0 r l) = A + ∑ j : Fin 512, if r.val ≤ j.val then Ideal.exp (∑ l', K l' * Q j l') * (∑ l', V l' * O j l') * Q j l else 0 := by
  pointwise [acc256x512, exps256x512, rows256x512, sq256, sq512]
  simp only [select_sge (by decide : 512 ≤ 512) (by decide : 256 ≤ 512), ite_mul']
  simp only [hq, ho, hk, hv, ha]

end

/-- Keys by queries, 256 by 256: products of rows, -/
abbrev rows256x256 (k q : BF16 S1x256x128) : FVec Ideal S256x256 .f32 :=
  matmul (φ₁ := .bf16) (φ₂ := .bf16) dot_S256x128_S256x128_S256x256_1_1_0_0_n_n none (sq256 k) (sq256 q) (constant S256x256 .f32 0x00000000#32)

/-- their exponentials, nothing for the queries before the key, -/
abbrev exps256x256 (k q : BF16 S1x256x128) : FVec Ideal S256x256 .f32 :=
  select (cmpi .sge (iota .tc S256x256 32 [1] iota_S256x256_d1_w32) (iota .tc S256x256 32 [0] iota_S256x256_d0_w32)) (exp (rows256x256 k q)) (broadcast S256x256 (Scalar.ofBits .f32 0x00000000#32))

/-- and the product of weights with rows, added to an accumulator. -/
abbrev acc256x256 (a : F32 S1x256x128) (w : FVec Ideal S256x256 .f32) (x : BF16 S1x256x128) : FVec Ideal S1x256x128 .f32 :=
  shapeCast S1x256x128 (addf (shapeCast S256x128 a shapeCasts_S1x256x128_S256x128 : FVec Ideal S256x128 .f32)
    (matmul (φ₁ := .bf16) (φ₂ := .bf16) dot_S256x256_S256x128_S256x128_1_0_0_1_n_n none (truncf .bf16 w bitsLt_bf16_f32) (sq256 x) (constant S256x128 .f32 0x00000000#32))) shapeCasts_S256x128_S1x256x128

section

variable (r : Fin 256) (l : Fin 128) {q o : BF16 S1x256x128} {k v : BF16 S1x256x128} {a : F32 S1x256x128}
  (Q O : Fin 256 → Fin 128 → EReal) (K V : Fin 128 → EReal) {A : EReal}
  (hq : ∀ j l, q (ix3 0 j l) = Q j l) (ho : ∀ j l, o (ix3 0 j l) = O j l) (hk : ∀ l, k (ix3 0 r l) = K l) (hv : ∀ l, v (ix3 0 r l) = V l) (ha : a (ix3 0 r l) = A)

include hq ho hk ha

/-- A step of the values' gradient, -/
theorem dv256x256 : acc256x256 a (exps256x256 k q) o (ix3 0 r l) = A + ∑ j : Fin 256, if r.val ≤ j.val then Ideal.exp (∑ l', K l' * Q j l') * O j l else 0 := by
  pointwise [acc256x256, exps256x256, rows256x256, sq256, sq512]
  simp only [select_sge (by decide : 256 ≤ 512) (by decide : 256 ≤ 512), ite_mul']
  simp only [hq, ho, hk, ha]

include hv

/-- and of the keys'. -/
theorem dk256x256 : acc256x256 a (mulf (exps256x256 k q) (rows256x256 v o)) q (ix3 0 r l) = A + ∑ j : Fin 256, if r.val ≤ j.val then Ideal.exp (∑ l', K l' * Q j l') * (∑ l', V l' * O j l') * Q j l else 0 := by
  pointwise [acc256x256, exps256x256, rows256x256, sq256, sq512]
  simp only [select_sge (by decide : 256 ≤ 512) (by decide : 256 ≤ 512), ite_mul']
  simp only [hq, ho, hk, hv, ha]

end

/-- The accumulators begin at zero. -/
theorem pay23_apply (y : S2x512x128.Idx) : k0_pay23 (F := Ideal) y = 0 := by
  idx_vars y
  pointwise [k0_pay23]

theorem pay24_apply (y : S2x512x128.Idx) : k0_pay24 (F := Ideal) y = 0 := by
  idx_vars y
  pointwise [k0_pay24]

end Cert.KernelKVIdeal.Dkv
-- ==== Proof.KernelKVIdeal.Body.lean ====
/- What the sweep over the query blocks after a key block adds to the two accumulators: for each head, key and lane,
   the contributions of the queries of those blocks. Nothing is skipped. -/
module

public import proofs.«01_k».proof.Proof.Types
public import proofs.«01_k».proof.Proof.KernelKVIdeal.Frame
public import proofs.«01_k».proof.Proof.KernelKVIdeal.Pay
public import Idealize.ShloMosaic.Lib.WritesUnit
public import Idealize.ShloMosaic.Lib.VecWindow

@[expose] public section

noncomputable section

namespace Cert.KernelKVIdeal.Dkv

open Idealize.ShloMosaic Idealize.ShloMosaic.TcCoe Idealize.ShloMosaic.Tactic
open Cert.KernelKVIdeal.Gen

variable (𝒱 : Variants) (c : Dev nD) (bd : Option 𝒱.V) (i : grid0.Coords)
  (arg2 : Memref sig .tc .smem S16 .f32) (harg2 : arg2.IsWhole) (arg3 : Memref sig .tc .smem S16x16 .f32) (harg3 : arg3.IsWhole)
  (arg4 : Memref sig .tc .smem S16x16 .f32) (harg4 : arg4.IsWhole) (arg5 : Memref sig .tc .vmem S2x8192x128 .bf16) (harg5 : arg5.IsWhole)
  (arg6 : Memref sig .tc .vmem S2x512x128 .bf16) (harg6 : arg6.IsWhole) (arg7 : Memref sig .tc .vmem S2x8192x128 .bf16) (harg7 : arg7.IsWhole)
  (arg8 : Memref sig .tc .vmem S2x512x128 .bf16) (harg8 : arg8.IsWhole) (arg9 : Memref sig .tc .vmem S2x512x128 .f32) (harg9 : arg9.IsWhole)
  (arg10 : Memref sig .tc .vmem S2x512x128 .f32) (harg10 : arg10.IsWhole) (arg11 : Memref sig .tc .vmem S2x512x128 .f32) (harg11 : arg11.IsWhole)
  (arg12 : Memref sig .tc .vmem S2x512x128 .f32) (harg12 : arg12.IsWhole)

/-- A trip of a counting loop counts its block: no real lies below the threshold −∞. -/
theorem all1 (arg1 v0 v159 v160 : BitVec 32) (v162 v165 : Elt Ideal .f32) (X : BufTy.Contents (Elt Ideal) arg3.view.ty) (k : ℕ) (hk : k ≤ (k0_t1_loop i).trips) :
    st_k0_t1 𝒱 c bd i arg2 harg2 arg3 harg3 arg4 harg4 arg5 harg5 arg6 harg6 arg7 harg7 arg8 harg8 arg9 harg9 arg10 harg10 arg11 harg11 arg12 harg12 arg1 v0 v159 v160 v162 v165 X 0#32 k = BitVec.ofNat 32 k := by
  induction k with
  | zero => rfl
  | succ k ih =>
    have h := st_k0_t1_succ 𝒱 c bd i arg2 harg2 arg3 harg3 arg4 harg4 arg5 harg5 arg6 harg6 arg7 harg7 arg8 harg8 arg9 harg9 arg10 harg10 arg11 harg11 arg12 harg12 arg1 v0 v159 v160 v162 v165 X 0#32 ⟨k, hk⟩
    rw [h, ih (by omega)]
    unfold tripR_k0_t1 trip_k0_t1; dsimp only; sl_unfold_words
    have hb : ∀ x : EReal, Scalar.cmpf (F := Ideal) (φ := .f32) CmpFPredicate.olt x (Named.named κ "skip" 3268411392#32) = 0#1 := fun x => by
      show BitVec.ofBool (decide (x < ⊥)) = 0#1
      simp
    erw [hb]
    show BitVec.ofNat 32 k + 1#32 = BitVec.ofNat 32 (k + 1)
    rw [BitVec.ofNat_add]

/-- A trip of a counting loop counts its block: no real lies below the threshold −∞. -/
theorem all3 (arg1 v0 v159 v160 : BitVec 32) (v162 v177 v180 : Elt Ideal .f32) (X : BufTy.Contents (Elt Ideal) arg3.view.ty) (k : ℕ) (hk : k ≤ (k0_t3_loop i).trips) :
    st_k0_t3 (F := Ideal) 𝒱 c bd i arg2 harg2 arg3 harg3 arg4 harg4 arg5 harg5 arg6 harg6 arg7 harg7 arg8 harg8 arg9 harg9 arg10 harg10 arg11 harg11 arg12 harg12 arg1 v0 v159 v160 v162 v177 v180 X 0#32 k = BitVec.ofNat 32 k := by
  induction k with
  | zero => rfl
  | succ k ih =>
    have h := st_k0_t3_succ (F := Ideal) 𝒱 c bd i arg2 harg2 arg3 harg3 arg4 harg4 arg5 harg5 arg6 harg6 arg7 harg7 arg8 harg8 arg9 harg9 arg10 harg10 arg11 harg11 arg12 harg12 arg1 v0 v159 v160 v162 v177 v180 X 0#32 ⟨k, hk⟩
    rw [h, ih (by omega)]
    unfold tripR_k0_t3 trip_k0_t3; dsimp only; sl_unfold_words
    have hb : ∀ x : EReal, Scalar.cmpf (F := Ideal) (φ := .f32) CmpFPredicate.olt x (Named.named κ "skip" 3268411392#32) = 0#1 := fun x => by
      show BitVec.ofBool (decide (x < ⊥)) = 0#1
      simp
    erw [hb]
    show BitVec.ofNat 32 k + 1#32 = BitVec.ofNat 32 (k + 1)
    rw [BitVec.ofNat_add]

/-- The counting loops make as many trips as there are query blocks after the key block. -/
theorem trips1 : (k0_t1_loop i).trips = 15 - (i 1).val := by
  have r_i1 : (i 1).val < 16 := (i 1).isLt
  have h_one : Affine.IsInt 1#32 (1) := Affine.ofNat _ (by omega)
  have h_16 : Affine.IsInt 16#32 (16) := Affine.ofNat _ (by omega)
  have h_arg1 : Affine.IsInt (BitVec.ofNat 32 (i 1).val) (((i 1).val : Int)) := Affine.ofNat _ (by omega)
  have h_v167 : Affine.IsInt _ (((i 1).val : Int) + 1) := Affine.addi h_arg1 h_one (by omega)
  have h_v168 : Affine.IsInt _ (15 - ((i 1).val : Int)) := Affine.subi h_16 h_v167 (by omega)
  have h_v170 : Affine.IsInt _ (15 - ((i 1).val : Int)) := Affine.divsi h_v168 h_one (by omega)
  have h_v171 : Affine.IsInt _ (15 - ((i 1).val : Int)) := Affine.muli h_v170 h_one (by omega)
  have h_v172 : Affine.IsInt _ (16) := Affine.addi h_v167 h_v171 (by omega)
  exact Affine.trips_eq h_v167 h_v172 h_one _ (by omega)

/-- Every block of the first head counts. -/
theorem live174 (arg1 v0 v159 v160 : BitVec 32) (v162 v165 : Elt Ideal .f32) (X : BufTy.Contents (Elt Ideal) arg3.view.ty) :
    st_k0_t2 (F := Ideal) 𝒱 c bd i arg2 harg2 arg3 harg3 arg4 harg4 arg5 harg5 arg6 harg6 arg7 harg7 arg8 harg8 arg9 harg9 arg10 harg10 arg11 harg11 arg12 harg12 arg1 v0 v159 v160 v162 v165 X (st_k0_t1 (F := Ideal) 𝒱 c bd i arg2 harg2 arg3 harg3 arg4 harg4 arg5 harg5 arg6 harg6 arg7 harg7 arg8 harg8 arg9 harg9 arg10 harg10 arg11 harg11 arg12 harg12 arg1 v0 v159 v160 v162 v165 X 0#32 (k0_t1_loop i).trips) (k0_t2_loop i).trips = BitVec.ofNat 32 (15 - (i 1).val) := by
  rw [trips2, st_k0_t2_zero, all1 𝒱 c bd i arg2 harg2 arg3 harg3 arg4 harg4 arg5 harg5 arg6 harg6 arg7 harg7 arg8 harg8 arg9 harg9 arg10 harg10 arg11 harg11 arg12 harg12 arg1 v0 v159 v160 v162 v165 X _ le_rfl]
  exact congrArg _ (trips1 i)

/-- Every block of the second head counts. -/
theorem live189 (arg1 v0 v159 v160 : BitVec 32) (v162 v177 v180 : Elt Ideal .f32) (X : BufTy.Contents (Elt Ideal) arg3.view.ty) :
    st_k0_t4 (F := Ideal) 𝒱 c bd i arg2 harg2 arg3 harg3 arg4 harg4 arg5 harg5 arg6 harg6 arg7 harg7 arg8 harg8 arg9 harg9 arg10 harg10 arg11 harg11 arg12 harg12 arg1 v0 v159 v160 v162 v177 v180 X (st_k0_t3 (F := Ideal) 𝒱 c bd i arg2 harg2 arg3 harg3 arg4 harg4 arg5 harg5 arg6 harg6 arg7 harg7 arg8 harg8 arg9 harg9 arg10 harg10 arg11 harg11 arg12 harg12 arg1 v0 v159 v160 v162 v177 v180 X 0#32 (k0_t3_loop i).trips) (k0_t4_loop i).trips = BitVec.ofNat 32 (15 - (i 1).val) := by
  rw [trips4, st_k0_t4_zero, all3 𝒱 c bd i arg2 harg2 arg3 harg3 arg4 harg4 arg5 harg5 arg6 harg6 arg7 harg7 arg8 harg8 arg9 harg9 arg10 harg10 arg11 harg11 arg12 harg12 arg1 v0 v159 v160 v162 v177 v180 X _ le_rfl]
  exact congrArg _ (trips1 i)

/-- One query's contribution to a key and lane of a head, of the values -/
def gv (x3 x5 : BF16 S2x8192x128) (x4 : BF16 S2x512x128) (e : Fin 2) (r : Fin 512) (l : Fin 128) (t : Fin 8192) : EReal :=
  Ideal.exp (∑ l' : Fin 128, x4 (ix3 e r l') * x3 (ix3 e t l')) * x5 (ix3 e t l)

/-- and of the keys. -/
def gk (x3 x5 : BF16 S2x8192x128) (x4 x6 : BF16 S2x512x128) (e : Fin 2) (r : Fin 512) (l : Fin 128) (t : Fin 8192) : EReal :=
  Ideal.exp (∑ l' : Fin 128, x4 (ix3 e r l') * x3 (ix3 e t l')) * (∑ l' : Fin 128, x6 (ix3 e r l') * x5 (ix3 e t l')) * x3 (ix3 e t l)

/-- Query `j` from row `n` on. -/
def qry (n : ℕ) {m : ℕ} (j : Fin m) : Fin 8192 := ⟨(n + j.val) % 8192, Nat.mod_lt _ (by decide)⟩

/-- Key `r` of a block's 512, counted from row `n` on. -/
def sub (n : ℕ) (r : Fin 256) : Fin 512 := ⟨(n + r.val) % 512, Nat.mod_lt _ (by decide)⟩

/-- A slab of a two-head block, entry by entry. -/
theorem slab {e' : EltTy} {sp : Space} (v : View sig .tc sp S2x512x128 e') (f : v.ty.Contents (Elt Ideal)) (e : Fin 2) (z : ℕ) (hz : z = e.val)
    (inb : ∀ a, (![z, 0, 0] : Fin 3 → ℕ) a + (![1, 512, 128] : Fin 3 → ℕ) a ≤ S2x512x128.size a) (r : Fin 512) (l : Fin 128) :
    v.readAt (Elt Ideal) (Rect.unit (s := S2x512x128) ![z, 0, 0] ![1, 512, 128] inb).toLoadRect f (ix3 0 r l) = v.read (Elt Ideal) f (ix3 e r l) := by
  subst hz
  rw [View.readAt_unit v f inb rfl inb]
  refine congrArg (v.read (Elt Ideal) f) (funext fun a => Fin.ext ?_)
  match a with
  | ⟨0, _⟩ => show e.val + 1 * 0 = e.val; omega
  | ⟨1, _⟩ => show 0 + 1 * r.val = r.val; omega
  | ⟨2, _⟩ => show 0 + 1 * l.val = l.val; omega

/-- Half a slab, from key `n` on, entry by entry. -/
theorem half {e' : EltTy} {sp : Space} (v : View sig .tc sp S2x512x128 e') (f : v.ty.Contents (Elt Ideal)) (e : Fin 2) (z n : ℕ) (hz : z = e.val) (hn : n ≤ 256)
    (inb : ∀ a, (![z, n, 0] : Fin 3 → ℕ) a + (![1, 256, 128] : Fin 3 → ℕ) a ≤ S2x512x128.size a) (r : Fin 256) (l : Fin 128) :
    v.readAt (Elt Ideal) (Rect.unit (s := S2x512x128) ![z, n, 0] ![1, 256, 128] inb).toLoadRect f (ix3 0 r l) = v.read (Elt Ideal) f (ix3 e (sub n r) l) := by
  subst hz
  rw [View.readAt_unit v f inb rfl inb]
  refine congrArg (v.read (Elt Ideal) f) (funext fun a => Fin.ext ?_)
  match a with
  | ⟨0, _⟩ => show e.val + 1 * 0 = e.val; omega
  | ⟨1, _⟩ => show n + 1 * r.val = (n + r.val) % 512; have := r.isLt; omega
  | ⟨2, _⟩ => show 0 + 1 * l.val = l.val; omega

/-- Queries of a head from row `n` on, entry by entry. -/
theorem rows512 {e' : EltTy} {sp : Space} (v : View sig .tc sp S2x8192x128 e') (f : v.ty.Contents (Elt Ideal)) (e : Fin 2) (n : ℕ) (hn : n + 512 ≤ 8192) (off : Fin 3 → ℕ) (hoff : off = ![e.val, n, 0])
    (inb : ∀ a, off a + (![1, 512, 128] : Fin 3 → ℕ) a ≤ S2x8192x128.size a) (j : Fin 512) (l : Fin 128) :
    v.readAt (Elt Ideal) (Rect.unit (s := S2x8192x128) off ![1, 512, 128] inb).toLoadRect f (ix3 0 j l) = v.read (Elt Ideal) f (ix3 e (qry n j) l) := by
  subst hoff
  rw [View.readAt_unit v f inb rfl inb]
  refine congrArg (v.read (Elt Ideal) f) (funext fun a => Fin.ext ?_)
  match a with
  | ⟨0, _⟩ => show e.val + 1 * 0 = e.val; omega
  | ⟨1, _⟩ => show n + 1 * j.val = (n + j.val) % 8192; have := j.isLt; omega
  | ⟨2, _⟩ => show 0 + 1 * l.val = l.val; omega

theorem rows256 {e' : EltTy} {sp : Space} (v : View sig .tc sp S2x8192x128 e') (f : v.ty.Contents (Elt Ideal)) (e : Fin 2) (n : ℕ) (hn : n + 256 ≤ 8192) (off : Fin 3 → ℕ) (hoff : off = ![e.val, n, 0])
    (inb : ∀ a, off a + (![1, 256, 128] : Fin 3 → ℕ) a ≤ S2x8192x128.size a) (j : Fin 256) (l : Fin 128) :
    v.readAt (Elt Ideal) (Rect.unit (s := S2x8192x128) off ![1, 256, 128] inb).toLoadRect f (ix3 0 j l) = v.read (Elt Ideal) f (ix3 e (qry n j) l) := by
  subst hoff
  rw [View.readAt_unit v f inb rfl inb]
  refine congrArg (v.read (Elt Ideal) f) (funext fun a => Fin.ext ?_)
  match a with
  | ⟨0, _⟩ => show e.val + 1 * 0 = e.val; omega
  | ⟨1, _⟩ => show n + 1 * j.val = (n + j.val) % 8192; have := j.isLt; omega
  | ⟨2, _⟩ => show 0 + 1 * l.val = l.val; omega

section

variable (arg1 v0 v159 v160 v174 v189 : BitVec 32) (v162 : Elt Ideal .f32) (hw : k0_chk1 i v174 v189)
  (x3 x5 : BF16 S2x8192x128) (x4 x6 : BF16 S2x512x128)

/-- The row a trip of the sweep begins at. -/
theorem from5 (n : ℕ) (hn : (i 1).val + 1 + n < 16) :
    BitVec.toNat (Scalar.indexCast (Scalar.addi (Scalar.muli (Scf.iv (Scalar.addi (BitVec.ofNat 32 (i 1).val) 1#32) 1#32 n) 512#32) 0#32)) = ((i 1).val + 1 + n) * 512 := by
  show BitVec.toNat ((BitVec.ofNat 32 (i 1).val + 1#32 + BitVec.ofNat 32 n * 1#32) * 512#32 + 0#32) = _
  simp only [BitVec.toNat_mul, BitVec.toNat_add, BitVec.toNat_ofNat]
  omega

/-- One trip of the sweep adds, at every entry of the accumulator of the values' gradient, the contributions of its block's queries. -/
theorem trip5v (k : Fin (k0_t5_loop i v174 v189).trips) (hk : (i 1).val + 1 + k.val < 16) (f : BufTy.Contents (Elt Ideal) arg11.view.ty) (g : BufTy.Contents (Elt Ideal) arg12.view.ty) (e : Fin 2) (r : Fin 512) (l : Fin 128) :
    arg12.view.read (Elt Ideal) (arg12.view.writes (Elt Ideal) g (tripL_k0_t5 (F := Ideal) 𝒱 c bd i arg2 harg2 arg3 harg3 arg4 harg4 arg5 harg5 arg6 harg6 arg7 harg7 arg8 harg8 arg9 harg9 arg10 harg10 arg11 harg11 arg12 harg12 arg1 v0 v159 v160 v162 v174 v189 hw (harg5.unread x3) (harg6.unread x4) (harg7.unread x5) (harg8.unread x6) k f g).2) (ix3 e r l)
      = arg12.view.read (Elt Ideal) g (ix3 e r l) + ∑ j : Fin 512, gv x3 x5 x4 e r l (qry (((i 1).val + 1 + k.val) * 512) j) := by
  have hoff := from5 i k.val hk
  have hb : ((i 1).val + 1 + k.val) * 512 + 512 ≤ 8192 := by omega
  unfold tripL_k0_t5 trip_k0_t5
  sl_unfold_words
  dsimp only
  rcases (by decide : ∀ e : Fin 2, e = 0 ∨ e = 1) e with rfl | rfl
  · refine (View.read_writes_cons_unit_of_not_mem (v := arg12.view) (off' := ![1,0,0]) (heq := rfl) (a := 0) (ha := Or.inl (by show (0 : ℕ) < 1; decide)) ..).trans ?_
    refine (View.read_writes_cons_unit_of_mem (v := arg12.view) (off' := ![0,0,0]) (x := ix3 0 r l) (heq := rfl) (hx := fun a => ?_) ..).trans ?_
    · match a with
      | ⟨0, _⟩ => rfl
      | ⟨1, _⟩ => exact (Nat.zero_add _).symm
      | ⟨2, _⟩ => exact (Nat.zero_add _).symm
    refine dv512x512 r l (fun j l => x3 (ix3 0 (qry (((i 1).val + 1 + k.val) * 512) j) l)) (fun j l => x5 (ix3 0 (qry (((i 1).val + 1 + k.val) * 512) j) l)) (fun l => x4 (ix3 0 r l)) ?_ ?_ ?_ ?_
    · exact fun j l => (rows512 _ _ 0 _ hb _ (by rw [hoff]; rfl) _ j l).trans (congrFun (harg5.read_unread _) _)
    · exact fun j l => (rows512 _ _ 0 _ hb _ (by rw [hoff]; rfl) _ j l).trans (congrFun (harg7.read_unread _) _)
    · exact fun l => (slab _ _ 0 0 rfl _ r l).trans (congrFun (harg6.read_unread _) _)
    · exact slab _ _ 0 0 rfl _ r l
  · refine (View.read_writes_cons_unit_of_mem (v := arg12.view) (off' := ![1,0,0]) (x := ix3 0 r l) (heq := rfl) (hx := fun a => ?_) ..).trans ?_
    · match a with
      | ⟨0, _⟩ => rfl
      | ⟨1, _⟩ => exact (Nat.zero_add _).symm
      | ⟨2, _⟩ => exact (Nat.zero_add _).symm
    refine dv512x512 r l (fun j l => x3 (ix3 1 (qry (((i 1).val + 1 + k.val) * 512) j) l)) (fun j l => x5 (ix3 1 (qry (((i 1).val + 1 + k.val) * 512) j) l)) (fun l => x4 (ix3 1 r l)) ?_ ?_ ?_ ?_
    · exact fun j l => (rows512 _ _ 1 _ hb _ (by rw [hoff]; rfl) _ j l).trans (congrFun (harg5.read_unread _) _)
    · exact fun j l => (rows512 _ _ 1 _ hb _ (by rw [hoff]; rfl) _ j l).trans (congrFun (harg7.read_unread _) _)
    · exact fun l => (slab _ _ 1 1 rfl _ r l).trans (congrFun (harg6.read_unread _) _)
    · exact slab _ _ 1 1 rfl _ r l

/-- One trip of the sweep adds, at every entry of the accumulator of the keys' gradient, the contributions of its block's queries. -/
theorem trip5k (k : Fin (k0_t5_loop i v174 v189).trips) (hk : (i 1).val + 1 + k.val < 16) (f : BufTy.Contents (Elt Ideal) arg11.view.ty) (g : BufTy.Contents (Elt Ideal) arg12.view.ty) (e : Fin 2) (r : Fin 512) (l : Fin 128) :
    arg11.view.read (Elt Ideal) (arg11.view.writes (Elt Ideal) f (tripL_k0_t5 (F := Ideal) 𝒱 c bd i arg2 harg2 arg3 harg3 arg4 harg4 arg5 harg5 arg6 harg6 arg7 harg7 arg8 harg8 arg9 harg9 arg10 harg10 arg11 harg11 arg12 harg12 arg1 v0 v159 v160 v162 v174 v189 hw (harg5.unread x3) (harg6.unread x4) (harg7.unread x5) (harg8.unread x6) k f g).1) (ix3 e r l)
      = arg11.view.read (Elt Ideal) f (ix3 e r l) + ∑ j : Fin 512, gk x3 x5 x4 x6 e r l (qry (((i 1).val + 1 + k.val) * 512) j) := by
  have hoff := from5 i k.val hk
  have hb : ((i 1).val + 1 + k.val) * 512 + 512 ≤ 8192 := by omega
  unfold tripL_k0_t5 trip_k0_t5
  dsimp only
  sl_unfold_words
  dsimp only
  rcases (by decide : ∀ e : Fin 2, e = 0 ∨ e = 1) e with rfl | rfl
  · refine (View.read_writes_cons_unit_of_not_mem (v := arg11.view) (off' := ![1,0,0]) (heq := rfl) (a := 0) (ha := Or.inl (by show (0 : ℕ) < 1; decide)) ..).trans ?_
    refine (View.read_writes_cons_unit_of_mem (v := arg11.view) (off' := ![0,0,0]) (x := ix3 0 r l) (heq := rfl) (hx := fun a => ?_) ..).trans ?_
    · match a with
      | ⟨0, _⟩ => rfl
      | ⟨1, _⟩ => exact (Nat.zero_add _).symm
      | ⟨2, _⟩ => exact (Nat.zero_add _).symm
    refine dk512x512 r l (fun j l => x3 (ix3 0 (qry (((i 1).val + 1 + k.val) * 512) j) l)) (fun j l => x5 (ix3 0 (qry (((i 1).val + 1 + k.val) * 512) j) l)) (fun l => x4 (ix3 0 r l)) (fun l => x6 (ix3 0 r l)) ?_ ?_ ?_ ?_ ?_
    · exact fun j l => (rows512 _ _ 0 _ hb _ (by rw [hoff]; rfl) _ j l).trans (congrFun (harg5.read_unread _) _)
    · exact fun j l => (rows512 _ _ 0 _ hb _ (by rw [hoff]; rfl) _ j l).trans (congrFun (harg7.read_unread _) _)
    · exact fun l => (slab _ _ 0 0 rfl _ r l).trans (congrFun (harg6.read_unread _) _)
    · exact fun l => (slab _ _ 0 0 rfl _ r l).trans (congrFun (harg8.read_unread _) _)
    · exact slab _ _ 0 0 rfl _ r l
  · refine (View.read_writes_cons_unit_of_mem (v := arg11.view) (off' := ![1,0,0]) (x := ix3 0 r l) (heq := rfl) (hx := fun a => ?_) ..).trans ?_
    · match a with
      | ⟨0, _⟩ => rfl
      | ⟨1, _⟩ => exact (Nat.zero_add _).symm
      | ⟨2, _⟩ => exact (Nat.zero_add _).symm
    refine dk512x512 r l (fun j l => x3 (ix3 1 (qry (((i 1).val + 1 + k.val) * 512) j) l)) (fun j l => x5 (ix3 1 (qry (((i 1).val + 1 + k.val) * 512) j) l)) (fun l => x4 (ix3 1 r l)) (fun l => x6 (ix3 1 r l)) ?_ ?_ ?_ ?_ ?_
    · exact fun j l => (rows512 _ _ 1 _ hb _ (by rw [hoff]; rfl) _ j l).trans (congrFun (harg5.read_unread _) _)
    · exact fun j l => (rows512 _ _ 1 _ hb _ (by rw [hoff]; rfl) _ j l).trans (congrFun (harg7.read_unread _) _)
    · exact fun l => (slab _ _ 1 1 rfl _ r l).trans (congrFun (harg6.read_unread _) _)
    · exact fun l => (slab _ _ 1 1 rfl _ r l).trans (congrFun (harg8.read_unread _) _)
    · exact slab _ _ 1 1 rfl _ r l

/-- The sweep over the first `n` query blocks after the key block. -/
theorem sweepv (G1 : BufTy.Contents (Elt Ideal) arg11.view.ty) (G2 : BufTy.Contents (Elt Ideal) arg12.view.ty) (e : Fin 2) (r : Fin 512) (l : Fin 128) (n : ℕ) (hn : n ≤ (k0_t5_loop i v174 v189).trips) (h16 : (i 1).val + 1 + n ≤ 16) :
    arg12.view.read (Elt Ideal) (arg12.view.writes (Elt Ideal) G2 (pb_k0_t5 (F := Ideal) 𝒱 c bd i arg2 harg2 arg3 harg3 arg4 harg4 arg5 harg5 arg6 harg6 arg7 harg7 arg8 harg8 arg9 harg9 arg10 harg10 arg11 harg11 arg12 harg12 arg1 v0 v159 v160 v162 v174 v189 hw (harg5.unread x3) (harg6.unread x4) (harg7.unread x5) (harg8.unread x6) G1 G2 n).2) (ix3 e r l)
      = arg12.view.read (Elt Ideal) G2 (ix3 e r l) + ∑ m ∈ Finset.range n, ∑ j : Fin 512, gv x3 x5 x4 e r l (qry (((i 1).val + 1 + m) * 512) j) := by
  induction n with
  | zero => rw [Finset.sum_range_zero, add_zero]; rfl
  | succ n ih =>
    have h := pb_k0_t5_succ (F := Ideal) 𝒱 c bd i arg2 harg2 arg3 harg3 arg4 harg4 arg5 harg5 arg6 harg6 arg7 harg7 arg8 harg8 arg9 harg9 arg10 harg10 arg11 harg11 arg12 harg12 arg1 v0 v159 v160 v162 v174 v189 hw (harg5.unread x3) (harg6.unread x4) (harg7.unread x5) (harg8.unread x6) G1 G2 ⟨n, hn⟩
    have hp := congrArg (fun p => p.2) h
    dsimp only at hp
    rw [hp, View.writes_append, trip5v 𝒱 c bd i arg2 harg2 arg3 harg3 arg4 harg4 arg5 harg5 arg6 harg6 arg7 harg7 arg8 harg8 arg9 harg9 arg10 harg10 arg11 harg11 arg12 harg12 arg1 v0 v159 v160 v174 v189 v162 hw x3 x5 x4 x6 ⟨n, hn⟩ (by show (i 1).val + 1 + n < 16; omega), ih (by omega) (by omega), Finset.sum_range_succ, add_assoc]

/-- The sweep over the first `n` query blocks after the key block. -/
theorem sweepk (G1 : BufTy.Contents (Elt Ideal) arg11.view.ty) (G2 : BufTy.Contents (Elt Ideal) arg12.view.ty) (e : Fin 2) (r : Fin 512) (l : Fin 128) (n : ℕ) (hn : n ≤ (k0_t5_loop i v174 v189).trips) (h16 : (i 1).val + 1 + n ≤ 16) :
    arg11.view.read (Elt Ideal) (arg11.view.writes (Elt Ideal) G1 (pb_k0_t5 (F := Ideal) 𝒱 c bd i arg2 harg2 arg3 harg3 arg4 harg4 arg5 harg5 arg6 harg6 arg7 harg7 arg8 harg8 arg9 harg9 arg10 harg10 arg11 harg11 arg12 harg12 arg1 v0 v159 v160 v162 v174 v189 hw (harg5.unread x3) (harg6.unread x4) (harg7.unread x5) (harg8.unread x6) G1 G2 n).1) (ix3 e r l)
      = arg11.view.read (Elt Ideal) G1 (ix3 e r l) + ∑ m ∈ Finset.range n, ∑ j : Fin 512, gk x3 x5 x4 x6 e r l (qry (((i 1).val + 1 + m) * 512) j) := by
  induction n with
  | zero => rw [Finset.sum_range_zero, add_zero]; rfl
  | succ n ih =>
    have h := pb_k0_t5_succ (F := Ideal) 𝒱 c bd i arg2 harg2 arg3 harg3 arg4 harg4 arg5 harg5 arg6 harg6 arg7 harg7 arg8 harg8 arg9 harg9 arg10 harg10 arg11 harg11 arg12 harg12 arg1 v0 v159 v160 v162 v174 v189 hw (harg5.unread x3) (harg6.unread x4) (harg7.unread x5) (harg8.unread x6) G1 G2 ⟨n, hn⟩
    have hp := congrArg (fun p => p.1) h
    dsimp only at hp
    rw [hp, View.writes_append, trip5k 𝒱 c bd i arg2 harg2 arg3 harg3 arg4 harg4 arg5 harg5 arg6 harg6 arg7 harg7 arg8 harg8 arg9 harg9 arg10 harg10 arg11 harg11 arg12 harg12 arg1 v0 v159 v160 v174 v189 v162 hw x3 x5 x4 x6 ⟨n, hn⟩ (by show (i 1).val + 1 + n < 16; omega), ih (by omega) (by omega), Finset.sum_range_succ, add_assoc]

end

end Cert.KernelKVIdeal.Dkv
-- ==== Proof.KernelKVIdeal.Block.lean ====
/- The two output blocks, entry by entry: of each head and key, the sum of the contributions of the diagonal block's
   queries at or after the key and of the queries of the blocks after it. -/
module

public import proofs.«01_k».proof.Proof.Types
public import proofs.«01_k».proof.Proof.KernelKVIdeal.Body
public import Idealize.ShloMosaic.Lib.Pipeline.ReadBack

@[expose] public section

noncomputable section

namespace Cert.KernelKVIdeal.Dkv

open Idealize.ShloMosaic Idealize.ShloMosaic.TcCoe Idealize.ShloMosaic.Tactic
open Cert.KernelKVIdeal.Gen

variable (c : Dev nD) (i : grid0.Coords)
  (arg2 : Memref sig .tc .smem S16 .f32) (harg2 : arg2.IsWhole) (arg3 : Memref sig .tc .smem S16x16 .f32) (harg3 : arg3.IsWhole)
  (arg4 : Memref sig .tc .smem S16x16 .f32) (harg4 : arg4.IsWhole) (arg5 : Memref sig .tc .vmem S2x8192x128 .bf16) (harg5 : arg5.IsWhole)
  (arg6 : Memref sig .tc .vmem S2x512x128 .bf16) (harg6 : arg6.IsWhole) (arg7 : Memref sig .tc .vmem S2x8192x128 .bf16) (harg7 : arg7.IsWhole)
  (arg8 : Memref sig .tc .vmem S2x512x128 .bf16) (harg8 : arg8.IsWhole) (arg9 : Memref sig .tc .vmem S2x512x128 .f32) (harg9 : arg9.IsWhole)
  (arg10 : Memref sig .tc .vmem S2x512x128 .f32) (harg10 : arg10.IsWhole) (arg11 : Memref sig .tc .vmem S2x512x128 .f32) (harg11 : arg11.IsWhole)
  (arg12 : Memref sig .tc .vmem S2x512x128 .f32) (harg12 : arg12.IsWhole)
  (x0 : F32 S16) (x1 x2 : F32 S16x16) (x3 : BF16 S2x8192x128) (x4 : BF16 S2x512x128) (x5 : BF16 S2x8192x128) (x6 : BF16 S2x512x128)

/-- With every block counted the sweep makes as many trips as there are query blocks after the key block, -/
theorem trips5 : (k0_t5_loop i (BitVec.ofNat 32 (15 - (i 1).val)) (BitVec.ofNat 32 (15 - (i 1).val))).trips = 15 - (i 1).val := by
  have r_i1 : (i 1).val < 16 := (i 1).isLt
  have h_one : Affine.IsInt 1#32 (1) := Affine.ofNat _ (by omega)
  have h_arg1 : Affine.IsInt (BitVec.ofNat 32 (i 1).val) (((i 1).val : Int)) := Affine.ofNat _ (by omega)
  have h_n : Affine.IsInt (BitVec.ofNat 32 (15 - (i 1).val)) (15 - ((i 1).val : Int)) := Affine.ofNat _ (by omega)
  have h_max : Scalar.maxsi (BitVec.ofNat 32 (15 - (i 1).val)) (BitVec.ofNat 32 (15 - (i 1).val)) = BitVec.ofNat 32 (15 - (i 1).val) := by
    unfold Scalar.maxsi IntOp.maxsi; exact ite_self _
  have h_v159 : Affine.IsInt _ (((i 1).val : Int) + 1) := Affine.addi h_arg1 h_one (by omega)
  have h_v191 : Affine.IsInt _ 16 := Affine.addi h_v159 h_n (by omega)
  have h_v192 : Affine.IsInt _ (15 - ((i 1).val : Int)) := Affine.subi h_v191 h_v159 (by omega)
  have h_v194 : Affine.IsInt _ (15 - ((i 1).val : Int)) := Affine.divsi h_v192 h_one (by omega)
  have h_v195 : Affine.IsInt _ (15 - ((i 1).val : Int)) := Affine.muli h_v194 h_one (by omega)
  have h_v196 : Affine.IsInt _ 16 := Affine.addi h_v159 h_v195 (by omega)
  unfold k0_t5_loop
  rw [h_max]
  exact Affine.trips_eq h_v159 h_v196 h_one _ (by omega)

/-- and its remainder none. -/
theorem trips6 : (k0_t6_loop i (BitVec.ofNat 32 (15 - (i 1).val)) (BitVec.ofNat 32 (15 - (i 1).val))).trips = 0 := by
  have r_i1 : (i 1).val < 16 := (i 1).isLt
  have h_one : Affine.IsInt 1#32 (1) := Affine.ofNat _ (by omega)
  have h_arg1 : Affine.IsInt (BitVec.ofNat 32 (i 1).val) (((i 1).val : Int)) := Affine.ofNat _ (by omega)
  have h_n : Affine.IsInt (BitVec.ofNat 32 (15 - (i 1).val)) (15 - ((i 1).val : Int)) := Affine.ofNat _ (by omega)
  have h_max : Scalar.maxsi (BitVec.ofNat 32 (15 - (i 1).val)) (BitVec.ofNat 32 (15 - (i 1).val)) = BitVec.ofNat 32 (15 - (i 1).val) := by
    unfold Scalar.maxsi IntOp.maxsi; exact ite_self _
  have h_v159 : Affine.IsInt _ (((i 1).val : Int) + 1) := Affine.addi h_arg1 h_one (by omega)
  have h_v191 : Affine.IsInt _ 16 := Affine.addi h_v159 h_n (by omega)
  have h_v192 : Affine.IsInt _ (15 - ((i 1).val : Int)) := Affine.subi h_v191 h_v159 (by omega)
  have h_v194 : Affine.IsInt _ (15 - ((i 1).val : Int)) := Affine.divsi h_v192 h_one (by omega)
  have h_v195 : Affine.IsInt _ (15 - ((i 1).val : Int)) := Affine.muli h_v194 h_one (by omega)
  have h_v196 : Affine.IsInt _ 16 := Affine.addi h_v159 h_v195 (by omega)
  have h_v193 : Affine.IsInt _ 16 := Affine.addi h_v159 h_v192 (by omega)
  unfold k0_t6_loop
  rw [h_max]
  exact Affine.trips_eq h_v196 h_v193 h_one _ (by omega)

theorem after_none {sp : Space} (v : View sig .tc sp S2x512x128 .f32) (L6 L5 L0 : List (View.Piece (Elt Ideal) S2x512x128 .f32)) (h : L6 = []) :
    v.read (Elt Ideal) (v.writes (Elt Ideal) v.junk (L6 ++ (L5 ++ L0))) = v.read (Elt Ideal) (v.writes (Elt Ideal) (v.writes (Elt Ideal) v.junk L0) L5) := by
  subst h
  rw [List.nil_append, View.writes_append]

/-- What is written back of an accumulator is its whole. -/
theorem whole {sp : Space} (v : View sig .tc sp S2x512x128 .f32) (inb : ∀ a, (![0, 0, 0] : Fin 3 → ℕ) a + (![2, 512, 128] : Fin 3 → ℕ) a ≤ S2x512x128.size a) (f : v.ty.Contents (Elt Ideal)) (y : S2x512x128.Idx) :
    View.canon [⟨Rect.unit (s := S2x512x128) ![0, 0, 0] ![2, 512, 128] inb, v.readAt (Elt Ideal) (Rect.unit (s := S2x512x128) ![0, 0, 0] ![2, 512, 128] inb).toLoadRect f⟩] y = v.read (Elt Ideal) f y := by
  have h0 : (![0, 0, 0] : Fin 3 → ℕ) = fun _ => 0 := by funext a; fin_cases a <;> rfl
  refine (congrFun (View.canon_unit_zero (S := S2x512x128) h0 inb _) _).trans ?_
  exact congrFun (View.readAt_full v _ inb) _

/-- The accumulator of the values' gradient after the sweep: what the diagonal block left, and the contributions of the queries of the blocks after it. -/
theorem sweptv {v174 v189 : BitVec 32} (h174 : v174 = BitVec.ofNat 32 (15 - (i 1).val)) (h189 : v189 = BitVec.ofNat 32 (15 - (i 1).val)) (arg1 v0 v159 v160 v196 arg1' v0' v159' v160' : BitVec 32) (v162 v162' : Elt Ideal .f32) (hw hw' : k0_chk1 i v174 v189)
    (H1 : BufTy.Contents (Elt Ideal) arg11.view.ty) (H2 : BufTy.Contents (Elt Ideal) arg12.view.ty) (G1 : BufTy.Contents (Elt Ideal) arg11.view.ty) (D : List (View.Piece (Elt Ideal) S2x512x128 .f32)) (e : Fin 2) (r : Fin 512) (l : Fin 128) :
    arg12.view.read (Elt Ideal) (arg12.view.writes (Elt Ideal) arg12.view.junk
      ((pb_k0_t6 Variants.none c none i arg2 harg2 arg3 harg3 arg4 harg4 arg5 harg5 arg6 harg6 arg7 harg7 arg8 harg8 arg9 harg9 arg10 harg10 arg11 harg11 arg12 harg12 arg1 v0 v159 v160 v162 v174 v189 hw v196 (harg5.unread x3) (harg6.unread x4) (harg7.unread x5) (harg8.unread x6) H1 H2 (k0_t6_loop i v174 v189).trips).2
        ++ ((pb_k0_t5 Variants.none c none i arg2 harg2 arg3 harg3 arg4 harg4 arg5 harg5 arg6 harg6 arg7 harg7 arg8 harg8 arg9 harg9 arg10 harg10 arg11 harg11 arg12 harg12 arg1' v0' v159' v160' v162' v174 v189 hw' (harg5.unread x3) (harg6.unread x4) (harg7.unread x5) (harg8.unread x6) G1 (arg12.view.writes (Elt Ideal) arg12.view.junk D) (k0_t5_loop i v174 v189).trips).2 ++ D))) (ix3 e r l)
      = arg12.view.read (Elt Ideal) (arg12.view.writes (Elt Ideal) arg12.view.junk D) (ix3 e r l)
        + ∑ m ∈ Finset.range (15 - (i 1).val), ∑ j : Fin 512, gv x3 x5 x4 e r l (qry (((i 1).val + 1 + m) * 512) j) := by
  subst h174; subst h189
  have r_i1 : (i 1).val < 16 := (i 1).isLt
  rw [trips6, trips5]
  refine (congrFun (after_none arg12.view _ _ _ rfl) _).trans ?_
  exact sweepv Variants.none c none i arg2 harg2 arg3 harg3 arg4 harg4 arg5 harg5 arg6 harg6 arg7 harg7 arg8 harg8 arg9 harg9 arg10 harg10 arg11 harg11 arg12 harg12 arg1' v0' v159' v160' _ _ v162' hw' x3 x5 x4 x6 _ _ e r l (15 - (i 1).val) (le_of_eq (trips5 i).symm) (by omega)

/-- The accumulator of the keys' gradient after the sweep: what the diagonal block left, and the contributions of the queries of the blocks after it. -/
theorem sweptk {v174 v189 : BitVec 32} (h174 : v174 = BitVec.ofNat 32 (15 - (i 1).val)) (h189 : v189 = BitVec.ofNat 32 (15 - (i 1).val)) (arg1 v0 v159 v160 v196 arg1' v0' v159' v160' : BitVec 32) (v162 v162' : Elt Ideal .f32) (hw hw' : k0_chk1 i v174 v189)
    (H1 : BufTy.Contents (Elt Ideal) arg11.view.ty) (H2 G2 : BufTy.Contents (Elt Ideal) arg12.view.ty) (D : List (View.Piece (Elt Ideal) S2x512x128 .f32)) (e : Fin 2) (r : Fin 512) (l : Fin 128) :
    arg11.view.read (Elt Ideal) (arg11.view.writes (Elt Ideal) arg11.view.junk
      ((pb_k0_t6 Variants.none c none i arg2 harg2 arg3 harg3 arg4 harg4 arg5 harg5 arg6 harg6 arg7 harg7 arg8 harg8 arg9 harg9 arg10 harg10 arg11 harg11 arg12 harg12 arg1 v0 v159 v160 v162 v174 v189 hw v196 (harg5.unread x3) (harg6.unread x4) (harg7.unread x5) (harg8.unread x6) H1 H2 (k0_t6_loop i v174 v189).trips).1
        ++ ((pb_k0_t5 Variants.none c none i arg2 harg2 arg3 harg3 arg4 harg4 arg5 harg5 arg6 harg6 arg7 harg7 arg8 harg8 arg9 harg9 arg10 harg10 arg11 harg11 arg12 harg12 arg1' v0' v159' v160' v162' v174 v189 hw' (harg5.unread x3) (harg6.unread x4) (harg7.unread x5) (harg8.unread x6) (arg11.view.writes (Elt Ideal) arg11.view.junk D) G2 (k0_t5_loop i v174 v189).trips).1 ++ D))) (ix3 e r l)
      = arg11.view.read (Elt Ideal) (arg11.view.writes (Elt Ideal) arg11.view.junk D) (ix3 e r l)
        + ∑ m ∈ Finset.range (15 - (i 1).val), ∑ j : Fin 512, gk x3 x5 x4 x6 e r l (qry (((i 1).val + 1 + m) * 512) j) := by
  subst h174; subst h189
  have r_i1 : (i 1).val < 16 := (i 1).isLt
  rw [trips6, trips5]
  refine (congrFun (after_none arg11.view _ _ _ rfl) _).trans ?_
  exact sweepk Variants.none c none i arg2 harg2 arg3 harg3 arg4 harg4 arg5 harg5 arg6 harg6 arg7 harg7 arg8 harg8 arg9 harg9 arg10 harg10 arg11 harg11 arg12 harg12 arg1' v0' v159' v160' _ _ v162' hw' x3 x5 x4 x6 _ _ e r l (15 - (i 1).val) (le_of_eq (trips5 i).symm) (by omega)

/-- The rows of a diagonal block's queries. -/
theorem diag0 : BitVec.toNat (Scalar.indexCast (Scalar.addi (Scalar.muli (BitVec.ofNat 32 (i 1).val) 512#32) 0#32)) = (i 1).val * 512 := by
  have r_i1 : (i 1).val < 16 := (i 1).isLt
  show BitVec.toNat (BitVec.ofNat 32 (i 1).val * 512#32 + 0#32) = _
  simp only [BitVec.toNat_mul, BitVec.toNat_add, BitVec.toNat_ofNat]
  omega

theorem diag256 : BitVec.toNat (Scalar.indexCast (Scalar.addi (Scalar.muli (BitVec.ofNat 32 (i 1).val) 512#32) 256#32)) = (i 1).val * 512 + 256 := by
  have r_i1 : (i 1).val < 16 := (i 1).isLt
  show BitVec.toNat (BitVec.ofNat 32 (i 1).val * 512#32 + 256#32) = _
  simp only [BitVec.toNat_mul, BitVec.toNat_add, BitVec.toNat_ofNat]
  omega

/-- Four half slabs stored over a whole block, read back. -/
theorem four {sp : Space} (v : View sig .tc sp S2x512x128 .f32) (f : v.ty.Contents (Elt Ideal)) (L : List (View.Piece (Elt Ideal) S2x512x128 .f32))
    (i11 : ∀ a, (![1, 256, 0] : Fin 3 → ℕ) a + (![1, 256, 128] : Fin 3 → ℕ) a ≤ S2x512x128.size a) (i10 : ∀ a, (![1, 0, 0] : Fin 3 → ℕ) a + (![1, 256, 128] : Fin 3 → ℕ) a ≤ S2x512x128.size a)
    (i01 : ∀ a, (![0, 256, 0] : Fin 3 → ℕ) a + (![1, 256, 128] : Fin 3 → ℕ) a ≤ S2x512x128.size a) (i00 : ∀ a, (![0, 0, 0] : Fin 3 → ℕ) a + (![1, 256, 128] : Fin 3 → ℕ) a ≤ S2x512x128.size a)
    (w11 w10 w01 w00 : F32 S1x256x128) (e : Fin 2) (r : Fin 256) (l : Fin 128) :
    v.read (Elt Ideal) (v.writes (Elt Ideal) f (⟨Rect.unit (s := S2x512x128) ![1, 256, 0] ![1, 256, 128] i11, w11⟩ :: ⟨Rect.unit (s := S2x512x128) ![1, 0, 0] ![1, 256, 128] i10, w10⟩
        :: ⟨Rect.unit (s := S2x512x128) ![0, 256, 0] ![1, 256, 128] i01, w01⟩ :: ⟨Rect.unit (s := S2x512x128) ![0, 0, 0] ![1, 256, 128] i00, w00⟩ :: L)) (ix3 e (sub 0 r) l) = (if e = 0 then w00 else w10) (ix3 0 r l)
    ∧ v.read (Elt Ideal) (v.writes (Elt Ideal) f (⟨Rect.unit (s := S2x512x128) ![1, 256, 0] ![1, 256, 128] i11, w11⟩ :: ⟨Rect.unit (s := S2x512x128) ![1, 0, 0] ![1, 256, 128] i10, w10⟩
        :: ⟨Rect.unit (s := S2x512x128) ![0, 256, 0] ![1, 256, 128] i01, w01⟩ :: ⟨Rect.unit (s := S2x512x128) ![0, 0, 0] ![1, 256, 128] i00, w00⟩ :: L)) (ix3 e (sub 256 r) l) = (if e = 0 then w01 else w11) (ix3 0 r l) := by
  have hr := r.isLt
  have s0 : (sub 0 r).val = r.val := by show (0 + r.val) % 512 = _; omega
  have s1 : (sub 256 r).val = 256 + r.val := by show (256 + r.val) % 512 = _; omega
  have low : ((ix3 e (sub 0 r) l : S2x512x128.Idx) 1 : ℕ) < 256 := by show (sub 0 r).val < 256; omega
  have high : 256 ≤ ((ix3 e (sub 256 r) l : S2x512x128.Idx) 1 : ℕ) := by show 256 ≤ (sub 256 r).val; omega
  rcases (by decide : ∀ e : Fin 2, e = 0 ∨ e = 1) e with rfl | rfl
  · constructor
    · refine (View.read_writes_cons_unit_of_not_mem (v := v) (off' := ![1,256,0]) (heq := rfl) (a := 0) (ha := Or.inl (by show (0 : ℕ) < 1; decide)) ..).trans ?_
      refine (View.read_writes_cons_unit_of_not_mem (v := v) (off' := ![1,0,0]) (heq := rfl) (a := 0) (ha := Or.inl (by show (0 : ℕ) < 1; decide)) ..).trans ?_
      refine (View.read_writes_cons_unit_of_not_mem (v := v) (off' := ![0,256,0]) (heq := rfl) (a := 1) (ha := Or.inl (by exact low)) ..).trans ?_
      refine (View.read_writes_cons_unit_of_mem (v := v) (off' := ![0,0,0]) (x := ix3 0 r l) (heq := rfl) (hx := fun a => ?_) ..).trans rfl
      match a with
      | ⟨0, _⟩ => rfl
      | ⟨1, _⟩ => show (sub 0 r).val = 0 + r.val; omega
      | ⟨2, _⟩ => exact (Nat.zero_add _).symm
    · refine (View.read_writes_cons_unit_of_not_mem (v := v) (off' := ![1,256,0]) (heq := rfl) (a := 0) (ha := Or.inl (by show (0 : ℕ) < 1; decide)) ..).trans ?_
      refine (View.read_writes_cons_unit_of_not_mem (v := v) (off' := ![1,0,0]) (heq := rfl) (a := 0) (ha := Or.inl (by show (0 : ℕ) < 1; decide)) ..).trans ?_
      refine (View.read_writes_cons_unit_of_mem (v := v) (off' := ![0,256,0]) (x := ix3 0 r l) (heq := rfl) (hx := fun a => ?_) ..).trans rfl
      match a with
      | ⟨0, _⟩ => rfl
      | ⟨1, _⟩ => show (sub 256 r).val = 256 + r.val; omega
      | ⟨2, _⟩ => exact (Nat.zero_add _).symm
  · constructor
    · refine (View.read_writes_cons_unit_of_not_mem (v := v) (off' := ![1,256,0]) (heq := rfl) (a := 1) (ha := Or.inl (by exact low)) ..).trans ?_
      refine (View.read_writes_cons_unit_of_mem (v := v) (off' := ![1,0,0]) (x := ix3 0 r l) (heq := rfl) (hx := fun a => ?_) ..).trans rfl
      match a with
      | ⟨0, _⟩ => rfl
      | ⟨1, _⟩ => show (sub 0 r).val = 0 + r.val; omega
      | ⟨2, _⟩ => exact (Nat.zero_add _).symm
    · refine (View.read_writes_cons_unit_of_mem (v := v) (off' := ![1,256,0]) (x := ix3 0 r l) (heq := rfl) (hx := fun a => ?_) ..).trans rfl
      match a with
      | ⟨0, _⟩ => rfl
      | ⟨1, _⟩ => show (sub 256 r).val = 256 + r.val; omega
      | ⟨2, _⟩ => exact (Nat.zero_add _).symm

/-- An accumulator not yet stored to reads as zero. -/
theorem fresh {sp : Space} (v : View sig .tc sp S2x512x128 .f32) (inb : ∀ a, (![0, 0, 0] : Fin 3 → ℕ) a + (![2, 512, 128] : Fin 3 → ℕ) a ≤ S2x512x128.size a)
    (w : F32 S2x512x128) (hw : ∀ y, w y = 0) (e : Fin 2) (z n : ℕ) (hz : z = e.val) (hn : n ≤ 256)
    (inbz : ∀ a, (![z, n, 0] : Fin 3 → ℕ) a + (![1, 256, 128] : Fin 3 → ℕ) a ≤ S2x512x128.size a) (r : Fin 256) (l : Fin 128) :
    v.readCov [⟨Rect.unit (s := S2x512x128) ![0, 0, 0] ![2, 512, 128] inb, w⟩] (Rect.unit (s := S2x512x128) ![z, n, 0] ![1, 256, 128] inbz).toLoadRect (ix3 0 r l) = 0 := by
  refine (half v _ e z n hz hn inbz r l).trans ?_
  refine (View.read_writes_cons_unit_of_mem (v := v) (off' := ![0,0,0]) (x := ix3 e (sub n r) l) (heq := rfl) (hx := fun a => ?_) ..).trans (hw _)
  match a with
  | ⟨0, _⟩ => exact (Nat.zero_add _).symm
  | ⟨1, _⟩ => exact (Nat.zero_add _).symm
  | ⟨2, _⟩ => exact (Nat.zero_add _).symm

/-- The block of the values' gradient the run leaves. -/
theorem blockv (e : Fin 2) (r : Fin 256) (l : Fin 128) :
    dvBlock c i arg2 harg2 arg3 harg3 arg4 harg4 arg5 harg5 arg6 harg6 arg7 harg7 arg8 harg8 arg9 harg9 arg10 harg10 arg11 harg11 arg12 harg12 x0 x1 x2 x3 x4 x5 x6 (ix3 e (sub 0 r) l)
      = (∑ j : Fin 512, if r.val ≤ j.val then gv x3 x5 x4 e (sub 0 r) l (qry ((i 1).val * 512) j) else 0) + ∑ m ∈ Finset.range (15 - (i 1).val), ∑ j : Fin 512, gv x3 x5 x4 e (sub 0 r) l (qry (((i 1).val + 1 + m) * 512) j)
    ∧ dvBlock c i arg2 harg2 arg3 harg3 arg4 harg4 arg5 harg5 arg6 harg6 arg7 harg7 arg8 harg8 arg9 harg9 arg10 harg10 arg11 harg11 arg12 harg12 x0 x1 x2 x3 x4 x5 x6 (ix3 e (sub 256 r) l)
      = (∑ j : Fin 256, if r.val ≤ j.val then gv x3 x5 x4 e (sub 256 r) l (qry ((i 1).val * 512 + 256) j) else 0) + ∑ m ∈ Finset.range (15 - (i 1).val), ∑ j : Fin 512, gv x3 x5 x4 e (sub 256 r) l (qry (((i 1).val + 1 + m) * 512) j) := by
  have r_i1 : (i 1).val < 16 := (i 1).isLt
  have h0 := diag0 i
  have h256 := diag256 i
  unfold dvBlock bodyRun
  sl_unfold_words
  dsimp only [k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rw [View.read_writes_junk_eq_canon]
  constructor
  · refine (whole ..).trans ?_
    refine (sweptv c i arg2 harg2 arg3 harg3 arg4 harg4 arg5 harg5 arg6 harg6 arg7 harg7 arg8 harg8 arg9 harg9 arg10 harg10 arg11 harg11 arg12 harg12 x3 x4 x5 x6 (live174 ..) (live189 ..) _ _ _ _ _ _ _ _ _ _ _ _ _ _ _ _ _ e (sub 0 r) l).trans (congrArg (· + _) ?_)
    refine (four ..).1.trans ?_
    rcases (by decide : ∀ e : Fin 2, e = 0 ∨ e = 1) e with rfl | rfl
    · refine (dv256x512 r l (fun j l => x3 (ix3 0 (qry ((i 1).val * 512) j) l)) (fun j l => x5 (ix3 0 (qry ((i 1).val * 512) j) l)) (fun l => x4 (ix3 0 (sub 0 r) l)) ?_ ?_ ?_ ?_).trans (zero_add _)
      · exact fun j l => (rows512 _ _ 0 _ (by omega) _ (by rw [h0]; rfl) _ j l).trans (congrFun (harg5.read_unread _) _)
      · exact fun j l => (rows512 _ _ 0 _ (by omega) _ (by rw [h0]; rfl) _ j l).trans (congrFun (harg7.read_unread _) _)
      · exact fun l => (half _ _ 0 0 0 rfl (by decide) _ r l).trans (congrFun (harg6.read_unread _) _)
      · exact fresh _ _ _ pay24_apply 0 0 0 rfl (by decide) _ r l
    · refine (dv256x512 r l (fun j l => x3 (ix3 1 (qry ((i 1).val * 512) j) l)) (fun j l => x5 (ix3 1 (qry ((i 1).val * 512) j) l)) (fun l => x4 (ix3 1 (sub 0 r) l)) ?_ ?_ ?_ ?_).trans (zero_add _)
      · exact fun j l => (rows512 _ _ 1 _ (by omega) _ (by rw [h0]; rfl) _ j l).trans (congrFun (harg5.read_unread _) _)
      · exact fun j l => (rows512 _ _ 1 _ (by omega) _ (by rw [h0]; rfl) _ j l).trans (congrFun (harg7.read_unread _) _)
      · exact fun l => (half _ _ 1 1 0 rfl (by decide) _ r l).trans (congrFun (harg6.read_unread _) _)
      · refine (congrFun (View.readCov_skip arg12.view _ _ _ _ (by decide)) _).trans ?_
        refine (congrFun (View.readCov_skip arg12.view _ _ _ _ (by decide)) _).trans ?_
        exact fresh _ _ _ pay24_apply 1 1 0 rfl (by decide) _ r l
  · refine (whole ..).trans ?_
    refine (sweptv c i arg2 harg2 arg3 harg3 arg4 harg4 arg5 harg5 arg6 harg6 arg7 harg7 arg8 harg8 arg9 harg9 arg10 harg10 arg11 harg11 arg12 harg12 x3 x4 x5 x6 (live174 ..) (live189 ..) _ _ _ _ _ _ _ _ _ _ _ _ _ _ _ _ _ e (sub 256 r) l).trans (congrArg (· + _) ?_)
    refine (four ..).2.trans ?_
    rcases (by decide : ∀ e : Fin 2, e = 0 ∨ e = 1) e with rfl | rfl
    · refine (dv256x256 r l (fun j l => x3 (ix3 0 (qry ((i 1).val * 512 + 256) j) l)) (fun j l => x5 (ix3 0 (qry ((i 1).val * 512 + 256) j) l)) (fun l => x4 (ix3 0 (sub 256 r) l)) ?_ ?_ ?_ ?_).trans (zero_add _)
      · exact fun j l => (rows256 _ _ 0 _ (by omega) _ (by rw [h256]; rfl) _ j l).trans (congrFun (harg5.read_unread _) _)
      · exact fun j l => (rows256 _ _ 0 _ (by omega) _ (by rw [h256]; rfl) _ j l).trans (congrFun (harg7.read_unread _) _)
      · exact fun l => (half _ _ 0 0 256 rfl (by decide) _ r l).trans (congrFun (harg6.read_unread _) _)
      · refine (congrFun (View.readCov_skip arg12.view _ _ _ _ (by decide)) _).trans ?_
        exact fresh _ _ _ pay24_apply 0 0 256 rfl (by decide) _ r l
    · refine (dv256x256 r l (fun j l => x3 (ix3 1 (qry ((i 1).val * 512 + 256) j) l)) (fun j l => x5 (ix3 1 (qry ((i 1).val * 512 + 256) j) l)) (fun l => x4 (ix3 1 (sub 256 r) l)) ?_ ?_ ?_ ?_).trans (zero_add _)
      · exact fun j l => (rows256 _ _ 1 _ (by omega) _ (by rw [h256]; rfl) _ j l).trans (congrFun (harg5.read_unread _) _)
      · exact fun j l => (rows256 _ _ 1 _ (by omega) _ (by rw [h256]; rfl) _ j l).trans (congrFun (harg7.read_unread _) _)
      · exact fun l => (half _ _ 1 1 256 rfl (by decide) _ r l).trans (congrFun (harg6.read_unread _) _)
      · refine (congrFun (View.readCov_skip arg12.view _ _ _ _ (by decide)) _).trans ?_
        refine (congrFun (View.readCov_skip arg12.view _ _ _ _ (by decide)) _).trans ?_
        refine (congrFun (View.readCov_skip arg12.view _ _ _ _ (by decide)) _).trans ?_
        exact fresh _ _ _ pay24_apply 1 1 256 rfl (by decide) _ r l

/-- The block of the keys' gradient the run leaves. -/
theorem blockk (e : Fin 2) (r : Fin 256) (l : Fin 128) :
    dkBlock c i arg2 harg2 arg3 harg3 arg4 harg4 arg5 harg5 arg6 harg6 arg7 harg7 arg8 harg8 arg9 harg9 arg10 harg10 arg11 harg11 arg12 harg12 x0 x1 x2 x3 x4 x5 x6 (ix3 e (sub 0 r) l)
      = (∑ j : Fin 512, if r.val ≤ j.val then gk x3 x5 x4 x6 e (sub 0 r) l (qry ((i 1).val * 512) j) else 0) + ∑ m ∈ Finset.range (15 - (i 1).val), ∑ j : Fin 512, gk x3 x5 x4 x6 e (sub 0 r) l (qry (((i 1).val + 1 + m) * 512) j)
    ∧ dkBlock c i arg2 harg2 arg3 harg3 arg4 harg4 arg5 harg5 arg6 harg6 arg7 harg7 arg8 harg8 arg9 harg9 arg10 harg10 arg11 harg11 arg12 harg12 x0 x1 x2 x3 x4 x5 x6 (ix3 e (sub 256 r) l)
      = (∑ j : Fin 256, if r.val ≤ j.val then gk x3 x5 x4 x6 e (sub 256 r) l (qry ((i 1).val * 512 + 256) j) else 0) + ∑ m ∈ Finset.range (15 - (i 1).val), ∑ j : Fin 512, gk x3 x5 x4 x6 e (sub 256 r) l (qry (((i 1).val + 1 + m) * 512) j) := by
  have r_i1 : (i 1).val < 16 := (i 1).isLt
  have h0 := diag0 i
  have h256 := diag256 i
  unfold dkBlock bodyRun
  sl_unfold_words
  dsimp only [k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rw [View.read_writes_junk_eq_canon]
  constructor
  · refine (whole ..).trans ?_
    refine (sweptk c i arg2 harg2 arg3 harg3 arg4 harg4 arg5 harg5 arg6 harg6 arg7 harg7 arg8 harg8 arg9 harg9 arg10 harg10 arg11 harg11 arg12 harg12 x3 x4 x5 x6 (live174 ..) (live189 ..) _ _ _ _ _ _ _ _ _ _ _ _ _ _ _ _ _ e (sub 0 r) l).trans (congrArg (· + _) ?_)
    refine (four ..).1.trans ?_
    rcases (by decide : ∀ e : Fin 2, e = 0 ∨ e = 1) e with rfl | rfl
    · refine (dk256x512 r l (fun j l => x3 (ix3 0 (qry ((i 1).val * 512) j) l)) (fun j l => x5 (ix3 0 (qry ((i 1).val * 512) j) l)) (fun l => x4 (ix3 0 (sub 0 r) l)) (fun l => x6 (ix3 0 (sub 0 r) l)) ?_ ?_ ?_ ?_ ?_).trans (zero_add _)
      · exact fun j l => (rows512 _ _ 0 _ (by omega) _ (by rw [h0]; rfl) _ j l).trans (congrFun (harg5.read_unread _) _)
      · exact fun j l => (rows512 _ _ 0 _ (by omega) _ (by rw [h0]; rfl) _ j l).trans (congrFun (harg7.read_unread _) _)
      · exact fun l => (half _ _ 0 0 0 rfl (by decide) _ r l).trans (congrFun (harg6.read_unread _) _)
      · exact fun l => (half _ _ 0 0 0 rfl (by decide) _ r l).trans (congrFun (harg8.read_unread _) _)
      · exact fresh _ _ _ pay23_apply 0 0 0 rfl (by decide) _ r l
    · refine (dk256x512 r l (fun j l => x3 (ix3 1 (qry ((i 1).val * 512) j) l)) (fun j l => x5 (ix3 1 (qry ((i 1).val * 512) j) l)) (fun l => x4 (ix3 1 (sub 0 r) l)) (fun l => x6 (ix3 1 (sub 0 r) l)) ?_ ?_ ?_ ?_ ?_).trans (zero_add _)
      · exact fun j l => (rows512 _ _ 1 _ (by omega) _ (by rw [h0]; rfl) _ j l).trans (congrFun (harg5.read_unread _) _)
      · exact fun j l => (rows512 _ _ 1 _ (by omega) _ (by rw [h0]; rfl) _ j l).trans (congrFun (harg7.read_unread _) _)
      · exact fun l => (half _ _ 1 1 0 rfl (by decide) _ r l).trans (congrFun (harg6.read_unread _) _)
      · exact fun l => (half _ _ 1 1 0 rfl (by decide) _ r l).trans (congrFun (harg8.read_unread _) _)
      · refine (congrFun (View.readCov_skip arg11.view _ _ _ _ (by decide)) _).trans ?_
        refine (congrFun (View.readCov_skip arg11.view _ _ _ _ (by decide)) _).trans ?_
        exact fresh _ _ _ pay23_apply 1 1 0 rfl (by decide) _ r l
  · refine (whole ..).trans ?_
    refine (sweptk c i arg2 harg2 arg3 harg3 arg4 harg4 arg5 harg5 arg6 harg6 arg7 harg7 arg8 harg8 arg9 harg9 arg10 harg10 arg11 harg11 arg12 harg12 x3 x4 x5 x6 (live174 ..) (live189 ..) _ _ _ _ _ _ _ _ _ _ _ _ _ _ _ _ _ e (sub 256 r) l).trans (congrArg (· + _) ?_)
    refine (four ..).2.trans ?_
    rcases (by decide : ∀ e : Fin 2, e = 0 ∨ e = 1) e with rfl | rfl
    · refine (dk256x256 r l (fun j l => x3 (ix3 0 (qry ((i 1).val * 512 + 256) j) l)) (fun j l => x5 (ix3 0 (qry ((i 1).val * 512 + 256) j) l)) (fun l => x4 (ix3 0 (sub 256 r) l)) (fun l => x6 (ix3 0 (sub 256 r) l)) ?_ ?_ ?_ ?_ ?_).trans (zero_add _)
      · exact fun j l => (rows256 _ _ 0 _ (by omega) _ (by rw [h256]; rfl) _ j l).trans (congrFun (harg5.read_unread _) _)
      · exact fun j l => (rows256 _ _ 0 _ (by omega) _ (by rw [h256]; rfl) _ j l).trans (congrFun (harg7.read_unread _) _)
      · exact fun l => (half _ _ 0 0 256 rfl (by decide) _ r l).trans (congrFun (harg6.read_unread _) _)
      · exact fun l => (half _ _ 0 0 256 rfl (by decide) _ r l).trans (congrFun (harg8.read_unread _) _)
      · refine (congrFun (View.readCov_skip arg11.view _ _ _ _ (by decide)) _).trans ?_
        exact fresh _ _ _ pay23_apply 0 0 256 rfl (by decide) _ r l
    · refine (dk256x256 r l (fun j l => x3 (ix3 1 (qry ((i 1).val * 512 + 256) j) l)) (fun j l => x5 (ix3 1 (qry ((i 1).val * 512 + 256) j) l)) (fun l => x4 (ix3 1 (sub 256 r) l)) (fun l => x6 (ix3 1 (sub 256 r) l)) ?_ ?_ ?_ ?_ ?_).trans (zero_add _)
      · exact fun j l => (rows256 _ _ 1 _ (by omega) _ (by rw [h256]; rfl) _ j l).trans (congrFun (harg5.read_unread _) _)
      · exact fun j l => (rows256 _ _ 1 _ (by omega) _ (by rw [h256]; rfl) _ j l).trans (congrFun (harg7.read_unread _) _)
      · exact fun l => (half _ _ 1 1 256 rfl (by decide) _ r l).trans (congrFun (harg6.read_unread _) _)
      · exact fun l => (half _ _ 1 1 256 rfl (by decide) _ r l).trans (congrFun (harg8.read_unread _) _)
      · refine (congrFun (View.readCov_skip arg11.view _ _ _ _ (by decide)) _).trans ?_
        refine (congrFun (View.readCov_skip arg11.view _ _ _ _ (by decide)) _).trans ?_
        refine (congrFun (View.readCov_skip arg11.view _ _ _ _ (by decide)) _).trans ?_
        exact fresh _ _ _ pay23_apply 1 1 256 rfl (by decide) _ r l

end Cert.KernelKVIdeal.Dkv
-- ==== Proof.After.lean ====
/- A sum over the queries at or after a key, taken block by block of 512: the key's own block only from the key on,
   the blocks after it whole. -/
module

public import proofs.«01_k».proof.Proof.Sums

@[expose] public section

namespace Cert.Sums

/-- A sum from a key on, split at the end of the key's block. -/
theorem after {M : Type} [AddCommMonoid M] (F : ℕ → M) {i r : ℕ} (hi : i < 16) (hr : r < 512) :
    (∑ j : Fin 512, if r ≤ j.val then F (i * 512 + j.val) else 0) + ∑ m ∈ Finset.range (15 - i), ∑ j : Fin 512, F ((i + 1 + m) * 512 + j.val)
      = ∑ t : Fin 8192, if i * 512 + r ≤ t.val then F t.val else 0 := by
  have e : ∑ m ∈ Finset.range (15 - i), ∑ j : Fin 512, F ((i + 1 + m) * 512 + j.val) = ∑ s ∈ Finset.range ((15 - i) * 512), F (i * 512 + 512 + s) := by
    rw [← blocks (fun s => F (i * 512 + 512 + s))]
    refine Finset.sum_congr rfl fun m _ => Finset.sum_congr rfl fun j _ => congrArg F ?_
    ring
  rw [e, ← Finset.sum_range (n := 512) fun j => if r ≤ j then F (i * 512 + j) else 0,
    ← Finset.sum_range (n := 8192) fun t => if i * 512 + r ≤ t then F t else 0,
    show (8192 : ℕ) = (i * 512 + 512) + (15 - i) * 512 by omega, Finset.sum_range_add, Finset.sum_range_add]
  have h1 : ∑ t ∈ Finset.range (i * 512), (if i * 512 + r ≤ t then F t else 0) = 0 :=
    Finset.sum_eq_zero fun t ht => if_neg (by have := Finset.mem_range.mp ht; omega)
  have h2 : ∑ t ∈ Finset.range 512, (if i * 512 + r ≤ i * 512 + t then F (i * 512 + t) else 0) = ∑ j ∈ Finset.range 512, (if r ≤ j then F (i * 512 + j) else 0) :=
    Finset.sum_congr rfl fun t _ => by simp only [Nat.add_le_add_iff_left]
  have h3 : ∑ t ∈ Finset.range ((15 - i) * 512), (if i * 512 + r ≤ i * 512 + 512 + t then F (i * 512 + 512 + t) else 0) = ∑ t ∈ Finset.range ((15 - i) * 512), F (i * 512 + 512 + t) :=
    Finset.sum_congr rfl fun t _ => if_pos (by omega)
  rw [h1, h2, h3, zero_add]

/-- From a key in the second half of a block, the queries of the first half come before it. -/
theorem second {M : Type} [AddCommMonoid M] (F : ℕ → M) {r : ℕ} (n : ℕ) :
    (∑ j : Fin 256, if r ≤ j.val then F (n + 256 + j.val) else 0) = ∑ j : Fin 512, if 256 + r ≤ j.val then F (n + j.val) else 0 := by
  rw [← Finset.sum_range (n := 256) fun j => if r ≤ j then F (n + 256 + j) else 0,
    ← Finset.sum_range (n := 512) fun j => if 256 + r ≤ j then F (n + j) else 0,
    show (512 : ℕ) = 256 + 256 by norm_num, Finset.sum_range_add]
  have h1 : ∑ t ∈ Finset.range 256, (if 256 + r ≤ t then F (n + t) else 0) = 0 :=
    Finset.sum_eq_zero fun t ht => if_neg (by have := Finset.mem_range.mp ht; omega)
  rw [h1, zero_add]
  refine Finset.sum_congr rfl fun t _ => ?_
  simp only [Nat.add_le_add_iff_left, Nat.add_assoc]

end Cert.Sums
-- ==== Proof.KernelKVIdeal.Array.lean ====
/- The two arrays the kernel leaves, entry by entry, from the four packed arrays it reads. -/
module

public import proofs.«01_k».proof.Proof.Types
public import proofs.«01_k».proof.Proof.KernelKVIdeal.Block
public import proofs.«01_k».proof.Proof.After
public import Idealize.ShloMosaic.Lib.Pipeline.Value

@[expose] public section

set_option maxRecDepth 16384

noncomputable section

namespace Cert.KernelKVIdeal.Dkv

open Idealize.ShloMosaic Idealize.ShloMosaic.TcCoe Idealize.ShloMosaic.Tactic
open Cert.KernelKVIdeal.Gen

variable (m : (ℓ : Loc nD τ sig) → Buf (Elt Ideal) ℓ) (ρ : Dev nD → PrngReg)

/-- The contributions of the queries at or after a row, of packed queries `q`, keys `k`, gradients `o` and values `v`: to the gradient of
    the values, -/
def dva (q k o : BF16 S16x8192x128) (h : Fin 16) (s : Fin 8192) (l : Fin 128) : EReal :=
  ∑ t : Fin 8192, if s.val ≤ t.val then Ideal.exp (∑ l' : Fin 128, k (ix3 h s l') * q (ix3 h t l')) * o (ix3 h t l) else 0

/-- and to that of the keys. -/
def dka (q k o v : BF16 S16x8192x128) (h : Fin 16) (s : Fin 8192) (l : Fin 128) : EReal :=
  ∑ t : Fin 8192, if s.val ≤ t.val then
    Ideal.exp (∑ l' : Fin 128, k (ix3 h s l') * q (ix3 h t l')) * (∑ l' : Fin 128, v (ix3 h s l') * o (ix3 h t l')) * q (ix3 h t l) else 0

/-- The packed arrays as the region finds them, -/
abbrev packQ (c : Dev nD) : BF16 S16x8192x128 := V m c main_v109
abbrev packK (c : Dev nD) : BF16 S16x8192x128 := V m c main_v110
abbrev packO (c : Dev nD) : BF16 S16x8192x128 := V m c main_v111
abbrev packV (c : Dev nD) : BF16 S16x8192x128 := V m c main_v112

/-- and what the arrays of results end at. -/
def resultk (c : Dev nD) : F32 S16x8192x128 := fun y => dka (packQ m c) (packK m c) (packO m c) (packV m c) (y 0) (y 1) (y 2)
def resultv (c : Dev nD) : F32 S16x8192x128 := fun y => dva (packQ m c) (packK m c) (packO m c) (y 0) (y 1) (y 2)

/-- Where each window's block lies. -/
theorem at3 (t : Fin cfg0.N) : win0_3.index t 0 = t.val / 16 ∧ win0_3.index t 1 = 0 ∧ win0_3.index t 2 = 0 := by
  revert t; decide +kernel
theorem at4 (t : Fin cfg0.N) : win0_4.index t 0 = t.val / 16 ∧ win0_4.index t 1 = t.val % 16 ∧ win0_4.index t 2 = 0 := by
  revert t; decide +kernel
theorem at5 (t : Fin cfg0.N) : win0_5.index t 0 = t.val / 16 ∧ win0_5.index t 1 = 0 ∧ win0_5.index t 2 = 0 := by
  revert t; decide +kernel
theorem at6 (t : Fin cfg0.N) : win0_6.index t 0 = t.val / 16 ∧ win0_6.index t 1 = t.val % 16 ∧ win0_6.index t 2 = 0 := by
  revert t; decide +kernel
theorem at7 (t : Fin cfg0.N) : win0_7.index t 0 = t.val / 16 ∧ win0_7.index t 1 = t.val % 16 ∧ win0_7.index t 2 = 0 := by
  revert t; decide +kernel
theorem at8 (t : Fin cfg0.N) : win0_8.index t 0 = t.val / 16 ∧ win0_8.index t 1 = t.val % 16 ∧ win0_8.index t 2 = 0 := by
  revert t; decide +kernel
theorem coord1 (t : Fin cfg0.N) : (grid0.coords t 1).val = t.val % 16 := by
  revert t; decide +kernel

/-- Head `e` of the block's two, and row `r` of its 512. -/
def hd (t : Fin cfg0.N) (e : Fin 2) : Fin 16 := ⟨t.val / 16 * 2 + e.val, by have h : t.val < 128 := lt_of_lt_of_eq t.isLt N_0; omega⟩
def row (t : Fin cfg0.N) (r : Fin 512) : Fin 8192 := ⟨t.val % 16 * 512 + r.val, by omega⟩

theorem blk3 (c : Dev nD) (t : Fin cfg0.N) (e : Fin 2) (s : Fin 8192) (l : Fin 128) :
    (iblk m c 3 t : BF16 S2x8192x128) (ix3 e s l) = packQ m c (ix3 (hd t e) s l) := by
  unfold iblk
  rw [View.read_apply]
  show V m c main_v109 _ = V m c main_v109 _
  congr 1
  funext a
  apply Fin.ext
  match a with
  | ⟨0, _⟩ => show win0_3.index t 0 * 2 + 1 * e.val = t.val / 16 * 2 + e.val; rw [(at3 t).1]; omega
  | ⟨1, _⟩ => show win0_3.index t 1 * 8192 + 1 * s.val = s.val; rw [(at3 t).2.1]; omega
  | ⟨2, _⟩ => show win0_3.index t 2 * 128 + 1 * l.val = l.val; rw [(at3 t).2.2]; omega

theorem blk5 (c : Dev nD) (t : Fin cfg0.N) (e : Fin 2) (s : Fin 8192) (l : Fin 128) :
    (iblk m c 5 t : BF16 S2x8192x128) (ix3 e s l) = packO m c (ix3 (hd t e) s l) := by
  unfold iblk
  rw [View.read_apply]
  show V m c main_v111 _ = V m c main_v111 _
  congr 1
  funext a
  apply Fin.ext
  match a with
  | ⟨0, _⟩ => show win0_5.index t 0 * 2 + 1 * e.val = t.val / 16 * 2 + e.val; rw [(at5 t).1]; omega
  | ⟨1, _⟩ => show win0_5.index t 1 * 8192 + 1 * s.val = s.val; rw [(at5 t).2.1]; omega
  | ⟨2, _⟩ => show win0_5.index t 2 * 128 + 1 * l.val = l.val; rw [(at5 t).2.2]; omega

theorem blk4 (c : Dev nD) (t : Fin cfg0.N) (e : Fin 2) (r : Fin 512) (l : Fin 128) :
    (iblk m c 4 t : BF16 S2x512x128) (ix3 e r l) = packK m c (ix3 (hd t e) (row t r) l) := by
  unfold iblk
  rw [View.read_apply]
  show V m c main_v110 _ = V m c main_v110 _
  congr 1
  funext a
  apply Fin.ext
  match a with
  | ⟨0, _⟩ => show win0_4.index t 0 * 2 + 1 * e.val = t.val / 16 * 2 + e.val; rw [(at4 t).1]; omega
  | ⟨1, _⟩ => show win0_4.index t 1 * 512 + 1 * r.val = t.val % 16 * 512 + r.val; rw [(at4 t).2.1]; omega
  | ⟨2, _⟩ => show win0_4.index t 2 * 128 + 1 * l.val = l.val; rw [(at4 t).2.2]; omega

theorem blk6 (c : Dev nD) (t : Fin cfg0.N) (e : Fin 2) (r : Fin 512) (l : Fin 128) :
    (iblk m c 6 t : BF16 S2x512x128) (ix3 e r l) = packV m c (ix3 (hd t e) (row t r) l) := by
  unfold iblk
  rw [View.read_apply]
  show V m c main_v112 _ = V m c main_v112 _
  congr 1
  funext a
  apply Fin.ext
  match a with
  | ⟨0, _⟩ => show win0_6.index t 0 * 2 + 1 * e.val = t.val / 16 * 2 + e.val; rw [(at6 t).1]; omega
  | ⟨1, _⟩ => show win0_6.index t 1 * 512 + 1 * r.val = t.val % 16 * 512 + r.val; rw [(at6 t).2.1]; omega
  | ⟨2, _⟩ => show win0_6.index t 2 * 128 + 1 * l.val = l.val; rw [(at6 t).2.2]; omega

/-- A row of the block's 512 is one of its first 256 or one of its second. -/
theorem halves {P : Fin 512 → Prop} (h0 : ∀ r : Fin 256, P (sub 0 r)) (h1 : ∀ r : Fin 256, P (sub 256 r)) (r : Fin 512) : P r := by
  by_cases h : r.val < 256
  · have e : sub 0 ⟨r.val, h⟩ = r := Fin.ext (by show (0 + r.val) % 512 = r.val; omega)
    exact e ▸ h0 ⟨r.val, h⟩
  · have e : sub 256 ⟨r.val - 256, by omega⟩ = r := Fin.ext (by show (256 + (r.val - 256)) % 512 = r.val; omega)
    exact e ▸ h1 ⟨r.val - 256, by omega⟩

/-- The two halves' sums are both the sum over the queries from the row on. -/
theorem sums0 (G : Fin 8192 → EReal) {i : ℕ} (hi : i < 16) (r : Fin 256) :
    (∑ j : Fin 512, if r.val ≤ j.val then G (qry (i * 512) j) else 0) + ∑ n ∈ Finset.range (15 - i), ∑ j : Fin 512, G (qry ((i + 1 + n) * 512) j)
      = ∑ t : Fin 8192, if i * 512 + (sub 0 r).val ≤ t.val then G t else 0 := by
  have e : (sub 0 r).val = r.val := by show (0 + r.val) % 512 = r.val; omega
  rw [e]
  refine (Sums.after (fun n => G ⟨n % 8192, Nat.mod_lt _ (by decide)⟩) hi (by omega : r.val < 512)).trans ?_
  refine Finset.sum_congr rfl fun t _ => ?_
  rw [(Fin.ext (Nat.mod_eq_of_lt t.isLt) : (⟨t.val % 8192, Nat.mod_lt _ (by decide)⟩ : Fin 8192) = t)]

theorem sums1 (G : Fin 8192 → EReal) {i : ℕ} (hi : i < 16) (r : Fin 256) :
    (∑ j : Fin 256, if r.val ≤ j.val then G (qry (i * 512 + 256) j) else 0) + ∑ n ∈ Finset.range (15 - i), ∑ j : Fin 512, G (qry ((i + 1 + n) * 512) j)
      = ∑ t : Fin 8192, if i * 512 + (sub 256 r).val ≤ t.val then G t else 0 := by
  have e : (sub 256 r).val = 256 + r.val := by show (256 + r.val) % 512 = 256 + r.val; omega
  rw [e]
  refine (congrArg (· + _) (Sums.second (fun n => G ⟨n % 8192, Nat.mod_lt _ (by decide)⟩) (i * 512))).trans ?_
  refine (Sums.after (fun n => G ⟨n % 8192, Nat.mod_lt _ (by decide)⟩) hi (by omega : 256 + r.val < 512)).trans ?_
  refine Finset.sum_congr rfl fun t _ => ?_
  rw [(Fin.ext (Nat.mod_eq_of_lt t.isLt) : (⟨t.val % 8192, Nat.mod_lt _ (by decide)⟩ : Fin 8192) = t)]

/-- Each point's blocks are the blocks of the results there. -/
theorem dvAt_apply (c : Dev nD) (t : Fin cfg0.N) (e : Fin 2) (r : Fin 512) (l : Fin 128) :
    dvAt m c t (ix3 e r l) = dva (packQ m c) (packK m c) (packO m c) (hd t e) (row t r) l := by
  have hi : (grid0.coords t 1).val < 16 := by rw [coord1]; omega
  have key : ∀ r : Fin 512, dvAt m c t (ix3 e r l) =
      ∑ n : Fin 8192, if (grid0.coords t 1).val * 512 + r.val ≤ n.val then gv (iblk m c 3 t) (iblk m c 5 t) (iblk m c 4 t) e r l n else 0 := by
    intro r
    induction r using halves with
    | h0 r => exact (blockv (e := e) (r := r) (l := l) ..).1.trans (sums0 (gv (iblk m c 3 t) (iblk m c 5 t) (iblk m c 4 t) e (sub 0 r) l) hi r)
    | h1 r => exact (blockv (e := e) (r := r) (l := l) ..).2.trans (sums1 (gv (iblk m c 3 t) (iblk m c 5 t) (iblk m c 4 t) e (sub 256 r) l) hi r)
  rw [key]
  unfold dva
  refine Finset.sum_congr rfl fun n _ => ?_
  rw [coord1]
  unfold gv
  simp only [blk3, blk4, blk5, blk6]
  rfl

theorem dkAt_apply (c : Dev nD) (t : Fin cfg0.N) (e : Fin 2) (r : Fin 512) (l : Fin 128) :
    dkAt m c t (ix3 e r l) = dka (packQ m c) (packK m c) (packO m c) (packV m c) (hd t e) (row t r) l := by
  have hi : (grid0.coords t 1).val < 16 := by rw [coord1]; omega
  have key : ∀ r : Fin 512, dkAt m c t (ix3 e r l) =
      ∑ n : Fin 8192, if (grid0.coords t 1).val * 512 + r.val ≤ n.val then gk (iblk m c 3 t) (iblk m c 5 t) (iblk m c 4 t) (iblk m c 6 t) e r l n else 0 := by
    intro r
    induction r using halves with
    | h0 r => exact (blockk (e := e) (r := r) (l := l) ..).1.trans (sums0 (gk (iblk m c 3 t) (iblk m c 5 t) (iblk m c 4 t) (iblk m c 6 t) e (sub 0 r) l) hi r)
    | h1 r => exact (blockk (e := e) (r := r) (l := l) ..).2.trans (sums1 (gk (iblk m c 3 t) (iblk m c 5 t) (iblk m c 4 t) (iblk m c 6 t) e (sub 256 r) l) hi r)
  rw [key]
  unfold dka
  refine Finset.sum_congr rfl fun n _ => ?_
  rw [coord1]
  unfold gk
  simp only [blk3, blk4, blk5, blk6]
  rfl

theorem emb7 (c : Dev nD) (t : Fin cfg0.N) (e : Fin 2) (r : Fin 512) (l : Fin 128) :
    ((cfg0.win 7).blk t).view.emb (ix3 e r l) = (ix3 (hd t e) (row t r) l : S16x8192x128.Idx) := by
  funext a
  apply Fin.ext
  match a with
  | ⟨0, _⟩ => show win0_7.index t 0 * 2 + 1 * e.val = t.val / 16 * 2 + e.val; rw [(at7 t).1]; omega
  | ⟨1, _⟩ => show win0_7.index t 1 * 512 + 1 * r.val = t.val % 16 * 512 + r.val; rw [(at7 t).2.1]; omega
  | ⟨2, _⟩ => show win0_7.index t 2 * 128 + 1 * l.val = l.val; rw [(at7 t).2.2]; omega

theorem flushed7 (c : Dev nD) (t : Fin cfg0.N) :
    (dats m 0 c).flushed 7 t = ((cfg0.win 7).blk t).view.read (Elt Ideal) (resultk m c) := by
  show (cfg0.win 7).cut (grid0.coords t) ((dats m 0 c).after 7 t) = _
  rw [after0_7]
  have key : ∀ y : S2x512x128.Idx, dkAt m c t y = resultk m c (((cfg0.win 7).blk t).view.emb y) := fun y => by
    rw [ValueIdx.eq_ix3 y]
    refine (dkAt_apply m c t (y 0) (y 1) (y 2)).trans ?_
    exact (congrArg (resultk m c) (emb7 c t (y 0) (y 1) (y 2))).symm
  exact funext key

/-- The array ends at the result. -/
theorem final7 (c : Dev nD) : (dats m 0 c).arrAt 7 cfg0.N = resultk m c :=
  (dats m 0 c).arrAt_eq_of_cover 7 (resultk m c) (fun t _ => flushed7 m c t) fun y => by
    have h0 : (y 0 : Nat) < 16 := (y 0).isLt
    have h1 : (y 1 : Nat) < 8192 := (y 1).isLt
    have h2 : (y 2 : Nat) < 128 := (y 2).isLt
    have hN : cfg0.N = 128 := N_0
    refine ⟨⟨(y 0 : Nat) / 2 * 16 + (y 1 : Nat) / 512, by omega⟩, ?_, ?_⟩
    · exact flush0_7 _
    · generalize ht : (⟨(y 0 : Nat) / 2 * 16 + (y 1 : Nat) / 512, by omega⟩ : Fin cfg0.N) = t
      have hv : t.val = (y 0 : Nat) / 2 * 16 + (y 1 : Nat) / 512 := by rw [← ht]
      show y ∈ ((View.whole main_v113_0).slice (win0_7.rect t)).set
      rw [View.set_slice_whole, Rect.mem_set_unit]
      intro a
      match a with
      | ⟨0, _⟩ => show win0_7.index t 0 * 2 ≤ (y 0 : Nat) ∧ (y 0 : Nat) < win0_7.index t 0 * 2 + 2; rw [(at7 t).1]; omega
      | ⟨1, _⟩ => show win0_7.index t 1 * 512 ≤ (y 1 : Nat) ∧ (y 1 : Nat) < win0_7.index t 1 * 512 + 512; rw [(at7 t).2.1]; omega
      | ⟨2, _⟩ => show win0_7.index t 2 * 128 ≤ (y 2 : Nat) ∧ (y 2 : Nat) < win0_7.index t 2 * 128 + 128; rw [(at7 t).2.2]; omega

theorem emb8 (c : Dev nD) (t : Fin cfg0.N) (e : Fin 2) (r : Fin 512) (l : Fin 128) :
    ((cfg0.win 8).blk t).view.emb (ix3 e r l) = (ix3 (hd t e) (row t r) l : S16x8192x128.Idx) := by
  funext a
  apply Fin.ext
  match a with
  | ⟨0, _⟩ => show win0_8.index t 0 * 2 + 1 * e.val = t.val / 16 * 2 + e.val; rw [(at8 t).1]; omega
  | ⟨1, _⟩ => show win0_8.index t 1 * 512 + 1 * r.val = t.val % 16 * 512 + r.val; rw [(at8 t).2.1]; omega
  | ⟨2, _⟩ => show win0_8.index t 2 * 128 + 1 * l.val = l.val; rw [(at8 t).2.2]; omega

theorem flushed8 (c : Dev nD) (t : Fin cfg0.N) :
    (dats m 0 c).flushed 8 t = ((cfg0.win 8).blk t).view.read (Elt Ideal) (resultv m c) := by
  show (cfg0.win 8).cut (grid0.coords t) ((dats m 0 c).after 8 t) = _
  rw [after0_8]
  have key : ∀ y : S2x512x128.Idx, dvAt m c t y = resultv m c (((cfg0.win 8).blk t).view.emb y) := fun y => by
    rw [ValueIdx.eq_ix3 y]
    refine (dvAt_apply m c t (y 0) (y 1) (y 2)).trans ?_
    exact (congrArg (resultv m c) (emb8 c t (y 0) (y 1) (y 2))).symm
  exact funext key

/-- The array ends at the result. -/
theorem final8 (c : Dev nD) : (dats m 0 c).arrAt 8 cfg0.N = resultv m c :=
  (dats m 0 c).arrAt_eq_of_cover 8 (resultv m c) (fun t _ => flushed8 m c t) fun y => by
    have h0 : (y 0 : Nat) < 16 := (y 0).isLt
    have h1 : (y 1 : Nat) < 8192 := (y 1).isLt
    have h2 : (y 2 : Nat) < 128 := (y 2).isLt
    have hN : cfg0.N = 128 := N_0
    refine ⟨⟨(y 0 : Nat) / 2 * 16 + (y 1 : Nat) / 512, by omega⟩, ?_, ?_⟩
    · exact flush0_8 _
    · generalize ht : (⟨(y 0 : Nat) / 2 * 16 + (y 1 : Nat) / 512, by omega⟩ : Fin cfg0.N) = t
      have hv : t.val = (y 0 : Nat) / 2 * 16 + (y 1 : Nat) / 512 := by rw [← ht]
      show y ∈ ((View.whole main_v113_1).slice (win0_8.rect t)).set
      rw [View.set_slice_whole, Rect.mem_set_unit]
      intro a
      match a with
      | ⟨0, _⟩ => show win0_8.index t 0 * 2 ≤ (y 0 : Nat) ∧ (y 0 : Nat) < win0_8.index t 0 * 2 + 2; rw [(at8 t).1]; omega
      | ⟨1, _⟩ => show win0_8.index t 1 * 512 ≤ (y 1 : Nat) ∧ (y 1 : Nat) < win0_8.index t 1 * 512 + 512; rw [(at8 t).2.1]; omega
      | ⟨2, _⟩ => show win0_8.index t 2 * 128 ≤ (y 2 : Nat) ∧ (y 2 : Nat) < win0_8.index t 2 * 128 + 128; rw [(at8 t).2.2]; omega

end Cert.KernelKVIdeal.Dkv
-- ==== Proof.KernelKVIdeal.Host.lean ====
/- The packed arrays the region reads, entry by entry, from the five arguments. -/
module

public import proofs.«01_k».proof.Proof.Types
public import proofs.«01_k».proof.Proof.KernelKVIdeal.Array
public import proofs.«01_k».proof.Proof.KernelIdeal.Host
public import proofs.«01_k».proof.Proof.Attention
public import Idealize.ShloMosaic.Lib.StableHlo.ReadAt

@[expose] public section

noncomputable section

namespace Cert.KernelKVIdeal.Dkv

open Idealize.ShloMosaic Idealize.ShloMosaic.TcCoe Idealize.ShloMosaic.Tactic
open Cert.KernelKVIdeal.Gen
open Cert.KernelIdeal.Dq (lane catQ_of catK_of catO_of catV_of reshape_at lse_vec z_vec max_vec eighth)

/-- The host lines before the region, in three parts: the scores, the saved values, the packing. -/
abbrev opsS : List (HloOp τ sig (Elt Ideal)) := hostOps0 ++ hostOps0_1
abbrev opsA : List (HloOp τ sig (Elt Ideal)) := (hostOps0_2).take 18
abbrev opsB : List (HloOp τ sig (Elt Ideal)) := (hostOps0_2).drop 18

section parts
variable (U : Valuation τ sig (Elt Ideal)) (h : Fin 16) (t : Fin 8192) (l : Fin 128)

/-- Entries of buffers of the two shapes of the arguments. -/
abbrev e3 (x : F32 S16x8192x64) (h : Fin 16) (t : Fin 8192) (j : Fin 64) : EReal := x (ix3 h t j)
abbrev e2 (x : F32 S16x8192) (h : Fin 16) (t : Fin 8192) : EReal := x (ix2 h t)

theorem packQ_at :
    (StableHlo.after opsB U (Proc.devRef .tc main_v109) : BF16 S16x8192x128) (ix3 h t l) =
      lane (fun x => e3 (U (Proc.devRef .tc main_arg0)) h t x * eighth)
        (let f := e2 (U (Proc.devRef .tc main_arg3)) h t
         let e := e2 (U (Proc.devRef .tc main_v25)) h t
         ![f, f - f, f - f - (f - f), 1, 1, 1, -e, -(e - e), -(e - e - (e - e)), 0]) l := by
  simp only [opsB, hostOps0_2, List.drop_succ_cons, List.drop_zero]
  after_reads_simp
  refine catQ_of h t _ _ _ _ _ _ _ _ _ _ _ _ _ _ _ _ _ (fun j => ?_) ?_ ?_ ?_ (fun j => ?_) ?_ ?_ ?_ (fun j => ?_) l
  · show (StableHlo.upto _ U 46 (Proc.devRef .tc main_v60) : F32 S16x8192x64) (ix3 h t j) = _
    after_reads_at
  · show (StableHlo.upto _ U 46 (Proc.devRef .tc main_v63) : F32 S16x8192x1) (ix3 h t 0) = _
    after_reads_at
  · show (StableHlo.upto _ U 46 (Proc.devRef .tc main_v64) : F32 S16x8192x1) (ix3 h t 0) = _
    after_reads_at
  · show (StableHlo.upto _ U 46 (Proc.devRef .tc main_v65) : F32 S16x8192x1) (ix3 h t 0) = _
    after_reads_at
  · show (StableHlo.upto _ U 46 (Proc.devRef .tc main_v66) : F32 S16x8192x3) (ix3 h t j) = _
    after_reads_at
  · show (StableHlo.upto _ U 46 (Proc.devRef .tc main_v68) : F32 S16x8192x1) (ix3 h t 0) = _
    after_reads_at
  · show (StableHlo.upto _ U 46 (Proc.devRef .tc main_v70) : F32 S16x8192x1) (ix3 h t 0) = _
    after_reads_at
  · show (StableHlo.upto _ U 46 (Proc.devRef .tc main_v72) : F32 S16x8192x1) (ix3 h t 0) = _
    after_reads_at
  · show (StableHlo.upto _ U 46 (Proc.devRef .tc main_v73) : F32 S16x8192x55) (ix3 h t j) = _
    after_reads_at

theorem packK_at :
    (StableHlo.after opsB U (Proc.devRef .tc main_v110) : BF16 S16x8192x128) (ix3 h t l) =
      lane (fun x => e3 (U (Proc.devRef .tc main_arg1)) h t x)
        (let f := e2 (U (Proc.devRef .tc main_arg3)) h t
         ![1, 1, 1, -f, -(f - f), -(f - f - (f - f)), 1, 1, 1, 0]) l := by
  simp only [opsB, hostOps0_2, List.drop_succ_cons, List.drop_zero]
  after_reads_simp
  refine catK_of h t _ _ _ _ _ _ _ _ _ _ _ _ _ (fun j => ?_) (fun j => ?_) ?_ ?_ ?_ (fun j => ?_) (fun j => ?_) l
  · show (StableHlo.upto _ U 59 (Proc.devRef .tc main_v62) : F32 S16x8192x64) (ix3 h t j) = _
    after_reads_at
  · show (StableHlo.upto _ U 59 (Proc.devRef .tc main_v75) : F32 S16x8192x3) (ix3 h t j) = _
    after_reads_at
  · show (StableHlo.upto _ U 59 (Proc.devRef .tc main_v77) : F32 S16x8192x1) (ix3 h t 0) = _
    after_reads_at
  · show (StableHlo.upto _ U 59 (Proc.devRef .tc main_v79) : F32 S16x8192x1) (ix3 h t 0) = _
    after_reads_at
  · show (StableHlo.upto _ U 59 (Proc.devRef .tc main_v81) : F32 S16x8192x1) (ix3 h t 0) = _
    after_reads_at
  · show (StableHlo.upto _ U 59 (Proc.devRef .tc main_v82) : F32 S16x8192x3) (ix3 h t j) = _
    after_reads_at
  · show (StableHlo.upto _ U 59 (Proc.devRef .tc main_v83) : F32 S16x8192x55) (ix3 h t j) = _
    after_reads_at

theorem packO_at :
    (StableHlo.after opsB U (Proc.devRef .tc main_v111) : BF16 S16x8192x128) (ix3 h t l) =
      lane (fun x => e3 (U (Proc.devRef .tc main_arg4)) h t x)
        (let e := e2 (U (Proc.devRef .tc main_v30)) h t
         ![e, e - e, e - e - (e - e), 0, 0, 0, 0, 0, 0, 0]) l := by
  simp only [opsB, hostOps0_2, List.drop_succ_cons, List.drop_zero]
  after_reads_simp
  refine catO_of h t _ _ _ _ _ _ _ _ _ (fun j => ?_) ?_ ?_ ?_ (fun j => ?_) l
  · show (StableHlo.upto _ U 73 (Proc.devRef .tc main_arg4) : F32 S16x8192x64) (ix3 h t j) = _
    after_reads_at
  · show (StableHlo.upto _ U 73 (Proc.devRef .tc main_v90) : F32 S16x8192x1) (ix3 h t 0) = _
    after_reads_at
  · show (StableHlo.upto _ U 73 (Proc.devRef .tc main_v91) : F32 S16x8192x1) (ix3 h t 0) = _
    after_reads_at
  · show (StableHlo.upto _ U 73 (Proc.devRef .tc main_v92) : F32 S16x8192x1) (ix3 h t 0) = _
    after_reads_at
  · show (StableHlo.upto _ U 73 (Proc.devRef .tc main_v93) : F32 S16x8192x61) (ix3 h t j) = _
    after_reads_at

theorem packV_at :
    (StableHlo.after opsB U (Proc.devRef .tc main_v112) : BF16 S16x8192x128) (ix3 h t l) =
      lane (fun x => e3 (U (Proc.devRef .tc main_arg2)) h t x)
        (![-1, -1, -1, 1, 0, 0, 0, 0, 0, 0]) l := by
  simp only [opsB, hostOps0_2, List.drop_succ_cons, List.drop_zero]
  after_reads_simp
  refine catV_of h t _ _ _ _ _ _ _ (fun j => ?_) (fun j => ?_) ?_ (fun j => ?_) l
  · show (StableHlo.upto _ U 67 (Proc.devRef .tc main_arg2) : F32 S16x8192x64) (ix3 h t j) = _
    after_reads_at
  · show (StableHlo.upto _ U 67 (Proc.devRef .tc main_v86) : F32 S16x8192x3) (ix3 h t j) = _
    after_reads_at
  · show (StableHlo.upto _ U 67 (Proc.devRef .tc main_v87) : F32 S16x8192x1) (ix3 h t 0) = _
    after_reads_at
  · show (StableHlo.upto _ U 67 (Proc.devRef .tc main_v88) : F32 S16x8192x60) (ix3 h t j) = _
    after_reads_at

variable (c : EReal) (q k v o : Fin 8192 → Fin 64 → EReal) (f : Fin 8192 → EReal)
  (hs : ∀ s, (U (Proc.devRef .tc main_v15) : F32 S16x8192x8192) (ix3 h t s) = Attn.masked c q k f t s)
include hs

/-- The saved values, from the scores: the logarithm of the sum, -/
theorem lse_at : e2 (StableHlo.after opsA U (Proc.devRef .tc main_v25)) h t = Attn.lse c q k f t := by
  simp only [opsA, hostOps0_2, List.take_succ_cons, List.take_zero]
  after_reads_simp
  refine (reshape_at _ h t).trans ((lse_vec _ _ h t).trans ?_)
  rw [z_vec, max_vec]
  simp only [hs, Attn.ofBits_ninf]
  rfl

/-- and the product of the gradient with the forward result. -/
theorem delta_at (hv : ∀ s x, e3 (U (Proc.devRef .tc main_arg2)) h s x = v s x) (ho : ∀ x, e3 (U (Proc.devRef .tc main_arg4)) h t x = o t x) :
    e2 (StableHlo.after opsA U (Proc.devRef .tc main_v30)) h t = Attn.delta c q k v o f t := by
  simp only [opsA, hostOps0_2, List.take_succ_cons, List.take_zero]
  after_reads_at
  simp only [hs, Attn.ofBits_ninf]
  simp only [e3] at hv ho
  simp only [hv, ho]
  rfl
omit hs

variable (m : (ℓ : Loc nD τ sig) → Buf (Elt Ideal) ℓ) (c : Dev nD)

/-- The scores, from the arguments. -/
theorem scores_at (s : Fin 8192) : (StableHlo.after opsS (fun b => m (c, b)) (Proc.devRef .tc main_v15) : F32 S16x8192x8192) (ix3 h t s) =
    Attn.masked eighth (e3 (m (c, Proc.devRef .tc main_arg0)) h) (e3 (m (c, Proc.devRef .tc main_arg1)) h) (e2 (m (c, Proc.devRef .tc main_arg3)) h) t s := by
  simp only [opsS, hostOps0, hostOps0_1, List.cons_append, List.nil_append]
  after_reads_at
  refine (Attn.select_sle (by norm_num) s t _ _).trans ?_
  unfold Attn.masked
  refine if_congr Iff.rfl rfl ?_
  exact Attn.ofBits_ninf

/-- The arguments pass the host lines unchanged. -/
theorem args_at (r : Ref sig .tc) (hr : r = main_arg0 ∨ r = main_arg1 ∨ r = main_arg2 ∨ r = main_arg3 ∨ r = main_arg4) :
    StableHlo.after opsA (StableHlo.after opsS U) (Proc.devRef .tc r) = U (Proc.devRef .tc r) := by
  simp only [opsA, opsS, hostOps0, hostOps0_1, hostOps0_2, List.take_succ_cons, List.take_zero, List.cons_append, List.nil_append]
  rcases hr with rfl | rfl | rfl | rfl | rfl <;> after_reads_simp

/-- What the region finds in a buffer, through the three parts of the host lines. -/
theorem V_parts (b : Ref sig .tc) : V m c b = StableHlo.after opsB (StableHlo.after opsA (StableHlo.after opsS fun b => m (c, b))) (Proc.devRef .tc b) := by
  have e : (List.flatten [hostOps0, hostOps0_1, hostOps0_2] : List (HloOp τ sig (Elt Ideal))) = opsS ++ (opsA ++ opsB) := by
    rw [List.take_append_drop]; simp only [List.flatten_cons, List.flatten_nil, List.append_nil, List.append_assoc]
  unfold V V0
  rw [e, StableHlo.after_append, StableHlo.after_append]

end parts
end Cert.KernelKVIdeal.Dkv
-- ==== Proof.KernelKVIdeal.Tail.lean ====
/- What the host lines after the region make of the kernel's two arrays. -/
module

public import proofs.«01_k».proof.Proof.KernelKVIdeal.Host

@[expose] public section

noncomputable section

namespace Cert.KernelKVIdeal.Dkv

open Idealize.ShloMosaic Idealize.ShloMosaic.TcCoe Idealize.ShloMosaic.Tactic
open Cert.KernelKVIdeal.Gen
open Cert.KernelIdeal.Dq (reshape_at)

abbrev e128 (x : Vec Ideal S16x8192x128 .f32) (h : Fin 16) (t : Fin 8192) (l : Fin 128) : EReal := x (ix3 h t l)

/-- The lanes of data of both, -/
theorem tail_k (U : Valuation τ sig (Elt Ideal)) (h : Fin 16) (t : Fin 8192) (x : Fin 64) :
    e3 (StableHlo.after (List.flatten [hostOps1]) U (Proc.devRef .tc main_v114)) h t x =
      e128 (U (Proc.devRef .tc main_v113_0)) h t ⟨x.val, by omega⟩ := by
  simp only [hostOps1, List.flatten_cons, List.flatten_nil, List.append_nil, e3, e128]
  after_reads_at

theorem tail_v (U : Valuation τ sig (Elt Ideal)) (h : Fin 16) (t : Fin 8192) (x : Fin 64) :
    e3 (StableHlo.after (List.flatten [hostOps1]) U (Proc.devRef .tc main_v118)) h t x =
      e128 (U (Proc.devRef .tc main_v113_1)) h t ⟨x.val, by omega⟩ := by
  simp only [hostOps1, List.flatten_cons, List.flatten_nil, List.append_nil, e3, e128]
  after_reads_at

theorem column (x : Vec Ideal S16x8192x1 .f32) (h : Fin 16) (t : Fin 8192) :
    e2 (Host.negf (shapeCast S16x8192 x shapeCasts_S16x8192x1_S16x8192 : FVec Ideal S16x8192 .f32)) h t = -(x (ix3 h t 0) : EReal) :=
  congrArg (fun z : EReal => -z) (reshape_at x h t)

/-- and the negated lane of the sums. -/
theorem tail_scalar (U : Valuation τ sig (Elt Ideal)) (h : Fin 16) (t : Fin 8192) :
    e2 (StableHlo.after (List.flatten [hostOps1]) U (Proc.devRef .tc main_v117)) h t =
      -e128 (U (Proc.devRef .tc main_v113_0)) h t ⟨67, by decide⟩ := by
  simp only [hostOps1, List.flatten_cons, List.flatten_nil, List.append_nil, e2, e128]
  after_reads_simp
  refine (column _ h t).trans ?_
  pointwise

variable (m : (ℓ : Loc nD τ sig) → Buf (Elt Ideal) ℓ) (ρ : Dev nD → PrngReg)

/-- The arrays as the region leaves them. -/
abbrev left (c : Dev nD) : Valuation τ sig (Elt Ideal) :=
  Pipeline.withArrays spec0 c (V0 m c) fun w => (dats m 0 c).arrAt w cfg0.N

theorem left_k (c : Dev nD) : left m c (Proc.devRef .tc main_v113_0) = resultk m c :=
  (Pipeline.withArrays_arr spec0 (by decide) c (V0 m c) (fun w => (dats m 0 c).arrAt w cfg0.N) 7).trans (final7 m c)
theorem left_v (c : Dev nD) : left m c (Proc.devRef .tc main_v113_1) = resultv m c :=
  (Pipeline.withArrays_arr spec0 (by decide) c (V0 m c) (fun w => (dats m 0 c).arrAt w cfg0.N) 8).trans (final8 m c)

/-- The three results the program ends with. -/
def dk (c : Dev nD) : Vec Ideal S16x8192x64 .f32 := fun y => resultk m c (ix3 (y 0) (y 1) ⟨(y 2).val, Nat.lt_trans (y 2).isLt (by decide)⟩)
def df (c : Dev nD) : Vec Ideal S16x8192 .f32 := fun y => -(resultk m c (ix3 (y 0) (y 1) ⟨67, by decide⟩) : EReal)
def dv (c : Dev nD) : Vec Ideal S16x8192x64 .f32 := fun y => resultv m c (ix3 (y 0) (y 1) ⟨(y 2).val, Nat.lt_trans (y 2).isLt (by decide)⟩)

theorem dk_eq (c : Dev nD) : Pipeline.afterTail₀ cfgs (dats m) 0 (V0 m) [hostOps1] c main_v114 = dk m c := by
  refine funext fun (y : S16x8192x64.Idx) => ?_
  rw [ValueIdx.eq_ix3 y]
  refine (tail_k (left m c) _ _ _).trans ?_
  rw [left_k]
  rfl

theorem dv_eq (c : Dev nD) : Pipeline.afterTail₀ cfgs (dats m) 0 (V0 m) [hostOps1] c main_v118 = dv m c := by
  refine funext fun (y : S16x8192x64.Idx) => ?_
  rw [ValueIdx.eq_ix3 y]
  refine (tail_v (left m c) _ _ _).trans ?_
  rw [left_v]
  rfl

theorem df_eq (c : Dev nD) : Pipeline.afterTail₀ cfgs (dats m) 0 (V0 m) [hostOps1] c main_v117 = df m c := by
  refine funext fun (y : S16x8192.Idx) => ?_
  rw [ValueIdx.eq_ix2 y]
  refine (tail_scalar (left m c) _ _).trans ?_
  rw [left_k]
  rfl

/-- The program's run: the results, and the arguments as they were. -/
theorem run : θ_run defs (onTc (τ := τ) (main)) ⟨m, fun _ => 0, ρ⟩ (fun r => ∀ c : Dev nD,
      r.2.mem (c.tc.loc main_v114) = dk m c
      ∧ r.2.mem (c.tc.loc main_v117) = df m c
      ∧ r.2.mem (c.tc.loc main_v118) = dv m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun _ h c =>
    ⟨((h.2 c).2 main_v114 (Pipeline.mem_restRefs_of main_v114 (by decide) (by decide))).trans (dk_eq m c),
      ((h.2 c).2 main_v117 (Pipeline.mem_restRefs_of main_v117 (by decide) (by decide))).trans (df_eq m c),
      ((h.2 c).2 main_v118 (Pipeline.mem_restRefs_of main_v118 (by decide) (by decide))).trans (dv_eq m c), h.1 c⟩)
    (θ_run_and (unchanged m ρ) (run_main m ρ))

end Cert.KernelKVIdeal.Dkv
-- ==== Proof.Weight.lean ====
/- The weights of attention, divided by their sum and from the saved logarithm, over the reals. -/
module

public import proofs.«01_k».proof.Proof.Attention

@[expose] public section

noncomputable section

namespace Cert.Attn

open Idealize.ShloMosaic

variable {N d : ℕ}

/-- The weight of a key for a query from the saved logarithm. -/
def weight (c : EReal) (q k : Fin N → Fin d → EReal) (f : Fin N → EReal) (t s : Fin N) : EReal :=
  if s.val ≤ t.val then Ideal.exp (logit c q k f t s - lse c q k f t) else 0

variable (c : ℝ) (q k : Fin N → Fin d → ℝ) (f : Fin N → ℝ) (t s : Fin N) (T : ℝ)
  (hT : top c (fun t x => q t x) (fun t x => k t x) (fun t => f t) t = T)
include hT

theorem weight_real : weight c (fun t x => q t x) (fun t x => k t x) (fun t => f t) t s = (exR c q k f t s T * (1 / zR c q k f t T) : ℝ) := by
  have hz := zR_pos c q k f t T
  rw [weight]
  split_ifs with hs
  · rw [logit_real, lse_real c q k f t T hT, ← EReal.coe_sub, Ideal.exp_coe]
    congr 1
    rw [exR, if_pos hs, ← sub_sub, Real.exp_sub, Real.exp_log hz]; ring
  · rw [exR, if_neg hs]; simp

/-- The same as the exponential over the sum. -/
theorem div_real : Ideal.div (ex c (fun t x => q t x) (fun t x => k t x) (fun t => f t) t s) (z c (fun t x => q t x) (fun t x => k t x) (fun t => f t) t) =
    (exR c q k f t s T * (1 / zR c q k f t T) : ℝ) := by
  rw [ex_real c q k f t s T hT, z_real c q k f t T hT, Ideal.div_coe (zR_pos c q k f t T).ne', ← EReal.coe_mul]

end Cert.Attn
-- ==== Proof.KernelKVIdeal.Result.lean ====
/- The kernel's two arrays over real arguments. -/
module

public import proofs.«01_k».proof.Proof.KernelKVIdeal.Host
public import proofs.«01_k».proof.Proof.Weight

@[expose] public section

set_option maxRecDepth 16384

noncomputable section

namespace Cert.KernelKVIdeal.Dkv

open Idealize.ShloMosaic Idealize.ShloMosaic.TcCoe Idealize.ShloMosaic.Tactic
open Cert.KernelKVIdeal.Gen
open Cert.KernelIdeal.Dq (lane lane_data lane_dot eighth)

variable (m : (ℓ : Loc nD τ sig) → Buf (Elt Ideal) ℓ) (c : Dev nD)
  (q k v o : Fin 16 → Fin 8192 → Fin 64 → ℝ) (f : Fin 16 → Fin 8192 → ℝ)

/-- The five arguments are these real arrays. -/
structure Reals : Prop where
  hq : ∀ h, e3 (m (c, Proc.devRef .tc main_arg0)) h = fun t x => (q h t x : EReal)
  hk : ∀ h, e3 (m (c, Proc.devRef .tc main_arg1)) h = fun t x => (k h t x : EReal)
  hv : ∀ h, e3 (m (c, Proc.devRef .tc main_arg2)) h = fun t x => (v h t x : EReal)
  hf : ∀ h, e2 (m (c, Proc.devRef .tc main_arg3)) h = fun t => (f h t : EReal)
  ho : ∀ h, e3 (m (c, Proc.devRef .tc main_arg4)) h = fun t x => (o h t x : EReal)

variable {m c q k v o f} (R : Reals m c q k v o f) (h : Fin 16) (t s : Fin 8192) (l : Fin 128)
include R

theorem scores (s : Fin 8192) : (StableHlo.after opsS (fun b => m (c, b)) (Proc.devRef .tc main_v15) : Vec Ideal S16x8192x8192 .f32) (ix3 h t s) =
    Attn.masked eighth (fun t x => q h t x) (fun t x => k h t x) (fun t => f h t) t s := by
  rw [scores_at, R.hq, R.hk, R.hf]

abbrev before : Valuation τ sig (Elt Ideal) := StableHlo.after opsA (StableHlo.after opsS fun b => m (c, b))

theorem lse_val : e2 (before (m := m) (c := c) (Proc.devRef .tc main_v25)) h t =
    Attn.lse eighth (fun t x => q h t x) (fun t x => k h t x) (fun t => f h t) t :=
  lse_at _ h t _ _ _ _ (scores R h t)

omit R in
theorem scores_args (r : Ref sig .tc) (hr : r = main_arg2 ∨ r = main_arg4) :
    StableHlo.after opsS (fun b => m (c, b)) (Proc.devRef .tc r) = m (c, Proc.devRef .tc r) := by
  simp only [opsS, hostOps0, hostOps0_1, List.cons_append, List.nil_append]
  rcases hr with rfl | rfl <;> after_reads_simp

theorem delta_val : e2 (before (m := m) (c := c) (Proc.devRef .tc main_v30)) h t =
    Attn.delta eighth (fun t x => q h t x) (fun t x => k h t x) (fun t x => v h t x) (fun t x => o h t x) (fun t => f h t) t :=
  delta_at _ h t _ _ _ _ _ _ (scores R h t)
    (fun s x => by rw [scores_args _ (.inl rfl)]; exact congrFun (congrFun (R.hv h) s) x)
    (fun x => by rw [scores_args _ (.inr rfl)]; exact congrFun (congrFun (R.ho h) t) x)

theorem before_q (x : Fin 64) : e3 (before (m := m) (c := c) (Proc.devRef .tc main_arg0)) h t x = q h t x := by
  rw [before, args_at _ _ (by simp)]; exact congrFun (congrFun (R.hq h) t) x
theorem before_k (x : Fin 64) : e3 (before (m := m) (c := c) (Proc.devRef .tc main_arg1)) h t x = k h t x := by
  rw [before, args_at _ _ (by simp)]; exact congrFun (congrFun (R.hk h) t) x
theorem before_v (x : Fin 64) : e3 (before (m := m) (c := c) (Proc.devRef .tc main_arg2)) h t x = v h t x := by
  rw [before, args_at _ _ (by simp)]; exact congrFun (congrFun (R.hv h) t) x
theorem before_o (x : Fin 64) : e3 (before (m := m) (c := c) (Proc.devRef .tc main_arg4)) h t x = o h t x := by
  rw [before, args_at _ _ (by simp)]; exact congrFun (congrFun (R.ho h) t) x
theorem before_f : e2 (before (m := m) (c := c) (Proc.devRef .tc main_arg3)) h t = f h t := by
  rw [before, args_at _ _ (by simp)]; exact congrFun (R.hf h) t

/-- The rows of the packed arrays, -/
theorem packQ_lane : packQ m c (ix3 h t l) = lane (fun x => q h t x * eighth)
    (let e := Attn.lse eighth (fun t x => q h t x) (fun t x => k h t x) (fun t => f h t) t
     ![(f h t : EReal), f h t - f h t, f h t - f h t - (f h t - f h t), 1, 1, 1, -e, -(e - e), -(e - e - (e - e)), 0]) l := by
  refine (congrFun (V_parts m c main_v109) _).trans ((packQ_at _ h t l).trans ?_)
  simp only [before_q R, before_f R, lse_val R]

theorem packK_lane : packK m c (ix3 h t l) = lane (fun x => k h t x)
    ![1, 1, 1, -(f h t : EReal), -(f h t - f h t), -(f h t - f h t - (f h t - f h t)), 1, 1, 1, 0] l := by
  refine (congrFun (V_parts m c main_v110) _).trans ((packK_at _ h t l).trans ?_)
  simp only [before_k R, before_f R]

theorem packO_lane : packO m c (ix3 h t l) = lane (fun x => o h t x)
    (let e := Attn.delta eighth (fun t x => q h t x) (fun t x => k h t x) (fun t x => v h t x) (fun t x => o h t x) (fun t => f h t) t
     ![e, e - e, e - e - (e - e), 0, 0, 0, 0, 0, 0, 0]) l := by
  refine (congrFun (V_parts m c main_v111) _).trans ((packO_at _ h t l).trans ?_)
  simp only [before_o R, delta_val R]

theorem packV_lane : packV m c (ix3 h t l) = lane (fun x => v h t x) ![-1, -1, -1, 1, 0, 0, 0, 0, 0, 0] l := by
  refine (congrFun (V_parts m c main_v112) _).trans ((packV_at _ h t l).trans ?_)
  simp only [before_v R]

/-- The product of a packed query and a packed key is the score less the logarithm of the sum, -/
theorem score_packed : ∑ l, packK m c (ix3 h s l) * packQ m c (ix3 h t l) =
    Attn.logit eighth (fun t x => q h t x) (fun t x => k h t x) (fun t => f h t) t s
      - Attn.lse eighth (fun t x => q h t x) (fun t x => k h t x) (fun t => f h t) t := by
  obtain ⟨T, hT⟩ := Attn.top_real (1 / 8) (q h) (k h) (f h) t
  refine (Finset.sum_congr rfl fun l _ => mul_comm _ _).trans ?_
  simp only [packQ_lane R, packK_lane R]
  rw [lane_dot]
  simp only [Attn.ofBits_eighth, eighth]
  rw [Attn.lse_real _ _ _ _ _ T hT, Attn.scalars_score, Attn.logit_real]
  simp only [← EReal.coe_mul, ← Attn.coe_sum, ← EReal.coe_add, ← EReal.coe_sub, Attn.logitR, Finset.sum_mul]
  congr 1
  have e : ∑ x, q h t x * (1 / 8) * k h s x = ∑ x, q h t x * k h s x * (1 / 8) := Finset.sum_congr rfl fun x _ => by ring
  rw [e]; ring

/-- that of a packed gradient and a packed value the gradient of the weight less the saved product, -/
theorem dp_packed : ∑ l, packV m c (ix3 h s l) * packO m c (ix3 h t l) =
    Attn.dp (fun t x => v h t x) (fun t x => o h t x) t s -
      Attn.delta eighth (fun t x => q h t x) (fun t x => k h t x) (fun t x => v h t x) (fun t x => o h t x) (fun t => f h t) t := by
  obtain ⟨T, hT⟩ := Attn.top_real (1 / 8) (q h) (k h) (f h) t
  refine (Finset.sum_congr rfl fun l _ => mul_comm _ _).trans ?_
  simp only [packO_lane R, packV_lane R]
  rw [lane_dot]
  simp only [Attn.ofBits_eighth, eighth]
  rw [Attn.delta_real _ _ _ _ _ _ _ T hT, Attn.scalars_dp, Attn.dp_real]
  simp only [← EReal.coe_mul, ← Attn.coe_sum, ← EReal.coe_add, ← EReal.coe_sub, Attn.dpR]
  congr 1

/-- and a lane of the keys' result is the sum of the scores' gradients over that lane of the packed queries, -/
theorem resultk_eq : resultk m c (ix3 h s l) = ∑ t, Attn.ds' eighth (fun t x => q h t x) (fun t x => k h t x) (fun t x => v h t x) (fun t x => o h t x) (fun t => f h t) t s * packQ m c (ix3 h t l) := by
  show dka (packQ m c) (packK m c) (packO m c) (packV m c) h s l = _
  unfold dka
  refine Finset.sum_congr rfl fun t _ => ?_
  rw [score_packed R, dp_packed R, Attn.ds']
  split_ifs <;> simp

/-- one of the values' result the sum of the weights over that lane of the packed gradients. -/
theorem resultv_eq : resultv m c (ix3 h s l) = ∑ t, Attn.weight eighth (fun t x => q h t x) (fun t x => k h t x) (fun t => f h t) t s * packO m c (ix3 h t l) := by
  show dva (packQ m c) (packK m c) (packO m c) h s l = _
  unfold dva
  refine Finset.sum_congr rfl fun t _ => ?_
  rw [score_packed R, Attn.weight]
  split_ifs <;> simp

/-- In the lanes of data those are the sums over the queries, -/
theorem resultk_data (x : Fin 64) : resultk m c (ix3 h s ⟨x.val, by omega⟩) = ∑ t, Attn.ds' eighth (fun t x => q h t x) (fun t x => k h t x) (fun t x => v h t x) (fun t x => o h t x) (fun t => f h t) t s * (q h t x * eighth) := by
  rw [resultk_eq R]
  refine Finset.sum_congr rfl fun t _ => ?_
  rw [packQ_lane R, lane_data]

theorem resultv_data (x : Fin 64) : resultv m c (ix3 h s ⟨x.val, by omega⟩) = ∑ t, Attn.weight eighth (fun t x => q h t x) (fun t x => k h t x) (fun t => f h t) t s * o h t x := by
  rw [resultv_eq R]
  refine Finset.sum_congr rfl fun t _ => ?_
  rw [packO_lane R, lane_data]

/-- and where the packed queries hold one, the sum of the scores' gradients. -/
theorem resultk_scalar : resultk m c (ix3 h s ⟨67, by decide⟩) = ∑ t, Attn.ds' eighth (fun t x => q h t x) (fun t x => k h t x) (fun t x => v h t x) (fun t x => o h t x) (fun t => f h t) t s := by
  rw [resultk_eq R]
  refine Finset.sum_congr rfl fun t _ => ?_
  rw [packQ_lane R]
  simp [lane]

end Cert.KernelKVIdeal.Dkv
-- ==== Proof.ReferenceKVIdeal.Entries.lean ====
/- The results of the reference of the keys and values, entry by entry. -/
module

public import proofs.«01_k».proof.Proof.Gen.ReferenceKVIdeal.Read
public import proofs.«01_k».proof.Proof.ReferenceIdeal.Entries

@[expose] public section

noncomputable section

namespace Cert.ReferenceKVIdeal.Dkv

open Idealize.ShloMosaic Idealize.ShloMosaic.TcCoe Idealize.ShloMosaic.Tactic
open Cert.ReferenceKVIdeal.Gen Cert.ReferenceKVIdeal.Read
open Cert.ReferenceIdeal.Dq (a3 a2 eighth)

theorem sum_vec (x : FVec Ideal S16x8192x8192 .f32) (h : Fin 16) (s : Fin 8192) :
    (Host.reduceAdd x (constant S_ .f32 0x00000000#32) reducesTo_S16x8192x8192_S16x8192_d1 h_S_ : FVec Ideal S16x8192 .f32) (ix2 h s) =
      (∑ t : Fin 8192, x (ix3 h t s) : EReal) := by
  pointwise

theorem sum1_vec (x : FVec Ideal S16x1x8192 .f32) (h : Fin 16) (s : Fin 8192) :
    (Host.reduceAdd x (constant S_ .f32 0x00000000#32) reducesTo_S16x1x8192_S16x8192_d1 h_S_ : FVec Ideal S16x8192 .f32) (ix2 h s) = x (ix3 h 0 s) := by
  pointwise
  simp

theorem reshape_at (x : FVec Ideal S16x8192 .f32) (h : Fin 16) (s : Fin 8192) :
    (shapeCast S16x1x8192 x shapeCasts_S16x8192_S16x1x8192 : FVec Ideal S16x1x8192 .f32) (ix3 h 0 s) = x (ix2 h s) := by
  clean_types
  pointwise

variable (x0 x1 x2 x4 : FVec Ideal S16x8192x64 .f32) (x3 : FVec Ideal S16x8192 .f32) (h : Fin 16) (t s : Fin 8192)

/-- The weights, -/
theorem weight_at : (val_main_v40 (F := Ideal) x0 x1 x3 (ix3 h t s) : EReal) =
    Ideal.div (Attn.ex eighth (a3 x0 h) (a3 x1 h) (a2 x3 h) t s) (Attn.z eighth (a3 x0 h) (a3 x1 h) (a2 x3 h) t) := by
  have e : val_main_v36 x0 x1 x3 = ReferenceIdeal.Read.val_main_v36 (F := Ideal) x0 x1 x3 := rfl
  have z : val_main_v38 (F := Ideal) x0 x1 x3 = ReferenceIdeal.Read.val_main_v38 (F := Ideal) x0 x1 x3 := rfl
  pointwise [val_main_v40, val_main_v39]
  rw [e, z, ← ReferenceIdeal.Dq.ex_at, ← ReferenceIdeal.Dq.z_at]

/-- the gradients of the scores are those of the other reference, -/
theorem ds_at : (val_main_v60 (F := Ideal) x0 x1 x2 x3 x4 (ix3 h t s) : EReal) = Attn.ds eighth (a3 x0 h) (a3 x1 h) (a3 x2 h) (a3 x4 h) (a2 x3 h) t s := by
  have e : val_main_v60 (F := Ideal) x0 x1 x2 x3 x4 = ReferenceIdeal.Read.val_main_v58 (F := Ideal) x0 x1 x2 x3 x4 := rfl
  rw [e]
  exact ReferenceIdeal.Dq.ds_at ..

/-- and the three results. -/
theorem dk_at (x : Fin 64) : (val_main_v67 (F := Ideal) x0 x1 x2 x3 x4 (ix3 h s x) : EReal) =
    ∑ t, Attn.ds eighth (a3 x0 h) (a3 x1 h) (a3 x2 h) (a3 x4 h) (a2 x3 h) t s * eighth * a3 x0 h t x := by
  pointwise [val_main_v67, val_main_v66, val_main_v65, val_main_cst_15]
  simp only [ds_at]

theorem df_at : (val_main_v64 (F := Ideal) x0 x1 x2 x3 x4 (ix2 h s) : EReal) =
    -∑ t, Attn.ds eighth (a3 x0 h) (a3 x1 h) (a3 x2 h) (a3 x4 h) (a2 x3 h) t s := by
  refine (sum1_vec _ h s).trans (congrArg (fun z : EReal => -z) ((reshape_at _ h s).trans ((sum_vec _ h s).trans ?_)))
  simp only [ds_at]

theorem dv_at (x : Fin 64) : (val_main_v46 (F := Ideal) x0 x1 x3 x4 (ix3 h s x) : EReal) =
    ∑ t, a3 x4 h t x * Ideal.div (Attn.ex eighth (a3 x0 h) (a3 x1 h) (a2 x3 h) t s) (Attn.z eighth (a3 x0 h) (a3 x1 h) (a2 x3 h) t) := by
  pointwise [val_main_v46, val_main_v45]
  simp only [weight_at]

end Cert.ReferenceKVIdeal.Dkv
-- ==== Proof.EquationKV.lean ====
/- The three results of the kernel of the keys and values are the reference's. -/
module

public import proofs.«01_k».proof.Proof.Equation
public import proofs.«01_k».proof.Proof.KernelKVIdeal.Tail
public import proofs.«01_k».proof.Proof.KernelKVIdeal.Result
public import proofs.«01_k».proof.Proof.ReferenceKVIdeal.Entries

@[expose] public section

set_option maxRecDepth 16384

noncomputable section

namespace Cert.Equation.KV

open Idealize.ShloMosaic Idealize.ShloMosaic.TcCoe Idealize.ShloMosaic.Tactic
open Cert.KernelKVIdeal.Dkv
open Cert.ReferenceIdeal.Dq (a3 a2)
open Cert.ReferenceKVIdeal.Read (val_main_v67 val_main_v64 val_main_v46)

variable (m : (ℓ : Loc KernelKVIdeal.nD KernelKVIdeal.τ KernelKVIdeal.sig) → Buf (Elt Ideal) ℓ) (c : Dev KernelKVIdeal.nD)

/-- Under the precondition the arguments are real arrays. -/
theorem reals (hm : Pre_KernelKVIdeal_finite m) : ∃ q k v o f, Reals m c q k v o f := by
  obtain ⟨h0, h1, h2, h3, h4⟩ := hm c
  exact ⟨_, _, _, _, _, fun h => funext fun t => funext fun x => real3 _ _ h0 (ix3 h t x), fun h => funext fun t => funext fun x => real3 _ _ h1 (ix3 h t x),
    fun h => funext fun t => funext fun x => real3 _ _ h2 (ix3 h t x), fun h => funext fun t => real2 _ _ h3 (ix2 h t),
    fun h => funext fun t => funext fun x => real3 _ _ h4 (ix3 h t x)⟩

variable {m c} {q k v o : Fin 16 → Fin 8192 → Fin 64 → ℝ} {f : Fin 16 → Fin 8192 → ℝ} (R : Reals m c q k v o f) (h : Fin 16) (s : Fin 8192)
include R

/-- The rows of the arguments, as the reference reads them. -/
theorem rows : a3 (m (c, Proc.devRef .tc KernelKVIdeal.main_arg0)) h = (fun t x => (q h t x : EReal)) ∧ a3 (m (c, Proc.devRef .tc KernelKVIdeal.main_arg1)) h = (fun t x => (k h t x : EReal)) ∧
    a3 (m (c, Proc.devRef .tc KernelKVIdeal.main_arg2)) h = (fun t x => (v h t x : EReal)) ∧ a2 (m (c, Proc.devRef .tc KernelKVIdeal.main_arg3)) h = (fun t => (f h t : EReal)) ∧
    a3 (m (c, Proc.devRef .tc KernelKVIdeal.main_arg4)) h = (fun t x => (o h t x : EReal)) :=
  ⟨R.hq h, R.hk h, R.hv h, R.hf h, R.ho h⟩

theorem dk_entry (x : Fin 64) : (resultk m c (ix3 h s ⟨x.val, by omega⟩) : EReal) =
    val_main_v67 (m (c, Proc.devRef .tc KernelKVIdeal.main_arg0)) (m (c, Proc.devRef .tc KernelKVIdeal.main_arg1)) (m (c, Proc.devRef .tc KernelKVIdeal.main_arg2)) (m (c, Proc.devRef .tc KernelKVIdeal.main_arg3)) (m (c, Proc.devRef .tc KernelKVIdeal.main_arg4)) (ix3 h s x) := by
  obtain ⟨eq, ek, ev, ef, eo⟩ := rows R h
  rw [ReferenceKVIdeal.Dkv.dk_at, eq, ek, ev, eo, ef, resultk_data R]
  refine Finset.sum_congr rfl fun t _ => ?_
  obtain ⟨T, hT⟩ := Attn.top_real (1 / 8) (q h) (k h) (f h) t
  simp only [Attn.ofBits_eighth, ReferenceIdeal.Dq.eighth, KernelIdeal.Dq.eighth, Attn.ds_real _ _ _ _ _ _ _ _ T hT, Attn.ds'_real _ _ _ _ _ _ _ _ T hT, ← EReal.coe_mul]
  congr 1
  ring

theorem df_entry : (-(resultk m c (ix3 h s ⟨67, by decide⟩) : EReal) : EReal) =
    val_main_v64 (m (c, Proc.devRef .tc KernelKVIdeal.main_arg0)) (m (c, Proc.devRef .tc KernelKVIdeal.main_arg1)) (m (c, Proc.devRef .tc KernelKVIdeal.main_arg2)) (m (c, Proc.devRef .tc KernelKVIdeal.main_arg3)) (m (c, Proc.devRef .tc KernelKVIdeal.main_arg4)) (ix2 h s) := by
  obtain ⟨eq, ek, ev, ef, eo⟩ := rows R h
  rw [ReferenceKVIdeal.Dkv.df_at, eq, ek, ev, eo, ef, resultk_scalar R]
  refine congrArg (fun z : EReal => -z) (Finset.sum_congr rfl fun t _ => ?_)
  obtain ⟨T, hT⟩ := Attn.top_real (1 / 8) (q h) (k h) (f h) t
  simp only [Attn.ofBits_eighth, ReferenceIdeal.Dq.eighth, KernelIdeal.Dq.eighth, Attn.ds_real _ _ _ _ _ _ _ _ T hT, Attn.ds'_real _ _ _ _ _ _ _ _ T hT]

theorem dv_entry (x : Fin 64) : (resultv m c (ix3 h s ⟨x.val, by omega⟩) : EReal) =
    val_main_v46 (m (c, Proc.devRef .tc KernelKVIdeal.main_arg0)) (m (c, Proc.devRef .tc KernelKVIdeal.main_arg1)) (m (c, Proc.devRef .tc KernelKVIdeal.main_arg3)) (m (c, Proc.devRef .tc KernelKVIdeal.main_arg4)) (ix3 h s x) := by
  obtain ⟨eq, ek, ev, ef, eo⟩ := rows R h
  rw [ReferenceKVIdeal.Dkv.dv_at, eq, ek, eo, ef, resultv_data R]
  refine Finset.sum_congr rfl fun t _ => ?_
  obtain ⟨T, hT⟩ := Attn.top_real (1 / 8) (q h) (k h) (f h) t
  simp only [Attn.ofBits_eighth, ReferenceIdeal.Dq.eighth, KernelIdeal.Dq.eighth, Attn.weight_real _ _ _ _ _ _ T hT, Attn.div_real _ _ _ _ _ _ T hT]
  exact mul_comm _ _

/-- The gradient of the keys, -/
theorem dk_ref : dk m c = val_main_v67 (m (c, Proc.devRef .tc KernelKVIdeal.main_arg0)) (m (c, Proc.devRef .tc KernelKVIdeal.main_arg1)) (m (c, Proc.devRef .tc KernelKVIdeal.main_arg2)) (m (c, Proc.devRef .tc KernelKVIdeal.main_arg3)) (m (c, Proc.devRef .tc KernelKVIdeal.main_arg4)) := by
  refine funext fun (y : KernelKVIdeal.S16x8192x64.Idx) => ?_
  rw [ValueIdx.eq_ix3 y]
  exact dk_entry R _ _ _

/-- that of the forgetting term on the key's side, -/
theorem df_ref : df m c = val_main_v64 (m (c, Proc.devRef .tc KernelKVIdeal.main_arg0)) (m (c, Proc.devRef .tc KernelKVIdeal.main_arg1)) (m (c, Proc.devRef .tc KernelKVIdeal.main_arg2)) (m (c, Proc.devRef .tc KernelKVIdeal.main_arg3)) (m (c, Proc.devRef .tc KernelKVIdeal.main_arg4)) := by
  refine funext fun (y : KernelKVIdeal.S16x8192.Idx) => ?_
  rw [ValueIdx.eq_ix2 y]
  exact df_entry R _ _

/-- and that of the values. -/
theorem dv_ref : dv m c = val_main_v46 (m (c, Proc.devRef .tc KernelKVIdeal.main_arg0)) (m (c, Proc.devRef .tc KernelKVIdeal.main_arg1)) (m (c, Proc.devRef .tc KernelKVIdeal.main_arg3)) (m (c, Proc.devRef .tc KernelKVIdeal.main_arg4)) := by
  refine funext fun (y : KernelKVIdeal.S16x8192x64.Idx) => ?_
  rw [ValueIdx.eq_ix3 y]
  exact dv_entry R _ _ _

end Cert.Equation.KV
-- ==== Proof.Mlp.Blocks.lean ====
/- Products of matrices read through blocks of their operands: a chunk of columns of a product is the product's columns there. -/
module

public import Idealize.ShloMosaic.Lib.Pipeline.ReadBack
public import Idealize.ShloMosaic.Lib.Pointwise
public import Idealize.ShloMosaic.Lib.StableHlo.ReadAt
public import Mathlib.Data.EReal.Operations
public import Mathlib.Algebra.BigOperators.Fin

@[expose] public section

noncomputable section

namespace Cert.Mlp

open Idealize.ShloMosaic Idealize.SL.Sem

variable {p q K w n : ℕ}

/-- Two positions of a matrix agree if their rows and their columns do. -/
theorem ext2 {i j : (⟨2, ![p, q]⟩ : Shape).Idx} (h0 : (i 0 : ℕ) = j 0) (h1 : (i 1 : ℕ) = j 1) : i = j := by
  funext a
  apply Fin.ext
  match a with
  | ⟨0, _⟩ => exact h0
  | ⟨1, _⟩ => exact h1

/-- Where a block's coordinate lies in its array, -/
theorem at_block {a b n r : ℕ} (h : a = b) : a * n + 1 * r = b * n + r := by rw [h, one_mul]
theorem at_start {a n r : ℕ} (h : a = 0) : a * n + 1 * r = r := by rw [h, zero_mul, zero_add, one_mul]

/-- and what its block holds. -/
theorem within (n y : ℕ) {a b : ℕ} (h : a = b) (hb : b * n ≤ y ∧ y < b * n + n) : a * n ≤ y ∧ y < a * n + n := by rwa [h]

/-- Rows of `a` times rows of `b`, -/
def nt (a : Vec Ideal ⟨2, ![p, K]⟩ .bf16) (b : Vec Ideal ⟨2, ![q, K]⟩ .bf16) : (⟨2, ![p, q]⟩ : Shape).Idx → EReal :=
  fun y => ∑ k : Fin K, (a (ix2 (y 0) k) : EReal) * b (ix2 (y 1) k)

/-- columns of `a` times columns of `b`, -/
def tn (a : Vec Ideal ⟨2, ![K, p]⟩ .bf16) (b : Vec Ideal ⟨2, ![K, q]⟩ .bf16) : (⟨2, ![p, q]⟩ : Shape).Idx → EReal :=
  fun y => ∑ k : Fin K, (a (ix2 k (y 0)) : EReal) * b (ix2 k (y 1))

/-- and rows of `a` times columns of `b`. -/
def nn (a : Vec Ideal ⟨2, ![p, K]⟩ .bf16) (b : Vec Ideal ⟨2, ![K, q]⟩ .bf16) : (⟨2, ![p, q]⟩ : Shape).Idx → EReal :=
  fun y => ∑ k : Fin K, (a (ix2 (y 0) k) : EReal) * b (ix2 k (y 1))

/-- A load of all of a matrix reads it; -/
theorem ld_all (a : Vec Ideal ⟨2, ![p, q]⟩ .bf16) (inb) (r : Fin p) (k : Fin q) :
    (View.ld a (Rect.unit (s := ⟨2, ![p, q]⟩) ![0, 0] ![p, q] inb) (ix2 r k) : EReal) = a (ix2 r k) := by
  show a _ = a _
  exact congrArg a (ext2 (by show 0 + 1 * r.val = r.val; omega) (by show 0 + 1 * k.val = k.val; omega))

/-- a load of some of its rows reads them, -/
theorem ld_rows (b : Vec Ideal ⟨2, ![q, K]⟩ .bf16) (inb) (inbo) (x : (⟨2, ![p, w]⟩ : Shape).Idx) (k : Fin K) :
    (View.ld b (Rect.unit (s := ⟨2, ![q, K]⟩) ![n, 0] ![w, K] inb) (ix2 (x 1) k) : EReal) =
      b (ix2 ((Rect.unit (s := ⟨2, ![p, q]⟩) ![0, n] ![p, w] inbo).emb x 1) k) := by
  show b _ = b _
  exact congrArg b (ext2 rfl (by show 0 + 1 * k.val = k.val; omega))

/-- and a load of some of its columns reads those. -/
theorem ld_columns (b : Vec Ideal ⟨2, ![K, q]⟩ .bf16) (inb) (inbo) (x : (⟨2, ![p, w]⟩ : Shape).Idx) (k : Fin K) :
    (View.ld b (Rect.unit (s := ⟨2, ![K, q]⟩) ![0, n] ![K, w] inb) (ix2 k (x 1)) : EReal) =
      b (ix2 k ((Rect.unit (s := ⟨2, ![p, q]⟩) ![0, n] ![p, w] inbo).emb x 1)) := by
  show b _ = b _
  exact congrArg b (ext2 (by show 0 + 1 * k.val = k.val; omega) rfl)

/-- The row of a chunk of columns is the product's. -/
theorem row_eq (inbo) (x : (⟨2, ![p, w]⟩ : Shape).Idx) : ((Rect.unit (s := ⟨2, ![p, q]⟩) ![0, n] ![p, w] inbo).emb x 0 : Fin p) = x 0 :=
  Fin.ext (by show 0 + 1 * (x 0 : ℕ) = x 0; omega)

theorem nt_columns (a : Vec Ideal ⟨2, ![p, K]⟩ .bf16) (b : Vec Ideal ⟨2, ![q, K]⟩ .bf16) (inb inb' inbo) (x : (⟨2, ![p, w]⟩ : Shape).Idx) :
    (∑ k : Fin K, (View.ld a (Rect.unit (s := ⟨2, ![p, K]⟩) ![0, 0] ![p, K] inb') (ix2 (x 0) k) : EReal) *
      View.ld b (Rect.unit (s := ⟨2, ![q, K]⟩) ![n, 0] ![w, K] inb) (ix2 (x 1) k)) =
    nt a b ((Rect.unit (s := ⟨2, ![p, q]⟩) ![0, n] ![p, w] inbo).emb x) := by
  unfold nt
  exact Finset.sum_congr rfl fun k _ => congrArg₂ (· * ·)
    ((ld_all a inb' (x 0) k).trans (congrArg (fun i : Fin p => (a (ix2 i k) : EReal)) (row_eq inbo x).symm)) (ld_rows b inb inbo x k)

theorem tn_columns (a : Vec Ideal ⟨2, ![K, p]⟩ .bf16) (b : Vec Ideal ⟨2, ![K, q]⟩ .bf16) (inb inb' inbo) (x : (⟨2, ![p, w]⟩ : Shape).Idx) :
    (∑ k : Fin K, (View.ld a (Rect.unit (s := ⟨2, ![K, p]⟩) ![0, 0] ![K, p] inb') (ix2 k (x 0)) : EReal) *
      View.ld b (Rect.unit (s := ⟨2, ![K, q]⟩) ![0, n] ![K, w] inb) (ix2 k (x 1))) =
    tn a b ((Rect.unit (s := ⟨2, ![p, q]⟩) ![0, n] ![p, w] inbo).emb x) := by
  unfold tn
  exact Finset.sum_congr rfl fun k _ => congrArg₂ (· * ·)
    ((ld_all a inb' k (x 0)).trans (congrArg (fun i : Fin p => (a (ix2 k i) : EReal)) (row_eq inbo x).symm)) (ld_columns b inb inbo x k)

theorem nn_columns (a : Vec Ideal ⟨2, ![p, K]⟩ .bf16) (b : Vec Ideal ⟨2, ![K, q]⟩ .bf16) (inb inb' inbo) (x : (⟨2, ![p, w]⟩ : Shape).Idx) :
    (∑ k : Fin K, (View.ld a (Rect.unit (s := ⟨2, ![p, K]⟩) ![0, 0] ![p, K] inb') (ix2 (x 0) k) : EReal) *
      View.ld b (Rect.unit (s := ⟨2, ![K, q]⟩) ![0, n] ![K, w] inb) (ix2 k (x 1))) =
    nn a b ((Rect.unit (s := ⟨2, ![p, q]⟩) ![0, n] ![p, w] inbo).emb x) := by
  unfold nn
  exact Finset.sum_congr rfl fun k _ => congrArg₂ (· * ·)
    ((ld_all a inb' (x 0) k).trans (congrArg (fun i : Fin p => (a (ix2 i k) : EReal)) (row_eq inbo x).symm)) (ld_columns b inb inbo x k)

/-- The word zero as a real, -/
theorem zero_word : (FloatOps.sitofp (F := Ideal) .bf16 (0#32) : EReal) = 0 := by
  show (((0#32 : BitVec 32).toInt : ℝ) : EReal) = 0
  norm_num

/-- and a sum over the padded columns. -/
theorem sum_padded {f : Fin w → EReal} (g : Fin q → EReal) (hq : q ≤ w) (h : ∀ k : Fin w, f k = if hk : (k : ℕ) < q then g ⟨k, hk⟩ else 0) :
    ∑ k : Fin w, f k = ∑ k : Fin q, g k := by
  obtain ⟨d, rfl⟩ := Nat.exists_eq_add_of_le hq
  rw [Fin.sum_univ_add]
  refine (congrArg₂ (· + ·) (Finset.sum_congr rfl fun k _ => ?_) (Finset.sum_eq_zero fun k _ => ?_)).trans (add_zero _)
  · exact (h _).trans (dif_pos k.isLt)
  · exact (h _).trans (dif_neg (by show ¬ q + k.val < q; omega))

end Cert.Mlp

end
-- ==== Proof.Mlp.Columns.lean ====
/- Pieces that are blocks of one array leave that array. -/
module

public import Idealize.ShloMosaic.Lib.Pipeline.ReadBack
public import Idealize.ShloMosaic.Lib.Pointwise

@[expose] public section

noncomputable section

namespace Cert.Mlp

open Idealize.ShloMosaic Idealize.SL.Sem

variable {S : Shape} {e : EltTy} {Val : EltTy → Type} [∀ e, Nonempty (Val e)]

/-- Stores that are each a block of `G` and together cover the buffer leave `G`. -/
theorem canon_of_blocks (G : S.Idx → Val e) (L : List (View.Piece Val S e)) (h : View.PiecesOf G L)
    (hc : ∀ y, ∃ p ∈ L, y ∈ p.1.set) : View.canon L = G :=
  funext fun y => by
    have := View.canon_append_of_piecesOf G [] L h y (hc y)
    rwa [List.append_nil] at this

end Cert.Mlp
-- ==== Proof.DactIdeal.Product.lean ====
/- The gradient of the hidden layer before its activation: the product of the output's gradient with the weights, times the
   activation's slope, which the kernel recovers from the activation itself; entry by entry. -/
module

public import proofs.«01_k».proof.Proof.Types
public import proofs.«01_k».proof.Proof.Gen.DactIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

noncomputable section

namespace Cert.DactIdeal.Value

open Idealize.ShloMosaic Idealize.ShloMosaic.TcCoe Idealize.ShloMosaic.Tactic
open Cert.DactIdeal.Gen

/-- The constant two, as both programs write it. -/
abbrev two : EReal := Ideal.ofBits FTy.f32 0x40000000#32

/-- The slope of the squared rectifier, from its value: 2a/√a where a is positive. -/
def slope (a : EReal) : EReal := if 0 < a then two * a * Ideal.rsqrt a else 0

/-- One chunk of 256 columns: products of rows with rows, times the slope. -/
theorem chunk (b : BF16 S256x1024) (a : BF16 S2048x1024) (e : BF16 S2048x256) (r : Fin 2048) (j : Fin 256) :
    (k0_pay2 b a e (ix2 r j) : EReal) = (∑ k : Fin 1024, (a (ix2 r k) : EReal) * b (ix2 j k)) * slope (e (ix2 r j)) := by
  unfold slope
  pointwise [k0_pay2]

/-- The block the body leaves. -/
def blockOf (a : BF16 S2048x1024) (b : BF16 S1024x1024) (e : BF16 S2048x1024) : BF16 S2048x1024 :=
  fun y => (∑ k : Fin 1024, (a (ix2 (y 0) k) : EReal) * b (ix2 (y 1) k)) * slope (e (ix2 (y 0) (y 1)))

/-- A chunk read off the block's rows is the block's columns there. -/
theorem columns (a : BF16 S2048x1024) (b : BF16 S1024x1024) (e : BF16 S2048x1024) (n : ℕ) (inb inb' inbo)
    (x : S2048x256.Idx) :
    (k0_pay2 (View.ld b (Rect.unit (s := S1024x1024) ![n, 0] S256x1024.size inb))
      (View.ld a (Rect.unit (s := S2048x1024) ![0, 0] S2048x1024.size inb'))
      (View.ld e (Rect.unit (s := S2048x1024) ![0, n] S2048x256.size inbo)) x : EReal) =
    blockOf a b e ((Rect.unit (s := S2048x1024) ![0, n] S2048x256.size inbo).emb x) := by
  rw [ValueIdx.eq_ix2 x]
  refine (chunk _ _ _ (x 0) (x 1)).trans (congrArg₂ (· * ·) (Finset.sum_congr rfl fun k _ => ?_) (congrArg slope ?_))
  · congr 1
    · show a _ = a _
      congr 1
      funext i
      apply Fin.ext
      match i with
      | ⟨0, _⟩ => rfl
      | ⟨1, _⟩ => show 0 + 1 * k.val = k.val; omega
    · show b _ = b _
      congr 1
      funext i
      apply Fin.ext
      match i with
      | ⟨0, _⟩ => rfl
      | ⟨1, _⟩ => show 0 + 1 * k.val = k.val; omega
  · show e _ = e _
    congr 1
    funext i
    apply Fin.ext
    match i with
    | ⟨0, _⟩ => rfl
    | ⟨1, _⟩ => rfl

theorem out_eq (a : BF16 S2048x1024) (b : BF16 S1024x1024) (e : BF16 S2048x1024) :
    out0_3 a b e = blockOf a b e :=
  Mlp.canon_of_blocks _ _
    ⟨columns a b e 768 _ _ inb_S2048x1024_S2048x256_0_768, columns a b e 512 _ _ inb_S2048x1024_S2048x256_0_512,
      columns a b e 256 _ _ inb_S2048x1024_S2048x256_0_256, columns a b e 0 _ _ inb_S2048x1024_S2048x256_0_0, trivial⟩ (cover0_3 _ _ _ _)

variable (m : (ℓ : Loc nD τ sig) → Buf (Elt Ideal) ℓ)

/-- The output's gradient, the weights and the activation, as the region finds them, -/
abbrev left (c : Dev nD) : BF16 S8192x1024 := V m c main_v0
abbrev right (c : Dev nD) : BF16 S4096x1024 := V m c main_v1
abbrev act (c : Dev nD) : BF16 S8192x4096 := V m c main_v5

/-- and the array of results. -/
def result (c : Dev nD) : BF16 S8192x4096 :=
  fun y => (∑ k : Fin 1024, (left m c (ix2 (y 0) k) : EReal) * right m c (ix2 (y 1) k)) * slope (act m c (ix2 (y 0) (y 1)))

/-- Where each window's block lies. -/
theorem at0 (t : Fin cfg0.N) : win0_0.index t 0 = t.val / 4 ∧ win0_0.index t 1 = 0 := by
  revert t; decide +kernel
theorem at1 (t : Fin cfg0.N) : win0_1.index t 0 = t.val % 4 ∧ win0_1.index t 1 = 0 := by
  revert t; decide +kernel
theorem at2 (t : Fin cfg0.N) : win0_2.index t 0 = t.val / 4 ∧ win0_2.index t 1 = t.val % 4 := by
  revert t; decide +kernel
theorem at3 (t : Fin cfg0.N) : win0_3.index t 0 = t.val / 4 ∧ win0_3.index t 1 = t.val % 4 := by
  revert t; decide +kernel

def row (t : Fin cfg0.N) (r : Fin 2048) : Fin 8192 := ⟨t.val / 4 * 2048 + r.val, by have h : t.val < 16 := lt_of_lt_of_eq t.isLt N_0; omega⟩
def col (t : Fin cfg0.N) (j : Fin 1024) : Fin 4096 := ⟨t.val % 4 * 1024 + j.val, by omega⟩

theorem blk0 (c : Dev nD) (t : Fin cfg0.N) (r : Fin 2048) (k : Fin 1024) :
    (iblk m c 0 t : BF16 S2048x1024) (ix2 r k) = left m c (ix2 (row t r) k) := by
  unfold iblk
  rw [View.read_apply]
  show V m c main_v0 _ = V m c main_v0 _
  congr 1
  funext a
  apply Fin.ext
  match a with
  | ⟨0, _⟩ => exact Mlp.at_block (at0 t).1
  | ⟨1, _⟩ => exact Mlp.at_start (at0 t).2

theorem blk1 (c : Dev nD) (t : Fin cfg0.N) (j k : Fin 1024) :
    (iblk m c 1 t : BF16 S1024x1024) (ix2 j k) = right m c (ix2 (col t j) k) := by
  unfold iblk
  rw [View.read_apply]
  show V m c main_v1 _ = V m c main_v1 _
  congr 1
  funext a
  apply Fin.ext
  match a with
  | ⟨0, _⟩ => exact Mlp.at_block (at1 t).1
  | ⟨1, _⟩ => exact Mlp.at_start (at1 t).2

theorem blk2 (c : Dev nD) (t : Fin cfg0.N) (r : Fin 2048) (j : Fin 1024) :
    (iblk m c 2 t : BF16 S2048x1024) (ix2 r j) = act m c (ix2 (row t r) (col t j)) := by
  unfold iblk
  rw [View.read_apply]
  show V m c main_v5 _ = V m c main_v5 _
  congr 1
  funext a
  apply Fin.ext
  match a with
  | ⟨0, _⟩ => exact Mlp.at_block (at2 t).1
  | ⟨1, _⟩ => exact Mlp.at_block (at2 t).2

theorem emb3 (t : Fin cfg0.N) (r : Fin 2048) (j : Fin 1024) :
    ((cfg0.win 3).blk t).view.emb (ix2 r j) = (ix2 (row t r) (col t j) : S8192x4096.Idx) := by
  funext a
  apply Fin.ext
  match a with
  | ⟨0, _⟩ => exact Mlp.at_block (at3 t).1
  | ⟨1, _⟩ => exact Mlp.at_block (at3 t).2

/-- What each point writes back is the results' block there. -/
theorem flushed (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, out_eq]
  have key : ∀ y : S2048x1024.Idx, blockOf (iblk m c 0 t) (iblk m c 1 t) (iblk m c 2 t) y = result m c (((cfg0.win 3).blk t).view.emb y) := fun y => by
    rw [ValueIdx.eq_ix2 y]
    refine Eq.trans ?_ (congrArg (result m c) (emb3 t (y 0) (y 1))).symm
    refine congrArg₂ (· * ·) (Finset.sum_congr rfl fun k _ => ?_) (congrArg slope (blk2 m c t (y 0) (y 1)))
    exact congrArg₂ (· * ·) (blk0 m c t (y 0) k) (blk1 m c t (y 1) k)
  exact funext key

/-- The array ends at the results. -/
theorem final (c : Dev nD) : (dats m 0 c).arrAt 3 cfg0.N = result m c :=
  (dats m 0 c).arrAt_eq_of_cover 3 (result m c) (fun t _ => flushed m c t) fun y => by
    have h0 : (y 0 : Nat) < 8192 := (y 0).isLt
    have h1 : (y 1 : Nat) < 4096 := (y 1).isLt
    have hN : cfg0.N = 16 := N_0
    refine ⟨⟨(y 0 : Nat) / 2048 * 4 + (y 1 : Nat) / 1024, by omega⟩, flush0_3 _, ?_⟩
    generalize ht : (⟨(y 0 : Nat) / 2048 * 4 + (y 1 : Nat) / 1024, by omega⟩ : Fin cfg0.N) = t
    have hv : t.val = (y 0 : Nat) / 2048 * 4 + (y 1 : Nat) / 1024 := by rw [← ht]
    show y ∈ ((View.whole main_v6).slice (win0_3.rect t)).set
    rw [View.set_slice_whole, Rect.mem_set_unit]
    intro a
    match a with
    | ⟨0, _⟩ => exact Mlp.within 2048 (y 0).val (at3 t).1 (by omega)
    | ⟨1, _⟩ => exact Mlp.within 1024 (y 1).val (at3 t).2 (by omega)

/-- Casting to the narrower format changes no real, -/
theorem left_eq (c : Dev nD) (y : S8192x1024.Idx) : (left m c y : EReal) = (m (c, Proc.devRef .tc main_arg2) : F32 S8192x1024) y := by
  simp only [left, V, hostOps0]
  after_reads_at
theorem right_eq (c : Dev nD) (y : S4096x1024.Idx) : (right m c y : EReal) = (m (c, Proc.devRef .tc main_arg1) : F32 S4096x1024) y := by
  simp only [right, V, hostOps0]
  after_reads_at

/-- The hidden layer. -/
abbrev hidden (c : Dev nD) (y : S8192x4096.Idx) : EReal := m (c, Proc.devRef .tc main_arg0) y

/-- and the activation is the rectified hidden layer's square. -/
theorem act_eq (c : Dev nD) (y : S8192x4096.Idx) : (act m c y : EReal) = max (hidden m c y) 0 * max (hidden m c y) 0 := by
  simp only [act, V, hostOps0]
  after_reads_at

/-- The results, in the wider format. -/
def du (c : Dev nD) : F32 S8192x4096 := fun y => (result m c y : EReal)

abbrev after (c : Dev nD) : Valuation τ sig (Elt Ideal) :=
  Pipeline.withArrays spec0 c (V0 m c) fun w => (dats m 0 c).arrAt w cfg0.N

theorem after_result (c : Dev nD) : after m c (Proc.devRef .tc main_v6) = result m c :=
  (Pipeline.withArrays_arr spec0 (by decide) c (V0 m c) (fun w => (dats m 0 c).arrAt w cfg0.N) 3).trans (final m c)

theorem widened (U : Valuation τ sig (Elt Ideal)) (y : S8192x4096.Idx) :
    (StableHlo.after (List.flatten [hostOps1]) U (Proc.devRef .tc main_v7) y : EReal) = (U (Proc.devRef .tc main_v6) : BF16 S8192x4096) y := by
  simp only [hostOps1, List.flatten_cons, List.flatten_nil, List.append_nil]
  after_reads_at

theorem du_eq (c : Dev nD) : Pipeline.afterTail₀ cfgs (dats m) 0 (V0 m) [hostOps1] c main_v7 = du m c := by
  refine funext fun (y : S8192x4096.Idx) => ?_
  refine (widened (after m c) y).trans ?_
  rw [after_result]
  rfl

end Cert.DactIdeal.Value

end
-- ==== Proof.Mlp.Quarters.lean ====
/- A sum over 8192 rows in four blocks of 2048. -/
module

public import Mathlib.Data.EReal.Operations
public import Mathlib.Algebra.BigOperators.Fin
public import Mathlib.Logic.Equiv.Fin.Basic

@[expose] public section

namespace Cert.Mlp

/-- Row `r` of block `k`. -/
def quarter (k : Fin 4) (r : Fin 2048) : Fin 8192 := ⟨k.val * 2048 + r.val, by omega⟩

theorem sum_quarters (f : Fin 8192 → EReal) :
    ∑ k : Fin 8192, f k =
      (∑ r : Fin 2048, f (quarter 0 r)) + (∑ r : Fin 2048, f (quarter 1 r)) + (∑ r : Fin 2048, f (quarter 2 r)) + ∑ r : Fin 2048, f (quarter 3 r) := by
  have h : ∑ p : Fin 4 × Fin 2048, f (quarter p.1 p.2) = ∑ k : Fin 8192, f k :=
    Fintype.sum_equiv (finProdFinEquiv (m := 4) (n := 2048)) _ (fun k => f k) fun p => by
      congr 1
      apply Fin.ext
      show p.1.val * 2048 + p.2.val = p.2.val + 2048 * p.1.val
      omega
  rw [← h, Fintype.sum_prod_type, Fin.sum_univ_four]

end Cert.Mlp

end
-- ==== Proof.DwdownIdeal.Product.lean ====
/- The gradient of the second weights: the activation's transpose times the output's gradient. Its 8192 rows are summed in four
   blocks of 2048 over consecutive points; entry by entry. -/
module

public import proofs.«01_k».proof.Proof.Types
public import proofs.«01_k».proof.Proof.Gen.DwdownIdeal.Frame
public import proofs.«01_k».proof.Proof.Mlp.Blocks
public import proofs.«01_k».proof.Proof.Mlp.Columns
public import proofs.«01_k».proof.Proof.Mlp.Quarters
public import Idealize.ShloMosaic.Lib.Pipeline.Value
public import Idealize.ShloMosaic.Lib.StableHlo.ReadAt

@[expose] public section

set_option maxRecDepth 16384

noncomputable section

namespace Cert.DwdownIdeal.Value

open Idealize.ShloMosaic Idealize.ShloMosaic.TcCoe Idealize.ShloMosaic.Tactic
open Cert.DwdownIdeal.Gen

/-- One chunk of 256 columns at a first point: products of columns with columns; -/
theorem chunkA (b : BF16 S2048x256) (a : BF16 S2048x1024) (i : Fin 1024) (j : Fin 256) :
    (k0_pay1 (k0_pay7 b a) (ix2 i j) : EReal) = ∑ r : Fin 2048, (a (ix2 r i) : EReal) * b (ix2 r j) := by
  pointwise [k0_pay1, k0_pay7]

/-- and at a later one, added to what is carried, -/
theorem chunkB (b : BF16 S2048x256) (a : BF16 S2048x1024) (s : F32 S1024x256) (i : Fin 1024) (j : Fin 256) :
    (k0_pay2 b a s (ix2 i j) : EReal) = (s (ix2 i j) : EReal) + ∑ r : Fin 2048, (a (ix2 r i) : EReal) * b (ix2 r j) := by
  pointwise [k0_pay2]

/-- which the last point stores as the result. -/
theorem chunkC (b : BF16 S2048x256) (a : BF16 S2048x1024) (s : F32 S1024x256) (i : Fin 1024) (j : Fin 256) :
    (k0_pay3 (k0_pay14 b) a s (ix2 i j) : EReal) = (s (ix2 i j) : EReal) + ∑ r : Fin 2048, (a (ix2 r i) : EReal) * b (ix2 r j) := by
  pointwise [k0_pay3, k0_pay14]

/-- The product over one block of rows, -/
def blockOf (a b : BF16 S2048x1024) : F32 S1024x1024 :=
  fun y => ∑ r : Fin 2048, (a (ix2 r (y 0)) : EReal) * b (ix2 r (y 1))

/-- and what is carried with it added. -/
def added (s : F32 S1024x1024) (a b : BF16 S2048x1024) : F32 S1024x1024 :=
  fun y => (s y : EReal) + blockOf a b y

/-- A chunk of the product is the product's columns there. -/
theorem part (a b : BF16 S2048x1024) (n : ℕ) (hn : n + 256 ≤ 1024) (inb inb' inbo) (x : S1024x256.Idx) :
    (∑ r : Fin 2048, (View.ld a (Rect.unit (s := S2048x1024) ![0, 0] S2048x1024.size inb') (ix2 r (x 0)) : EReal) *
      View.ld b (Rect.unit (s := S2048x1024) ![0, n] S2048x256.size inb) (ix2 r (x 1))) =
    blockOf a b ((Rect.unit (s := S1024x1024) ![0, n] S1024x256.size inbo).emb x) := by
  refine Finset.sum_congr rfl fun k _ => ?_
  congr 1
  · show a _ = a _
    congr 1
    funext i
    apply Fin.ext
    match i with
    | ⟨0, _⟩ => show 0 + 1 * k.val = k.val; omega
    | ⟨1, _⟩ => rfl
  · show b _ = b _
    congr 1
    funext i
    apply Fin.ext
    match i with
    | ⟨0, _⟩ => show 0 + 1 * k.val = k.val; omega
    | ⟨1, _⟩ => rfl

theorem columnsA (a b : BF16 S2048x1024) (n : ℕ) (hn : n + 256 ≤ 1024) (inb inb' inbo) (x : S1024x256.Idx) :
    (k0_pay1 (k0_pay7 (View.ld b (Rect.unit (s := S2048x1024) ![0, n] S2048x256.size inb))
      (View.ld a (Rect.unit (s := S2048x1024) ![0, 0] S2048x1024.size inb'))) x : EReal) =
    blockOf a b ((Rect.unit (s := S1024x1024) ![0, n] S1024x256.size inbo).emb x) := by
  rw [ValueIdx.eq_ix2 x]
  exact (chunkA _ _ (x 0) (x 1)).trans (part a b n hn inb inb' inbo (ix2 (x 0) (x 1)))

theorem columnsB (a b : BF16 S2048x1024) (s : F32 S1024x1024) (n : ℕ) (hn : n + 256 ≤ 1024) (inb inb' inbo) (x : S1024x256.Idx) :
    (k0_pay2 (View.ld b (Rect.unit (s := S2048x1024) ![0, n] S2048x256.size inb))
      (View.ld a (Rect.unit (s := S2048x1024) ![0, 0] S2048x1024.size inb'))
      (View.ld s (Rect.unit (s := S1024x1024) ![0, n] S1024x256.size inbo)) x : EReal) =
    added s a b ((Rect.unit (s := S1024x1024) ![0, n] S1024x256.size inbo).emb x) := by
  rw [ValueIdx.eq_ix2 x]
  exact (chunkB _ _ _ (x 0) (x 1)).trans (congrArg₂ (· + ·) rfl (part a b n hn inb inb' inbo (ix2 (x 0) (x 1))))

theorem columnsC (a b : BF16 S2048x1024) (s : F32 S1024x1024) (n : ℕ) (hn : n + 256 ≤ 1024) (inb inb' inbo) (x : S1024x256.Idx) :
    (k0_pay3 (k0_pay14 (View.ld b (Rect.unit (s := S2048x1024) ![0, n] S2048x256.size inb)))
      (View.ld a (Rect.unit (s := S2048x1024) ![0, 0] S2048x1024.size inb'))
      (View.ld s (Rect.unit (s := S1024x1024) ![0, n] S1024x256.size inbo)) x : EReal) =
    added s a b ((Rect.unit (s := S1024x1024) ![0, n] S1024x256.size inbo).emb x) := by
  rw [ValueIdx.eq_ix2 x]
  exact (chunkC _ _ _ (x 0) (x 1)).trans (congrArg₂ (· + ·) rfl (part a b n hn inb inb' inbo (ix2 (x 0) (x 1))))

section cases

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (arg6 : Memref sig .tc .vmem S1024x1024 .f32) (harg6 : arg6.IsWhole)

/-- A first point leaves its product in the accumulator, -/
theorem first (hc0 hc1 hc2) (a b : BF16 S2048x1024) :
    sout0_A_0 c i arg3 harg3 arg4 harg4 arg5 harg5 arg6 harg6 hc0 hc1 hc2 a b = blockOf a b := by
  unfold sout0_A_0
  rw [View.read_writes_junk_eq_canon]
  refine Mlp.canon_of_blocks _ _ ?_ (scover0_A_0 _ _ _ _ _ _ _ _ _ _ _ _ _ _ _)
  unfold kernelRun0_A
  sl_unfold_words
  simp only [View.readAt_eq_ld, harg3.read_unread, harg4.read_unread, harg6.read_unread]
  exact ⟨columnsA a b 768 (by decide) _ _ inb_S1024x1024_S1024x256_0_768, columnsA a b 512 (by decide) _ _ inb_S1024x1024_S1024x256_0_512,
    columnsA a b 256 (by decide) _ _ inb_S1024x1024_S1024x256_0_256, columnsA a b 0 (by decide) _ _ inb_S1024x1024_S1024x256_0_0, trivial⟩

/-- a middle one adds its product, -/
theorem middle (hc0 hc1 hc2) (a b : BF16 S2048x1024) (s : F32 S1024x1024) :
    sout0_B_0 c i arg3 harg3 arg4 harg4 arg5 harg5 arg6 harg6 hc0 hc1 hc2 a b s = added s a b := by
  unfold sout0_B_0
  rw [View.read_writes_junk_eq_canon]
  refine Mlp.canon_of_blocks _ _ ?_ (scover0_B_0 _ _ _ _ _ _ _ _ _ _ _ _ _ _ _ _)
  unfold kernelRun0_B
  sl_unfold_words
  simp only [View.readAt_eq_ld, harg3.read_unread, harg4.read_unread, harg6.read_unread]
  exact ⟨columnsB a b s 768 (by decide) _ _ inb_S1024x1024_S1024x256_0_768, columnsB a b s 512 (by decide) _ _ inb_S1024x1024_S1024x256_0_512,
    columnsB a b s 256 (by decide) _ _ inb_S1024x1024_S1024x256_0_256, columnsB a b s 0 (by decide) _ _ inb_S1024x1024_S1024x256_0_0, trivial⟩

/-- and the last one stores the sum as the result. -/
theorem last (hc0 hc1 hc2) (a b : BF16 S2048x1024) (s : F32 S1024x1024) :
    out0_C_2 c i arg3 harg3 arg4 harg4 arg5 harg5 arg6 harg6 hc0 hc1 hc2 a b s = added s a b := by
  unfold out0_C_2
  rw [View.read_writes_junk_eq_canon]
  refine Mlp.canon_of_blocks _ _ ?_ (cover0_C_2 _ _ _ _ _ _ _ _ _ _ _ _ _ _ _ _)
  unfold kernelRun0_C
  sl_unfold_words
  simp only [View.readAt_eq_ld, harg3.read_unread, harg4.read_unread, harg6.read_unread]
  exact ⟨columnsC a b s 768 (by decide) _ _ inb_S1024x1024_S1024x256_0_768, columnsC a b s 512 (by decide) _ _ inb_S1024x1024_S1024x256_0_512,
    columnsC a b s 256 (by decide) _ _ inb_S1024x1024_S1024x256_0_256, columnsC a b s 0 (by decide) _ _ inb_S1024x1024_S1024x256_0_0, trivial⟩

end cases

variable (m : (ℓ : Loc nD τ sig) → Buf (Elt Ideal) ℓ)

/-- The product over the rows point `t` fetched. -/
def term (c : Dev nD) (t : Fin cfg0.N) : F32 S1024x1024 := blockOf (iblk m c 0 t) (iblk m c 1 t)

theorem step_first (c : Dev nD) (t : Fin cfg0.N) (h : t.val % 4 = 0) : (outsAt0 m c t.val t.isLt).2 = term m c t := by
  have h1 : ¬(1 ≤ t.val % 4 ∧ t.val % 4 ≤ 2) := by omega
  have h2 : ¬t.val % 4 = 3 := by omega
  rw [outsAt0_A m c t h h1 h2]
  dsimp only
  unfold term
  exact first _ _ _ _ _ _ _ _ _ _ _ _ _ _ _

theorem step_middle (c : Dev nD) (t s : Fin cfg0.N) (h : 1 ≤ t.val % 4 ∧ t.val % 4 ≤ 2) (hs : s.val = t.val - 1) (y : S1024x1024.Idx) :
    ((outsAt0 m c t.val t.isLt).2 y : EReal) = ((outsAt0 m c s.val s.isLt).2 y : EReal) + term m c t y := by
  obtain ⟨s, hs'⟩ := s
  obtain rfl : s = t.val - 1 := hs
  have h0 : ¬t.val % 4 = 0 := by omega
  have h2 : ¬t.val % 4 = 3 := by omega
  rw [outsAt0_B m c t h0 h h2]
  dsimp only
  unfold term
  exact congrFun (middle _ _ _ _ _ _ _ _ _ _ _ _ _ _ _ _) y

theorem step_last (c : Dev nD) (t s : Fin cfg0.N) (h : t.val % 4 = 3) (hs : s.val = t.val - 1) (y : S1024x1024.Idx) :
    ((outsAt0 m c t.val t.isLt).1 y : EReal) = ((outsAt0 m c s.val s.isLt).2 y : EReal) + term m c t y := by
  obtain ⟨s, hs'⟩ := s
  obtain rfl : s = t.val - 1 := hs
  have h0 : ¬t.val % 4 = 0 := by omega
  have h1 : ¬(1 ≤ t.val % 4 ∧ t.val % 4 ≤ 2) := by omega
  rw [outsAt0_C m c t h0 h1 h]
  dsimp only
  unfold term
  exact congrFun (last _ _ _ _ _ _ _ _ _ _ _ _ _ _ _ _) y

/-- The point `k` of block `i`'s four. -/
def pt (i k : Fin 4) : Fin cfg0.N := ⟨i.val * 4 + k.val, by have hN : cfg0.N = 16 := N_0; omega⟩

/-- The result's block is the sum of the four products. -/
theorem block_sum (c : Dev nD) (i : Fin 4) (y : S1024x1024.Idx) :
    ((outsAt0 m c (pt i 3).val (pt i 3).isLt).1 y : EReal) =
      (term m c (pt i 0) y : EReal) + term m c (pt i 1) y + term m c (pt i 2) y + term m c (pt i 3) y := by
  have e3 := step_last m c (pt i 3) (pt i 2) (by show (i.val * 4 + 3) % 4 = 3; omega) (by show i.val * 4 + 2 = i.val * 4 + 3 - 1; omega) y
  have e2 := step_middle m c (pt i 2) (pt i 1) (by show 1 ≤ (i.val * 4 + 2) % 4 ∧ (i.val * 4 + 2) % 4 ≤ 2; omega) (by show i.val * 4 + 1 = i.val * 4 + 2 - 1; omega) y
  have e1 := step_middle m c (pt i 1) (pt i 0) (by show 1 ≤ (i.val * 4 + 1) % 4 ∧ (i.val * 4 + 1) % 4 ≤ 2; omega) (by show i.val * 4 + 0 = i.val * 4 + 1 - 1; omega) y
  have e0 := congrFun (step_first m c (pt i 0) (by show (i.val * 4 + 0) % 4 = 0; omega)) y
  rw [e3, e2, e1, e0]

/-- The activation and the output's gradient, as the region finds them, -/
abbrev left (c : Dev nD) : BF16 S8192x4096 := V m c main_v3
abbrev right (c : Dev nD) : BF16 S8192x1024 := V m c main_v4

/-- and the array of results. -/
def result (c : Dev nD) : F32 S4096x1024 :=
  fun y => ∑ k : Fin 8192, (left m c (ix2 k (y 0)) : EReal) * right m c (ix2 k (y 1))

/-- Where each window's block lies. -/
theorem at0 (i k : Fin 4) : win0_0.index (pt i k) 0 = k.val ∧ win0_0.index (pt i k) 1 = i.val := by
  revert i k; decide +kernel
theorem at1 (i k : Fin 4) : win0_1.index (pt i k) 0 = k.val ∧ win0_1.index (pt i k) 1 = 0 := by
  revert i k; decide +kernel
theorem at2 (i k : Fin 4) : win0_2.index (pt i k) 0 = i.val ∧ win0_2.index (pt i k) 1 = 0 := by
  revert i k; decide +kernel

def row (i : Fin 4) (r : Fin 1024) : Fin 4096 := ⟨i.val * 1024 + r.val, by omega⟩

theorem blk0 (c : Dev nD) (i k : Fin 4) (r : Fin 2048) (j : Fin 1024) :
    (iblk m c 0 (pt i k) : BF16 S2048x1024) (ix2 r j) = left m c (ix2 (Mlp.quarter k r) (row i j)) := by
  unfold iblk
  rw [View.read_apply]
  show V m c main_v3 _ = V m c main_v3 _
  congr 1
  funext a
  apply Fin.ext
  match a with
  | ⟨0, _⟩ => exact Mlp.at_block (at0 i k).1
  | ⟨1, _⟩ => exact Mlp.at_block (at0 i k).2

theorem blk1 (c : Dev nD) (i k : Fin 4) (r : Fin 2048) (j : Fin 1024) :
    (iblk m c 1 (pt i k) : BF16 S2048x1024) (ix2 r j) = right m c (ix2 (Mlp.quarter k r) j) := by
  unfold iblk
  rw [View.read_apply]
  show V m c main_v4 _ = V m c main_v4 _
  congr 1
  funext a
  apply Fin.ext
  match a with
  | ⟨0, _⟩ => exact Mlp.at_block (at1 i k).1
  | ⟨1, _⟩ => exact Mlp.at_start (at1 i k).2

theorem emb2 (i : Fin 4) (r j : Fin 1024) :
    ((cfg0.win 2).blk (pt i 3)).view.emb (ix2 r j) = (ix2 (row i r) j : S4096x1024.Idx) := by
  funext a
  apply Fin.ext
  match a with
  | ⟨0, _⟩ => exact Mlp.at_block (at2 i 3).1
  | ⟨1, _⟩ => exact Mlp.at_start (at2 i 3).2

theorem term_eq (c : Dev nD) (i k : Fin 4) (p q : Fin 1024) :
    (term m c (pt i k) (ix2 p q) : EReal) =
      ∑ r : Fin 2048, (left m c (ix2 (Mlp.quarter k r) (row i p)) : EReal) * right m c (ix2 (Mlp.quarter k r) q) := by
  unfold term blockOf
  exact Finset.sum_congr rfl fun r _ => congrArg₂ (· * ·) (blk0 m c i k r p) (blk1 m c i k r q)

/-- What each last point writes back is the results' block there. -/
theorem flushed (c : Dev nD) (i : Fin 4) :
    (dats m 0 c).flushed 2 (pt i 3) = ((cfg0.win 2).blk (pt i 3)).view.read (Elt Ideal) (result m c) := by
  show (cfg0.win 2).cut (grid0.coords (pt i 3)) ((dats m 0 c).after 2 (pt i 3)) = _
  rw [after0_2]
  have key : ∀ y : S1024x1024.Idx, (outsAt0 m c (pt i 3).val (pt i 3).isLt).1 y = result m c (((cfg0.win 2).blk (pt i 3)).view.emb y) := fun y => by
    rw [ValueIdx.eq_ix2 y]
    refine Eq.trans ?_ (congrArg (result m c) (emb2 i (y 0) (y 1))).symm
    refine (block_sum m c i (ix2 (y 0) (y 1))).trans ?_
    refine Eq.trans ?_ (Mlp.sum_quarters fun k => (left m c (ix2 k (row i (y 0))) : EReal) * right m c (ix2 k (y 1))).symm
    exact congrArg₂ (· + ·) (congrArg₂ (· + ·) (congrArg₂ (· + ·)
      (term_eq m c i 0 (y 0) (y 1)) (term_eq m c i 1 (y 0) (y 1))) (term_eq m c i 2 (y 0) (y 1))) (term_eq m c i 3 (y 0) (y 1))
  exact funext key

theorem last_point (t : Fin cfg0.N) (h : t.val % 4 = 3) : ∃ i : Fin 4, t = pt i 3 := by
  have hN : cfg0.N = 16 := N_0
  have ht := t.isLt
  exact ⟨⟨t.val / 4, by omega⟩, Fin.ext (by show t.val = t.val / 4 * 4 + 3; omega)⟩

/-- The array ends at the results. -/
theorem final (c : Dev nD) : (dats m 0 c).arrAt 2 cfg0.N = result m c :=
  (dats m 0 c).arrAt_eq_of_cover 2 (result m c)
    (fun t ht => by obtain ⟨i, rfl⟩ := last_point t ((flush0_2 t).mp ht); exact flushed m c i) fun y => by
    have h0 : (y 0 : Nat) < 4096 := (y 0).isLt
    have h1 : (y 1 : Nat) < 1024 := (y 1).isLt
    generalize hi : (⟨(y 0 : Nat) / 1024, by omega⟩ : Fin 4) = i
    have hv : i.val = (y 0 : Nat) / 1024 := by rw [← hi]
    refine ⟨pt i 3, (flush0_2 _).mpr (by show (i.val * 4 + 3) % 4 = 3; omega), ?_⟩
    show y ∈ ((View.whole main_v5).slice (win0_2.rect (pt i 3))).set
    rw [View.set_slice_whole, Rect.mem_set_unit]
    intro a
    match a with
    | ⟨0, _⟩ => exact Mlp.within 1024 (y 0).val (at2 i 3).1 (by omega)
    | ⟨1, _⟩ => exact Mlp.within 1024 (y 1).val (at2 i 3).2 (by omega)

/-- The hidden layer. -/
abbrev hidden (c : Dev nD) (y : S8192x4096.Idx) : EReal := m (c, Proc.devRef .tc main_arg0) y

/-- The activation is the rectified hidden layer's square; casting to the narrower format changes no real. -/
theorem left_eq (c : Dev nD) (y : S8192x4096.Idx) : (left m c y : EReal) = max (hidden m c y) 0 * max (hidden m c y) 0 := by
  simp only [left, V, hostOps0]
  after_reads_at
theorem right_eq (c : Dev nD) (y : S8192x1024.Idx) : (right m c y : EReal) = (m (c, Proc.devRef .tc main_arg2) : F32 S8192x1024) y := by
  simp only [right, V, hostOps0]
  after_reads_at

end Cert.DwdownIdeal.Value

end
-- ==== Proof.DhIdeal.Product.lean ====
/- The gradient of the hidden layer's input: the product of the hidden gradient with the transposed weights, entry by entry. -/
module

public import proofs.«01_k».proof.Proof.Types
public import proofs.«01_k».proof.Proof.Gen.DhIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

set_option maxRecDepth 16384

noncomputable section

namespace Cert.DhIdeal.Value

open Idealize.ShloMosaic Idealize.ShloMosaic.TcCoe Idealize.ShloMosaic.Tactic
open Cert.DhIdeal.Gen

/-- One chunk of 256 columns: products of rows with rows. -/
theorem chunk (b : BF16 S256x4096) (a : BF16 S1024x4096) (r : Fin 1024) (j : Fin 256) :
    (k0_pay1 b a (ix2 r j) : EReal) = ∑ k : Fin 4096, (a (ix2 r k) : EReal) * b (ix2 j k) := by
  pointwise [k0_pay1]

/-- The block the body leaves. -/
def blockOf (a b : BF16 S1024x4096) : F32 S1024x1024 :=
  fun y => ∑ k : Fin 4096, (a (ix2 (y 0) k) : EReal) * b (ix2 (y 1) k)

/-- A chunk read off the block's rows is the block's columns there. -/
theorem columns (a b : BF16 S1024x4096) (n : ℕ) (hn : n + 256 ≤ 1024) (inb inb' inbo)
    (x : S1024x256.Idx) :
    (k0_pay1 (View.ld b (Rect.unit (s := S1024x4096) ![n, 0] S256x4096.size inb))
      (View.ld a (Rect.unit (s := S1024x4096) ![0, 0] S1024x4096.size inb')) x : EReal) =
    blockOf a b ((Rect.unit (s := S1024x1024) ![0, n] S1024x256.size inbo).emb x) := by
  rw [ValueIdx.eq_ix2 x]
  refine (chunk _ _ (x 0) (x 1)).trans (Finset.sum_congr rfl fun k _ => ?_)
  congr 1
  · show a _ = a _
    congr 1
    funext i
    apply Fin.ext
    match i with
    | ⟨0, _⟩ => rfl
    | ⟨1, _⟩ => show 0 + 1 * k.val = k.val; omega
  · show b _ = b _
    congr 1
    funext i
    apply Fin.ext
    match i with
    | ⟨0, _⟩ => rfl
    | ⟨1, _⟩ => show 0 + 1 * k.val = k.val; omega

theorem out_eq (a b : BF16 S1024x4096) : out0_2 a b = blockOf a b :=
  Mlp.canon_of_blocks _ _
    ⟨columns a b 768 (by decide) _ _ inb_S1024x1024_S1024x256_0_768, columns a b 512 (by decide) _ _ inb_S1024x1024_S1024x256_0_512, columns a b 256 (by decide) _ _ inb_S1024x1024_S1024x256_0_256,
      columns a b 0 (by decide) _ _ inb_S1024x1024_S1024x256_0_0, trivial⟩ (cover0_2 _ _ _ _)

variable (m : (ℓ : Loc nD τ sig) → Buf (Elt Ideal) ℓ)

/-- The hidden gradient and the weights, as the region finds them, -/
abbrev left (c : Dev nD) : BF16 S8192x4096 := V m c main_v0
abbrev right (c : Dev nD) : BF16 S1024x4096 := V m c main_v1

/-- and the array of results. -/
def result (c : Dev nD) : F32 S8192x1024 :=
  fun y => ∑ k : Fin 4096, (left m c (ix2 (y 0) k) : EReal) * right m c (ix2 (y 1) k)

/-- Where each window's block lies. -/
theorem at0 (t : Fin cfg0.N) : win0_0.index t 0 = t.val ∧ win0_0.index t 1 = 0 := by
  revert t; decide +kernel
theorem at1 (t : Fin cfg0.N) : win0_1.index t 0 = 0 ∧ win0_1.index t 1 = 0 := by
  revert t; decide +kernel
theorem at2 (t : Fin cfg0.N) : win0_2.index t 0 = t.val ∧ win0_2.index t 1 = 0 := by
  revert t; decide +kernel

def row (t : Fin cfg0.N) (r : Fin 1024) : Fin 8192 := ⟨t.val * 1024 + r.val, by have h : t.val < 8 := lt_of_lt_of_eq t.isLt N_0; omega⟩

theorem blk0 (c : Dev nD) (t : Fin cfg0.N) (r : Fin 1024) (k : Fin 4096) :
    (iblk m c 0 t : BF16 S1024x4096) (ix2 r k) = left m c (ix2 (row t r) k) := by
  unfold iblk
  rw [View.read_apply]
  show V m c main_v0 _ = V m c main_v0 _
  congr 1
  funext a
  apply Fin.ext
  match a with
  | ⟨0, _⟩ => exact Mlp.at_block (at0 t).1
  | ⟨1, _⟩ => exact Mlp.at_start (at0 t).2

theorem blk1 (c : Dev nD) (t : Fin cfg0.N) (j : Fin 1024) (k : Fin 4096) :
    (iblk m c 1 t : BF16 S1024x4096) (ix2 j k) = right m c (ix2 j k) := by
  unfold iblk
  rw [View.read_apply]
  show V m c main_v1 _ = V m c main_v1 _
  congr 1
  funext a
  apply Fin.ext
  match a with
  | ⟨0, _⟩ => exact Mlp.at_start (at1 t).1
  | ⟨1, _⟩ => exact Mlp.at_start (at1 t).2

theorem emb2 (t : Fin cfg0.N) (r j : Fin 1024) :
    ((cfg0.win 2).blk t).view.emb (ix2 r j) = (ix2 (row t r) j : S8192x1024.Idx) := by
  funext a
  apply Fin.ext
  match a with
  | ⟨0, _⟩ => exact Mlp.at_block (at2 t).1
  | ⟨1, _⟩ => exact Mlp.at_start (at2 t).2

/-- What each point writes back is the results' block there. -/
theorem flushed (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2, out_eq]
  have key : ∀ y : S1024x1024.Idx, blockOf (iblk m c 0 t) (iblk m c 1 t) y = result m c (((cfg0.win 2).blk t).view.emb y) := fun y => by
    rw [ValueIdx.eq_ix2 y]
    refine Eq.trans ?_ (congrArg (result m c) (emb2 t (y 0) (y 1))).symm
    refine Finset.sum_congr rfl fun k _ => ?_
    exact congrArg₂ (· * ·) (blk0 m c t (y 0) k) (blk1 m c t (y 1) k)
  exact funext key

/-- The array ends at the results. -/
theorem final (c : Dev nD) : (dats m 0 c).arrAt 2 cfg0.N = result m c :=
  (dats m 0 c).arrAt_eq_of_cover 2 (result m c) (fun t _ => flushed m c t) fun y => by
    have h0 : (y 0 : Nat) < 8192 := (y 0).isLt
    have h1 : (y 1 : Nat) < 1024 := (y 1).isLt
    have hN : cfg0.N = 8 := N_0
    refine ⟨⟨(y 0 : Nat) / 1024, by omega⟩, flush0_2 _, ?_⟩
    generalize ht : (⟨(y 0 : Nat) / 1024, by omega⟩ : Fin cfg0.N) = t
    have hv : t.val = (y 0 : Nat) / 1024 := by rw [← ht]
    show y ∈ ((View.whole main_v2).slice (win0_2.rect t)).set
    rw [View.set_slice_whole, Rect.mem_set_unit]
    intro a
    match a with
    | ⟨0, _⟩ => exact Mlp.within 1024 (y 0).val (at2 t).1 (by omega)
    | ⟨1, _⟩ => exact Mlp.within 1024 (y 1).val (at2 t).2 (by omega)

/-- Casting to the narrower format changes no real. -/
theorem left_eq (c : Dev nD) (y : S8192x4096.Idx) : (left m c y : EReal) = (m (c, Proc.devRef .tc main_arg2) : F32 S8192x4096) y := by
  simp only [left, V, hostOps0]
  after_reads_at
theorem right_eq (c : Dev nD) (y : S1024x4096.Idx) : (right m c y : EReal) = (m (c, Proc.devRef .tc main_arg1) : F32 S1024x4096) y := by
  simp only [right, V, hostOps0]
  after_reads_at

end Cert.DhIdeal.Value

end
-- ==== Proof.DwupIdeal.Product.lean ====
/- The gradient of the first weights: the input's transpose times the hidden gradient, split over the four devices by columns. Its
   8192 rows are summed in four blocks of 2048 over consecutive points; entry by entry. -/
module

public import proofs.«01_k».proof.Proof.Types
public import proofs.«01_k».proof.Proof.Gen.DwupIdeal.Frame
public import proofs.«01_k».proof.Proof.Mlp.Blocks
public import proofs.«01_k».proof.Proof.Mlp.Columns
public import proofs.«01_k».proof.Proof.Mlp.Quarters
public import Idealize.ShloMosaic.Lib.Pipeline.Value
public import Idealize.ShloMosaic.Lib.StableHlo.ReadAt

@[expose] public section

set_option maxRecDepth 16384

noncomputable section

namespace Cert.DwupIdeal.Value

open Idealize.ShloMosaic Idealize.ShloMosaic.TcCoe Idealize.ShloMosaic.Tactic
open Cert.DwupIdeal.Gen

/-- One chunk of 256 columns at a first point: products of columns with columns; -/
theorem chunkA (b : BF16 S2048x256) (a : BF16 S2048x1024) (i : Fin 1024) (j : Fin 256) :
    (k0_pay1 (k0_pay8 b a) (ix2 i j) : EReal) = ∑ r : Fin 2048, (a (ix2 r i) : EReal) * b (ix2 r j) := by
  pointwise [k0_pay1, k0_pay8]

/-- and at a later one, added to what is carried, -/
theorem chunkB (b : BF16 S2048x256) (a : BF16 S2048x1024) (s : F32 S1024x256) (i : Fin 1024) (j : Fin 256) :
    (k0_pay2 b a s (ix2 i j) : EReal) = (s (ix2 i j) : EReal) + ∑ r : Fin 2048, (a (ix2 r i) : EReal) * b (ix2 r j) := by
  pointwise [k0_pay2]

/-- which the last point stores as the result. -/
theorem chunkC (b : BF16 S2048x256) (a : BF16 S2048x1024) (s : F32 S1024x256) (o : Fin 1) (i : Fin 1024) (j : Fin 256) :
    (k0_pay4 b a s (ix3 o i j) : EReal) = (s (ix2 i j) : EReal) + ∑ r : Fin 2048, (a (ix2 r i) : EReal) * b (ix2 r j) := by
  pointwise [k0_pay4]

/-- The product over one block of rows, -/
def blockOf (a b : BF16 S2048x1024) : F32 S1024x1024 :=
  fun y => ∑ r : Fin 2048, (a (ix2 r (y 0)) : EReal) * b (ix2 r (y 1))

/-- and what is carried with it added. -/
def added (s : F32 S1024x1024) (a b : BF16 S2048x1024) : F32 S1024x1024 :=
  fun y => (s y : EReal) + blockOf a b y

/-- A chunk of the product is the product's columns there. -/
theorem part (a b : BF16 S2048x1024) (n : ℕ) (hn : n + 256 ≤ 1024) (inb inb' inbo) (x : S1024x256.Idx) :
    (∑ r : Fin 2048, (View.ld a (Rect.unit (s := S2048x1024) ![0, 0] S2048x1024.size inb') (ix2 r (x 0)) : EReal) *
      View.ld b (Rect.unit (s := S2048x1024) ![0, n] S2048x256.size inb) (ix2 r (x 1))) =
    blockOf a b ((Rect.unit (s := S1024x1024) ![0, n] S1024x256.size inbo).emb x) := by
  refine Finset.sum_congr rfl fun k _ => ?_
  congr 1
  · show a _ = a _
    congr 1
    funext i
    apply Fin.ext
    match i with
    | ⟨0, _⟩ => show 0 + 1 * k.val = k.val; omega
    | ⟨1, _⟩ => rfl
  · show b _ = b _
    congr 1
    funext i
    apply Fin.ext
    match i with
    | ⟨0, _⟩ => show 0 + 1 * k.val = k.val; omega
    | ⟨1, _⟩ => rfl

theorem columnsA (a b : BF16 S2048x1024) (n : ℕ) (hn : n + 256 ≤ 1024) (inb inb' inbo) (x : S1024x256.Idx) :
    (k0_pay1 (k0_pay8 (View.ld b (Rect.unit (s := S2048x1024) ![0, n] S2048x256.size inb))
      (View.ld a (Rect.unit (s := S2048x1024) ![0, 0] S2048x1024.size inb'))) x : EReal) =
    blockOf a b ((Rect.unit (s := S1024x1024) ![0, n] S1024x256.size inbo).emb x) := by
  rw [ValueIdx.eq_ix2 x]
  exact (chunkA _ _ (x 0) (x 1)).trans (part a b n hn inb inb' inbo (ix2 (x 0) (x 1)))

theorem columnsB (a b : BF16 S2048x1024) (s : F32 S1024x1024) (n : ℕ) (hn : n + 256 ≤ 1024) (inb inb' inbo) (x : S1024x256.Idx) :
    (k0_pay2 (View.ld b (Rect.unit (s := S2048x1024) ![0, n] S2048x256.size inb))
      (View.ld a (Rect.unit (s := S2048x1024) ![0, 0] S2048x1024.size inb'))
      (View.ld s (Rect.unit (s := S1024x1024) ![0, n] S1024x256.size inbo)) x : EReal) =
    added s a b ((Rect.unit (s := S1024x1024) ![0, n] S1024x256.size inbo).emb x) := by
  rw [ValueIdx.eq_ix2 x]
  exact (chunkB _ _ _ (x 0) (x 1)).trans (congrArg₂ (· + ·) rfl (part a b n hn inb inb' inbo (ix2 (x 0) (x 1))))

/-- The result's block, with its leading axis of one. -/
def stored (s : F32 S1024x1024) (a b : BF16 S2048x1024) : F32 S1x1024x1024 :=
  fun y => added s a b (ix2 (y 1) (y 2))

theorem columnsC (a b : BF16 S2048x1024) (s : F32 S1024x1024) (n : ℕ) (hn : n + 256 ≤ 1024) (inb inb' inbs inbo) (x : S1x1024x256.Idx) :
    (k0_pay4 (View.ld b (Rect.unit (s := S2048x1024) ![0, n] S2048x256.size inb))
      (View.ld a (Rect.unit (s := S2048x1024) ![0, 0] S2048x1024.size inb'))
      (View.ld s (Rect.unit (s := S1024x1024) ![0, n] S1024x256.size inbs)) x : EReal) =
    stored s a b ((Rect.unit (s := S1x1024x1024) ![0, 0, n] S1x1024x256.size inbo).emb x) := by
  have hx : (ix2 ((Rect.unit (s := S1x1024x1024) ![0, 0, n] S1x1024x256.size inbo).emb x 1) ((Rect.unit (s := S1x1024x1024) ![0, 0, n] S1x1024x256.size inbo).emb x 2) : S1024x1024.Idx)
      = (Rect.unit (s := S1024x1024) ![0, n] S1024x256.size inbs).emb (ix2 (x 1) (x 2)) := by
    funext i
    apply Fin.ext
    match i with
    | ⟨0, _⟩ => rfl
    | ⟨1, _⟩ => rfl
  refine Eq.trans ?_ (congrArg (added s a b) hx).symm
  rw [ValueIdx.eq_ix3 x]
  exact (chunkC _ _ _ (x 0) (x 1) (x 2)).trans (congrArg₂ (· + ·) rfl (part a b n hn inb inb' inbs (ix2 (x 1) (x 2))))

section cases

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1x1024x1024 .f32) (harg5 : arg5.IsWhole)
  (arg6 : Memref sig .tc .vmem S1024x1024 .f32) (harg6 : arg6.IsWhole)

/-- A first point leaves its product in the accumulator, -/
theorem first (hc0 hc1 hc2) (a b : BF16 S2048x1024) :
    sout0_A_0 c i arg3 harg3 arg4 harg4 arg5 harg5 arg6 harg6 hc0 hc1 hc2 a b = blockOf a b := by
  unfold sout0_A_0
  rw [View.read_writes_junk_eq_canon]
  refine Mlp.canon_of_blocks _ _ ?_ (scover0_A_0 _ _ _ _ _ _ _ _ _ _ _ _ _ _ _)
  unfold kernelRun0_A
  sl_unfold_words
  simp only [View.readAt_eq_ld, harg3.read_unread, harg4.read_unread, harg6.read_unread]
  exact ⟨columnsA a b 768 (by decide) _ _ inb_S1024x1024_S1024x256_0_768, columnsA a b 512 (by decide) _ _ inb_S1024x1024_S1024x256_0_512,
    columnsA a b 256 (by decide) _ _ inb_S1024x1024_S1024x256_0_256, columnsA a b 0 (by decide) _ _ inb_S1024x1024_S1024x256_0_0, trivial⟩

/-- a middle one adds its product, -/
theorem middle (hc0 hc1 hc2) (a b : BF16 S2048x1024) (s : F32 S1024x1024) :
    sout0_B_0 c i arg3 harg3 arg4 harg4 arg5 harg5 arg6 harg6 hc0 hc1 hc2 a b s = added s a b := by
  unfold sout0_B_0
  rw [View.read_writes_junk_eq_canon]
  refine Mlp.canon_of_blocks _ _ ?_ (scover0_B_0 _ _ _ _ _ _ _ _ _ _ _ _ _ _ _ _)
  unfold kernelRun0_B
  sl_unfold_words
  simp only [View.readAt_eq_ld, harg3.read_unread, harg4.read_unread, harg6.read_unread]
  exact ⟨columnsB a b s 768 (by decide) _ _ inb_S1024x1024_S1024x256_0_768, columnsB a b s 512 (by decide) _ _ inb_S1024x1024_S1024x256_0_512,
    columnsB a b s 256 (by decide) _ _ inb_S1024x1024_S1024x256_0_256, columnsB a b s 0 (by decide) _ _ inb_S1024x1024_S1024x256_0_0, trivial⟩

/-- and the last one stores the sum as the result. -/
theorem last (hc0 hc1 hc2) (a b : BF16 S2048x1024) (s : F32 S1024x1024) :
    out0_C_2 c i arg3 harg3 arg4 harg4 arg5 harg5 arg6 harg6 hc0 hc1 hc2 a b s = stored s a b := by
  unfold out0_C_2
  rw [View.read_writes_junk_eq_canon]
  refine Mlp.canon_of_blocks _ _ ?_ (cover0_C_2 _ _ _ _ _ _ _ _ _ _ _ _ _ _ _ _)
  unfold kernelRun0_C
  sl_unfold_words
  simp only [View.readAt_eq_ld, harg3.read_unread, harg4.read_unread, harg6.read_unread]
  exact ⟨columnsC a b s 768 (by decide) _ _ inb_S1024x1024_S1024x256_0_768 inb_S1x1024x1024_S1x1024x256_0_0_768, columnsC a b s 512 (by decide) _ _ inb_S1024x1024_S1024x256_0_512 inb_S1x1024x1024_S1x1024x256_0_0_512,
    columnsC a b s 256 (by decide) _ _ inb_S1024x1024_S1024x256_0_256 inb_S1x1024x1024_S1x1024x256_0_0_256, columnsC a b s 0 (by decide) _ _ inb_S1024x1024_S1024x256_0_0 inb_S1x1024x1024_S1x1024x256_0_0_0, trivial⟩

end cases

variable (m : (ℓ : Loc nD τ sig) → Buf (Elt Ideal) ℓ)

/-- The product over the rows point `t` fetched. -/
def term (c : Dev nD) (t : Fin cfg0.N) : F32 S1024x1024 := blockOf (iblk m c 0 t) (iblk m c 1 t)

theorem step_first (c : Dev nD) (t : Fin cfg0.N) (h : t.val % 4 = 0) : (outsAt0 m c t.val t.isLt).2 = term m c t := by
  have h1 : ¬(1 ≤ t.val % 4 ∧ t.val % 4 ≤ 2) := by omega
  have h2 : ¬t.val % 4 = 3 := by omega
  rw [outsAt0_A m c t h h1 h2]
  dsimp only
  unfold term
  exact first _ _ _ _ _ _ _ _ _ _ _ _ _ _ _

theorem step_middle (c : Dev nD) (t s : Fin cfg0.N) (h : 1 ≤ t.val % 4 ∧ t.val % 4 ≤ 2) (hs : s.val = t.val - 1) (y : S1024x1024.Idx) :
    ((outsAt0 m c t.val t.isLt).2 y : EReal) = ((outsAt0 m c s.val s.isLt).2 y : EReal) + term m c t y := by
  obtain ⟨s, hs'⟩ := s
  obtain rfl : s = t.val - 1 := hs
  have h0 : ¬t.val % 4 = 0 := by omega
  have h2 : ¬t.val % 4 = 3 := by omega
  rw [outsAt0_B m c t h0 h h2]
  dsimp only
  unfold term
  exact congrFun (middle _ _ _ _ _ _ _ _ _ _ _ _ _ _ _ _) y

theorem step_last (c : Dev nD) (t s : Fin cfg0.N) (h : t.val % 4 = 3) (hs : s.val = t.val - 1) (y : S1024x1024.Idx) :
    ((outsAt0 m c t.val t.isLt).1 (ix3 (0 : Fin 1) (y 0) (y 1)) : EReal) = ((outsAt0 m c s.val s.isLt).2 y : EReal) + term m c t y := by
  obtain ⟨s, hs'⟩ := s
  obtain rfl : s = t.val - 1 := hs
  have h0 : ¬t.val % 4 = 0 := by omega
  have h1 : ¬(1 ≤ t.val % 4 ∧ t.val % 4 ≤ 2) := by omega
  rw [outsAt0_C m c t h0 h1 h]
  dsimp only
  unfold term
  refine (congrFun (last _ _ _ _ _ _ _ _ _ _ _ _ _ _ _ _) (ix3 (0 : Fin 1) (y 0) (y 1))).trans ?_
  rw [ValueIdx.eq_ix2 y]
  rfl

/-- The point `k` of block `i`'s four. -/
def pt (i k : Fin 4) : Fin cfg0.N := ⟨i.val * 4 + k.val, by have hN : cfg0.N = 16 := N_0; omega⟩

/-- The result's block is the sum of the four products. -/
theorem block_sum (c : Dev nD) (i : Fin 4) (y : S1024x1024.Idx) :
    ((outsAt0 m c (pt i 3).val (pt i 3).isLt).1 (ix3 (0 : Fin 1) (y 0) (y 1)) : EReal) =
      (term m c (pt i 0) y : EReal) + term m c (pt i 1) y + term m c (pt i 2) y + term m c (pt i 3) y := by
  have e3 := step_last m c (pt i 3) (pt i 2) (by show (i.val * 4 + 3) % 4 = 3; omega) (by show i.val * 4 + 2 = i.val * 4 + 3 - 1; omega) y
  have e2 := step_middle m c (pt i 2) (pt i 1) (by show 1 ≤ (i.val * 4 + 2) % 4 ∧ (i.val * 4 + 2) % 4 ≤ 2; omega) (by show i.val * 4 + 1 = i.val * 4 + 2 - 1; omega) y
  have e1 := step_middle m c (pt i 1) (pt i 0) (by show 1 ≤ (i.val * 4 + 1) % 4 ∧ (i.val * 4 + 1) % 4 ≤ 2; omega) (by show i.val * 4 + 0 = i.val * 4 + 1 - 1; omega) y
  have e0 := congrFun (step_first m c (pt i 0) (by show (i.val * 4 + 0) % 4 = 0; omega)) y
  rw [e3, e2, e1, e0]

/-- The input and the hidden gradient, as the region finds them, -/
abbrev left (c : Dev nD) : BF16 S8192x1024 := V m c main_v0
abbrev right (c : Dev nD) : BF16 S8192x4096 := V m c main_v1

/-- A column of device `i`'s share, -/
def col (i : Fin 4) (j : Fin 1024) : Fin 4096 := ⟨i.val * 1024 + j.val, by omega⟩

/-- and the array of results. -/
def result (c : Dev nD) : F32 S4x1024x1024 :=
  fun y => ∑ k : Fin 8192, (left m c (ix2 k (y 1)) : EReal) * right m c (ix2 k (col (y 0) (y 2)))

/-- Where each window's block lies. -/
theorem at0 (i k : Fin 4) : win0_0.index (pt i k) 0 = k.val ∧ win0_0.index (pt i k) 1 = 0 := by
  revert i k; decide +kernel
theorem at1 (i k : Fin 4) : win0_1.index (pt i k) 0 = k.val ∧ win0_1.index (pt i k) 1 = i.val := by
  revert i k; decide +kernel
theorem at2 (i k : Fin 4) : win0_2.index (pt i k) 0 = i.val ∧ win0_2.index (pt i k) 1 = 0 ∧ win0_2.index (pt i k) 2 = 0 := by
  revert i k; decide +kernel

theorem blk0 (c : Dev nD) (i k : Fin 4) (r : Fin 2048) (j : Fin 1024) :
    (iblk m c 0 (pt i k) : BF16 S2048x1024) (ix2 r j) = left m c (ix2 (Mlp.quarter k r) j) := by
  unfold iblk
  rw [View.read_apply]
  show V m c main_v0 _ = V m c main_v0 _
  congr 1
  funext a
  apply Fin.ext
  match a with
  | ⟨0, _⟩ => exact Mlp.at_block (at0 i k).1
  | ⟨1, _⟩ => exact Mlp.at_start (at0 i k).2

theorem blk1 (c : Dev nD) (i k : Fin 4) (r : Fin 2048) (j : Fin 1024) :
    (iblk m c 1 (pt i k) : BF16 S2048x1024) (ix2 r j) = right m c (ix2 (Mlp.quarter k r) (col i j)) := by
  unfold iblk
  rw [View.read_apply]
  show V m c main_v1 _ = V m c main_v1 _
  congr 1
  funext a
  apply Fin.ext
  match a with
  | ⟨0, _⟩ => exact Mlp.at_block (at1 i k).1
  | ⟨1, _⟩ => exact Mlp.at_block (at1 i k).2

theorem emb2 (i : Fin 4) (o : Fin 1) (r j : Fin 1024) :
    ((cfg0.win 2).blk (pt i 3)).view.emb (ix3 o r j) = (ix3 i r j : S4x1024x1024.Idx) := by
  funext a
  apply Fin.ext
  match a with
  | ⟨0, _⟩ => show win0_2.index (pt i 3) 0 * 1 + 1 * o.val = i.val; rw [(at2 i 3).1]; omega
  | ⟨1, _⟩ => exact Mlp.at_start (at2 i 3).2.1
  | ⟨2, _⟩ => exact Mlp.at_start (at2 i 3).2.2

theorem term_eq (c : Dev nD) (i k : Fin 4) (p q : Fin 1024) :
    (term m c (pt i k) (ix2 p q) : EReal) =
      ∑ r : Fin 2048, (left m c (ix2 (Mlp.quarter k r) p) : EReal) * right m c (ix2 (Mlp.quarter k r) (col i q)) := by
  unfold term blockOf
  exact Finset.sum_congr rfl fun r _ => congrArg₂ (· * ·) (blk0 m c i k r p) (blk1 m c i k r q)

/-- What each last point writes back is the results' block there. -/
theorem flushed (c : Dev nD) (i : Fin 4) :
    (dats m 0 c).flushed 2 (pt i 3) = ((cfg0.win 2).blk (pt i 3)).view.read (Elt Ideal) (result m c) := by
  show (cfg0.win 2).cut (grid0.coords (pt i 3)) ((dats m 0 c).after 2 (pt i 3)) = _
  rw [after0_2]
  have key : ∀ y : S1x1024x1024.Idx, (outsAt0 m c (pt i 3).val (pt i 3).isLt).1 y = result m c (((cfg0.win 2).blk (pt i 3)).view.emb y) := fun y => by
    rw [ValueIdx.eq_ix3 y]
    refine Eq.trans ?_ (congrArg (result m c) (emb2 i (y 0) (y 1) (y 2))).symm
    have h0 : y 0 = (0 : Fin 1) := Subsingleton.elim (α := Fin 1) _ _
    rw [h0]
    refine (block_sum m c i (ix2 (y 1) (y 2))).trans ?_
    refine Eq.trans ?_ (Mlp.sum_quarters fun k => (left m c (ix2 k (y 1)) : EReal) * right m c (ix2 k (col i (y 2)))).symm
    exact congrArg₂ (· + ·) (congrArg₂ (· + ·) (congrArg₂ (· + ·)
      (term_eq m c i 0 (y 1) (y 2)) (term_eq m c i 1 (y 1) (y 2))) (term_eq m c i 2 (y 1) (y 2))) (term_eq m c i 3 (y 1) (y 2))
  exact funext key

theorem last_point (t : Fin cfg0.N) (h : t.val % 4 = 3) : ∃ i : Fin 4, t = pt i 3 := by
  have hN : cfg0.N = 16 := N_0
  have ht := t.isLt
  exact ⟨⟨t.val / 4, by omega⟩, Fin.ext (by show t.val = t.val / 4 * 4 + 3; omega)⟩

/-- The array ends at the results. -/
theorem final (c : Dev nD) : (dats m 0 c).arrAt 2 cfg0.N = result m c :=
  (dats m 0 c).arrAt_eq_of_cover 2 (result m c)
    (fun t ht => by obtain ⟨i, rfl⟩ := last_point t ((flush0_2 t).mp ht); exact flushed m c i) fun y => by
    have h0 : (y 0 : Nat) < 4 := (y 0).isLt
    have h1 : (y 1 : Nat) < 1024 := (y 1).isLt
    have h2 : (y 2 : Nat) < 1024 := (y 2).isLt
    generalize hi : (⟨(y 0 : Nat), h0⟩ : Fin 4) = i
    have hv : i.val = (y 0 : Nat) := by rw [← hi]
    refine ⟨pt i 3, (flush0_2 _).mpr (by show (i.val * 4 + 3) % 4 = 3; omega), ?_⟩
    show y ∈ ((View.whole main_v2).slice (win0_2.rect (pt i 3))).set
    rw [View.set_slice_whole, Rect.mem_set_unit]
    intro a
    match a with
    | ⟨0, _⟩ => exact Mlp.within 1 (y 0).val (at2 i 3).1 (by omega)
    | ⟨1, _⟩ => exact Mlp.within 1024 (y 1).val (at2 i 3).2.1 (by omega)
    | ⟨2, _⟩ => exact Mlp.within 1024 (y 2).val (at2 i 3).2.2 (by omega)

/-- Casting to the narrower format changes no real. -/
theorem left_eq (c : Dev nD) (y : S8192x1024.Idx) : (left m c y : EReal) = (m (c, Proc.devRef .tc main_arg0) : F32 S8192x1024) y := by
  simp only [left, V, hostOps0]
  after_reads_at
theorem right_eq (c : Dev nD) (y : S8192x4096.Idx) : (right m c y : EReal) = (m (c, Proc.devRef .tc main_arg2) : F32 S8192x4096) y := by
  simp only [right, V, hostOps0]
  after_reads_at

end Cert.DwupIdeal.Value

end
-- ==== Proof.Mlp.Equation.lean ====
/- The gradients through the hidden layer are the reference's: the products' orders of factors, and the slope of the squared rectifier. -/
module

public import proofs.«01_k».proof.Proof.Gen.ReferenceDactIdeal.Read
public import proofs.«01_k».proof.Proof.Gen.ReferenceDwdownIdeal.Read
public import proofs.«01_k».proof.Proof.Gen.ReferenceDhIdeal.Read
public import proofs.«01_k».proof.Proof.Gen.ReferenceDwupIdeal.Read
public import proofs.«01_k».proof.Defs
public import proofs.«01_k».proof.Proof.Gen.Pre_finite_u
public import proofs.«01_k».proof.Proof.Equation
public import proofs.«01_k».proof.Proof.DactIdeal.Product
public import proofs.«01_k».proof.Proof.DwdownIdeal.Product
public import proofs.«01_k».proof.Proof.DhIdeal.Product
public import proofs.«01_k».proof.Proof.DwupIdeal.Product

@[expose] public section

noncomputable section

namespace Cert.Mlp

open Idealize.ShloMosaic Idealize.SL.Sem

section dh
open Cert.DhIdeal
variable (m : (ℓ : Loc nD τ sig) → Buf (Elt Ideal) ℓ) (c : Dev nD)

theorem dh_ref : Value.result m c =
    ReferenceDhIdeal.Read.val_main_v1 (m (c, Proc.devRef .tc main_arg1)) (m (c, Proc.devRef .tc main_arg2)) := by
  refine funext fun (y : S8192x1024.Idx) => ?_
  refine Eq.trans ?_ (ReferenceDhIdeal.Read.val_main_v1_apply _ _ y).symm
  unfold Value.result
  refine Finset.sum_congr rfl fun k _ => congrArg₂ (· * ·) ?_ ?_
  · refine (Value.left_eq m c _).trans ?_
    congr 1
    funext i
    match i with
    | ⟨0, _⟩ => rfl
    | ⟨1, _⟩ => rfl
  · refine (Value.right_eq m c _).trans ?_
    congr 1
    funext i
    match i with
    | ⟨0, _⟩ => rfl
    | ⟨1, _⟩ => rfl
end dh

section dwdown
open Cert.DwdownIdeal
variable (m : (ℓ : Loc nD τ sig) → Buf (Elt Ideal) ℓ) (c : Dev nD)

theorem zero_down (y : S8192x4096.Idx) : (ReferenceDwdownIdeal.Read.val_main_call0_v0 (F := Ideal) y : EReal) = 0 :=
  Ideal.ofBits_zero_f32

theorem act_ref (x : Vec Ideal S8192x4096 .f32) (y : S8192x4096.Idx) :
    (ReferenceDwdownIdeal.Read.val_main_v1 (F := Ideal) x y : EReal) = max (x y : EReal) 0 * max (x y : EReal) 0 :=
  congrArg₂ (· * ·) (congrArg (fun z : EReal => max (x y : EReal) z) (zero_down y)) (congrArg (fun z : EReal => max (x y : EReal) z) (zero_down y))

theorem dwdown_ref : Value.result m c =
    ReferenceDwdownIdeal.Read.val_main_v4 (F := Ideal) (m (c, Proc.devRef .tc main_arg0)) (m (c, Proc.devRef .tc main_arg2)) := by
  refine funext fun (y : S4096x1024.Idx) => ?_
  refine Eq.trans ?_ ((ReferenceDwdownIdeal.Read.val_main_v4_apply (F := Ideal) _ _ y).trans (ReferenceDwdownIdeal.Read.val_main_v3_apply _ _ _)).symm
  unfold Value.result
  refine Finset.sum_congr rfl fun k _ => (mul_comm _ _).trans (congrArg₂ (· * ·) ?_ ?_)
  · refine (Value.right_eq m c _).trans ?_
    congr 1
    funext i
    match i with
    | ⟨0, _⟩ => rfl
    | ⟨1, _⟩ => rfl
  · refine ((Value.left_eq m c _).trans ?_).trans (act_ref _ _).symm
    have e : (ix2 k (y 0) : S8192x4096.Idx) = ReferenceDwdownIdeal.Read.ridx_main_v3 (ReferenceDwdownIdeal.Read.idx_main_v4 y) k := by
      funext i
      match i with
      | ⟨0, _⟩ => rfl
      | ⟨1, _⟩ => rfl
    exact congrArg (fun z => max (Value.hidden m c z) 0 * max (Value.hidden m c z) 0) e
end dwdown

section dwup
open Cert.DwupIdeal
variable (m : (ℓ : Loc nD τ sig) → Buf (Elt Ideal) ℓ) (c : Dev nD)

theorem dwup_ref : Value.result m c =
    ReferenceDwupIdeal.Read.val_main_v4 (F := Ideal) (m (c, Proc.devRef .tc main_arg0)) (m (c, Proc.devRef .tc main_arg2)) := by
  refine funext fun (y : S4x1024x1024.Idx) => ?_
  have b0 : (y 0 : Nat) < 4 := (y 0).isLt
  have b1 : (y 1 : Nat) < 1024 := (y 1).isLt
  have b2 : (y 2 : Nat) < 1024 := (y 2).isLt
  refine Eq.trans ?_ ((ReferenceDwupIdeal.Read.val_main_v4_apply (F := Ideal) _ _ y).trans ((ReferenceDwupIdeal.Read.val_main_v3_apply (F := Ideal) _ _ _).trans
    ((ReferenceDwupIdeal.Read.val_main_v2_apply (F := Ideal) _ _ _).trans (ReferenceDwupIdeal.Read.val_main_v1_apply _ _ _)))).symm
  unfold Value.result
  refine Finset.sum_congr rfl fun k _ => (mul_comm _ _).trans (congrArg₂ (· * ·) ?_ ?_)
  · refine (Value.right_eq m c _).trans ?_
    congr 1
    funext i
    apply Fin.ext
    match i with
    | ⟨0, _⟩ => rfl
    | ⟨1, _⟩ => show (y 0 : Nat) * 1024 + (y 2 : Nat) = (((y 1 : Nat) * 4 + (y 0 : Nat)) * 1024 + (y 2 : Nat)) % 4096; omega
  · refine (Value.left_eq m c _).trans ?_
    congr 1
    funext i
    apply Fin.ext
    match i with
    | ⟨0, _⟩ => rfl
    | ⟨1, _⟩ => show (y 1 : Nat) = (((y 1 : Nat) * 4 + (y 0 : Nat)) * 1024 + (y 2 : Nat)) / 4096; omega
end dwup

section dact
open Cert.DactIdeal
variable (m : (ℓ : Loc nD τ sig) → Buf (Elt Ideal) ℓ) (c : Dev nD)

/-- The squared rectifier's slope, recovered from its value, is twice the rectifier. -/
theorem slope_real (x : ℝ) : Value.slope (max (x : EReal) 0 * max (x : EReal) 0) = if 0 < (x : EReal) then Value.two * max (x : EReal) 0 else 0 := by
  unfold Value.slope
  by_cases hx : 0 < x
  · have h0 : (0 : EReal) < (x : EReal) := by exact_mod_cast hx
    have hq : (0 : EReal) < (x : EReal) * (x : EReal) := by rw [← EReal.coe_mul]; exact_mod_cast mul_pos hx hx
    rw [max_eq_left h0.le, if_pos hq, if_pos h0, mul_assoc]
    congr 1
    rw [← EReal.coe_mul, Ideal.rsqrt_coe, if_neg (not_lt.mpr (mul_pos hx hx).le), if_neg (mul_pos hx hx).ne', ← EReal.coe_mul]
    congr 1
    rw [Real.sqrt_mul_self hx.le, mul_assoc, mul_inv_cancel₀ hx.ne', mul_one]
  · have h0 : ¬ (0 : EReal) < (x : EReal) := by exact_mod_cast hx
    rw [max_eq_right (not_lt.mp h0), if_neg h0, mul_zero, if_neg (lt_irrefl _)]

theorem real (hm : Pre_DactIdeal_finite_u m) (y : S8192x4096.Idx) : ∃ x : ℝ, Value.hidden m c y = (x : EReal) :=
  ⟨_, Equation.real_of_lt _ (congrFun (hm c) y)⟩

theorem zero_act (y : S8192x4096.Idx) : (ReferenceDactIdeal.Read.val_main_call0_v0 (F := Ideal) y : EReal) = 0 := Ideal.ofBits_zero_f32

/-- The reference's entry. -/
theorem act_entry (x0 : Vec Ideal S8192x4096 .f32) (x1 : Vec Ideal S4096x1024 .f32) (x2 : Vec Ideal S8192x1024 .f32) (y : S8192x4096.Idx) :
    (ReferenceDactIdeal.Read.val_main_v11 (F := Ideal) x0 x1 x2 y : EReal) =
      if 0 < (x0 y : EReal) then (ReferenceDactIdeal.Read.val_main_v8 (F := Ideal) x1 x2 y : EReal) * (Value.two * max (x0 y : EReal) 0) else 0 := by
  rw [ReferenceDactIdeal.Read.val_main_v11_apply, ReferenceDactIdeal.Read.val_main_v2_apply, ReferenceDactIdeal.Read.val_main_v9_apply, ReferenceDactIdeal.Read.val_main_v6_apply,
    ReferenceDactIdeal.Read.val_main_v0_apply, zero_act, ReferenceDactIdeal.Read.val_main_v1_apply, ReferenceDactIdeal.Read.val_main_v10_apply, ReferenceDactIdeal.Read.val_main_v5_apply]
  unfold ReferenceDactIdeal.Read.val_main_cst ReferenceDactIdeal.Read.val_main_cst_1 ReferenceDactIdeal.Read.val_main_cst_2
  pointwise []

theorem dact_ref (hm : Pre_DactIdeal_finite_u m) : Value.du m c =
    ReferenceDactIdeal.Read.val_main_v11 (F := Ideal) (m (c, Proc.devRef .tc main_arg0)) (m (c, Proc.devRef .tc main_arg1)) (m (c, Proc.devRef .tc main_arg2)) := by
  refine funext fun (y : S8192x4096.Idx) => ?_
  refine Eq.trans ?_ (act_entry _ _ _ y).symm
  unfold Value.du Value.result
  obtain ⟨x, hx⟩ := real m c hm y
  have hs : (∑ k : Fin 1024, (Value.left m c (ix2 (y 0) k) : EReal) * Value.right m c (ix2 (y 1) k)) =
      ReferenceDactIdeal.Read.val_main_v8 (F := Ideal) (m (c, Proc.devRef .tc main_arg1)) (m (c, Proc.devRef .tc main_arg2)) y := by
    refine Eq.trans ?_ (ReferenceDactIdeal.Read.val_main_v8_apply _ _ y).symm
    refine Finset.sum_congr rfl fun k _ => congrArg₂ (· * ·) ?_ ?_
    · refine (Value.left_eq m c _).trans ?_
      congr 1
      funext i
      match i with
      | ⟨0, _⟩ => rfl
      | ⟨1, _⟩ => rfl
    · refine (Value.right_eq m c _).trans ?_
      congr 1
      funext i
      match i with
      | ⟨0, _⟩ => rfl
      | ⟨1, _⟩ => rfl
  have ha : Value.slope (Value.act m c (ix2 (y 0) (y 1))) = if 0 < (x : EReal) then Value.two * max (x : EReal) 0 else 0 := by
    refine (congrArg Value.slope ((congrArg (fun z => (Value.act m c z : EReal)) (ValueIdx.eq_ix2 y).symm).trans (Value.act_eq m c y))).trans ?_
    rw [hx, slope_real]
  refine (congrArg₂ (· * ·) hs ha).trans ?_
  have hx' : (m (c, Proc.devRef .tc main_arg0) : Vec Ideal S8192x4096 .f32) y = (x : EReal) := hx
  refine Eq.trans ?_ (congrArg (fun z : EReal => if 0 < z then ReferenceDactIdeal.Read.val_main_v8 (F := Ideal) (m (c, Proc.devRef .tc main_arg1)) (m (c, Proc.devRef .tc main_arg2)) y * (Value.two * max z 0) else (0 : EReal)) hx').symm
  split
  · rfl
  · exact mul_zero _
end dact

end Cert.Mlp

end
-- ==== Proof.DwSquareIdeal.Product.lean ====
/- The gradient of a square projection's weights: the input's transpose times the output's gradient.
   Its 8192 rows are summed in four blocks of 2048 over consecutive points; entry by entry. -/
module

public import proofs.«01_k».proof.Proof.Types
public import proofs.«01_k».proof.Proof.Gen.DwSquareIdeal.Frame
public import proofs.«01_k».proof.Proof.Mlp.Blocks
public import proofs.«01_k».proof.Proof.Mlp.Columns
public import proofs.«01_k».proof.Proof.Mlp.Quarters
public import Idealize.ShloMosaic.Lib.Pipeline.Value
public import Idealize.ShloMosaic.Lib.StableHlo.ReadAt

@[expose] public section

set_option maxRecDepth 16384

noncomputable section

namespace Cert.DwSquareIdeal.Value

open Idealize.ShloMosaic Idealize.ShloMosaic.TcCoe Idealize.ShloMosaic.Tactic
open Cert.DwSquareIdeal.Gen

/-- One chunk of 256 columns at a first point: products of columns with columns; -/
theorem chunkA (b : BF16 S2048x256) (a : BF16 S2048x1024) (i : Fin 1024) (j : Fin 256) :
    (k0_pay1 (k0_pay7 b a) (ix2 i j) : EReal) = ∑ r : Fin 2048, (a (ix2 r i) : EReal) * b (ix2 r j) := by
  pointwise [k0_pay1, k0_pay7]

/-- and at a later one, added to what is carried, -/
theorem chunkB (b : BF16 S2048x256) (a : BF16 S2048x1024) (s : F32 S1024x256) (i : Fin 1024) (j : Fin 256) :
    (k0_pay2 b a s (ix2 i j) : EReal) = (s (ix2 i j) : EReal) + ∑ r : Fin 2048, (a (ix2 r i) : EReal) * b (ix2 r j) := by
  pointwise [k0_pay2]

/-- which the last point stores as the result. -/
theorem chunkC (b : BF16 S2048x256) (a : BF16 S2048x1024) (s : F32 S1024x256) (i : Fin 1024) (j : Fin 256) :
    (k0_pay3 (k0_pay14 b) a s (ix2 i j) : EReal) = (s (ix2 i j) : EReal) + ∑ r : Fin 2048, (a (ix2 r i) : EReal) * b (ix2 r j) := by
  pointwise [k0_pay3, k0_pay14]

/-- What is carried, with the product over one block of rows added. -/
def added (s : F32 S1024x1024) (a b : BF16 S2048x1024) : F32 S1024x1024 :=
  fun y => (s y : EReal) + Mlp.tn a b y

section columns

variable (a b : BF16 S2048x1024) (s : F32 S1024x1024) (n : ℕ)

theorem columnsA (inb inb' inbo) (x : S1024x256.Idx) :
    (k0_pay1 (k0_pay7 (View.ld b (Rect.unit (s := S2048x1024) ![0, n] S2048x256.size inb)) (View.ld a (Rect.unit (s := S2048x1024) ![0, 0] S2048x1024.size inb'))) x : EReal) = Mlp.tn a b ((Rect.unit (s := S1024x1024) ![0, n] S1024x256.size inbo).emb x) := by
  rw [ValueIdx.eq_ix2 x]
  exact (chunkA _ _ (x 0) (x 1)).trans (Mlp.tn_columns a b inb inb' inbo (ix2 (x 0) (x 1)))

theorem columnsB (inb inb' inbo) (x : S1024x256.Idx) :
    (k0_pay2 (View.ld b (Rect.unit (s := S2048x1024) ![0, n] S2048x256.size inb)) (View.ld a (Rect.unit (s := S2048x1024) ![0, 0] S2048x1024.size inb')) (View.ld s (Rect.unit (s := S1024x1024) ![0, n] S1024x256.size inbo)) x : EReal) =
    added s a b ((Rect.unit (s := S1024x1024) ![0, n] S1024x256.size inbo).emb x) := by
  rw [ValueIdx.eq_ix2 x]
  exact (chunkB _ _ _ (x 0) (x 1)).trans (congrArg₂ (· + ·) rfl (Mlp.tn_columns a b inb inb' inbo (ix2 (x 0) (x 1))))

theorem columnsC (inb inb' inbo) (x : S1024x256.Idx) :
    (k0_pay3 (k0_pay14 (View.ld b (Rect.unit (s := S2048x1024) ![0, n] S2048x256.size inb))) (View.ld a (Rect.unit (s := S2048x1024) ![0, 0] S2048x1024.size inb')) (View.ld s (Rect.unit (s := S1024x1024) ![0, n] S1024x256.size inbo)) x : EReal) =
    added s a b ((Rect.unit (s := S1024x1024) ![0, n] S1024x256.size inbo).emb x) := by
  rw [ValueIdx.eq_ix2 x]
  exact (chunkC _ _ _ (x 0) (x 1)).trans (congrArg₂ (· + ·) rfl (Mlp.tn_columns a b inb inb' inbo (ix2 (x 0) (x 1))))

end columns

section cases

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (arg6 : Memref sig .tc .vmem S1024x1024 .f32) (harg6 : arg6.IsWhole) (a b : BF16 S2048x1024)
  (s : F32 S1024x1024)

/-- A first point leaves its product in the accumulator, -/
theorem first (hc0 hc1 hc2) :
    sout0_A_0 c i arg3 harg3 arg4 harg4 arg5 harg5 arg6 harg6 hc0 hc1 hc2 a b = Mlp.tn a b := by
  unfold sout0_A_0
  rw [View.read_writes_junk_eq_canon]
  refine Mlp.canon_of_blocks (S := S1024x1024) _ _ ?_ (scover0_A_0 _ _ _ _ _ _ _ _ _ _ _ _ _ _ _)
  unfold kernelRun0_A
  sl_unfold_words
  simp only [View.readAt_eq_ld, harg3.read_unread, harg4.read_unread, harg6.read_unread]
  exact ⟨columnsA a b 768 _ _ inb_S1024x1024_S1024x256_0_768,
    columnsA a b 512 _ _ inb_S1024x1024_S1024x256_0_512,
    columnsA a b 256 _ _ inb_S1024x1024_S1024x256_0_256,
    columnsA a b 0 _ _ inb_S1024x1024_S1024x256_0_0, trivial⟩

/-- a middle one adds its product, -/
theorem middle (hc0 hc1 hc2) :
    sout0_B_0 c i arg3 harg3 arg4 harg4 arg5 harg5 arg6 harg6 hc0 hc1 hc2 a b s = added s a b := by
  unfold sout0_B_0
  rw [View.read_writes_junk_eq_canon]
  refine Mlp.canon_of_blocks _ _ ?_ (scover0_B_0 _ _ _ _ _ _ _ _ _ _ _ _ _ _ _ _)
  unfold kernelRun0_B
  sl_unfold_words
  simp only [View.readAt_eq_ld, harg3.read_unread, harg4.read_unread, harg6.read_unread]
  exact ⟨columnsB a b s 768 _ _ inb_S1024x1024_S1024x256_0_768,
    columnsB a b s 512 _ _ inb_S1024x1024_S1024x256_0_512,
    columnsB a b s 256 _ _ inb_S1024x1024_S1024x256_0_256,
    columnsB a b s 0 _ _ inb_S1024x1024_S1024x256_0_0, trivial⟩

/-- and the last one stores the sum as the result. -/
theorem last (hc0 hc1 hc2) :
    out0_C_2 c i arg3 harg3 arg4 harg4 arg5 harg5 arg6 harg6 hc0 hc1 hc2 a b s = added s a b := by
  unfold out0_C_2
  rw [View.read_writes_junk_eq_canon]
  refine Mlp.canon_of_blocks _ _ ?_ (cover0_C_2 _ _ _ _ _ _ _ _ _ _ _ _ _ _ _ _)
  unfold kernelRun0_C
  sl_unfold_words
  simp only [View.readAt_eq_ld, harg3.read_unread, harg4.read_unread, harg6.read_unread]
  exact ⟨columnsC a b s 768 _ _ inb_S1024x1024_S1024x256_0_768,
    columnsC a b s 512 _ _ inb_S1024x1024_S1024x256_0_512,
    columnsC a b s 256 _ _ inb_S1024x1024_S1024x256_0_256,
    columnsC a b s 0 _ _ inb_S1024x1024_S1024x256_0_0, trivial⟩

end cases

variable (m : (ℓ : Loc nD τ sig) → Buf (Elt Ideal) ℓ)

/-- The product over the rows point `t` fetched. -/
def term (c : Dev nD) (t : Fin cfg0.N) : F32 S1024x1024 :=
  Mlp.tn (iblk m c 0 t : BF16 S2048x1024) (iblk m c 1 t : BF16 S2048x1024)

theorem step_first (c : Dev nD) (t : Fin cfg0.N) (h : t.val % 4 = 0) : (outsAt0 m c t.val t.isLt).2 = term m c t := by
  have h1 : ¬(1 ≤ t.val % 4 ∧ t.val % 4 ≤ 2) := by omega
  have h2 : ¬t.val % 4 = 3 := by omega
  rw [outsAt0_A m c t h h1 h2]
  dsimp only
  unfold term
  exact first _ _ _ _ _ _ _ _ _ _ _ _ _ _ _

theorem step_middle (c : Dev nD) (t s : Fin cfg0.N) (h : 1 ≤ t.val % 4 ∧ t.val % 4 ≤ 2) (hs : s.val = t.val - 1) (y : S1024x1024.Idx) :
    ((outsAt0 m c t.val t.isLt).2 y : EReal) = ((outsAt0 m c s.val s.isLt).2 y : EReal) + term m c t y := by
  obtain ⟨s, hs'⟩ := s
  obtain rfl : s = t.val - 1 := hs
  have h0 : ¬t.val % 4 = 0 := by omega
  have h2 : ¬t.val % 4 = 3 := by omega
  rw [outsAt0_B m c t h0 h h2]
  dsimp only
  unfold term
  exact congrFun (middle _ _ _ _ _ _ _ _ _ _ _ _ _ _ _ _) y

theorem step_last (c : Dev nD) (t s : Fin cfg0.N) (h : t.val % 4 = 3) (hs : s.val = t.val - 1) (y : S1024x1024.Idx) :
    ((outsAt0 m c t.val t.isLt).1 y : EReal) = ((outsAt0 m c s.val s.isLt).2 y : EReal) + term m c t y := by
  obtain ⟨s, hs'⟩ := s
  obtain rfl : s = t.val - 1 := hs
  have h0 : ¬t.val % 4 = 0 := by omega
  have h1 : ¬(1 ≤ t.val % 4 ∧ t.val % 4 ≤ 2) := by omega
  rw [outsAt0_C m c t h0 h1 h]
  dsimp only
  unfold term
  refine (congrFun (last _ _ _ _ _ _ _ _ _ _ _ _ _ _ _ _) y).trans ?_
  rfl

/-- The point `k` of block `i`'s four. -/
def pt (i : Fin 1) (k : Fin 4) : Fin cfg0.N := ⟨i.val * 4 + k.val, by have hN : cfg0.N = 4 := N_0; omega⟩

/-- The result's block is the sum of the four products. -/
theorem block_sum (c : Dev nD) (i : Fin 1) (y : S1024x1024.Idx) :
    ((outsAt0 m c (pt i 3).val (pt i 3).isLt).1 y : EReal) =
      (term m c (pt i 0) y : EReal) + term m c (pt i 1) y + term m c (pt i 2) y + term m c (pt i 3) y := by
  have e3 := step_last m c (pt i 3) (pt i 2) (by show (i.val * 4 + 3) % 4 = 3; omega) (by show i.val * 4 + 2 = i.val * 4 + 3 - 1; omega) y
  have e2 := step_middle m c (pt i 2) (pt i 1) (by show 1 ≤ (i.val * 4 + 2) % 4 ∧ (i.val * 4 + 2) % 4 ≤ 2; omega) (by show i.val * 4 + 1 = i.val * 4 + 2 - 1; omega) y
  have e1 := step_middle m c (pt i 1) (pt i 0) (by show 1 ≤ (i.val * 4 + 1) % 4 ∧ (i.val * 4 + 1) % 4 ≤ 2; omega) (by show i.val * 4 + 0 = i.val * 4 + 1 - 1; omega) y
  have e0 := congrFun (step_first m c (pt i 0) (by show (i.val * 4 + 0) % 4 = 0; omega)) y
  rw [e3, e2, e1, e0]

/-- The two operands, as the region finds them, -/
abbrev left (c : Dev nD) : BF16 S8192x1024 := V m c main_v0
abbrev right (c : Dev nD) : BF16 S8192x1024 := V m c main_v1

/-- a column of block `i`, -/
def col (i : Fin 1) (j : Fin 1024) : Fin 1024 := ⟨i.val * 1024 + j.val, by omega⟩

/-- and the array of results. -/
def result (c : Dev nD) : F32 S1024x1024 :=
  Mlp.tn (left m c) (right m c)

/-- Where each window's block lies. -/
theorem at0 (i : Fin 1) (k : Fin 4) : win0_0.index (pt i k) 0 = k.val ∧ win0_0.index (pt i k) 1 = 0 := by
  revert i k; decide +kernel
theorem at1 (i : Fin 1) (k : Fin 4) : win0_1.index (pt i k) 0 = k.val ∧ win0_1.index (pt i k) 1 = i.val := by
  revert i k; decide +kernel
theorem at2 (i : Fin 1) (k : Fin 4) : win0_2.index (pt i k) 0 = 0 ∧ win0_2.index (pt i k) 1 = i.val := by
  revert i k; decide +kernel

theorem blk0 (c : Dev nD) (i : Fin 1) (k : Fin 4) (r : Fin 2048) (j : Fin 1024) :
    (iblk m c 0 (pt i k) : BF16 S2048x1024) (ix2 r j) = left m c (ix2 (Mlp.quarter k r) j) := by
  unfold iblk
  rw [View.read_apply]
  show left m c _ = left m c _
  exact congrArg _ (Mlp.ext2 (Mlp.at_block (at0 i k).1)
    (Mlp.at_start (at0 i k).2))

theorem blk1 (c : Dev nD) (i : Fin 1) (k : Fin 4) (r : Fin 2048) (j : Fin 1024) :
    (iblk m c 1 (pt i k) : BF16 S2048x1024) (ix2 r j) = right m c (ix2 (Mlp.quarter k r) (col i j)) := by
  unfold iblk
  rw [View.read_apply]
  show right m c _ = right m c _
  exact congrArg _ (Mlp.ext2 (Mlp.at_block (at1 i k).1)
    (Mlp.at_block (at1 i k).2))

theorem emb2 (i : Fin 1) (r j : Fin 1024) :
    ((cfg0.win 2).blk (pt i 3)).view.emb (ix2 r j) = (ix2 r (col i j) : S1024x1024.Idx) :=
  Mlp.ext2 (Mlp.at_start (at2 i 3).1)
    (Mlp.at_block (at2 i 3).2)

theorem term_eq (c : Dev nD) (i : Fin 1) (k : Fin 4) (p : Fin 1024) (q : Fin 1024) :
    (term m c (pt i k) (ix2 p q) : EReal) =
      ∑ r : Fin 2048, (left m c (ix2 (Mlp.quarter k r) p) : EReal) * right m c (ix2 (Mlp.quarter k r) (col i q)) := by
  unfold term Mlp.tn
  exact Finset.sum_congr rfl fun r _ => congrArg₂ (· * ·) (blk0 m c i k r p) (blk1 m c i k r q)

/-- A block's four products are the sum over all rows. -/
theorem total (c : Dev nD) (i : Fin 1) (p : Fin 1024) (q : Fin 1024) :
    (term m c (pt i 0) (ix2 p q) : EReal) + term m c (pt i 1) (ix2 p q) + term m c (pt i 2) (ix2 p q) + term m c (pt i 3) (ix2 p q) =
      Mlp.tn (left m c) (right m c) (ix2 p (col i q)) := by
  refine Eq.trans ?_ (Mlp.sum_quarters fun k => (left m c (ix2 k p) : EReal) * right m c (ix2 k (col i q))).symm
  rw [term_eq, term_eq, term_eq, term_eq]

/-- What each last point writes back is the results' block there. -/
theorem flushed (c : Dev nD) (i : Fin 1) :
    (dats m 0 c).flushed 2 (pt i 3) = ((cfg0.win 2).blk (pt i 3)).view.read (Elt Ideal) (result m c) := by
  show (cfg0.win 2).cut (grid0.coords (pt i 3)) ((dats m 0 c).after 2 (pt i 3)) = _
  rw [after0_2]
  have key : ∀ y : S1024x1024.Idx, (outsAt0 m c (pt i 3).val (pt i 3).isLt).1 y = result m c (((cfg0.win 2).blk (pt i 3)).view.emb y) := fun y => by
    rw [ValueIdx.eq_ix2 y]
    exact ((block_sum m c i (ix2 (y 0) (y 1))).trans (total m c i (y 0) (y 1))).trans (congrArg (result m c) (emb2 i (y 0) (y 1))).symm
  exact funext key

theorem last_point (t : Fin cfg0.N) (h : t.val % 4 = 3) : ∃ i : Fin 1, t = pt i 3 := by
  have hN : cfg0.N = 4 := N_0
  have ht := t.isLt
  exact ⟨⟨t.val / 4, by omega⟩, Fin.ext (by show t.val = t.val / 4 * 4 + 3; omega)⟩

/-- The array ends at the results. -/
theorem final (c : Dev nD) : (dats m 0 c).arrAt 2 cfg0.N = result m c :=
  (dats m 0 c).arrAt_eq_of_cover 2 (result m c)
    (fun t ht => by obtain ⟨i, rfl⟩ := last_point t ((flush0_2 t).mp ht); exact flushed m c i) fun y => by
    have h0 : (y 0 : Nat) < 1024 := (y 0).isLt
    have h1 : (y 1 : Nat) < 1024 := (y 1).isLt
    generalize hi : (⟨(y 1 : Nat) / 1024, by omega⟩ : Fin 1) = i
    have hv : i.val = (y 1 : Nat) / 1024 := by rw [← hi]
    refine ⟨pt i 3, (flush0_2 _).mpr (by show (i.val * 4 + 3) % 4 = 3; omega), ?_⟩
    show y ∈ ((View.whole main_v2).slice (win0_2.rect (pt i 3))).set
    rw [View.set_slice_whole, Rect.mem_set_unit]
    intro a
    match a with
    | ⟨0, _⟩ => exact Mlp.within 1024 (y 0).val (at2 i 3).1 (by omega)
    | ⟨1, _⟩ => exact Mlp.within 1024 (y 1).val (at2 i 3).2 (by omega)

/-- Casting to the narrower format changes no real. -/
theorem left_eq (c : Dev nD) (y : S8192x1024.Idx) : (left m c y : EReal) = (m (c, Proc.devRef .tc main_arg0) : F32 S8192x1024) y := by
  simp only [left, V, hostOps0]
  after_reads_at
theorem right_eq (c : Dev nD) (y : S8192x1024.Idx) : (right m c y : EReal) = (m (c, Proc.devRef .tc main_arg2) : F32 S8192x1024) y := by
  simp only [right, V, hostOps0]
  after_reads_at

end Cert.DwSquareIdeal.Value

end
-- ==== Proof.DxSquareIdeal.Product.lean ====
/- The gradient of a square projection's input: the output's gradient times the transposed weights, entry by entry. -/
module

public import proofs.«01_k».proof.Proof.Types
public import proofs.«01_k».proof.Proof.Gen.DxSquareIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

set_option maxRecDepth 16384

noncomputable section

namespace Cert.DxSquareIdeal.Value

open Idealize.ShloMosaic Idealize.ShloMosaic.TcCoe Idealize.ShloMosaic.Tactic
open Cert.DxSquareIdeal.Gen

/-- One chunk of 256 columns: products of rows with rows; -/
theorem chunk (b : BF16 S256x1024) (a : BF16 S2048x1024) (r : Fin 2048) (j : Fin 256) :
    (k0_pay1 b a (ix2 r j) : EReal) = ∑ k : Fin 1024, (a (ix2 r k) : EReal) * b (ix2 j k) := by
  pointwise [k0_pay1]

/-- read off the operands' blocks it is the product's columns there. -/
theorem columns (a : BF16 S2048x1024) (b : BF16 S1024x1024) (n : ℕ) (inb inb' inbo) (x : S2048x256.Idx) :
    (k0_pay1 (View.ld b (Rect.unit (s := S1024x1024) ![n, 0] S256x1024.size inb))
      (View.ld a (Rect.unit (s := S2048x1024) ![0, 0] S2048x1024.size inb')) x : EReal) =
    Mlp.nt a b ((Rect.unit (s := S2048x1024) ![0, n] S2048x256.size inbo).emb x) := by
  rw [ValueIdx.eq_ix2 x]
  exact (chunk _ _ (x 0) (x 1)).trans (Mlp.nt_columns a b inb inb' inbo (ix2 (x 0) (x 1)))

theorem out_eq (a : BF16 S2048x1024) (b : BF16 S1024x1024) : out0_2 a b = Mlp.nt a b :=
  Mlp.canon_of_blocks (S := S2048x1024) _ _
    ⟨columns a b 768 _ _ inb_S2048x1024_S2048x256_0_768, columns a b 512 _ _ inb_S2048x1024_S2048x256_0_512,
      columns a b 256 _ _ inb_S2048x1024_S2048x256_0_256, columns a b 0 _ _ inb_S2048x1024_S2048x256_0_0, trivial⟩ (cover0_2 _ _ _ _)

variable (m : (ℓ : Loc nD τ sig) → Buf (Elt Ideal) ℓ)

/-- The gradient and the weights, as the region finds them, -/
abbrev left (c : Dev nD) : BF16 S8192x1024 := V m c main_v0
abbrev right (c : Dev nD) : BF16 S1024x1024 := V m c main_v1

/-- and the array of results. -/
def result (c : Dev nD) : F32 S8192x1024 := Mlp.nt (left m c) (right m c)

/-- Where each window's block lies. -/
theorem at0 (t : Fin cfg0.N) : win0_0.index t 0 = t.val ∧ win0_0.index t 1 = 0 := by
  revert t; decide +kernel
theorem at1 (t : Fin cfg0.N) : win0_1.index t 0 = 0 ∧ win0_1.index t 1 = 0 := by
  revert t; decide +kernel
theorem at2 (t : Fin cfg0.N) : win0_2.index t 0 = t.val ∧ win0_2.index t 1 = 0 := by
  revert t; decide +kernel

def row (t : Fin cfg0.N) (r : Fin 2048) : Fin 8192 := ⟨t.val * 2048 + r.val, by have h : t.val < 4 := lt_of_lt_of_eq t.isLt N_0; omega⟩

theorem blk0 (c : Dev nD) (t : Fin cfg0.N) (r : Fin 2048) (k : Fin 1024) :
    (iblk m c 0 t : BF16 S2048x1024) (ix2 r k) = left m c (ix2 (row t r) k) := by
  unfold iblk
  rw [View.read_apply]
  show left m c _ = left m c _
  exact congrArg _ (Mlp.ext2 (Mlp.at_block (at0 t).1)
    (Mlp.at_start (at0 t).2))

theorem blk1 (c : Dev nD) (t : Fin cfg0.N) (j k : Fin 1024) :
    (iblk m c 1 t : BF16 S1024x1024) (ix2 j k) = right m c (ix2 j k) := by
  unfold iblk
  rw [View.read_apply]
  show right m c _ = right m c _
  exact congrArg _ (Mlp.ext2 (Mlp.at_start (at1 t).1)
    (Mlp.at_start (at1 t).2))

theorem emb2 (t : Fin cfg0.N) (r : Fin 2048) (j : Fin 1024) :
    ((cfg0.win 2).blk t).view.emb (ix2 r j) = (ix2 (row t r) j : S8192x1024.Idx) :=
  Mlp.ext2 (Mlp.at_block (at2 t).1)
    (Mlp.at_start (at2 t).2)

/-- What each point writes back is the results' block there. -/
theorem flushed (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2, out_eq]
  have key : ∀ y : S2048x1024.Idx, Mlp.nt (iblk m c 0 t : BF16 S2048x1024) (iblk m c 1 t : BF16 S1024x1024) y =
      result m c (((cfg0.win 2).blk t).view.emb y) := fun y => by
    rw [ValueIdx.eq_ix2 y]
    refine Eq.trans ?_ (congrArg (result m c) (emb2 t (y 0) (y 1))).symm
    unfold result Mlp.nt
    exact Finset.sum_congr rfl fun k _ => congrArg₂ (· * ·) (blk0 m c t (y 0) k) (blk1 m c t (y 1) k)
  exact funext key

/-- The array ends at the results. -/
theorem final (c : Dev nD) : (dats m 0 c).arrAt 2 cfg0.N = result m c :=
  (dats m 0 c).arrAt_eq_of_cover 2 (result m c) (fun t _ => flushed m c t) fun y => by
    have h0 : (y 0 : Nat) < 8192 := (y 0).isLt
    have h1 : (y 1 : Nat) < 1024 := (y 1).isLt
    have hN : cfg0.N = 4 := N_0
    refine ⟨⟨(y 0 : Nat) / 2048, by omega⟩, flush0_2 _, ?_⟩
    generalize ht : (⟨(y 0 : Nat) / 2048, by omega⟩ : Fin cfg0.N) = t
    have hv : t.val = (y 0 : Nat) / 2048 := by rw [← ht]
    show y ∈ ((View.whole main_v2).slice (win0_2.rect t)).set
    rw [View.set_slice_whole, Rect.mem_set_unit]
    intro a
    match a with
    | ⟨0, _⟩ => exact Mlp.within 2048 (y 0).val (at2 t).1 (by omega)
    | ⟨1, _⟩ => exact Mlp.within 1024 (y 1).val (at2 t).2 (by omega)

/-- Casting to the narrower format changes no real. -/
theorem left_eq (c : Dev nD) (y : S8192x1024.Idx) : (left m c y : EReal) = (m (c, Proc.devRef .tc main_arg2) : F32 S8192x1024) y := by
  simp only [left, V, hostOps0]
  after_reads_at
theorem right_eq (c : Dev nD) (y : S1024x1024.Idx) : (right m c y : EReal) = (m (c, Proc.devRef .tc main_arg1) : F32 S1024x1024) y := by
  simp only [right, V, hostOps0]
  after_reads_at

end Cert.DxSquareIdeal.Value

end
-- ==== Proof.DwInIdeal.Product.lean ====
/- The gradient of the input projection's weights: the input's transpose times the output's gradient, padded with zero columns.
   Its 8192 rows are summed in four blocks of 2048 over consecutive points; entry by entry. -/
module

public import proofs.«01_k».proof.Proof.Types
public import proofs.«01_k».proof.Proof.Gen.DwInIdeal.Frame
public import proofs.«01_k».proof.Proof.Mlp.Blocks
public import proofs.«01_k».proof.Proof.Mlp.Columns
public import proofs.«01_k».proof.Proof.Mlp.Quarters
public import Idealize.ShloMosaic.Lib.Pipeline.Value
public import Idealize.ShloMosaic.Lib.StableHlo.ReadAt

@[expose] public section

set_option maxRecDepth 16384

noncomputable section

namespace Cert.DwInIdeal.Value

open Idealize.ShloMosaic Idealize.ShloMosaic.TcCoe Idealize.ShloMosaic.Tactic
open Cert.DwInIdeal.Gen

/-- One chunk of 640 columns at a first point: products of columns with columns; -/
theorem chunkA (b : BF16 S2048x640) (a : BF16 S2048x1024) (i : Fin 1024) (j : Fin 640) :
    (k0_pay1 b a (ix2 i j) : EReal) = ∑ r : Fin 2048, (a (ix2 r i) : EReal) * b (ix2 r j) := by
  pointwise [k0_pay1]

/-- and at a later one, added to what is carried, -/
theorem chunkB (b : BF16 S2048x640) (a : BF16 S2048x1024) (s : F32 S1024x640) (i : Fin 1024) (j : Fin 640) :
    (k0_pay2 b a s (ix2 i j) : EReal) = (s (ix2 i j) : EReal) + ∑ r : Fin 2048, (a (ix2 r i) : EReal) * b (ix2 r j) := by
  pointwise [k0_pay2]

/-- which the last point stores as the result. -/
theorem chunkC (b : BF16 S2048x640) (a : BF16 S2048x1024) (s : F32 S1024x640) (i : Fin 1024) (j : Fin 640) :
    (k0_pay3 b a s (ix2 i j) : EReal) = (s (ix2 i j) : EReal) + ∑ r : Fin 2048, (a (ix2 r i) : EReal) * b (ix2 r j) := by
  pointwise [k0_pay3]

/-- What is carried, with the product over one block of rows added. -/
def added (s : F32 S1024x640) (a : BF16 S2048x1024) (b : BF16 S2048x640) : F32 S1024x640 :=
  fun y => (s y : EReal) + Mlp.tn a b y

section columns

variable (a : BF16 S2048x1024) (b : BF16 S2048x640) (s : F32 S1024x640) (n : ℕ)

theorem columnsA (inb inb' inbo) (x : S1024x640.Idx) :
    (k0_pay1 (View.ld b (Rect.unit (s := S2048x640) ![0, n] S2048x640.size inb)) (View.ld a (Rect.unit (s := S2048x1024) ![0, 0] S2048x1024.size inb')) x : EReal) = Mlp.tn a b ((Rect.unit (s := S1024x640) ![0, n] S1024x640.size inbo).emb x) := by
  rw [ValueIdx.eq_ix2 x]
  exact (chunkA _ _ (x 0) (x 1)).trans (Mlp.tn_columns a b inb inb' inbo (ix2 (x 0) (x 1)))

theorem columnsB (inb inb' inbo) (x : S1024x640.Idx) :
    (k0_pay2 (View.ld b (Rect.unit (s := S2048x640) ![0, n] S2048x640.size inb)) (View.ld a (Rect.unit (s := S2048x1024) ![0, 0] S2048x1024.size inb')) (View.ld s (Rect.unit (s := S1024x640) ![0, n] S1024x640.size inbo)) x : EReal) =
    added s a b ((Rect.unit (s := S1024x640) ![0, n] S1024x640.size inbo).emb x) := by
  rw [ValueIdx.eq_ix2 x]
  exact (chunkB _ _ _ (x 0) (x 1)).trans (congrArg₂ (· + ·) rfl (Mlp.tn_columns a b inb inb' inbo (ix2 (x 0) (x 1))))

theorem columnsC (inb inb' inbo) (x : S1024x640.Idx) :
    (k0_pay3 (View.ld b (Rect.unit (s := S2048x640) ![0, n] S2048x640.size inb)) (View.ld a (Rect.unit (s := S2048x1024) ![0, 0] S2048x1024.size inb')) (View.ld s (Rect.unit (s := S1024x640) ![0, n] S1024x640.size inbo)) x : EReal) =
    added s a b ((Rect.unit (s := S1024x640) ![0, n] S1024x640.size inbo).emb x) := by
  rw [ValueIdx.eq_ix2 x]
  exact (chunkC _ _ _ (x 0) (x 1)).trans (congrArg₂ (· + ·) rfl (Mlp.tn_columns a b inb inb' inbo (ix2 (x 0) (x 1))))

end columns

section cases

variable (c : Dev nD) (i : grid0.Coords) (arg3 : Memref sig .tc .vmem S2048x1024 .bf16) (harg3 : arg3.IsWhole)
  (arg4 : Memref sig .tc .vmem S2048x640 .bf16) (harg4 : arg4.IsWhole) (arg5 : Memref sig .tc .vmem S1024x640 .f32) (harg5 : arg5.IsWhole)
  (arg6 : Memref sig .tc .vmem S1024x640 .f32) (harg6 : arg6.IsWhole) (a : BF16 S2048x1024) (b : BF16 S2048x640)
  (s : F32 S1024x640)

/-- A first point leaves its product in the accumulator, -/
theorem first (hc0 hc1 hc2) :
    sout0_A_0 c i arg3 harg3 arg4 harg4 arg5 harg5 arg6 harg6 hc0 hc1 hc2 a b = Mlp.tn a b := by
  unfold sout0_A_0
  rw [View.read_writes_junk_eq_canon]
  refine Mlp.canon_of_blocks (S := S1024x640) _ _ ?_ (scover0_A_0 _ _ _ _ _ _ _ _ _ _ _ _ _ _ _)
  unfold kernelRun0_A
  sl_unfold_words
  simp only [View.readAt_eq_ld, harg3.read_unread, harg4.read_unread, harg6.read_unread]
  exact ⟨columnsA a b 0 _ _ inb_S1024x640_S1024x640_0_0, trivial⟩

/-- a middle one adds its product, -/
theorem middle (hc0 hc1 hc2) :
    sout0_B_0 c i arg3 harg3 arg4 harg4 arg5 harg5 arg6 harg6 hc0 hc1 hc2 a b s = added s a b := by
  unfold sout0_B_0
  rw [View.read_writes_junk_eq_canon]
  refine Mlp.canon_of_blocks _ _ ?_ (scover0_B_0 _ _ _ _ _ _ _ _ _ _ _ _ _ _ _ _)
  unfold kernelRun0_B
  sl_unfold_words
  simp only [View.readAt_eq_ld, harg3.read_unread, harg4.read_unread, harg6.read_unread]
  exact ⟨columnsB a b s 0 _ _ inb_S1024x640_S1024x640_0_0, trivial⟩

/-- and the last one stores the sum as the result. -/
theorem last (hc0 hc1 hc2) :
    out0_C_2 c i arg3 harg3 arg4 harg4 arg5 harg5 arg6 harg6 hc0 hc1 hc2 a b s = added s a b := by
  unfold out0_C_2
  rw [View.read_writes_junk_eq_canon]
  refine Mlp.canon_of_blocks _ _ ?_ (cover0_C_2 _ _ _ _ _ _ _ _ _ _ _ _ _ _ _ _)
  unfold kernelRun0_C
  sl_unfold_words
  simp only [View.readAt_eq_ld, harg3.read_unread, harg4.read_unread, harg6.read_unread]
  exact ⟨columnsC a b s 0 _ _ inb_S1024x640_S1024x640_0_0, trivial⟩

end cases

variable (m : (ℓ : Loc nD τ sig) → Buf (Elt Ideal) ℓ)

/-- The product over the rows point `t` fetched. -/
def term (c : Dev nD) (t : Fin cfg0.N) : F32 S1024x640 :=
  Mlp.tn (iblk m c 0 t : BF16 S2048x1024) (iblk m c 1 t : BF16 S2048x640)

theorem step_first (c : Dev nD) (t : Fin cfg0.N) (h : t.val % 4 = 0) : (outsAt0 m c t.val t.isLt).2 = term m c t := by
  have h1 : ¬(1 ≤ t.val % 4 ∧ t.val % 4 ≤ 2) := by omega
  have h2 : ¬t.val % 4 = 3 := by omega
  rw [outsAt0_A m c t h h1 h2]
  dsimp only
  unfold term
  exact first _ _ _ _ _ _ _ _ _ _ _ _ _ _ _

theorem step_middle (c : Dev nD) (t s : Fin cfg0.N) (h : 1 ≤ t.val % 4 ∧ t.val % 4 ≤ 2) (hs : s.val = t.val - 1) (y : S1024x640.Idx) :
    ((outsAt0 m c t.val t.isLt).2 y : EReal) = ((outsAt0 m c s.val s.isLt).2 y : EReal) + term m c t y := by
  obtain ⟨s, hs'⟩ := s
  obtain rfl : s = t.val - 1 := hs
  have h0 : ¬t.val % 4 = 0 := by omega
  have h2 : ¬t.val % 4 = 3 := by omega
  rw [outsAt0_B m c t h0 h h2]
  dsimp only
  unfold term
  exact congrFun (middle _ _ _ _ _ _ _ _ _ _ _ _ _ _ _ _) y

theorem step_last (c : Dev nD) (t s : Fin cfg0.N) (h : t.val % 4 = 3) (hs : s.val = t.val - 1) (y : S1024x640.Idx) :
    ((outsAt0 m c t.val t.isLt).1 y : EReal) = ((outsAt0 m c s.val s.isLt).2 y : EReal) + term m c t y := by
  obtain ⟨s, hs'⟩ := s
  obtain rfl : s = t.val - 1 := hs
  have h0 : ¬t.val % 4 = 0 := by omega
  have h1 : ¬(1 ≤ t.val % 4 ∧ t.val % 4 ≤ 2) := by omega
  rw [outsAt0_C m c t h0 h1 h]
  dsimp only
  unfold term
  refine (congrFun (last _ _ _ _ _ _ _ _ _ _ _ _ _ _ _ _) y).trans ?_
  rfl

/-- The point `k` of block `i`'s four. -/
def pt (i : Fin 5) (k : Fin 4) : Fin cfg0.N := ⟨i.val * 4 + k.val, by have hN : cfg0.N = 20 := N_0; omega⟩

/-- The result's block is the sum of the four products. -/
theorem block_sum (c : Dev nD) (i : Fin 5) (y : S1024x640.Idx) :
    ((outsAt0 m c (pt i 3).val (pt i 3).isLt).1 y : EReal) =
      (term m c (pt i 0) y : EReal) + term m c (pt i 1) y + term m c (pt i 2) y + term m c (pt i 3) y := by
  have e3 := step_last m c (pt i 3) (pt i 2) (by show (i.val * 4 + 3) % 4 = 3; omega) (by show i.val * 4 + 2 = i.val * 4 + 3 - 1; omega) y
  have e2 := step_middle m c (pt i 2) (pt i 1) (by show 1 ≤ (i.val * 4 + 2) % 4 ∧ (i.val * 4 + 2) % 4 ≤ 2; omega) (by show i.val * 4 + 1 = i.val * 4 + 2 - 1; omega) y
  have e1 := step_middle m c (pt i 1) (pt i 0) (by show 1 ≤ (i.val * 4 + 1) % 4 ∧ (i.val * 4 + 1) % 4 ≤ 2; omega) (by show i.val * 4 + 0 = i.val * 4 + 1 - 1; omega) y
  have e0 := congrFun (step_first m c (pt i 0) (by show (i.val * 4 + 0) % 4 = 0; omega)) y
  rw [e3, e2, e1, e0]

/-- The two operands, as the region finds them, -/
abbrev left (c : Dev nD) : BF16 S8192x1024 := V m c main_v0
abbrev right (c : Dev nD) : BF16 S8192x3200 := V m c main_v2

/-- a column of block `i`, -/
def col (i : Fin 5) (j : Fin 640) : Fin 3200 := ⟨i.val * 640 + j.val, by omega⟩

/-- and the array of results. -/
def result (c : Dev nD) : F32 S1024x3200 :=
  Mlp.tn (left m c) (right m c)

/-- Where each window's block lies. -/
theorem at0 (i : Fin 5) (k : Fin 4) : win0_0.index (pt i k) 0 = k.val ∧ win0_0.index (pt i k) 1 = 0 := by
  revert i k; decide +kernel
theorem at1 (i : Fin 5) (k : Fin 4) : win0_1.index (pt i k) 0 = k.val ∧ win0_1.index (pt i k) 1 = i.val := by
  revert i k; decide +kernel
theorem at2 (i : Fin 5) (k : Fin 4) : win0_2.index (pt i k) 0 = 0 ∧ win0_2.index (pt i k) 1 = i.val := by
  revert i k; decide +kernel

theorem blk0 (c : Dev nD) (i : Fin 5) (k : Fin 4) (r : Fin 2048) (j : Fin 1024) :
    (iblk m c 0 (pt i k) : BF16 S2048x1024) (ix2 r j) = left m c (ix2 (Mlp.quarter k r) j) := by
  unfold iblk
  rw [View.read_apply]
  show left m c _ = left m c _
  exact congrArg _ (Mlp.ext2 (Mlp.at_block (at0 i k).1)
    (Mlp.at_start (at0 i k).2))

theorem blk1 (c : Dev nD) (i : Fin 5) (k : Fin 4) (r : Fin 2048) (j : Fin 640) :
    (iblk m c 1 (pt i k) : BF16 S2048x640) (ix2 r j) = right m c (ix2 (Mlp.quarter k r) (col i j)) := by
  unfold iblk
  rw [View.read_apply]
  show right m c _ = right m c _
  exact congrArg _ (Mlp.ext2 (Mlp.at_block (at1 i k).1)
    (Mlp.at_block (at1 i k).2))

theorem emb2 (i : Fin 5) (r : Fin 1024) (j : Fin 640) :
    ((cfg0.win 2).blk (pt i 3)).view.emb (ix2 r j) = (ix2 r (col i j) : S1024x3200.Idx) :=
  Mlp.ext2 (Mlp.at_start (at2 i 3).1)
    (Mlp.at_block (at2 i 3).2)

theorem term_eq (c : Dev nD) (i : Fin 5) (k : Fin 4) (p : Fin 1024) (q : Fin 640) :
    (term m c (pt i k) (ix2 p q) : EReal) =
      ∑ r : Fin 2048, (left m c (ix2 (Mlp.quarter k r) p) : EReal) * right m c (ix2 (Mlp.quarter k r) (col i q)) := by
  unfold term Mlp.tn
  exact Finset.sum_congr rfl fun r _ => congrArg₂ (· * ·) (blk0 m c i k r p) (blk1 m c i k r q)

/-- A block's four products are the sum over all rows. -/
theorem total (c : Dev nD) (i : Fin 5) (p : Fin 1024) (q : Fin 640) :
    (term m c (pt i 0) (ix2 p q) : EReal) + term m c (pt i 1) (ix2 p q) + term m c (pt i 2) (ix2 p q) + term m c (pt i 3) (ix2 p q) =
      Mlp.tn (left m c) (right m c) (ix2 p (col i q)) := by
  refine Eq.trans ?_ (Mlp.sum_quarters fun k => (left m c (ix2 k p) : EReal) * right m c (ix2 k (col i q))).symm
  rw [term_eq, term_eq, term_eq, term_eq]

/-- What each last point writes back is the results' block there. -/
theorem flushed (c : Dev nD) (i : Fin 5) :
    (dats m 0 c).flushed 2 (pt i 3) = ((cfg0.win 2).blk (pt i 3)).view.read (Elt Ideal) (result m c) := by
  show (cfg0.win 2).cut (grid0.coords (pt i 3)) ((dats m 0 c).after 2 (pt i 3)) = _
  rw [after0_2]
  have key : ∀ y : S1024x640.Idx, (outsAt0 m c (pt i 3).val (pt i 3).isLt).1 y = result m c (((cfg0.win 2).blk (pt i 3)).view.emb y) := fun y => by
    rw [ValueIdx.eq_ix2 y]
    exact ((block_sum m c i (ix2 (y 0) (y 1))).trans (total m c i (y 0) (y 1))).trans (congrArg (result m c) (emb2 i (y 0) (y 1))).symm
  exact funext key

theorem last_point (t : Fin cfg0.N) (h : t.val % 4 = 3) : ∃ i : Fin 5, t = pt i 3 := by
  have hN : cfg0.N = 20 := N_0
  have ht := t.isLt
  exact ⟨⟨t.val / 4, by omega⟩, Fin.ext (by show t.val = t.val / 4 * 4 + 3; omega)⟩

/-- The array ends at the results. -/
theorem final (c : Dev nD) : (dats m 0 c).arrAt 2 cfg0.N = result m c :=
  (dats m 0 c).arrAt_eq_of_cover 2 (result m c)
    (fun t ht => by obtain ⟨i, rfl⟩ := last_point t ((flush0_2 t).mp ht); exact flushed m c i) fun y => by
    have h0 : (y 0 : Nat) < 1024 := (y 0).isLt
    have h1 : (y 1 : Nat) < 3200 := (y 1).isLt
    generalize hi : (⟨(y 1 : Nat) / 640, by omega⟩ : Fin 5) = i
    have hv : i.val = (y 1 : Nat) / 640 := by rw [← hi]
    refine ⟨pt i 3, (flush0_2 _).mpr (by show (i.val * 4 + 3) % 4 = 3; omega), ?_⟩
    show y ∈ ((View.whole main_v3).slice (win0_2.rect (pt i 3))).set
    rw [View.set_slice_whole, Rect.mem_set_unit]
    intro a
    match a with
    | ⟨0, _⟩ => exact Mlp.within 1024 (y 0).val (at2 i 3).1 (by omega)
    | ⟨1, _⟩ => exact Mlp.within 640 (y 1).val (at2 i 3).2 (by omega)

/-- Casting to the narrower format changes no real; and -/
theorem left_eq (c : Dev nD) (y : S8192x1024.Idx) : (left m c y : EReal) = (m (c, Proc.devRef .tc main_arg0) : F32 S8192x1024) y := by
  simp only [left, V, V0, hostOps0, hostOps0_1]
  after_reads_at
/-- the right operand is padded with zero columns. -/
abbrev grad (c : Dev nD) (y : S8192x3088.Idx) : EReal := m (c, Proc.devRef .tc main_arg2) y
theorem right_eq (c : Dev nD) (y : S8192x3200.Idx) : (right m c y : EReal) = if h : (y 1 : ℕ) < 3088 then grad m c (ix2 (y 0) ⟨y 1, h⟩) else 0 := by
  simp only [right, V, V0, hostOps0, hostOps0_1]
  after_reads_at
  exact congrArg (fun z : EReal => if h : (y 1 : ℕ) < 3088 then grad m c (ix2 (y 0) ⟨y 1, h⟩) else z) Mlp.zero_word

abbrev after (c : Dev nD) : Valuation τ sig (Elt Ideal) :=
  Pipeline.withArrays spec0 c (V0 m c) fun w => (dats m 0 c).arrAt w cfg0.N

theorem after_result (c : Dev nD) : after m c (Proc.devRef .tc main_v3) = result m c :=
  (Pipeline.withArrays_arr spec0 (by decide) c (V0 m c) (fun w => (dats m 0 c).arrAt w cfg0.N) 2).trans (final m c)

/-- Column `j` of device `i`'s share, among the padded ones. -/
def share (i : Fin 4) (j : Fin 772) : Fin 3200 := ⟨i.val * 772 + j.val, by omega⟩

/-- The results without the padding, split over the four devices by columns. -/
def shares (c : Dev nD) : F32 S4x1024x772 := fun y => (result m c (ix2 (y 1) (share (y 0) (y 2))) : EReal)

theorem split (U : Valuation τ sig (Elt Ideal)) (y : S4x1024x772.Idx) :
    (StableHlo.after (List.flatten [hostOps1]) U (Proc.devRef .tc main_v6) y : EReal) =
      (U (Proc.devRef .tc main_v3) : F32 S1024x3200) (ix2 (y 1) (share (y 0) (y 2))) := by
  simp only [hostOps1, List.flatten_cons, List.flatten_nil, List.append_nil]
  after_reads_at
  rfl

theorem shares_eq (c : Dev nD) : Pipeline.afterTail₀ cfgs (dats m) 0 (V0 m) [hostOps1] c main_v6 = shares m c := by
  refine funext fun (y : S4x1024x772.Idx) => ?_
  refine (split (after m c) y).trans ?_
  rw [after_result]
  rfl

end Cert.DwInIdeal.Value

end
-- ==== Proof.DhInIdeal.Product.lean ====
/- The gradient of the input projection's input: the output's gradient times the transposed weights, both padded with zero columns, entry by entry. -/
module

public import proofs.«01_k».proof.Proof.Types
public import proofs.«01_k».proof.Proof.Gen.DhInIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

set_option maxRecDepth 16384

noncomputable section

namespace Cert.DhInIdeal.Value

open Idealize.ShloMosaic Idealize.ShloMosaic.TcCoe Idealize.ShloMosaic.Tactic
open Cert.DhInIdeal.Gen

/-- One chunk of 256 columns: products of rows with rows; -/
theorem chunk (b : BF16 S256x3200) (a : BF16 S1024x3200) (r : Fin 1024) (j : Fin 256) :
    (k0_pay1 b a (ix2 r j) : EReal) = ∑ k : Fin 3200, (a (ix2 r k) : EReal) * b (ix2 j k) := by
  pointwise [k0_pay1]

/-- read off the operands' blocks it is the product's columns there. -/
theorem columns (a b : BF16 S1024x3200) (n : ℕ) (inb inb' inbo) (x : S1024x256.Idx) :
    (k0_pay1 (View.ld b (Rect.unit (s := S1024x3200) ![n, 0] S256x3200.size inb))
      (View.ld a (Rect.unit (s := S1024x3200) ![0, 0] S1024x3200.size inb')) x : EReal) =
    Mlp.nt a b ((Rect.unit (s := S1024x1024) ![0, n] S1024x256.size inbo).emb x) := by
  rw [ValueIdx.eq_ix2 x]
  exact (chunk _ _ (x 0) (x 1)).trans (Mlp.nt_columns a b inb inb' inbo (ix2 (x 0) (x 1)))

theorem out_eq (a b : BF16 S1024x3200) : out0_2 a b = Mlp.nt a b :=
  Mlp.canon_of_blocks (S := S1024x1024) _ _
    ⟨columns a b 768 _ _ inb_S1024x1024_S1024x256_0_768, columns a b 512 _ _ inb_S1024x1024_S1024x256_0_512,
      columns a b 256 _ _ inb_S1024x1024_S1024x256_0_256, columns a b 0 _ _ inb_S1024x1024_S1024x256_0_0, trivial⟩ (cover0_2 _ _ _ _)

variable (m : (ℓ : Loc nD τ sig) → Buf (Elt Ideal) ℓ)

/-- The gradient and the weights, as the region finds them, -/
abbrev left (c : Dev nD) : BF16 S8192x3200 := V m c main_v1
abbrev right (c : Dev nD) : BF16 S1024x3200 := V m c main_v3

/-- and the array of results. -/
def result (c : Dev nD) : F32 S8192x1024 := Mlp.nt (left m c) (right m c)

/-- Where each window's block lies. -/
theorem at0 (t : Fin cfg0.N) : win0_0.index t 0 = t.val ∧ win0_0.index t 1 = 0 := by
  revert t; decide +kernel
theorem at1 (t : Fin cfg0.N) : win0_1.index t 0 = 0 ∧ win0_1.index t 1 = 0 := by
  revert t; decide +kernel
theorem at2 (t : Fin cfg0.N) : win0_2.index t 0 = t.val ∧ win0_2.index t 1 = 0 := by
  revert t; decide +kernel

def row (t : Fin cfg0.N) (r : Fin 1024) : Fin 8192 := ⟨t.val * 1024 + r.val, by have h : t.val < 8 := lt_of_lt_of_eq t.isLt N_0; omega⟩

theorem blk0 (c : Dev nD) (t : Fin cfg0.N) (r : Fin 1024) (k : Fin 3200) :
    (iblk m c 0 t : BF16 S1024x3200) (ix2 r k) = left m c (ix2 (row t r) k) := by
  unfold iblk
  rw [View.read_apply]
  show left m c _ = left m c _
  exact congrArg _ (Mlp.ext2 (Mlp.at_block (at0 t).1)
    (Mlp.at_start (at0 t).2))

theorem blk1 (c : Dev nD) (t : Fin cfg0.N) (j : Fin 1024) (k : Fin 3200) :
    (iblk m c 1 t : BF16 S1024x3200) (ix2 j k) = right m c (ix2 j k) := by
  unfold iblk
  rw [View.read_apply]
  show right m c _ = right m c _
  exact congrArg _ (Mlp.ext2 (Mlp.at_start (at1 t).1)
    (Mlp.at_start (at1 t).2))

theorem emb2 (t : Fin cfg0.N) (r j : Fin 1024) :
    ((cfg0.win 2).blk t).view.emb (ix2 r j) = (ix2 (row t r) j : S8192x1024.Idx) :=
  Mlp.ext2 (Mlp.at_block (at2 t).1)
    (Mlp.at_start (at2 t).2)

/-- What each point writes back is the results' block there. -/
theorem flushed (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2, out_eq]
  have key : ∀ y : S1024x1024.Idx, Mlp.nt (iblk m c 0 t : BF16 S1024x3200) (iblk m c 1 t : BF16 S1024x3200) y =
      result m c (((cfg0.win 2).blk t).view.emb y) := fun y => by
    rw [ValueIdx.eq_ix2 y]
    refine Eq.trans ?_ (congrArg (result m c) (emb2 t (y 0) (y 1))).symm
    unfold result Mlp.nt
    exact Finset.sum_congr rfl fun k _ => congrArg₂ (· * ·) (blk0 m c t (y 0) k) (blk1 m c t (y 1) k)
  exact funext key

/-- The array ends at the results. -/
theorem final (c : Dev nD) : (dats m 0 c).arrAt 2 cfg0.N = result m c :=
  (dats m 0 c).arrAt_eq_of_cover 2 (result m c) (fun t _ => flushed m c t) fun y => by
    have h0 : (y 0 : Nat) < 8192 := (y 0).isLt
    have h1 : (y 1 : Nat) < 1024 := (y 1).isLt
    have hN : cfg0.N = 8 := N_0
    refine ⟨⟨(y 0 : Nat) / 1024, by omega⟩, flush0_2 _, ?_⟩
    generalize ht : (⟨(y 0 : Nat) / 1024, by omega⟩ : Fin cfg0.N) = t
    have hv : t.val = (y 0 : Nat) / 1024 := by rw [← ht]
    show y ∈ ((View.whole main_v4).slice (win0_2.rect t)).set
    rw [View.set_slice_whole, Rect.mem_set_unit]
    intro a
    match a with
    | ⟨0, _⟩ => exact Mlp.within 1024 (y 0).val (at2 t).1 (by omega)
    | ⟨1, _⟩ => exact Mlp.within 1024 (y 1).val (at2 t).2 (by omega)

/-- The gradient's and the weights' entries. -/
abbrev grad (c : Dev nD) (y : S8192x3088.Idx) : EReal := m (c, Proc.devRef .tc main_arg2) y
abbrev weight (c : Dev nD) (y : S1024x3088.Idx) : EReal := m (c, Proc.devRef .tc main_arg1) y

/-- Casting to the narrower format changes no real; beyond the columns there are, the operands hold zeros. -/
theorem left_eq (c : Dev nD) (y : S8192x3200.Idx) : (left m c y : EReal) = if h : (y 1 : ℕ) < 3088 then grad m c (ix2 (y 0) ⟨y 1, h⟩) else 0 := by
  simp only [left, V, hostOps0, hostOps0_1, hostOps0_2, hostOps0_3]
  after_reads_at
  exact congrArg (fun z : EReal => if h : (y 1 : ℕ) < 3088 then grad m c (ix2 (y 0) ⟨y 1, h⟩) else z) Mlp.zero_word
theorem right_eq (c : Dev nD) (y : S1024x3200.Idx) : (right m c y : EReal) = if h : (y 1 : ℕ) < 3088 then weight m c (ix2 (y 0) ⟨y 1, h⟩) else 0 := by
  simp only [right, V, hostOps0, hostOps0_1, hostOps0_2, hostOps0_3]
  after_reads_at
  exact congrArg (fun z : EReal => if h : (y 1 : ℕ) < 3088 then weight m c (ix2 (y 0) ⟨y 1, h⟩) else z) Mlp.zero_word

/-- So the padding adds nothing to a product. -/
theorem result_eq (c : Dev nD) (y : S8192x1024.Idx) :
    (result m c y : EReal) = ∑ k : Fin 3088, grad m c (ix2 (y 0) k) * weight m c (ix2 (y 1) k) := by
  unfold result Mlp.nt
  refine Mlp.sum_padded (fun k : Fin 3088 => grad m c (ix2 (y 0) k) * weight m c (ix2 (y 1) k)) (by decide) fun k => ?_
  refine (congrArg₂ (· * ·) (left_eq m c (ix2 (y 0) k)) (right_eq m c (ix2 (y 1) k))).trans ?_
  by_cases h : (k : ℕ) < 3088
  · rw [dif_pos h]
    exact congrArg₂ (· * ·) (dif_pos h) (dif_pos h)
  · rw [dif_neg h]
    exact (congrArg (fun u : EReal => u * _) (dif_neg h)).trans (zero_mul _)

end Cert.DhInIdeal.Value

end
-- ==== Proof.DwConvIdeal.Product.lean ====
/- The gradient of the first pointwise convolution's weights: the input's transpose times the output's gradient, split over the four devices by columns.
   Its 8192 rows are summed in four blocks of 2048 over consecutive points; entry by entry. -/
module

public import proofs.«01_k».proof.Proof.Types
public import proofs.«01_k».proof.Proof.Gen.DwConvIdeal.Frame
public import proofs.«01_k».proof.Proof.Mlp.Blocks
public import proofs.«01_k».proof.Proof.Mlp.Columns
public import proofs.«01_k».proof.Proof.Mlp.Quarters
public import Idealize.ShloMosaic.Lib.Pipeline.Value
public import Idealize.ShloMosaic.Lib.StableHlo.ReadAt

@[expose] public section

set_option maxRecDepth 16384

noncomputable section

namespace Cert.DwConvIdeal.Value

open Idealize.ShloMosaic Idealize.ShloMosaic.TcCoe Idealize.ShloMosaic.Tactic
open Cert.DwConvIdeal.Gen

/-- One chunk of 256 columns at a first point: products of columns with columns; -/
theorem chunkA (b : BF16 S2048x256) (a : BF16 S2048x1024) (i : Fin 1024) (j : Fin 256) :
    (k0_pay1 b a (ix2 i j) : EReal) = ∑ r : Fin 2048, (a (ix2 r i) : EReal) * b (ix2 r j) := by
  pointwise [k0_pay1]

/-- and at a later one, added to what is carried, -/
theorem chunkB (b : BF16 S2048x256) (a : BF16 S2048x1024) (s : F32 S1024x256) (i : Fin 1024) (j : Fin 256) :
    (k0_pay3 b a s (ix2 i j) : EReal) = (s (ix2 i j) : EReal) + ∑ r : Fin 2048, (a (ix2 r i) : EReal) * b (ix2 r j) := by
  pointwise [k0_pay3]

/-- which the last point stores as the result. -/
theorem chunkC (b : BF16 S2048x256) (a : BF16 S2048x1024) (s : F32 S1024x256) (o : Fin 1) (i : Fin 1024) (j : Fin 256) :
    (k0_pay5 b a s (ix3 o i j) : EReal) = (s (ix2 i j) : EReal) + ∑ r : Fin 2048, (a (ix2 r i) : EReal) * b (ix2 r j) := by
  pointwise [k0_pay5]

/-- What is carried, with the product over one block of rows added. -/
def added (s : F32 S1024x512) (a : BF16 S2048x1024) (b : BF16 S2048x512) : F32 S1024x512 :=
  fun y => (s y : EReal) + Mlp.tn a b y

section columns

variable (a : BF16 S2048x1024) (b : BF16 S2048x512) (s : F32 S1024x512) (n : ℕ)

theorem columnsA (inb inb' inbo) (x : S1024x256.Idx) :
    (k0_pay1 (View.ld b (Rect.unit (s := S2048x512) ![0, n] S2048x256.size inb)) (View.ld a (Rect.unit (s := S2048x1024) ![0, 0] S2048x1024.size inb')) x : EReal) = Mlp.tn a b ((Rect.unit (s := S1024x512) ![0, n] S1024x256.size inbo).emb x) := by
  rw [ValueIdx.eq_ix2 x]
  exact (chunkA _ _ (x 0) (x 1)).trans (Mlp.tn_columns a b inb inb' inbo (ix2 (x 0) (x 1)))

theorem columnsB (inb inb' inbo) (x : S1024x256.Idx) :
    (k0_pay3 (View.ld b (Rect.unit (s := S2048x512) ![0, n] S2048x256.size inb)) (View.ld a (Rect.unit (s := S2048x1024) ![0, 0] S2048x1024.size inb')) (View.ld s (Rect.unit (s := S1024x512) ![0, n] S1024x256.size inbo)) x : EReal) =
    added s a b ((Rect.unit (s := S1024x512) ![0, n] S1024x256.size inbo).emb x) := by
  rw [ValueIdx.eq_ix2 x]
  exact (chunkB _ _ _ (x 0) (x 1)).trans (congrArg₂ (· + ·) rfl (Mlp.tn_columns a b inb inb' inbo (ix2 (x 0) (x 1))))

/-- The result's block, with its leading axis of one. -/
def stored : F32 S1x1024x512 := fun y => added s a b (ix2 (y 1) (y 2))

theorem columnsC (inb inb' inbs inbo) (x : S1x1024x256.Idx) :
    (k0_pay5 (View.ld b (Rect.unit (s := S2048x512) ![0, n] S2048x256.size inb)) (View.ld a (Rect.unit (s := S2048x1024) ![0, 0] S2048x1024.size inb')) (View.ld s (Rect.unit (s := S1024x512) ![0, n] S1024x256.size inbs)) x : EReal) =
    stored a b s ((Rect.unit (s := S1x1024x512) ![0, 0, n] S1x1024x256.size inbo).emb x) := by
  have hx : (ix2 ((Rect.unit (s := S1x1024x512) ![0, 0, n] S1x1024x256.size inbo).emb x 1) ((Rect.unit (s := S1x1024x512) ![0, 0, n] S1x1024x256.size inbo).emb x 2) : S1024x512.Idx)
      = (Rect.unit (s := S1024x512) ![0, n] S1024x256.size inbs).emb (ix2 (x 1) (x 2)) := Mlp.ext2 rfl rfl
  refine Eq.trans ?_ (congrArg (added s a b) hx).symm
  rw [ValueIdx.eq_ix3 x]
  exact (chunkC _ _ _ (x 0) (x 1) (x 2)).trans (congrArg₂ (· + ·) rfl (Mlp.tn_columns a b inb inb' inbs (ix2 (x 1) (x 2))))

end columns

section cases

variable (c : Dev nD) (i : grid0.Coords) (arg3 : Memref sig .tc .vmem S2048x1024 .bf16) (harg3 : arg3.IsWhole)
  (arg4 : Memref sig .tc .vmem S2048x512 .bf16) (harg4 : arg4.IsWhole) (arg5 : Memref sig .tc .vmem S1x1024x512 .f32) (harg5 : arg5.IsWhole)
  (arg6 : Memref sig .tc .vmem S1024x512 .f32) (harg6 : arg6.IsWhole) (a : BF16 S2048x1024) (b : BF16 S2048x512)
  (s : F32 S1024x512)

/-- A first point leaves its product in the accumulator, -/
theorem first (hc0 hc1 hc2) :
    sout0_A_0 c i arg3 harg3 arg4 harg4 arg5 harg5 arg6 harg6 hc0 hc1 hc2 a b = Mlp.tn a b := by
  unfold sout0_A_0
  rw [View.read_writes_junk_eq_canon]
  refine Mlp.canon_of_blocks (S := S1024x512) _ _ ?_ (scover0_A_0 _ _ _ _ _ _ _ _ _ _ _ _ _ _ _)
  unfold kernelRun0_A
  sl_unfold_words
  simp only [View.readAt_eq_ld, harg3.read_unread, harg4.read_unread, harg6.read_unread]
  exact ⟨columnsA a b 256 _ _ inb_S1024x512_S1024x256_0_256,
    columnsA a b 0 _ _ inb_S1024x512_S1024x256_0_0, trivial⟩

/-- a middle one adds its product, -/
theorem middle (hc0 hc1 hc2) :
    sout0_B_0 c i arg3 harg3 arg4 harg4 arg5 harg5 arg6 harg6 hc0 hc1 hc2 a b s = added s a b := by
  unfold sout0_B_0
  rw [View.read_writes_junk_eq_canon]
  refine Mlp.canon_of_blocks _ _ ?_ (scover0_B_0 _ _ _ _ _ _ _ _ _ _ _ _ _ _ _ _)
  unfold kernelRun0_B
  sl_unfold_words
  simp only [View.readAt_eq_ld, harg3.read_unread, harg4.read_unread, harg6.read_unread]
  exact ⟨columnsB a b s 256 _ _ inb_S1024x512_S1024x256_0_256,
    columnsB a b s 0 _ _ inb_S1024x512_S1024x256_0_0, trivial⟩

/-- and the last one stores the sum as the result. -/
theorem last (hc0 hc1 hc2) :
    out0_C_2 c i arg3 harg3 arg4 harg4 arg5 harg5 arg6 harg6 hc0 hc1 hc2 a b s = stored a b s := by
  unfold out0_C_2
  rw [View.read_writes_junk_eq_canon]
  refine Mlp.canon_of_blocks _ _ ?_ (cover0_C_2 _ _ _ _ _ _ _ _ _ _ _ _ _ _ _ _)
  unfold kernelRun0_C
  sl_unfold_words
  simp only [View.readAt_eq_ld, harg3.read_unread, harg4.read_unread, harg6.read_unread]
  exact ⟨columnsC a b s 256 _ _ inb_S1024x512_S1024x256_0_256 inb_S1x1024x512_S1x1024x256_0_0_256,
    columnsC a b s 0 _ _ inb_S1024x512_S1024x256_0_0 inb_S1x1024x512_S1x1024x256_0_0_0, trivial⟩

end cases

variable (m : (ℓ : Loc nD τ sig) → Buf (Elt Ideal) ℓ)

/-- The product over the rows point `t` fetched. -/
def term (c : Dev nD) (t : Fin cfg0.N) : F32 S1024x512 :=
  Mlp.tn (iblk m c 0 t : BF16 S2048x1024) (iblk m c 1 t : BF16 S2048x512)

theorem step_first (c : Dev nD) (t : Fin cfg0.N) (h : t.val % 4 = 0) : (outsAt0 m c t.val t.isLt).2 = term m c t := by
  have h1 : ¬(1 ≤ t.val % 4 ∧ t.val % 4 ≤ 2) := by omega
  have h2 : ¬t.val % 4 = 3 := by omega
  rw [outsAt0_A m c t h h1 h2]
  dsimp only
  unfold term
  exact first _ _ _ _ _ _ _ _ _ _ _ _ _ _ _

theorem step_middle (c : Dev nD) (t s : Fin cfg0.N) (h : 1 ≤ t.val % 4 ∧ t.val % 4 ≤ 2) (hs : s.val = t.val - 1) (y : S1024x512.Idx) :
    ((outsAt0 m c t.val t.isLt).2 y : EReal) = ((outsAt0 m c s.val s.isLt).2 y : EReal) + term m c t y := by
  obtain ⟨s, hs'⟩ := s
  obtain rfl : s = t.val - 1 := hs
  have h0 : ¬t.val % 4 = 0 := by omega
  have h2 : ¬t.val % 4 = 3 := by omega
  rw [outsAt0_B m c t h0 h h2]
  dsimp only
  unfold term
  exact congrFun (middle _ _ _ _ _ _ _ _ _ _ _ _ _ _ _ _) y

theorem step_last (c : Dev nD) (t s : Fin cfg0.N) (h : t.val % 4 = 3) (hs : s.val = t.val - 1) (y : S1024x512.Idx) :
    ((outsAt0 m c t.val t.isLt).1 (ix3 (0 : Fin 1) (y 0) (y 1)) : EReal) = ((outsAt0 m c s.val s.isLt).2 y : EReal) + term m c t y := by
  obtain ⟨s, hs'⟩ := s
  obtain rfl : s = t.val - 1 := hs
  have h0 : ¬t.val % 4 = 0 := by omega
  have h1 : ¬(1 ≤ t.val % 4 ∧ t.val % 4 ≤ 2) := by omega
  rw [outsAt0_C m c t h0 h1 h]
  dsimp only
  unfold term
  refine (congrFun (last _ _ _ _ _ _ _ _ _ _ _ _ _ _ _ _) (ix3 (0 : Fin 1) (y 0) (y 1))).trans ?_
  rw [ValueIdx.eq_ix2 y]
  rfl

/-- The point `k` of block `i`'s four. -/
def pt (i k : Fin 4) : Fin cfg0.N := ⟨i.val * 4 + k.val, by have hN : cfg0.N = 16 := N_0; omega⟩

/-- The result's block is the sum of the four products. -/
theorem block_sum (c : Dev nD) (i : Fin 4) (y : S1024x512.Idx) :
    ((outsAt0 m c (pt i 3).val (pt i 3).isLt).1 (ix3 (0 : Fin 1) (y 0) (y 1)) : EReal) =
      (term m c (pt i 0) y : EReal) + term m c (pt i 1) y + term m c (pt i 2) y + term m c (pt i 3) y := by
  have e3 := step_last m c (pt i 3) (pt i 2) (by show (i.val * 4 + 3) % 4 = 3; omega) (by show i.val * 4 + 2 = i.val * 4 + 3 - 1; omega) y
  have e2 := step_middle m c (pt i 2) (pt i 1) (by show 1 ≤ (i.val * 4 + 2) % 4 ∧ (i.val * 4 + 2) % 4 ≤ 2; omega) (by show i.val * 4 + 1 = i.val * 4 + 2 - 1; omega) y
  have e1 := step_middle m c (pt i 1) (pt i 0) (by show 1 ≤ (i.val * 4 + 1) % 4 ∧ (i.val * 4 + 1) % 4 ≤ 2; omega) (by show i.val * 4 + 0 = i.val * 4 + 1 - 1; omega) y
  have e0 := congrFun (step_first m c (pt i 0) (by show (i.val * 4 + 0) % 4 = 0; omega)) y
  rw [e3, e2, e1, e0]

/-- The two operands, as the region finds them, -/
abbrev left (c : Dev nD) : BF16 S8192x1024 := V m c main_v0
abbrev right (c : Dev nD) : BF16 S8192x2048 := V m c main_v1

/-- a column of block `i`, -/
def col (i : Fin 4) (j : Fin 512) : Fin 2048 := ⟨i.val * 512 + j.val, by omega⟩

/-- and the array of results. -/
def result (c : Dev nD) : F32 S4x1024x512 :=
  fun y => Mlp.tn (left m c) (right m c) (ix2 (y 1) (col (y 0) (y 2)))

/-- Where each window's block lies. -/
theorem at0 (i k : Fin 4) : win0_0.index (pt i k) 0 = k.val ∧ win0_0.index (pt i k) 1 = 0 := by
  revert i k; decide +kernel
theorem at1 (i k : Fin 4) : win0_1.index (pt i k) 0 = k.val ∧ win0_1.index (pt i k) 1 = i.val := by
  revert i k; decide +kernel
theorem at2 (i k : Fin 4) : win0_2.index (pt i k) 0 = i.val ∧ win0_2.index (pt i k) 1 = 0 ∧ win0_2.index (pt i k) 2 = 0 := by
  revert i k; decide +kernel

theorem blk0 (c : Dev nD) (i k : Fin 4) (r : Fin 2048) (j : Fin 1024) :
    (iblk m c 0 (pt i k) : BF16 S2048x1024) (ix2 r j) = left m c (ix2 (Mlp.quarter k r) j) := by
  unfold iblk
  rw [View.read_apply]
  show left m c _ = left m c _
  exact congrArg _ (Mlp.ext2 (Mlp.at_block (at0 i k).1)
    (Mlp.at_start (at0 i k).2))

theorem blk1 (c : Dev nD) (i k : Fin 4) (r : Fin 2048) (j : Fin 512) :
    (iblk m c 1 (pt i k) : BF16 S2048x512) (ix2 r j) = right m c (ix2 (Mlp.quarter k r) (col i j)) := by
  unfold iblk
  rw [View.read_apply]
  show right m c _ = right m c _
  exact congrArg _ (Mlp.ext2 (Mlp.at_block (at1 i k).1)
    (Mlp.at_block (at1 i k).2))

theorem emb2 (i : Fin 4) (o : Fin 1) (r : Fin 1024) (j : Fin 512) :
    ((cfg0.win 2).blk (pt i 3)).view.emb (ix3 o r j) = (ix3 i r j : S4x1024x512.Idx) := by
  funext a
  apply Fin.ext
  match a with
  | ⟨0, _⟩ => show win0_2.index (pt i 3) 0 * 1 + 1 * o.val = i.val; rw [(at2 i 3).1]; omega
  | ⟨1, _⟩ => exact Mlp.at_start (at2 i 3).2.1
  | ⟨2, _⟩ => exact Mlp.at_start (at2 i 3).2.2

theorem term_eq (c : Dev nD) (i k : Fin 4) (p : Fin 1024) (q : Fin 512) :
    (term m c (pt i k) (ix2 p q) : EReal) =
      ∑ r : Fin 2048, (left m c (ix2 (Mlp.quarter k r) p) : EReal) * right m c (ix2 (Mlp.quarter k r) (col i q)) := by
  unfold term Mlp.tn
  exact Finset.sum_congr rfl fun r _ => congrArg₂ (· * ·) (blk0 m c i k r p) (blk1 m c i k r q)

/-- A block's four products are the sum over all rows. -/
theorem total (c : Dev nD) (i : Fin 4) (p : Fin 1024) (q : Fin 512) :
    (term m c (pt i 0) (ix2 p q) : EReal) + term m c (pt i 1) (ix2 p q) + term m c (pt i 2) (ix2 p q) + term m c (pt i 3) (ix2 p q) =
      Mlp.tn (left m c) (right m c) (ix2 p (col i q)) := by
  refine Eq.trans ?_ (Mlp.sum_quarters fun k => (left m c (ix2 k p) : EReal) * right m c (ix2 k (col i q))).symm
  rw [term_eq, term_eq, term_eq, term_eq]

/-- What each last point writes back is the results' block there. -/
theorem flushed (c : Dev nD) (i : Fin 4) :
    (dats m 0 c).flushed 2 (pt i 3) = ((cfg0.win 2).blk (pt i 3)).view.read (Elt Ideal) (result m c) := by
  show (cfg0.win 2).cut (grid0.coords (pt i 3)) ((dats m 0 c).after 2 (pt i 3)) = _
  rw [after0_2]
  have key : ∀ y : S1x1024x512.Idx, (outsAt0 m c (pt i 3).val (pt i 3).isLt).1 y = result m c (((cfg0.win 2).blk (pt i 3)).view.emb y) := fun y => by
    rw [ValueIdx.eq_ix3 y]
    have h0 : y 0 = (0 : Fin 1) := Subsingleton.elim (α := Fin 1) _ _
    rw [h0]
    exact ((block_sum m c i (ix2 (y 1) (y 2))).trans (total m c i (y 1) (y 2))).trans (congrArg (result m c) (emb2 i 0 (y 1) (y 2))).symm
  exact funext key

theorem last_point (t : Fin cfg0.N) (h : t.val % 4 = 3) : ∃ i : Fin 4, t = pt i 3 := by
  have hN : cfg0.N = 16 := N_0
  have ht := t.isLt
  exact ⟨⟨t.val / 4, by omega⟩, Fin.ext (by show t.val = t.val / 4 * 4 + 3; omega)⟩

/-- The array ends at the results. -/
theorem final (c : Dev nD) : (dats m 0 c).arrAt 2 cfg0.N = result m c :=
  (dats m 0 c).arrAt_eq_of_cover 2 (result m c)
    (fun t ht => by obtain ⟨i, rfl⟩ := last_point t ((flush0_2 t).mp ht); exact flushed m c i) fun y => by
    have h0 : (y 0 : Nat) < 4 := (y 0).isLt
    have h1 : (y 1 : Nat) < 1024 := (y 1).isLt
    have h2 : (y 2 : Nat) < 512 := (y 2).isLt
    generalize hi : (⟨(y 0 : Nat), h0⟩ : Fin 4) = i
    have hv : i.val = (y 0 : Nat) := by rw [← hi]
    refine ⟨pt i 3, (flush0_2 _).mpr (by show (i.val * 4 + 3) % 4 = 3; omega), ?_⟩
    show y ∈ ((View.whole main_v2).slice (win0_2.rect (pt i 3))).set
    rw [View.set_slice_whole, Rect.mem_set_unit]
    intro a
    match a with
    | ⟨0, _⟩ => exact Mlp.within 1 (y 0).val (at2 i 3).1 (by omega)
    | ⟨1, _⟩ => exact Mlp.within 1024 (y 1).val (at2 i 3).2.1 (by omega)
    | ⟨2, _⟩ => exact Mlp.within 512 (y 2).val (at2 i 3).2.2 (by omega)

/-- Casting to the narrower format changes no real. -/
theorem left_eq (c : Dev nD) (y : S8192x1024.Idx) : (left m c y : EReal) = (m (c, Proc.devRef .tc main_arg0) : F32 S8192x1024) y := by
  simp only [left, V, hostOps0]
  after_reads_at
theorem right_eq (c : Dev nD) (y : S8192x2048.Idx) : (right m c y : EReal) = (m (c, Proc.devRef .tc main_arg2) : F32 S8192x2048) y := by
  simp only [right, V, hostOps0]
  after_reads_at

end Cert.DwConvIdeal.Value

end
-- ==== Proof.DhConvIdeal.Product.lean ====
/- The gradient of the first pointwise convolution's input: the output's gradient times the transposed weights, entry by entry. -/
module

public import proofs.«01_k».proof.Proof.Types
public import proofs.«01_k».proof.Proof.Gen.DhConvIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

set_option maxRecDepth 16384

noncomputable section

namespace Cert.DhConvIdeal.Value

open Idealize.ShloMosaic Idealize.ShloMosaic.TcCoe Idealize.ShloMosaic.Tactic
open Cert.DhConvIdeal.Gen

/-- One chunk of 256 columns: products of rows with rows; -/
theorem chunk (b : BF16 S256x2048) (a : BF16 S1024x2048) (r : Fin 1024) (j : Fin 256) :
    (k0_pay1 b a (ix2 r j) : EReal) = ∑ k : Fin 2048, (a (ix2 r k) : EReal) * b (ix2 j k) := by
  pointwise [k0_pay1]

/-- read off the operands' blocks it is the product's columns there. -/
theorem columns (a b : BF16 S1024x2048) (n : ℕ) (inb inb' inbo) (x : S1024x256.Idx) :
    (k0_pay1 (View.ld b (Rect.unit (s := S1024x2048) ![n, 0] S256x2048.size inb))
      (View.ld a (Rect.unit (s := S1024x2048) ![0, 0] S1024x2048.size inb')) x : EReal) =
    Mlp.nt a b ((Rect.unit (s := S1024x1024) ![0, n] S1024x256.size inbo).emb x) := by
  rw [ValueIdx.eq_ix2 x]
  exact (chunk _ _ (x 0) (x 1)).trans (Mlp.nt_columns a b inb inb' inbo (ix2 (x 0) (x 1)))

theorem out_eq (a b : BF16 S1024x2048) : out0_2 a b = Mlp.nt a b :=
  Mlp.canon_of_blocks (S := S1024x1024) _ _
    ⟨columns a b 768 _ _ inb_S1024x1024_S1024x256_0_768, columns a b 512 _ _ inb_S1024x1024_S1024x256_0_512,
      columns a b 256 _ _ inb_S1024x1024_S1024x256_0_256, columns a b 0 _ _ inb_S1024x1024_S1024x256_0_0, trivial⟩ (cover0_2 _ _ _ _)

variable (m : (ℓ : Loc nD τ sig) → Buf (Elt Ideal) ℓ)

/-- The gradient and the weights, as the region finds them, -/
abbrev left (c : Dev nD) : BF16 S8192x2048 := V m c main_v0
abbrev right (c : Dev nD) : BF16 S1024x2048 := V m c main_v1

/-- and the array of results. -/
def result (c : Dev nD) : F32 S8192x1024 := Mlp.nt (left m c) (right m c)

/-- Where each window's block lies. -/
theorem at0 (t : Fin cfg0.N) : win0_0.index t 0 = t.val ∧ win0_0.index t 1 = 0 := by
  revert t; decide +kernel
theorem at1 (t : Fin cfg0.N) : win0_1.index t 0 = 0 ∧ win0_1.index t 1 = 0 := by
  revert t; decide +kernel
theorem at2 (t : Fin cfg0.N) : win0_2.index t 0 = t.val ∧ win0_2.index t 1 = 0 := by
  revert t; decide +kernel

def row (t : Fin cfg0.N) (r : Fin 1024) : Fin 8192 := ⟨t.val * 1024 + r.val, by have h : t.val < 8 := lt_of_lt_of_eq t.isLt N_0; omega⟩

theorem blk0 (c : Dev nD) (t : Fin cfg0.N) (r : Fin 1024) (k : Fin 2048) :
    (iblk m c 0 t : BF16 S1024x2048) (ix2 r k) = left m c (ix2 (row t r) k) := by
  unfold iblk
  rw [View.read_apply]
  show left m c _ = left m c _
  exact congrArg _ (Mlp.ext2 (Mlp.at_block (at0 t).1)
    (Mlp.at_start (at0 t).2))

theorem blk1 (c : Dev nD) (t : Fin cfg0.N) (j : Fin 1024) (k : Fin 2048) :
    (iblk m c 1 t : BF16 S1024x2048) (ix2 j k) = right m c (ix2 j k) := by
  unfold iblk
  rw [View.read_apply]
  show right m c _ = right m c _
  exact congrArg _ (Mlp.ext2 (Mlp.at_start (at1 t).1)
    (Mlp.at_start (at1 t).2))

theorem emb2 (t : Fin cfg0.N) (r j : Fin 1024) :
    ((cfg0.win 2).blk t).view.emb (ix2 r j) = (ix2 (row t r) j : S8192x1024.Idx) :=
  Mlp.ext2 (Mlp.at_block (at2 t).1)
    (Mlp.at_start (at2 t).2)

/-- What each point writes back is the results' block there. -/
theorem flushed (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2, out_eq]
  have key : ∀ y : S1024x1024.Idx, Mlp.nt (iblk m c 0 t : BF16 S1024x2048) (iblk m c 1 t : BF16 S1024x2048) y =
      result m c (((cfg0.win 2).blk t).view.emb y) := fun y => by
    rw [ValueIdx.eq_ix2 y]
    refine Eq.trans ?_ (congrArg (result m c) (emb2 t (y 0) (y 1))).symm
    unfold result Mlp.nt
    exact Finset.sum_congr rfl fun k _ => congrArg₂ (· * ·) (blk0 m c t (y 0) k) (blk1 m c t (y 1) k)
  exact funext key

/-- The array ends at the results. -/
theorem final (c : Dev nD) : (dats m 0 c).arrAt 2 cfg0.N = result m c :=
  (dats m 0 c).arrAt_eq_of_cover 2 (result m c) (fun t _ => flushed m c t) fun y => by
    have h0 : (y 0 : Nat) < 8192 := (y 0).isLt
    have h1 : (y 1 : Nat) < 1024 := (y 1).isLt
    have hN : cfg0.N = 8 := N_0
    refine ⟨⟨(y 0 : Nat) / 1024, by omega⟩, flush0_2 _, ?_⟩
    generalize ht : (⟨(y 0 : Nat) / 1024, by omega⟩ : Fin cfg0.N) = t
    have hv : t.val = (y 0 : Nat) / 1024 := by rw [← ht]
    show y ∈ ((View.whole main_v2).slice (win0_2.rect t)).set
    rw [View.set_slice_whole, Rect.mem_set_unit]
    intro a
    match a with
    | ⟨0, _⟩ => exact Mlp.within 1024 (y 0).val (at2 t).1 (by omega)
    | ⟨1, _⟩ => exact Mlp.within 1024 (y 1).val (at2 t).2 (by omega)

/-- Casting to the narrower format changes no real. -/
theorem left_eq (c : Dev nD) (y : S8192x2048.Idx) : (left m c y : EReal) = (m (c, Proc.devRef .tc main_arg2) : F32 S8192x2048) y := by
  simp only [left, V, hostOps0]
  after_reads_at
theorem right_eq (c : Dev nD) (y : S1024x2048.Idx) : (right m c y : EReal) = (m (c, Proc.devRef .tc main_arg1) : F32 S1024x2048) y := by
  simp only [right, V, hostOps0]
  after_reads_at

end Cert.DhConvIdeal.Value

end
-- ==== Proof.Mlp.Projections.lean ====
/- The gradients through the attention's and the convolution's projections are the reference's: the products' orders of factors, and the
   zero columns the operands are padded with. -/
module

public import proofs.«01_k».proof.Proof.Gen.ReferenceDwSquareIdeal.Read
public import proofs.«01_k».proof.Proof.Gen.ReferenceDxSquareIdeal.Read
public import proofs.«01_k».proof.Proof.Gen.ReferenceDwInIdeal.Read
public import proofs.«01_k».proof.Proof.Gen.ReferenceDhInIdeal.Read
public import proofs.«01_k».proof.Proof.Gen.ReferenceDwConvIdeal.Read
public import proofs.«01_k».proof.Proof.Gen.ReferenceDhConvIdeal.Read
public import proofs.«01_k».proof.Defs
public import proofs.«01_k».proof.Proof.DwSquareIdeal.Product
public import proofs.«01_k».proof.Proof.DxSquareIdeal.Product
public import proofs.«01_k».proof.Proof.DwInIdeal.Product
public import proofs.«01_k».proof.Proof.DhInIdeal.Product
public import proofs.«01_k».proof.Proof.DwConvIdeal.Product
public import proofs.«01_k».proof.Proof.DhConvIdeal.Product

@[expose] public section

noncomputable section

namespace Cert.Mlp

open Idealize.ShloMosaic Idealize.SL.Sem

section dw_square
open Cert.DwSquareIdeal
variable (m : (ℓ : Loc nD τ sig) → Buf (Elt Ideal) ℓ) (c : Dev nD)

theorem dw_square_ref : Value.result m c =
    ReferenceDwSquareIdeal.Read.val_main_v2 (m (c, Proc.devRef .tc main_arg0)) (m (c, Proc.devRef .tc main_arg2)) := by
  refine funext fun (y : S1024x1024.Idx) => ?_
  refine Eq.trans ?_ ((ReferenceDwSquareIdeal.Read.val_main_v2_apply _ _ y).trans (ReferenceDwSquareIdeal.Read.val_main_v1_apply _ _ _)).symm
  unfold Value.result Mlp.tn
  exact Finset.sum_congr rfl fun k _ => (mul_comm _ _).trans (congrArg₂ (· * ·)
    ((Value.right_eq m c _).trans (congrArg _ (ext2 rfl rfl))) ((Value.left_eq m c _).trans (congrArg _ (ext2 rfl rfl))))
end dw_square

section dx_square
open Cert.DxSquareIdeal
variable (m : (ℓ : Loc nD τ sig) → Buf (Elt Ideal) ℓ) (c : Dev nD)

theorem dx_square_ref : Value.result m c =
    ReferenceDxSquareIdeal.Read.val_main_v1 (m (c, Proc.devRef .tc main_arg1)) (m (c, Proc.devRef .tc main_arg2)) := by
  refine funext fun (y : S8192x1024.Idx) => ?_
  refine Eq.trans ?_ (ReferenceDxSquareIdeal.Read.val_main_v1_apply _ _ y).symm
  unfold Value.result Mlp.nt
  exact Finset.sum_congr rfl fun k _ => congrArg₂ (· * ·)
    ((Value.left_eq m c _).trans (congrArg _ (ext2 rfl rfl))) ((Value.right_eq m c _).trans (congrArg _ (ext2 rfl rfl)))
end dx_square

section dh_conv
open Cert.DhConvIdeal
variable (m : (ℓ : Loc nD τ sig) → Buf (Elt Ideal) ℓ) (c : Dev nD)

theorem dh_conv_ref : Value.result m c =
    ReferenceDhConvIdeal.Read.val_main_v1 (m (c, Proc.devRef .tc main_arg1)) (m (c, Proc.devRef .tc main_arg2)) := by
  refine funext fun (y : S8192x1024.Idx) => ?_
  refine Eq.trans ?_ (ReferenceDhConvIdeal.Read.val_main_v1_apply _ _ y).symm
  unfold Value.result Mlp.nt
  exact Finset.sum_congr rfl fun k _ => congrArg₂ (· * ·)
    ((Value.left_eq m c _).trans (congrArg _ (ext2 rfl rfl))) ((Value.right_eq m c _).trans (congrArg _ (ext2 rfl rfl)))
end dh_conv

section dh_in
open Cert.DhInIdeal
variable (m : (ℓ : Loc nD τ sig) → Buf (Elt Ideal) ℓ) (c : Dev nD)

theorem dh_in_ref : Value.result m c =
    ReferenceDhInIdeal.Read.val_main_v1 (m (c, Proc.devRef .tc main_arg1)) (m (c, Proc.devRef .tc main_arg2)) := by
  refine funext fun (y : S8192x1024.Idx) => ?_
  refine (Value.result_eq m c y).trans (Eq.trans ?_ (ReferenceDhInIdeal.Read.val_main_v1_apply _ _ y).symm)
  exact Finset.sum_congr rfl fun k _ => congrArg₂ (· * ·)
    (congrArg (Value.grad m c) (ext2 rfl rfl)) (congrArg (Value.weight m c) (ext2 rfl rfl))
end dh_in

section dw_conv
open Cert.DwConvIdeal
variable (m : (ℓ : Loc nD τ sig) → Buf (Elt Ideal) ℓ) (c : Dev nD)

theorem dw_conv_ref : Value.result m c =
    ReferenceDwConvIdeal.Read.val_main_v4 (m (c, Proc.devRef .tc main_arg0)) (m (c, Proc.devRef .tc main_arg2)) := by
  refine funext fun (y : S4x1024x512.Idx) => ?_
  have b0 : (y 0 : Nat) < 4 := (y 0).isLt
  have b1 : (y 1 : Nat) < 1024 := (y 1).isLt
  have b2 : (y 2 : Nat) < 512 := (y 2).isLt
  refine Eq.trans ?_ ((ReferenceDwConvIdeal.Read.val_main_v4_apply _ _ y).trans ((ReferenceDwConvIdeal.Read.val_main_v3_apply _ _ _).trans
    ((ReferenceDwConvIdeal.Read.val_main_v2_apply _ _ _).trans (ReferenceDwConvIdeal.Read.val_main_v1_apply _ _ _)))).symm
  unfold Value.result Mlp.tn
  refine Finset.sum_congr rfl fun k _ => (mul_comm _ _).trans (congrArg₂ (· * ·) ?_ ?_)
  · refine (Value.right_eq m c _).trans (congrArg _ (ext2 rfl (by
      show (y 0 : Nat) * 512 + (y 2 : Nat) = (((y 1 : Nat) * 4 + (y 0 : Nat)) * 512 + (y 2 : Nat)) % 2048; omega)))
  · refine (Value.left_eq m c _).trans (congrArg _ (ext2 rfl (by
      show (y 1 : Nat) = (((y 1 : Nat) * 4 + (y 0 : Nat)) * 512 + (y 2 : Nat)) / 2048; omega)))
end dw_conv

section dw_in
open Cert.DwInIdeal
variable (m : (ℓ : Loc nD τ sig) → Buf (Elt Ideal) ℓ) (c : Dev nD)

theorem dw_in_ref : Value.shares m c =
    ReferenceDwInIdeal.Read.val_main_v4 (m (c, Proc.devRef .tc main_arg0)) (m (c, Proc.devRef .tc main_arg2)) := by
  refine funext fun (y : S4x1024x772.Idx) => ?_
  have b0 : (y 0 : Nat) < 4 := (y 0).isLt
  have b1 : (y 1 : Nat) < 1024 := (y 1).isLt
  have b2 : (y 2 : Nat) < 772 := (y 2).isLt
  refine Eq.trans ?_ ((ReferenceDwInIdeal.Read.val_main_v4_apply _ _ y).trans ((ReferenceDwInIdeal.Read.val_main_v3_apply _ _ _).trans
    ((ReferenceDwInIdeal.Read.val_main_v2_apply _ _ _).trans (ReferenceDwInIdeal.Read.val_main_v1_apply _ _ _)))).symm
  unfold Value.shares Value.result Mlp.tn
  refine Finset.sum_congr rfl fun k _ => (mul_comm _ _).trans (congrArg₂ (· * ·) ?_ ?_)
  · refine (Value.right_eq m c _).trans ((dif_pos (show (y 0 : Nat) * 772 + (y 2 : Nat) < 3088 by omega)).trans (congrArg (Value.grad m c) (ext2 rfl (by
      show (y 0 : Nat) * 772 + (y 2 : Nat) = (((y 1 : Nat) * 4 + (y 0 : Nat)) * 772 + (y 2 : Nat)) % 3088; omega))))
  · refine (Value.left_eq m c _).trans (congrArg _ (ext2 rfl (by
      show (y 1 : Nat) = (((y 1 : Nat) * 4 + (y 0 : Nat)) * 772 + (y 2 : Nat)) / 3088; omega)))
end dw_in

end Cert.Mlp

end
-- ==== Proof.UpIdeal.Product.lean ====
/- The MLP's activation: the input times the first weights, rectified and squared, entry by entry. -/
module

public import proofs.«01_k».proof.Proof.Types
public import proofs.«01_k».proof.Proof.Gen.UpIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

noncomputable section

namespace Cert.UpIdeal.Value

open Idealize.ShloMosaic Idealize.ShloMosaic.TcCoe Idealize.ShloMosaic.Tactic
open Cert.UpIdeal.Gen

/-- One chunk of 256 columns: products of rows with columns, rectified and squared; -/
theorem chunk (b : BF16 S1024x256) (a : BF16 S2048x1024) (r : Fin 2048) (j : Fin 256) :
    (k0_pay1 b a (ix2 r j) : EReal) = max (∑ k : Fin 1024, (a (ix2 r k) : EReal) * b (ix2 k j)) 0 * max (∑ k : Fin 1024, (a (ix2 r k) : EReal) * b (ix2 k j)) 0 := by
  pointwise [k0_pay1]

/-- The block of results. -/
def block (a : BF16 S2048x1024) (b : BF16 S1024x1024) : BF16 S2048x1024 :=
  fun y => max (Mlp.nn a b y) 0 * max (Mlp.nn a b y) 0

/-- read off the operands' blocks it is the results' columns there. -/
theorem columns (a : BF16 S2048x1024) (b : BF16 S1024x1024) (n : ℕ) (inb inb' inbo) (x : S2048x256.Idx) :
    (k0_pay1 (View.ld b (Rect.unit (s := S1024x1024) ![0, n] S1024x256.size inb))
      (View.ld a (Rect.unit (s := S2048x1024) ![0, 0] S2048x1024.size inb')) x : EReal) =
    block a b ((Rect.unit (s := S2048x1024) ![0, n] S2048x256.size inbo).emb x) := by
  rw [ValueIdx.eq_ix2 x]
  refine (chunk _ _ (x 0) (x 1)).trans ?_
  unfold block
  exact congrArg (fun z : EReal => max z 0 * max z 0) (Mlp.nn_columns a b inb inb' inbo (ix2 (x 0) (x 1)))

theorem out_eq (a : BF16 S2048x1024) (b : BF16 S1024x1024) : out0_2 a b = block a b :=
  Mlp.canon_of_blocks (S := S2048x1024) (e := .bf16) _ _
    ⟨columns a b 768 _ _ inb_S2048x1024_S2048x256_0_768,
      columns a b 512 _ _ inb_S2048x1024_S2048x256_0_512,
      columns a b 256 _ _ inb_S2048x1024_S2048x256_0_256,
      columns a b 0 _ _ inb_S2048x1024_S2048x256_0_0, trivial⟩ (cover0_2 _ _ _ _)

variable (m : (ℓ : Loc nD τ sig) → Buf (Elt Ideal) ℓ)

/-- The operands, as the region finds them, -/
abbrev left (c : Dev nD) : BF16 S8192x1024 := V m c main_v0
abbrev right (c : Dev nD) : BF16 S1024x4096 := V m c main_v1

/-- and the array of results. -/
def result (c : Dev nD) : BF16 S8192x4096 := fun y => max (Mlp.nn (left m c) (right m c) y) 0 * max (Mlp.nn (left m c) (right m c) y) 0

/-- The point of row block `i` and column block `j`. -/
def pt (i j : Fin 4) : Fin cfg0.N := ⟨i.val * 4 + j.val, by have hN : cfg0.N = 16 := N_0; omega⟩

theorem of_pt (t : Fin cfg0.N) : ∃ i j, t = pt i j := by
  have ht : t.val < 16 := lt_of_lt_of_eq t.isLt N_0
  exact ⟨⟨t.val / 4, by omega⟩, ⟨t.val % 4, by omega⟩, Fin.ext (by show t.val = t.val / 4 * 4 + t.val % 4; omega)⟩

def row (i : Fin 4) (r : Fin 2048) : Fin 8192 := ⟨i.val * 2048 + r.val, by omega⟩
def col (j : Fin 4) (s : Fin 1024) : Fin 4096 := ⟨j.val * 1024 + s.val, by omega⟩

/-- Where each window's block lies. -/
theorem at0 (i j : Fin 4) : win0_0.index (pt i j) 0 = i.val ∧ win0_0.index (pt i j) 1 = 0 := by
  revert i j; decide +kernel
theorem at1 (i j : Fin 4) : win0_1.index (pt i j) 0 = 0 ∧ win0_1.index (pt i j) 1 = j.val := by
  revert i j; decide +kernel
theorem at2 (i j : Fin 4) : win0_2.index (pt i j) 0 = i.val ∧ win0_2.index (pt i j) 1 = j.val := by
  revert i j; decide +kernel

theorem blk0 (c : Dev nD) (i j : Fin 4) (r : Fin 2048) (k : Fin 1024) :
    (iblk m c 0 (pt i j) : BF16 S2048x1024) (ix2 r k) = left m c (ix2 (row i r) k) := by
  unfold iblk
  rw [View.read_apply]
  show left m c _ = left m c _
  exact congrArg _ (Mlp.ext2 (Mlp.at_block (at0 i j).1)
    (Mlp.at_start (at0 i j).2))

theorem blk1 (c : Dev nD) (i j : Fin 4) (k s : Fin 1024) :
    (iblk m c 1 (pt i j) : BF16 S1024x1024) (ix2 k s) = right m c (ix2 k (col j s)) := by
  unfold iblk
  rw [View.read_apply]
  show right m c _ = right m c _
  exact congrArg _ (Mlp.ext2 (Mlp.at_start (at1 i j).1)
    (Mlp.at_block (at1 i j).2))

theorem emb2 (i j : Fin 4) (r : Fin 2048) (s : Fin 1024) :
    ((cfg0.win 2).blk (pt i j)).view.emb (ix2 r s) = (ix2 (row i r) (col j s) : S8192x4096.Idx) :=
  Mlp.ext2 (Mlp.at_block (at2 i j).1)
    (Mlp.at_block (at2 i j).2)

/-- What each point writes back is the results' block there. -/
theorem flushed (c : Dev nD) (i j : Fin 4) :
    (dats m 0 c).flushed 2 (pt i j) = ((cfg0.win 2).blk (pt i j)).view.read (Elt Ideal) (result m c) := by
  show (cfg0.win 2).cut (grid0.coords (pt i j)) ((dats m 0 c).after 2 (pt i j)) = _
  rw [after0_2, out_eq]
  have key : ∀ y : S2048x1024.Idx, block (iblk m c 0 (pt i j)) (iblk m c 1 (pt i j)) y =
      result m c (((cfg0.win 2).blk (pt i j)).view.emb y) := fun y => by
    rw [ValueIdx.eq_ix2 y]
    refine Eq.trans ?_ (congrArg (result m c) (emb2 i j (y 0) (y 1))).symm
    have h : Mlp.nn (iblk m c 0 (pt i j) : BF16 S2048x1024) (iblk m c 1 (pt i j) : BF16 S1024x1024) (ix2 (y 0) (y 1)) =
        Mlp.nn (left m c) (right m c) (ix2 (row i (y 0)) (col j (y 1))) :=
      Finset.sum_congr rfl fun k _ => congrArg₂ (· * ·) (blk0 m c i j (y 0) k) (blk1 m c i j k (y 1))
    exact congrArg (fun z : EReal => max z 0 * max z 0) h
  exact funext key

/-- The array ends at the results. -/
theorem final (c : Dev nD) : (dats m 0 c).arrAt 2 cfg0.N = result m c :=
  (dats m 0 c).arrAt_eq_of_cover 2 (result m c) (fun t _ => by obtain ⟨i, j, rfl⟩ := of_pt t; exact flushed m c i j) fun y => by
    have h0 : (y 0 : Nat) < 8192 := (y 0).isLt
    have h1 : (y 1 : Nat) < 4096 := (y 1).isLt
    generalize hi : (⟨(y 0 : Nat) / 2048, by omega⟩ : Fin 4) = i
    generalize hj : (⟨(y 1 : Nat) / 1024, by omega⟩ : Fin 4) = j
    have hi : i.val = (y 0 : Nat) / 2048 := by rw [← hi]
    have hj : j.val = (y 1 : Nat) / 1024 := by rw [← hj]
    refine ⟨pt i j, flush0_2 _, ?_⟩
    show y ∈ ((View.whole main_v2).slice (win0_2.rect (pt i j))).set
    rw [View.set_slice_whole, Rect.mem_set_unit]
    intro a
    match a with
    | ⟨0, _⟩ => exact Mlp.within 2048 (y 0).val (at2 i j).1 (by omega)
    | ⟨1, _⟩ => exact Mlp.within 1024 (y 1).val (at2 i j).2 (by omega)

/-- Casting to the narrower format changes no real. -/
theorem left_eq (c : Dev nD) (y : S8192x1024.Idx) : (left m c y : EReal) = (m (c, Proc.devRef .tc main_arg0) : F32 S8192x1024) y := by
  simp only [left, V, V0, hostOps0]
  after_reads_at
theorem right_eq (c : Dev nD) (y : S1024x4096.Idx) : (right m c y : EReal) = (m (c, Proc.devRef .tc main_arg1) : F32 S1024x4096) y := by
  simp only [right, V, V0, hostOps0]
  after_reads_at

/-- The results in the wider format. -/
def results (c : Dev nD) : F32 S8192x4096 := fun y => (result m c y : EReal)

theorem tail_reads (U : Valuation τ sig (Elt Ideal)) (y : S8192x4096.Idx) :
    (StableHlo.after (List.flatten [hostOps1]) U (Proc.devRef .tc main_v3) y : EReal) = (U (Proc.devRef .tc main_v2) : BF16 S8192x4096) y := by
  simp only [hostOps1, List.flatten_cons, List.flatten_nil, List.append_nil]
  after_reads_at

theorem results_eq (c : Dev nD) : Pipeline.afterTail₀ cfgs (dats m) 0 (V0 m) [hostOps1] c main_v3 = results m c := by
  refine funext fun (y : S8192x4096.Idx) => ?_
  refine (tail_reads _ y).trans ?_
  exact congrFun ((Pipeline.withArrays_arr spec0 (by decide) c (V0 m c) (fun w => (dats m 0 c).arrAt w cfg0.N) 2).trans (final m c)) y

end Cert.UpIdeal.Value

end
-- ==== Proof.DownIdeal.Product.lean ====
/- The MLP's result: the activation times the second weights, entry by entry. -/
module

public import proofs.«01_k».proof.Proof.Types
public import proofs.«01_k».proof.Proof.Gen.DownIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

set_option maxRecDepth 16384

noncomputable section

namespace Cert.DownIdeal.Value

open Idealize.ShloMosaic Idealize.ShloMosaic.TcCoe Idealize.ShloMosaic.Tactic
open Cert.DownIdeal.Gen

/-- One chunk of 256 columns: products of rows with columns; -/
theorem chunk (b : BF16 S4096x256) (a : BF16 S1024x4096) (r : Fin 1024) (j : Fin 256) :
    (k0_pay1 b a (ix2 r j) : EReal) = ∑ k : Fin 4096, (a (ix2 r k) : EReal) * b (ix2 k j) := by
  pointwise [k0_pay1]

/-- The block of results. -/
def block (a : BF16 S1024x4096) (b : BF16 S4096x1024) : F32 S1024x1024 :=
  fun y => Mlp.nn a b y

/-- read off the operands' blocks it is the results' columns there. -/
theorem columns (a : BF16 S1024x4096) (b : BF16 S4096x1024) (n : ℕ) (inb inb' inbo) (x : S1024x256.Idx) :
    (k0_pay1 (View.ld b (Rect.unit (s := S4096x1024) ![0, n] S4096x256.size inb))
      (View.ld a (Rect.unit (s := S1024x4096) ![0, 0] S1024x4096.size inb')) x : EReal) =
    block a b ((Rect.unit (s := S1024x1024) ![0, n] S1024x256.size inbo).emb x) := by
  rw [ValueIdx.eq_ix2 x]
  refine (chunk _ _ (x 0) (x 1)).trans ?_
  unfold block
  exact Mlp.nn_columns a b inb inb' inbo (ix2 (x 0) (x 1))

theorem out_eq (a : BF16 S1024x4096) (b : BF16 S4096x1024) : out0_2 a b = block a b :=
  Mlp.canon_of_blocks (S := S1024x1024) _ _
    ⟨columns a b 768 _ _ inb_S1024x1024_S1024x256_0_768,
      columns a b 512 _ _ inb_S1024x1024_S1024x256_0_512,
      columns a b 256 _ _ inb_S1024x1024_S1024x256_0_256,
      columns a b 0 _ _ inb_S1024x1024_S1024x256_0_0, trivial⟩ (cover0_2 _ _ _ _)

variable (m : (ℓ : Loc nD τ sig) → Buf (Elt Ideal) ℓ)

/-- The operands, as the region finds them, -/
abbrev left (c : Dev nD) : BF16 S8192x4096 := V m c main_v0
abbrev right (c : Dev nD) : BF16 S4096x1024 := V m c main_v1

/-- and the array of results. -/
def result (c : Dev nD) : F32 S8192x1024 := fun y => Mlp.nn (left m c) (right m c) y

/-- The point of row block `i` and column block `j`. -/
def pt (i : Fin 8) (j : Fin 1) : Fin cfg0.N := ⟨i.val * 1 + j.val, by have hN : cfg0.N = 8 := N_0; omega⟩

theorem of_pt (t : Fin cfg0.N) : ∃ i j, t = pt i j := by
  have ht : t.val < 8 := lt_of_lt_of_eq t.isLt N_0
  exact ⟨⟨t.val / 1, by omega⟩, ⟨t.val % 1, by omega⟩, Fin.ext (by show t.val = t.val / 1 * 1 + t.val % 1; omega)⟩

def row (i : Fin 8) (r : Fin 1024) : Fin 8192 := ⟨i.val * 1024 + r.val, by omega⟩
def col (j : Fin 1) (s : Fin 1024) : Fin 1024 := ⟨j.val * 1024 + s.val, by omega⟩

/-- Where each window's block lies. -/
theorem at0 (i : Fin 8) (j : Fin 1) : win0_0.index (pt i j) 0 = i.val ∧ win0_0.index (pt i j) 1 = 0 := by
  revert i j; decide +kernel
theorem at1 (i : Fin 8) (j : Fin 1) : win0_1.index (pt i j) 0 = 0 ∧ win0_1.index (pt i j) 1 = j.val := by
  revert i j; decide +kernel
theorem at2 (i : Fin 8) (j : Fin 1) : win0_2.index (pt i j) 0 = i.val ∧ win0_2.index (pt i j) 1 = j.val := by
  revert i j; decide +kernel

theorem blk0 (c : Dev nD) (i : Fin 8) (j : Fin 1) (r : Fin 1024) (k : Fin 4096) :
    (iblk m c 0 (pt i j) : BF16 S1024x4096) (ix2 r k) = left m c (ix2 (row i r) k) := by
  unfold iblk
  rw [View.read_apply]
  show left m c _ = left m c _
  exact congrArg _ (Mlp.ext2 (Mlp.at_block (at0 i j).1)
    (Mlp.at_start (at0 i j).2))

theorem blk1 (c : Dev nD) (i : Fin 8) (j : Fin 1) (k : Fin 4096) (s : Fin 1024) :
    (iblk m c 1 (pt i j) : BF16 S4096x1024) (ix2 k s) = right m c (ix2 k (col j s)) := by
  unfold iblk
  rw [View.read_apply]
  show right m c _ = right m c _
  exact congrArg _ (Mlp.ext2 (Mlp.at_start (at1 i j).1)
    (Mlp.at_block (at1 i j).2))

theorem emb2 (i : Fin 8) (j : Fin 1) (r s : Fin 1024) :
    ((cfg0.win 2).blk (pt i j)).view.emb (ix2 r s) = (ix2 (row i r) (col j s) : S8192x1024.Idx) :=
  Mlp.ext2 (Mlp.at_block (at2 i j).1)
    (Mlp.at_block (at2 i j).2)

/-- What each point writes back is the results' block there. -/
theorem flushed (c : Dev nD) (i : Fin 8) (j : Fin 1) :
    (dats m 0 c).flushed 2 (pt i j) = ((cfg0.win 2).blk (pt i j)).view.read (Elt Ideal) (result m c) := by
  show (cfg0.win 2).cut (grid0.coords (pt i j)) ((dats m 0 c).after 2 (pt i j)) = _
  rw [after0_2, out_eq]
  have key : ∀ y : S1024x1024.Idx, block (iblk m c 0 (pt i j)) (iblk m c 1 (pt i j)) y =
      result m c (((cfg0.win 2).blk (pt i j)).view.emb y) := fun y => by
    rw [ValueIdx.eq_ix2 y]
    refine Eq.trans ?_ (congrArg (result m c) (emb2 i j (y 0) (y 1))).symm
    have h : Mlp.nn (iblk m c 0 (pt i j) : BF16 S1024x4096) (iblk m c 1 (pt i j) : BF16 S4096x1024) (ix2 (y 0) (y 1)) =
        Mlp.nn (left m c) (right m c) (ix2 (row i (y 0)) (col j (y 1))) :=
      Finset.sum_congr rfl fun k _ => congrArg₂ (· * ·) (blk0 m c i j (y 0) k) (blk1 m c i j k (y 1))
    exact h
  exact funext key

/-- The array ends at the results. -/
theorem final (c : Dev nD) : (dats m 0 c).arrAt 2 cfg0.N = result m c :=
  (dats m 0 c).arrAt_eq_of_cover 2 (result m c) (fun t _ => by obtain ⟨i, j, rfl⟩ := of_pt t; exact flushed m c i j) fun y => by
    have h0 : (y 0 : Nat) < 8192 := (y 0).isLt
    have h1 : (y 1 : Nat) < 1024 := (y 1).isLt
    generalize hi : (⟨(y 0 : Nat) / 1024, by omega⟩ : Fin 8) = i
    generalize hj : (⟨(y 1 : Nat) / 1024, by omega⟩ : Fin 1) = j
    have hi : i.val = (y 0 : Nat) / 1024 := by rw [← hi]
    have hj : j.val = (y 1 : Nat) / 1024 := by rw [← hj]
    refine ⟨pt i j, flush0_2 _, ?_⟩
    show y ∈ ((View.whole main_v2).slice (win0_2.rect (pt i j))).set
    rw [View.set_slice_whole, Rect.mem_set_unit]
    intro a
    match a with
    | ⟨0, _⟩ => exact Mlp.within 1024 (y 0).val (at2 i j).1 (by omega)
    | ⟨1, _⟩ => exact Mlp.within 1024 (y 1).val (at2 i j).2 (by omega)

/-- Casting to the narrower format changes no real. -/
theorem left_eq (c : Dev nD) (y : S8192x4096.Idx) : (left m c y : EReal) = (m (c, Proc.devRef .tc main_arg0) : F32 S8192x4096) y := by
  simp only [left, V, hostOps0]
  after_reads_at
theorem right_eq (c : Dev nD) (y : S4096x1024.Idx) : (right m c y : EReal) = (m (c, Proc.devRef .tc main_arg1) : F32 S4096x1024) y := by
  simp only [right, V, hostOps0]
  after_reads_at

end Cert.DownIdeal.Value

end
-- ==== Proof.Pw1Ideal.Product.lean ====
/- The first pointwise convolution: the input times the weights, and the bias, entry by entry. -/
module

public import proofs.«01_k».proof.Proof.Types
public import proofs.«01_k».proof.Proof.Gen.Pw1Ideal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

noncomputable section

namespace Cert.Pw1Ideal.Value

open Idealize.ShloMosaic Idealize.ShloMosaic.TcCoe Idealize.ShloMosaic.Tactic
open Cert.Pw1Ideal.Gen

/-- One chunk of 256 columns: products of rows with columns, and the bias; -/
theorem chunk (b : BF16 S1024x256) (a : BF16 S2048x1024) (e : F32 S1x256) (r : Fin 2048) (j : Fin 256) :
    (k0_pay1 b a e (ix2 r j) : EReal) = (∑ k : Fin 1024, (a (ix2 r k) : EReal) * b (ix2 k j)) + e (ix2 (0 : Fin 1) j) := by
  pointwise [k0_pay1]

/-- The block of results. -/
def block (a : BF16 S2048x1024) (b : BF16 S1024x1024) (e : F32 S1x1024) : F32 S2048x1024 :=
  fun y => Mlp.nn a b y + (e (ix2 (0 : Fin 1) (y 1)) : EReal)

/-- read off the operands' blocks it is the results' columns there. -/
theorem columns (a : BF16 S2048x1024) (b : BF16 S1024x1024) (e : F32 S1x1024) (n : ℕ) (inb inb' inbe inbo) (x : S2048x256.Idx) :
    (k0_pay1 (View.ld b (Rect.unit (s := S1024x1024) ![0, n] S1024x256.size inb))
      (View.ld a (Rect.unit (s := S2048x1024) ![0, 0] S2048x1024.size inb')) (View.ld e (Rect.unit (s := S1x1024) ![0, n] S1x256.size inbe)) x : EReal) =
    block a b e ((Rect.unit (s := S2048x1024) ![0, n] S2048x256.size inbo).emb x) := by
  rw [ValueIdx.eq_ix2 x]
  refine (chunk _ _ _ (x 0) (x 1)).trans ?_
  unfold block
  refine congrArg₂ (· + ·) (Mlp.nn_columns a b inb inb' inbo (ix2 (x 0) (x 1))) ?_
  show e _ = e _
  exact congrArg e (Mlp.ext2 rfl rfl)

theorem out_eq (a : BF16 S2048x1024) (b : BF16 S1024x1024) (e : F32 S1x1024) : out0_3 a b e = block a b e :=
  Mlp.canon_of_blocks (S := S2048x1024) _ _
    ⟨columns a b e 768 _ _ _ inb_S2048x1024_S2048x256_0_768,
      columns a b e 512 _ _ _ inb_S2048x1024_S2048x256_0_512,
      columns a b e 256 _ _ _ inb_S2048x1024_S2048x256_0_256,
      columns a b e 0 _ _ _ inb_S2048x1024_S2048x256_0_0, trivial⟩ (cover0_3 _ _ _ _)

variable (m : (ℓ : Loc nD τ sig) → Buf (Elt Ideal) ℓ)

/-- The operands, as the region finds them, -/
abbrev left (c : Dev nD) : BF16 S8192x1024 := V m c main_v0
abbrev right (c : Dev nD) : BF16 S1024x2048 := V m c main_v1
abbrev bias (c : Dev nD) : F32 S1x2048 := V m c main_arg2

/-- and the array of results. -/
def result (c : Dev nD) : F32 S8192x2048 := fun y => Mlp.nn (left m c) (right m c) y + (bias m c (ix2 (0 : Fin 1) (y 1)) : EReal)

/-- The point of row block `i` and column block `j`. -/
def pt (i : Fin 4) (j : Fin 2) : Fin cfg0.N := ⟨i.val * 2 + j.val, by have hN : cfg0.N = 8 := N_0; omega⟩

theorem of_pt (t : Fin cfg0.N) : ∃ i j, t = pt i j := by
  have ht : t.val < 8 := lt_of_lt_of_eq t.isLt N_0
  exact ⟨⟨t.val / 2, by omega⟩, ⟨t.val % 2, by omega⟩, Fin.ext (by show t.val = t.val / 2 * 2 + t.val % 2; omega)⟩

def row (i : Fin 4) (r : Fin 2048) : Fin 8192 := ⟨i.val * 2048 + r.val, by omega⟩
def col (j : Fin 2) (s : Fin 1024) : Fin 2048 := ⟨j.val * 1024 + s.val, by omega⟩

/-- Where each window's block lies. -/
theorem at0 (i : Fin 4) (j : Fin 2) : win0_0.index (pt i j) 0 = i.val ∧ win0_0.index (pt i j) 1 = 0 := by
  revert i j; decide +kernel
theorem at1 (i : Fin 4) (j : Fin 2) : win0_1.index (pt i j) 0 = 0 ∧ win0_1.index (pt i j) 1 = j.val := by
  revert i j; decide +kernel
theorem at2 (i : Fin 4) (j : Fin 2) : win0_2.index (pt i j) 0 = 0 ∧ win0_2.index (pt i j) 1 = j.val := by
  revert i j; decide +kernel
theorem at3 (i : Fin 4) (j : Fin 2) : win0_3.index (pt i j) 0 = i.val ∧ win0_3.index (pt i j) 1 = j.val := by
  revert i j; decide +kernel

theorem blk0 (c : Dev nD) (i : Fin 4) (j : Fin 2) (r : Fin 2048) (k : Fin 1024) :
    (iblk m c 0 (pt i j) : BF16 S2048x1024) (ix2 r k) = left m c (ix2 (row i r) k) := by
  unfold iblk
  rw [View.read_apply]
  show left m c _ = left m c _
  exact congrArg _ (Mlp.ext2 (Mlp.at_block (at0 i j).1)
    (Mlp.at_start (at0 i j).2))

theorem blk1 (c : Dev nD) (i : Fin 4) (j : Fin 2) (k s : Fin 1024) :
    (iblk m c 1 (pt i j) : BF16 S1024x1024) (ix2 k s) = right m c (ix2 k (col j s)) := by
  unfold iblk
  rw [View.read_apply]
  show right m c _ = right m c _
  exact congrArg _ (Mlp.ext2 (Mlp.at_start (at1 i j).1)
    (Mlp.at_block (at1 i j).2))

theorem blk2 (c : Dev nD) (i : Fin 4) (j : Fin 2) (s : Fin 1024) :
    (iblk m c 2 (pt i j) : F32 S1x1024) (ix2 (0 : Fin 1) s) = bias m c (ix2 (0 : Fin 1) (col j s)) := by
  unfold iblk
  rw [View.read_apply]
  show bias m c _ = bias m c _
  exact congrArg _ (Mlp.ext2 (Mlp.at_start (at2 i j).1)
    (Mlp.at_block (at2 i j).2))

theorem emb3 (i : Fin 4) (j : Fin 2) (r : Fin 2048) (s : Fin 1024) :
    ((cfg0.win 3).blk (pt i j)).view.emb (ix2 r s) = (ix2 (row i r) (col j s) : S8192x2048.Idx) :=
  Mlp.ext2 (Mlp.at_block (at3 i j).1)
    (Mlp.at_block (at3 i j).2)

/-- What each point writes back is the results' block there. -/
theorem flushed (c : Dev nD) (i : Fin 4) (j : Fin 2) :
    (dats m 0 c).flushed 3 (pt i j) = ((cfg0.win 3).blk (pt i j)).view.read (Elt Ideal) (result m c) := by
  show (cfg0.win 3).cut (grid0.coords (pt i j)) ((dats m 0 c).after 3 (pt i j)) = _
  rw [after0_3, out_eq]
  have key : ∀ y : S2048x1024.Idx, block (iblk m c 0 (pt i j)) (iblk m c 1 (pt i j)) (iblk m c 2 (pt i j)) y =
      result m c (((cfg0.win 3).blk (pt i j)).view.emb y) := fun y => by
    rw [ValueIdx.eq_ix2 y]
    refine Eq.trans ?_ (congrArg (result m c) (emb3 i j (y 0) (y 1))).symm
    have h : Mlp.nn (iblk m c 0 (pt i j) : BF16 S2048x1024) (iblk m c 1 (pt i j) : BF16 S1024x1024) (ix2 (y 0) (y 1)) =
        Mlp.nn (left m c) (right m c) (ix2 (row i (y 0)) (col j (y 1))) :=
      Finset.sum_congr rfl fun k _ => congrArg₂ (· * ·) (blk0 m c i j (y 0) k) (blk1 m c i j k (y 1))
    exact congrArg₂ (· + ·) h (blk2 m c i j (y 1))
  exact funext key

/-- The array ends at the results. -/
theorem final (c : Dev nD) : (dats m 0 c).arrAt 3 cfg0.N = result m c :=
  (dats m 0 c).arrAt_eq_of_cover 3 (result m c) (fun t _ => by obtain ⟨i, j, rfl⟩ := of_pt t; exact flushed m c i j) fun y => by
    have h0 : (y 0 : Nat) < 8192 := (y 0).isLt
    have h1 : (y 1 : Nat) < 2048 := (y 1).isLt
    generalize hi : (⟨(y 0 : Nat) / 2048, by omega⟩ : Fin 4) = i
    generalize hj : (⟨(y 1 : Nat) / 1024, by omega⟩ : Fin 2) = j
    have hi : i.val = (y 0 : Nat) / 2048 := by rw [← hi]
    have hj : j.val = (y 1 : Nat) / 1024 := by rw [← hj]
    refine ⟨pt i j, flush0_3 _, ?_⟩
    show y ∈ ((View.whole main_v2).slice (win0_3.rect (pt i j))).set
    rw [View.set_slice_whole, Rect.mem_set_unit]
    intro a
    match a with
    | ⟨0, _⟩ => exact Mlp.within 2048 (y 0).val (at3 i j).1 (by omega)
    | ⟨1, _⟩ => exact Mlp.within 1024 (y 1).val (at3 i j).2 (by omega)

/-- Casting to the narrower format changes no real. -/
theorem left_eq (c : Dev nD) (y : S8192x1024.Idx) : (left m c y : EReal) = (m (c, Proc.devRef .tc main_arg0) : F32 S8192x1024) y := by
  simp only [left, V, hostOps0]
  after_reads_at
theorem right_eq (c : Dev nD) (y : S1024x2048.Idx) : (right m c y : EReal) = (m (c, Proc.devRef .tc main_arg1) : F32 S1024x2048) y := by
  simp only [right, V, hostOps0]
  after_reads_at
theorem bias_eq (c : Dev nD) (y : S1x2048.Idx) : (bias m c y : EReal) = (m (c, Proc.devRef .tc main_arg2) : F32 S1x2048) y := by
  simp only [bias, V, hostOps0]
  after_reads_at

end Cert.Pw1Ideal.Value

end
-- ==== Proof.Pw2Ideal.Product.lean ====
/- The second pointwise convolution: the input times the weights, and the bias, entry by entry. -/
module

public import proofs.«01_k».proof.Proof.Types
public import proofs.«01_k».proof.Proof.Gen.Pw2Ideal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

noncomputable section

namespace Cert.Pw2Ideal.Value

open Idealize.ShloMosaic Idealize.ShloMosaic.TcCoe Idealize.ShloMosaic.Tactic
open Cert.Pw2Ideal.Gen

/-- One chunk of 256 columns: products of rows with columns, and the bias; -/
theorem chunk (b : BF16 S1024x256) (a : BF16 S2048x1024) (e : F32 S1x256) (r : Fin 2048) (j : Fin 256) :
    (k0_pay1 b a e (ix2 r j) : EReal) = (∑ k : Fin 1024, (a (ix2 r k) : EReal) * b (ix2 k j)) + e (ix2 (0 : Fin 1) j) := by
  pointwise [k0_pay1]

/-- The block of results. -/
def block (a : BF16 S2048x1024) (b : BF16 S1024x1024) (e : F32 S1x1024) : F32 S2048x1024 :=
  fun y => Mlp.nn a b y + (e (ix2 (0 : Fin 1) (y 1)) : EReal)

/-- read off the operands' blocks it is the results' columns there. -/
theorem columns (a : BF16 S2048x1024) (b : BF16 S1024x1024) (e : F32 S1x1024) (n : ℕ) (inb inb' inbe inbo) (x : S2048x256.Idx) :
    (k0_pay1 (View.ld b (Rect.unit (s := S1024x1024) ![0, n] S1024x256.size inb))
      (View.ld a (Rect.unit (s := S2048x1024) ![0, 0] S2048x1024.size inb')) (View.ld e (Rect.unit (s := S1x1024) ![0, n] S1x256.size inbe)) x : EReal) =
    block a b e ((Rect.unit (s := S2048x1024) ![0, n] S2048x256.size inbo).emb x) := by
  rw [ValueIdx.eq_ix2 x]
  refine (chunk _ _ _ (x 0) (x 1)).trans ?_
  unfold block
  refine congrArg₂ (· + ·) (Mlp.nn_columns a b inb inb' inbo (ix2 (x 0) (x 1))) ?_
  show e _ = e _
  exact congrArg e (Mlp.ext2 rfl rfl)

theorem out_eq (a : BF16 S2048x1024) (b : BF16 S1024x1024) (e : F32 S1x1024) : out0_3 a b e = block a b e :=
  Mlp.canon_of_blocks (S := S2048x1024) _ _
    ⟨columns a b e 768 _ _ _ inb_S2048x1024_S2048x256_0_768,
      columns a b e 512 _ _ _ inb_S2048x1024_S2048x256_0_512,
      columns a b e 256 _ _ _ inb_S2048x1024_S2048x256_0_256,
      columns a b e 0 _ _ _ inb_S2048x1024_S2048x256_0_0, trivial⟩ (cover0_3 _ _ _ _)

variable (m : (ℓ : Loc nD τ sig) → Buf (Elt Ideal) ℓ)

/-- The operands, as the region finds them, -/
abbrev left (c : Dev nD) : BF16 S8192x1024 := V m c main_v0
abbrev right (c : Dev nD) : BF16 S1024x1024 := V m c main_v1
abbrev bias (c : Dev nD) : F32 S1x1024 := V m c main_arg2

/-- and the array of results. -/
def result (c : Dev nD) : F32 S8192x1024 := fun y => Mlp.nn (left m c) (right m c) y + (bias m c (ix2 (0 : Fin 1) (y 1)) : EReal)

/-- The point of row block `i` and column block `j`. -/
def pt (i : Fin 4) (j : Fin 1) : Fin cfg0.N := ⟨i.val * 1 + j.val, by have hN : cfg0.N = 4 := N_0; omega⟩

theorem of_pt (t : Fin cfg0.N) : ∃ i j, t = pt i j := by
  have ht : t.val < 4 := lt_of_lt_of_eq t.isLt N_0
  exact ⟨⟨t.val / 1, by omega⟩, ⟨t.val % 1, by omega⟩, Fin.ext (by show t.val = t.val / 1 * 1 + t.val % 1; omega)⟩

def row (i : Fin 4) (r : Fin 2048) : Fin 8192 := ⟨i.val * 2048 + r.val, by omega⟩
def col (j : Fin 1) (s : Fin 1024) : Fin 1024 := ⟨j.val * 1024 + s.val, by omega⟩

/-- Where each window's block lies. -/
theorem at0 (i : Fin 4) (j : Fin 1) : win0_0.index (pt i j) 0 = i.val ∧ win0_0.index (pt i j) 1 = 0 := by
  revert i j; decide +kernel
theorem at1 (i : Fin 4) (j : Fin 1) : win0_1.index (pt i j) 0 = 0 ∧ win0_1.index (pt i j) 1 = j.val := by
  revert i j; decide +kernel
theorem at2 (i : Fin 4) (j : Fin 1) : win0_2.index (pt i j) 0 = 0 ∧ win0_2.index (pt i j) 1 = j.val := by
  revert i j; decide +kernel
theorem at3 (i : Fin 4) (j : Fin 1) : win0_3.index (pt i j) 0 = i.val ∧ win0_3.index (pt i j) 1 = j.val := by
  revert i j; decide +kernel

theorem blk0 (c : Dev nD) (i : Fin 4) (j : Fin 1) (r : Fin 2048) (k : Fin 1024) :
    (iblk m c 0 (pt i j) : BF16 S2048x1024) (ix2 r k) = left m c (ix2 (row i r) k) := by
  unfold iblk
  rw [View.read_apply]
  show left m c _ = left m c _
  exact congrArg _ (Mlp.ext2 (Mlp.at_block (at0 i j).1)
    (Mlp.at_start (at0 i j).2))

theorem blk1 (c : Dev nD) (i : Fin 4) (j : Fin 1) (k s : Fin 1024) :
    (iblk m c 1 (pt i j) : BF16 S1024x1024) (ix2 k s) = right m c (ix2 k (col j s)) := by
  unfold iblk
  rw [View.read_apply]
  show right m c _ = right m c _
  exact congrArg _ (Mlp.ext2 (Mlp.at_start (at1 i j).1)
    (Mlp.at_block (at1 i j).2))

theorem blk2 (c : Dev nD) (i : Fin 4) (j : Fin 1) (s : Fin 1024) :
    (iblk m c 2 (pt i j) : F32 S1x1024) (ix2 (0 : Fin 1) s) = bias m c (ix2 (0 : Fin 1) (col j s)) := by
  unfold iblk
  rw [View.read_apply]
  show bias m c _ = bias m c _
  exact congrArg _ (Mlp.ext2 (Mlp.at_start (at2 i j).1)
    (Mlp.at_block (at2 i j).2))

theorem emb3 (i : Fin 4) (j : Fin 1) (r : Fin 2048) (s : Fin 1024) :
    ((cfg0.win 3).blk (pt i j)).view.emb (ix2 r s) = (ix2 (row i r) (col j s) : S8192x1024.Idx) :=
  Mlp.ext2 (Mlp.at_block (at3 i j).1)
    (Mlp.at_block (at3 i j).2)

/-- What each point writes back is the results' block there. -/
theorem flushed (c : Dev nD) (i : Fin 4) (j : Fin 1) :
    (dats m 0 c).flushed 3 (pt i j) = ((cfg0.win 3).blk (pt i j)).view.read (Elt Ideal) (result m c) := by
  show (cfg0.win 3).cut (grid0.coords (pt i j)) ((dats m 0 c).after 3 (pt i j)) = _
  rw [after0_3, out_eq]
  have key : ∀ y : S2048x1024.Idx, block (iblk m c 0 (pt i j)) (iblk m c 1 (pt i j)) (iblk m c 2 (pt i j)) y =
      result m c (((cfg0.win 3).blk (pt i j)).view.emb y) := fun y => by
    rw [ValueIdx.eq_ix2 y]
    refine Eq.trans ?_ (congrArg (result m c) (emb3 i j (y 0) (y 1))).symm
    have h : Mlp.nn (iblk m c 0 (pt i j) : BF16 S2048x1024) (iblk m c 1 (pt i j) : BF16 S1024x1024) (ix2 (y 0) (y 1)) =
        Mlp.nn (left m c) (right m c) (ix2 (row i (y 0)) (col j (y 1))) :=
      Finset.sum_congr rfl fun k _ => congrArg₂ (· * ·) (blk0 m c i j (y 0) k) (blk1 m c i j k (y 1))
    exact congrArg₂ (· + ·) h (blk2 m c i j (y 1))
  exact funext key

/-- The array ends at the results. -/
theorem final (c : Dev nD) : (dats m 0 c).arrAt 3 cfg0.N = result m c :=
  (dats m 0 c).arrAt_eq_of_cover 3 (result m c) (fun t _ => by obtain ⟨i, j, rfl⟩ := of_pt t; exact flushed m c i j) fun y => by
    have h0 : (y 0 : Nat) < 8192 := (y 0).isLt
    have h1 : (y 1 : Nat) < 1024 := (y 1).isLt
    generalize hi : (⟨(y 0 : Nat) / 2048, by omega⟩ : Fin 4) = i
    generalize hj : (⟨(y 1 : Nat) / 1024, by omega⟩ : Fin 1) = j
    have hi : i.val = (y 0 : Nat) / 2048 := by rw [← hi]
    have hj : j.val = (y 1 : Nat) / 1024 := by rw [← hj]
    refine ⟨pt i j, flush0_3 _, ?_⟩
    show y ∈ ((View.whole main_v2).slice (win0_3.rect (pt i j))).set
    rw [View.set_slice_whole, Rect.mem_set_unit]
    intro a
    match a with
    | ⟨0, _⟩ => exact Mlp.within 2048 (y 0).val (at3 i j).1 (by omega)
    | ⟨1, _⟩ => exact Mlp.within 1024 (y 1).val (at3 i j).2 (by omega)

/-- Casting to the narrower format changes no real. -/
theorem left_eq (c : Dev nD) (y : S8192x1024.Idx) : (left m c y : EReal) = (m (c, Proc.devRef .tc main_arg0) : F32 S8192x1024) y := by
  simp only [left, V, hostOps0]
  after_reads_at
theorem right_eq (c : Dev nD) (y : S1024x1024.Idx) : (right m c y : EReal) = (m (c, Proc.devRef .tc main_arg1) : F32 S1024x1024) y := by
  simp only [right, V, hostOps0]
  after_reads_at
theorem bias_eq (c : Dev nD) (y : S1x1024.Idx) : (bias m c y : EReal) = (m (c, Proc.devRef .tc main_arg2) : F32 S1x1024) y := by
  simp only [bias, V, hostOps0]
  after_reads_at

end Cert.Pw2Ideal.Value

end
-- ==== Proof.AttnInIdeal.Product.lean ====
/- The queries, the keys and the values: the input times the first 3072 columns of the weights, entry by entry. -/
module

public import proofs.«01_k».proof.Proof.Types
public import proofs.«01_k».proof.Proof.Gen.AttnInIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

set_option maxRecDepth 16384

noncomputable section

namespace Cert.AttnInIdeal.Value

open Idealize.ShloMosaic Idealize.ShloMosaic.TcCoe Idealize.ShloMosaic.Tactic
open Cert.AttnInIdeal.Gen

/-- One chunk of 256 columns: products of rows with columns; -/
theorem chunk (b : BF16 S1024x256) (a : BF16 S2048x1024) (r : Fin 2048) (j : Fin 256) :
    (k0_pay1 b a (ix2 r j) : EReal) = ∑ k : Fin 1024, (a (ix2 r k) : EReal) * b (ix2 k j) := by
  pointwise [k0_pay1]

/-- The block of results. -/
def block (a : BF16 S2048x1024) (b : BF16 S1024x1024) : BF16 S2048x1024 :=
  fun y => Mlp.nn a b y

/-- read off the operands' blocks it is the results' columns there. -/
theorem columns (a : BF16 S2048x1024) (b : BF16 S1024x1024) (n : ℕ) (inb inb' inbo) (x : S2048x256.Idx) :
    (k0_pay1 (View.ld b (Rect.unit (s := S1024x1024) ![0, n] S1024x256.size inb))
      (View.ld a (Rect.unit (s := S2048x1024) ![0, 0] S2048x1024.size inb')) x : EReal) =
    block a b ((Rect.unit (s := S2048x1024) ![0, n] S2048x256.size inbo).emb x) := by
  rw [ValueIdx.eq_ix2 x]
  refine (chunk _ _ (x 0) (x 1)).trans ?_
  unfold block
  exact Mlp.nn_columns a b inb inb' inbo (ix2 (x 0) (x 1))

theorem out_eq (a : BF16 S2048x1024) (b : BF16 S1024x1024) : out0_2 a b = block a b :=
  Mlp.canon_of_blocks (S := S2048x1024) (e := .bf16) _ _
    ⟨columns a b 768 _ _ inb_S2048x1024_S2048x256_0_768,
      columns a b 512 _ _ inb_S2048x1024_S2048x256_0_512,
      columns a b 256 _ _ inb_S2048x1024_S2048x256_0_256,
      columns a b 0 _ _ inb_S2048x1024_S2048x256_0_0, trivial⟩ (cover0_2 _ _ _ _)

variable (m : (ℓ : Loc nD τ sig) → Buf (Elt Ideal) ℓ)

/-- The operands, as the region finds them, -/
abbrev left (c : Dev nD) : BF16 S8192x1024 := V m c main_v2
abbrev right (c : Dev nD) : BF16 S1024x3072 := V m c main_v3

/-- and the array of results. -/
def result (c : Dev nD) : BF16 S8192x3072 := fun y => Mlp.nn (left m c) (right m c) y

/-- The point of row block `i` and column block `j`. -/
def pt (i : Fin 4) (j : Fin 3) : Fin cfg0.N := ⟨i.val * 3 + j.val, by have hN : cfg0.N = 12 := N_0; omega⟩

theorem of_pt (t : Fin cfg0.N) : ∃ i j, t = pt i j := by
  have ht : t.val < 12 := lt_of_lt_of_eq t.isLt N_0
  exact ⟨⟨t.val / 3, by omega⟩, ⟨t.val % 3, by omega⟩, Fin.ext (by show t.val = t.val / 3 * 3 + t.val % 3; omega)⟩

def row (i : Fin 4) (r : Fin 2048) : Fin 8192 := ⟨i.val * 2048 + r.val, by omega⟩
def col (j : Fin 3) (s : Fin 1024) : Fin 3072 := ⟨j.val * 1024 + s.val, by omega⟩

/-- Where each window's block lies. -/
theorem at0 (i : Fin 4) (j : Fin 3) : win0_0.index (pt i j) 0 = i.val ∧ win0_0.index (pt i j) 1 = 0 := by
  revert i j; decide +kernel
theorem at1 (i : Fin 4) (j : Fin 3) : win0_1.index (pt i j) 0 = 0 ∧ win0_1.index (pt i j) 1 = j.val := by
  revert i j; decide +kernel
theorem at2 (i : Fin 4) (j : Fin 3) : win0_2.index (pt i j) 0 = i.val ∧ win0_2.index (pt i j) 1 = j.val := by
  revert i j; decide +kernel

theorem blk0 (c : Dev nD) (i : Fin 4) (j : Fin 3) (r : Fin 2048) (k : Fin 1024) :
    (iblk m c 0 (pt i j) : BF16 S2048x1024) (ix2 r k) = left m c (ix2 (row i r) k) := by
  unfold iblk
  rw [View.read_apply]
  show left m c _ = left m c _
  exact congrArg _ (Mlp.ext2 (Mlp.at_block (at0 i j).1)
    (Mlp.at_start (at0 i j).2))

theorem blk1 (c : Dev nD) (i : Fin 4) (j : Fin 3) (k s : Fin 1024) :
    (iblk m c 1 (pt i j) : BF16 S1024x1024) (ix2 k s) = right m c (ix2 k (col j s)) := by
  unfold iblk
  rw [View.read_apply]
  show right m c _ = right m c _
  exact congrArg _ (Mlp.ext2 (Mlp.at_start (at1 i j).1)
    (Mlp.at_block (at1 i j).2))

theorem emb2 (i : Fin 4) (j : Fin 3) (r : Fin 2048) (s : Fin 1024) :
    ((cfg0.win 2).blk (pt i j)).view.emb (ix2 r s) = (ix2 (row i r) (col j s) : S8192x3072.Idx) :=
  Mlp.ext2 (Mlp.at_block (at2 i j).1)
    (Mlp.at_block (at2 i j).2)

/-- What each point writes back is the results' block there. -/
theorem flushed (c : Dev nD) (i : Fin 4) (j : Fin 3) :
    (dats m 0 c).flushed 2 (pt i j) = ((cfg0.win 2).blk (pt i j)).view.read (Elt Ideal) (result m c) := by
  show (cfg0.win 2).cut (grid0.coords (pt i j)) ((dats m 0 c).after 2 (pt i j)) = _
  rw [after0_2, out_eq]
  have key : ∀ y : S2048x1024.Idx, block (iblk m c 0 (pt i j)) (iblk m c 1 (pt i j)) y =
      result m c (((cfg0.win 2).blk (pt i j)).view.emb y) := fun y => by
    rw [ValueIdx.eq_ix2 y]
    refine Eq.trans ?_ (congrArg (result m c) (emb2 i j (y 0) (y 1))).symm
    have h : Mlp.nn (iblk m c 0 (pt i j) : BF16 S2048x1024) (iblk m c 1 (pt i j) : BF16 S1024x1024) (ix2 (y 0) (y 1)) =
        Mlp.nn (left m c) (right m c) (ix2 (row i (y 0)) (col j (y 1))) :=
      Finset.sum_congr rfl fun k _ => congrArg₂ (· * ·) (blk0 m c i j (y 0) k) (blk1 m c i j k (y 1))
    exact h
  exact funext key

/-- The array ends at the results. -/
theorem final (c : Dev nD) : (dats m 0 c).arrAt 2 cfg0.N = result m c :=
  (dats m 0 c).arrAt_eq_of_cover 2 (result m c) (fun t _ => by obtain ⟨i, j, rfl⟩ := of_pt t; exact flushed m c i j) fun y => by
    have h0 : (y 0 : Nat) < 8192 := (y 0).isLt
    have h1 : (y 1 : Nat) < 3072 := (y 1).isLt
    generalize hi : (⟨(y 0 : Nat) / 2048, by omega⟩ : Fin 4) = i
    generalize hj : (⟨(y 1 : Nat) / 1024, by omega⟩ : Fin 3) = j
    have hi : i.val = (y 0 : Nat) / 2048 := by rw [← hi]
    have hj : j.val = (y 1 : Nat) / 1024 := by rw [← hj]
    refine ⟨pt i j, flush0_2 _, ?_⟩
    show y ∈ ((View.whole main_v4).slice (win0_2.rect (pt i j))).set
    rw [View.set_slice_whole, Rect.mem_set_unit]
    intro a
    match a with
    | ⟨0, _⟩ => exact Mlp.within 2048 (y 0).val (at2 i j).1 (by omega)
    | ⟨1, _⟩ => exact Mlp.within 1024 (y 1).val (at2 i j).2 (by omega)

/-- Casting to the narrower format changes no real. -/
theorem left_eq (c : Dev nD) (y : S8192x1024.Idx) : (left m c y : EReal) = (m (c, Proc.devRef .tc main_arg0) : F32 S8192x1024) y := by
  simp only [left, V, V0, hostOps0, hostOps0_1, hostOps0_2]
  after_reads_at

/-- The weights are padded with zero columns, and cut to the columns wanted. -/
abbrev weight (c : Dev nD) (y : S1024x3088.Idx) : EReal := m (c, Proc.devRef .tc main_arg1) y
theorem right_eq (c : Dev nD) (k : Fin 1024) (j : Fin 3072) (h : 0 + j.val < 3088) :
    (right m c (ix2 k j) : EReal) = weight m c (ix2 k ⟨0 + j.val, h⟩) := by
  simp only [right, V, V0, hostOps0, hostOps0_1, hostOps0_2]
  after_reads_at
  rw [dif_pos (by show j.val < 3088; omega)]

/-- The results in the wider format. -/
def results (c : Dev nD) : F32 S8192x3072 := fun y => (result m c y : EReal)

theorem tail_reads (U : Valuation τ sig (Elt Ideal)) (y : S8192x3072.Idx) :
    (StableHlo.after (List.flatten [hostOps1]) U (Proc.devRef .tc main_v5) y : EReal) = (U (Proc.devRef .tc main_v4) : BF16 S8192x3072) y := by
  simp only [hostOps1, List.flatten_cons, List.flatten_nil, List.append_nil]
  after_reads_at

theorem results_eq (c : Dev nD) : Pipeline.afterTail₀ cfgs (dats m) 0 (V0 m) [hostOps1] c main_v5 = results m c := by
  refine funext fun (y : S8192x3072.Idx) => ?_
  refine (tail_reads _ y).trans ?_
  exact congrFun ((Pipeline.withArrays_arr spec0 (by decide) c (V0 m c) (fun w => (dats m 0 c).arrAt w cfg0.N) 2).trans (final m c)) y

end Cert.AttnInIdeal.Value

end
-- ==== Proof.GateInIdeal.Product.lean ====
/- The forget gates: the input times the last 16 columns of the weights, entry by entry. -/
module

public import proofs.«01_k».proof.Proof.Types
public import proofs.«01_k».proof.Proof.Gen.GateInIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

set_option maxRecDepth 16384

noncomputable section

namespace Cert.GateInIdeal.Value

open Idealize.ShloMosaic Idealize.ShloMosaic.TcCoe Idealize.ShloMosaic.Tactic
open Cert.GateInIdeal.Gen

/-- One chunk of 128 columns: products of rows with columns; -/
theorem chunk (b : BF16 S1024x128) (a : BF16 S1024x1024) (r : Fin 1024) (j : Fin 128) :
    (k0_pay1 b a (ix2 r j) : EReal) = ∑ k : Fin 1024, (a (ix2 r k) : EReal) * b (ix2 k j) := by
  pointwise [k0_pay1]

/-- The block of results. -/
def block (a : BF16 S1024x1024) (b : BF16 S1024x128) : F32 S1024x128 :=
  fun y => Mlp.nn a b y

/-- read off the operands' blocks it is the results' columns there. -/
theorem columns (a : BF16 S1024x1024) (b : BF16 S1024x128) (n : ℕ) (inb inb' inbo) (x : S1024x128.Idx) :
    (k0_pay1 (View.ld b (Rect.unit (s := S1024x128) ![0, n] S1024x128.size inb))
      (View.ld a (Rect.unit (s := S1024x1024) ![0, 0] S1024x1024.size inb')) x : EReal) =
    block a b ((Rect.unit (s := S1024x128) ![0, n] S1024x128.size inbo).emb x) := by
  rw [ValueIdx.eq_ix2 x]
  refine (chunk _ _ (x 0) (x 1)).trans ?_
  unfold block
  exact Mlp.nn_columns a b inb inb' inbo (ix2 (x 0) (x 1))

theorem out_eq (a : BF16 S1024x1024) (b : BF16 S1024x128) : out0_2 a b = block a b :=
  Mlp.canon_of_blocks (S := S1024x128) _ _
    ⟨columns a b 0 _ _ inb_S1024x128_S1024x128_0_0, trivial⟩ (cover0_2 _)

variable (m : (ℓ : Loc nD τ sig) → Buf (Elt Ideal) ℓ)

/-- The operands, as the region finds them, -/
abbrev left (c : Dev nD) : BF16 S8192x1024 := V m c main_v2
abbrev right (c : Dev nD) : BF16 S1024x128 := V m c main_v3

/-- and the array of results. -/
def result (c : Dev nD) : F32 S8192x128 := fun y => Mlp.nn (left m c) (right m c) y

/-- The point of row block `i` and column block `j`. -/
def pt (i : Fin 8) (j : Fin 1) : Fin cfg0.N := ⟨i.val * 1 + j.val, by have hN : cfg0.N = 8 := N_0; omega⟩

theorem of_pt (t : Fin cfg0.N) : ∃ i j, t = pt i j := by
  have ht : t.val < 8 := lt_of_lt_of_eq t.isLt N_0
  exact ⟨⟨t.val / 1, by omega⟩, ⟨t.val % 1, by omega⟩, Fin.ext (by show t.val = t.val / 1 * 1 + t.val % 1; omega)⟩

def row (i : Fin 8) (r : Fin 1024) : Fin 8192 := ⟨i.val * 1024 + r.val, by omega⟩
def col (j : Fin 1) (s : Fin 128) : Fin 128 := ⟨j.val * 128 + s.val, by omega⟩

/-- Where each window's block lies. -/
theorem at0 (i : Fin 8) (j : Fin 1) : win0_0.index (pt i j) 0 = i.val ∧ win0_0.index (pt i j) 1 = 0 := by
  revert i j; decide +kernel
theorem at1 (i : Fin 8) (j : Fin 1) : win0_1.index (pt i j) 0 = 0 ∧ win0_1.index (pt i j) 1 = j.val := by
  revert i j; decide +kernel
theorem at2 (i : Fin 8) (j : Fin 1) : win0_2.index (pt i j) 0 = i.val ∧ win0_2.index (pt i j) 1 = j.val := by
  revert i j; decide +kernel

theorem blk0 (c : Dev nD) (i : Fin 8) (j : Fin 1) (r k : Fin 1024) :
    (iblk m c 0 (pt i j) : BF16 S1024x1024) (ix2 r k) = left m c (ix2 (row i r) k) := by
  unfold iblk
  rw [View.read_apply]
  show left m c _ = left m c _
  exact congrArg _ (Mlp.ext2 (Mlp.at_block (at0 i j).1)
    (Mlp.at_start (at0 i j).2))

theorem blk1 (c : Dev nD) (i : Fin 8) (j : Fin 1) (k : Fin 1024) (s : Fin 128) :
    (iblk m c 1 (pt i j) : BF16 S1024x128) (ix2 k s) = right m c (ix2 k (col j s)) := by
  unfold iblk
  rw [View.read_apply]
  show right m c _ = right m c _
  exact congrArg _ (Mlp.ext2 (Mlp.at_start (at1 i j).1)
    (Mlp.at_block (at1 i j).2))

theorem emb2 (i : Fin 8) (j : Fin 1) (r : Fin 1024) (s : Fin 128) :
    ((cfg0.win 2).blk (pt i j)).view.emb (ix2 r s) = (ix2 (row i r) (col j s) : S8192x128.Idx) :=
  Mlp.ext2 (Mlp.at_block (at2 i j).1)
    (Mlp.at_block (at2 i j).2)

/-- What each point writes back is the results' block there. -/
theorem flushed (c : Dev nD) (i : Fin 8) (j : Fin 1) :
    (dats m 0 c).flushed 2 (pt i j) = ((cfg0.win 2).blk (pt i j)).view.read (Elt Ideal) (result m c) := by
  show (cfg0.win 2).cut (grid0.coords (pt i j)) ((dats m 0 c).after 2 (pt i j)) = _
  rw [after0_2, out_eq]
  have key : ∀ y : S1024x128.Idx, block (iblk m c 0 (pt i j)) (iblk m c 1 (pt i j)) y =
      result m c (((cfg0.win 2).blk (pt i j)).view.emb y) := fun y => by
    rw [ValueIdx.eq_ix2 y]
    refine Eq.trans ?_ (congrArg (result m c) (emb2 i j (y 0) (y 1))).symm
    have h : Mlp.nn (iblk m c 0 (pt i j) : BF16 S1024x1024) (iblk m c 1 (pt i j) : BF16 S1024x128) (ix2 (y 0) (y 1)) =
        Mlp.nn (left m c) (right m c) (ix2 (row i (y 0)) (col j (y 1))) :=
      Finset.sum_congr rfl fun k _ => congrArg₂ (· * ·) (blk0 m c i j (y 0) k) (blk1 m c i j k (y 1))
    exact h
  exact funext key

/-- The array ends at the results. -/
theorem final (c : Dev nD) : (dats m 0 c).arrAt 2 cfg0.N = result m c :=
  (dats m 0 c).arrAt_eq_of_cover 2 (result m c) (fun t _ => by obtain ⟨i, j, rfl⟩ := of_pt t; exact flushed m c i j) fun y => by
    have h0 : (y 0 : Nat) < 8192 := (y 0).isLt
    have h1 : (y 1 : Nat) < 128 := (y 1).isLt
    generalize hi : (⟨(y 0 : Nat) / 1024, by omega⟩ : Fin 8) = i
    generalize hj : (⟨(y 1 : Nat) / 128, by omega⟩ : Fin 1) = j
    have hi : i.val = (y 0 : Nat) / 1024 := by rw [← hi]
    have hj : j.val = (y 1 : Nat) / 128 := by rw [← hj]
    refine ⟨pt i j, flush0_2 _, ?_⟩
    show y ∈ ((View.whole main_v4).slice (win0_2.rect (pt i j))).set
    rw [View.set_slice_whole, Rect.mem_set_unit]
    intro a
    match a with
    | ⟨0, _⟩ => exact Mlp.within 1024 (y 0).val (at2 i j).1 (by omega)
    | ⟨1, _⟩ => exact Mlp.within 128 (y 1).val (at2 i j).2 (by omega)

/-- Casting to the narrower format changes no real. -/
theorem left_eq (c : Dev nD) (y : S8192x1024.Idx) : (left m c y : EReal) = (m (c, Proc.devRef .tc main_arg0) : F32 S8192x1024) y := by
  simp only [left, V, V0, hostOps0, hostOps0_1, hostOps0_2]
  after_reads_at

/-- The weights are padded with zero columns, and cut to the columns wanted. -/
abbrev weight (c : Dev nD) (y : S1024x3088.Idx) : EReal := m (c, Proc.devRef .tc main_arg1) y
theorem right_eq (c : Dev nD) (k : Fin 1024) (j : Fin 128) (h : 3072 + j.val < 3088) :
    (right m c (ix2 k j) : EReal) = weight m c (ix2 k ⟨3072 + j.val, h⟩) := by
  simp only [right, V, V0, hostOps0, hostOps0_1, hostOps0_2]
  after_reads_at
  rw [dif_pos (by show 3072 + j.val < 3088; exact h)]

abbrev after (c : Dev nD) : Valuation τ sig (Elt Ideal) :=
  Pipeline.withArrays spec0 c (V0 m c) fun w => (dats m 0 c).arrAt w cfg0.N

theorem after_result (c : Dev nD) : after m c (Proc.devRef .tc main_v4) = result m c :=
  (Pipeline.withArrays_arr spec0 (by decide) c (V0 m c) (fun w => (dats m 0 c).arrAt w cfg0.N) 2).trans (final m c)

/-- The results that are not padding. -/
def results (c : Dev nD) : F32 S8192x16 := fun y => (result m c (ix2 (y 0) ⟨(y 1).val, Nat.lt_of_lt_of_le (y 1).isLt (by decide)⟩) : EReal)

theorem tail_reads (U : Valuation τ sig (Elt Ideal)) (y : S8192x16.Idx) :
    (StableHlo.after (List.flatten [hostOps1]) U (Proc.devRef .tc main_v5) y : EReal) = (U (Proc.devRef .tc main_v4) : F32 S8192x128) (ix2 (y 0) ⟨(y 1).val, Nat.lt_of_lt_of_le (y 1).isLt (by decide)⟩) := by
  simp only [hostOps1, List.flatten_cons, List.flatten_nil, List.append_nil]
  after_reads_at

theorem results_eq (c : Dev nD) : Pipeline.afterTail₀ cfgs (dats m) 0 (V0 m) [hostOps1] c main_v5 = results m c := by
  refine funext fun (y : S8192x16.Idx) => ?_
  refine (tail_reads (after m c) y).trans ?_
  rw [after_result]
  rfl

end Cert.GateInIdeal.Value

end
-- ==== Proof.AttnOutIdeal.Product.lean ====
/- The attention's output projection: the heads' outputs times the weights, entry by entry. -/
module

public import proofs.«01_k».proof.Proof.Types
public import proofs.«01_k».proof.Proof.Gen.AttnOutIdeal.Frame
public import proofs.«01_k».proof.Proof.Mlp.Blocks
public import proofs.«01_k».proof.Proof.Mlp.Columns
public import Idealize.ShloMosaic.Lib.Pipeline.Value
public import Idealize.ShloMosaic.Lib.StableHlo.ReadAt

@[expose] public section

set_option maxRecDepth 16384

noncomputable section

namespace Cert.AttnOutIdeal.Value

open Idealize.ShloMosaic Idealize.ShloMosaic.TcCoe Idealize.ShloMosaic.Tactic
open Cert.AttnOutIdeal.Gen

/-- One chunk of 256 columns: products of rows with columns; -/
theorem chunk (b : BF16 S1024x256) (a : BF16 S2048x1024) (r : Fin 2048) (j : Fin 256) :
    (k0_pay1 b a (ix2 r j) : EReal) = ∑ k : Fin 1024, (a (ix2 r k) : EReal) * b (ix2 k j) := by
  pointwise [k0_pay1]

/-- The block of results. -/
def block (a : BF16 S2048x1024) (b : BF16 S1024x1024) : F32 S2048x1024 :=
  fun y => Mlp.nn a b y

/-- read off the operands' blocks it is the results' columns there. -/
theorem columns (a : BF16 S2048x1024) (b : BF16 S1024x1024) (n : ℕ) (inb inb' inbo) (x : S2048x256.Idx) :
    (k0_pay1 (View.ld b (Rect.unit (s := S1024x1024) ![0, n] S1024x256.size inb))
      (View.ld a (Rect.unit (s := S2048x1024) ![0, 0] S2048x1024.size inb')) x : EReal) =
    block a b ((Rect.unit (s := S2048x1024) ![0, n] S2048x256.size inbo).emb x) := by
  rw [ValueIdx.eq_ix2 x]
  refine (chunk _ _ (x 0) (x 1)).trans ?_
  unfold block
  exact Mlp.nn_columns a b inb inb' inbo (ix2 (x 0) (x 1))

theorem out_eq (a : BF16 S2048x1024) (b : BF16 S1024x1024) : out0_2 a b = block a b :=
  Mlp.canon_of_blocks (S := S2048x1024) _ _
    ⟨columns a b 768 _ _ inb_S2048x1024_S2048x256_0_768,
      columns a b 512 _ _ inb_S2048x1024_S2048x256_0_512,
      columns a b 256 _ _ inb_S2048x1024_S2048x256_0_256,
      columns a b 0 _ _ inb_S2048x1024_S2048x256_0_0, trivial⟩ (cover0_2 _ _ _ _)

variable (m : (ℓ : Loc nD τ sig) → Buf (Elt Ideal) ℓ)

/-- The operands, as the region finds them, -/
abbrev left (c : Dev nD) : BF16 S8192x1024 := V m c main_v0
abbrev right (c : Dev nD) : BF16 S1024x1024 := V m c main_v1

/-- and the array of results. -/
def result (c : Dev nD) : F32 S8192x1024 := fun y => Mlp.nn (left m c) (right m c) y

/-- The point of row block `i` and column block `j`. -/
def pt (i : Fin 4) (j : Fin 1) : Fin cfg0.N := ⟨i.val * 1 + j.val, by have hN : cfg0.N = 4 := N_0; omega⟩

theorem of_pt (t : Fin cfg0.N) : ∃ i j, t = pt i j := by
  have ht : t.val < 4 := lt_of_lt_of_eq t.isLt N_0
  exact ⟨⟨t.val / 1, by omega⟩, ⟨t.val % 1, by omega⟩, Fin.ext (by show t.val = t.val / 1 * 1 + t.val % 1; omega)⟩

def row (i : Fin 4) (r : Fin 2048) : Fin 8192 := ⟨i.val * 2048 + r.val, by omega⟩
def col (j : Fin 1) (s : Fin 1024) : Fin 1024 := ⟨j.val * 1024 + s.val, by omega⟩

/-- Where each window's block lies. -/
theorem at0 (i : Fin 4) (j : Fin 1) : win0_0.index (pt i j) 0 = i.val ∧ win0_0.index (pt i j) 1 = 0 := by
  revert i j; decide +kernel
theorem at1 (i : Fin 4) (j : Fin 1) : win0_1.index (pt i j) 0 = 0 ∧ win0_1.index (pt i j) 1 = j.val := by
  revert i j; decide +kernel
theorem at2 (i : Fin 4) (j : Fin 1) : win0_2.index (pt i j) 0 = i.val ∧ win0_2.index (pt i j) 1 = j.val := by
  revert i j; decide +kernel

theorem blk0 (c : Dev nD) (i : Fin 4) (j : Fin 1) (r : Fin 2048) (k : Fin 1024) :
    (iblk m c 0 (pt i j) : BF16 S2048x1024) (ix2 r k) = left m c (ix2 (row i r) k) := by
  unfold iblk
  rw [View.read_apply]
  show left m c _ = left m c _
  exact congrArg _ (Mlp.ext2 (Mlp.at_block (at0 i j).1)
    (Mlp.at_start (at0 i j).2))

theorem blk1 (c : Dev nD) (i : Fin 4) (j : Fin 1) (k s : Fin 1024) :
    (iblk m c 1 (pt i j) : BF16 S1024x1024) (ix2 k s) = right m c (ix2 k (col j s)) := by
  unfold iblk
  rw [View.read_apply]
  show right m c _ = right m c _
  exact congrArg _ (Mlp.ext2 (Mlp.at_start (at1 i j).1)
    (Mlp.at_block (at1 i j).2))

theorem emb2 (i : Fin 4) (j : Fin 1) (r : Fin 2048) (s : Fin 1024) :
    ((cfg0.win 2).blk (pt i j)).view.emb (ix2 r s) = (ix2 (row i r) (col j s) : S8192x1024.Idx) :=
  Mlp.ext2 (Mlp.at_block (at2 i j).1)
    (Mlp.at_block (at2 i j).2)

/-- What each point writes back is the results' block there. -/
theorem flushed (c : Dev nD) (i : Fin 4) (j : Fin 1) :
    (dats m 0 c).flushed 2 (pt i j) = ((cfg0.win 2).blk (pt i j)).view.read (Elt Ideal) (result m c) := by
  show (cfg0.win 2).cut (grid0.coords (pt i j)) ((dats m 0 c).after 2 (pt i j)) = _
  rw [after0_2, out_eq]
  have key : ∀ y : S2048x1024.Idx, block (iblk m c 0 (pt i j)) (iblk m c 1 (pt i j)) y =
      result m c (((cfg0.win 2).blk (pt i j)).view.emb y) := fun y => by
    rw [ValueIdx.eq_ix2 y]
    refine Eq.trans ?_ (congrArg (result m c) (emb2 i j (y 0) (y 1))).symm
    have h : Mlp.nn (iblk m c 0 (pt i j) : BF16 S2048x1024) (iblk m c 1 (pt i j) : BF16 S1024x1024) (ix2 (y 0) (y 1)) =
        Mlp.nn (left m c) (right m c) (ix2 (row i (y 0)) (col j (y 1))) :=
      Finset.sum_congr rfl fun k _ => congrArg₂ (· * ·) (blk0 m c i j (y 0) k) (blk1 m c i j k (y 1))
    exact h
  exact funext key

/-- The array ends at the results. -/
theorem final (c : Dev nD) : (dats m 0 c).arrAt 2 cfg0.N = result m c :=
  (dats m 0 c).arrAt_eq_of_cover 2 (result m c) (fun t _ => by obtain ⟨i, j, rfl⟩ := of_pt t; exact flushed m c i j) fun y => by
    have h0 : (y 0 : Nat) < 8192 := (y 0).isLt
    have h1 : (y 1 : Nat) < 1024 := (y 1).isLt
    generalize hi : (⟨(y 0 : Nat) / 2048, by omega⟩ : Fin 4) = i
    generalize hj : (⟨(y 1 : Nat) / 1024, by omega⟩ : Fin 1) = j
    have hi : i.val = (y 0 : Nat) / 2048 := by rw [← hi]
    have hj : j.val = (y 1 : Nat) / 1024 := by rw [← hj]
    refine ⟨pt i j, flush0_2 _, ?_⟩
    show y ∈ ((View.whole main_v2).slice (win0_2.rect (pt i j))).set
    rw [View.set_slice_whole, Rect.mem_set_unit]
    intro a
    match a with
    | ⟨0, _⟩ => exact Mlp.within 2048 (y 0).val (at2 i j).1 (by omega)
    | ⟨1, _⟩ => exact Mlp.within 1024 (y 1).val (at2 i j).2 (by omega)

/-- Casting to the narrower format changes no real. -/
theorem left_eq (c : Dev nD) (y : S8192x1024.Idx) : (left m c y : EReal) = (m (c, Proc.devRef .tc main_arg0) : F32 S8192x1024) y := by
  simp only [left, V, hostOps0]
  after_reads_at
theorem right_eq (c : Dev nD) (y : S1024x1024.Idx) : (right m c y : EReal) = (m (c, Proc.devRef .tc main_arg1) : F32 S1024x1024) y := by
  simp only [right, V, hostOps0]
  after_reads_at

end Cert.AttnOutIdeal.Value

end
-- ==== Proof.Mlp.Forward.lean ====
/- The forward projections are the reference's: products of the same rows and columns, with the rectified square, the bias or the slice. -/
module

public import proofs.«01_k».proof.Proof.Gen.ReferenceUpIdeal.Read
public import proofs.«01_k».proof.Proof.Gen.ReferenceDownIdeal.Read
public import proofs.«01_k».proof.Proof.Gen.ReferencePw1Ideal.Read
public import proofs.«01_k».proof.Proof.Gen.ReferencePw2Ideal.Read
public import proofs.«01_k».proof.Proof.Gen.ReferenceAttnInIdeal.Read
public import proofs.«01_k».proof.Proof.Gen.ReferenceGateInIdeal.Read
public import proofs.«01_k».proof.Proof.Gen.ReferenceAttnOutIdeal.Read
public import proofs.«01_k».proof.Defs
public import proofs.«01_k».proof.Proof.UpIdeal.Product
public import proofs.«01_k».proof.Proof.DownIdeal.Product
public import proofs.«01_k».proof.Proof.Pw1Ideal.Product
public import proofs.«01_k».proof.Proof.Pw2Ideal.Product
public import proofs.«01_k».proof.Proof.AttnInIdeal.Product
public import proofs.«01_k».proof.Proof.GateInIdeal.Product
public import proofs.«01_k».proof.Proof.AttnOutIdeal.Product

@[expose] public section

noncomputable section

namespace Cert.Mlp

open Idealize.ShloMosaic Idealize.SL.Sem

section up
open Cert.UpIdeal
variable (m : (ℓ : Loc nD τ sig) → Buf (Elt Ideal) ℓ) (c : Dev nD)

theorem up_ref : Value.results m c =
    ReferenceUpIdeal.Read.val_main_v2 (m (c, Proc.devRef .tc main_arg0)) (m (c, Proc.devRef .tc main_arg1)) := by
  refine funext fun (y : S8192x4096.Idx) => ?_
  have h : Mlp.nn (Value.left m c) (Value.right m c) y =
      ReferenceUpIdeal.Read.val_main_v0 (m (c, Proc.devRef .tc main_arg0)) (m (c, Proc.devRef .tc main_arg1)) y := by
    refine Eq.trans ?_ (ReferenceUpIdeal.Read.val_main_v0_apply _ _ y).symm
    exact Finset.sum_congr rfl fun k _ => congrArg₂ (· * ·)
      ((Value.left_eq m c _).trans (congrArg _ (ext2 rfl rfl))) ((Value.right_eq m c _).trans (congrArg _ (ext2 rfl rfl)))
  refine (congrArg (fun z : EReal => max z 0 * max z 0) h).trans ?_
  rw [ReferenceUpIdeal.Read.val_main_v2_apply, ReferenceUpIdeal.Read.val_main_v1_apply, ReferenceUpIdeal.Read.val_main_call0_v0_apply, ReferenceUpIdeal.Read.val_main_call0_cst_apply]
  show _ = max _ (Ideal.ofBits .f32 0x00000000#32 : EReal) * max _ (Ideal.ofBits .f32 0x00000000#32 : EReal)
  rw [Ideal.ofBits_zero_f32]
end up

section down
open Cert.DownIdeal
variable (m : (ℓ : Loc nD τ sig) → Buf (Elt Ideal) ℓ) (c : Dev nD)

theorem down_ref : Value.result m c =
    ReferenceDownIdeal.Read.val_main_v0 (m (c, Proc.devRef .tc main_arg0)) (m (c, Proc.devRef .tc main_arg1)) := by
  refine funext fun (y : S8192x1024.Idx) => ?_
  refine Eq.trans ?_ (ReferenceDownIdeal.Read.val_main_v0_apply _ _ y).symm
  unfold Value.result Mlp.nn
  exact Finset.sum_congr rfl fun k _ => congrArg₂ (· * ·)
      ((Value.left_eq m c _).trans (congrArg _ (ext2 rfl rfl))) ((Value.right_eq m c _).trans (congrArg _ (ext2 rfl rfl)))
end down

section pw1
open Cert.Pw1Ideal
variable (m : (ℓ : Loc nD τ sig) → Buf (Elt Ideal) ℓ) (c : Dev nD)

theorem pw1_ref : Value.result m c =
    ReferencePw1Ideal.Read.val_main_v4 (m (c, Proc.devRef .tc main_arg0)) (m (c, Proc.devRef .tc main_arg1)) (m (c, Proc.devRef .tc main_arg2)) := by
  refine funext fun (y : S8192x2048.Idx) => ?_
  refine Eq.trans ?_ (ReferencePw1Ideal.Read.val_main_v4_apply (F := Ideal) _ _ _ y).symm
  refine congrArg₂ (· + ·) (Eq.trans ?_ (ReferencePw1Ideal.Read.val_main_v0_apply _ _ y).symm) ?_
  · exact Finset.sum_congr rfl fun k _ => congrArg₂ (· * ·)
      ((Value.left_eq m c _).trans (congrArg _ (ext2 rfl rfl))) ((Value.right_eq m c _).trans (congrArg _ (ext2 rfl rfl)))
  · rw [ReferencePw1Ideal.Read.val_main_v3_apply, ReferencePw1Ideal.Read.val_main_v2_apply, ReferencePw1Ideal.Read.val_main_v1_apply]
    exact (Value.bias_eq m c _).trans (congrArg _ (ext2 rfl (Nat.mod_eq_of_lt (y 1).isLt).symm))
end pw1

section pw2
open Cert.Pw2Ideal
variable (m : (ℓ : Loc nD τ sig) → Buf (Elt Ideal) ℓ) (c : Dev nD)

theorem pw2_ref : Value.result m c =
    ReferencePw2Ideal.Read.val_main_v4 (F := Ideal) (m (c, Proc.devRef .tc main_arg0)) (m (c, Proc.devRef .tc main_arg1)) (m (c, Proc.devRef .tc main_arg2)) := by
  refine funext fun (y : S8192x1024.Idx) => ?_
  refine Eq.trans ?_ (ReferencePw2Ideal.Read.val_main_v4_apply (F := Ideal) _ _ _ y).symm
  refine congrArg₂ (· + ·) (Eq.trans ?_ (ReferencePw2Ideal.Read.val_main_v0_apply _ _ y).symm) ?_
  · exact Finset.sum_congr rfl fun k _ => congrArg₂ (· * ·)
      ((Value.left_eq m c _).trans (congrArg _ (ext2 rfl rfl))) ((Value.right_eq m c _).trans (congrArg _ (ext2 rfl rfl)))
  · rw [ReferencePw2Ideal.Read.val_main_v3_apply, ReferencePw2Ideal.Read.val_main_v2_apply, ReferencePw2Ideal.Read.val_main_v1_apply]
    exact (Value.bias_eq m c _).trans (congrArg _ (ext2 rfl (Nat.mod_eq_of_lt (y 1).isLt).symm))
end pw2

section attn_in
open Cert.AttnInIdeal
variable (m : (ℓ : Loc nD τ sig) → Buf (Elt Ideal) ℓ) (c : Dev nD)

theorem attn_in_ref : Value.results m c =
    ReferenceAttnInIdeal.Read.val_main_v1 (F := Ideal) (m (c, Proc.devRef .tc main_arg0)) (m (c, Proc.devRef .tc main_arg1)) := by
  refine funext fun (y : S8192x3072.Idx) => ?_
  have b1 : (y 1 : Nat) < 3072 := (y 1).isLt
  refine Eq.trans ?_ ((ReferenceAttnInIdeal.Read.val_main_v1_apply (F := Ideal) _ _ y).trans (ReferenceAttnInIdeal.Read.val_main_v0_apply _ _ _)).symm
  unfold Value.results Value.result Mlp.nn
  refine Finset.sum_congr rfl fun k _ => congrArg₂ (· * ·)
    ((Value.left_eq m c _).trans (congrArg _ (ext2 rfl rfl))) ?_
  exact (Value.right_eq m c k ⟨(y 1 : Nat), by omega⟩ (by show 0 + (y 1 : Nat) < 3088; omega)).trans (congrArg (Value.weight m c) (ext2 rfl (by
      show 0 + (y 1 : Nat) = _; exact Nat.zero_add _)))
end attn_in

section gate_in
open Cert.GateInIdeal
variable (m : (ℓ : Loc nD τ sig) → Buf (Elt Ideal) ℓ) (c : Dev nD)

theorem gate_in_ref : Value.results m c =
    ReferenceGateInIdeal.Read.val_main_v1 (F := Ideal) (m (c, Proc.devRef .tc main_arg0)) (m (c, Proc.devRef .tc main_arg1)) := by
  refine funext fun (y : S8192x16.Idx) => ?_
  have b1 : (y 1 : Nat) < 16 := (y 1).isLt
  refine Eq.trans ?_ ((ReferenceGateInIdeal.Read.val_main_v1_apply (F := Ideal) _ _ y).trans (ReferenceGateInIdeal.Read.val_main_v0_apply _ _ _)).symm
  unfold Value.results Value.result Mlp.nn
  refine Finset.sum_congr rfl fun k _ => congrArg₂ (· * ·)
    ((Value.left_eq m c _).trans (congrArg _ (ext2 rfl rfl))) ?_
  exact (Value.right_eq m c k ⟨(y 1 : Nat), by omega⟩ (by show 3072 + (y 1 : Nat) < 3088; omega)).trans (congrArg (Value.weight m c) (ext2 rfl (by
      show 3072 + (y 1 : Nat) = _; rfl)))
end gate_in

section attn_out
open Cert.AttnOutIdeal
variable (m : (ℓ : Loc nD τ sig) → Buf (Elt Ideal) ℓ) (c : Dev nD)

theorem attn_out_ref : Value.result m c =
    ReferenceAttnOutIdeal.Read.val_main_v0 (F := Ideal) (m (c, Proc.devRef .tc main_arg0)) (m (c, Proc.devRef .tc main_arg1)) := by
  refine funext fun (y : S8192x1024.Idx) => ?_
  refine Eq.trans ?_ (ReferenceAttnOutIdeal.Read.val_main_v0_apply _ _ y).symm
  unfold Value.result Mlp.nn
  exact Finset.sum_congr rfl fun k _ => congrArg₂ (· * ·)
      ((Value.left_eq m c _).trans (congrArg _ (ext2 rfl rfl))) ((Value.right_eq m c _).trans (congrArg _ (ext2 rfl rfl)))
end attn_out

end Cert.Mlp

end
-- ==== Proof.Norm.Rms.lean ====
/- The root-mean-square norm of a row of 1024 numbers, its gradients, and the rows of an array in sixteen slabs. -/
module

public import proofs.«01_k».proof.Proof.Mlp.Blocks
public import Idealize.ShloMosaic.Lib.Pointwise

@[expose] public section

noncomputable section

namespace Cert.Norm

open Idealize.ShloMosaic

variable {p : ℕ}

/-- An array of rows. -/
abbrev Mat (p : ℕ) : Type := (⟨2, ![p, 1024]⟩ : Shape).Idx → EReal

def row (a : Mat p) (r : Fin p) : Fin 1024 → EReal := fun k => a (ix2 r k)

/-- A row's mean square with the small constant, -/
def mean (x : Fin 1024 → EReal) : EReal := Ideal.div (∑ k, x k * x k) (Ideal.ofBits .f32 0x44800000#32) + Ideal.ofBits .f32 0x358637BD#32

/-- what its norm multiplies it by, -/
def scale (x : Fin 1024 → EReal) : EReal := Ideal.rsqrt (mean x)

/-- the norm, scaled by a vector, -/
def normed (x g : Fin 1024 → EReal) (j : Fin 1024) : EReal := x j * scale x * g j

/-- and the gradient with respect to the row, from the result's. -/
def back (x d g : Fin 1024 → EReal) (j : Fin 1024) : EReal :=
  scale x * (d j * g j) - x j * (scale x * scale x * scale x * ((∑ k, d k * g k * x k) * Ideal.ofBits .f32 0x3A800000#32))

/-- Of whole arrays: the norm, -/
def output (x : Mat p) (g : Mat 1) : Mat p := fun y => normed (row x (y 0)) (row g 0) (y 1)

/-- an array with another's norm added, -/
def stream (x b : Mat p) (g : Mat 1) : Mat p := fun y => x y + normed (row b (y 0)) (row g 0) (y 1)

/-- the gradients with respect to the array -/
def input (x : Mat p) (g : Mat 1) (d : Mat p) : Mat p := fun y => back (row x (y 0)) (row d (y 0)) (row g 0) (y 1)

/-- and to the scales, -/
def weight (x d : Mat p) : Mat 1 := fun y => ∑ r, d (ix2 r (y 1)) * (x (ix2 r (y 1)) * scale (row x r))

/-- and the sums of columns. -/
def columns (x : Mat p) : Mat 1 := fun y => ∑ r, x (ix2 r (y 1))

/-- Two arrays added. -/
def added (a b : Mat p) : Mat p := fun y => a y + b y

theorem mean_pos (x : Fin 1024 → EReal) : 0 < mean x := by
  have e : Ideal.ofBits .f32 0x44800000#32 = ((1024 : ℝ) : EReal) := by simp [Ideal.ofBits, Ideal.ieee]; rw [← EReal.coe_mul]; norm_num
  have e' : 0 < Ideal.ofBits .f32 0x358637BD#32 := by simp [Ideal.ofBits, Ideal.ieee]; rw [← EReal.coe_mul]; norm_num
  have hs : 0 ≤ ∑ k, x k * x k := Finset.sum_nonneg fun k _ => by
    induction x k using EReal.rec with
    | bot => simp
    | top => simp
    | coe a => exact_mod_cast mul_self_nonneg a
  unfold mean Ideal.div
  rw [e, if_neg (by norm_num)]
  refine lt_of_lt_of_le e' (le_add_of_nonneg_left (mul_nonneg hs ?_))
  rw [← EReal.coe_inv]
  exact_mod_cast (by norm_num : (0 : ℝ) ≤ 1024⁻¹)

/-- The cube of the inverse root is the inverse root over its argument. -/
theorem cube (v : EReal) (h : 0 < v) : Ideal.rsqrt v * Ideal.rsqrt v * Ideal.rsqrt v = Ideal.div (Ideal.rsqrt v) v := by
  unfold Ideal.div
  rw [if_neg h.ne']
  induction v using EReal.rec with
  | bot => simp at h
  | top => exact (congrArg (· * (0 : EReal)) (mul_zero _)).trans ((mul_zero _).trans (zero_mul _).symm)
  | coe a =>
    have ha : 0 < a := by exact_mod_cast h
    have e : Ideal.rsqrt (a : EReal) = (((Real.sqrt a)⁻¹ : ℝ) : EReal) := by
      show (if a < 0 then ⊥ else if a = 0 then ⊤ else (((Real.sqrt a)⁻¹ : ℝ) : EReal)) = _
      rw [if_neg (not_lt.mpr ha.le), if_neg ha.ne']
    rw [e, ← EReal.coe_inv, ← EReal.coe_mul, ← EReal.coe_mul, ← EReal.coe_mul]
    refine congrArg _ ?_
    rw [mul_assoc, ← mul_inv, Real.mul_self_sqrt ha.le]

/-- The gradient, as differentiating the mean, the root and the product in turn writes it. -/
theorem back_eq (x d g : Fin 1024 → EReal) (j : Fin 1024) :
    d j * g j * scale x + (∑ _k : Fin 1, Ideal.div ((∑ k, x k * (d k * g k)) * (Ideal.ofBits .f32 0xBF000000#32 * Ideal.div (scale x) (mean x)))
      (Ideal.ofBits .f32 0x44800000#32)) * (Ideal.ofBits .f32 0x40000000#32 * x j) = back x d g j := by
  have e1 : Ideal.ofBits .f32 0x44800000#32 = ((1024 : ℝ) : EReal) := by simp [Ideal.ofBits, Ideal.ieee]; rw [← EReal.coe_mul]; norm_num
  have e2 : Ideal.ofBits .f32 0xBF000000#32 = ((-(1 / 2) : ℝ) : EReal) := by simp [Ideal.ofBits, Ideal.ieee]; rw [← EReal.coe_mul]; norm_num
  have e3 : Ideal.ofBits .f32 0x40000000#32 = ((2 : ℝ) : EReal) := by simp [Ideal.ofBits, Ideal.ieee]; rw [← EReal.coe_mul]; norm_num
  have e4 : Ideal.ofBits .f32 0x3A800000#32 = ((1 / 1024 : ℝ) : EReal) := by simp [Ideal.ofBits, Ideal.ieee]; rw [← EReal.coe_mul]; norm_num
  have es : ∑ k, x k * (d k * g k) = ∑ k, d k * g k * x k := Finset.sum_congr rfl fun k _ => mul_comm _ _
  have ec : scale x * scale x * scale x = Ideal.div (scale x) (mean x) := cube _ (mean_pos x)
  unfold back
  rw [ec, es, e2, e3, e4, Fin.sum_univ_one, sub_eq_add_neg, mul_comm (d j * g j)]
  refine congrArg (scale x * (d j * g j) + ·) ?_
  generalize Ideal.div (scale x) (mean x) = q
  generalize ∑ k, d k * g k * x k = s
  rw [e1]
  unfold Ideal.div
  rw [if_neg (by norm_num), ← EReal.coe_inv]
  have l : s * (((-(1 / 2) : ℝ) : EReal) * q) * ((1024⁻¹ : ℝ) : EReal) * (((2 : ℝ) : EReal) * x j) =
      x j * (q * s) * (((-(1 / 2) : ℝ) : EReal) * ((1024⁻¹ : ℝ) : EReal) * ((2 : ℝ) : EReal)) := by ac_rfl
  have r : x j * (q * (s * ((1 / 1024 : ℝ) : EReal))) = x j * (q * s) * ((1 / 1024 : ℝ) : EReal) := by ac_rfl
  rw [l, r, ← mul_neg, ← EReal.coe_neg, ← EReal.coe_mul, ← EReal.coe_mul]
  norm_num

/-- Row `r` of slab `t`, -/
def tok (t : Fin 16) (r : Fin 512) : Fin 8192 := ⟨t.val * 512 + r.val, by omega⟩

/-- and the slab. -/
def slab (a : Mat 8192) (t : Fin 16) : Mat 512 := fun y => a (ix2 (tok t (y 0)) (y 1))

/-- Where a block of rows, or one that is a whole vector, lies in its array, -/
theorem at_slab {i : (⟨2, ![8192, 1024]⟩ : Shape).Idx} {a b : ℕ} {t : Fin 16} (y : (⟨2, ![512, 1024]⟩ : Shape).Idx) (h : a = t.val ∧ b = 0)
    (h0 : (i 0 : ℕ) = a * 512 + 1 * (y 0).val) (h1 : (i 1 : ℕ) = b * 1024 + 1 * (y 1).val) : i = ix2 (tok t (y 0)) (y 1) :=
  Mlp.ext2 (by show _ = t.val * 512 + (y 0).val; rw [h0, h.1]; omega) (by show _ = (y 1).val; rw [h1, h.2]; omega)

theorem at_all {i y : (⟨2, ![1, 1024]⟩ : Shape).Idx} {a b : ℕ} (h : a = 0 ∧ b = 0)
    (h0 : (i 0 : ℕ) = a * 1 + 1 * (y 0).val) (h1 : (i 1 : ℕ) = b * 1024 + 1 * (y 1).val) : i = y :=
  Mlp.ext2 (by rw [h0, h.1]; omega) (by rw [h1, h.2]; omega)

/-- and the slab of a row. -/
def slabOf (y : (⟨2, ![8192, 1024]⟩ : Shape).Idx) : Fin 16 := ⟨(y 0).val / 512, by have h : (y 0).val < 8192 := (y 0).isLt; omega⟩

theorem in_slab (y : (⟨2, ![8192, 1024]⟩ : Shape).Idx) {a b : ℕ} (h : a = (slabOf y).val ∧ b = 0) :
    (a * 512 ≤ (y 0).val ∧ (y 0).val < a * 512 + 512) ∧ (b * 1024 ≤ (y 1).val ∧ (y 1).val < b * 1024 + 1024) := by
  have h1 : (y 1).val < 1024 := (y 1).isLt
  have e : (slabOf y).val = (y 0).val / 512 := rfl
  rw [h.1, h.2, e]
  omega

theorem in_all (y : (⟨2, ![1, 1024]⟩ : Shape).Idx) {a b : ℕ} (h : a = 0 ∧ b = 0) :
    (a * 1 ≤ (y 0).val ∧ (y 0).val < a * 1 + 1) ∧ (b * 1024 ≤ (y 1).val ∧ (y 1).val < b * 1024 + 1024) := by
  have h0 : (y 0).val < 1 := (y 0).isLt
  have h1 : (y 1).val < 1024 := (y 1).isLt
  rw [h.1, h.2]
  omega

/-- Numbers each of which adds a slab's sum to the one before end at the sum over all rows. -/
theorem total (f : Fin 8192 → EReal) (a : Fin 16 → EReal) (h0 : a 0 = ∑ r, f (tok 0 r))
    (hs : ∀ (n : ℕ) (h : n + 1 < 16), a ⟨n + 1, h⟩ = a ⟨n, by omega⟩ + ∑ r, f (tok ⟨n + 1, h⟩ r)) : a 15 = ∑ k, f k := by
  let F : ℕ → EReal := fun n => if h : n < 8192 then f ⟨n, h⟩ else 0
  have slabs (t : Fin 16) : ∑ r, f (tok t r) = ∑ r ∈ Finset.range 512, F (t.val * 512 + r) := by
    rw [Finset.sum_range]
    exact Finset.sum_congr rfl fun r _ => by
      show _ = dite _ _ _
      rw [dif_pos (show t.val * 512 + r.val < 8192 by omega)]
      rfl
  have key : ∀ (n : ℕ) (h : n < 16), a ⟨n, h⟩ = ∑ k ∈ Finset.range ((n + 1) * 512), F k := by
    intro n
    induction n with
    | zero =>
      intro h
      exact h0.trans ((slabs 0).trans (Finset.sum_congr rfl fun r _ => by simp))
    | succ n ih =>
      intro h
      rw [hs n h, ih (by omega), slabs, show (n + 1 + 1) * 512 = (n + 1) * 512 + 512 by omega, Finset.sum_range_add]
  refine (key 15 (by omega)).trans ?_
  rw [Finset.sum_range]
  exact Finset.sum_congr rfl fun k _ => dif_pos k.isLt

end Cert.Norm

end
-- ==== Proof.NormPostIdeal.Product.lean ====
/- The gradients of the root-mean-square norm: slab by slab, two of them summed over the slabs. -/
module

public import proofs.«01_k».proof.Proof.Types
public import proofs.«01_k».proof.Proof.Gen.NormPostIdeal.Frame
public import proofs.«01_k».proof.Proof.Norm.Rms
public import Idealize.ShloMosaic.Lib.Pipeline.Value
public import Idealize.ShloMosaic.Lib.StableHlo.ReadAt

@[expose] public section

set_option maxRecDepth 16384

noncomputable section

namespace Cert.NormPostIdeal.Value

open Idealize.ShloMosaic Idealize.ShloMosaic.TcCoe Idealize.ShloMosaic.Tactic
open Cert.NormPostIdeal.Gen Cert.Norm

theorem hz : (![0, 0] : Fin 2 → ℕ) = fun _ => 0 := by decide

section entries

variable (x d : F32 S512x1024) (g s : F32 S1x1024)

/-- The gradient with respect to the array, -/
theorem pay4_entry (r : Fin 512) (j : Fin 1024) : (k0_pay4 x d g (ix2 r j) : EReal) = back (row x r) (row d r) (row g 0) j := by
  unfold back scale mean row
  pointwise [k0_pay4, k0_pay3]

theorem pay4 : k0_pay4 x d g = input x g d := funext fun y => by
  rw [ValueIdx.eq_ix2 y]
  exact pay4_entry x d g (y 0) (y 1)

/-- a slab's part of the gradient with respect to the scales, added to what is carried, -/
theorem pay7_entry (j : Fin 1024) : (k0_pay7 x d s (ix2 0 j) : EReal) = s (ix2 0 j) + ∑ r, d (ix2 r j) * (x (ix2 r j) * scale (row x r)) := by
  unfold scale mean row
  pointwise [k0_pay7, k0_pay3]

theorem pay7 : k0_pay7 x d s = added s (weight x d) := funext fun y => by
  rw [ValueIdx.eq_ix2 y, Fin.fin_one_eq_zero (y 0 : Fin 1)]
  exact pay7_entry x d s (y 1)

/-- and a slab's sums of columns. -/
theorem pay1_entry (j : Fin 1024) : (k0_pay1 x s (ix2 0 j) : EReal) = s (ix2 0 j) + ∑ r, x (ix2 r j) := by
  pointwise [k0_pay1]

theorem pay1 : k0_pay1 x s = added s (columns x) := funext fun y => by
  rw [ValueIdx.eq_ix2 y, Fin.fin_one_eq_zero (y 0 : Fin 1)]
  exact pay1_entry x s (y 1)

theorem pay2 : k0_pay2 (F := Ideal) x = x := rfl

/-- The sums start at nothing. -/
theorem pay5 : added (k0_pay5 (F := Ideal)) s = s := funext fun y => (congrArg (· + (s y : EReal)) Ideal.ofBits_zero_f32).trans (zero_add _)
theorem pay6 : added (k0_pay6 (F := Ideal)) s = s := funext fun y => (congrArg (· + (s y : EReal)) Ideal.ofBits_zero_f32).trans (zero_add _)

end entries

section cases

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S512x1024 .bf16) (harg4 : arg4.IsWhole)
  (arg5 : Memref sig .tc .vmem S1x1024 .f32) (harg5 : arg5.IsWhole)
  (arg6 : Memref sig .tc .vmem S1x1024 .f32) (harg6 : arg6.IsWhole)
  (x d : F32 S512x1024) (g : F32 S1x1024) (s s' : F32 S1x1024)

/-- What a first point leaves, and what a later one does. -/
theorem left_A (hc0) :
    out0_A_3 (F := Ideal) c i arg1 harg1 arg2 harg2 arg3 harg3 arg4 harg4 arg5 harg5 arg6 harg6 hc0 x g d = (input x g d)
    ∧ out0_A_4 (F := Ideal) c i arg1 harg1 arg2 harg2 arg3 harg3 arg4 harg4 arg5 harg5 arg6 harg6 hc0 x g d = weight x d
    ∧ out0_A_5 (F := Ideal) c i arg1 harg1 arg2 harg2 arg3 harg3 arg4 harg4 arg5 harg5 arg6 harg6 hc0 x g d = columns (input x g d) := by
  unfold out0_A_3 out0_A_4 out0_A_5 kernelRun0_A
  sl_unfold_words
  simp only [View.read_writes_junk_eq_canon, View.canon_cons_unit_zero (S := S512x1024) hz, View.canon_cons_unit_zero (S := S1x1024) hz,
    View.readAt_eq_ld, harg1.read_unread, harg2.read_unread, harg3.read_unread, harg4.read_unread, harg5.read_unread, harg6.read_unread,
    View.ld_unit_zero (S := S512x1024) hz, View.ld_unit_zero (S := S1x1024) hz, View.readCov_unit_zero (S := S1x1024) _ hz, pay4, pay2, pay1, pay7, pay5, pay6]
  exact ⟨trivial, trivial, trivial⟩

theorem left_B (hc0) :
    out0_B_3 (F := Ideal) c i arg1 harg1 arg2 harg2 arg3 harg3 arg4 harg4 arg5 harg5 arg6 harg6 hc0 x g d s s' = (input x g d)
    ∧ out0_B_4 (F := Ideal) c i arg1 harg1 arg2 harg2 arg3 harg3 arg4 harg4 arg5 harg5 arg6 harg6 hc0 x g d s s' = added s (weight x d)
    ∧ out0_B_5 (F := Ideal) c i arg1 harg1 arg2 harg2 arg3 harg3 arg4 harg4 arg5 harg5 arg6 harg6 hc0 x g d s s' = added s' (columns (input x g d)) := by
  unfold out0_B_3 out0_B_4 out0_B_5 kernelRun0_B
  sl_unfold_words
  simp only [View.read_writes_junk_eq_canon, View.canon_cons_unit_zero (S := S512x1024) hz, View.canon_cons_unit_zero (S := S1x1024) hz,
    View.readAt_eq_ld, harg1.read_unread, harg2.read_unread, harg3.read_unread, harg4.read_unread, harg5.read_unread, harg6.read_unread,
    View.ld_unit_zero (S := S512x1024) hz, View.ld_unit_zero (S := S1x1024) hz, pay4, pay2, pay1, pay7]
  exact ⟨trivial, trivial, trivial⟩

end cases

variable (m : (ℓ : Loc nD τ sig) → Buf (Elt Ideal) ℓ)

/-- The arguments, -/
abbrev lx (c : Dev nD) : Mat 8192 := V m c main_arg0
abbrev lg (c : Dev nD) : Mat 1 := V m c main_arg1
abbrev ld (c : Dev nD) : Mat 8192 := V m c main_arg2

/-- and the results. -/
def dx (c : Dev nD) : BF16 S8192x1024 := input (lx m c) (lg m c) (ld m c)
def dg (c : Dev nD) : F32 S1x1024 := weight (lx m c) (ld m c)
def sums (c : Dev nD) : F32 S1x1024 := columns (input (lx m c) (lg m c) (ld m c))

def pt (t : Fin 16) : Fin cfg0.N := ⟨t.val, by have hN : cfg0.N = 16 := N_0; omega⟩

theorem of_pt (t : Fin cfg0.N) : ∃ i, t = pt i := ⟨⟨t.val, lt_of_lt_of_eq t.isLt N_0⟩, rfl⟩

/-- Where each window's block lies. -/
theorem at_rows (t : Fin 16) : (win0_0.index (pt t) 0 = t.val ∧ win0_0.index (pt t) 1 = 0) ∧ (win0_2.index (pt t) 0 = t.val ∧ win0_2.index (pt t) 1 = 0) ∧ (win0_3.index (pt t) 0 = t.val ∧ win0_3.index (pt t) 1 = 0) := by
  revert t; decide +kernel
theorem at_scales (t : Fin 16) : (win0_1.index (pt t) 0 = 0 ∧ win0_1.index (pt t) 1 = 0) ∧ (win0_4.index (pt t) 0 = 0 ∧ win0_4.index (pt t) 1 = 0) ∧ (win0_5.index (pt t) 0 = 0 ∧ win0_5.index (pt t) 1 = 0) := by
  revert t; decide +kernel

theorem blk0 (c : Dev nD) (t : Fin 16) : (iblk m c 0 (pt t) : F32 S512x1024) = slab (lx m c) t := funext fun y => by
  unfold iblk
  rw [View.read_apply]
  exact congrArg (lx m c) (at_slab y (at_rows t).1 rfl rfl)

theorem blk2 (c : Dev nD) (t : Fin 16) : (iblk m c 2 (pt t) : F32 S512x1024) = slab (ld m c) t := funext fun y => by
  unfold iblk
  rw [View.read_apply]
  exact congrArg (ld m c) (at_slab y (at_rows t).2.1 rfl rfl)

theorem blk1 (c : Dev nD) (t : Fin 16) : (iblk m c 1 (pt t) : F32 S1x1024) = lg m c := funext fun y => by
  unfold iblk
  rw [View.read_apply]
  exact congrArg (lg m c) (at_all (at_scales t).1 rfl rfl)

/-- What the points leave. -/
theorem step_first (c : Dev nD) : outsAt0 m c (pt 0).val (pt 0).isLt = (input (slab (lx m c) 0) (lg m c) (slab (ld m c) 0), weight (slab (lx m c) 0) (slab (ld m c) 0), columns (input (slab (lx m c) 0) (lg m c) (slab (ld m c) 0))) := by
  rw [outsAt0_A m c (pt 0) rfl, (left_A ..).1, (left_A ..).2.1, (left_A ..).2.2, blk0, blk1, blk2]

theorem step_later (c : Dev nD) (n : ℕ) (h : n + 1 < 16) :
    outsAt0 m c (pt ⟨n + 1, h⟩).val (pt ⟨n + 1, h⟩).isLt =
      (input (slab (lx m c) ⟨n + 1, h⟩) (lg m c) (slab (ld m c) ⟨n + 1, h⟩), added (outsAt0 m c (pt ⟨n, by omega⟩).val (pt ⟨n, by omega⟩).isLt).2.1 (weight (slab (lx m c) ⟨n + 1, h⟩) (slab (ld m c) ⟨n + 1, h⟩)), added (outsAt0 m c (pt ⟨n, by omega⟩).val (pt ⟨n, by omega⟩).isLt).2.2 (columns (input (slab (lx m c) ⟨n + 1, h⟩) (lg m c) (slab (ld m c) ⟨n + 1, h⟩)))) := by
  rw [outsAt0_B m c (pt ⟨n + 1, h⟩) (by show ¬(n + 1) % 16 = 0; omega), (left_B ..).1, (left_B ..).2.1, (left_B ..).2.2, blk0, blk1, blk2]
  rfl

theorem left3 (c : Dev nD) (t : Fin 16) : (outsAt0 m c (pt t).val (pt t).isLt).1 = fun y => dx m c (ix2 (tok t (y 0)) (y 1)) := by
  obtain ⟨n, h⟩ := t
  cases n with
  | zero => exact (congrArg (·.1) (step_first m c)).trans rfl
  | succ n => exact (congrArg (·.1) (step_later m c n h)).trans rfl

theorem left4 (c : Dev nD) : (outsAt0 m c (pt 15).val (pt 15).isLt).2.1 = dg m c := funext fun y =>
  total (fun k => ld m c (ix2 k (y 1)) * (lx m c (ix2 k (y 1)) * scale (row (lx m c) k))) (fun t => (outsAt0 m c (pt t).val (pt t).isLt).2.1 y)
    ((congrFun (congrArg (·.2.1) (step_first m c)) y).trans rfl) fun n h => (congrFun (congrArg (·.2.1) (step_later m c n h)) y).trans rfl

theorem left5 (c : Dev nD) : (outsAt0 m c (pt 15).val (pt 15).isLt).2.2 = sums m c := funext fun y =>
  total (fun k => input (lx m c) (lg m c) (ld m c) (ix2 k (y 1))) (fun t => (outsAt0 m c (pt t).val (pt t).isLt).2.2 y)
    ((congrFun (congrArg (·.2.2) (step_first m c)) y).trans rfl) fun n h => (congrFun (congrArg (·.2.2) (step_later m c n h)) y).trans rfl

/-- What is written back is the results there, and the arrays end at them. -/
theorem flushed3 (c : Dev nD) (t : Fin 16) : (dats m 0 c).flushed 3 (pt t) = ((cfg0.win 3).blk (pt t)).view.read (Elt Ideal) (dx m c) := by
  show (cfg0.win 3).cut (grid0.coords (pt t)) ((dats m 0 c).after 3 (pt t)) = _
  rw [after0_3, left3]
  exact funext fun y : S512x1024.Idx => (congrArg (dx m c) (at_slab y (at_rows t).2.2 rfl rfl)).symm

theorem final3 (c : Dev nD) : (dats m 0 c).arrAt 3 cfg0.N = dx m c :=
  (dats m 0 c).arrAt_eq_of_cover 3 (dx m c) (fun t _ => by obtain ⟨i, rfl⟩ := of_pt t; exact flushed3 m c i) fun y => by
    refine ⟨pt (slabOf y), flush0_3 _, ?_⟩
    show y ∈ ((View.whole main_v0_0).slice (win0_3.rect (pt (slabOf y)))).set
    rw [View.set_slice_whole, Rect.mem_set_unit]
    exact fun a => match a with
    | ⟨0, _⟩ => (in_slab y (at_rows (slabOf y)).2.2).1
    | ⟨1, _⟩ => (in_slab y (at_rows (slabOf y)).2.2).2

theorem flushed4 (c : Dev nD) : (dats m 0 c).flushed 4 (pt 15) = ((cfg0.win 4).blk (pt 15)).view.read (Elt Ideal) (dg m c) := by
  show (cfg0.win 4).cut (grid0.coords (pt 15)) ((dats m 0 c).after 4 (pt 15)) = _
  rw [after0_4, left4]
  exact funext fun y : S1x1024.Idx => (congrArg (dg m c) (at_all (at_scales 15).2.1 rfl rfl)).symm

theorem final4 (c : Dev nD) : (dats m 0 c).arrAt 4 cfg0.N = dg m c :=
  (dats m 0 c).arrAt_eq_of_cover 4 (dg m c)
    (fun t ht => by
      obtain rfl : t = pt 15 := Fin.ext (by have h := (flush0_4 t).mp ht; have hN : cfg0.N = 16 := N_0; have hl := t.isLt; show t.val = 15; omega)
      exact flushed4 m c) fun y => by
    refine ⟨pt 15, (flush0_4 _).mpr rfl, ?_⟩
    show y ∈ ((View.whole main_v0_1).slice (win0_4.rect (pt 15))).set
    rw [View.set_slice_whole, Rect.mem_set_unit]
    exact fun a => match a with
    | ⟨0, _⟩ => (in_all y (at_scales 15).2.1).1
    | ⟨1, _⟩ => (in_all y (at_scales 15).2.1).2

theorem flushed5 (c : Dev nD) : (dats m 0 c).flushed 5 (pt 15) = ((cfg0.win 5).blk (pt 15)).view.read (Elt Ideal) (sums m c) := by
  show (cfg0.win 5).cut (grid0.coords (pt 15)) ((dats m 0 c).after 5 (pt 15)) = _
  rw [after0_5, left5]
  exact funext fun y : S1x1024.Idx => (congrArg (sums m c) (at_all (at_scales 15).2.2 rfl rfl)).symm

theorem final5 (c : Dev nD) : (dats m 0 c).arrAt 5 cfg0.N = sums m c :=
  (dats m 0 c).arrAt_eq_of_cover 5 (sums m c)
    (fun t ht => by
      obtain rfl : t = pt 15 := Fin.ext (by have h := (flush0_5 t).mp ht; have hN : cfg0.N = 16 := N_0; have hl := t.isLt; show t.val = 15; omega)
      exact flushed5 m c) fun y => by
    refine ⟨pt 15, (flush0_5 _).mpr rfl, ?_⟩
    show y ∈ ((View.whole main_v0_2).slice (win0_5.rect (pt 15))).set
    rw [View.set_slice_whole, Rect.mem_set_unit]
    exact fun a => match a with
    | ⟨0, _⟩ => (in_all y (at_scales 15).2.2).1
    | ⟨1, _⟩ => (in_all y (at_scales 15).2.2).2

/-- The first result in the wider format. -/
def wide (c : Dev nD) : F32 S8192x1024 := fun y => (dx m c y : EReal)

theorem tail_reads (U : Valuation τ sig (Elt Ideal)) (y : S8192x1024.Idx) :
    (StableHlo.after (List.flatten [hostOps1]) U (Proc.devRef .tc main_v1) y : EReal) = (U (Proc.devRef .tc main_v0_0) : BF16 S8192x1024) y := by
  simp only [hostOps1, List.flatten_cons, List.flatten_nil, List.append_nil]
  after_reads_at

theorem wide_eq (c : Dev nD) : Pipeline.afterTail₀ cfgs (dats m) 0 (V0 m) [hostOps1] c main_v1 = wide m c := by
  refine funext fun (y : S8192x1024.Idx) => ?_
  refine (tail_reads _ y).trans ?_
  exact congrFun ((Pipeline.withArrays_arr spec0 (by decide) c (V0 m c) (fun w => (dats m 0 c).arrAt w cfg0.N) 3).trans (final3 m c)) y

end Cert.NormPostIdeal.Value

end
-- ==== Proof.NormPreIdeal.Product.lean ====
/- The gradients of the root-mean-square norm, a second array added to the first of them: slab by slab, two of them summed over the slabs. -/
module

public import proofs.«01_k».proof.Proof.Types
public import proofs.«01_k».proof.Proof.Gen.NormPreIdeal.Frame
public import proofs.«01_k».proof.Proof.NormPostIdeal.Product
public import Idealize.ShloMosaic.Lib.Pipeline.Value
public import Idealize.ShloMosaic.Lib.StableHlo.ReadAt

@[expose] public section

set_option maxRecDepth 16384

noncomputable section

namespace Cert.NormPreIdeal.Value

open Idealize.ShloMosaic Idealize.ShloMosaic.TcCoe Idealize.ShloMosaic.Tactic
open Cert.NormPreIdeal.Gen Cert.Norm

theorem hz : (![0, 0] : Fin 2 → ℕ) = fun _ => 0 := by decide

section entries

variable (x d : F32 S512x1024) (g s : F32 S1x1024)

/-- The same pieces as without the stream's gradient; -/
theorem pay4 : k0_pay4 x d g = input x g d := Eq.trans rfl (NormPostIdeal.Value.pay4 x d g)
theorem pay7 : k0_pay7 x d s = added s (weight x d) := Eq.trans rfl (NormPostIdeal.Value.pay7 x d s)
theorem pay1 : k0_pay1 x s = added s (columns x) := Eq.trans rfl (NormPostIdeal.Value.pay1 x s)

/-- here that gradient is added. -/
theorem pay2 : k0_pay2 x d = added x d := rfl

/-- The sums start at nothing. -/
theorem pay5 : added (k0_pay5 (F := Ideal)) s = s := funext fun y => (congrArg (· + (s y : EReal)) Ideal.ofBits_zero_f32).trans (zero_add _)
theorem pay6 : added (k0_pay6 (F := Ideal)) s = s := funext fun y => (congrArg (· + (s y : EReal)) Ideal.ofBits_zero_f32).trans (zero_add _)

end entries

section cases

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S512x1024 .f32) (harg5 : arg5.IsWhole)
  (arg6 : Memref sig .tc .vmem S1x1024 .f32) (harg6 : arg6.IsWhole)
  (arg7 : Memref sig .tc .vmem S1x1024 .f32) (harg7 : arg7.IsWhole)
  (x d : F32 S512x1024) (g : F32 S1x1024) (u : F32 S512x1024) (s s' : F32 S1x1024)

/-- What a first point leaves, and what a later one does. -/
theorem left_A (hc0) :
    out0_A_4 (F := Ideal) c i arg1 harg1 arg2 harg2 arg3 harg3 arg4 harg4 arg5 harg5 arg6 harg6 arg7 harg7 hc0 x g d u = (added (input x g d) u)
    ∧ out0_A_5 (F := Ideal) c i arg1 harg1 arg2 harg2 arg3 harg3 arg4 harg4 arg5 harg5 arg6 harg6 arg7 harg7 hc0 x g d u = weight x d
    ∧ out0_A_6 (F := Ideal) c i arg1 harg1 arg2 harg2 arg3 harg3 arg4 harg4 arg5 harg5 arg6 harg6 arg7 harg7 hc0 x g d u = columns (input x g d) := by
  unfold out0_A_4 out0_A_5 out0_A_6 kernelRun0_A
  sl_unfold_words
  simp only [View.read_writes_junk_eq_canon, View.canon_cons_unit_zero (S := S512x1024) hz, View.canon_cons_unit_zero (S := S1x1024) hz,
    View.readAt_eq_ld, harg1.read_unread, harg2.read_unread, harg3.read_unread, harg4.read_unread, harg5.read_unread, harg6.read_unread, harg7.read_unread,
    View.ld_unit_zero (S := S512x1024) hz, View.ld_unit_zero (S := S1x1024) hz, View.readCov_unit_zero (S := S1x1024) _ hz, pay4, pay2, pay1, pay7, pay5, pay6]
  exact ⟨trivial, trivial, trivial⟩

theorem left_B (hc0) :
    out0_B_4 (F := Ideal) c i arg1 harg1 arg2 harg2 arg3 harg3 arg4 harg4 arg5 harg5 arg6 harg6 arg7 harg7 hc0 x g d u s s' = (added (input x g d) u)
    ∧ out0_B_5 (F := Ideal) c i arg1 harg1 arg2 harg2 arg3 harg3 arg4 harg4 arg5 harg5 arg6 harg6 arg7 harg7 hc0 x g d u s s' = added s (weight x d)
    ∧ out0_B_6 (F := Ideal) c i arg1 harg1 arg2 harg2 arg3 harg3 arg4 harg4 arg5 harg5 arg6 harg6 arg7 harg7 hc0 x g d u s s' = added s' (columns (input x g d)) := by
  unfold out0_B_4 out0_B_5 out0_B_6 kernelRun0_B
  sl_unfold_words
  simp only [View.read_writes_junk_eq_canon, View.canon_cons_unit_zero (S := S512x1024) hz, View.canon_cons_unit_zero (S := S1x1024) hz,
    View.readAt_eq_ld, harg1.read_unread, harg2.read_unread, harg3.read_unread, harg4.read_unread, harg5.read_unread, harg6.read_unread, harg7.read_unread,
    View.ld_unit_zero (S := S512x1024) hz, View.ld_unit_zero (S := S1x1024) hz, pay4, pay2, pay1, pay7]
  exact ⟨trivial, trivial, trivial⟩

end cases

variable (m : (ℓ : Loc nD τ sig) → Buf (Elt Ideal) ℓ)

/-- The arguments, -/
abbrev lx (c : Dev nD) : Mat 8192 := V m c main_arg0
abbrev lg (c : Dev nD) : Mat 1 := V m c main_arg1
abbrev ld (c : Dev nD) : Mat 8192 := V m c main_arg2
abbrev lu (c : Dev nD) : Mat 8192 := V m c main_arg3

/-- and the results. -/
def dx (c : Dev nD) : F32 S8192x1024 := added (input (lx m c) (lg m c) (ld m c)) (lu m c)
def dg (c : Dev nD) : F32 S1x1024 := weight (lx m c) (ld m c)

def pt (t : Fin 16) : Fin cfg0.N := ⟨t.val, by have hN : cfg0.N = 16 := N_0; omega⟩

theorem of_pt (t : Fin cfg0.N) : ∃ i, t = pt i := ⟨⟨t.val, lt_of_lt_of_eq t.isLt N_0⟩, rfl⟩

/-- Where each window's block lies. -/
theorem at_rows (t : Fin 16) : (win0_0.index (pt t) 0 = t.val ∧ win0_0.index (pt t) 1 = 0) ∧ (win0_2.index (pt t) 0 = t.val ∧ win0_2.index (pt t) 1 = 0) ∧ (win0_3.index (pt t) 0 = t.val ∧ win0_3.index (pt t) 1 = 0) ∧ (win0_4.index (pt t) 0 = t.val ∧ win0_4.index (pt t) 1 = 0) := by
  revert t; decide +kernel
theorem at_scales (t : Fin 16) : (win0_1.index (pt t) 0 = 0 ∧ win0_1.index (pt t) 1 = 0) ∧ (win0_5.index (pt t) 0 = 0 ∧ win0_5.index (pt t) 1 = 0) := by
  revert t; decide +kernel

theorem blk0 (c : Dev nD) (t : Fin 16) : (iblk m c 0 (pt t) : F32 S512x1024) = slab (lx m c) t := funext fun y => by
  unfold iblk
  rw [View.read_apply]
  exact congrArg (lx m c) (at_slab y (at_rows t).1 rfl rfl)

theorem blk2 (c : Dev nD) (t : Fin 16) : (iblk m c 2 (pt t) : F32 S512x1024) = slab (ld m c) t := funext fun y => by
  unfold iblk
  rw [View.read_apply]
  exact congrArg (ld m c) (at_slab y (at_rows t).2.1 rfl rfl)

theorem blk3 (c : Dev nD) (t : Fin 16) : (iblk m c 3 (pt t) : F32 S512x1024) = slab (lu m c) t := funext fun y => by
  unfold iblk
  rw [View.read_apply]
  exact congrArg (lu m c) (at_slab y (at_rows t).2.2.1 rfl rfl)

theorem blk1 (c : Dev nD) (t : Fin 16) : (iblk m c 1 (pt t) : F32 S1x1024) = lg m c := funext fun y => by
  unfold iblk
  rw [View.read_apply]
  exact congrArg (lg m c) (at_all (at_scales t).1 rfl rfl)

/-- What the points leave. -/
theorem step_first (c : Dev nD) : outsAt0 m c (pt 0).val (pt 0).isLt = (added (input (slab (lx m c) 0) (lg m c) (slab (ld m c) 0)) (slab (lu m c) 0), weight (slab (lx m c) 0) (slab (ld m c) 0), columns (input (slab (lx m c) 0) (lg m c) (slab (ld m c) 0))) := by
  rw [outsAt0_A m c (pt 0) rfl, (left_A ..).1, (left_A ..).2.1, (left_A ..).2.2, blk0, blk1, blk2, blk3]

theorem step_later (c : Dev nD) (n : ℕ) (h : n + 1 < 16) :
    outsAt0 m c (pt ⟨n + 1, h⟩).val (pt ⟨n + 1, h⟩).isLt =
      (added (input (slab (lx m c) ⟨n + 1, h⟩) (lg m c) (slab (ld m c) ⟨n + 1, h⟩)) (slab (lu m c) ⟨n + 1, h⟩), added (outsAt0 m c (pt ⟨n, by omega⟩).val (pt ⟨n, by omega⟩).isLt).2.1 (weight (slab (lx m c) ⟨n + 1, h⟩) (slab (ld m c) ⟨n + 1, h⟩)), added (outsAt0 m c (pt ⟨n, by omega⟩).val (pt ⟨n, by omega⟩).isLt).2.2 (columns (input (slab (lx m c) ⟨n + 1, h⟩) (lg m c) (slab (ld m c) ⟨n + 1, h⟩)))) := by
  rw [outsAt0_B m c (pt ⟨n + 1, h⟩) (by show ¬(n + 1) % 16 = 0; omega), (left_B ..).1, (left_B ..).2.1, (left_B ..).2.2, blk0, blk1, blk2, blk3]
  rfl

theorem left4 (c : Dev nD) (t : Fin 16) : (outsAt0 m c (pt t).val (pt t).isLt).1 = fun y => dx m c (ix2 (tok t (y 0)) (y 1)) := by
  obtain ⟨n, h⟩ := t
  cases n with
  | zero => exact (congrArg (·.1) (step_first m c)).trans rfl
  | succ n => exact (congrArg (·.1) (step_later m c n h)).trans rfl

theorem left5 (c : Dev nD) : (outsAt0 m c (pt 15).val (pt 15).isLt).2.1 = dg m c := funext fun y =>
  total (fun k => ld m c (ix2 k (y 1)) * (lx m c (ix2 k (y 1)) * scale (row (lx m c) k))) (fun t => (outsAt0 m c (pt t).val (pt t).isLt).2.1 y)
    ((congrFun (congrArg (·.2.1) (step_first m c)) y).trans rfl) fun n h => (congrFun (congrArg (·.2.1) (step_later m c n h)) y).trans rfl

/-- What is written back is the results there, and the arrays end at them. -/
theorem flushed4 (c : Dev nD) (t : Fin 16) : (dats m 0 c).flushed 4 (pt t) = ((cfg0.win 4).blk (pt t)).view.read (Elt Ideal) (dx m c) := by
  show (cfg0.win 4).cut (grid0.coords (pt t)) ((dats m 0 c).after 4 (pt t)) = _
  rw [after0_4, left4]
  exact funext fun y : S512x1024.Idx => (congrArg (dx m c) (at_slab y (at_rows t).2.2.2 rfl rfl)).symm

theorem final4 (c : Dev nD) : (dats m 0 c).arrAt 4 cfg0.N = dx m c :=
  (dats m 0 c).arrAt_eq_of_cover 4 (dx m c) (fun t _ => by obtain ⟨i, rfl⟩ := of_pt t; exact flushed4 m c i) fun y => by
    refine ⟨pt (slabOf y), flush0_4 _, ?_⟩
    show y ∈ ((View.whole main_v0_0).slice (win0_4.rect (pt (slabOf y)))).set
    rw [View.set_slice_whole, Rect.mem_set_unit]
    exact fun a => match a with
    | ⟨0, _⟩ => (in_slab y (at_rows (slabOf y)).2.2.2).1
    | ⟨1, _⟩ => (in_slab y (at_rows (slabOf y)).2.2.2).2

theorem flushed5 (c : Dev nD) : (dats m 0 c).flushed 5 (pt 15) = ((cfg0.win 5).blk (pt 15)).view.read (Elt Ideal) (dg m c) := by
  show (cfg0.win 5).cut (grid0.coords (pt 15)) ((dats m 0 c).after 5 (pt 15)) = _
  rw [after0_5, left5]
  exact funext fun y : S1x1024.Idx => (congrArg (dg m c) (at_all (at_scales 15).2 rfl rfl)).symm

theorem final5 (c : Dev nD) : (dats m 0 c).arrAt 5 cfg0.N = dg m c :=
  (dats m 0 c).arrAt_eq_of_cover 5 (dg m c)
    (fun t ht => by
      obtain rfl : t = pt 15 := Fin.ext (by have h := (flush0_5 t).mp ht; have hN : cfg0.N = 16 := N_0; have hl := t.isLt; show t.val = 15; omega)
      exact flushed5 m c) fun y => by
    refine ⟨pt 15, (flush0_5 _).mpr rfl, ?_⟩
    show y ∈ ((View.whole main_v0_1).slice (win0_5.rect (pt 15))).set
    rw [View.set_slice_whole, Rect.mem_set_unit]
    exact fun a => match a with
    | ⟨0, _⟩ => (in_all y (at_scales 15).2).1
    | ⟨1, _⟩ => (in_all y (at_scales 15).2).2

end Cert.NormPreIdeal.Value

end
-- ==== Proof.ResNormIdeal.Product.lean ====
/- An array of rows with another's norm added, and the norm of that: slab by slab. -/
module

public import proofs.«01_k».proof.Proof.Types
public import proofs.«01_k».proof.Proof.Gen.ResNormIdeal.Frame
public import proofs.«01_k».proof.Proof.Norm.Rms
public import Idealize.ShloMosaic.Lib.Pipeline.Value
public import Idealize.ShloMosaic.Lib.StableHlo.ReadAt

@[expose] public section

noncomputable section

namespace Cert.ResNormIdeal.Value

open Idealize.ShloMosaic Idealize.ShloMosaic.TcCoe Idealize.ShloMosaic.Tactic
open Cert.ResNormIdeal.Gen Cert.Norm

theorem hz : (![0, 0] : Fin 2 → ℕ) = fun _ => 0 := by decide

/-- The body's two results are the two norms of its blocks. -/
theorem entry4 (x b : F32 S512x1024) (g : F32 S1x1024) (r : Fin 512) (j : Fin 1024) :
    (k0_pay1 x b g (ix2 r j) : EReal) = x (ix2 r j) + normed (row b r) (row g 0) j := by
  unfold normed scale mean row
  pointwise [k0_pay1]

theorem entry5 (x b : F32 S512x1024) (g g' : F32 S1x1024) (r : Fin 512) (j : Fin 1024) :
    (k0_pay2 x b g g' (ix2 r j) : EReal) = normed (row (k0_pay1 x b g) r) (row g' 0) j := by
  unfold normed scale mean row
  pointwise [k0_pay2]

theorem pay1 (x b : F32 S512x1024) (g : F32 S1x1024) : k0_pay1 x b g = stream x b g := funext fun y => by
  rw [ValueIdx.eq_ix2 y]
  exact entry4 x b g (y 0) (y 1)

theorem out4 (x b : F32 S512x1024) (g g' : F32 S1x1024) : out0_4 x b g g' = stream x b g := by
  unfold out0_4
  rw [View.canon_unit_zero (S := S512x1024) hz]
  simp only [View.ld_unit_zero (S := S512x1024) hz, View.ld_unit_zero (S := S1x1024) hz]
  exact pay1 x b g

theorem out5 (x b : F32 S512x1024) (g g' : F32 S1x1024) : out0_5 x b g g' = output (stream x b g) g' := by
  unfold out0_5
  rw [View.canon_unit_zero (S := S512x1024) hz]
  simp only [View.ld_unit_zero (S := S512x1024) hz, View.ld_unit_zero (S := S1x1024) hz]
  refine funext fun y => ?_
  rw [ValueIdx.eq_ix2 y, ← pay1]
  exact entry5 x b g g' (y 0) (y 1)

variable (m : (ℓ : Loc nD τ sig) → Buf (Elt Ideal) ℓ)

/-- The arguments, -/
abbrev lx (c : Dev nD) : Mat 8192 := V m c main_arg0
abbrev lm (c : Dev nD) : Mat 8192 := V m c main_arg1
abbrev g1 (c : Dev nD) : Mat 1 := V m c main_arg2
abbrev g2 (c : Dev nD) : Mat 1 := V m c main_arg3

/-- and the two results. -/
def first (c : Dev nD) : F32 S8192x1024 := stream (lx m c) (lm m c) (g1 m c)
def second (c : Dev nD) : BF16 S8192x1024 := output (stream (lx m c) (lm m c) (g1 m c)) (g2 m c)

def pt (t : Fin 16) : Fin cfg0.N := ⟨t.val, by have hN : cfg0.N = 16 := N_0; omega⟩

theorem of_pt (t : Fin cfg0.N) : ∃ i, t = pt i := ⟨⟨t.val, lt_of_lt_of_eq t.isLt N_0⟩, rfl⟩

/-- Where each window's block lies. -/
theorem at_rows (t : Fin 16) : (win0_0.index (pt t) 0 = t.val ∧ win0_0.index (pt t) 1 = 0) ∧ (win0_1.index (pt t) 0 = t.val ∧ win0_1.index (pt t) 1 = 0) ∧
    (win0_4.index (pt t) 0 = t.val ∧ win0_4.index (pt t) 1 = 0) ∧ (win0_5.index (pt t) 0 = t.val ∧ win0_5.index (pt t) 1 = 0) := by
  revert t; decide +kernel
theorem at_scales (t : Fin 16) : (win0_2.index (pt t) 0 = 0 ∧ win0_2.index (pt t) 1 = 0) ∧ (win0_3.index (pt t) 0 = 0 ∧ win0_3.index (pt t) 1 = 0) := by
  revert t; decide +kernel

theorem blk0 (c : Dev nD) (t : Fin 16) : (iblk m c 0 (pt t) : F32 S512x1024) = slab (lx m c) t := funext fun y => by
  unfold iblk
  rw [View.read_apply]
  exact congrArg (lx m c) (at_slab y (at_rows t).1 rfl rfl)

theorem blk1 (c : Dev nD) (t : Fin 16) : (iblk m c 1 (pt t) : F32 S512x1024) = slab (lm m c) t := funext fun y => by
  unfold iblk
  rw [View.read_apply]
  exact congrArg (lm m c) (at_slab y (at_rows t).2.1 rfl rfl)

theorem blk2 (c : Dev nD) (t : Fin 16) : (iblk m c 2 (pt t) : F32 S1x1024) = g1 m c := funext fun y => by
  unfold iblk
  rw [View.read_apply]
  exact congrArg (g1 m c) (at_all (at_scales t).1 rfl rfl)

theorem blk3 (c : Dev nD) (t : Fin 16) : (iblk m c 3 (pt t) : F32 S1x1024) = g2 m c := funext fun y => by
  unfold iblk
  rw [View.read_apply]
  exact congrArg (g2 m c) (at_all (at_scales t).2 rfl rfl)

/-- What each point writes back is the results' slab there. -/
theorem flushed4 (c : Dev nD) (t : Fin 16) : (dats m 0 c).flushed 4 (pt t) = ((cfg0.win 4).blk (pt t)).view.read (Elt Ideal) (first m c) := by
  show (cfg0.win 4).cut (grid0.coords (pt t)) ((dats m 0 c).after 4 (pt t)) = _
  rw [after0_4, out4, blk0, blk1, blk2]
  exact funext fun y : S512x1024.Idx => (congrArg (first m c) (at_slab y (at_rows t).2.2.1 rfl rfl)).symm

theorem flushed5 (c : Dev nD) (t : Fin 16) : (dats m 0 c).flushed 5 (pt t) = ((cfg0.win 5).blk (pt t)).view.read (Elt Ideal) (second m c) := by
  show (cfg0.win 5).cut (grid0.coords (pt t)) ((dats m 0 c).after 5 (pt t)) = _
  rw [after0_5, out5, blk0, blk1, blk2, blk3]
  exact funext fun y : S512x1024.Idx => (congrArg (second m c) (at_slab y (at_rows t).2.2.2 rfl rfl)).symm

/-- The arrays end at the results. -/
theorem final4 (c : Dev nD) : (dats m 0 c).arrAt 4 cfg0.N = first m c :=
  (dats m 0 c).arrAt_eq_of_cover 4 (first m c) (fun t _ => by obtain ⟨i, rfl⟩ := of_pt t; exact flushed4 m c i) fun y => by
    refine ⟨pt (slabOf y), flush0_4 _, ?_⟩
    show y ∈ ((View.whole main_v0_0).slice (win0_4.rect (pt (slabOf y)))).set
    rw [View.set_slice_whole, Rect.mem_set_unit]
    exact fun a => match a with
    | ⟨0, _⟩ => (in_slab y (at_rows (slabOf y)).2.2.1).1
    | ⟨1, _⟩ => (in_slab y (at_rows (slabOf y)).2.2.1).2

theorem final5 (c : Dev nD) : (dats m 0 c).arrAt 5 cfg0.N = second m c :=
  (dats m 0 c).arrAt_eq_of_cover 5 (second m c) (fun t _ => by obtain ⟨i, rfl⟩ := of_pt t; exact flushed5 m c i) fun y => by
    refine ⟨pt (slabOf y), flush0_5 _, ?_⟩
    show y ∈ ((View.whole main_v0_1).slice (win0_5.rect (pt (slabOf y)))).set
    rw [View.set_slice_whole, Rect.mem_set_unit]
    exact fun a => match a with
    | ⟨0, _⟩ => (in_slab y (at_rows (slabOf y)).2.2.2).1
    | ⟨1, _⟩ => (in_slab y (at_rows (slabOf y)).2.2.2).2

/-- The second result in the wider format. -/
def wide (c : Dev nD) : F32 S8192x1024 := fun y => (second m c y : EReal)

theorem tail_reads (U : Valuation τ sig (Elt Ideal)) (y : S8192x1024.Idx) :
    (StableHlo.after (List.flatten [hostOps1]) U (Proc.devRef .tc main_v1) y : EReal) = (U (Proc.devRef .tc main_v0_1) : BF16 S8192x1024) y := by
  simp only [hostOps1, List.flatten_cons, List.flatten_nil, List.append_nil]
  after_reads_at

theorem wide_eq (c : Dev nD) : Pipeline.afterTail₀ cfgs (dats m) 0 (V0 m) [hostOps1] c main_v1 = wide m c := by
  refine funext fun (y : S8192x1024.Idx) => ?_
  refine (tail_reads _ y).trans ?_
  exact congrFun ((Pipeline.withArrays_arr spec0 (by decide) c (V0 m c) (fun w => (dats m 0 c).arrAt w cfg0.N) 5).trans (final5 m c)) y

end Cert.ResNormIdeal.Value

end
-- ==== Proof.Norm.Equation.lean ====
/- The norms and their gradients are the reference's, entry by entry. -/
module

public import proofs.«01_k».proof.Proof.Gen.ReferenceNormInIdeal.Read
public import proofs.«01_k».proof.Proof.Gen.ReferenceResNormIdeal.Read
public import proofs.«01_k».proof.Proof.Gen.ReferenceNormPostIdeal.Read
public import proofs.«01_k».proof.Proof.Gen.ReferenceNormPreIdeal.Read
public import proofs.«01_k».proof.Proof.Norm.Rms

@[expose] public section

noncomputable section

namespace Cert.Norm

open Idealize.ShloMosaic Idealize.ShloMosaic.TcCoe Idealize.ShloMosaic.Tactic

namespace In
open Cert.ReferenceNormInIdeal Cert.ReferenceNormInIdeal.Read

variable (x : FVec Ideal S8192x1024 .f32) (g : FVec Ideal S1x1024 .f32)

theorem entry (r : Fin 8192) (j : Fin 1024) : (val_main_v13 (F := Ideal) x g (ix2 r j) : EReal) = normed (row x r) (row g 0) j := by
  unfold normed scale mean row
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]

theorem eq : output x g = val_main_v13 (F := Ideal) x g := funext fun y => by
  rw [ValueIdx.eq_ix2 y]
  exact (entry x g (y 0) (y 1)).symm

end In

namespace Res
open Cert.ReferenceResNormIdeal Cert.ReferenceResNormIdeal.Read

variable (x b : FVec Ideal S8192x1024 .f32) (g g' : FVec Ideal S1x1024 .f32)

theorem entry (r : Fin 8192) (j : Fin 1024) : (val_main_v14 (F := Ideal) x b g (ix2 r j) : EReal) = x (ix2 r j) + normed (row b r) (row g 0) j := by
  unfold normed scale mean row
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]

theorem first : stream x b g = val_main_v14 (F := Ideal) x b g := funext fun y => by
  rw [ValueIdx.eq_ix2 y]
  exact (entry x b g (y 0) (y 1)).symm

theorem entry' (r : Fin 8192) (j : Fin 1024) :
    (val_main_v28 (F := Ideal) x b g g' (ix2 r j) : EReal) = normed (row (val_main_v14 (F := Ideal) x b g) r) (row g' 0) j := by
  unfold normed scale mean row
  pointwise [val_main_v15, val_main_v16, val_main_v17, val_main_v18, val_main_v19, val_main_v20, val_main_v21, val_main_v22, val_main_v23, val_main_v24, val_main_v25, val_main_v26, val_main_v27, val_main_v28, val_main_cst_2, val_main_cst_3, val_main_cst_4]

theorem second : output (stream x b g) g' = val_main_v28 (F := Ideal) x b g g' := funext fun y => by
  rw [ValueIdx.eq_ix2 y, first]
  exact (entry' x b g g' (y 0) (y 1)).symm

end Res

namespace Post
open Cert.ReferenceNormPostIdeal Cert.ReferenceNormPostIdeal.Read

variable (x d : FVec Ideal S8192x1024 .f32) (g : FVec Ideal S1x1024 .f32)

theorem input_entry (r : Fin 8192) (j : Fin 1024) : (val_main_v36 (F := Ideal) x g d (ix2 r j) : EReal) = back (row x r) (row d r) (row g 0) j := by
  rw [← back_eq]
  unfold scale mean row
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8]

theorem input_eq : input x g d = val_main_v36 (F := Ideal) x g d := funext fun y => by
  rw [ValueIdx.eq_ix2 y]
  exact (input_entry x d g (y 0) (y 1)).symm

theorem weight_entry (j : Fin 1024) : (val_main_v37 (F := Ideal) x d (ix2 0 j) : EReal) = ∑ _k : Fin 1, ∑ r, x (ix2 r j) * scale (row x r) * d (ix2 r j) := by
  unfold scale mean row
  pointwise [val_main_v37, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]

theorem weight_eq : weight x d = val_main_v37 (F := Ideal) x d := funext fun y => by
  rw [ValueIdx.eq_ix2 y, Fin.fin_one_eq_zero (y 0 : Fin 1)]
  refine Eq.trans ?_ (weight_entry x d (y 1)).symm
  rw [Fin.sum_univ_one]
  exact Finset.sum_congr rfl fun r _ => mul_comm _ _

theorem columns_entry (j : Fin 1024) : (val_main_v39 (F := Ideal) x g d (ix2 0 j) : EReal) = ∑ r, val_main_v36 (F := Ideal) x g d (ix2 r j) := by
  pointwise [val_main_v39, val_main_v38, val_main_cst_9]

theorem columns_eq : columns (input x g d) = val_main_v39 (F := Ideal) x g d := funext fun y => by
  rw [ValueIdx.eq_ix2 y, Fin.fin_one_eq_zero (y 0 : Fin 1), input_eq]
  exact (columns_entry x d g (y 1)).symm

end Post

namespace Pre
open Cert.ReferenceNormPreIdeal Cert.ReferenceNormPreIdeal.Read

variable (x d u : FVec Ideal S8192x1024 .f32) (g : FVec Ideal S1x1024 .f32)

/-- The same operations as before. -/
theorem input_eq : input x g d = val_main_v36 (F := Ideal) x g d := (Post.input_eq x d g).trans rfl

theorem weight_eq : weight x d = val_main_v37 (F := Ideal) x d := (Post.weight_eq x d).trans rfl

theorem added_eq : added (input x g d) u = val_main_v38 (F := Ideal) x g d u := by
  rw [input_eq]
  rfl

end Pre

end Cert.Norm

end
-- ==== Proof.MergeIdeal.Product.lean ====
/- The heads' data lanes side by side: head `y / 64` of a row gives its column `y`, two heads to a block. -/
module

public import proofs.«01_k».proof.Proof.Gen.MergeIdeal.Frame
public import proofs.«01_k».proof.Proof.Gen.ReferenceMergeIdeal.Read
public import proofs.«01_k».proof.Proof.Mlp.Blocks
public import Idealize.ShloMosaic.Lib.Pipeline.Value
public import Idealize.ShloMosaic.Lib.StableHlo.ReadAt

@[expose] public section

noncomputable section

namespace Cert.MergeIdeal.Value

open Idealize.ShloMosaic Idealize.ShloMosaic.TcCoe Idealize.ShloMosaic.Tactic
open Idealize.SL Idealize.SL.Sem
open Cert.MergeIdeal.Gen

theorem hz : (![0, 0] : Fin 2 → ℕ) = fun _ => 0 := by decide

/-- The body puts the second head's lanes behind the first's. -/
theorem entry (a b : Vec Ideal S1x2048x128 .f32) (r : Fin 2048) (l : Fin 128) :
    (k0_pay1 a b (ix2 r l) : EReal) = if l.val < 64 then a (ix3 0 r l) else b (ix3 0 r ⟨(l.val + 128 - 64) % 128, by omega⟩) := by
  have hl := l.isLt
  have e : IntOp.cmpi .slt (BitVec.ofNat 32 l.val) 64#32 = if l.val < 64 then 1#1 else 0#1 := by
    have h : (BitVec.ofNat 32 l.val).toInt = l.val := by
      rw [BitVec.toInt_eq_toNat_of_lt (by simp; omega)]; simp; omega
    simp only [IntOp.cmpi, BitVec.slt, h]
    by_cases hh : l.val < 64 <;> simp [hh]
  pointwise [k0_pay1]
  rw [e]
  by_cases hh : l.val < 64 <;> simp [hh, Scalar.select]

theorem out1 (x : Vec Ideal S2x2048x128 .f32) (r : Fin 2048) (l : Fin 128) :
    (out0_1 x (ix2 r l) : EReal) = x (ix3 ⟨l.val / 64, by omega⟩ r ⟨l.val % 64, by omega⟩) := by
  unfold out0_1
  rw [View.canon_unit_zero (S := S2048x128) hz, entry]
  have hl := l.isLt
  by_cases h : l.val < 64 <;> simp only [h, if_true, if_false] <;> refine congrArg x (funext fun a => Fin.ext ?_)
  · match a with
    | ⟨0, _⟩ => show 0 + 1 * 0 = l.val / 64; omega
    | ⟨1, _⟩ => show 0 + 1 * r.val = r.val; omega
    | ⟨2, _⟩ => show 0 + 1 * l.val = l.val % 64; omega
  · match a with
    | ⟨0, _⟩ => show 1 + 1 * 0 = l.val / 64; omega
    | ⟨1, _⟩ => show 0 + 1 * r.val = r.val; omega
    | ⟨2, _⟩ => show 0 + 1 * ((l.val + 128 - 64) % 128) = l.val % 64; omega

variable (m : (ℓ : Loc nD τ sig) → Buf (Elt Ideal) ℓ) (c : Dev nD)

/-- The argument, and the result. -/
abbrev lx : Vec Ideal S16x8192x128 .f32 := V m c main_arg0
def merged (x : Vec Ideal S16x8192x128 .f32) : Vec Ideal S8192x1024 .f32 := fun y =>
  x (ix3 ⟨(y 1).val / 64, by have h : (y 1).val < 1024 := (y 1).isLt; omega⟩ (y 0) ⟨(y 1).val % 64, by omega⟩)
def result : Vec Ideal S8192x1024 .bf16 := fun y => (merged (lx m c) y : EReal)

def pt (t : Fin 32) : Fin cfg0.N := ⟨t.val, by have hN : cfg0.N = 32 := N_0; omega⟩

theorem of_pt (t : Fin cfg0.N) : ∃ i, t = pt i := ⟨⟨t.val, lt_of_lt_of_eq t.isLt N_0⟩, rfl⟩

/-- Where each window's block lies. -/
theorem at_in (t : Fin 32) : win0_0.index (pt t) 0 = t.val % 8 ∧ win0_0.index (pt t) 1 = t.val / 8 ∧ win0_0.index (pt t) 2 = 0 := by
  revert t; decide +kernel
theorem at_out (t : Fin 32) : win0_1.index (pt t) 0 = t.val / 8 ∧ win0_1.index (pt t) 1 = t.val % 8 := by
  revert t; decide +kernel

/-- What each point writes back is the result's block there. -/
theorem flushed1 (t : Fin 32) : (dats m 0 c).flushed 1 (pt t) = ((cfg0.win 1).blk (pt t)).view.read (Elt Ideal) (result m c) := by
  show (cfg0.win 1).cut (grid0.coords (pt t)) ((dats m 0 c).after 1 (pt t)) = _
  rw [after0_1]
  refine funext fun y : S2048x128.Idx => ?_
  have h1 : (y 1).val < 128 := (y 1).isLt
  obtain ⟨a0, a1, a2⟩ := at_in t
  obtain ⟨b0, b1⟩ := at_out t
  refine (congrArg (out0_1 (iblk m c 0 (pt t))) (ValueIdx.eq_ix2 y)).trans ((out1 _ (y 0) (y 1)).trans ?_)
  unfold iblk
  rw [View.read_apply, View.read_apply]
  refine congrArg (lx m c) (funext fun a => Fin.ext ?_)
  match a with
  | ⟨0, _⟩ => show win0_0.index (pt t) 0 * 2 + 1 * ((y 1).val / 64) = (win0_1.index (pt t) 1 * 128 + 1 * (y 1).val) / 64; rw [a0, b1]; omega
  | ⟨1, _⟩ => show win0_0.index (pt t) 1 * 2048 + 1 * (y 0).val = win0_1.index (pt t) 0 * 2048 + 1 * (y 0).val; rw [a1, b0]
  | ⟨2, _⟩ => show win0_0.index (pt t) 2 * 128 + 1 * ((y 1).val % 64) = (win0_1.index (pt t) 1 * 128 + 1 * (y 1).val) % 64; rw [a2, b1]; omega

def ptOf (y : S8192x1024.Idx) : Fin 32 := ⟨(y 0).val / 2048 * 8 + (y 1).val / 128, by
  have h0 : (y 0).val < 8192 := (y 0).isLt
  have h1 : (y 1).val < 1024 := (y 1).isLt
  omega⟩

/-- The array ends at the result. -/
theorem final1 : (dats m 0 c).arrAt 1 cfg0.N = result m c :=
  (dats m 0 c).arrAt_eq_of_cover 1 (result m c) (fun t _ => by obtain ⟨i, rfl⟩ := of_pt t; exact flushed1 m c i) fun y => by
    have h1 : (y 1).val < 1024 := (y 1).isLt
    have e : (ptOf y).val = (y 0).val / 2048 * 8 + (y 1).val / 128 := rfl
    refine ⟨pt (ptOf y), flush0_1 _, ?_⟩
    show y ∈ ((View.whole main_v0).slice (win0_1.rect (pt (ptOf y)))).set
    rw [View.set_slice_whole, Rect.mem_set_unit]
    exact fun a => match a with
    | ⟨0, _⟩ => Mlp.within 2048 (y 0).val (at_out (ptOf y)).1 (by omega)
    | ⟨1, _⟩ => Mlp.within 128 (y 1).val (at_out (ptOf y)).2 (by omega)

theorem tail_reads (U : Valuation τ sig (Elt Ideal)) (y : S8192x1024.Idx) :
    (StableHlo.after (List.flatten [hostOps1]) U (Proc.devRef .tc main_v1) y : EReal) = (U (Proc.devRef .tc main_v0) : Vec Ideal S8192x1024 .bf16) y := by
  simp only [hostOps1, List.flatten_cons, List.flatten_nil, List.append_nil]
  after_reads_at

theorem wide_eq : Pipeline.afterTail₀ cfgs (dats m) 0 (V0 m) [hostOps1] c main_v1 = merged (lx m c) := by
  refine funext fun (y : S8192x1024.Idx) => ?_
  refine (tail_reads _ y).trans ?_
  exact congrFun ((Pipeline.withArrays_arr spec0 (by decide) c (V0 m c) (fun w => (dats m 0 c).arrAt w cfg0.N) 1).trans (final1 m c)) y

open Cert.ReferenceMergeIdeal.Read in
/-- It is the reference's. -/
theorem eq (x : Vec Ideal S16x8192x128 .f32) : merged x = val_main_v2 (F := Ideal) x := funext fun y => by
  have h0 : (y 0).val < 8192 := (y 0).isLt
  have h1 : (y 1).val < 1024 := (y 1).isLt
  rw [val_main_v2_apply, val_main_v1_apply, val_main_v0_apply]
  refine congrArg x (funext fun a => Fin.ext ?_)
  match a with
  | ⟨0, _⟩ => show (y 1).val / 64 = ((y 0).val * 1024 + (y 1).val) / 64 % 16; omega
  | ⟨1, _⟩ => show (y 0).val = ((y 0).val * 1024 + (y 1).val) / 1024; omega
  | ⟨2, _⟩ => show (y 1).val % 64 = ((y 0).val * 1024 + (y 1).val) % 64; omega

end Cert.MergeIdeal.Value

end
-- ==== Proof.NormInIdeal.Product.lean ====
/- The norm of an array of rows, slab by slab. -/
module

public import proofs.«01_k».proof.Proof.Gen.NormInIdeal.Frame
public import proofs.«01_k».proof.Proof.Norm.Rms
public import Idealize.ShloMosaic.Lib.Pipeline.Value
public import Idealize.ShloMosaic.Lib.StableHlo.ReadAt

@[expose] public section

noncomputable section

namespace Cert.NormInIdeal.Value

open Idealize.ShloMosaic Idealize.ShloMosaic.TcCoe Idealize.ShloMosaic.Tactic
open Idealize.SL Idealize.SL.Sem
open Cert.NormInIdeal.Gen Cert.Norm

theorem hz : (![0, 0] : Fin 2 → ℕ) = fun _ => 0 := by decide

/-- The body's result is the norm of its block. -/
theorem entry (x : Vec Ideal S512x1024 .f32) (g : Vec Ideal S1x1024 .f32) (r : Fin 512) (j : Fin 1024) :
    (k0_pay1 x g (ix2 r j) : EReal) = normed (row x r) (row g 0) j := by
  unfold normed scale mean row
  pointwise [k0_pay1]

theorem out2 (x : Vec Ideal S512x1024 .f32) (g : Vec Ideal S1x1024 .f32) : out0_2 x g = output x g := by
  unfold out0_2
  rw [View.canon_unit_zero (S := S512x1024) hz]
  simp only [View.ld_unit_zero (S := S512x1024) hz, View.ld_unit_zero (S := S1x1024) hz]
  refine funext fun y => ?_
  rw [ValueIdx.eq_ix2 y]
  exact entry x g (y 0) (y 1)

variable (m : (ℓ : Loc nD τ sig) → Buf (Elt Ideal) ℓ) (c : Dev nD)

/-- The arguments, -/
abbrev lx : Mat 8192 := V m c main_arg0
abbrev lg : Mat 1 := V m c main_arg1

/-- and the result. -/
def result : Vec Ideal S8192x1024 .bf16 := output (lx m c) (lg m c)

def pt (t : Fin 16) : Fin cfg0.N := ⟨t.val, by have hN : cfg0.N = 16 := N_0; omega⟩

theorem of_pt (t : Fin cfg0.N) : ∃ i, t = pt i := ⟨⟨t.val, lt_of_lt_of_eq t.isLt N_0⟩, rfl⟩

/-- Where each window's block lies. -/
theorem at_rows (t : Fin 16) : (win0_0.index (pt t) 0 = t.val ∧ win0_0.index (pt t) 1 = 0) ∧ (win0_2.index (pt t) 0 = t.val ∧ win0_2.index (pt t) 1 = 0) := by
  revert t; decide +kernel
theorem at_scale (t : Fin 16) : win0_1.index (pt t) 0 = 0 ∧ win0_1.index (pt t) 1 = 0 := by
  revert t; decide +kernel

theorem blk0 (t : Fin 16) : (iblk m c 0 (pt t) : Vec Ideal S512x1024 .f32) = slab (lx m c) t := funext fun y => by
  unfold iblk
  rw [View.read_apply]
  exact congrArg (lx m c) (at_slab y (at_rows t).1 rfl rfl)

theorem blk1 (t : Fin 16) : (iblk m c 1 (pt t) : Vec Ideal S1x1024 .f32) = lg m c := funext fun y => by
  unfold iblk
  rw [View.read_apply]
  exact congrArg (lg m c) (at_all (at_scale t) rfl rfl)

/-- What each point writes back is the result's slab there. -/
theorem flushed2 (t : Fin 16) : (dats m 0 c).flushed 2 (pt t) = ((cfg0.win 2).blk (pt t)).view.read (Elt Ideal) (result m c) := by
  show (cfg0.win 2).cut (grid0.coords (pt t)) ((dats m 0 c).after 2 (pt t)) = _
  rw [after0_2, out2, blk0, blk1]
  exact funext fun y : S512x1024.Idx => (congrArg (result m c) (at_slab y (at_rows t).2 rfl rfl)).symm

/-- The array ends at the result. -/
theorem final2 : (dats m 0 c).arrAt 2 cfg0.N = result m c :=
  (dats m 0 c).arrAt_eq_of_cover 2 (result m c) (fun t _ => by obtain ⟨i, rfl⟩ := of_pt t; exact flushed2 m c i) fun y => by
    refine ⟨pt (slabOf y), flush0_2 _, ?_⟩
    show y ∈ ((View.whole main_v0).slice (win0_2.rect (pt (slabOf y)))).set
    rw [View.set_slice_whole, Rect.mem_set_unit]
    exact fun a => match a with
    | ⟨0, _⟩ => (in_slab y (at_rows (slabOf y)).2).1
    | ⟨1, _⟩ => (in_slab y (at_rows (slabOf y)).2).2

/-- The result in the wider format. -/
def wide : Vec Ideal S8192x1024 .f32 := fun y => (result m c y : EReal)

theorem tail_reads (U : Valuation τ sig (Elt Ideal)) (y : S8192x1024.Idx) :
    (StableHlo.after (List.flatten [hostOps1]) U (Proc.devRef .tc main_v1) y : EReal) = (U (Proc.devRef .tc main_v0) : Vec Ideal S8192x1024 .bf16) y := by
  simp only [hostOps1, List.flatten_cons, List.flatten_nil, List.append_nil]
  after_reads_at

theorem wide_eq : Pipeline.afterTail₀ cfgs (dats m) 0 (V0 m) [hostOps1] c main_v1 = wide m c := by
  refine funext fun (y : S8192x1024.Idx) => ?_
  refine (tail_reads _ y).trans ?_
  exact congrFun ((Pipeline.withArrays_arr spec0 (by decide) c (V0 m c) (fun w => (dats m 0 c).arrAt w cfg0.N) 2).trans (final2 m c)) y

end Cert.NormInIdeal.Value

end
-- ==== Proof.lean ====
/- The certificate: the frames, the named constants, the gradients of attention with respect to the queries, the keys
   and the values, and the gradients through the hidden layer and through the projections, and the forward products, the norms and
   their gradients, and the heads merged. -/
module

public import proofs.«01_k».proof.Proof.Kernel.Frame
public import proofs.«01_k».proof.Proof.KernelKV.Frame
public import proofs.«01_k».proof.Proof.EquationKV
public import proofs.«01_k».proof.Proof.Gen.Dact.Frame
public import proofs.«01_k».proof.Proof.Gen.Dwdown.Frame
public import proofs.«01_k».proof.Proof.Gen.Dh.Frame
public import proofs.«01_k».proof.Proof.Gen.Dwup.Frame
public import proofs.«01_k».proof.Proof.Mlp.Equation
public import proofs.«01_k».proof.Proof.Gen.DwSquare.Frame
public import proofs.«01_k».proof.Proof.Gen.DxSquare.Frame
public import proofs.«01_k».proof.Proof.Gen.DwIn.Frame
public import proofs.«01_k».proof.Proof.Gen.DhIn.Frame
public import proofs.«01_k».proof.Proof.Gen.DwConv.Frame
public import proofs.«01_k».proof.Proof.Gen.DhConv.Frame
public import proofs.«01_k».proof.Proof.Mlp.Projections
public import proofs.«01_k».proof.Proof.Gen.Up.Frame
public import proofs.«01_k».proof.Proof.Gen.Down.Frame
public import proofs.«01_k».proof.Proof.Gen.Pw1.Frame
public import proofs.«01_k».proof.Proof.Gen.Pw2.Frame
public import proofs.«01_k».proof.Proof.Gen.AttnIn.Frame
public import proofs.«01_k».proof.Proof.Gen.GateIn.Frame
public import proofs.«01_k».proof.Proof.Gen.AttnOut.Frame
public import proofs.«01_k».proof.Proof.Mlp.Forward
public import proofs.«01_k».proof.Proof.Gen.NormPre.Frame
public import proofs.«01_k».proof.Proof.NormPreIdeal.Product
public import proofs.«01_k».proof.Proof.Gen.NormPost.Frame
public import proofs.«01_k».proof.Proof.Gen.ResNorm.Frame
public import proofs.«01_k».proof.Proof.ResNormIdeal.Product
public import proofs.«01_k».proof.Proof.Norm.Equation
public import proofs.«01_k».proof.Proof.Gen.Merge.Frame
public import proofs.«01_k».proof.Proof.MergeIdeal.Product
public import proofs.«01_k».proof.Proof.Gen.ReferenceMergeIdeal.Run
public import proofs.«01_k».proof.Proof.Gen.NormIn.Frame
public import proofs.«01_k».proof.Proof.NormInIdeal.Product
public import proofs.«01_k».proof.Proof.Gen.ReferenceNormInIdeal.Run
public import proofs.«01_k».proof.Proof.Gen.ReferenceNormInIdeal.Read

@[expose] public section

noncomputable section

namespace Cert.Proof

open Idealize.ShloMosaic Idealize.SL.Sem

/-- The kernel's frame. -/
theorem frame_p : quiescent_Kernel := fun m ρ _ => Kernel.Dq.frame (F := Bits) m ρ

/-- The idealized kernel's frame. -/
theorem frame_pi : quiescent_KernelIdeal := fun m ρ _ => KernelIdeal.Dq.frame (F := Ideal) m ρ

/-- The reference's frame: its run keeps the arguments, and it declares no semaphore. -/
theorem frame_ri : quiescent_ReferenceIdeal := fun m ρ _ =>
  (θ_run _ _ _).mono (fun r h => ⟨fun c => (h c).2.2, sem_eq_zero_of_no_sems (by decide) r.2⟩) (ReferenceIdeal.Value.run m ρ)

/-- The constant below which a block is skipped is named, and its name is −∞. -/
theorem preserves : preserves_Kernel_KernelIdeal :=
  IdealRules.named_const.statement KernelIdeal.κ "skip" .f32 0xC2D00000#32 ⊥ rfl

/-- Both programs end with the same gradients of the queries and of the forgetting term. -/
theorem algebraic : algebraic_KernelIdeal_ReferenceIdeal_pre_finite := by
  intro m g m' g' hm hargs
  refine ⟨fun c => KernelIdeal.Dq.dq m c, fun c => KernelIdeal.Dq.df m c, KernelIdeal.Dq.run m g, ?_⟩
  refine (θ_run _ _ _).mono (fun r h c => ?_) (ReferenceIdeal.Value.run m' g')
  obtain ⟨q, k, v, o, f, R⟩ := Equation.reals m c hm
  obtain ⟨h0, h1, h2, h3, h4⟩ := hargs c
  refine ⟨(h c).1.trans ?_, (h c).2.1.trans ?_, (h c).2.2⟩
  · refine (ReferenceIdeal.Read.val_main_v64_eq m' c).trans ?_
    rw [h0, h1, h2, h3, h4]
    exact (Equation.dq_ref R).symm
  · refine (ReferenceIdeal.Read.val_main_v61_eq m' c).trans ?_
    rw [h0, h1, h2, h3, h4]
    exact (Equation.df_ref R).symm

/-- The same of the kernel of the keys and values: its frame, -/
theorem frame_p2 : quiescent_KernelKV := fun m ρ _ => KernelKV.Dkv.frame (F := Bits) m ρ

/-- the idealized kernel's, -/
theorem frame_pi2 : quiescent_KernelKVIdeal := fun m ρ _ => KernelKVIdeal.Dkv.frame (F := Ideal) m ρ

/-- its reference's, -/
theorem frame_ri2 : quiescent_ReferenceKVIdeal := fun m ρ _ =>
  (θ_run _ _ _).mono (fun r h => ⟨fun c => (h c).2.2.2, sem_eq_zero_of_no_sems (by decide) r.2⟩) (ReferenceKVIdeal.Value.run m ρ)

/-- its named constant, -/
theorem preserves2 : preserves_KernelKV_KernelKVIdeal :=
  IdealRules.named_const.statement KernelKVIdeal.κ "skip" .f32 0xC2D00000#32 ⊥ rfl

/-- and the gradients of the keys, of the forgetting term and of the values both programs end with. -/
theorem algebraic2 : algebraic_KernelKVIdeal_ReferenceKVIdeal_pre_finite := by
  intro m g m' g' hm hargs
  refine ⟨fun c => KernelKVIdeal.Dkv.dk m c, fun c => KernelKVIdeal.Dkv.df m c, fun c => KernelKVIdeal.Dkv.dv m c, KernelKVIdeal.Dkv.run m g, ?_⟩
  refine (θ_run _ _ _).mono (fun r h c => ?_) (ReferenceKVIdeal.Value.run m' g')
  obtain ⟨q, k, v, o, f, R⟩ := Equation.KV.reals m c hm
  obtain ⟨h0, h1, h2, h3, h4⟩ := hargs c
  refine ⟨(h c).1.trans ?_, (h c).2.1.trans ?_, (h c).2.2.1.trans ?_, (h c).2.2.2⟩
  · refine (ReferenceKVIdeal.Read.val_main_v67_eq m' c).trans ?_
    rw [h0, h1, h2, h3, h4]
    exact (Equation.KV.dk_ref R).symm
  · refine (ReferenceKVIdeal.Read.val_main_v64_eq m' c).trans ?_
    rw [h0, h1, h2, h3, h4]
    exact (Equation.KV.df_ref R).symm
  · refine (ReferenceKVIdeal.Read.val_main_v46_eq m' c).trans ?_
    rw [h0, h1, h3, h4]
    exact (Equation.KV.dv_ref R).symm

/-- The values of the gradient of the hidden layer before its activation. -/
theorem frame_dact_reference : quiescent_ReferenceDactIdeal := fun m ρ _ =>
  (θ_run _ _ _).mono (fun r h => ⟨fun c => (h c).2, sem_eq_zero_of_no_sems (by decide) r.2⟩) (ReferenceDactIdeal.Value.run m ρ)
theorem algebraic_dact : algebraic_DactIdeal_ReferenceDactIdeal_pre_finite_u := by
  intro m g m' g' hm hargs
  refine ⟨fun c => DactIdeal.Value.du m c,
    (θ_run _ _ _).mono (fun _ h c => ⟨((h.2 c).2 _ (Pipeline.mem_restRefs_of _ (by decide) (by decide))).trans (DactIdeal.Value.du_eq m c), h.1 c⟩)
      (θ_run_and (DactIdeal.Gen.unchanged m g) (DactIdeal.Gen.run_main m g)), ?_⟩
  refine (θ_run _ _ _).mono (fun r h c => ?_) (ReferenceDactIdeal.Value.run m' g')
  obtain ⟨h0, h1, h2⟩ := hargs c
  refine ⟨(h c).1.trans ?_, (h c).2⟩
  refine (ReferenceDactIdeal.Read.val_main_v11_eq (F := Ideal) _ _ _).trans ?_
  rw [h0, h1, h2]
  exact (Mlp.dact_ref m c hm).symm

/-- The values of the gradient of the second weights. -/
theorem frame_dwdown_reference : quiescent_ReferenceDwdownIdeal := fun m ρ _ =>
  (θ_run _ _ _).mono (fun r h => ⟨fun c => (h c).2, sem_eq_zero_of_no_sems (by decide) r.2⟩) (ReferenceDwdownIdeal.Value.run m ρ)
theorem algebraic_dwdown : algebraic_DwdownIdeal_ReferenceDwdownIdeal := by
  intro m g m' g' hm hargs
  refine ⟨fun c => DwdownIdeal.Value.result m c,
    (θ_run _ _ _).mono (fun _ h c => ⟨((h.2 c).1 2).trans (DwdownIdeal.Value.final m c), h.1 c⟩)
      (θ_run_and (DwdownIdeal.Gen.unchanged m g) (DwdownIdeal.Gen.run_main m g)), ?_⟩
  refine (θ_run _ _ _).mono (fun r h c => ?_) (ReferenceDwdownIdeal.Value.run m' g')
  obtain ⟨h0, h1, h2⟩ := hargs c
  refine ⟨(h c).1.trans ?_, (h c).2⟩
  refine (ReferenceDwdownIdeal.Read.val_main_v4_eq (F := Ideal) _ _).trans ?_
  rw [h0, h2]
  exact (Mlp.dwdown_ref m c).symm

/-- The values of the gradient of the hidden layer's input. -/
theorem frame_dh_reference : quiescent_ReferenceDhIdeal := fun m ρ _ =>
  (θ_run _ _ _).mono (fun r h => ⟨fun c => (h c).2, sem_eq_zero_of_no_sems (by decide) r.2⟩) (ReferenceDhIdeal.Value.run m ρ)
theorem algebraic_dh : algebraic_DhIdeal_ReferenceDhIdeal := by
  intro m g m' g' hm hargs
  refine ⟨fun c => DhIdeal.Value.result m c,
    (θ_run _ _ _).mono (fun _ h c => ⟨((h.2 c).1 2).trans (DhIdeal.Value.final m c), h.1 c⟩)
      (θ_run_and (DhIdeal.Gen.unchanged m g) (DhIdeal.Gen.run_main m g)), ?_⟩
  refine (θ_run _ _ _).mono (fun r h c => ?_) (ReferenceDhIdeal.Value.run m' g')
  obtain ⟨h0, h1, h2⟩ := hargs c
  refine ⟨(h c).1.trans ?_, (h c).2⟩
  refine (ReferenceDhIdeal.Read.val_main_v1_eq (F := Ideal) _ _).trans ?_
  rw [h1, h2]
  exact (Mlp.dh_ref m c).symm

/-- The values of the gradient of the first weights. -/
theorem frame_dwup_reference : quiescent_ReferenceDwupIdeal := fun m ρ _ =>
  (θ_run _ _ _).mono (fun r h => ⟨fun c => (h c).2, sem_eq_zero_of_no_sems (by decide) r.2⟩) (ReferenceDwupIdeal.Value.run m ρ)
theorem algebraic_dwup : algebraic_DwupIdeal_ReferenceDwupIdeal := by
  intro m g m' g' hm hargs
  refine ⟨fun c => DwupIdeal.Value.result m c,
    (θ_run _ _ _).mono (fun _ h c => ⟨((h.2 c).1 2).trans (DwupIdeal.Value.final m c), h.1 c⟩)
      (θ_run_and (DwupIdeal.Gen.unchanged m g) (DwupIdeal.Gen.run_main m g)), ?_⟩
  refine (θ_run _ _ _).mono (fun r h c => ?_) (ReferenceDwupIdeal.Value.run m' g')
  obtain ⟨h0, h1, h2⟩ := hargs c
  refine ⟨(h c).1.trans ?_, (h c).2⟩
  refine (ReferenceDwupIdeal.Read.val_main_v4_eq (F := Ideal) _ _).trans ?_
  rw [h0, h2]
  exact (Mlp.dwup_ref m c).symm

theorem frame_dw_square_reference : quiescent_ReferenceDwSquareIdeal := fun m ρ _ =>
  (θ_run _ _ _).mono (fun r h => ⟨fun c => (h c).2, sem_eq_zero_of_no_sems (by decide) r.2⟩) (ReferenceDwSquareIdeal.Value.run m ρ)

theorem algebraic_dw_square : algebraic_DwSquareIdeal_ReferenceDwSquareIdeal := by
  intro m g m' g' hm hargs
  refine ⟨fun c => DwSquareIdeal.Value.result m c,
    (θ_run _ _ _).mono (fun _ h c => ⟨((h.2 c).1 2).trans (DwSquareIdeal.Value.final m c), h.1 c⟩)
      (θ_run_and (DwSquareIdeal.Gen.unchanged m g) (DwSquareIdeal.Gen.run_main m g)), ?_⟩
  refine (θ_run _ _ _).mono (fun r h c => ?_) (ReferenceDwSquareIdeal.Value.run m' g')
  obtain ⟨h0, h1, h2⟩ := hargs c
  refine ⟨(h c).1.trans ?_, (h c).2⟩
  refine (ReferenceDwSquareIdeal.Read.val_main_v2_eq (F := Ideal) _ _).trans ?_
  rw [h0, h2]
  exact (Mlp.dw_square_ref m c).symm

theorem frame_dx_square_reference : quiescent_ReferenceDxSquareIdeal := fun m ρ _ =>
  (θ_run _ _ _).mono (fun r h => ⟨fun c => (h c).2, sem_eq_zero_of_no_sems (by decide) r.2⟩) (ReferenceDxSquareIdeal.Value.run m ρ)

theorem algebraic_dx_square : algebraic_DxSquareIdeal_ReferenceDxSquareIdeal := by
  intro m g m' g' hm hargs
  refine ⟨fun c => DxSquareIdeal.Value.result m c,
    (θ_run _ _ _).mono (fun _ h c => ⟨((h.2 c).1 2).trans (DxSquareIdeal.Value.final m c), h.1 c⟩)
      (θ_run_and (DxSquareIdeal.Gen.unchanged m g) (DxSquareIdeal.Gen.run_main m g)), ?_⟩
  refine (θ_run _ _ _).mono (fun r h c => ?_) (ReferenceDxSquareIdeal.Value.run m' g')
  obtain ⟨h0, h1, h2⟩ := hargs c
  refine ⟨(h c).1.trans ?_, (h c).2⟩
  refine (ReferenceDxSquareIdeal.Read.val_main_v1_eq (F := Ideal) _ _).trans ?_
  rw [h1, h2]
  exact (Mlp.dx_square_ref m c).symm

theorem frame_dw_in_reference : quiescent_ReferenceDwInIdeal := fun m ρ _ =>
  (θ_run _ _ _).mono (fun r h => ⟨fun c => (h c).2, sem_eq_zero_of_no_sems (by decide) r.2⟩) (ReferenceDwInIdeal.Value.run m ρ)

theorem algebraic_dw_in : algebraic_DwInIdeal_ReferenceDwInIdeal := by
  intro m g m' g' hm hargs
  refine ⟨fun c => DwInIdeal.Value.shares m c,
    (θ_run _ _ _).mono (fun _ h c => ⟨((h.2 c).2 _ (Pipeline.mem_restRefs_of _ (by decide) (by decide))).trans (DwInIdeal.Value.shares_eq m c), h.1 c⟩)
      (θ_run_and (DwInIdeal.Gen.unchanged m g) (DwInIdeal.Gen.run_main m g)), ?_⟩
  refine (θ_run _ _ _).mono (fun r h c => ?_) (ReferenceDwInIdeal.Value.run m' g')
  obtain ⟨h0, h1, h2⟩ := hargs c
  refine ⟨(h c).1.trans ?_, (h c).2⟩
  refine (ReferenceDwInIdeal.Read.val_main_v4_eq (F := Ideal) _ _).trans ?_
  rw [h0, h2]
  exact (Mlp.dw_in_ref m c).symm

theorem frame_dh_in_reference : quiescent_ReferenceDhInIdeal := fun m ρ _ =>
  (θ_run _ _ _).mono (fun r h => ⟨fun c => (h c).2, sem_eq_zero_of_no_sems (by decide) r.2⟩) (ReferenceDhInIdeal.Value.run m ρ)

theorem algebraic_dh_in : algebraic_DhInIdeal_ReferenceDhInIdeal := by
  intro m g m' g' hm hargs
  refine ⟨fun c => DhInIdeal.Value.result m c,
    (θ_run _ _ _).mono (fun _ h c => ⟨((h.2 c).1 2).trans (DhInIdeal.Value.final m c), h.1 c⟩)
      (θ_run_and (DhInIdeal.Gen.unchanged m g) (DhInIdeal.Gen.run_main m g)), ?_⟩
  refine (θ_run _ _ _).mono (fun r h c => ?_) (ReferenceDhInIdeal.Value.run m' g')
  obtain ⟨h0, h1, h2⟩ := hargs c
  refine ⟨(h c).1.trans ?_, (h c).2⟩
  refine (ReferenceDhInIdeal.Read.val_main_v1_eq (F := Ideal) _ _).trans ?_
  rw [h1, h2]
  exact (Mlp.dh_in_ref m c).symm

theorem frame_dw_conv_reference : quiescent_ReferenceDwConvIdeal := fun m ρ _ =>
  (θ_run _ _ _).mono (fun r h => ⟨fun c => (h c).2, sem_eq_zero_of_no_sems (by decide) r.2⟩) (ReferenceDwConvIdeal.Value.run m ρ)

theorem algebraic_dw_conv : algebraic_DwConvIdeal_ReferenceDwConvIdeal := by
  intro m g m' g' hm hargs
  refine ⟨fun c => DwConvIdeal.Value.result m c,
    (θ_run _ _ _).mono (fun _ h c => ⟨((h.2 c).1 2).trans (DwConvIdeal.Value.final m c), h.1 c⟩)
      (θ_run_and (DwConvIdeal.Gen.unchanged m g) (DwConvIdeal.Gen.run_main m g)), ?_⟩
  refine (θ_run _ _ _).mono (fun r h c => ?_) (ReferenceDwConvIdeal.Value.run m' g')
  obtain ⟨h0, h1, h2⟩ := hargs c
  refine ⟨(h c).1.trans ?_, (h c).2⟩
  refine (ReferenceDwConvIdeal.Read.val_main_v4_eq (F := Ideal) _ _).trans ?_
  rw [h0, h2]
  exact (Mlp.dw_conv_ref m c).symm

theorem frame_dh_conv_reference : quiescent_ReferenceDhConvIdeal := fun m ρ _ =>
  (θ_run _ _ _).mono (fun r h => ⟨fun c => (h c).2, sem_eq_zero_of_no_sems (by decide) r.2⟩) (ReferenceDhConvIdeal.Value.run m ρ)

theorem algebraic_dh_conv : algebraic_DhConvIdeal_ReferenceDhConvIdeal := by
  intro m g m' g' hm hargs
  refine ⟨fun c => DhConvIdeal.Value.result m c,
    (θ_run _ _ _).mono (fun _ h c => ⟨((h.2 c).1 2).trans (DhConvIdeal.Value.final m c), h.1 c⟩)
      (θ_run_and (DhConvIdeal.Gen.unchanged m g) (DhConvIdeal.Gen.run_main m g)), ?_⟩
  refine (θ_run _ _ _).mono (fun r h c => ?_) (ReferenceDhConvIdeal.Value.run m' g')
  obtain ⟨h0, h1, h2⟩ := hargs c
  refine ⟨(h c).1.trans ?_, (h c).2⟩
  refine (ReferenceDhConvIdeal.Read.val_main_v1_eq (F := Ideal) _ _).trans ?_
  rw [h1, h2]
  exact (Mlp.dh_conv_ref m c).symm

theorem frame_up_reference : quiescent_ReferenceUpIdeal := fun m ρ _ =>
  (θ_run _ _ _).mono (fun r h => ⟨fun c => (h c).2, sem_eq_zero_of_no_sems (by decide) r.2⟩) (ReferenceUpIdeal.Value.run m ρ)

theorem algebraic_up : algebraic_UpIdeal_ReferenceUpIdeal := by
  intro m g m' g' hm hargs
  refine ⟨fun c => UpIdeal.Value.results m c,
    (θ_run _ _ _).mono (fun _ h c => ⟨((h.2 c).2 _ (Pipeline.mem_restRefs_of _ (by decide) (by decide))).trans (UpIdeal.Value.results_eq m c), h.1 c⟩)
      (θ_run_and (UpIdeal.Gen.unchanged m g) (UpIdeal.Gen.run_main m g)), ?_⟩
  refine (θ_run _ _ _).mono (fun r h c => ?_) (ReferenceUpIdeal.Value.run m' g')
  obtain ⟨h0, h1⟩ := hargs c
  refine ⟨(h c).1.trans ?_, (h c).2⟩
  refine (ReferenceUpIdeal.Read.val_main_v2_eq (F := Ideal) _ _).trans ?_
  rw [h0, h1]
  exact (Mlp.up_ref m c).symm

theorem frame_down_reference : quiescent_ReferenceDownIdeal := fun m ρ _ =>
  (θ_run _ _ _).mono (fun r h => ⟨fun c => (h c).2, sem_eq_zero_of_no_sems (by decide) r.2⟩) (ReferenceDownIdeal.Value.run m ρ)

theorem algebraic_down : algebraic_DownIdeal_ReferenceDownIdeal := by
  intro m g m' g' hm hargs
  refine ⟨fun c => DownIdeal.Value.result m c,
    (θ_run _ _ _).mono (fun _ h c => ⟨((h.2 c).1 2).trans (DownIdeal.Value.final m c), h.1 c⟩)
      (θ_run_and (DownIdeal.Gen.unchanged m g) (DownIdeal.Gen.run_main m g)), ?_⟩
  refine (θ_run _ _ _).mono (fun r h c => ?_) (ReferenceDownIdeal.Value.run m' g')
  obtain ⟨h0, h1⟩ := hargs c
  refine ⟨(h c).1.trans ?_, (h c).2⟩
  refine (ReferenceDownIdeal.Read.val_main_v0_eq (F := Ideal) _ _).trans ?_
  rw [h0, h1]
  exact (Mlp.down_ref m c).symm

theorem frame_pw1_reference : quiescent_ReferencePw1Ideal := fun m ρ _ =>
  (θ_run _ _ _).mono (fun r h => ⟨fun c => (h c).2, sem_eq_zero_of_no_sems (by decide) r.2⟩) (ReferencePw1Ideal.Value.run m ρ)

theorem algebraic_pw1 : algebraic_Pw1Ideal_ReferencePw1Ideal := by
  intro m g m' g' hm hargs
  refine ⟨fun c => Pw1Ideal.Value.result m c,
    (θ_run _ _ _).mono (fun _ h c => ⟨((h.2 c).1 3).trans (Pw1Ideal.Value.final m c), h.1 c⟩)
      (θ_run_and (Pw1Ideal.Gen.unchanged m g) (Pw1Ideal.Gen.run_main m g)), ?_⟩
  refine (θ_run _ _ _).mono (fun r h c => ?_) (ReferencePw1Ideal.Value.run m' g')
  obtain ⟨h0, h1, h2⟩ := hargs c
  refine ⟨(h c).1.trans ?_, (h c).2⟩
  refine (ReferencePw1Ideal.Read.val_main_v4_eq (F := Ideal) _ _ _).trans ?_
  rw [h0, h1, h2]
  exact (Mlp.pw1_ref m c).symm

theorem frame_pw2_reference : quiescent_ReferencePw2Ideal := fun m ρ _ =>
  (θ_run _ _ _).mono (fun r h => ⟨fun c => (h c).2, sem_eq_zero_of_no_sems (by decide) r.2⟩) (ReferencePw2Ideal.Value.run m ρ)

theorem algebraic_pw2 : algebraic_Pw2Ideal_ReferencePw2Ideal := by
  intro m g m' g' hm hargs
  refine ⟨fun c => Pw2Ideal.Value.result m c,
    (θ_run _ _ _).mono (fun _ h c => ⟨((h.2 c).1 3).trans (Pw2Ideal.Value.final m c), h.1 c⟩)
      (θ_run_and (Pw2Ideal.Gen.unchanged m g) (Pw2Ideal.Gen.run_main m g)), ?_⟩
  refine (θ_run _ _ _).mono (fun r h c => ?_) (ReferencePw2Ideal.Value.run m' g')
  obtain ⟨h0, h1, h2⟩ := hargs c
  refine ⟨(h c).1.trans ?_, (h c).2⟩
  refine (ReferencePw2Ideal.Read.val_main_v4_eq (F := Ideal) _ _ _).trans ?_
  rw [h0, h1, h2]
  exact (Mlp.pw2_ref m c).symm

theorem frame_attn_in_reference : quiescent_ReferenceAttnInIdeal := fun m ρ _ =>
  (θ_run _ _ _).mono (fun r h => ⟨fun c => (h c).2, sem_eq_zero_of_no_sems (by decide) r.2⟩) (ReferenceAttnInIdeal.Value.run m ρ)

theorem algebraic_attn_in : algebraic_AttnInIdeal_ReferenceAttnInIdeal := by
  intro m g m' g' hm hargs
  refine ⟨fun c => AttnInIdeal.Value.results m c,
    (θ_run _ _ _).mono (fun _ h c => ⟨((h.2 c).2 _ (Pipeline.mem_restRefs_of _ (by decide) (by decide))).trans (AttnInIdeal.Value.results_eq m c), h.1 c⟩)
      (θ_run_and (AttnInIdeal.Gen.unchanged m g) (AttnInIdeal.Gen.run_main m g)), ?_⟩
  refine (θ_run _ _ _).mono (fun r h c => ?_) (ReferenceAttnInIdeal.Value.run m' g')
  obtain ⟨h0, h1⟩ := hargs c
  refine ⟨(h c).1.trans ?_, (h c).2⟩
  refine (ReferenceAttnInIdeal.Read.val_main_v1_eq (F := Ideal) _ _).trans ?_
  rw [h0, h1]
  exact (Mlp.attn_in_ref m c).symm

theorem frame_gate_in_reference : quiescent_ReferenceGateInIdeal := fun m ρ _ =>
  (θ_run _ _ _).mono (fun r h => ⟨fun c => (h c).2, sem_eq_zero_of_no_sems (by decide) r.2⟩) (ReferenceGateInIdeal.Value.run m ρ)

theorem algebraic_gate_in : algebraic_GateInIdeal_ReferenceGateInIdeal := by
  intro m g m' g' hm hargs
  refine ⟨fun c => GateInIdeal.Value.results m c,
    (θ_run _ _ _).mono (fun _ h c => ⟨((h.2 c).2 _ (Pipeline.mem_restRefs_of _ (by decide) (by decide))).trans (GateInIdeal.Value.results_eq m c), h.1 c⟩)
      (θ_run_and (GateInIdeal.Gen.unchanged m g) (GateInIdeal.Gen.run_main m g)), ?_⟩
  refine (θ_run _ _ _).mono (fun r h c => ?_) (ReferenceGateInIdeal.Value.run m' g')
  obtain ⟨h0, h1⟩ := hargs c
  refine ⟨(h c).1.trans ?_, (h c).2⟩
  refine (ReferenceGateInIdeal.Read.val_main_v1_eq (F := Ideal) _ _).trans ?_
  rw [h0, h1]
  exact (Mlp.gate_in_ref m c).symm

theorem frame_attn_out_reference : quiescent_ReferenceAttnOutIdeal := fun m ρ _ =>
  (θ_run _ _ _).mono (fun r h => ⟨fun c => (h c).2, sem_eq_zero_of_no_sems (by decide) r.2⟩) (ReferenceAttnOutIdeal.Value.run m ρ)

theorem algebraic_attn_out : algebraic_AttnOutIdeal_ReferenceAttnOutIdeal := by
  intro m g m' g' hm hargs
  refine ⟨fun c => AttnOutIdeal.Value.result m c,
    (θ_run _ _ _).mono (fun _ h c => ⟨((h.2 c).1 2).trans (AttnOutIdeal.Value.final m c), h.1 c⟩)
      (θ_run_and (AttnOutIdeal.Gen.unchanged m g) (AttnOutIdeal.Gen.run_main m g)), ?_⟩
  refine (θ_run _ _ _).mono (fun r h c => ?_) (ReferenceAttnOutIdeal.Value.run m' g')
  obtain ⟨h0, h1⟩ := hargs c
  refine ⟨(h c).1.trans ?_, (h c).2⟩
  refine (ReferenceAttnOutIdeal.Read.val_main_v0_eq (F := Ideal) _ _).trans ?_
  rw [h0, h1]
  exact (Mlp.attn_out_ref m c).symm

/-- The frame and the results of the norm's gradient where the stream's gradient is added, -/
theorem frame_norm_pre_reference : quiescent_ReferenceNormPreIdeal := fun m ρ _ =>
  (θ_run _ _ _).mono (fun r h => ⟨fun c => (h c).2.2, sem_eq_zero_of_no_sems (by decide) r.2⟩) (ReferenceNormPreIdeal.Value.run m ρ)
theorem algebraic_norm_pre : algebraic_NormPreIdeal_ReferenceNormPreIdeal := by
  intro m g m' g' hm hargs
  refine ⟨fun c => NormPreIdeal.Value.dx m c, fun c => NormPreIdeal.Value.dg m c,
    (θ_run _ _ _).mono (fun _ h c => ⟨((h.2 c).1 4).trans (NormPreIdeal.Value.final4 m c), ((h.2 c).1 5).trans (NormPreIdeal.Value.final5 m c), h.1 c⟩)
      (θ_run_and (NormPreIdeal.Gen.unchanged m g) (NormPreIdeal.Gen.run_main m g)), ?_⟩
  refine (θ_run _ _ _).mono (fun r h c => ?_) (ReferenceNormPreIdeal.Value.run m' g')
  obtain ⟨h0, h1, h2, h3⟩ := hargs c
  refine ⟨(h c).1.trans ?_, (h c).2.1.trans ?_, (h c).2.2⟩
  · refine (ReferenceNormPreIdeal.Read.val_main_v38_eq (F := Ideal) _ _ _ _).trans ?_
    rw [h0, h1, h2, h3]
    exact (Norm.Pre.added_eq _ _ _ _).symm
  · refine (ReferenceNormPreIdeal.Read.val_main_v37_eq (F := Ideal) _ _).trans ?_
    rw [h0, h2]
    exact (Norm.Pre.weight_eq _ _).symm

/-- where it is not, with its sums of columns, -/
theorem frame_norm_post_reference : quiescent_ReferenceNormPostIdeal := fun m ρ _ =>
  (θ_run _ _ _).mono (fun r h => ⟨fun c => (h c).2.2.2, sem_eq_zero_of_no_sems (by decide) r.2⟩) (ReferenceNormPostIdeal.Value.run m ρ)
theorem algebraic_norm_post : algebraic_NormPostIdeal_ReferenceNormPostIdeal := by
  intro m g m' g' hm hargs
  refine ⟨fun c => NormPostIdeal.Value.wide m c, fun c => NormPostIdeal.Value.dg m c, fun c => NormPostIdeal.Value.sums m c,
    (θ_run _ _ _).mono (fun _ h c => ⟨((h.2 c).2 _ (Pipeline.mem_restRefs_of _ (by decide) (by decide))).trans (NormPostIdeal.Value.wide_eq m c), ((h.2 c).1 4).trans (NormPostIdeal.Value.final4 m c), ((h.2 c).1 5).trans (NormPostIdeal.Value.final5 m c), h.1 c⟩)
      (θ_run_and (NormPostIdeal.Gen.unchanged m g) (NormPostIdeal.Gen.run_main m g)), ?_⟩
  refine (θ_run _ _ _).mono (fun r h c => ?_) (ReferenceNormPostIdeal.Value.run m' g')
  obtain ⟨h0, h1, h2⟩ := hargs c
  refine ⟨(h c).1.trans ?_, (h c).2.1.trans ?_, (h c).2.2.1.trans ?_, (h c).2.2.2⟩
  · refine (ReferenceNormPostIdeal.Read.val_main_v36_eq (F := Ideal) _ _ _).trans ?_
    rw [h0, h1, h2]
    exact (Norm.Post.input_eq _ _ _).symm
  · refine (ReferenceNormPostIdeal.Read.val_main_v37_eq (F := Ideal) _ _).trans ?_
    rw [h0, h2]
    exact (Norm.Post.weight_eq _ _).symm
  · refine (ReferenceNormPostIdeal.Read.val_main_v39_eq (F := Ideal) _ _ _).trans ?_
    rw [h0, h1, h2]
    exact (Norm.Post.columns_eq _ _ _).symm

/-- and of the addition to the stream followed by the next norm. -/
theorem frame_res_norm_reference : quiescent_ReferenceResNormIdeal := fun m ρ _ =>
  (θ_run _ _ _).mono (fun r h => ⟨fun c => (h c).2.2, sem_eq_zero_of_no_sems (by decide) r.2⟩) (ReferenceResNormIdeal.Value.run m ρ)
theorem algebraic_res_norm : algebraic_ResNormIdeal_ReferenceResNormIdeal := by
  intro m g m' g' hm hargs
  refine ⟨fun c => ResNormIdeal.Value.first m c, fun c => ResNormIdeal.Value.wide m c,
    (θ_run _ _ _).mono (fun _ h c => ⟨((h.2 c).1 4).trans (ResNormIdeal.Value.final4 m c), ((h.2 c).2 _ (Pipeline.mem_restRefs_of _ (by decide) (by decide))).trans (ResNormIdeal.Value.wide_eq m c), h.1 c⟩)
      (θ_run_and (ResNormIdeal.Gen.unchanged m g) (ResNormIdeal.Gen.run_main m g)), ?_⟩
  refine (θ_run _ _ _).mono (fun r h c => ?_) (ReferenceResNormIdeal.Value.run m' g')
  obtain ⟨h0, h1, h2, h3⟩ := hargs c
  refine ⟨(h c).1.trans ?_, (h c).2.1.trans ?_, (h c).2.2⟩
  · refine (ReferenceResNormIdeal.Read.val_main_v14_eq (F := Ideal) _ _ _).trans ?_
    rw [h0, h1, h2]
    exact (Norm.Res.first _ _ _).symm
  · refine (ReferenceResNormIdeal.Read.val_main_v28_eq (F := Ideal) _ _ _ _).trans ?_
    rw [h0, h1, h2, h3]
    exact (Norm.Res.second _ _ _ _).symm

theorem frame_norm_in_reference : quiescent_ReferenceNormInIdeal := fun m ρ _ =>
  (θ_run _ _ _).mono (fun r h => ⟨fun c => (h c).2, sem_eq_zero_of_no_sems (by decide) r.2⟩) (ReferenceNormInIdeal.Value.run m ρ)
theorem algebraic_norm_in : algebraic_NormInIdeal_ReferenceNormInIdeal := by
  intro m g m' g' hm hargs
  refine ⟨fun c => NormInIdeal.Value.wide m c,
    (θ_run _ _ _).mono (fun _ h c => ⟨((h.2 c).2 _ (Pipeline.mem_restRefs_of _ (by decide) (by decide))).trans (NormInIdeal.Value.wide_eq m c), h.1 c⟩)
      (θ_run_and (NormInIdeal.Gen.unchanged m g) (NormInIdeal.Gen.run_main m g)), ?_⟩
  refine (θ_run _ _ _).mono (fun r h c => ?_) (ReferenceNormInIdeal.Value.run m' g')
  obtain ⟨h0, h1⟩ := hargs c
  refine ⟨(h c).1.trans ?_, (h c).2⟩
  refine (ReferenceNormInIdeal.Read.val_main_v13_eq (F := Ideal) _ _).trans ?_
  rw [h0, h1]
  exact (Norm.In.eq _ _).symm

theorem frame_merge_reference : quiescent_ReferenceMergeIdeal := fun m ρ _ =>
  (θ_run _ _ _).mono (fun r h => ⟨fun c => (h c).2, sem_eq_zero_of_no_sems (by decide) r.2⟩) (ReferenceMergeIdeal.Value.run m ρ)
theorem algebraic_merge : algebraic_MergeIdeal_ReferenceMergeIdeal := by
  intro m g m' g' hm hargs
  refine ⟨fun c => MergeIdeal.Value.merged (MergeIdeal.Value.lx m c),
    (θ_run _ _ _).mono (fun _ h c => ⟨((h.2 c).2 _ (Pipeline.mem_restRefs_of _ (by decide) (by decide))).trans (MergeIdeal.Value.wide_eq m c), h.1 c⟩)
      (θ_run_and (MergeIdeal.Gen.unchanged m g) (MergeIdeal.Gen.run_main m g)), ?_⟩
  refine (θ_run _ _ _).mono (fun r h c => ?_) (ReferenceMergeIdeal.Value.run m' g')
  refine ⟨(h c).1.trans ?_, (h c).2⟩
  refine (ReferenceMergeIdeal.Read.val_main_v2_eq (F := Ideal) _).trans ?_
  rw [hargs c]
  exact (MergeIdeal.Value.eq _).symm

/-- All of them. -/
theorem claim : Cert.Claim :=
  ⟨Kernel.Gen.facts, KernelIdeal.Gen.facts, ReferenceIdeal.Gen.facts, KernelKV.Gen.facts, KernelKVIdeal.Gen.facts,
    ReferenceKVIdeal.Gen.facts,
    Dact.Gen.facts, DactIdeal.Gen.facts, ReferenceDactIdeal.Gen.facts,
    Dwdown.Gen.facts, DwdownIdeal.Gen.facts, ReferenceDwdownIdeal.Gen.facts,
    Dh.Gen.facts, DhIdeal.Gen.facts, ReferenceDhIdeal.Gen.facts,
    Dwup.Gen.facts, DwupIdeal.Gen.facts, ReferenceDwupIdeal.Gen.facts,
    DwSquare.Gen.facts, DwSquareIdeal.Gen.facts, ReferenceDwSquareIdeal.Gen.facts,
    DxSquare.Gen.facts, DxSquareIdeal.Gen.facts, ReferenceDxSquareIdeal.Gen.facts,
    DwIn.Gen.facts, DwInIdeal.Gen.facts, ReferenceDwInIdeal.Gen.facts,
    DhIn.Gen.facts, DhInIdeal.Gen.facts, ReferenceDhInIdeal.Gen.facts,
    DwConv.Gen.facts, DwConvIdeal.Gen.facts, ReferenceDwConvIdeal.Gen.facts,
    DhConv.Gen.facts, DhConvIdeal.Gen.facts, ReferenceDhConvIdeal.Gen.facts,
    Up.Gen.facts, UpIdeal.Gen.facts, ReferenceUpIdeal.Gen.facts,
    Down.Gen.facts, DownIdeal.Gen.facts, ReferenceDownIdeal.Gen.facts,
    Pw1.Gen.facts, Pw1Ideal.Gen.facts, ReferencePw1Ideal.Gen.facts,
    Pw2.Gen.facts, Pw2Ideal.Gen.facts, ReferencePw2Ideal.Gen.facts,
    AttnIn.Gen.facts, AttnInIdeal.Gen.facts, ReferenceAttnInIdeal.Gen.facts,
    GateIn.Gen.facts, GateInIdeal.Gen.facts, ReferenceGateInIdeal.Gen.facts,
    AttnOut.Gen.facts, AttnOutIdeal.Gen.facts, ReferenceAttnOutIdeal.Gen.facts,
    NormPre.Gen.facts, NormPreIdeal.Gen.facts, ReferenceNormPreIdeal.Gen.facts,
    NormPost.Gen.facts, NormPostIdeal.Gen.facts, ReferenceNormPostIdeal.Gen.facts,
    ResNorm.Gen.facts, ResNormIdeal.Gen.facts, ReferenceResNormIdeal.Gen.facts,
    NormIn.Gen.facts, NormInIdeal.Gen.facts, ReferenceNormInIdeal.Gen.facts,
    Merge.Gen.facts, MergeIdeal.Gen.facts, ReferenceMergeIdeal.Gen.facts,
    Pre_finite.Gen.facts, Pre_finite_u.Gen.facts,
    frame_p, frame_pi, fun m ρ _ => frame_pi m ρ trivial, frame_ri, fun m ρ _ => frame_ri m ρ trivial,
    frame_p2, frame_pi2, fun m ρ _ => frame_pi2 m ρ trivial, frame_ri2, fun m ρ _ => frame_ri2 m ρ trivial,
    fun m ρ _ => Dact.Gen.frame m ρ, fun m ρ _ => DactIdeal.Gen.frame m ρ, fun m ρ _ => DactIdeal.Gen.frame m ρ, frame_dact_reference, fun m ρ _ => frame_dact_reference m ρ trivial,
    fun m ρ _ => Dwdown.Gen.frame m ρ, fun m ρ _ => DwdownIdeal.Gen.frame m ρ, frame_dwdown_reference,
    fun m ρ _ => Dh.Gen.frame m ρ, fun m ρ _ => DhIdeal.Gen.frame m ρ, frame_dh_reference,
    fun m ρ _ => Dwup.Gen.frame m ρ, fun m ρ _ => DwupIdeal.Gen.frame m ρ, frame_dwup_reference,
    fun m ρ _ => DwSquare.Gen.frame m ρ, fun m ρ _ => DwSquareIdeal.Gen.frame m ρ, frame_dw_square_reference,
    fun m ρ _ => DxSquare.Gen.frame m ρ, fun m ρ _ => DxSquareIdeal.Gen.frame m ρ, frame_dx_square_reference,
    fun m ρ _ => DwIn.Gen.frame m ρ, fun m ρ _ => DwInIdeal.Gen.frame m ρ, frame_dw_in_reference,
    fun m ρ _ => DhIn.Gen.frame m ρ, fun m ρ _ => DhInIdeal.Gen.frame m ρ, frame_dh_in_reference,
    fun m ρ _ => DwConv.Gen.frame m ρ, fun m ρ _ => DwConvIdeal.Gen.frame m ρ, frame_dw_conv_reference,
    fun m ρ _ => DhConv.Gen.frame m ρ, fun m ρ _ => DhConvIdeal.Gen.frame m ρ, frame_dh_conv_reference,
    fun m ρ _ => Up.Gen.frame m ρ, fun m ρ _ => UpIdeal.Gen.frame m ρ, frame_up_reference,
    fun m ρ _ => Down.Gen.frame m ρ, fun m ρ _ => DownIdeal.Gen.frame m ρ, frame_down_reference,
    fun m ρ _ => Pw1.Gen.frame m ρ, fun m ρ _ => Pw1Ideal.Gen.frame m ρ, frame_pw1_reference,
    fun m ρ _ => Pw2.Gen.frame m ρ, fun m ρ _ => Pw2Ideal.Gen.frame m ρ, frame_pw2_reference,
    fun m ρ _ => AttnIn.Gen.frame m ρ, fun m ρ _ => AttnInIdeal.Gen.frame m ρ, frame_attn_in_reference,
    fun m ρ _ => GateIn.Gen.frame m ρ, fun m ρ _ => GateInIdeal.Gen.frame m ρ, frame_gate_in_reference,
    fun m ρ _ => AttnOut.Gen.frame m ρ, fun m ρ _ => AttnOutIdeal.Gen.frame m ρ, frame_attn_out_reference,
    fun m ρ _ => NormPre.Gen.frame m ρ, fun m ρ _ => NormPreIdeal.Gen.frame m ρ, frame_norm_pre_reference,
    fun m ρ _ => NormPost.Gen.frame m ρ, fun m ρ _ => NormPostIdeal.Gen.frame m ρ, frame_norm_post_reference,
    fun m ρ _ => ResNorm.Gen.frame m ρ, fun m ρ _ => ResNormIdeal.Gen.frame m ρ, frame_res_norm_reference,
    fun m ρ _ => NormIn.Gen.frame m ρ, fun m ρ _ => NormInIdeal.Gen.frame m ρ, frame_norm_in_reference,
    fun m ρ _ => Merge.Gen.frame m ρ, fun m ρ _ => MergeIdeal.Gen.frame m ρ, frame_merge_reference,
    preserves, algebraic, preserves2, algebraic2,
    trivial, algebraic_dact, trivial, algebraic_dwdown, trivial, algebraic_dh, trivial, algebraic_dwup,
    trivial, algebraic_dw_square, trivial, algebraic_dx_square, trivial, algebraic_dw_in, trivial, algebraic_dh_in, trivial, algebraic_dw_conv, trivial, algebraic_dh_conv,
    trivial, algebraic_up, trivial, algebraic_down, trivial, algebraic_pw1, trivial, algebraic_pw2, trivial, algebraic_attn_in, trivial, algebraic_gate_in, trivial, algebraic_attn_out,
    trivial, algebraic_norm_pre, trivial, algebraic_norm_post, trivial, algebraic_res_norm, trivial, algebraic_norm_in, trivial, algebraic_merge⟩

end Cert.Proof

end
